-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))) = (fun _ => 1#1)

def Pre_NormConv (m : (ℓ : Loc Cert.NormConv.nD Cert.NormConv.τ Cert.NormConv.sig) → Buf (Elt Bits) ℓ) : Prop :=
  True

def Pre_NormConvIdeal (m : (ℓ : Loc Cert.NormConvIdeal.nD Cert.NormConvIdeal.τ Cert.NormConvIdeal.sig) → Buf (Elt Ideal) ℓ) : Prop :=
  True

def Pre_NormConvIdeal_norm_conv_finite [hPre_norm_conv_finite : Cert.Pre_norm_conv_finite.Facts] (m : (ℓ : Loc Cert.NormConvIdeal.nD Cert.NormConvIdeal.τ Cert.NormConvIdeal.sig) → Buf (Elt Ideal) ℓ) : Prop :=
  ∀ c : Dev Cert.NormConvIdeal.nD,
    (Cert.Pre_norm_conv_finite.fn (F := Ideal) (m ((c.tc : Thread Cert.NormConvIdeal.nD Cert.NormConvIdeal.τ).loc Cert.NormConvIdeal.main_arg0)) (m ((c.tc : Thread Cert.NormConvIdeal.nD Cert.NormConvIdeal.τ).loc Cert.NormConvIdeal.main_arg1)) (m ((c.tc : Thread Cert.NormConvIdeal.nD Cert.NormConvIdeal.τ).loc Cert.NormConvIdeal.main_arg2)) (m ((c.tc : Thread Cert.NormConvIdeal.nD Cert.NormConvIdeal.τ).loc Cert.NormConvIdeal.main_arg3)) (m ((c.tc : Thread Cert.NormConvIdeal.nD Cert.NormConvIdeal.τ).loc Cert.NormConvIdeal.main_arg4)) (m ((c.tc : Thread Cert.NormConvIdeal.nD Cert.NormConvIdeal.τ).loc Cert.NormConvIdeal.main_arg5)) (m ((c.tc : Thread Cert.NormConvIdeal.nD Cert.NormConvIdeal.τ).loc Cert.NormConvIdeal.main_arg6)) (m ((c.tc : Thread Cert.NormConvIdeal.nD Cert.NormConvIdeal.τ).loc Cert.NormConvIdeal.main_arg7)) (m ((c.tc : Thread Cert.NormConvIdeal.nD Cert.NormConvIdeal.τ).loc Cert.NormConvIdeal.main_arg8))) = (fun _ => 1#1)

def Pre_NormConvRefIdeal (m : (ℓ : Loc Cert.NormConvRefIdeal.nD Cert.NormConvRefIdeal.τ Cert.NormConvRefIdeal.sig) → Buf (Elt Ideal) ℓ) : Prop :=
  True

def Pre_NormConvRefIdeal_norm_conv_finite [hPre_norm_conv_finite : Cert.Pre_norm_conv_finite.Facts] (m : (ℓ : Loc Cert.NormConvRefIdeal.nD Cert.NormConvRefIdeal.τ Cert.NormConvRefIdeal.sig) → Buf (Elt Ideal) ℓ) : Prop :=
  ∀ c : Dev Cert.NormConvRefIdeal.nD,
    (Cert.Pre_norm_conv_finite.fn (F := Ideal) (m ((c.tc : Thread Cert.NormConvRefIdeal.nD Cert.NormConvRefIdeal.τ).loc Cert.NormConvRefIdeal.main_arg0)) (m ((c.tc : Thread Cert.NormConvRefIdeal.nD Cert.NormConvRefIdeal.τ).loc Cert.NormConvRefIdeal.main_arg1)) (m ((c.tc : Thread Cert.NormConvRefIdeal.nD Cert.NormConvRefIdeal.τ).loc Cert.NormConvRefIdeal.main_arg2)) (m ((c.tc : Thread Cert.NormConvRefIdeal.nD Cert.NormConvRefIdeal.τ).loc Cert.NormConvRefIdeal.main_arg3)) (m ((c.tc : Thread Cert.NormConvRefIdeal.nD Cert.NormConvRefIdeal.τ).loc Cert.NormConvRefIdeal.main_arg4)) (m ((c.tc : Thread Cert.NormConvRefIdeal.nD Cert.NormConvRefIdeal.τ).loc Cert.NormConvRefIdeal.main_arg5)) (m ((c.tc : Thread Cert.NormConvRefIdeal.nD Cert.NormConvRefIdeal.τ).loc Cert.NormConvRefIdeal.main_arg6)) (m ((c.tc : Thread Cert.NormConvRefIdeal.nD Cert.NormConvRefIdeal.τ).loc Cert.NormConvRefIdeal.main_arg7)) (m ((c.tc : Thread Cert.NormConvRefIdeal.nD Cert.NormConvRefIdeal.τ).loc Cert.NormConvRefIdeal.main_arg8))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_mla_fwd_finite [hPre_mla_fwd_finite : Cert.Pre_mla_fwd_finite.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_mla_fwd_finite.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2))) = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_mla_fwd_finite [hPre_mla_fwd_finite : Cert.Pre_mla_fwd_finite.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_mla_fwd_finite.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2))) = (fun _ => 1#1)

def Pre_Rel (m : (ℓ : Loc Cert.Rel.nD Cert.Rel.τ Cert.Rel.sig) → Buf (Elt Bits) ℓ) : Prop :=
  True

def Pre_RelIdeal (m : (ℓ : Loc Cert.RelIdeal.nD Cert.RelIdeal.τ Cert.RelIdeal.sig) → Buf (Elt Ideal) ℓ) : Prop :=
  True

def Pre_RelRefIdeal (m : (ℓ : Loc Cert.RelRefIdeal.nD Cert.RelRefIdeal.τ Cert.RelRefIdeal.sig) → Buf (Elt Ideal) ℓ) : Prop :=
  True

def Pre_RelFwd (m : (ℓ : Loc Cert.RelFwd.nD Cert.RelFwd.τ Cert.RelFwd.sig) → Buf (Elt Bits) ℓ) : Prop :=
  True

def Pre_RelFwdIdeal (m : (ℓ : Loc Cert.RelFwdIdeal.nD Cert.RelFwdIdeal.τ Cert.RelFwdIdeal.sig) → Buf (Elt Ideal) ℓ) : Prop :=
  True

def Pre_RelFwdRefIdeal (m : (ℓ : Loc Cert.RelFwdRefIdeal.nD Cert.RelFwdRefIdeal.τ Cert.RelFwdRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_WGrad (m : (ℓ : Loc Cert.WGrad.nD Cert.WGrad.τ Cert.WGrad.sig) → Buf (Elt Bits) ℓ) : Prop :=
  True

def Pre_WGradIdeal (m : (ℓ : Loc Cert.WGradIdeal.nD Cert.WGradIdeal.τ Cert.WGradIdeal.sig) → Buf (Elt Ideal) ℓ) : Prop :=
  True

def Pre_WGradRefIdeal (m : (ℓ : Loc Cert.WGradRefIdeal.nD Cert.WGradRefIdeal.τ Cert.WGradRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_NormConv [hNormConv : Cert.NormConv.Facts] : Prop :=
  ∀ (m : (ℓ : Loc Cert.NormConv.nD Cert.NormConv.τ Cert.NormConv.sig) → Buf (Elt Bits) ℓ) (g : Dev Cert.NormConv.nD → PrngReg), Pre_NormConv m →
    θ_run (Cert.NormConv.defs (F := Bits)) (onTc (τ := Cert.NormConv.τ) (Cert.NormConv.main (F := Bits))) ⟨m, fun _ => 0, g⟩ (fun r => (∀ c : Dev Cert.NormConv.nD,
      r.2.mem ((c.tc : Thread Cert.NormConv.nD Cert.NormConv.τ).loc Cert.NormConv.main_arg0) = m ((c.tc : Thread Cert.NormConv.nD Cert.NormConv.τ).loc Cert.NormConv.main_arg0)
      ∧ r.2.mem ((c.tc : Thread Cert.NormConv.nD Cert.NormConv.τ).loc Cert.NormConv.main_arg1) = m ((c.tc : Thread Cert.NormConv.nD Cert.NormConv.τ).loc Cert.NormConv.main_arg1)
      ∧ r.2.mem ((c.tc : Thread Cert.NormConv.nD Cert.NormConv.τ).loc Cert.NormConv.main_arg2) = m ((c.tc : Thread Cert.NormConv.nD Cert.NormConv.τ).loc Cert.NormConv.main_arg2)
      ∧ r.2.mem ((c.tc : Thread Cert.NormConv.nD Cert.NormConv.τ).loc Cert.NormConv.main_arg3) = m ((c.tc : Thread Cert.NormConv.nD Cert.NormConv.τ).loc Cert.NormConv.main_arg3)
      ∧ r.2.mem ((c.tc : Thread Cert.NormConv.nD Cert.NormConv.τ).loc Cert.NormConv.main_arg4) = m ((c.tc : Thread Cert.NormConv.nD Cert.NormConv.τ).loc Cert.NormConv.main_arg4)
      ∧ r.2.mem ((c.tc : Thread Cert.NormConv.nD Cert.NormConv.τ).loc Cert.NormConv.main_arg5) = m ((c.tc : Thread Cert.NormConv.nD Cert.NormConv.τ).loc Cert.NormConv.main_arg5)
      ∧ r.2.mem ((c.tc : Thread Cert.NormConv.nD Cert.NormConv.τ).loc Cert.NormConv.main_arg6) = m ((c.tc : Thread Cert.NormConv.nD Cert.NormConv.τ).loc Cert.NormConv.main_arg6)
      ∧ r.2.mem ((c.tc : Thread Cert.NormConv.nD Cert.NormConv.τ).loc Cert.NormConv.main_arg7) = m ((c.tc : Thread Cert.NormConv.nD Cert.NormConv.τ).loc Cert.NormConv.main_arg7)
      ∧ r.2.mem ((c.tc : Thread Cert.NormConv.nD Cert.NormConv.τ).loc Cert.NormConv.main_arg8) = m ((c.tc : Thread Cert.NormConv.nD Cert.NormConv.τ).loc Cert.NormConv.main_arg8))
      ∧ r.2.sem = fun _ => 0)

def quiescent_NormConvIdeal [hNormConvIdeal : Cert.NormConvIdeal.Facts] : Prop :=
  ∀ (m : (ℓ : Loc Cert.NormConvIdeal.nD Cert.NormConvIdeal.τ Cert.NormConvIdeal.sig) → Buf (Elt Ideal) ℓ) (g : Dev Cert.NormConvIdeal.nD → PrngReg), Pre_NormConvIdeal m →
    θ_run (Cert.NormConvIdeal.defs (F := Ideal)) (onTc (τ := Cert.NormConvIdeal.τ) (Cert.NormConvIdeal.main (F := Ideal))) ⟨m, fun _ => 0, g⟩ (fun r => (∀ c : Dev Cert.NormConvIdeal.nD,
      r.2.mem ((c.tc : Thread Cert.NormConvIdeal.nD Cert.NormConvIdeal.τ).loc Cert.NormConvIdeal.main_arg0) = m ((c.tc : Thread Cert.NormConvIdeal.nD Cert.NormConvIdeal.τ).loc Cert.NormConvIdeal.main_arg0)
      ∧ r.2.mem ((c.tc : Thread Cert.NormConvIdeal.nD Cert.NormConvIdeal.τ).loc Cert.NormConvIdeal.main_arg1) = m ((c.tc : Thread Cert.NormConvIdeal.nD Cert.NormConvIdeal.τ).loc Cert.NormConvIdeal.main_arg1)
      ∧ r.2.mem ((c.tc : Thread Cert.NormConvIdeal.nD Cert.NormConvIdeal.τ).loc Cert.NormConvIdeal.main_arg2) = m ((c.tc : Thread Cert.NormConvIdeal.nD Cert.NormConvIdeal.τ).loc Cert.NormConvIdeal.main_arg2)
      ∧ r.2.mem ((c.tc : Thread Cert.NormConvIdeal.nD Cert.NormConvIdeal.τ).loc Cert.NormConvIdeal.main_arg3) = m ((c.tc : Thread Cert.NormConvIdeal.nD Cert.NormConvIdeal.τ).loc Cert.NormConvIdeal.main_arg3)
      ∧ r.2.mem ((c.tc : Thread Cert.NormConvIdeal.nD Cert.NormConvIdeal.τ).loc Cert.NormConvIdeal.main_arg4) = m ((c.tc : Thread Cert.NormConvIdeal.nD Cert.NormConvIdeal.τ).loc Cert.NormConvIdeal.main_arg4)
      ∧ r.2.mem ((c.tc : Thread Cert.NormConvIdeal.nD Cert.NormConvIdeal.τ).loc Cert.NormConvIdeal.main_arg5) = m ((c.tc : Thread Cert.NormConvIdeal.nD Cert.NormConvIdeal.τ).loc Cert.NormConvIdeal.main_arg5)
      ∧ r.2.mem ((c.tc : Thread Cert.NormConvIdeal.nD Cert.NormConvIdeal.τ).loc Cert.NormConvIdeal.main_arg6) = m ((c.tc : Thread Cert.NormConvIdeal.nD Cert.NormConvIdeal.τ).loc Cert.NormConvIdeal.main_arg6)
      ∧ r.2.mem ((c.tc : Thread Cert.NormConvIdeal.nD Cert.NormConvIdeal.τ).loc Cert.NormConvIdeal.main_arg7) = m ((c.tc : Thread Cert.NormConvIdeal.nD Cert.NormConvIdeal.τ).loc Cert.NormConvIdeal.main_arg7)
      ∧ r.2.mem ((c.tc : Thread Cert.NormConvIdeal.nD Cert.NormConvIdeal.τ).loc Cert.NormConvIdeal.main_arg8) = m ((c.tc : Thread Cert.NormConvIdeal.nD Cert.NormConvIdeal.τ).loc Cert.NormConvIdeal.main_arg8))
      ∧ r.2.sem = fun _ => 0)

def quiescent_NormConvIdeal_pre_norm_conv_finite [hNormConvIdeal : Cert.NormConvIdeal.Facts] [hPre_norm_conv_finite : Cert.Pre_norm_conv_finite.Facts] : Prop :=
  ∀ (m : (ℓ : Loc Cert.NormConvIdeal.nD Cert.NormConvIdeal.τ Cert.NormConvIdeal.sig) → Buf (Elt Ideal) ℓ) (g : Dev Cert.NormConvIdeal.nD → PrngReg), Pre_NormConvIdeal_norm_conv_finite m →
    θ_run (Cert.NormConvIdeal.defs (F := Ideal)) (onTc (τ := Cert.NormConvIdeal.τ) (Cert.NormConvIdeal.main (F := Ideal))) ⟨m, fun _ => 0, g⟩ (fun r => (∀ c : Dev Cert.NormConvIdeal.nD,
      r.2.mem ((c.tc : Thread Cert.NormConvIdeal.nD Cert.NormConvIdeal.τ).loc Cert.NormConvIdeal.main_arg0) = m ((c.tc : Thread Cert.NormConvIdeal.nD Cert.NormConvIdeal.τ).loc Cert.NormConvIdeal.main_arg0)
      ∧ r.2.mem ((c.tc : Thread Cert.NormConvIdeal.nD Cert.NormConvIdeal.τ).loc Cert.NormConvIdeal.main_arg1) = m ((c.tc : Thread Cert.NormConvIdeal.nD Cert.NormConvIdeal.τ).loc Cert.NormConvIdeal.main_arg1)
      ∧ r.2.mem ((c.tc : Thread Cert.NormConvIdeal.nD Cert.NormConvIdeal.τ).loc Cert.NormConvIdeal.main_arg2) = m ((c.tc : Thread Cert.NormConvIdeal.nD Cert.NormConvIdeal.τ).loc Cert.NormConvIdeal.main_arg2)
      ∧ r.2.mem ((c.tc : Thread Cert.NormConvIdeal.nD Cert.NormConvIdeal.τ).loc Cert.NormConvIdeal.main_arg3) = m ((c.tc : Thread Cert.NormConvIdeal.nD Cert.NormConvIdeal.τ).loc Cert.NormConvIdeal.main_arg3)
      ∧ r.2.mem ((c.tc : Thread Cert.NormConvIdeal.nD Cert.NormConvIdeal.τ).loc Cert.NormConvIdeal.main_arg4) = m ((c.tc : Thread Cert.NormConvIdeal.nD Cert.NormConvIdeal.τ).loc Cert.NormConvIdeal.main_arg4)
      ∧ r.2.mem ((c.tc : Thread Cert.NormConvIdeal.nD Cert.NormConvIdeal.τ).loc Cert.NormConvIdeal.main_arg5) = m ((c.tc : Thread Cert.NormConvIdeal.nD Cert.NormConvIdeal.τ).loc Cert.NormConvIdeal.main_arg5)
      ∧ r.2.mem ((c.tc : Thread Cert.NormConvIdeal.nD Cert.NormConvIdeal.τ).loc Cert.NormConvIdeal.main_arg6) = m ((c.tc : Thread Cert.NormConvIdeal.nD Cert.NormConvIdeal.τ).loc Cert.NormConvIdeal.main_arg6)
      ∧ r.2.mem ((c.tc : Thread Cert.NormConvIdeal.nD Cert.NormConvIdeal.τ).loc Cert.NormConvIdeal.main_arg7) = m ((c.tc : Thread Cert.NormConvIdeal.nD Cert.NormConvIdeal.τ).loc Cert.NormConvIdeal.main_arg7)
      ∧ r.2.mem ((c.tc : Thread Cert.NormConvIdeal.nD Cert.NormConvIdeal.τ).loc Cert.NormConvIdeal.main_arg8) = m ((c.tc : Thread Cert.NormConvIdeal.nD Cert.NormConvIdeal.τ).loc Cert.NormConvIdeal.main_arg8))
      ∧ r.2.sem = fun _ => 0)

def quiescent_NormConvRefIdeal [hNormConvRefIdeal : Cert.NormConvRefIdeal.Facts] : Prop :=
  ∀ (m : (ℓ : Loc Cert.NormConvRefIdeal.nD Cert.NormConvRefIdeal.τ Cert.NormConvRefIdeal.sig) → Buf (Elt Ideal) ℓ) (g : Dev Cert.NormConvRefIdeal.nD → PrngReg), Pre_NormConvRefIdeal m →
    θ_run (Cert.NormConvRefIdeal.defs (F := Ideal)) (onTc (τ := Cert.NormConvRefIdeal.τ) (Cert.NormConvRefIdeal.main (F := Ideal))) ⟨m, fun _ => 0, g⟩ (fun r => (∀ c : Dev Cert.NormConvRefIdeal.nD,
      r.2.mem ((c.tc : Thread Cert.NormConvRefIdeal.nD Cert.NormConvRefIdeal.τ).loc Cert.NormConvRefIdeal.main_arg0) = m ((c.tc : Thread Cert.NormConvRefIdeal.nD Cert.NormConvRefIdeal.τ).loc Cert.NormConvRefIdeal.main_arg0)
      ∧ r.2.mem ((c.tc : Thread Cert.NormConvRefIdeal.nD Cert.NormConvRefIdeal.τ).loc Cert.NormConvRefIdeal.main_arg1) = m ((c.tc : Thread Cert.NormConvRefIdeal.nD Cert.NormConvRefIdeal.τ).loc Cert.NormConvRefIdeal.main_arg1)
      ∧ r.2.mem ((c.tc : Thread Cert.NormConvRefIdeal.nD Cert.NormConvRefIdeal.τ).loc Cert.NormConvRefIdeal.main_arg2) = m ((c.tc : Thread Cert.NormConvRefIdeal.nD Cert.NormConvRefIdeal.τ).loc Cert.NormConvRefIdeal.main_arg2)
      ∧ r.2.mem ((c.tc : Thread Cert.NormConvRefIdeal.nD Cert.NormConvRefIdeal.τ).loc Cert.NormConvRefIdeal.main_arg3) = m ((c.tc : Thread Cert.NormConvRefIdeal.nD Cert.NormConvRefIdeal.τ).loc Cert.NormConvRefIdeal.main_arg3)
      ∧ r.2.mem ((c.tc : Thread Cert.NormConvRefIdeal.nD Cert.NormConvRefIdeal.τ).loc Cert.NormConvRefIdeal.main_arg4) = m ((c.tc : Thread Cert.NormConvRefIdeal.nD Cert.NormConvRefIdeal.τ).loc Cert.NormConvRefIdeal.main_arg4)
      ∧ r.2.mem ((c.tc : Thread Cert.NormConvRefIdeal.nD Cert.NormConvRefIdeal.τ).loc Cert.NormConvRefIdeal.main_arg5) = m ((c.tc : Thread Cert.NormConvRefIdeal.nD Cert.NormConvRefIdeal.τ).loc Cert.NormConvRefIdeal.main_arg5)
      ∧ r.2.mem ((c.tc : Thread Cert.NormConvRefIdeal.nD Cert.NormConvRefIdeal.τ).loc Cert.NormConvRefIdeal.main_arg6) = m ((c.tc : Thread Cert.NormConvRefIdeal.nD Cert.NormConvRefIdeal.τ).loc Cert.NormConvRefIdeal.main_arg6)
      ∧ r.2.mem ((c.tc : Thread Cert.NormConvRefIdeal.nD Cert.NormConvRefIdeal.τ).loc Cert.NormConvRefIdeal.main_arg7) = m ((c.tc : Thread Cert.NormConvRefIdeal.nD Cert.NormConvRefIdeal.τ).loc Cert.NormConvRefIdeal.main_arg7)
      ∧ r.2.mem ((c.tc : Thread Cert.NormConvRefIdeal.nD Cert.NormConvRefIdeal.τ).loc Cert.NormConvRefIdeal.main_arg8) = m ((c.tc : Thread Cert.NormConvRefIdeal.nD Cert.NormConvRefIdeal.τ).loc Cert.NormConvRefIdeal.main_arg8))
      ∧ r.2.sem = fun _ => 0)

def quiescent_NormConvRefIdeal_pre_norm_conv_finite [hNormConvRefIdeal : Cert.NormConvRefIdeal.Facts] [hPre_norm_conv_finite : Cert.Pre_norm_conv_finite.Facts] : Prop :=
  ∀ (m : (ℓ : Loc Cert.NormConvRefIdeal.nD Cert.NormConvRefIdeal.τ Cert.NormConvRefIdeal.sig) → Buf (Elt Ideal) ℓ) (g : Dev Cert.NormConvRefIdeal.nD → PrngReg), Pre_NormConvRefIdeal_norm_conv_finite m →
    θ_run (Cert.NormConvRefIdeal.defs (F := Ideal)) (onTc (τ := Cert.NormConvRefIdeal.τ) (Cert.NormConvRefIdeal.main (F := Ideal))) ⟨m, fun _ => 0, g⟩ (fun r => (∀ c : Dev Cert.NormConvRefIdeal.nD,
      r.2.mem ((c.tc : Thread Cert.NormConvRefIdeal.nD Cert.NormConvRefIdeal.τ).loc Cert.NormConvRefIdeal.main_arg0) = m ((c.tc : Thread Cert.NormConvRefIdeal.nD Cert.NormConvRefIdeal.τ).loc Cert.NormConvRefIdeal.main_arg0)
      ∧ r.2.mem ((c.tc : Thread Cert.NormConvRefIdeal.nD Cert.NormConvRefIdeal.τ).loc Cert.NormConvRefIdeal.main_arg1) = m ((c.tc : Thread Cert.NormConvRefIdeal.nD Cert.NormConvRefIdeal.τ).loc Cert.NormConvRefIdeal.main_arg1)
      ∧ r.2.mem ((c.tc : Thread Cert.NormConvRefIdeal.nD Cert.NormConvRefIdeal.τ).loc Cert.NormConvRefIdeal.main_arg2) = m ((c.tc : Thread Cert.NormConvRefIdeal.nD Cert.NormConvRefIdeal.τ).loc Cert.NormConvRefIdeal.main_arg2)
      ∧ r.2.mem ((c.tc : Thread Cert.NormConvRefIdeal.nD Cert.NormConvRefIdeal.τ).loc Cert.NormConvRefIdeal.main_arg3) = m ((c.tc : Thread Cert.NormConvRefIdeal.nD Cert.NormConvRefIdeal.τ).loc Cert.NormConvRefIdeal.main_arg3)
      ∧ r.2.mem ((c.tc : Thread Cert.NormConvRefIdeal.nD Cert.NormConvRefIdeal.τ).loc Cert.NormConvRefIdeal.main_arg4) = m ((c.tc : Thread Cert.NormConvRefIdeal.nD Cert.NormConvRefIdeal.τ).loc Cert.NormConvRefIdeal.main_arg4)
      ∧ r.2.mem ((c.tc : Thread Cert.NormConvRefIdeal.nD Cert.NormConvRefIdeal.τ).loc Cert.NormConvRefIdeal.main_arg5) = m ((c.tc : Thread Cert.NormConvRefIdeal.nD Cert.NormConvRefIdeal.τ).loc Cert.NormConvRefIdeal.main_arg5)
      ∧ r.2.mem ((c.tc : Thread Cert.NormConvRefIdeal.nD Cert.NormConvRefIdeal.τ).loc Cert.NormConvRefIdeal.main_arg6) = m ((c.tc : Thread Cert.NormConvRefIdeal.nD Cert.NormConvRefIdeal.τ).loc Cert.NormConvRefIdeal.main_arg6)
      ∧ r.2.mem ((c.tc : Thread Cert.NormConvRefIdeal.nD Cert.NormConvRefIdeal.τ).loc Cert.NormConvRefIdeal.main_arg7) = m ((c.tc : Thread Cert.NormConvRefIdeal.nD Cert.NormConvRefIdeal.τ).loc Cert.NormConvRefIdeal.main_arg7)
      ∧ r.2.mem ((c.tc : Thread Cert.NormConvRefIdeal.nD Cert.NormConvRefIdeal.τ).loc Cert.NormConvRefIdeal.main_arg8) = m ((c.tc : Thread Cert.NormConvRefIdeal.nD Cert.NormConvRefIdeal.τ).loc Cert.NormConvRefIdeal.main_arg8))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdIdeal_pre_mla_fwd_finite [hMlaFwdIdeal : Cert.MlaFwdIdeal.Facts] [hPre_mla_fwd_finite : Cert.Pre_mla_fwd_finite.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_mla_fwd_finite m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_MlaFwdRefIdeal_pre_mla_fwd_finite [hMlaFwdRefIdeal : Cert.MlaFwdRefIdeal.Facts] [hPre_mla_fwd_finite : Cert.Pre_mla_fwd_finite.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_mla_fwd_finite m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_Rel [hRel : Cert.Rel.Facts] : Prop :=
  ∀ (m : (ℓ : Loc Cert.Rel.nD Cert.Rel.τ Cert.Rel.sig) → Buf (Elt Bits) ℓ) (g : Dev Cert.Rel.nD → PrngReg), Pre_Rel m →
    θ_run (Cert.Rel.defs (F := Bits)) (onTc (τ := Cert.Rel.τ) (Cert.Rel.main (F := Bits))) ⟨m, fun _ => 0, g⟩ (fun r => (∀ c : Dev Cert.Rel.nD,
      r.2.mem ((c.tc : Thread Cert.Rel.nD Cert.Rel.τ).loc Cert.Rel.main_arg0) = m ((c.tc : Thread Cert.Rel.nD Cert.Rel.τ).loc Cert.Rel.main_arg0)
      ∧ r.2.mem ((c.tc : Thread Cert.Rel.nD Cert.Rel.τ).loc Cert.Rel.main_arg1) = m ((c.tc : Thread Cert.Rel.nD Cert.Rel.τ).loc Cert.Rel.main_arg1))
      ∧ r.2.sem = fun _ => 0)

def quiescent_RelIdeal [hRelIdeal : Cert.RelIdeal.Facts] : Prop :=
  ∀ (m : (ℓ : Loc Cert.RelIdeal.nD Cert.RelIdeal.τ Cert.RelIdeal.sig) → Buf (Elt Ideal) ℓ) (g : Dev Cert.RelIdeal.nD → PrngReg), Pre_RelIdeal m →
    θ_run (Cert.RelIdeal.defs (F := Ideal)) (onTc (τ := Cert.RelIdeal.τ) (Cert.RelIdeal.main (F := Ideal))) ⟨m, fun _ => 0, g⟩ (fun r => (∀ c : Dev Cert.RelIdeal.nD,
      r.2.mem ((c.tc : Thread Cert.RelIdeal.nD Cert.RelIdeal.τ).loc Cert.RelIdeal.main_arg0) = m ((c.tc : Thread Cert.RelIdeal.nD Cert.RelIdeal.τ).loc Cert.RelIdeal.main_arg0)
      ∧ r.2.mem ((c.tc : Thread Cert.RelIdeal.nD Cert.RelIdeal.τ).loc Cert.RelIdeal.main_arg1) = m ((c.tc : Thread Cert.RelIdeal.nD Cert.RelIdeal.τ).loc Cert.RelIdeal.main_arg1))
      ∧ r.2.sem = fun _ => 0)

def quiescent_RelRefIdeal [hRelRefIdeal : Cert.RelRefIdeal.Facts] : Prop :=
  ∀ (m : (ℓ : Loc Cert.RelRefIdeal.nD Cert.RelRefIdeal.τ Cert.RelRefIdeal.sig) → Buf (Elt Ideal) ℓ) (g : Dev Cert.RelRefIdeal.nD → PrngReg), Pre_RelRefIdeal m →
    θ_run (Cert.RelRefIdeal.defs (F := Ideal)) (onTc (τ := Cert.RelRefIdeal.τ) (Cert.RelRefIdeal.main (F := Ideal))) ⟨m, fun _ => 0, g⟩ (fun r => (∀ c : Dev Cert.RelRefIdeal.nD,
      r.2.mem ((c.tc : Thread Cert.RelRefIdeal.nD Cert.RelRefIdeal.τ).loc Cert.RelRefIdeal.main_arg0) = m ((c.tc : Thread Cert.RelRefIdeal.nD Cert.RelRefIdeal.τ).loc Cert.RelRefIdeal.main_arg0)
      ∧ r.2.mem ((c.tc : Thread Cert.RelRefIdeal.nD Cert.RelRefIdeal.τ).loc Cert.RelRefIdeal.main_arg1) = m ((c.tc : Thread Cert.RelRefIdeal.nD Cert.RelRefIdeal.τ).loc Cert.RelRefIdeal.main_arg1))
      ∧ r.2.sem = fun _ => 0)

def quiescent_RelFwd [hRelFwd : Cert.RelFwd.Facts] : Prop :=
  ∀ (m : (ℓ : Loc Cert.RelFwd.nD Cert.RelFwd.τ Cert.RelFwd.sig) → Buf (Elt Bits) ℓ) (g : Dev Cert.RelFwd.nD → PrngReg), Pre_RelFwd m →
    θ_run (Cert.RelFwd.defs (F := Bits)) (onTc (τ := Cert.RelFwd.τ) (Cert.RelFwd.main (F := Bits))) ⟨m, fun _ => 0, g⟩ (fun r => (∀ c : Dev Cert.RelFwd.nD,
      r.2.mem ((c.tc : Thread Cert.RelFwd.nD Cert.RelFwd.τ).loc Cert.RelFwd.main_arg0) = m ((c.tc : Thread Cert.RelFwd.nD Cert.RelFwd.τ).loc Cert.RelFwd.main_arg0))
      ∧ r.2.sem = fun _ => 0)

def quiescent_RelFwdIdeal [hRelFwdIdeal : Cert.RelFwdIdeal.Facts] : Prop :=
  ∀ (m : (ℓ : Loc Cert.RelFwdIdeal.nD Cert.RelFwdIdeal.τ Cert.RelFwdIdeal.sig) → Buf (Elt Ideal) ℓ) (g : Dev Cert.RelFwdIdeal.nD → PrngReg), Pre_RelFwdIdeal m →
    θ_run (Cert.RelFwdIdeal.defs (F := Ideal)) (onTc (τ := Cert.RelFwdIdeal.τ) (Cert.RelFwdIdeal.main (F := Ideal))) ⟨m, fun _ => 0, g⟩ (fun r => (∀ c : Dev Cert.RelFwdIdeal.nD,
      r.2.mem ((c.tc : Thread Cert.RelFwdIdeal.nD Cert.RelFwdIdeal.τ).loc Cert.RelFwdIdeal.main_arg0) = m ((c.tc : Thread Cert.RelFwdIdeal.nD Cert.RelFwdIdeal.τ).loc Cert.RelFwdIdeal.main_arg0))
      ∧ r.2.sem = fun _ => 0)

def quiescent_RelFwdRefIdeal [hRelFwdRefIdeal : Cert.RelFwdRefIdeal.Facts] : Prop :=
  ∀ (m : (ℓ : Loc Cert.RelFwdRefIdeal.nD Cert.RelFwdRefIdeal.τ Cert.RelFwdRefIdeal.sig) → Buf (Elt Ideal) ℓ) (g : Dev Cert.RelFwdRefIdeal.nD → PrngReg), Pre_RelFwdRefIdeal m →
    θ_run (Cert.RelFwdRefIdeal.defs (F := Ideal)) (onTc (τ := Cert.RelFwdRefIdeal.τ) (Cert.RelFwdRefIdeal.main (F := Ideal))) ⟨m, fun _ => 0, g⟩ (fun r => (∀ c : Dev Cert.RelFwdRefIdeal.nD,
      r.2.mem ((c.tc : Thread Cert.RelFwdRefIdeal.nD Cert.RelFwdRefIdeal.τ).loc Cert.RelFwdRefIdeal.main_arg0) = m ((c.tc : Thread Cert.RelFwdRefIdeal.nD Cert.RelFwdRefIdeal.τ).loc Cert.RelFwdRefIdeal.main_arg0))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4)
      ∧ r.2.mem ((c.tc : Thread Cert.ConvFwd.nD Cert.ConvFwd.τ).loc Cert.ConvFwd.main_arg5) = m ((c.tc : Thread Cert.ConvFwd.nD Cert.ConvFwd.τ).loc Cert.ConvFwd.main_arg5))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
      ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4)
      ∧ r.2.mem ((c.tc : Thread Cert.ConvFwdRefIdeal.nD Cert.ConvFwdRefIdeal.τ).loc Cert.ConvFwdRefIdeal.main_arg5) = m ((c.tc : Thread Cert.ConvFwdRefIdeal.nD Cert.ConvFwdRefIdeal.τ).loc Cert.ConvFwdRefIdeal.main_arg5))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4)
      ∧ r.2.mem ((c.tc : Thread Cert.PrepFwd.nD Cert.PrepFwd.τ).loc Cert.PrepFwd.main_arg5) = m ((c.tc : Thread Cert.PrepFwd.nD Cert.PrepFwd.τ).loc Cert.PrepFwd.main_arg5)
      ∧ r.2.mem ((c.tc : Thread Cert.PrepFwd.nD Cert.PrepFwd.τ).loc Cert.PrepFwd.main_arg6) = m ((c.tc : Thread Cert.PrepFwd.nD Cert.PrepFwd.τ).loc Cert.PrepFwd.main_arg6)
      ∧ r.2.mem ((c.tc : Thread Cert.PrepFwd.nD Cert.PrepFwd.τ).loc Cert.PrepFwd.main_arg7) = m ((c.tc : Thread Cert.PrepFwd.nD Cert.PrepFwd.τ).loc Cert.PrepFwd.main_arg7)
      ∧ r.2.mem ((c.tc : Thread Cert.PrepFwd.nD Cert.PrepFwd.τ).loc Cert.PrepFwd.main_arg8) = m ((c.tc : Thread Cert.PrepFwd.nD Cert.PrepFwd.τ).loc Cert.PrepFwd.main_arg8)
      ∧ r.2.mem ((c.tc : Thread Cert.PrepFwd.nD Cert.PrepFwd.τ).loc Cert.PrepFwd.main_arg9) = m ((c.tc : Thread Cert.PrepFwd.nD Cert.PrepFwd.τ).loc Cert.PrepFwd.main_arg9))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
      ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
      ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6)
      ∧ r.2.mem ((c.tc : Thread Cert.PrepFwdIdeal.nD Cert.PrepFwdIdeal.τ).loc Cert.PrepFwdIdeal.main_arg7) = m ((c.tc : Thread Cert.PrepFwdIdeal.nD Cert.PrepFwdIdeal.τ).loc Cert.PrepFwdIdeal.main_arg7)
      ∧ r.2.mem ((c.tc : Thread Cert.PrepFwdIdeal.nD Cert.PrepFwdIdeal.τ).loc Cert.PrepFwdIdeal.main_arg8) = m ((c.tc : Thread Cert.PrepFwdIdeal.nD Cert.PrepFwdIdeal.τ).loc Cert.PrepFwdIdeal.main_arg8)
      ∧ r.2.mem ((c.tc : Thread Cert.PrepFwdIdeal.nD Cert.PrepFwdIdeal.τ).loc Cert.PrepFwdIdeal.main_arg9) = m ((c.tc : Thread Cert.PrepFwdIdeal.nD Cert.PrepFwdIdeal.τ).loc Cert.PrepFwdIdeal.main_arg9))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4)
      ∧ r.2.mem ((c.tc : Thread Cert.PrepFwdRefIdeal.nD Cert.PrepFwdRefIdeal.τ).loc Cert.PrepFwdRefIdeal.main_arg5) = m ((c.tc : Thread Cert.PrepFwdRefIdeal.nD Cert.PrepFwdRefIdeal.τ).loc Cert.PrepFwdRefIdeal.main_arg5)
      ∧ r.2.mem ((c.tc : Thread Cert.PrepFwdRefIdeal.nD Cert.PrepFwdRefIdeal.τ).loc Cert.PrepFwdRefIdeal.main_arg6) = m ((c.tc : Thread Cert.PrepFwdRefIdeal.nD Cert.PrepFwdRefIdeal.τ).loc Cert.PrepFwdRefIdeal.main_arg6)
      ∧ r.2.mem ((c.tc : Thread Cert.PrepFwdRefIdeal.nD Cert.PrepFwdRefIdeal.τ).loc Cert.PrepFwdRefIdeal.main_arg7) = m ((c.tc : Thread Cert.PrepFwdRefIdeal.nD Cert.PrepFwdRefIdeal.τ).loc Cert.PrepFwdRefIdeal.main_arg7)
      ∧ r.2.mem ((c.tc : Thread Cert.PrepFwdRefIdeal.nD Cert.PrepFwdRefIdeal.τ).loc Cert.PrepFwdRefIdeal.main_arg8) = m ((c.tc : Thread Cert.PrepFwdRefIdeal.nD Cert.PrepFwdRefIdeal.τ).loc Cert.PrepFwdRefIdeal.main_arg8)
      ∧ r.2.mem ((c.tc : Thread Cert.PrepFwdRefIdeal.nD Cert.PrepFwdRefIdeal.τ).loc Cert.PrepFwdRefIdeal.main_arg9) = m ((c.tc : Thread Cert.PrepFwdRefIdeal.nD Cert.PrepFwdRefIdeal.τ).loc Cert.PrepFwdRefIdeal.main_arg9))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_WGrad [hWGrad : Cert.WGrad.Facts] : Prop :=
  ∀ (m : (ℓ : Loc Cert.WGrad.nD Cert.WGrad.τ Cert.WGrad.sig) → Buf (Elt Bits) ℓ) (g : Dev Cert.WGrad.nD → PrngReg), Pre_WGrad m →
    θ_run (Cert.WGrad.defs (F := Bits)) (onTc (τ := Cert.WGrad.τ) (Cert.WGrad.main (F := Bits))) ⟨m, fun _ => 0, g⟩ (fun r => (∀ c : Dev Cert.WGrad.nD,
      r.2.mem ((c.tc : Thread Cert.WGrad.nD Cert.WGrad.τ).loc Cert.WGrad.main_arg0) = m ((c.tc : Thread Cert.WGrad.nD Cert.WGrad.τ).loc Cert.WGrad.main_arg0)
      ∧ r.2.mem ((c.tc : Thread Cert.WGrad.nD Cert.WGrad.τ).loc Cert.WGrad.main_arg1) = m ((c.tc : Thread Cert.WGrad.nD Cert.WGrad.τ).loc Cert.WGrad.main_arg1))
      ∧ r.2.sem = fun _ => 0)

def quiescent_WGradIdeal [hWGradIdeal : Cert.WGradIdeal.Facts] : Prop :=
  ∀ (m : (ℓ : Loc Cert.WGradIdeal.nD Cert.WGradIdeal.τ Cert.WGradIdeal.sig) → Buf (Elt Ideal) ℓ) (g : Dev Cert.WGradIdeal.nD → PrngReg), Pre_WGradIdeal m →
    θ_run (Cert.WGradIdeal.defs (F := Ideal)) (onTc (τ := Cert.WGradIdeal.τ) (Cert.WGradIdeal.main (F := Ideal))) ⟨m, fun _ => 0, g⟩ (fun r => (∀ c : Dev Cert.WGradIdeal.nD,
      r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
      ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ r.2.sem = fun _ => 0)

def quiescent_WGradRefIdeal [hWGradRefIdeal : Cert.WGradRefIdeal.Facts] : Prop :=
  ∀ (m : (ℓ : Loc Cert.WGradRefIdeal.nD Cert.WGradRefIdeal.τ Cert.WGradRefIdeal.sig) → Buf (Elt Ideal) ℓ) (g : Dev Cert.WGradRefIdeal.nD → PrngReg), Pre_WGradRefIdeal m →
    θ_run (Cert.WGradRefIdeal.defs (F := Ideal)) (onTc (τ := Cert.WGradRefIdeal.τ) (Cert.WGradRefIdeal.main (F := Ideal))) ⟨m, fun _ => 0, g⟩ (fun r => (∀ c : Dev Cert.WGradRefIdeal.nD,
      r.2.mem ((c.tc : Thread Cert.WGradRefIdeal.nD Cert.WGradRefIdeal.τ).loc Cert.WGradRefIdeal.main_arg0) = m ((c.tc : Thread Cert.WGradRefIdeal.nD Cert.WGradRefIdeal.τ).loc Cert.WGradRefIdeal.main_arg0)
      ∧ r.2.mem ((c.tc : Thread Cert.WGradRefIdeal.nD Cert.WGradRefIdeal.τ).loc Cert.WGradRefIdeal.main_arg1) = m ((c.tc : Thread Cert.WGradRefIdeal.nD Cert.WGradRefIdeal.τ).loc Cert.WGradRefIdeal.main_arg1))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v2_0)) (v1 : (c : Dev Cert.GateIdeal.nD) → Buf (Elt Ideal) ((c.tc : Thread Cert.GateIdeal.nD Cert.GateIdeal.τ).loc Cert.GateIdeal.main_v2_1)) (v2 : (c : Dev Cert.GateIdeal.nD) → Buf (Elt Ideal) ((c.tc : Thread Cert.GateIdeal.nD Cert.GateIdeal.τ).loc Cert.GateIdeal.main_v2_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_v2_1) = v1 c
          ∧ r.2.mem ((c.tc : Thread Cert.GateIdeal.nD Cert.GateIdeal.τ).loc Cert.GateIdeal.main_v2_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v8) = v0 c
          ∧ r.2.mem ((c.tc : Thread Cert.GateRefIdeal.nD Cert.GateRefIdeal.τ).loc Cert.GateRefIdeal.main_v9) = v1 c
          ∧ r.2.mem ((c.tc : Thread Cert.GateRefIdeal.nD Cert.GateRefIdeal.τ).loc Cert.GateRefIdeal.main_v7) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v6_0)) (v1 : (c : Dev Cert.MixIdeal.nD) → Buf (Elt Ideal) ((c.tc : Thread Cert.MixIdeal.nD Cert.MixIdeal.τ).loc Cert.MixIdeal.main_v6_1)) (v2 : (c : Dev Cert.MixIdeal.nD) → Buf (Elt Ideal) ((c.tc : Thread Cert.MixIdeal.nD Cert.MixIdeal.τ).loc Cert.MixIdeal.main_v6_2)) (v3 : (c : Dev Cert.MixIdeal.nD) → Buf (Elt Ideal) ((c.tc : Thread Cert.MixIdeal.nD Cert.MixIdeal.τ).loc Cert.MixIdeal.main_v6_3)) (v4 : (c : Dev Cert.MixIdeal.nD) → Buf (Elt Ideal) ((c.tc : Thread Cert.MixIdeal.nD Cert.MixIdeal.τ).loc Cert.MixIdeal.main_v6_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6_0) = v0 c
          ∧ r.2.mem ((c.tc : Thread Cert.MixIdeal.nD Cert.MixIdeal.τ).loc Cert.MixIdeal.main_v6_1) = v1 c
          ∧ r.2.mem ((c.tc : Thread Cert.MixIdeal.nD Cert.MixIdeal.τ).loc Cert.MixIdeal.main_v6_2) = v2 c
          ∧ r.2.mem ((c.tc : Thread Cert.MixIdeal.nD Cert.MixIdeal.τ).loc Cert.MixIdeal.main_v6_3) = v3 c
          ∧ r.2.mem ((c.tc : Thread Cert.MixIdeal.nD Cert.MixIdeal.τ).loc Cert.MixIdeal.main_v6_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v10) = v0 c
          ∧ r.2.mem ((c.tc : Thread Cert.MixRefIdeal.nD Cert.MixRefIdeal.τ).loc Cert.MixRefIdeal.main_v11) = v1 c
          ∧ r.2.mem ((c.tc : Thread Cert.MixRefIdeal.nD Cert.MixRefIdeal.τ).loc Cert.MixRefIdeal.main_v12) = v2 c
          ∧ r.2.mem ((c.tc : Thread Cert.MixRefIdeal.nD Cert.MixRefIdeal.τ).loc Cert.MixRefIdeal.main_v13) = v3 c
          ∧ r.2.mem ((c.tc : Thread Cert.MixRefIdeal.nD Cert.MixRefIdeal.τ).loc Cert.MixRefIdeal.main_v8) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v1_0)) (v1 : (c : Dev Cert.AdaIdeal.nD) → Buf (Elt Ideal) ((c.tc : Thread Cert.AdaIdeal.nD Cert.AdaIdeal.τ).loc Cert.AdaIdeal.main_v1_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1_0) = v0 c
          ∧ r.2.mem ((c.tc : Thread Cert.AdaIdeal.nD Cert.AdaIdeal.τ).loc Cert.AdaIdeal.main_v1_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v13) = v0 c
          ∧ r.2.mem ((c.tc : Thread Cert.AdaRefIdeal.nD Cert.AdaRefIdeal.τ).loc Cert.AdaRefIdeal.main_v9) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v3_0)) (v1 : (c : Dev Cert.NormIdeal.nD) → Buf (Elt Ideal) ((c.tc : Thread Cert.NormIdeal.nD Cert.NormIdeal.τ).loc Cert.NormIdeal.main_v3_1)) (v2 : (c : Dev Cert.NormIdeal.nD) → Buf (Elt Ideal) ((c.tc : Thread Cert.NormIdeal.nD Cert.NormIdeal.τ).loc Cert.NormIdeal.main_v3_2)) (v3 : (c : Dev Cert.NormIdeal.nD) → Buf (Elt Ideal) ((c.tc : Thread Cert.NormIdeal.nD Cert.NormIdeal.τ).loc Cert.NormIdeal.main_v3_3)) (v4 : (c : Dev Cert.NormIdeal.nD) → Buf (Elt Ideal) ((c.tc : Thread Cert.NormIdeal.nD Cert.NormIdeal.τ).loc Cert.NormIdeal.main_v3_4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3_0) = v0 c
          ∧ r.2.mem ((c.tc : Thread Cert.NormIdeal.nD Cert.NormIdeal.τ).loc Cert.NormIdeal.main_v3_1) = v1 c
          ∧ r.2.mem ((c.tc : Thread Cert.NormIdeal.nD Cert.NormIdeal.τ).loc Cert.NormIdeal.main_v3_2) = v2 c
          ∧ r.2.mem ((c.tc : Thread Cert.NormIdeal.nD Cert.NormIdeal.τ).loc Cert.NormIdeal.main_v3_3) = v3 c
          ∧ r.2.mem ((c.tc : Thread Cert.NormIdeal.nD Cert.NormIdeal.τ).loc Cert.NormIdeal.main_v3_4) = v4 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v52) = v0 c
          ∧ r.2.mem ((c.tc : Thread Cert.NormRefIdeal.nD Cert.NormRefIdeal.τ).loc Cert.NormRefIdeal.main_v54) = v1 c
          ∧ r.2.mem ((c.tc : Thread Cert.NormRefIdeal.nD Cert.NormRefIdeal.τ).loc Cert.NormRefIdeal.main_v26) = v2 c
          ∧ r.2.mem ((c.tc : Thread Cert.NormRefIdeal.nD Cert.NormRefIdeal.τ).loc Cert.NormRefIdeal.main_v29) = v3 c
          ∧ r.2.mem ((c.tc : Thread Cert.NormRefIdeal.nD Cert.NormRefIdeal.τ).loc Cert.NormRefIdeal.main_v53) = v4 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_NormConv_NormConvIdeal : Prop :=
  True

def algebraic_NormConvIdeal_NormConvRefIdeal_pre_norm_conv_finite [hNormConvIdeal : Cert.NormConvIdeal.Facts] [hNormConvRefIdeal : Cert.NormConvRefIdeal.Facts] [hPre_norm_conv_finite : Cert.Pre_norm_conv_finite.Facts] : Prop :=
  ∀ (m : (ℓ : Loc Cert.NormConvIdeal.nD Cert.NormConvIdeal.τ Cert.NormConvIdeal.sig) → Buf (Elt Ideal) ℓ) (g : Dev Cert.NormConvIdeal.nD → PrngReg)
    (m' : (ℓ : Loc Cert.NormConvRefIdeal.nD Cert.NormConvRefIdeal.τ Cert.NormConvRefIdeal.sig) → Buf (Elt Ideal) ℓ) (g' : Dev Cert.NormConvRefIdeal.nD → PrngReg), Pre_NormConvIdeal_norm_conv_finite m →
    (∀ c : Dev Cert.NormConvIdeal.nD,
      m' ((c.tc : Thread Cert.NormConvRefIdeal.nD Cert.NormConvRefIdeal.τ).loc Cert.NormConvRefIdeal.main_arg0) = m ((c.tc : Thread Cert.NormConvIdeal.nD Cert.NormConvIdeal.τ).loc Cert.NormConvIdeal.main_arg0)
      ∧ m' ((c.tc : Thread Cert.NormConvRefIdeal.nD Cert.NormConvRefIdeal.τ).loc Cert.NormConvRefIdeal.main_arg1) = m ((c.tc : Thread Cert.NormConvIdeal.nD Cert.NormConvIdeal.τ).loc Cert.NormConvIdeal.main_arg1)
      ∧ m' ((c.tc : Thread Cert.NormConvRefIdeal.nD Cert.NormConvRefIdeal.τ).loc Cert.NormConvRefIdeal.main_arg2) = m ((c.tc : Thread Cert.NormConvIdeal.nD Cert.NormConvIdeal.τ).loc Cert.NormConvIdeal.main_arg2)
      ∧ m' ((c.tc : Thread Cert.NormConvRefIdeal.nD Cert.NormConvRefIdeal.τ).loc Cert.NormConvRefIdeal.main_arg3) = m ((c.tc : Thread Cert.NormConvIdeal.nD Cert.NormConvIdeal.τ).loc Cert.NormConvIdeal.main_arg3)
      ∧ m' ((c.tc : Thread Cert.NormConvRefIdeal.nD Cert.NormConvRefIdeal.τ).loc Cert.NormConvRefIdeal.main_arg4) = m ((c.tc : Thread Cert.NormConvIdeal.nD Cert.NormConvIdeal.τ).loc Cert.NormConvIdeal.main_arg4)
      ∧ m' ((c.tc : Thread Cert.NormConvRefIdeal.nD Cert.NormConvRefIdeal.τ).loc Cert.NormConvRefIdeal.main_arg5) = m ((c.tc : Thread Cert.NormConvIdeal.nD Cert.NormConvIdeal.τ).loc Cert.NormConvIdeal.main_arg5)
      ∧ m' ((c.tc : Thread Cert.NormConvRefIdeal.nD Cert.NormConvRefIdeal.τ).loc Cert.NormConvRefIdeal.main_arg6) = m ((c.tc : Thread Cert.NormConvIdeal.nD Cert.NormConvIdeal.τ).loc Cert.NormConvIdeal.main_arg6)
      ∧ m' ((c.tc : Thread Cert.NormConvRefIdeal.nD Cert.NormConvRefIdeal.τ).loc Cert.NormConvRefIdeal.main_arg7) = m ((c.tc : Thread Cert.NormConvIdeal.nD Cert.NormConvIdeal.τ).loc Cert.NormConvIdeal.main_arg7)
      ∧ m' ((c.tc : Thread Cert.NormConvRefIdeal.nD Cert.NormConvRefIdeal.τ).loc Cert.NormConvRefIdeal.main_arg8) = m ((c.tc : Thread Cert.NormConvIdeal.nD Cert.NormConvIdeal.τ).loc Cert.NormConvIdeal.main_arg8)) →
    ∃ (v0 : (c : Dev Cert.NormConvIdeal.nD) → Buf (Elt Ideal) ((c.tc : Thread Cert.NormConvIdeal.nD Cert.NormConvIdeal.τ).loc Cert.NormConvIdeal.main_v3_0)) (v1 : (c : Dev Cert.NormConvIdeal.nD) → Buf (Elt Ideal) ((c.tc : Thread Cert.NormConvIdeal.nD Cert.NormConvIdeal.τ).loc Cert.NormConvIdeal.main_v3_1)) (v2 : (c : Dev Cert.NormConvIdeal.nD) → Buf (Elt Ideal) ((c.tc : Thread Cert.NormConvIdeal.nD Cert.NormConvIdeal.τ).loc Cert.NormConvIdeal.main_v3_2)) (v3 : (c : Dev Cert.NormConvIdeal.nD) → Buf (Elt Ideal) ((c.tc : Thread Cert.NormConvIdeal.nD Cert.NormConvIdeal.τ).loc Cert.NormConvIdeal.main_v3_3)) (v4 : (c : Dev Cert.NormConvIdeal.nD) → Buf (Elt Ideal) ((c.tc : Thread Cert.NormConvIdeal.nD Cert.NormConvIdeal.τ).loc Cert.NormConvIdeal.main_v3_4)),
      θ_run (Cert.NormConvIdeal.defs (F := Ideal)) (onTc (τ := Cert.NormConvIdeal.τ) (Cert.NormConvIdeal.main (F := Ideal))) ⟨m, fun _ => 0, g⟩ (fun r => ∀ c : Dev Cert.NormConvIdeal.nD,
          r.2.mem ((c.tc : Thread Cert.NormConvIdeal.nD Cert.NormConvIdeal.τ).loc Cert.NormConvIdeal.main_v3_0) = v0 c
          ∧ r.2.mem ((c.tc : Thread Cert.NormConvIdeal.nD Cert.NormConvIdeal.τ).loc Cert.NormConvIdeal.main_v3_1) = v1 c
          ∧ r.2.mem ((c.tc : Thread Cert.NormConvIdeal.nD Cert.NormConvIdeal.τ).loc Cert.NormConvIdeal.main_v3_2) = v2 c
          ∧ r.2.mem ((c.tc : Thread Cert.NormConvIdeal.nD Cert.NormConvIdeal.τ).loc Cert.NormConvIdeal.main_v3_3) = v3 c
          ∧ r.2.mem ((c.tc : Thread Cert.NormConvIdeal.nD Cert.NormConvIdeal.τ).loc Cert.NormConvIdeal.main_v3_4) = v4 c
          ∧ r.2.mem ((c.tc : Thread Cert.NormConvIdeal.nD Cert.NormConvIdeal.τ).loc Cert.NormConvIdeal.main_arg0) = m ((c.tc : Thread Cert.NormConvIdeal.nD Cert.NormConvIdeal.τ).loc Cert.NormConvIdeal.main_arg0)
          ∧ r.2.mem ((c.tc : Thread Cert.NormConvIdeal.nD Cert.NormConvIdeal.τ).loc Cert.NormConvIdeal.main_arg1) = m ((c.tc : Thread Cert.NormConvIdeal.nD Cert.NormConvIdeal.τ).loc Cert.NormConvIdeal.main_arg1)
          ∧ r.2.mem ((c.tc : Thread Cert.NormConvIdeal.nD Cert.NormConvIdeal.τ).loc Cert.NormConvIdeal.main_arg2) = m ((c.tc : Thread Cert.NormConvIdeal.nD Cert.NormConvIdeal.τ).loc Cert.NormConvIdeal.main_arg2)
          ∧ r.2.mem ((c.tc : Thread Cert.NormConvIdeal.nD Cert.NormConvIdeal.τ).loc Cert.NormConvIdeal.main_arg3) = m ((c.tc : Thread Cert.NormConvIdeal.nD Cert.NormConvIdeal.τ).loc Cert.NormConvIdeal.main_arg3)
          ∧ r.2.mem ((c.tc : Thread Cert.NormConvIdeal.nD Cert.NormConvIdeal.τ).loc Cert.NormConvIdeal.main_arg4) = m ((c.tc : Thread Cert.NormConvIdeal.nD Cert.NormConvIdeal.τ).loc Cert.NormConvIdeal.main_arg4)
          ∧ r.2.mem ((c.tc : Thread Cert.NormConvIdeal.nD Cert.NormConvIdeal.τ).loc Cert.NormConvIdeal.main_arg5) = m ((c.tc : Thread Cert.NormConvIdeal.nD Cert.NormConvIdeal.τ).loc Cert.NormConvIdeal.main_arg5)
          ∧ r.2.mem ((c.tc : Thread Cert.NormConvIdeal.nD Cert.NormConvIdeal.τ).loc Cert.NormConvIdeal.main_arg6) = m ((c.tc : Thread Cert.NormConvIdeal.nD Cert.NormConvIdeal.τ).loc Cert.NormConvIdeal.main_arg6)
          ∧ r.2.mem ((c.tc : Thread Cert.NormConvIdeal.nD Cert.NormConvIdeal.τ).loc Cert.NormConvIdeal.main_arg7) = m ((c.tc : Thread Cert.NormConvIdeal.nD Cert.NormConvIdeal.τ).loc Cert.NormConvIdeal.main_arg7)
          ∧ r.2.mem ((c.tc : Thread Cert.NormConvIdeal.nD Cert.NormConvIdeal.τ).loc Cert.NormConvIdeal.main_arg8) = m ((c.tc : Thread Cert.NormConvIdeal.nD Cert.NormConvIdeal.τ).loc Cert.NormConvIdeal.main_arg8))
      ∧ θ_run (Cert.NormConvRefIdeal.defs (F := Ideal)) (onTc (τ := Cert.NormConvRefIdeal.τ) (Cert.NormConvRefIdeal.main (F := Ideal))) ⟨m', fun _ => 0, g'⟩ (fun r => ∀ c : Dev Cert.NormConvRefIdeal.nD,
          r.2.mem ((c.tc : Thread Cert.NormConvRefIdeal.nD Cert.NormConvRefIdeal.τ).loc Cert.NormConvRefIdeal.main_v93) = v0 c
          ∧ r.2.mem ((c.tc : Thread Cert.NormConvRefIdeal.nD Cert.NormConvRefIdeal.τ).loc Cert.NormConvRefIdeal.main_v95) = v1 c
          ∧ r.2.mem ((c.tc : Thread Cert.NormConvRefIdeal.nD Cert.NormConvRefIdeal.τ).loc Cert.NormConvRefIdeal.main_v67) = v2 c
          ∧ r.2.mem ((c.tc : Thread Cert.NormConvRefIdeal.nD Cert.NormConvRefIdeal.τ).loc Cert.NormConvRefIdeal.main_v70) = v3 c
          ∧ r.2.mem ((c.tc : Thread Cert.NormConvRefIdeal.nD Cert.NormConvRefIdeal.τ).loc Cert.NormConvRefIdeal.main_v94) = v4 c
          ∧ r.2.mem ((c.tc : Thread Cert.NormConvRefIdeal.nD Cert.NormConvRefIdeal.τ).loc Cert.NormConvRefIdeal.main_arg0) = m' ((c.tc : Thread Cert.NormConvRefIdeal.nD Cert.NormConvRefIdeal.τ).loc Cert.NormConvRefIdeal.main_arg0)
          ∧ r.2.mem ((c.tc : Thread Cert.NormConvRefIdeal.nD Cert.NormConvRefIdeal.τ).loc Cert.NormConvRefIdeal.main_arg1) = m' ((c.tc : Thread Cert.NormConvRefIdeal.nD Cert.NormConvRefIdeal.τ).loc Cert.NormConvRefIdeal.main_arg1)
          ∧ r.2.mem ((c.tc : Thread Cert.NormConvRefIdeal.nD Cert.NormConvRefIdeal.τ).loc Cert.NormConvRefIdeal.main_arg2) = m' ((c.tc : Thread Cert.NormConvRefIdeal.nD Cert.NormConvRefIdeal.τ).loc Cert.NormConvRefIdeal.main_arg2)
          ∧ r.2.mem ((c.tc : Thread Cert.NormConvRefIdeal.nD Cert.NormConvRefIdeal.τ).loc Cert.NormConvRefIdeal.main_arg3) = m' ((c.tc : Thread Cert.NormConvRefIdeal.nD Cert.NormConvRefIdeal.τ).loc Cert.NormConvRefIdeal.main_arg3)
          ∧ r.2.mem ((c.tc : Thread Cert.NormConvRefIdeal.nD Cert.NormConvRefIdeal.τ).loc Cert.NormConvRefIdeal.main_arg4) = m' ((c.tc : Thread Cert.NormConvRefIdeal.nD Cert.NormConvRefIdeal.τ).loc Cert.NormConvRefIdeal.main_arg4)
          ∧ r.2.mem ((c.tc : Thread Cert.NormConvRefIdeal.nD Cert.NormConvRefIdeal.τ).loc Cert.NormConvRefIdeal.main_arg5) = m' ((c.tc : Thread Cert.NormConvRefIdeal.nD Cert.NormConvRefIdeal.τ).loc Cert.NormConvRefIdeal.main_arg5)
          ∧ r.2.mem ((c.tc : Thread Cert.NormConvRefIdeal.nD Cert.NormConvRefIdeal.τ).loc Cert.NormConvRefIdeal.main_arg6) = m' ((c.tc : Thread Cert.NormConvRefIdeal.nD Cert.NormConvRefIdeal.τ).loc Cert.NormConvRefIdeal.main_arg6)
          ∧ r.2.mem ((c.tc : Thread Cert.NormConvRefIdeal.nD Cert.NormConvRefIdeal.τ).loc Cert.NormConvRefIdeal.main_arg7) = m' ((c.tc : Thread Cert.NormConvRefIdeal.nD Cert.NormConvRefIdeal.τ).loc Cert.NormConvRefIdeal.main_arg7)
          ∧ r.2.mem ((c.tc : Thread Cert.NormConvRefIdeal.nD Cert.NormConvRefIdeal.τ).loc Cert.NormConvRefIdeal.main_arg8) = m' ((c.tc : Thread Cert.NormConvRefIdeal.nD Cert.NormConvRefIdeal.τ).loc Cert.NormConvRefIdeal.main_arg8))

def preserves_Mla_MlaIdeal : Prop :=
  IdealRules.named_const.Statement Cert.MlaIdeal.κ "mask" .f32 0xF149F2CA#32 ⊥

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v36_0)) (v1 : (c : Dev Cert.MlaIdeal.nD) → Buf (Elt Ideal) ((c.tc : Thread Cert.MlaIdeal.nD Cert.MlaIdeal.τ).loc Cert.MlaIdeal.main_v36_1)) (v2 : (c : Dev Cert.MlaIdeal.nD) → Buf (Elt Ideal) ((c.tc : Thread Cert.MlaIdeal.nD Cert.MlaIdeal.τ).loc Cert.MlaIdeal.main_v36_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v36_0) = v0 c
          ∧ r.2.mem ((c.tc : Thread Cert.MlaIdeal.nD Cert.MlaIdeal.τ).loc Cert.MlaIdeal.main_v36_1) = v1 c
          ∧ r.2.mem ((c.tc : Thread Cert.MlaIdeal.nD Cert.MlaIdeal.τ).loc Cert.MlaIdeal.main_v36_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v66) = v0 c
          ∧ r.2.mem ((c.tc : Thread Cert.MlaRefIdeal.nD Cert.MlaRefIdeal.τ).loc Cert.MlaRefIdeal.main_v68) = v1 c
          ∧ r.2.mem ((c.tc : Thread Cert.MlaRefIdeal.nD Cert.MlaRefIdeal.τ).loc Cert.MlaRefIdeal.main_v69) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_MlaFwd_MlaFwdIdeal : Prop :=
  IdealRules.named_const.Statement Cert.MlaFwdIdeal.κ "mask" .f32 0xF149F2CA#32 ⊥

def algebraic_MlaFwdIdeal_MlaFwdRefIdeal_pre_mla_fwd_finite [hMlaFwdIdeal : Cert.MlaFwdIdeal.Facts] [hMlaFwdRefIdeal : Cert.MlaFwdRefIdeal.Facts] [hPre_mla_fwd_finite : Cert.Pre_mla_fwd_finite.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_mla_fwd_finite m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)) →
    ∃ (v0 : (c : Dev Cert.MlaFwdIdeal.nD) → Buf (Elt Ideal) ((c.tc : Thread Cert.MlaFwdIdeal.nD Cert.MlaFwdIdeal.τ).loc Cert.MlaFwdIdeal.main_v8_0)) (v1 : (c : Dev Cert.MlaFwdIdeal.nD) → Buf (Elt Ideal) ((c.tc : Thread Cert.MlaFwdIdeal.nD Cert.MlaFwdIdeal.τ).loc Cert.MlaFwdIdeal.main_v8_1)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v8_0) = v0 c
          ∧ r.2.mem ((c.tc : Thread Cert.MlaFwdIdeal.nD Cert.MlaFwdIdeal.τ).loc Cert.MlaFwdIdeal.main_v8_1) = v1 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v34) = v0 c
          ∧ r.2.mem ((c.tc : Thread Cert.MlaFwdRefIdeal.nD Cert.MlaFwdRefIdeal.τ).loc Cert.MlaFwdRefIdeal.main_v36) = v1 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2))

def preserves_Rel_RelIdeal : Prop :=
  True

def algebraic_RelIdeal_RelRefIdeal [hRelIdeal : Cert.RelIdeal.Facts] [hRelRefIdeal : Cert.RelRefIdeal.Facts] : Prop :=
  ∀ (m : (ℓ : Loc Cert.RelIdeal.nD Cert.RelIdeal.τ Cert.RelIdeal.sig) → Buf (Elt Ideal) ℓ) (g : Dev Cert.RelIdeal.nD → PrngReg)
    (m' : (ℓ : Loc Cert.RelRefIdeal.nD Cert.RelRefIdeal.τ Cert.RelRefIdeal.sig) → Buf (Elt Ideal) ℓ) (g' : Dev Cert.RelRefIdeal.nD → PrngReg), Pre_RelIdeal m →
    (∀ c : Dev Cert.RelIdeal.nD,
      m' ((c.tc : Thread Cert.RelRefIdeal.nD Cert.RelRefIdeal.τ).loc Cert.RelRefIdeal.main_arg0) = m ((c.tc : Thread Cert.RelIdeal.nD Cert.RelIdeal.τ).loc Cert.RelIdeal.main_arg0)
      ∧ m' ((c.tc : Thread Cert.RelRefIdeal.nD Cert.RelRefIdeal.τ).loc Cert.RelRefIdeal.main_arg1) = m ((c.tc : Thread Cert.RelIdeal.nD Cert.RelIdeal.τ).loc Cert.RelIdeal.main_arg1)) →
    ∃ (v0 : (c : Dev Cert.RelIdeal.nD) → Buf (Elt Ideal) ((c.tc : Thread Cert.RelIdeal.nD Cert.RelIdeal.τ).loc Cert.RelIdeal.main_v29)),
      θ_run (Cert.RelIdeal.defs (F := Ideal)) (onTc (τ := Cert.RelIdeal.τ) (Cert.RelIdeal.main (F := Ideal))) ⟨m, fun _ => 0, g⟩ (fun r => ∀ c : Dev Cert.RelIdeal.nD,
          r.2.mem ((c.tc : Thread Cert.RelIdeal.nD Cert.RelIdeal.τ).loc Cert.RelIdeal.main_v29) = v0 c
          ∧ r.2.mem ((c.tc : Thread Cert.RelIdeal.nD Cert.RelIdeal.τ).loc Cert.RelIdeal.main_arg0) = m ((c.tc : Thread Cert.RelIdeal.nD Cert.RelIdeal.τ).loc Cert.RelIdeal.main_arg0)
          ∧ r.2.mem ((c.tc : Thread Cert.RelIdeal.nD Cert.RelIdeal.τ).loc Cert.RelIdeal.main_arg1) = m ((c.tc : Thread Cert.RelIdeal.nD Cert.RelIdeal.τ).loc Cert.RelIdeal.main_arg1))
      ∧ θ_run (Cert.RelRefIdeal.defs (F := Ideal)) (onTc (τ := Cert.RelRefIdeal.τ) (Cert.RelRefIdeal.main (F := Ideal))) ⟨m', fun _ => 0, g'⟩ (fun r => ∀ c : Dev Cert.RelRefIdeal.nD,
          r.2.mem ((c.tc : Thread Cert.RelRefIdeal.nD Cert.RelRefIdeal.τ).loc Cert.RelRefIdeal.main_v41) = v0 c
          ∧ r.2.mem ((c.tc : Thread Cert.RelRefIdeal.nD Cert.RelRefIdeal.τ).loc Cert.RelRefIdeal.main_arg0) = m' ((c.tc : Thread Cert.RelRefIdeal.nD Cert.RelRefIdeal.τ).loc Cert.RelRefIdeal.main_arg0)
          ∧ r.2.mem ((c.tc : Thread Cert.RelRefIdeal.nD Cert.RelRefIdeal.τ).loc Cert.RelRefIdeal.main_arg1) = m' ((c.tc : Thread Cert.RelRefIdeal.nD Cert.RelRefIdeal.τ).loc Cert.RelRefIdeal.main_arg1))

def preserves_RelFwd_RelFwdIdeal : Prop :=
  True

def algebraic_RelFwdIdeal_RelFwdRefIdeal [hRelFwdIdeal : Cert.RelFwdIdeal.Facts] [hRelFwdRefIdeal : Cert.RelFwdRefIdeal.Facts] : Prop :=
  ∀ (m : (ℓ : Loc Cert.RelFwdIdeal.nD Cert.RelFwdIdeal.τ Cert.RelFwdIdeal.sig) → Buf (Elt Ideal) ℓ) (g : Dev Cert.RelFwdIdeal.nD → PrngReg)
    (m' : (ℓ : Loc Cert.RelFwdRefIdeal.nD Cert.RelFwdRefIdeal.τ Cert.RelFwdRefIdeal.sig) → Buf (Elt Ideal) ℓ) (g' : Dev Cert.RelFwdRefIdeal.nD → PrngReg), Pre_RelFwdIdeal m →
    (∀ c : Dev Cert.RelFwdIdeal.nD,
      m' ((c.tc : Thread Cert.RelFwdRefIdeal.nD Cert.RelFwdRefIdeal.τ).loc Cert.RelFwdRefIdeal.main_arg0) = m ((c.tc : Thread Cert.RelFwdIdeal.nD Cert.RelFwdIdeal.τ).loc Cert.RelFwdIdeal.main_arg0)) →
    ∃ (v0 : (c : Dev Cert.RelFwdIdeal.nD) → Buf (Elt Ideal) ((c.tc : Thread Cert.RelFwdIdeal.nD Cert.RelFwdIdeal.τ).loc Cert.RelFwdIdeal.main_v31)),
      θ_run (Cert.RelFwdIdeal.defs (F := Ideal)) (onTc (τ := Cert.RelFwdIdeal.τ) (Cert.RelFwdIdeal.main (F := Ideal))) ⟨m, fun _ => 0, g⟩ (fun r => ∀ c : Dev Cert.RelFwdIdeal.nD,
          r.2.mem ((c.tc : Thread Cert.RelFwdIdeal.nD Cert.RelFwdIdeal.τ).loc Cert.RelFwdIdeal.main_v31) = v0 c
          ∧ r.2.mem ((c.tc : Thread Cert.RelFwdIdeal.nD Cert.RelFwdIdeal.τ).loc Cert.RelFwdIdeal.main_arg0) = m ((c.tc : Thread Cert.RelFwdIdeal.nD Cert.RelFwdIdeal.τ).loc Cert.RelFwdIdeal.main_arg0))
      ∧ θ_run (Cert.RelFwdRefIdeal.defs (F := Ideal)) (onTc (τ := Cert.RelFwdRefIdeal.τ) (Cert.RelFwdRefIdeal.main (F := Ideal))) ⟨m', fun _ => 0, g'⟩ (fun r => ∀ c : Dev Cert.RelFwdRefIdeal.nD,
          r.2.mem ((c.tc : Thread Cert.RelFwdRefIdeal.nD Cert.RelFwdRefIdeal.τ).loc Cert.RelFwdRefIdeal.main_v36) = v0 c
          ∧ r.2.mem ((c.tc : Thread Cert.RelFwdRefIdeal.nD Cert.RelFwdRefIdeal.τ).loc Cert.RelFwdRefIdeal.main_arg0) = m' ((c.tc : Thread Cert.RelFwdRefIdeal.nD Cert.RelFwdRefIdeal.τ).loc Cert.RelFwdRefIdeal.main_arg0))

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v1_0)) (v1 : (c : Dev Cert.ConvIdeal.nD) → Buf (Elt Ideal) ((c.tc : Thread Cert.ConvIdeal.nD Cert.ConvIdeal.τ).loc Cert.ConvIdeal.main_v1_1)) (v2 : (c : Dev Cert.ConvIdeal.nD) → Buf (Elt Ideal) ((c.tc : Thread Cert.ConvIdeal.nD Cert.ConvIdeal.τ).loc Cert.ConvIdeal.main_v1_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1_0) = v0 c
          ∧ r.2.mem ((c.tc : Thread Cert.ConvIdeal.nD Cert.ConvIdeal.τ).loc Cert.ConvIdeal.main_v1_1) = v1 c
          ∧ r.2.mem ((c.tc : Thread Cert.ConvIdeal.nD Cert.ConvIdeal.τ).loc Cert.ConvIdeal.main_v1_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v76) = v0 c
          ∧ r.2.mem ((c.tc : Thread Cert.ConvRefIdeal.nD Cert.ConvRefIdeal.τ).loc Cert.ConvRefIdeal.main_v77) = v1 c
          ∧ r.2.mem ((c.tc : Thread Cert.ConvRefIdeal.nD Cert.ConvRefIdeal.τ).loc Cert.ConvRefIdeal.main_v75) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v4) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v1) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)
      ∧ m' ((c.tc : Thread Cert.ConvFwdRefIdeal.nD Cert.ConvFwdRefIdeal.τ).loc Cert.ConvFwdRefIdeal.main_arg5) = m ((c.tc : Thread Cert.ConvFwdIdeal.nD Cert.ConvFwdIdeal.τ).loc Cert.ConvFwdIdeal.main_arg5)) →
    ∃ (v0 : (c : Dev Cert.ConvFwdIdeal.nD) → Buf (Elt Ideal) ((c.tc : Thread Cert.ConvFwdIdeal.nD Cert.ConvFwdIdeal.τ).loc Cert.ConvFwdIdeal.main_v2_0)) (v1 : (c : Dev Cert.ConvFwdIdeal.nD) → Buf (Elt Ideal) ((c.tc : Thread Cert.ConvFwdIdeal.nD Cert.ConvFwdIdeal.τ).loc Cert.ConvFwdIdeal.main_v2_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v2_0) = v0 c
          ∧ r.2.mem ((c.tc : Thread Cert.ConvFwdIdeal.nD Cert.ConvFwdIdeal.τ).loc Cert.ConvFwdIdeal.main_v2_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
          ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v33) = v0 c
          ∧ r.2.mem ((c.tc : Thread Cert.ConvFwdRefIdeal.nD Cert.ConvFwdRefIdeal.τ).loc Cert.ConvFwdRefIdeal.main_v30) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4)
          ∧ r.2.mem ((c.tc : Thread Cert.ConvFwdRefIdeal.nD Cert.ConvFwdRefIdeal.τ).loc Cert.ConvFwdRefIdeal.main_arg5) = m' ((c.tc : Thread Cert.ConvFwdRefIdeal.nD Cert.ConvFwdRefIdeal.τ).loc Cert.ConvFwdRefIdeal.main_arg5))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)
      ∧ m' ((c.tc : Thread Cert.PrepFwdRefIdeal.nD Cert.PrepFwdRefIdeal.τ).loc Cert.PrepFwdRefIdeal.main_arg5) = m ((c.tc : Thread Cert.PrepFwdIdeal.nD Cert.PrepFwdIdeal.τ).loc Cert.PrepFwdIdeal.main_arg5)
      ∧ m' ((c.tc : Thread Cert.PrepFwdRefIdeal.nD Cert.PrepFwdRefIdeal.τ).loc Cert.PrepFwdRefIdeal.main_arg6) = m ((c.tc : Thread Cert.PrepFwdIdeal.nD Cert.PrepFwdIdeal.τ).loc Cert.PrepFwdIdeal.main_arg6)
      ∧ m' ((c.tc : Thread Cert.PrepFwdRefIdeal.nD Cert.PrepFwdRefIdeal.τ).loc Cert.PrepFwdRefIdeal.main_arg7) = m ((c.tc : Thread Cert.PrepFwdIdeal.nD Cert.PrepFwdIdeal.τ).loc Cert.PrepFwdIdeal.main_arg7)
      ∧ m' ((c.tc : Thread Cert.PrepFwdRefIdeal.nD Cert.PrepFwdRefIdeal.τ).loc Cert.PrepFwdRefIdeal.main_arg8) = m ((c.tc : Thread Cert.PrepFwdIdeal.nD Cert.PrepFwdIdeal.τ).loc Cert.PrepFwdIdeal.main_arg8)
      ∧ m' ((c.tc : Thread Cert.PrepFwdRefIdeal.nD Cert.PrepFwdRefIdeal.τ).loc Cert.PrepFwdRefIdeal.main_arg9) = m ((c.tc : Thread Cert.PrepFwdIdeal.nD Cert.PrepFwdIdeal.τ).loc Cert.PrepFwdIdeal.main_arg9)) →
    ∃ (v0 : (c : Dev Cert.PrepFwdIdeal.nD) → Buf (Elt Ideal) ((c.tc : Thread Cert.PrepFwdIdeal.nD Cert.PrepFwdIdeal.τ).loc Cert.PrepFwdIdeal.main_v38_0)) (v1 : (c : Dev Cert.PrepFwdIdeal.nD) → Buf (Elt Ideal) ((c.tc : Thread Cert.PrepFwdIdeal.nD Cert.PrepFwdIdeal.τ).loc Cert.PrepFwdIdeal.main_v38_1)) (v2 : (c : Dev Cert.PrepFwdIdeal.nD) → Buf (Elt Ideal) ((c.tc : Thread Cert.PrepFwdIdeal.nD Cert.PrepFwdIdeal.τ).loc Cert.PrepFwdIdeal.main_v38_2)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v38_0) = v0 c
          ∧ r.2.mem ((c.tc : Thread Cert.PrepFwdIdeal.nD Cert.PrepFwdIdeal.τ).loc Cert.PrepFwdIdeal.main_v38_1) = v1 c
          ∧ r.2.mem ((c.tc : Thread Cert.PrepFwdIdeal.nD Cert.PrepFwdIdeal.τ).loc Cert.PrepFwdIdeal.main_v38_2) = v2 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
          ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
          ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6)
          ∧ r.2.mem ((c.tc : Thread Cert.PrepFwdIdeal.nD Cert.PrepFwdIdeal.τ).loc Cert.PrepFwdIdeal.main_arg7) = m ((c.tc : Thread Cert.PrepFwdIdeal.nD Cert.PrepFwdIdeal.τ).loc Cert.PrepFwdIdeal.main_arg7)
          ∧ r.2.mem ((c.tc : Thread Cert.PrepFwdIdeal.nD Cert.PrepFwdIdeal.τ).loc Cert.PrepFwdIdeal.main_arg8) = m ((c.tc : Thread Cert.PrepFwdIdeal.nD Cert.PrepFwdIdeal.τ).loc Cert.PrepFwdIdeal.main_arg8)
          ∧ r.2.mem ((c.tc : Thread Cert.PrepFwdIdeal.nD Cert.PrepFwdIdeal.τ).loc Cert.PrepFwdIdeal.main_arg9) = m ((c.tc : Thread Cert.PrepFwdIdeal.nD Cert.PrepFwdIdeal.τ).loc Cert.PrepFwdIdeal.main_arg9))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v127) = v0 c
          ∧ r.2.mem ((c.tc : Thread Cert.PrepFwdRefIdeal.nD Cert.PrepFwdRefIdeal.τ).loc Cert.PrepFwdRefIdeal.main_v130) = v1 c
          ∧ r.2.mem ((c.tc : Thread Cert.PrepFwdRefIdeal.nD Cert.PrepFwdRefIdeal.τ).loc Cert.PrepFwdRefIdeal.main_v132) = v2 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4)
          ∧ r.2.mem ((c.tc : Thread Cert.PrepFwdRefIdeal.nD Cert.PrepFwdRefIdeal.τ).loc Cert.PrepFwdRefIdeal.main_arg5) = m' ((c.tc : Thread Cert.PrepFwdRefIdeal.nD Cert.PrepFwdRefIdeal.τ).loc Cert.PrepFwdRefIdeal.main_arg5)
          ∧ r.2.mem ((c.tc : Thread Cert.PrepFwdRefIdeal.nD Cert.PrepFwdRefIdeal.τ).loc Cert.PrepFwdRefIdeal.main_arg6) = m' ((c.tc : Thread Cert.PrepFwdRefIdeal.nD Cert.PrepFwdRefIdeal.τ).loc Cert.PrepFwdRefIdeal.main_arg6)
          ∧ r.2.mem ((c.tc : Thread Cert.PrepFwdRefIdeal.nD Cert.PrepFwdRefIdeal.τ).loc Cert.PrepFwdRefIdeal.main_arg7) = m' ((c.tc : Thread Cert.PrepFwdRefIdeal.nD Cert.PrepFwdRefIdeal.τ).loc Cert.PrepFwdRefIdeal.main_arg7)
          ∧ r.2.mem ((c.tc : Thread Cert.PrepFwdRefIdeal.nD Cert.PrepFwdRefIdeal.τ).loc Cert.PrepFwdRefIdeal.main_arg8) = m' ((c.tc : Thread Cert.PrepFwdRefIdeal.nD Cert.PrepFwdRefIdeal.τ).loc Cert.PrepFwdRefIdeal.main_arg8)
          ∧ r.2.mem ((c.tc : Thread Cert.PrepFwdRefIdeal.nD Cert.PrepFwdRefIdeal.τ).loc Cert.PrepFwdRefIdeal.main_arg9) = m' ((c.tc : Thread Cert.PrepFwdRefIdeal.nD Cert.PrepFwdRefIdeal.τ).loc Cert.PrepFwdRefIdeal.main_arg9))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v1) = v0 c
          ∧ r.2.mem ((c.tc : Thread Cert.AdamWRefIdeal.nD Cert.AdamWRefIdeal.τ).loc Cert.AdamWRefIdeal.main_v25) = v1 c
          ∧ r.2.mem ((c.tc : Thread Cert.AdamWRefIdeal.nD Cert.AdamWRefIdeal.τ).loc Cert.AdamWRefIdeal.main_v6) = v2 c
          ∧ r.2.mem ((c.tc : Thread Cert.AdamWRefIdeal.nD Cert.AdamWRefIdeal.τ).loc Cert.AdamWRefIdeal.main_v12) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_WGrad_WGradIdeal : Prop :=
  True

def algebraic_WGradIdeal_WGradRefIdeal [hWGradIdeal : Cert.WGradIdeal.Facts] [hWGradRefIdeal : Cert.WGradRefIdeal.Facts] : Prop :=
  ∀ (m : (ℓ : Loc Cert.WGradIdeal.nD Cert.WGradIdeal.τ Cert.WGradIdeal.sig) → Buf (Elt Ideal) ℓ) (g : Dev Cert.WGradIdeal.nD → PrngReg)
    (m' : (ℓ : Loc Cert.WGradRefIdeal.nD Cert.WGradRefIdeal.τ Cert.WGradRefIdeal.sig) → Buf (Elt Ideal) ℓ) (g' : Dev Cert.WGradRefIdeal.nD → PrngReg), Pre_WGradIdeal m →
    (∀ c : Dev Cert.WGradIdeal.nD,
      m' ((c.tc : Thread Cert.WGradRefIdeal.nD Cert.WGradRefIdeal.τ).loc Cert.WGradRefIdeal.main_arg0) = m ((c.tc : Thread Cert.WGradIdeal.nD Cert.WGradIdeal.τ).loc Cert.WGradIdeal.main_arg0)
      ∧ m' ((c.tc : Thread Cert.WGradRefIdeal.nD Cert.WGradRefIdeal.τ).loc Cert.WGradRefIdeal.main_arg1) = m ((c.tc : Thread Cert.WGradIdeal.nD Cert.WGradIdeal.τ).loc Cert.WGradIdeal.main_arg1)) →
    ∃ (v0 : (c : Dev Cert.WGradIdeal.nD) → Buf (Elt Ideal) ((c.tc : Thread Cert.WGradIdeal.nD Cert.WGradIdeal.τ).loc Cert.WGradIdeal.main_v0)),
      θ_run (Cert.WGradIdeal.defs (F := Ideal)) (onTc (τ := Cert.WGradIdeal.τ) (Cert.WGradIdeal.main (F := Ideal))) ⟨m, fun _ => 0, g⟩ (fun r => ∀ c : Dev Cert.WGradIdeal.nD,
          r.2.mem ((c.tc : Thread Cert.WGradIdeal.nD Cert.WGradIdeal.τ).loc Cert.WGradIdeal.main_v0) = v0 c
          ∧ r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
          ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ θ_run (Cert.WGradRefIdeal.defs (F := Ideal)) (onTc (τ := Cert.WGradRefIdeal.τ) (Cert.WGradRefIdeal.main (F := Ideal))) ⟨m', fun _ => 0, g'⟩ (fun r => ∀ c : Dev Cert.WGradRefIdeal.nD,
          r.2.mem ((c.tc : Thread Cert.WGradRefIdeal.nD Cert.WGradRefIdeal.τ).loc Cert.WGradRefIdeal.main_v2) = v0 c
          ∧ r.2.mem ((c.tc : Thread Cert.WGradRefIdeal.nD Cert.WGradRefIdeal.τ).loc Cert.WGradRefIdeal.main_arg0) = m' ((c.tc : Thread Cert.WGradRefIdeal.nD Cert.WGradRefIdeal.τ).loc Cert.WGradRefIdeal.main_arg0)
          ∧ r.2.mem ((c.tc : Thread Cert.WGradRefIdeal.nD Cert.WGradRefIdeal.τ).loc Cert.WGradRefIdeal.main_arg1) = m' ((c.tc : Thread Cert.WGradRefIdeal.nD Cert.WGradRefIdeal.τ).loc Cert.WGradRefIdeal.main_arg1))

def Claim : Prop :=
  ∃ (hLoss : Cert.Loss.Facts) (hLossIdeal : Cert.LossIdeal.Facts) (hLossRefIdeal : Cert.LossRefIdeal.Facts) (hGate : Cert.Gate.Facts) (hGateIdeal : Cert.GateIdeal.Facts) (hGateRefIdeal : Cert.GateRefIdeal.Facts) (hMix : Cert.Mix.Facts) (hMixIdeal : Cert.MixIdeal.Facts) (hMixRefIdeal : Cert.MixRefIdeal.Facts) (hAda : Cert.Ada.Facts) (hAdaIdeal : Cert.AdaIdeal.Facts) (hAdaRefIdeal : Cert.AdaRefIdeal.Facts) (hNorm : Cert.Norm.Facts) (hNormIdeal : Cert.NormIdeal.Facts) (hNormRefIdeal : Cert.NormRefIdeal.Facts) (hNormConv : Cert.NormConv.Facts) (hNormConvIdeal : Cert.NormConvIdeal.Facts) (hNormConvRefIdeal : Cert.NormConvRefIdeal.Facts) (hMla : Cert.Mla.Facts) (hMlaIdeal : Cert.MlaIdeal.Facts) (hMlaRefIdeal : Cert.MlaRefIdeal.Facts) (hMlaFwd : Cert.MlaFwd.Facts) (hMlaFwdIdeal : Cert.MlaFwdIdeal.Facts) (hMlaFwdRefIdeal : Cert.MlaFwdRefIdeal.Facts) (hRel : Cert.Rel.Facts) (hRelIdeal : Cert.RelIdeal.Facts) (hRelRefIdeal : Cert.RelRefIdeal.Facts) (hRelFwd : Cert.RelFwd.Facts) (hRelFwdIdeal : Cert.RelFwdIdeal.Facts) (hRelFwdRefIdeal : Cert.RelFwdRefIdeal.Facts) (hConv : Cert.Conv.Facts) (hConvIdeal : Cert.ConvIdeal.Facts) (hConvRefIdeal : Cert.ConvRefIdeal.Facts) (hAdaFwd : Cert.AdaFwd.Facts) (hAdaFwdIdeal : Cert.AdaFwdIdeal.Facts) (hAdaFwdRefIdeal : Cert.AdaFwdRefIdeal.Facts) (hOutProj : Cert.OutProj.Facts) (hOutProjIdeal : Cert.OutProjIdeal.Facts) (hOutProjRefIdeal : Cert.OutProjRefIdeal.Facts) (hConvFwd : Cert.ConvFwd.Facts) (hConvFwdIdeal : Cert.ConvFwdIdeal.Facts) (hConvFwdRefIdeal : Cert.ConvFwdRefIdeal.Facts) (hPrepFwd : Cert.PrepFwd.Facts) (hPrepFwdIdeal : Cert.PrepFwdIdeal.Facts) (hPrepFwdRefIdeal : Cert.PrepFwdRefIdeal.Facts) (hAdamW : Cert.AdamW.Facts) (hAdamWIdeal : Cert.AdamWIdeal.Facts) (hAdamWRefIdeal : Cert.AdamWRefIdeal.Facts) (hWGrad : Cert.WGrad.Facts) (hWGradIdeal : Cert.WGradIdeal.Facts) (hWGradRefIdeal : Cert.WGradRefIdeal.Facts) (hPre_norm_finite : Cert.Pre_norm_finite.Facts) (hPre_norm_conv_finite : Cert.Pre_norm_conv_finite.Facts) (hPre_mla_finite : Cert.Pre_mla_finite.Facts) (hPre_mla_fwd_finite : Cert.Pre_mla_fwd_finite.Facts) (hPre_conv_finite : Cert.Pre_conv_finite.Facts),
    quiescent_Loss (hLoss := hLoss)
    ∧ quiescent_LossIdeal (hLossIdeal := hLossIdeal)
    ∧ quiescent_LossRefIdeal (hLossRefIdeal := hLossRefIdeal)
    ∧ quiescent_Gate (hGate := hGate)
    ∧ quiescent_GateIdeal (hGateIdeal := hGateIdeal)
    ∧ quiescent_GateRefIdeal (hGateRefIdeal := hGateRefIdeal)
    ∧ quiescent_Mix (hMix := hMix)
    ∧ quiescent_MixIdeal (hMixIdeal := hMixIdeal)
    ∧ quiescent_MixRefIdeal (hMixRefIdeal := hMixRefIdeal)
    ∧ quiescent_Ada (hAda := hAda)
    ∧ quiescent_AdaIdeal (hAdaIdeal := hAdaIdeal)
    ∧ quiescent_AdaRefIdeal (hAdaRefIdeal := hAdaRefIdeal)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_NormConv (hNormConv := hNormConv)
    ∧ quiescent_NormConvIdeal (hNormConvIdeal := hNormConvIdeal)
    ∧ quiescent_NormConvIdeal_pre_norm_conv_finite (hNormConvIdeal := hNormConvIdeal) (hPre_norm_conv_finite := hPre_norm_conv_finite)
    ∧ quiescent_NormConvRefIdeal (hNormConvRefIdeal := hNormConvRefIdeal)
    ∧ quiescent_NormConvRefIdeal_pre_norm_conv_finite (hNormConvRefIdeal := hNormConvRefIdeal) (hPre_norm_conv_finite := hPre_norm_conv_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_MlaFwd (hMlaFwd := hMlaFwd)
    ∧ quiescent_MlaFwdIdeal (hMlaFwdIdeal := hMlaFwdIdeal)
    ∧ quiescent_MlaFwdIdeal_pre_mla_fwd_finite (hMlaFwdIdeal := hMlaFwdIdeal) (hPre_mla_fwd_finite := hPre_mla_fwd_finite)
    ∧ quiescent_MlaFwdRefIdeal (hMlaFwdRefIdeal := hMlaFwdRefIdeal)
    ∧ quiescent_MlaFwdRefIdeal_pre_mla_fwd_finite (hMlaFwdRefIdeal := hMlaFwdRefIdeal) (hPre_mla_fwd_finite := hPre_mla_fwd_finite)
    ∧ quiescent_Rel (hRel := hRel)
    ∧ quiescent_RelIdeal (hRelIdeal := hRelIdeal)
    ∧ quiescent_RelRefIdeal (hRelRefIdeal := hRelRefIdeal)
    ∧ quiescent_RelFwd (hRelFwd := hRelFwd)
    ∧ quiescent_RelFwdIdeal (hRelFwdIdeal := hRelFwdIdeal)
    ∧ quiescent_RelFwdRefIdeal (hRelFwdRefIdeal := hRelFwdRefIdeal)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_WGrad (hWGrad := hWGrad)
    ∧ quiescent_WGradIdeal (hWGradIdeal := hWGradIdeal)
    ∧ quiescent_WGradRefIdeal (hWGradRefIdeal := hWGradRefIdeal)
    ∧ preserves_Loss_LossIdeal
    ∧ algebraic_LossIdeal_LossRefIdeal (hLossIdeal := hLossIdeal) (hLossRefIdeal := hLossRefIdeal)
    ∧ preserves_Gate_GateIdeal
    ∧ algebraic_GateIdeal_GateRefIdeal (hGateIdeal := hGateIdeal) (hGateRefIdeal := hGateRefIdeal)
    ∧ preserves_Mix_MixIdeal
    ∧ algebraic_MixIdeal_MixRefIdeal (hMixIdeal := hMixIdeal) (hMixRefIdeal := hMixRefIdeal)
    ∧ preserves_Ada_AdaIdeal
    ∧ algebraic_AdaIdeal_AdaRefIdeal (hAdaIdeal := hAdaIdeal) (hAdaRefIdeal := hAdaRefIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_NormConv_NormConvIdeal
    ∧ algebraic_NormConvIdeal_NormConvRefIdeal_pre_norm_conv_finite (hNormConvIdeal := hNormConvIdeal) (hNormConvRefIdeal := hNormConvRefIdeal) (hPre_norm_conv_finite := hPre_norm_conv_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_MlaFwd_MlaFwdIdeal
    ∧ algebraic_MlaFwdIdeal_MlaFwdRefIdeal_pre_mla_fwd_finite (hMlaFwdIdeal := hMlaFwdIdeal) (hMlaFwdRefIdeal := hMlaFwdRefIdeal) (hPre_mla_fwd_finite := hPre_mla_fwd_finite)
    ∧ preserves_Rel_RelIdeal
    ∧ algebraic_RelIdeal_RelRefIdeal (hRelIdeal := hRelIdeal) (hRelRefIdeal := hRelRefIdeal)
    ∧ preserves_RelFwd_RelFwdIdeal
    ∧ algebraic_RelFwdIdeal_RelFwdRefIdeal (hRelFwdIdeal := hRelFwdIdeal) (hRelFwdRefIdeal := hRelFwdRefIdeal)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_OutProj_OutProjIdeal
    ∧ algebraic_OutProjIdeal_OutProjRefIdeal (hOutProjIdeal := hOutProjIdeal) (hOutProjRefIdeal := hOutProjRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_AdamW_AdamWIdeal
    ∧ algebraic_AdamWIdeal_AdamWRefIdeal (hAdamWIdeal := hAdamWIdeal) (hAdamWRefIdeal := hAdamWRefIdeal)
    ∧ preserves_WGrad_WGradIdeal
    ∧ algebraic_WGradIdeal_WGradRefIdeal (hWGradIdeal := hWGradIdeal) (hWGradRefIdeal := hWGradRefIdeal)
-- ==== Pre_conv_finite.lean ====
abbrev S2x2048x5632 : Shape := ⟨3, ![2, 2048, 5632]⟩
abbrev S3x5632 : Shape := ⟨2, ![3, 5632]⟩
abbrev S1x5632 : Shape := ⟨2, ![1, 5632]⟩
abbrev S2x2048x2816 : Shape := ⟨3, ![2, 2048, 2816]⟩
abbrev S_ : Shape := ⟨0, ![]⟩

class Facts : Prop where
  bcast_S_S2x2048x5632 : S_.BroadcastsInDim S2x2048x5632 (![] : Fin 0 → Fin S2x2048x5632.rank)
  reducesTo_S2x2048x5632_S_d0_1_2 : S2x2048x5632.ReducesTo [0, 1, 2] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S2x2048x2816 : S_.BroadcastsInDim S2x2048x2816 (![] : Fin 0 → Fin S2x2048x2816.rank)
  reducesTo_S2x2048x2816_S_d0_1_2 : S2x2048x2816.ReducesTo [0, 1, 2] S_

variable [Facts]

def fn_part1 {F : FTy → Type} [FloatOps F] (main_v13 : IVec S_ 1) (main_v16 : IVec S2x2048x2816 1) : IVec S_ 1 :=
  let main_c_5 : IVec S_ 1 := constantI S_ 1 1#1
  let main_v17 : IVec S_ 1 := (fun x v => Host.reduce IntOp.andi x v reducesTo_S2x2048x2816_S_d0_1_2 h_S_) main_v16 main_c_5
  let main_v18 : IVec S_ 1 := andi main_v13 main_v17
  main_v18

def fn {F : FTy → Type} [FloatOps F] (main_arg0 : FVec F S2x2048x5632 .f32) (main_arg1 : FVec F S3x5632 .f32) (main_arg2 : FVec F S1x5632 .f32) (main_arg3 : FVec F S2x2048x2816 .f32) : IVec S_ 1 :=
  let main_v0 : FVec F S2x2048x5632 .f32 := Host.absf main_arg0
  let main_cst : FVec F S_ .f32 := constant S_ .f32 0x7F800000#32
  let main_v1 : FVec F S2x2048x5632 .f32 := broadcastInDim S2x2048x5632 ![] bcast_S_S2x2048x5632 main_cst
  let main_v2 : IVec S2x2048x5632 1 := cmpf .olt main_v0 main_v1
  let main_c : IVec S_ 1 := constantI S_ 1 1#1
  let main_v3 : IVec S_ 1 := (fun x v => Host.reduce IntOp.andi x v reducesTo_S2x2048x5632_S_d0_1_2 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S1x5632 .f32 := Host.absf main_arg2
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_c_3 : IVec S_ 1 := constantI S_ 1 1#1
  let main_v12 : IVec S_ 1 := (fun x v => Host.reduce IntOp.andi x v reducesTo_S1x5632_S_d0_1 h_S_) main_v11 main_c_3
  let main_v13 : IVec S_ 1 := andi main_v8 main_v12
  let main_v14 : FVec F S2x2048x2816 .f32 := Host.absf main_arg3
  let main_cst_4 : FVec F S_ .f32 := constant S_ .f32 0x7F800000#32
  let main_v15 : FVec F S2x2048x2816 .f32 := broadcastInDim S2x2048x2816 ![] bcast_S_S2x2048x2816 main_cst_4
  let main_v16 : IVec S2x2048x2816 1 := cmpf .olt main_v14 main_v15
  fn_part1 (F := F) main_v13 main_v16
-- ==== Pre_mla_finite.lean ====
abbrev S2x2048x6x96 : Shape := ⟨4, ![2, 2048, 6, 96]⟩
abbrev S2x2048x6x64 : Shape := ⟨4, ![2, 2048, 6, 64]⟩
abbrev S2x2048x384 : Shape := ⟨3, ![2, 2048, 384]⟩
abbrev S_ : Shape := ⟨0, ![]⟩

class Facts : Prop where
  bcast_S_S2x2048x6x96 : S_.BroadcastsInDim S2x2048x6x96 (![] : Fin 0 → Fin S2x2048x6x96.rank)
  reducesTo_S2x2048x6x96_S_d0_1_2_3 : S2x2048x6x96.ReducesTo [0, 1, 2, 3] S_
  h_S_ : 0 < S_.numel
  bcast_S_S2x2048x6x64 : S_.BroadcastsInDim S2x2048x6x64 (![] : Fin 0 → Fin S2x2048x6x64.rank)
  reducesTo_S2x2048x6x64_S_d0_1_2_3 : S2x2048x6x64.ReducesTo [0, 1, 2, 3] S_
  bcast_S_S2x2048x384 : S_.BroadcastsInDim S2x2048x384 (![] : Fin 0 → Fin S2x2048x384.rank)
  reducesTo_S2x2048x384_S_d0_1_2 : S2x2048x384.ReducesTo [0, 1, 2] S_

variable [Facts]

def fn_part1 {F : FTy → Type} [FloatOps F] (main_v13 : IVec S_ 1) (main_v16 : IVec S2x2048x384 1) : IVec S_ 1 :=
  let main_c_5 : IVec S_ 1 := constantI S_ 1 1#1
  let main_v17 : IVec S_ 1 := (fun x v => Host.reduce IntOp.andi x v reducesTo_S2x2048x384_S_d0_1_2 h_S_) main_v16 main_c_5
  let main_v18 : IVec S_ 1 := andi main_v13 main_v17
  main_v18

def fn {F : FTy → Type} [FloatOps F] (main_arg0 : FVec F S2x2048x6x96 .f32) (main_arg1 : FVec F S2x2048x6x96 .f32) (main_arg2 : FVec F S2x2048x6x64 .f32) (main_arg3 : FVec F S2x2048x384 .f32) : IVec S_ 1 :=
  let main_v0 : FVec F S2x2048x6x96 .f32 := Host.absf main_arg0
  let main_cst : FVec F S_ .f32 := constant S_ .f32 0x7F800000#32
  let main_v1 : FVec F S2x2048x6x96 .f32 := broadcastInDim S2x2048x6x96 ![] bcast_S_S2x2048x6x96 main_cst
  let main_v2 : IVec S2x2048x6x96 1 := cmpf .olt main_v0 main_v1
  let main_c : IVec S_ 1 := constantI S_ 1 1#1
  let main_v3 : IVec S_ 1 := (fun x v => Host.reduce IntOp.andi x v reducesTo_S2x2048x6x96_S_d0_1_2_3 h_S_) main_v2 main_c
  let main_v4 : FVec F S2x2048x6x96 .f32 := Host.absf main_arg1
  let main_cst_0 : FVec F S_ .f32 := constant S_ .f32 0x7F800000#32
  let main_v5 : FVec F S2x2048x6x96 .f32 := broadcastInDim S2x2048x6x96 ![] bcast_S_S2x2048x6x96 main_cst_0
  let main_v6 : IVec S2x2048x6x96 1 := cmpf .olt main_v4 main_v5
  let main_c_1 : IVec S_ 1 := constantI S_ 1 1#1
  let main_v7 : IVec S_ 1 := (fun x v => Host.reduce IntOp.andi x v reducesTo_S2x2048x6x96_S_d0_1_2_3 h_S_) main_v6 main_c_1
  let main_v8 : IVec S_ 1 := andi main_v3 main_v7
  let main_v9 : FVec F S2x2048x6x64 .f32 := Host.absf main_arg2
  let main_cst_2 : FVec F S_ .f32 := constant S_ .f32 0x7F800000#32
  let main_v10 : FVec F S2x2048x6x64 .f32 := broadcastInDim S2x2048x6x64 ![] bcast_S_S2x2048x6x64 main_cst_2
  let main_v11 : IVec S2x2048x6x64 1 := cmpf .olt main_v9 main_v10
  let main_c_3 : IVec S_ 1 := constantI S_ 1 1#1
  let main_v12 : IVec S_ 1 := (fun x v => Host.reduce IntOp.andi x v reducesTo_S2x2048x6x64_S_d0_1_2_3 h_S_) main_v11 main_c_3
  let main_v13 : IVec S_ 1 := andi main_v8 main_v12
  let main_v14 : FVec F S2x2048x384 .f32 := Host.absf main_arg3
  let main_cst_4 : FVec F S_ .f32 := constant S_ .f32 0x7F800000#32
  let main_v15 : FVec F S2x2048x384 .f32 := broadcastInDim S2x2048x384 ![] bcast_S_S2x2048x384 main_cst_4
  let main_v16 : IVec S2x2048x384 1 := cmpf .olt main_v14 main_v15
  fn_part1 (F := F) main_v13 main_v16
-- ==== Pre_mla_fwd_finite.lean ====
abbrev S2x2048x6x96 : Shape := ⟨4, ![2, 2048, 6, 96]⟩
abbrev S2x2048x6x64 : Shape := ⟨4, ![2, 2048, 6, 64]⟩
abbrev S_ : Shape := ⟨0, ![]⟩

class Facts : Prop where
  bcast_S_S2x2048x6x96 : S_.BroadcastsInDim S2x2048x6x96 (![] : Fin 0 → Fin S2x2048x6x96.rank)
  reducesTo_S2x2048x6x96_S_d0_1_2_3 : S2x2048x6x96.ReducesTo [0, 1, 2, 3] S_
  h_S_ : 0 < S_.numel
  bcast_S_S2x2048x6x64 : S_.BroadcastsInDim S2x2048x6x64 (![] : Fin 0 → Fin S2x2048x6x64.rank)
  reducesTo_S2x2048x6x64_S_d0_1_2_3 : S2x2048x6x64.ReducesTo [0, 1, 2, 3] S_

variable [Facts]

def fn {F : FTy → Type} [FloatOps F] (main_arg0 : FVec F S2x2048x6x96 .f32) (main_arg1 : FVec F S2x2048x6x96 .f32) (main_arg2 : FVec F S2x2048x6x64 .f32) : IVec S_ 1 :=
  let main_v0 : FVec F S2x2048x6x96 .f32 := Host.absf main_arg0
  let main_cst : FVec F S_ .f32 := constant S_ .f32 0x7F800000#32
  let main_v1 : FVec F S2x2048x6x96 .f32 := broadcastInDim S2x2048x6x96 ![] bcast_S_S2x2048x6x96 main_cst
  let main_v2 : IVec S2x2048x6x96 1 := cmpf .olt main_v0 main_v1
  let main_c : IVec S_ 1 := constantI S_ 1 1#1
  let main_v3 : IVec S_ 1 := (fun x v => Host.reduce IntOp.andi x v reducesTo_S2x2048x6x96_S_d0_1_2_3 h_S_) main_v2 main_c
  let main_v4 : FVec F S2x2048x6x96 .f32 := Host.absf main_arg1
  let main_cst_0 : FVec F S_ .f32 := constant S_ .f32 0x7F800000#32
  let main_v5 : FVec F S2x2048x6x96 .f32 := broadcastInDim S2x2048x6x96 ![] bcast_S_S2x2048x6x96 main_cst_0
  let main_v6 : IVec S2x2048x6x96 1 := cmpf .olt main_v4 main_v5
  let main_c_1 : IVec S_ 1 := constantI S_ 1 1#1
  let main_v7 : IVec S_ 1 := (fun x v => Host.reduce IntOp.andi x v reducesTo_S2x2048x6x96_S_d0_1_2_3 h_S_) main_v6 main_c_1
  let main_v8 : IVec S_ 1 := andi main_v3 main_v7
  let main_v9 : FVec F S2x2048x6x64 .f32 := Host.absf main_arg2
  let main_cst_2 : FVec F S_ .f32 := constant S_ .f32 0x7F800000#32
  let main_v10 : FVec F S2x2048x6x64 .f32 := broadcastInDim S2x2048x6x64 ![] bcast_S_S2x2048x6x64 main_cst_2
  let main_v11 : IVec S2x2048x6x64 1 := cmpf .olt main_v9 main_v10
  let main_c_3 : IVec S_ 1 := constantI S_ 1 1#1
  let main_v12 : IVec S_ 1 := (fun x v => Host.reduce IntOp.andi x v reducesTo_S2x2048x6x64_S_d0_1_2_3 h_S_) main_v11 main_c_3
  let main_v13 : IVec S_ 1 := andi main_v8 main_v12
  main_v13
-- ==== Pre_norm_conv_finite.lean ====
abbrev S2x2048x1024 : Shape := ⟨3, ![2, 2048, 1024]⟩
abbrev S1x1024 : Shape := ⟨2, ![1, 1024]⟩
abbrev S2x1x1024 : Shape := ⟨3, ![2, 1, 1024]⟩
abbrev S1024x5632 : Shape := ⟨2, ![1024, 5632]⟩
abbrev S3x5632 : Shape := ⟨2, ![3, 5632]⟩
abbrev S5632 : Shape := ⟨1, ![5632]⟩
abbrev S2x2048x5632 : Shape := ⟨3, ![2, 2048, 5632]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2x2048x5632 : S_.BroadcastsInDim S2x2048x5632 (![] : Fin 0 → Fin S2x2048x5632.rank)
  reducesTo_S2x2048x5632_S_d0_1_2 : S2x2048x5632.ReducesTo [0, 1, 2] S_

variable [Facts]

def fn_part1 {F : FTy → Type} [FloatOps F] (main_arg5 : FVec F S3x5632 .f32) (main_arg8 : FVec F S2x2048x5632 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S3x5632 .f32 := Host.absf main_arg5
  let main_cst_6 : FVec F S_ .f32 := constant S_ .f32 0x7F800000#32
  let main_v20 : FVec F S3x5632 .f32 := broadcastInDim S3x5632 ![] bcast_S_S3x5632 main_cst_6
  let main_v21 : IVec S3x5632 1 := cmpf .olt main_v19 main_v20
  let main_c_7 : IVec S_ 1 := constantI S_ 1 1#1
  let main_v22 : IVec S_ 1 := (fun x v => Host.reduce IntOp.andi x v reducesTo_S3x5632_S_d0_1 h_S_) main_v21 main_c_7
  let main_v23 : IVec S_ 1 := andi main_v18 main_v22
  let main_v24 : FVec F S2x2048x5632 .f32 := Host.absf main_arg8
  let main_cst_8 : FVec F S_ .f32 := constant S_ .f32 0x7F800000#32
  let main_v25 : FVec F S2x2048x5632 .f32 := broadcastInDim S2x2048x5632 ![] bcast_S_S2x2048x5632 main_cst_8
  let main_v26 : IVec S2x2048x5632 1 := cmpf .olt main_v24 main_v25
  let main_c_9 : IVec S_ 1 := constantI S_ 1 1#1
  let main_v27 : IVec S_ 1 := (fun x v => Host.reduce IntOp.andi x v reducesTo_S2x2048x5632_S_d0_1_2 h_S_) main_v26 main_c_9
  let main_v28 : IVec S_ 1 := andi main_v23 main_v27
  main_v28

def fn {F : FTy → Type} [FloatOps F] (main_arg0 : FVec F S2x2048x1024 .f32) (main_arg1 : FVec F S1x1024 .f32) (main_arg2 : FVec F S2x1x1024 .f32) (main_arg3 : FVec F S2x1x1024 .f32) (main_arg4 : FVec F S1024x5632 .f32) (main_arg5 : FVec F S3x5632 .f32) (main_arg6 : FVec F S5632 .f32) (main_arg7 : FVec F S2x2048x1024 .f32) (main_arg8 : FVec F S2x2048x5632 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2x1x1024 .f32 := Host.absf main_arg2
  let main_cst_2 : FVec F S_ .f32 := constant S_ .f32 0x7F800000#32
  let main_v10 : FVec F S2x1x1024 .f32 := broadcastInDim S2x1x1024 ![] bcast_S_S2x1x1024 main_cst_2
  let main_v11 : IVec S2x1x1024 1 := cmpf .olt main_v9 main_v10
  let main_c_3 : IVec S_ 1 := constantI S_ 1 1#1
  let main_v12 : IVec S_ 1 := (fun x v => Host.reduce IntOp.andi x v reducesTo_S2x1x1024_S_d0_1_2 h_S_) main_v11 main_c_3
  let main_v13 : IVec S_ 1 := andi main_v8 main_v12
  let main_v14 : FVec F S1024x5632 .f32 := Host.absf main_arg4
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg5 main_arg8 main_v13 main_v16
-- ==== Pre_norm_finite.lean ====
abbrev S2x2048x1024 : Shape := ⟨3, ![2, 2048, 1024]⟩
abbrev S1x1024 : Shape := ⟨2, ![1, 1024]⟩
abbrev S2x1x1024 : Shape := ⟨3, ![2, 1, 1024]⟩
abbrev S1024x2048 : Shape := ⟨2, ![1024, 2048]⟩
abbrev S2x2048x2048 : Shape := ⟨3, ![2, 2048, 2048]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S2x2048x2048 : S_.BroadcastsInDim S2x2048x2048 (![] : Fin 0 → Fin S2x2048x2048.rank)
  reducesTo_S2x2048x2048_S_d0_1_2 : S2x2048x2048.ReducesTo [0, 1, 2] S_

variable [Facts]

def fn_part1 {F : FTy → Type} [FloatOps F] (main_arg6 : FVec F S2x2048x2048 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2x2048x2048 .f32 := Host.absf main_arg6
  let main_cst_6 : FVec F S_ .f32 := constant S_ .f32 0x7F800000#32
  let main_v20 : FVec F S2x2048x2048 .f32 := broadcastInDim S2x2048x2048 ![] bcast_S_S2x2048x2048 main_cst_6
  let main_v21 : IVec S2x2048x2048 1 := cmpf .olt main_v19 main_v20
  let main_c_7 : IVec S_ 1 := constantI S_ 1 1#1
  let main_v22 : IVec S_ 1 := (fun x v => Host.reduce IntOp.andi x v reducesTo_S2x2048x2048_S_d0_1_2 h_S_) main_v21 main_c_7
  let main_v23 : IVec S_ 1 := andi main_v18 main_v22
  main_v23

def fn {F : FTy → Type} [FloatOps F] (main_arg0 : FVec F S2x2048x1024 .f32) (main_arg1 : FVec F S1x1024 .f32) (main_arg2 : FVec F S2x1x1024 .f32) (main_arg3 : FVec F S2x1x1024 .f32) (main_arg4 : FVec F S1024x2048 .f32) (main_arg5 : FVec F S2x2048x1024 .f32) (main_arg6 : FVec F S2x2048x2048 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2x1x1024 .f32 := Host.absf main_arg2
  let main_cst_2 : FVec F S_ .f32 := constant S_ .f32 0x7F800000#32
  let main_v10 : FVec F S2x1x1024 .f32 := broadcastInDim S2x1x1024 ![] bcast_S_S2x1x1024 main_cst_2
  let main_v11 : IVec S2x1x1024 1 := cmpf .olt main_v9 main_v10
  let main_c_3 : IVec S_ 1 := constantI S_ 1 1#1
  let main_v12 : IVec S_ 1 := (fun x v => Host.reduce IntOp.andi x v reducesTo_S2x1x1024_S_d0_1_2 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg6 main_v13 main_v16
-- ==== Loss.lean ====
abbrev S2x2048x1024 : Shape := ⟨3, ![2, 2048, 1024]⟩
abbrev S8x128 : Shape := ⟨2, ![8, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S8x128, .f32⟩
  | .hbm, ⟨3, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S8x128, .f32⟩
  | .local _ .vmem, ⟨5, _⟩ => ⟨S1x512x1024, .f32⟩
  | .local _ .vmem, ⟨6, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LossRefIdeal.lean ====
abbrev S2x2048x1024 : Shape := ⟨3, ![2, 2048, 1024]⟩
abbrev S_ : Shape := ⟨0, ![]⟩
abbrev S2x2048 : Shape := ⟨2, ![2, 2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x2048, .f32⟩
  | .hbm, ⟨21, _⟩ => ⟨S_, .f32⟩
  | .hbm, ⟨22, _⟩ => ⟨S2x2048, .f32⟩
  | .hbm, ⟨23, _⟩ => ⟨S2x2048, .f32⟩
  | .hbm, ⟨24, _⟩ => ⟨S2x2048x1024, .f32⟩
  | .hbm, ⟨25, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Gate.lean ====
abbrev S2x2048x2816 : Shape := ⟨3, ![2, 2048, 2816]⟩
abbrev S2x1x1024 : Shape := ⟨3, ![2, 1, 1024]⟩
abbrev S2816x1024 : Shape := ⟨2, ![2816, 1024]⟩
abbrev S2x2048x1024 : Shape := ⟨3, ![2, 2048, 1024]⟩
abbrev S1x512x1024 : Shape := ⟨3, ![1, 512, 1024]⟩
abbrev S1x1x1024 : Shape := ⟨3, ![1, 1, 1024]⟩
abbrev S1x512x2816 : Shape := ⟨3, ![1, 512, 2816]⟩
abbrev S1x1024 : Shape := ⟨2, ![1, 1024]⟩
abbrev S512x1024 : Shape := ⟨2, ![512, 1024]⟩
abbrev S1024 : Shape := ⟨1, ![1024]⟩
abbrev S512x2816 : Shape := ⟨2, ![512, 2816]⟩

abbrev nBuf : Space → Nat
  | .hbm => 9
  | .vmem => 13
  | .smem => 0
  | _ => 0

abbrev bufTy : (tb : Table) → Fin (tcTables nBuf tb) → BufTy
  | .hbm, ⟨0, _⟩ => ⟨S2x2048x2816, .f32⟩
  | .hbm, ⟨1, _⟩ => ⟨S2x1x1024, .f32⟩
  | .hbm, ⟨2, _⟩ => ⟨S2816x1024, .f32⟩
  | .hbm, ⟨3, _⟩ => ⟨S2x2048x1024, .f32⟩
  | .hbm, ⟨4, _⟩ => ⟨S2x2048x1024, .f32⟩
  | .hbm, ⟨5, _⟩ => ⟨S2816x1024, .bf16⟩
  | .hbm, ⟨6, _⟩ => ⟨S2x2048x2816, .f32⟩
  | .hbm, ⟨7, _⟩ => ⟨S2x2048x1024, .bf16⟩
  | .hbm, ⟨8, _⟩ => ⟨S2x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S2816x1024, .bf16⟩
  | .local _ .vmem, ⟨7, _⟩ => ⟨S1x512x2816, .f32⟩
  | .local _ .vmem, ⟨8, _⟩ => ⟨S1x512x2816, .f32⟩
  | .local _ .vmem, ⟨9, _⟩ => ⟨S1x512x1024, .bf16⟩
  | .local _ .vmem, ⟨10, _⟩ => ⟨S1x512x1024, .bf16⟩
  | .local _ .vmem, ⟨11, _⟩ => ⟨S1x1x1024, .f32⟩
  | .local _ .vmem, ⟨12, _⟩ => ⟨S1x1x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GateRefIdeal.lean ====
abbrev S2x2048x2816 : Shape := ⟨3, ![2, 2048, 2816]⟩
abbrev S2x1x1024 : Shape := ⟨3, ![2, 1, 1024]⟩
abbrev S2816x1024 : Shape := ⟨2, ![2816, 1024]⟩
abbrev S2x2048x1024 : Shape := ⟨3, ![2, 2048, 1024]⟩
abbrev S_ : Shape := ⟨0, ![]⟩
abbrev S2x1024 : Shape := ⟨2, ![2, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x1x1024, .f32⟩
  | .hbm, ⟨2, _⟩ => ⟨S2816x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x1024, .f32⟩
  | .hbm, ⟨12, _⟩ => ⟨S2x1x1024, .f32⟩
  | .hbm, ⟨13, _⟩ => ⟨S2x2048x2816, .f32⟩
  | .hbm, ⟨14, _⟩ => ⟨S2x2048x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Mix.lean ====
abbrev S2x2048x256 : Shape := ⟨3, ![2, 2048, 256]⟩
abbrev S2x2048x384 : Shape := ⟨3, ![2, 2048, 384]⟩
abbrev S2x1x1024 : Shape := ⟨3, ![2, 1, 1024]⟩
abbrev S1024x1024 : Shape := ⟨2, ![1024, 1024]⟩
abbrev S2x2048x1024 : Shape := ⟨3, ![2, 2048, 1024]⟩
abbrev S256x1024 : Shape := ⟨2, ![256, 1024]⟩
abbrev S384x1024 : Shape := ⟨2, ![384, 1024]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x384 : Shape := ⟨3, ![1, 512, 384]⟩
abbrev S1x1024 : Shape := ⟨2, ![1, 1024]⟩
abbrev S512x1024 : Shape := ⟨2, ![512, 1024]⟩
abbrev S1024 : Shape := ⟨1, ![1024]⟩
abbrev S512x256 : Shape := ⟨2, ![512, 256]⟩
abbrev S512x384 : Shape := ⟨2, ![512, 384]⟩

abbrev nBuf : Space → Nat
  | .hbm => 17
  | .vmem => 19
  | .smem => 0
  | _ => 0

abbrev bufTy : (tb : Table) → Fin (tcTables nBuf tb) → BufTy
  | .hbm, ⟨0, _⟩ => ⟨S2x2048x256, .f32⟩
  | .hbm, ⟨1, _⟩ => ⟨S2x2048x384, .f32⟩
  | .hbm, ⟨2, _⟩ => ⟨S2x2048x384, .f32⟩
  | .hbm, ⟨3, _⟩ => ⟨S2x1x1024, .f32⟩
  | .hbm, ⟨4, _⟩ => ⟨S1024x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S1024x1024, .bf16⟩
  | .hbm, ⟨9, _⟩ => ⟨S256x1024, .bf16⟩
  | .hbm, ⟨10, _⟩ => ⟨S384x1024, .bf16⟩
  | .hbm, ⟨11, _⟩ => ⟨S384x1024, .bf16⟩
  | .hbm, ⟨12, _⟩ => ⟨S2x2048x256, .f32⟩
  | .hbm, ⟨13, _⟩ => ⟨S2x2048x384, .f32⟩
  | .hbm, ⟨14, _⟩ => ⟨S2x2048x384, .f32⟩
  | .hbm, ⟨15, _⟩ => ⟨S2x2048x1024, .bf16⟩
  | .hbm, ⟨16, _⟩ => ⟨S2x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .bf16⟩
  | .local _ .vmem, ⟨7, _⟩ => ⟨S384x1024, .bf16⟩
  | .local _ .vmem, ⟨8, _⟩ => ⟨S384x1024, .bf16⟩
  | .local _ .vmem, ⟨9, _⟩ => ⟨S1x512x256, .f32⟩
  | .local _ .vmem, ⟨10, _⟩ => ⟨S1x512x256, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x1024, .bf16⟩
  | .local _ .vmem, ⟨16, _⟩ => ⟨S1x512x1024, .bf16⟩
  | .local _ .vmem, ⟨17, _⟩ => ⟨S1x1x1024, .f32⟩
  | .local _ .vmem, ⟨18, _⟩ => ⟨S1x1x1024, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MixRefIdeal.lean ====
abbrev S2x2048x256 : Shape := ⟨3, ![2, 2048, 256]⟩
abbrev S2x2048x384 : Shape := ⟨3, ![2, 2048, 384]⟩
abbrev S2x1x1024 : Shape := ⟨3, ![2, 1, 1024]⟩
abbrev S1024x1024 : Shape := ⟨2, ![1024, 1024]⟩
abbrev S2x2048x1024 : Shape := ⟨3, ![2, 2048, 1024]⟩
abbrev S_ : Shape := ⟨0, ![]⟩
abbrev S2x1024 : Shape := ⟨2, ![2, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x384, .f32⟩
  | .hbm, ⟨2, _⟩ => ⟨S2x2048x384, .f32⟩
  | .hbm, ⟨3, _⟩ => ⟨S2x1x1024, .f32⟩
  | .hbm, ⟨4, _⟩ => ⟨S1024x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x1024, .f32⟩
  | .hbm, ⟨15, _⟩ => ⟨S2x1x1024, .f32⟩
  | .hbm, ⟨16, _⟩ => ⟨S2x2048x1024, .f32⟩
  | .hbm, ⟨17, _⟩ => ⟨S2x2048x256, .f32⟩
  | .hbm, ⟨18, _⟩ => ⟨S2x2048x384, .f32⟩
  | .hbm, ⟨19, _⟩ => ⟨S2x2048x384, .f32⟩
  | .hbm, ⟨20, _⟩ => ⟨S2x2048x1024, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Ada.lean ====
abbrev S16x1024 : Shape := ⟨2, ![16, 1024]⟩
abbrev S2x16x6144 : Shape := ⟨3, ![2, 16, 6144]⟩
abbrev S2x16x1536 : Shape := ⟨3, ![2, 16, 1536]⟩
abbrev S2x1024x1536 : Shape := ⟨3, ![2, 1024, 1536]⟩
abbrev S2x1x6144 : Shape := ⟨3, ![2, 1, 6144]⟩
abbrev S1x16x1536 : Shape := ⟨3, ![1, 16, 1536]⟩
abbrev S1x16x6144 : Shape := ⟨3, ![1, 16, 6144]⟩
abbrev S1x1024x1536 : Shape := ⟨3, ![1, 1024, 1536]⟩
abbrev S1x1x6144 : Shape := ⟨3, ![1, 1, 6144]⟩
abbrev S16x1536 : Shape := ⟨2, ![16, 1536]⟩
abbrev S1024x1536 : Shape := ⟨2, ![1024, 1536]⟩
abbrev S16x6144 : Shape := ⟨2, ![16, 6144]⟩
abbrev S6144 : Shape := ⟨1, ![6144]⟩
abbrev S1x6144 : Shape := ⟨2, ![1, 6144]⟩

abbrev nBuf : Space → Nat
  | .hbm => 5
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S2x16x6144, .f32⟩
  | .hbm, ⟨2, _⟩ => ⟨S2x16x1536, .f32⟩
  | .hbm, ⟨3, _⟩ => ⟨S2x1024x1536, .f32⟩
  | .hbm, ⟨4, _⟩ => ⟨S2x1x6144, .f32⟩
  | .local _ .vmem, ⟨0, _⟩ => ⟨S16x1024, .f32⟩
  | .local _ .vmem, ⟨1, _⟩ => ⟨S1x16x1536, .f32⟩
  | .local _ .vmem, ⟨2, _⟩ => ⟨S1x16x1536, .f32⟩
  | .local _ .vmem, ⟨3, _⟩ => ⟨S1x16x6144, .f32⟩
  | .local _ .vmem, ⟨4, _⟩ => ⟨S1x16x6144, .f32⟩
  | .local _ .vmem, ⟨5, _⟩ => ⟨S1x1024x1536, .f32⟩
  | .local _ .vmem, ⟨6, _⟩ => ⟨S1x1024x1536, .f32⟩
  | .local _ .vmem, ⟨7, _⟩ => ⟨S1x1x6144, .f32⟩
  | .local _ .vmem, ⟨8, _⟩ => ⟨S1x1x6144, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AdaRefIdeal.lean ====
abbrev S16x1024 : Shape := ⟨2, ![16, 1024]⟩
abbrev S2x16x6144 : Shape := ⟨3, ![2, 16, 6144]⟩
abbrev S_ : Shape := ⟨0, ![]⟩
abbrev S2x1024x6144 : Shape := ⟨3, ![2, 1024, 6144]⟩
abbrev S2x1x6144 : Shape := ⟨3, ![2, 1, 6144]⟩
abbrev S2x6144x16 : Shape := ⟨3, ![2, 6144, 16]⟩
abbrev S2x6144 : Shape := ⟨2, ![2, 6144]⟩
abbrev S2x6144x1024 : Shape := ⟨3, ![2, 6144, 1024]⟩
abbrev S2x1024x1536 : Shape := ⟨3, ![2, 1024, 1536]⟩

abbrev nBuf : Space → Nat
  | .hbm => 27
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x6144, .f32⟩
  | .hbm, ⟨2, _⟩ => ⟨S_, .f32⟩
  | .hbm, ⟨3, _⟩ => ⟨S2x1024x6144, .f32⟩
  | .hbm, ⟨4, _⟩ => ⟨S_, .f32⟩
  | .hbm, ⟨5, _⟩ => ⟨S2x1x6144, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S2x6144x16, .f32⟩
  | .hbm, ⟨16, _⟩ => ⟨S2x16x6144, .f32⟩
  | .hbm, ⟨17, _⟩ => ⟨S2x16x6144, .f32⟩
  | .hbm, ⟨18, _⟩ => ⟨S2x16x6144, .f32⟩
  | .hbm, ⟨19, _⟩ => ⟨S2x16x6144, .f32⟩
  | .hbm, ⟨20, _⟩ => ⟨S_, .f32⟩
  | .hbm, ⟨21, _⟩ => ⟨S2x6144, .f32⟩
  | .hbm, ⟨22, _⟩ => ⟨S2x1x6144, .f32⟩
  | .hbm, ⟨23, _⟩ => ⟨S2x6144x16, .f32⟩
  | .hbm, ⟨24, _⟩ => ⟨S2x6144x1024, .f32⟩
  | .hbm, ⟨25, _⟩ => ⟨S2x1024x6144, .f32⟩
  | .hbm, ⟨26, _⟩ => ⟨S2x1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Norm.lean ====
abbrev S2x2048x1024 : Shape := ⟨3, ![2, 2048, 1024]⟩
abbrev S1x1024 : Shape := ⟨2, ![1, 1024]⟩
abbrev S2x1x1024 : Shape := ⟨3, ![2, 1, 1024]⟩
abbrev S1024x2048 : Shape := ⟨2, ![1024, 2048]⟩
abbrev S2x2048x2048 : Shape := ⟨3, ![2, 2048, 2048]⟩
abbrev S2048x1024 : Shape := ⟨2, ![2048, 1024]⟩
abbrev S1x512x1024 : Shape := ⟨3, ![1, 512, 1024]⟩
abbrev S1024x1024 : Shape := ⟨2, ![1024, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x2048, .f32⟩
  | .hbm, ⟨5, _⟩ => ⟨S2x2048x1024, .f32⟩
  | .hbm, ⟨6, _⟩ => ⟨S2x2048x2048, .f32⟩
  | .hbm, ⟨7, _⟩ => ⟨S2x2048x2048, .bf16⟩
  | .hbm, ⟨8, _⟩ => ⟨S2048x1024, .f32⟩
  | .hbm, ⟨9, _⟩ => ⟨S2048x1024, .bf16⟩
  | .hbm, ⟨10, _⟩ => ⟨S2x2048x1024, .f32⟩
  | .hbm, ⟨11, _⟩ => ⟨S2x2048x2048, .bf16⟩
  | .hbm, ⟨12, _⟩ => ⟨S2x1x1024, .f32⟩
  | .hbm, ⟨13, _⟩ => ⟨S2x1x1024, .f32⟩
  | .hbm, ⟨14, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨3, ![2, 4, 2], ![false, false, false]⟩

def k0_cond4 (i : grid0.Coords) : BitVec 1 :=
  let arg2 : BitVec 32 := BitVec.ofNat 32 (i 2).val
  let c1_i32 : BitVec 32 := 1#32
  let v30 : BitVec 1 := Scalar.cmpi .eq arg2 c1_i32
  let v31 : BitVec 32 := Scalar.extui v30
  let c0_i32_19 : BitVec 32 := 0#32
  let v32 : BitVec 1 := Scalar.cmpi .ne v31 c0_i32_19
  v32

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg2 : BitVec 32 := BitVec.ofNat 32 (i 2).val
  let c0_i32_4 : BitVec 32 := 0#32
  let v8 : BitVec 1 := Scalar.cmpi .eq arg2 c0_i32_4
  let arg1 : BitVec 32 := BitVec.ofNat 32 (i 1).val
  let c0_i32_5 : BitVec 32 := 0#32
  let v9 : BitVec 1 := Scalar.cmpi .eq arg1 c0_i32_5
  let v10 : BitVec 1 := Scalar.andi v8 v9
  let arg0 : BitVec 32 := BitVec.ofNat 32 (i 0).val
  let c0_i32_6 : BitVec 32 := 0#32
  let v11 : BitVec 1 := Scalar.cmpi .eq arg0 c0_i32_6
  let v12 : BitVec 1 := Scalar.andi v10 v11
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== NormRefIdeal.lean ====
abbrev S2x2048x1024 : Shape := ⟨3, ![2, 2048, 1024]⟩
abbrev S1x1024 : Shape := ⟨2, ![1, 1024]⟩
abbrev S2x1x1024 : Shape := ⟨3, ![2, 1, 1024]⟩
abbrev S1024x2048 : Shape := ⟨2, ![1024, 2048]⟩
abbrev S2x2048x2048 : Shape := ⟨3, ![2, 2048, 2048]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x2048, .f32⟩
  | .hbm, ⟨5, _⟩ => ⟨S2x2048x1024, .f32⟩
  | .hbm, ⟨6, _⟩ => ⟨S2x2048x2048, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x2048, .f32⟩
  | .hbm, ⟨36, _⟩ => ⟨S2x2048x1024, .f32⟩
  | .hbm, ⟨37, _⟩ => ⟨S_, .f32⟩
  | .hbm, ⟨38, _⟩ => ⟨S2x1024, .f32⟩
  | .hbm, ⟨39, _⟩ => ⟨S2x1x1024, .f32⟩
  | .hbm, ⟨40, _⟩ => ⟨S2x2048x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S2x2048x1, .f32⟩
  | .hbm, ⟨62, _⟩ => ⟨S_, .f32⟩
  | .hbm, ⟨63, _⟩ => ⟨S2x2048x1, .f32⟩
  | .hbm, ⟨64, _⟩ => ⟨S2x2048x1, .f32⟩
  | .hbm, ⟨65, _⟩ => ⟨S_, .f32⟩
  | .hbm, ⟨66, _⟩ => ⟨S2x2048, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x1024, .f32⟩
  | .hbm, ⟨72, _⟩ => ⟨S1x1024, .f32⟩
  | .hbm, ⟨73, _⟩ => ⟨S2x2048x2048, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== NormConv.lean ====
abbrev S2x2048x1024 : Shape := ⟨3, ![2, 2048, 1024]⟩
abbrev S1x1024 : Shape := ⟨2, ![1, 1024]⟩
abbrev S2x1x1024 : Shape := ⟨3, ![2, 1, 1024]⟩
abbrev S1024x5632 : Shape := ⟨2, ![1024, 5632]⟩
abbrev S3x5632 : Shape := ⟨2, ![3, 5632]⟩
abbrev S5632 : Shape := ⟨1, ![5632]⟩
abbrev S2x2048x5632 : Shape := ⟨3, ![2, 2048, 5632]⟩
abbrev S5632x1024 : Shape := ⟨2, ![5632, 1024]⟩
abbrev S1x512x1408 : Shape := ⟨3, ![1, 512, 1408]⟩
abbrev S1x16x1408 : Shape := ⟨3, ![1, 16, 1408]⟩
abbrev S3x1408 : Shape := ⟨2, ![3, 1408]⟩
abbrev S1408x1024 : Shape := ⟨2, ![1408, 1024]⟩
abbrev S1x512x1024 : Shape := ⟨3, ![1, 512, 1024]⟩
abbrev S1x1x1024 : Shape := ⟨3, ![1, 1, 1024]⟩
abbrev S512x1024 : Shape := ⟨2, ![512, 1024]⟩
abbrev S512x1408 : Shape := ⟨2, ![512, 1408]⟩
abbrev S512x1 : Shape := ⟨2, ![512, 1]⟩
abbrev S16x1408 : Shape := ⟨2, ![16, 1408]⟩
abbrev S1x1408 : Shape := ⟨2, ![1, 1408]⟩
abbrev S512 : Shape := ⟨1, ![512]⟩
abbrev S1024 : Shape := ⟨1, ![1024]⟩

abbrev nBuf : Space → Nat
  | .hbm => 17
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2x2048x1024, .f32⟩
  | .hbm, ⟨8, _⟩ => ⟨S2x2048x5632, .f32⟩
  | .hbm, ⟨9, _⟩ => ⟨S2x2048x5632, .bf16⟩
  | .hbm, ⟨10, _⟩ => ⟨S5632x1024, .f32⟩
  | .hbm, ⟨11, _⟩ => ⟨S5632x1024, .bf16⟩
  | .hbm, ⟨12, _⟩ => ⟨S2x2048x1024, .f32⟩
  | .hbm, ⟨13, _⟩ => ⟨S2x2048x5632, .bf16⟩
  | .hbm, ⟨14, _⟩ => ⟨S2x1x1024, .f32⟩
  | .hbm, ⟨15, _⟩ => ⟨S2x1x1024, .f32⟩
  | .hbm, ⟨16, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x16x1408, .bf16⟩
  | .local _ .vmem, ⟨3, _⟩ => ⟨S1x16x1408, .bf16⟩
  | .local _ .vmem, ⟨4, _⟩ => ⟨S3x1408, .f32⟩
  | .local _ .vmem, ⟨5, _⟩ => ⟨S3x1408, .f32⟩
  | .local _ .vmem, ⟨6, _⟩ => ⟨S1408x1024, .bf16⟩
  | .local _ .vmem, ⟨7, _⟩ => ⟨S1408x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1408, .bf16⟩
  | .local _ .vmem, ⟨18, _⟩ => ⟨S1x512x1408, .bf16⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | .local _ .vmem, ⟨24, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨3, ![2, 4, 4], ![false, false, false]⟩

def k0_cond4 (i : grid0.Coords) : BitVec 1 :=
  let arg2 : BitVec 32 := BitVec.ofNat 32 (i 2).val
  let c3_i32_28 : BitVec 32 := 3#32
  let v75 : BitVec 1 := Scalar.cmpi .eq arg2 c3_i32_28
  let v76 : BitVec 32 := Scalar.extui v75
  let c0_i32_29 : BitVec 32 := 0#32
  let v77 : BitVec 1 := Scalar.cmpi .ne v76 c0_i32_29
  v77

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg2 : BitVec 32 := BitVec.ofNat 32 (i 2).val
  let c0_i32_4 : BitVec 32 := 0#32
  let v8 : BitVec 1 := Scalar.cmpi .eq arg2 c0_i32_4
  let arg1 : BitVec 32 := BitVec.ofNat 32 (i 1).val
  let c0_i32_5 : BitVec 32 := 0#32
  let v9 : BitVec 1 := Scalar.cmpi .eq arg1 c0_i32_5
  let v10 : BitVec 1 := Scalar.andi v8 v9
  let arg0 : BitVec 32 := BitVec.ofNat 32 (i 0).val
  let c0_i32_6 : BitVec 32 := 0#32
  let v11 : BitVec 1 := Scalar.cmpi .eq arg0 c0_i32_6
  let v12 : BitVec 1 := Scalar.andi v10 v11
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  ![arg0.toNat, v2.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== NormConvRefIdeal.lean ====
abbrev S2x2048x1024 : Shape := ⟨3, ![2, 2048, 1024]⟩
abbrev S1x1024 : Shape := ⟨2, ![1, 1024]⟩
abbrev S2x1x1024 : Shape := ⟨3, ![2, 1, 1024]⟩
abbrev S1024x5632 : Shape := ⟨2, ![1024, 5632]⟩
abbrev S3x5632 : Shape := ⟨2, ![3, 5632]⟩
abbrev S5632 : Shape := ⟨1, ![5632]⟩
abbrev S2x2048x5632 : Shape := ⟨3, ![2, 2048, 5632]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S2x1024 : Shape := ⟨2, ![2, 1024]⟩

abbrev nBuf : Space → Nat
  | .hbm => 122
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2x2048x1024, .f32⟩
  | .hbm, ⟨8, _⟩ => ⟨S2x2048x5632, .f32⟩
  | .hbm, ⟨9, _⟩ => ⟨S1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x5632, .f32⟩
  | .hbm, ⟨38, _⟩ => ⟨S_, .f32⟩
  | .hbm, ⟨39, _⟩ => ⟨S2x2x5632, .f32⟩
  | .hbm, ⟨40, _⟩ => ⟨S2x2050x5632, .f32⟩
  | .hbm, ⟨41, _⟩ => ⟨S_, .f32⟩
  | .hbm, ⟨42, _⟩ => ⟨S2x2x5632, .f32⟩
  | .hbm, ⟨43, _⟩ => ⟨S1x5632, .f32⟩
  | .hbm, ⟨44, _⟩ => ⟨S5632, .f32⟩
  | .hbm, ⟨45, _⟩ => ⟨S2x2048x5632, .f32⟩
  | .hbm, ⟨46, _⟩ => ⟨S1x1x5632, .f32⟩
  | .hbm, ⟨47, _⟩ => ⟨S2x2048x5632, .f32⟩
  | .hbm, ⟨48, _⟩ => ⟨S2x2048x5632, .f32⟩
  | .hbm, ⟨49, _⟩ => ⟨S1x5632, .f32⟩
  | .hbm, ⟨50, _⟩ => ⟨S5632, .f32⟩
  | .hbm, ⟨51, _⟩ => ⟨S2x2048x5632, .f32⟩
  | .hbm, ⟨52, _⟩ => ⟨S1x1x5632, .f32⟩
  | .hbm, ⟨53, _⟩ => ⟨S2x2048x5632, .f32⟩
  | .hbm, ⟨54, _⟩ => ⟨S2x2048x5632, .f32⟩
  | .hbm, ⟨55, _⟩ => ⟨S2x2048x5632, .f32⟩
  | .hbm, ⟨56, _⟩ => ⟨S1x5632, .f32⟩
  | .hbm, ⟨57, _⟩ => ⟨S5632, .f32⟩
  | .hbm, ⟨58, _⟩ => ⟨S2x2048x5632, .f32⟩
  | .hbm, ⟨59, _⟩ => ⟨S1x1x5632, .f32⟩
  | .hbm, ⟨60, _⟩ => ⟨S2x2048x5632, .f32⟩
  | .hbm, ⟨61, _⟩ => ⟨S2x2048x5632, .f32⟩
  | .hbm, ⟨62, _⟩ => ⟨S2x2048x5632, .f32⟩
  | .hbm, ⟨63, _⟩ => ⟨S1x1x5632, .f32⟩
  | .hbm, ⟨64, _⟩ => ⟨S2x2048x5632, .f32⟩
  | .hbm, ⟨65, _⟩ => ⟨S2x2048x5632, .f32⟩
  | .hbm, ⟨66, _⟩ => ⟨S2x2048x5632, .f32⟩
  | .hbm, ⟨67, _⟩ => ⟨S2x2048x5632, .f32⟩
  | .hbm, ⟨68, _⟩ => ⟨S2x2048x5632, .f32⟩
  | .hbm, ⟨69, _⟩ => ⟨S2x2048x5632, .f32⟩
  | .hbm, ⟨70, _⟩ => ⟨S_, .f32⟩
  | .hbm, ⟨71, _⟩ => ⟨S2x2050x5632, .f32⟩
  | .hbm, ⟨72, _⟩ => ⟨S2x2048x5632, .f32⟩
  | .hbm, ⟨73, _⟩ => ⟨S2x2048x5632, .f32⟩
  | .hbm, ⟨74, _⟩ => ⟨S_, .f32⟩
  | .hbm, ⟨75, _⟩ => ⟨S2x2050x5632, .f32⟩
  | .hbm, ⟨76, _⟩ => ⟨S2x2050x5632, .f32⟩
  | .hbm, ⟨77, _⟩ => ⟨S2x2048x5632, .f32⟩
  | .hbm, ⟨78, _⟩ => ⟨S2x2048x5632, .f32⟩
  | .hbm, ⟨79, _⟩ => ⟨S_, .f32⟩
  | .hbm, ⟨80, _⟩ => ⟨S2x2050x5632, .f32⟩
  | .hbm, ⟨81, _⟩ => ⟨S2x2050x5632, .f32⟩
  | .hbm, ⟨82, _⟩ => ⟨S2x2x5632, .f32⟩
  | .hbm, ⟨83, _⟩ => ⟨S2x2048x5632, .f32⟩
  | .hbm, ⟨84, _⟩ => ⟨S2x2048x1024, .f32⟩
  | .hbm, ⟨85, _⟩ => ⟨S_, .f32⟩
  | .hbm, ⟨86, _⟩ => ⟨S2x1024, .f32⟩
  | .hbm, ⟨87, _⟩ => ⟨S2x1x1024, .f32⟩
  | .hbm, ⟨88, _⟩ => ⟨S2x2048x1024, .f32⟩
  | .hbm, ⟨89, _⟩ => ⟨S_, .f32⟩
  | .hbm, ⟨90, _⟩ => ⟨S2x1024, .f32⟩
  | .hbm, ⟨91, _⟩ => ⟨S2x1x1024, .f32⟩
  | .hbm, ⟨92, _⟩ => ⟨S2x2048x1024, .f32⟩
  | .hbm, ⟨93, _⟩ => ⟨S2x2048x1024, .f32⟩
  | .hbm, ⟨94, _⟩ => ⟨S2x2048x1024, .f32⟩
  | .hbm, ⟨95, _⟩ => ⟨S_, .f32⟩
  | .hbm, ⟨96, _⟩ => ⟨S1024, .f32⟩
  | .hbm, ⟨97, _⟩ => ⟨S1x1x1024, .f32⟩
  | .hbm, ⟨98, _⟩ => ⟨S2x2048x1024, .f32⟩
  | .hbm, ⟨99, _⟩ => ⟨S2x2048x1024, .f32⟩
  | .hbm, ⟨100, _⟩ => ⟨S_, .f32⟩
  | .hbm, ⟨101, _⟩ => ⟨S1024, .f32⟩
  | .hbm, ⟨102, _⟩ => ⟨S2x2048x1024, .f32⟩
  | .hbm, ⟨103, _⟩ => ⟨S_, .f32⟩
  | .hbm, ⟨104, _⟩ => ⟨S2x2048, .f32⟩
  | .hbm, ⟨105, _⟩ => ⟨S2x2048x1, .f32⟩
  | .hbm, ⟨106, _⟩ => ⟨S2x2048x1024, .f32⟩
  | .hbm, ⟨107, _⟩ => ⟨S2x2048x1024, .f32⟩
  | .hbm, ⟨108, _⟩ => ⟨S2x2048x1024, .f32⟩
  | .hbm, ⟨109, _⟩ => ⟨S2x2048x1, .f32⟩
  | .hbm, ⟨110, _⟩ => ⟨S_, .f32⟩
  | .hbm, ⟨111, _⟩ => ⟨S2x2048x1, .f32⟩
  | .hbm, ⟨112, _⟩ => ⟨S2x2048x1, .f32⟩
  | .hbm, ⟨113, _⟩ => ⟨S_, .f32⟩
  | .hbm, ⟨114, _⟩ => ⟨S2x2048, .f32⟩
  | .hbm, ⟨115, _⟩ => ⟨S2x2048x1024, .f32⟩
  | .hbm, ⟨116, _⟩ => ⟨S2x2048x1024, .f32⟩
  | .hbm, ⟨117, _⟩ => ⟨S2x2048x1024, .f32⟩
  | .hbm, ⟨118, _⟩ => ⟨S2x2048x1024, .f32⟩
  | .hbm, ⟨119, _⟩ => ⟨S2x2048x1024, .f32⟩
  | .hbm, ⟨120, _⟩ => ⟨S1x1024, .f32⟩
  | .hbm, ⟨121, _⟩ => ⟨S2x2048x5632, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_11 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_12 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_14 : Ref sig .tc := ⟨.hbm, 110, rfl⟩
abbrev main_v86 : Ref sig .tc := ⟨.hbm, 111, rfl⟩
abbrev main_v87 : Ref sig .tc := ⟨.hbm, 112, rfl⟩
abbrev main_cst_15 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩

abbrev nD : Nat := 1
abbrev τ : Topo := Topo.v7x

variable {F : FTy → Type} [FloatOps F]
-- ==== Mla.lean ====
abbrev S2x2048x6x96 : Shape := ⟨4, ![2, 2048, 6, 96]⟩
abbrev S2x2048x6x64 : Shape := ⟨4, ![2, 2048, 6, 64]⟩
abbrev S2x2048x384 : Shape := ⟨3, ![2, 2048, 384]⟩
abbrev S2x6x2048x2048 : Shape := ⟨4, ![2, 6, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x6x2048 : Shape := ⟨3, ![2, 6, 2048]⟩
abbrev S2x6x2048x1 : Shape := ⟨4, ![2, 6, 2048, 1]⟩
abbrev S2x3x2x2048 : Shape := ⟨4, ![2, 3, 2, 2048]⟩
abbrev S2x6x64x2048 : Shape := ⟨4, ![2, 6, 64, 2048]⟩
abbrev S2x3x8x2048 : Shape := ⟨4, ![2, 3, 8, 2048]⟩
abbrev S2x2048x6x128 : Shape := ⟨4, ![2, 2048, 6, 128]⟩
abbrev S2x2048x768 : Shape := ⟨3, ![2, 2048, 768]⟩
abbrev S1x1024x256 : Shape := ⟨3, ![1, 1024, 256]⟩
abbrev S1x2048x256 : Shape := ⟨3, ![1, 2048, 256]⟩
abbrev S1x2048x128 : Shape := ⟨3, ![1, 2048, 128]⟩
abbrev S1x1024x128 : Shape := ⟨3, ![1, 1024, 128]⟩
abbrev S1x1x8x1024 : Shape := ⟨4, ![1, 1, 8, 1024]⟩
abbrev S2048x256 : Shape := ⟨2, ![2048, 256]⟩
abbrev S2048x128 : Shape := ⟨2, ![2048, 128]⟩
abbrev S1024x128 : Shape := ⟨2, ![1024, 128]⟩
abbrev S8x128 : Shape := ⟨2, ![8, 128]⟩
abbrev S8x1024 : Shape := ⟨2, ![8, 1024]⟩
abbrev S1x1024 : Shape := ⟨2, ![1, 1024]⟩
abbrev S1x1x1x1024 : Shape := ⟨4, ![1, 1, 1, 1024]⟩
abbrev S1024x1024 : Shape := ⟨2, ![1024, 1024]⟩
abbrev S128x1024 : Shape := ⟨2, ![128, 1024]⟩

abbrev nBuf : Space → Nat
  | .hbm => 56
  | .vmem => 18
  | .smem => 0
  | _ => 0

abbrev bufTy : (tb : Table) → Fin (tcTables nBuf tb) → BufTy
  | .hbm, ⟨0, _⟩ => ⟨S2x2048x6x96, .f32⟩
  | .hbm, ⟨1, _⟩ => ⟨S2x2048x6x96, .f32⟩
  | .hbm, ⟨2, _⟩ => ⟨S2x2048x6x64, .f32⟩
  | .hbm, ⟨3, _⟩ => ⟨S2x2048x384, .f32⟩
  | .hbm, ⟨4, _⟩ => ⟨S2x6x2048x2048, .f32⟩
  | .hbm, ⟨5, _⟩ => ⟨S_, .f32⟩
  | .hbm, ⟨6, _⟩ => ⟨S2x6x2048x2048, .f32⟩
  | .hbm, ⟨7, _⟩ => ⟨S2x6x2048x2048, .f32⟩
  | .hbm, ⟨8, _⟩ => ⟨S2048, .i32⟩
  | .hbm, ⟨9, _⟩ => ⟨S1x2048, .i32⟩
  | .hbm, ⟨10, _⟩ => ⟨S2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S2x6x2048x2048, .i1⟩
  | .hbm, ⟨18, _⟩ => ⟨S2x6x2048x2048, .f32⟩
  | .hbm, ⟨19, _⟩ => ⟨S2x6x2048x2048, .f32⟩
  | .hbm, ⟨20, _⟩ => ⟨S_, .f32⟩
  | .hbm, ⟨21, _⟩ => ⟨S2x6x2048, .f32⟩
  | .hbm, ⟨22, _⟩ => ⟨S2x6x2048x1, .f32⟩
  | .hbm, ⟨23, _⟩ => ⟨S2x6x2048x2048, .f32⟩
  | .hbm, ⟨24, _⟩ => ⟨S2x6x2048x2048, .f32⟩
  | .hbm, ⟨25, _⟩ => ⟨S2x6x2048x2048, .f32⟩
  | .hbm, ⟨26, _⟩ => ⟨S_, .f32⟩
  | .hbm, ⟨27, _⟩ => ⟨S2x6x2048, .f32⟩
  | .hbm, ⟨28, _⟩ => ⟨S2x6x2048x1, .f32⟩
  | .hbm, ⟨29, _⟩ => ⟨S2x6x2048x1, .f32⟩
  | .hbm, ⟨30, _⟩ => ⟨S2x6x2048x1, .f32⟩
  | .hbm, ⟨31, _⟩ => ⟨S2x6x2048, .f32⟩
  | .hbm, ⟨32, _⟩ => ⟨S2x3x2x2048, .f32⟩
  | .hbm, ⟨33, _⟩ => ⟨S2x6x2048x2048, .f32⟩
  | .hbm, ⟨34, _⟩ => ⟨S2x6x2048x2048, .f32⟩
  | .hbm, ⟨35, _⟩ => ⟨S2x6x64x2048, .f32⟩
  | .hbm, ⟨36, _⟩ => ⟨S2x2048x6x64, .f32⟩
  | .hbm, ⟨37, _⟩ => ⟨S2x2048x384, .f32⟩
  | .hbm, ⟨38, _⟩ => ⟨S_, .i32⟩
  | .hbm, ⟨39, _⟩ => ⟨S_, .f32⟩
  | .hbm, ⟨40, _⟩ => ⟨S2x3x8x2048, .f32⟩
  | .hbm, ⟨41, _⟩ => ⟨S_, .i32⟩
  | .hbm, ⟨42, _⟩ => ⟨S_, .f32⟩
  | .hbm, ⟨43, _⟩ => ⟨S2x2048x6x128, .f32⟩
  | .hbm, ⟨44, _⟩ => ⟨S2x2048x768, .f32⟩
  | .hbm, ⟨45, _⟩ => ⟨S2x2048x768, .bf16⟩
  | .hbm, ⟨46, _⟩ => ⟨S_, .i32⟩
  | .hbm, ⟨47, _⟩ => ⟨S_, .f32⟩
  | .hbm, ⟨48, _⟩ => ⟨S2x2048x6x128, .f32⟩
  | .hbm, ⟨49, _⟩ => ⟨S2x2048x768, .f32⟩
  | .hbm, ⟨50, _⟩ => ⟨S2x2048x768, .bf16⟩
  | .hbm, ⟨51, _⟩ => ⟨S2x2048x384, .f32⟩
  | .hbm, ⟨52, _⟩ => ⟨S2x2048x384, .bf16⟩
  | .hbm, ⟨53, _⟩ => ⟨S2x2048x768, .f32⟩
  | .hbm, ⟨54, _⟩ => ⟨S2x2048x768, .f32⟩
  | .hbm, ⟨55, _⟩ => ⟨S2x2048x384, .f32⟩
  | .local _ .vmem, ⟨0, _⟩ => ⟨S1x1024x256, .bf16⟩
  | .local _ .vmem, ⟨1, _⟩ => ⟨S1x1024x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1024x128, .f32⟩
  | .local _ .vmem, ⟨7, _⟩ => ⟨S1x1024x128, .f32⟩
  | .local _ .vmem, ⟨8, _⟩ => ⟨S1x1x8x1024, .f32⟩
  | .local _ .vmem, ⟨9, _⟩ => ⟨S1x1x8x1024, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x256, .f32⟩
  | .local _ .vmem, ⟨13, _⟩ => ⟨S1x1024x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x128, .f32⟩
  | .local _ .vmem, ⟨17, _⟩ => ⟨S1x2048x128, .f32⟩
  | _, _ => ⟨S2x2048x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call1_v0 : Ref sig .tc := ⟨.hbm, 39, rfl⟩
abbrev main_v27 : Ref sig .tc := ⟨.hbm, 40, rfl⟩
abbrev main_c_3 : Ref sig .tc := ⟨.hbm, 41, rfl⟩
abbrev main_call2_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_call3_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v36_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 3, 2], ![false, false, false]⟩

@[reducible] def k0_t1_loop (i : grid0.Coords) : Scf.Loop 32 :=
  let c0_i32_29 : BitVec 32 := 0#32
  let arg2 : BitVec 32 := BitVec.ofNat 32 (i 2).val
  let v61 : BitVec 32 := Scalar.subi arg2 c0_i32_29
  let c1_i32 : BitVec 32 := 1#32
  let v63 : BitVec 32 := Scalar.divsi v61 c1_i32
  let v64 : BitVec 32 := Scalar.muli v63 c1_i32
  let v65 : BitVec 32 := Scalar.addi c0_i32_29 v64
  let c1_i32_30 : BitVec 32 := 1#32
  ⟨c0_i32_29, v65, c1_i32_30⟩
def k0_mult1 (i : grid0.Coords) (k0_t1 : Fin (k0_t1_loop i).trips) : BitVec 32 :=
  let c0_i32_29 : BitVec 32 := 0#32
  let c1_i32_30 : BitVec 32 := 1#32
  let arg12 : BitVec 32 := Scf.iv c0_i32_29 c1_i32_30 k0_t1
  let c1024_i32_72 : BitVec 32 := 1024#32
  let v154 : BitVec 32 := Scalar.muli arg12 c1024_i32_72
  v154
def k0_off1 (i : grid0.Coords) (k0_t1 : Fin (k0_t1_loop i).trips) : Fin 3 → Nat :=
  let c0_73 : Index := 0#32
  let c0_i32_29 : BitVec 32 := 0#32
  let c1_i32_30 : BitVec 32 := 1#32
  let arg12 : BitVec 32 := Scf.iv c0_i32_29 c1_i32_30 k0_t1
  let c1024_i32_72 : BitVec 32 := 1024#32
  let v154 : BitVec 32 := Scalar.muli arg12 c1024_i32_72
  let v155 : BitVec 32 := v154
  let v156 : Index := Scalar.indexCast v155
  let c0_74 : Index := 0#32
  ![0, v156.toNat, 0]
def k0_off2 (i : grid0.Coords) (k0_t1 : Fin (k0_t1_loop i).trips) : Fin 3 → Nat :=
  let c0_75 : Index := 0#32
  let c0_i32_29 : BitVec 32 := 0#32
  let c1_i32_30 : BitVec 32 := 1#32
  let arg12 : BitVec 32 := Scf.iv c0_i32_29 c1_i32_30 k0_t1
  let c1024_i32_72 : BitVec 32 := 1024#32
  let v154 : BitVec 32 := Scalar.muli arg12 c1024_i32_72
  let v155 : BitVec 32 := v154
  let v159 : Index := Scalar.indexCast v155
  let c0_76 : Index := 0#32
  ![0, v159.toNat, 0]
def k0_off3 (i : grid0.Coords) (k0_t1 : Fin (k0_t1_loop i).trips) : Fin 3 → Nat :=
  let c0_84 : Index := 0#32
  let c0_i32_29 : BitVec 32 := 0#32
  let c1_i32_30 : BitVec 32 := 1#32
  let arg12 : BitVec 32 := Scf.iv c0_i32_29 c1_i32_30 k0_t1
  let c1024_i32_72 : BitVec 32 := 1024#32
  let v154 : BitVec 32 := Scalar.muli arg12 c1024_i32_72
  let v155 : BitVec 32 := v154
  let v180 : Index := Scalar.indexCast v155
  let c128_85 : Index := 128#32
  ![0, v180.toNat, 128]
@[reducible] def k0_t2_loop (i : grid0.Coords) : Scf.Loop 32 :=
  let c0_i32_29 : BitVec 32 := 0#32
  let arg2 : BitVec 32 := BitVec.ofNat 32 (i 2).val
  let v61 : BitVec 32 := Scalar.subi arg2 c0_i32_29
  let c1_i32 : BitVec 32 := 1#32
  let v63 : BitVec 32 := Scalar.divsi v61 c1_i32
  let v64 : BitVec 32 := Scalar.muli v63 c1_i32
  let v65 : BitVec 32 := Scalar.addi c0_i32_29 v64
  let v62 : BitVec 32 := Scalar.addi c0_i32_29 v61
  let c1_i32_31 : BitVec 32 := 1#32
  ⟨v65, v62, c1_i32_31⟩
def k0_mult2 (i : grid0.Coords) (k0_t2 : Fin (k0_t2_loop i).trips) : BitVec 32 :=
  let c0_i32_29 : BitVec 32 := 0#32
  let arg2 : BitVec 32 := BitVec.ofNat 32 (i 2).val
  let v61 : BitVec 32 := Scalar.subi arg2 c0_i32_29
  let c1_i32 : BitVec 32 := 1#32
  let v63 : BitVec 32 := Scalar.divsi v61 c1_i32
  let v64 : BitVec 32 := Scalar.muli v63 c1_i32
  let v65 : BitVec 32 := Scalar.addi c0_i32_29 v64
  let c1_i32_31 : BitVec 32 := 1#32
  let arg12 : BitVec 32 := Scf.iv v65 c1_i32_31 k0_t2
  let c1024_i32_72 : BitVec 32 := 1024#32
  let v154 : BitVec 32 := Scalar.muli arg12 c1024_i32_72
  v154
def k0_off4 (i : grid0.Coords) (k0_t2 : Fin (k0_t2_loop i).trips) : Fin 3 → Nat :=
  let c0_73 : Index := 0#32
  let c0_i32_29 : BitVec 32 := 0#32
  let arg2 : BitVec 32 := BitVec.ofNat 32 (i 2).val
  let v61 : BitVec 32 := Scalar.subi arg2 c0_i32_29
  let c1_i32 : BitVec 32 := 1#32
  let v63 : BitVec 32 := Scalar.divsi v61 c1_i32
  let v64 : BitVec 32 := Scalar.muli v63 c1_i32
  let v65 : BitVec 32 := Scalar.addi c0_i32_29 v64
  let c1_i32_31 : BitVec 32 := 1#32
  let arg12 : BitVec 32 := Scf.iv v65 c1_i32_31 k0_t2
  let c1024_i32_72 : BitVec 32 := 1024#32
  let v154 : BitVec 32 := Scalar.muli arg12 c1024_i32_72
  let v155 : BitVec 32 := v154
  let v156 : Index := Scalar.indexCast v155
  let c0_74 : Index := 0#32
  ![0, v156.toNat, 0]
def k0_off5 (i : grid0.Coords) (k0_t2 : Fin (k0_t2_loop i).trips) : Fin 3 → Nat :=
  let c0_75 : Index := 0#32
  let c0_i32_29 : BitVec 32 := 0#32
  let arg2 : BitVec 32 := BitVec.ofNat 32 (i 2).val
  let v61 : BitVec 32 := Scalar.subi arg2 c0_i32_29
  let c1_i32 : BitVec 32 := 1#32
  let v63 : BitVec 32 := Scalar.divsi v61 c1_i32
  let v64 : BitVec 32 := Scalar.muli v63 c1_i32
  let v65 : BitVec 32 := Scalar.addi c0_i32_29 v64
  let c1_i32_31 : BitVec 32 := 1#32
  let arg12 : BitVec 32 := Scf.iv v65 c1_i32_31 k0_t2
  let c1024_i32_72 : BitVec 32 := 1024#32
  let v154 : BitVec 32 := Scalar.muli arg12 c1024_i32_72
  let v155 : BitVec 32 := v154
  let v159 : Index := Scalar.indexCast v155
  let c0_76 : Index := 0#32
  ![0, v159.toNat, 0]
def k0_off6 (i : grid0.Coords) (k0_t2 : Fin (k0_t2_loop i).trips) : Fin 3 → Nat :=
  let c0_84 : Index := 0#32
  let c0_i32_29 : BitVec 32 := 0#32
  let arg2 : BitVec 32 := BitVec.ofNat 32 (i 2).val
  let v61 : BitVec 32 := Scalar.subi arg2 c0_i32_29
  let c1_i32 : BitVec 32 := 1#32
  let v63 : BitVec 32 := Scalar.divsi v61 c1_i32
  let v64 : BitVec 32 := Scalar.muli v63 c1_i32
  let v65 : BitVec 32 := Scalar.addi c0_i32_29 v64
  let c1_i32_31 : BitVec 32 := 1#32
  let arg12 : BitVec 32 := Scf.iv v65 c1_i32_31 k0_t2
  let c1024_i32_72 : BitVec 32 := 1024#32
  let v154 : BitVec 32 := Scalar.muli arg12 c1024_i32_72
  let v155 : BitVec 32 := v154
  let v180 : Index := Scalar.indexCast v155
  let c128_85 : Index := 128#32
  ![0, v180.toNat, 128]
def k0_mult3 (i : grid0.Coords) : BitVec 32 :=
  let arg2 : BitVec 32 := BitVec.ofNat 32 (i 2).val
  let c1024_i32 : BitVec 32 := 1024#32
  let v68 : BitVec 32 := Scalar.muli arg2 c1024_i32
  v68
def k0_off7 (i : grid0.Coords) : Fin 3 → Nat :=
  let c0_32 : Index := 0#32
  let arg2 : BitVec 32 := BitVec.ofNat 32 (i 2).val
  let c1024_i32 : BitVec 32 := 1024#32
  let v68 : BitVec 32 := Scalar.muli arg2 c1024_i32
  let v69 : BitVec 32 := v68
  let v70 : Index := Scalar.indexCast v69
  let c0_33 : Index := 0#32
  ![0, v70.toNat, 0]
def k0_off8 (i : grid0.Coords) : Fin 3 → Nat :=
  let c0_34 : Index := 0#32
  let arg2 : BitVec 32 := BitVec.ofNat 32 (i 2).val
  let c1024_i32 : BitVec 32 := 1024#32
  let v68 : BitVec 32 := Scalar.muli arg2 c1024_i32
  let v69 : BitVec 32 := v68
  let v73 : Index := Scalar.indexCast v69
  let c0_35 : Index := 0#32
  ![0, v73.toNat, 0]
def k0_off9 (i : grid0.Coords) : Fin 3 → Nat :=
  let c0_44 : Index := 0#32
  let arg2 : BitVec 32 := BitVec.ofNat 32 (i 2).val
  let c1024_i32 : BitVec 32 := 1024#32
  let v68 : BitVec 32 := Scalar.muli arg2 c1024_i32
  let v69 : BitVec 32 := v68
  let v97 : Index := Scalar.indexCast v69
  let c128_45 : Index := 128#32
  ![0, v97.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MlaIdeal.lean ====
variable {F : FTy → Type} [FloatOps F] [Named F]
def κ : String → Option EReal := fun
  | "mask" => some ⊥
  | _ => none
-- ==== MlaRefIdeal.lean ====
abbrev S2x2048x6x96 : Shape := ⟨4, ![2, 2048, 6, 96]⟩
abbrev S2x2048x6x64 : Shape := ⟨4, ![2, 2048, 6, 64]⟩
abbrev S2x2048x384 : Shape := ⟨3, ![2, 2048, 384]⟩
abbrev S2x6x2048x2048 : Shape := ⟨4, ![2, 6, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x6x2048 : Shape := ⟨3, ![2, 6, 2048]⟩
abbrev S2x6x2048x1 : Shape := ⟨4, ![2, 6, 2048, 1]⟩
abbrev S2x6x64x2048 : Shape := ⟨4, ![2, 6, 64, 2048]⟩
abbrev S2x6x2048x96 : Shape := ⟨4, ![2, 6, 2048, 96]⟩
abbrev S2x2048x6x128 : Shape := ⟨4, ![2, 2048, 6, 128]⟩
abbrev S2x2048x768 : Shape := ⟨3, ![2, 2048, 768]⟩

abbrev nBuf : Space → Nat
  | .hbm => 100
  | .vmem => 0
  | .smem => 0
  | _ => 0

abbrev bufTy : (tb : Table) → Fin (tcTables nBuf tb) → BufTy
  | .hbm, ⟨0, _⟩ => ⟨S2x2048x6x96, .f32⟩
  | .hbm, ⟨1, _⟩ => ⟨S2x2048x6x96, .f32⟩
  | .hbm, ⟨2, _⟩ => ⟨S2x2048x6x64, .f32⟩
  | .hbm, ⟨3, _⟩ => ⟨S2x2048x384, .f32⟩
  | .hbm, ⟨4, _⟩ => ⟨S2x6x2048x2048, .f32⟩
  | .hbm, ⟨5, _⟩ => ⟨S_, .f32⟩
  | .hbm, ⟨6, _⟩ => ⟨S2x6x2048x2048, .f32⟩
  | .hbm, ⟨7, _⟩ => ⟨S2x6x2048x2048, .f32⟩
  | .hbm, ⟨8, _⟩ => ⟨S2048, .i32⟩
  | .hbm, ⟨9, _⟩ => ⟨S1x2048, .i32⟩
  | .hbm, ⟨10, _⟩ => ⟨S2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S2x6x2048x2048, .i1⟩
  | .hbm, ⟨18, _⟩ => ⟨S2x6x2048x2048, .f32⟩
  | .hbm, ⟨19, _⟩ => ⟨S2x6x2048x2048, .f32⟩
  | .hbm, ⟨20, _⟩ => ⟨S_, .f32⟩
  | .hbm, ⟨21, _⟩ => ⟨S2x6x2048x2048, .f32⟩
  | .hbm, ⟨22, _⟩ => ⟨S_, .f32⟩
  | .hbm, ⟨23, _⟩ => ⟨S2x6x2048, .f32⟩
  | .hbm, ⟨24, _⟩ => ⟨S2x6x2048x1, .f32⟩
  | .hbm, ⟨25, _⟩ => ⟨S2x6x2048x2048, .f32⟩
  | .hbm, ⟨26, _⟩ => ⟨S2x6x2048x2048, .i1⟩
  | .hbm, ⟨27, _⟩ => ⟨S2x6x2048x2048, .f32⟩
  | .hbm, ⟨28, _⟩ => ⟨S_, .f32⟩
  | .hbm, ⟨29, _⟩ => ⟨S2x6x2048, .f32⟩
  | .hbm, ⟨30, _⟩ => ⟨S_, .f32⟩
  | .hbm, ⟨31, _⟩ => ⟨S2x6x2048, .f32⟩
  | .hbm, ⟨32, _⟩ => ⟨S2x6x2048, .f32⟩
  | .hbm, ⟨33, _⟩ => ⟨S_, .f32⟩
  | .hbm, ⟨34, _⟩ => ⟨S2x6x2048, .f32⟩
  | .hbm, ⟨35, _⟩ => ⟨S2x6x2048, .i1⟩
  | .hbm, ⟨36, _⟩ => ⟨S_, .f32⟩
  | .hbm, ⟨37, _⟩ => ⟨S2x6x2048, .f32⟩
  | .hbm, ⟨38, _⟩ => ⟨S2x6x2048, .i1⟩
  | .hbm, ⟨39, _⟩ => ⟨S_, .f32⟩
  | .hbm, ⟨40, _⟩ => ⟨S2x6x2048, .f32⟩
  | .hbm, ⟨41, _⟩ => ⟨S_, .f32⟩
  | .hbm, ⟨42, _⟩ => ⟨S2x6x2048, .f32⟩
  | .hbm, ⟨43, _⟩ => ⟨S_, .f32⟩
  | .hbm, ⟨44, _⟩ => ⟨S2x6x2048, .f32⟩
  | .hbm, ⟨45, _⟩ => ⟨S2x6x2048, .f32⟩
  | .hbm, ⟨46, _⟩ => ⟨S2x6x2048, .f32⟩
  | .hbm, ⟨47, _⟩ => ⟨S2x6x2048x1, .f32⟩
  | .hbm, ⟨48, _⟩ => ⟨S2x6x2048x2048, .f32⟩
  | .hbm, ⟨49, _⟩ => ⟨S2x6x2048x2048, .f32⟩
  | .hbm, ⟨50, _⟩ => ⟨S2x6x2048x2048, .f32⟩
  | .hbm, ⟨51, _⟩ => ⟨S_, .f32⟩
  | .hbm, ⟨52, _⟩ => ⟨S2x6x2048, .f32⟩
  | .hbm, ⟨53, _⟩ => ⟨S2x6x2048x1, .f32⟩
  | .hbm, ⟨54, _⟩ => ⟨S2x6x2048x2048, .f32⟩
  | .hbm, ⟨55, _⟩ => ⟨S2x6x2048x2048, .f32⟩
  | .hbm, ⟨56, _⟩ => ⟨S2x6x2048x1, .f32⟩
  | .hbm, ⟨57, _⟩ => ⟨S_, .f32⟩
  | .hbm, ⟨58, _⟩ => ⟨S2x6x2048x1, .f32⟩
  | .hbm, ⟨59, _⟩ => ⟨S2x6x2048x1, .f32⟩
  | .hbm, ⟨60, _⟩ => ⟨S2x6x64x2048, .f32⟩
  | .hbm, ⟨61, _⟩ => ⟨S2x2048x6x64, .f32⟩
  | .hbm, ⟨62, _⟩ => ⟨S2x2048x6x64, .f32⟩
  | .hbm, ⟨63, _⟩ => ⟨S2x6x64x2048, .f32⟩
  | .hbm, ⟨64, _⟩ => ⟨S2x6x2048x2048, .f32⟩
  | .hbm, ⟨65, _⟩ => ⟨S2x6x64x2048, .f32⟩
  | .hbm, ⟨66, _⟩ => ⟨S2x2048x6x64, .f32⟩
  | .hbm, ⟨67, _⟩ => ⟨S2x6x2048x2048, .f32⟩
  | .hbm, ⟨68, _⟩ => ⟨S2x6x2048x2048, .f32⟩
  | .hbm, ⟨69, _⟩ => ⟨S2x6x2048x2048, .f32⟩
  | .hbm, ⟨70, _⟩ => ⟨S_, .f32⟩
  | .hbm, ⟨71, _⟩ => ⟨S2x6x2048, .f32⟩
  | .hbm, ⟨72, _⟩ => ⟨S2x6x2048x1, .f32⟩
  | .hbm, ⟨73, _⟩ => ⟨S2x6x2048x1, .f32⟩
  | .hbm, ⟨74, _⟩ => ⟨S2x6x2048x2048, .f32⟩
  | .hbm, ⟨75, _⟩ => ⟨S2x6x2048x2048, .f32⟩
  | .hbm, ⟨76, _⟩ => ⟨S_, .f32⟩
  | .hbm, ⟨77, _⟩ => ⟨S2x6x2048, .f32⟩
  | .hbm, ⟨78, _⟩ => ⟨S2x6x2048x2048, .f32⟩
  | .hbm, ⟨79, _⟩ => ⟨S2x6x2048x2048, .f32⟩
  | .hbm, ⟨80, _⟩ => ⟨S2x6x2048x2048, .f32⟩
  | .hbm, ⟨81, _⟩ => ⟨S_, .f32⟩
  | .hbm, ⟨82, _⟩ => ⟨S2x6x2048x2048, .f32⟩
  | .hbm, ⟨83, _⟩ => ⟨S2x6x2048x2048, .f32⟩
  | .hbm, ⟨84, _⟩ => ⟨S_, .f32⟩
  | .hbm, ⟨85, _⟩ => ⟨S2x6x2048x2048, .f32⟩
  | .hbm, ⟨86, _⟩ => ⟨S2x6x2048x2048, .f32⟩
  | .hbm, ⟨87, _⟩ => ⟨S2x6x2048x96, .f32⟩
  | .hbm, ⟨88, _⟩ => ⟨S2x2048x6x96, .f32⟩
  | .hbm, ⟨89, _⟩ => ⟨S2x6x2048x96, .f32⟩
  | .hbm, ⟨90, _⟩ => ⟨S2x2048x6x96, .f32⟩
  | .hbm, ⟨91, _⟩ => ⟨S_, .i32⟩
  | .hbm, ⟨92, _⟩ => ⟨S_, .f32⟩
  | .hbm, ⟨93, _⟩ => ⟨S2x2048x6x128, .f32⟩
  | .hbm, ⟨94, _⟩ => ⟨S2x2048x768, .f32⟩
  | .hbm, ⟨95, _⟩ => ⟨S_, .i32⟩
  | .hbm, ⟨96, _⟩ => ⟨S_, .f32⟩
  | .hbm, ⟨97, _⟩ => ⟨S2x2048x6x128, .f32⟩
  | .hbm, ⟨98, _⟩ => ⟨S2x2048x768, .f32⟩
  | .hbm, ⟨99, _⟩ => ⟨S2x2048x384, .f32⟩
  | _, _ => ⟨S2x2048x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== MlaFwd.lean ====
abbrev S2x2048x6x96 : Shape := ⟨4, ![2, 2048, 6, 96]⟩
abbrev S2x2048x6x64 : Shape := ⟨4, ![2, 2048, 6, 64]⟩
abbrev S_ : Shape := ⟨0, ![]⟩
abbrev S2x2048x6x128 : Shape := ⟨4, ![2, 2048, 6, 128]⟩
abbrev S2x2048x768 : Shape := ⟨3, ![2, 2048, 768]⟩
abbrev S2x2048x384 : Shape := ⟨3, ![2, 2048, 384]⟩
abbrev S2x3x8x2048 : Shape := ⟨4, ![2, 3, 8, 2048]⟩
abbrev S1x1024x256 : Shape := ⟨3, ![1, 1024, 256]⟩
abbrev S1x2048x256 : Shape := ⟨3, ![1, 2048, 256]⟩
abbrev S1x2048x128 : Shape := ⟨3, ![1, 2048, 128]⟩
abbrev S1x1024x128 : Shape := ⟨3, ![1, 1024, 128]⟩
abbrev S1x1x8x1024 : Shape := ⟨4, ![1, 1, 8, 1024]⟩
abbrev S1024x128 : Shape := ⟨2, ![1024, 128]⟩
abbrev S1024x1024 : Shape := ⟨2, ![1024, 1024]⟩
abbrev S1x1024 : Shape := ⟨2, ![1, 1024]⟩
abbrev S128x1024 : Shape := ⟨2, ![128, 1024]⟩
abbrev S1024 : Shape := ⟨1, ![1024]⟩
abbrev S8x1024 : Shape := ⟨2, ![8, 1024]⟩
abbrev S1x1x1x1024 : Shape := ⟨4, ![1, 1, 1, 1024]⟩

abbrev nBuf : Space → Nat
  | .hbm => 17
  | .vmem => 10
  | .smem => 0
  | _ => 0

abbrev bufTy : (tb : Table) → Fin (tcTables nBuf tb) → BufTy
  | .hbm, ⟨0, _⟩ => ⟨S2x2048x6x96, .f32⟩
  | .hbm, ⟨1, _⟩ => ⟨S2x2048x6x96, .f32⟩
  | .hbm, ⟨2, _⟩ => ⟨S2x2048x6x64, .f32⟩
  | .hbm, ⟨3, _⟩ => ⟨S_, .i32⟩
  | .hbm, ⟨4, _⟩ => ⟨S_, .f32⟩
  | .hbm, ⟨5, _⟩ => ⟨S2x2048x6x128, .f32⟩
  | .hbm, ⟨6, _⟩ => ⟨S2x2048x768, .f32⟩
  | .hbm, ⟨7, _⟩ => ⟨S2x2048x768, .bf16⟩
  | .hbm, ⟨8, _⟩ => ⟨S_, .i32⟩
  | .hbm, ⟨9, _⟩ => ⟨S_, .f32⟩
  | .hbm, ⟨10, _⟩ => ⟨S2x2048x6x128, .f32⟩
  | .hbm, ⟨11, _⟩ => ⟨S2x2048x768, .f32⟩
  | .hbm, ⟨12, _⟩ => ⟨S2x2048x768, .bf16⟩
  | .hbm, ⟨13, _⟩ => ⟨S2x2048x384, .f32⟩
  | .hbm, ⟨14, _⟩ => ⟨S2x2048x384, .bf16⟩
  | .hbm, ⟨15, _⟩ => ⟨S2x2048x384, .f32⟩
  | .hbm, ⟨16, _⟩ => ⟨S2x3x8x2048, .f32⟩
  | .local _ .vmem, ⟨0, _⟩ => ⟨S1x1024x256, .bf16⟩
  | .local _ .vmem, ⟨1, _⟩ => ⟨S1x1024x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1024x128, .f32⟩
  | .local _ .vmem, ⟨7, _⟩ => ⟨S1x1024x128, .f32⟩
  | .local _ .vmem, ⟨8, _⟩ => ⟨S1x1x8x1024, .f32⟩
  | .local _ .vmem, ⟨9, _⟩ => ⟨S1x1x8x1024, .f32⟩
  | _, _ => ⟨S2x2048x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 3, 2], ![false, false, false]⟩

@[reducible] def k0_t1_loop (i : grid0.Coords) : Scf.Loop 32 :=
  let c0_i32 : BitVec 32 := 0#32
  let arg2 : BitVec 32 := BitVec.ofNat 32 (i 2).val
  let v9 : BitVec 32 := Scalar.subi arg2 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_6 : BitVec 32 := 1#32
  ⟨c0_i32, v13, c1_i32_6⟩
def k0_mult1 (i : grid0.Coords) (k0_t1 : Fin (k0_t1_loop i).trips) : BitVec 32 :=
  let c0_i32 : BitVec 32 := 0#32
  let c1_i32_6 : BitVec 32 := 1#32
  let arg8 : BitVec 32 := Scf.iv c0_i32 c1_i32_6 k0_t1
  let c1024_i32_41 : BitVec 32 := 1024#32
  let v99 : BitVec 32 := Scalar.muli arg8 c1024_i32_41
  v99
def k0_off1 (i : grid0.Coords) (k0_t1 : Fin (k0_t1_loop i).trips) : Fin 3 → Nat :=
  let c0_42 : Index := 0#32
  let c0_i32 : BitVec 32 := 0#32
  let c1_i32_6 : BitVec 32 := 1#32
  let arg8 : BitVec 32 := Scf.iv c0_i32 c1_i32_6 k0_t1
  let c1024_i32_41 : BitVec 32 := 1024#32
  let v99 : BitVec 32 := Scalar.muli arg8 c1024_i32_41
  let v100 : BitVec 32 := v99
  let v101 : Index := Scalar.indexCast v100
  let c0_43 : Index := 0#32
  ![0, v101.toNat, 0]
def k0_off2 (i : grid0.Coords) (k0_t1 : Fin (k0_t1_loop i).trips) : Fin 3 → Nat :=
  let c0_44 : Index := 0#32
  let c0_i32 : BitVec 32 := 0#32
  let c1_i32_6 : BitVec 32 := 1#32
  let arg8 : BitVec 32 := Scf.iv c0_i32 c1_i32_6 k0_t1
  let c1024_i32_41 : BitVec 32 := 1024#32
  let v99 : BitVec 32 := Scalar.muli arg8 c1024_i32_41
  let v100 : BitVec 32 := v99
  let v104 : Index := Scalar.indexCast v100
  let c0_45 : Index := 0#32
  ![0, v104.toNat, 0]
def k0_off3 (i : grid0.Coords) (k0_t1 : Fin (k0_t1_loop i).trips) : Fin 3 → Nat :=
  let c0_51 : Index := 0#32
  let c0_i32 : BitVec 32 := 0#32
  let c1_i32_6 : BitVec 32 := 1#32
  let arg8 : BitVec 32 := Scf.iv c0_i32 c1_i32_6 k0_t1
  let c1024_i32_41 : BitVec 32 := 1024#32
  let v99 : BitVec 32 := Scalar.muli arg8 c1024_i32_41
  let v100 : BitVec 32 := v99
  let v127 : Index := Scalar.indexCast v100
  let c128_52 : Index := 128#32
  ![0, v127.toNat, 128]
@[reducible] def k0_t2_loop (i : grid0.Coords) : Scf.Loop 32 :=
  let c0_i32 : BitVec 32 := 0#32
  let arg2 : BitVec 32 := BitVec.ofNat 32 (i 2).val
  let v9 : BitVec 32 := Scalar.subi arg2 c0_i32
  let c1_i32 : BitVec 32 := 1#32
  let v11 : BitVec 32 := Scalar.divsi v9 c1_i32
  let v12 : BitVec 32 := Scalar.muli v11 c1_i32
  let v13 : BitVec 32 := Scalar.addi c0_i32 v12
  let v10 : BitVec 32 := Scalar.addi c0_i32 v9
  let c1_i32_7 : BitVec 32 := 1#32
  ⟨v13, v10, c1_i32_7⟩
def k0_mult2 (i : grid0.Coords) (k0_t2 : Fin (k0_t2_loop i).trips) : BitVec 32 :=
  let c0_i32 : BitVec 32 := 0#32
  let arg2 : BitVec 32 := BitVec.ofNat 32 (i 2).val
  let v9 : BitVec 32 := Scalar.subi arg2 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  let arg8 : BitVec 32 := Scf.iv v13 c1_i32_7 k0_t2
  let c1024_i32_41 : BitVec 32 := 1024#32
  let v99 : BitVec 32 := Scalar.muli arg8 c1024_i32_41
  v99
def k0_off4 (i : grid0.Coords) (k0_t2 : Fin (k0_t2_loop i).trips) : Fin 3 → Nat :=
  let c0_42 : Index := 0#32
  let c0_i32 : BitVec 32 := 0#32
  let arg2 : BitVec 32 := BitVec.ofNat 32 (i 2).val
  let v9 : BitVec 32 := Scalar.subi arg2 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  let arg8 : BitVec 32 := Scf.iv v13 c1_i32_7 k0_t2
  let c1024_i32_41 : BitVec 32 := 1024#32
  let v99 : BitVec 32 := Scalar.muli arg8 c1024_i32_41
  let v100 : BitVec 32 := v99
  let v101 : Index := Scalar.indexCast v100
  let c0_43 : Index := 0#32
  ![0, v101.toNat, 0]
def k0_off5 (i : grid0.Coords) (k0_t2 : Fin (k0_t2_loop i).trips) : Fin 3 → Nat :=
  let c0_44 : Index := 0#32
  let c0_i32 : BitVec 32 := 0#32
  let arg2 : BitVec 32 := BitVec.ofNat 32 (i 2).val
  let v9 : BitVec 32 := Scalar.subi arg2 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  let arg8 : BitVec 32 := Scf.iv v13 c1_i32_7 k0_t2
  let c1024_i32_41 : BitVec 32 := 1024#32
  let v99 : BitVec 32 := Scalar.muli arg8 c1024_i32_41
  let v100 : BitVec 32 := v99
  let v104 : Index := Scalar.indexCast v100
  let c0_45 : Index := 0#32
  ![0, v104.toNat, 0]
def k0_off6 (i : grid0.Coords) (k0_t2 : Fin (k0_t2_loop i).trips) : Fin 3 → Nat :=
  let c0_51 : Index := 0#32
  let c0_i32 : BitVec 32 := 0#32
  let arg2 : BitVec 32 := BitVec.ofNat 32 (i 2).val
  let v9 : BitVec 32 := Scalar.subi arg2 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  let arg8 : BitVec 32 := Scf.iv v13 c1_i32_7 k0_t2
  let c1024_i32_41 : BitVec 32 := 1024#32
  let v99 : BitVec 32 := Scalar.muli arg8 c1024_i32_41
  let v100 : BitVec 32 := v99
  let v127 : Index := Scalar.indexCast v100
  let c128_52 : Index := 128#32
  ![0, v127.toNat, 128]
def k0_mult3 (i : grid0.Coords) : BitVec 32 :=
  let arg2 : BitVec 32 := BitVec.ofNat 32 (i 2).val
  let c1024_i32 : BitVec 32 := 1024#32
  let v16 : BitVec 32 := Scalar.muli arg2 c1024_i32
  v16
def k0_off7 (i : grid0.Coords) : Fin 3 → Nat :=
  let c0_8 : Index := 0#32
  let arg2 : BitVec 32 := BitVec.ofNat 32 (i 2).val
  let c1024_i32 : BitVec 32 := 1024#32
  let v16 : BitVec 32 := Scalar.muli arg2 c1024_i32
  let v17 : BitVec 32 := v16
  let v18 : Index := Scalar.indexCast v17
  let c0_9 : Index := 0#32
  ![0, v18.toNat, 0]
def k0_off8 (i : grid0.Coords) : Fin 3 → Nat :=
  let c0_10 : Index := 0#32
  let arg2 : BitVec 32 := BitVec.ofNat 32 (i 2).val
  let c1024_i32 : BitVec 32 := 1024#32
  let v16 : BitVec 32 := Scalar.muli arg2 c1024_i32
  let v17 : BitVec 32 := v16
  let v21 : Index := Scalar.indexCast v17
  let c0_11 : Index := 0#32
  ![0, v21.toNat, 0]
def k0_off9 (i : grid0.Coords) : Fin 3 → Nat :=
  let c0_18 : Index := 0#32
  let arg2 : BitVec 32 := BitVec.ofNat 32 (i 2).val
  let c1024_i32 : BitVec 32 := 1024#32
  let v16 : BitVec 32 := Scalar.muli arg2 c1024_i32
  let v17 : BitVec 32 := v16
  let v47 : Index := Scalar.indexCast v17
  let c128_19 : Index := 128#32
  ![0, v47.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MlaFwdIdeal.lean ====
variable {F : FTy → Type} [FloatOps F] [Named F]
def κ : String → Option EReal := fun
  | "mask" => some ⊥
  | _ => none
-- ==== MlaFwdRefIdeal.lean ====
abbrev S2x2048x6x96 : Shape := ⟨4, ![2, 2048, 6, 96]⟩
abbrev S2x2048x6x64 : Shape := ⟨4, ![2, 2048, 6, 64]⟩
abbrev S2x6x2048x2048 : Shape := ⟨4, ![2, 6, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x6x2048 : Shape := ⟨3, ![2, 6, 2048]⟩
abbrev S2x6x2048x1 : Shape := ⟨4, ![2, 6, 2048, 1]⟩
abbrev S2x6x64x2048 : Shape := ⟨4, ![2, 6, 64, 2048]⟩
abbrev S2x3x2x2048 : Shape := ⟨4, ![2, 3, 2, 2048]⟩
abbrev S2x2048x384 : Shape := ⟨3, ![2, 2048, 384]⟩
abbrev S2x3x6x2048 : Shape := ⟨4, ![2, 3, 6, 2048]⟩
abbrev S2x3x8x2048 : Shape := ⟨4, ![2, 3, 8, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x6x96, .f32⟩
  | .hbm, ⟨1, _⟩ => ⟨S2x2048x6x96, .f32⟩
  | .hbm, ⟨2, _⟩ => ⟨S2x2048x6x64, .f32⟩
  | .hbm, ⟨3, _⟩ => ⟨S2x6x2048x2048, .f32⟩
  | .hbm, ⟨4, _⟩ => ⟨S_, .f32⟩
  | .hbm, ⟨5, _⟩ => ⟨S2x6x2048x2048, .f32⟩
  | .hbm, ⟨6, _⟩ => ⟨S2x6x2048x2048, .f32⟩
  | .hbm, ⟨7, _⟩ => ⟨S2048, .i32⟩
  | .hbm, ⟨8, _⟩ => ⟨S1x2048, .i32⟩
  | .hbm, ⟨9, _⟩ => ⟨S2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x6x2048x2048, .i1⟩
  | .hbm, ⟨17, _⟩ => ⟨S2x6x2048x2048, .f32⟩
  | .hbm, ⟨18, _⟩ => ⟨S2x6x2048x2048, .f32⟩
  | .hbm, ⟨19, _⟩ => ⟨S_, .f32⟩
  | .hbm, ⟨20, _⟩ => ⟨S2x6x2048, .f32⟩
  | .hbm, ⟨21, _⟩ => ⟨S_, .f32⟩
  | .hbm, ⟨22, _⟩ => ⟨S2x6x2048, .f32⟩
  | .hbm, ⟨23, _⟩ => ⟨S2x6x2048, .f32⟩
  | .hbm, ⟨24, _⟩ => ⟨S2x6x2048x1, .f32⟩
  | .hbm, ⟨25, _⟩ => ⟨S2x6x2048x2048, .f32⟩
  | .hbm, ⟨26, _⟩ => ⟨S2x6x2048x2048, .f32⟩
  | .hbm, ⟨27, _⟩ => ⟨S2x6x2048x2048, .f32⟩
  | .hbm, ⟨28, _⟩ => ⟨S_, .f32⟩
  | .hbm, ⟨29, _⟩ => ⟨S2x6x2048, .f32⟩
  | .hbm, ⟨30, _⟩ => ⟨S2x6x2048x1, .f32⟩
  | .hbm, ⟨31, _⟩ => ⟨S2x6x2048x2048, .f32⟩
  | .hbm, ⟨32, _⟩ => ⟨S2x6x2048x2048, .f32⟩
  | .hbm, ⟨33, _⟩ => ⟨S2x6x64x2048, .f32⟩
  | .hbm, ⟨34, _⟩ => ⟨S2x2048x6x64, .f32⟩
  | .hbm, ⟨35, _⟩ => ⟨S_, .f32⟩
  | .hbm, ⟨36, _⟩ => ⟨S2x6x2048, .f32⟩
  | .hbm, ⟨37, _⟩ => ⟨S2x6x2048x1, .f32⟩
  | .hbm, ⟨38, _⟩ => ⟨S2x6x2048x2048, .f32⟩
  | .hbm, ⟨39, _⟩ => ⟨S2x6x2048x2048, .f32⟩
  | .hbm, ⟨40, _⟩ => ⟨S2x6x2048x2048, .f32⟩
  | .hbm, ⟨41, _⟩ => ⟨S_, .f32⟩
  | .hbm, ⟨42, _⟩ => ⟨S2x6x2048, .f32⟩
  | .hbm, ⟨43, _⟩ => ⟨S2x6x2048x1, .f32⟩
  | .hbm, ⟨44, _⟩ => ⟨S2x6x2048x1, .f32⟩
  | .hbm, ⟨45, _⟩ => ⟨S2x6x2048x1, .f32⟩
  | .hbm, ⟨46, _⟩ => ⟨S2x3x2x2048, .f32⟩
  | .hbm, ⟨47, _⟩ => ⟨S2x2048x384, .f32⟩
  | .hbm, ⟨48, _⟩ => ⟨S_, .f32⟩
  | .hbm, ⟨49, _⟩ => ⟨S2x3x6x2048, .f32⟩
  | .hbm, ⟨50, _⟩ => ⟨S2x3x8x2048, .f32⟩
  | _, _ => ⟨S2x2048x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Rel.lean ====
abbrev S32x6 : Shape := ⟨2, ![32, 6]⟩
abbrev S6x128x256 : Shape := ⟨3, ![6, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8x128 : Shape := ⟨2, ![8, 128]⟩
abbrev S1x128x256 : Shape := ⟨3, ![1, 128, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 41
  | .vmem => 3
  | .smem => 0
  | _ => 0

abbrev bufTy : (tb : Table) → Fin (tcTables nBuf tb) → BufTy
  | .hbm, ⟨0, _⟩ => ⟨S32x6, .f32⟩
  | .hbm, ⟨1, _⟩ => ⟨S6x128x256, .f32⟩
  | .hbm, ⟨2, _⟩ => ⟨S128, .i32⟩
  | .hbm, ⟨3, _⟩ => ⟨S128x1, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i32⟩
  | .hbm, ⟨40, _⟩ => ⟨S8x128, .f32⟩
  | .local _ .vmem, ⟨0, _⟩ => ⟨S6x128x256, .f32⟩
  | .local _ .vmem, ⟨1, _⟩ => ⟨S128x256, .i32⟩
  | .local _ .vmem, ⟨2, _⟩ => ⟨S8x128, .f32⟩
  | _, _ => ⟨S32x6, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RelRefIdeal.lean ====
abbrev S32x6 : Shape := ⟨2, ![32, 6]⟩
abbrev S6x128x256 : Shape := ⟨3, ![6, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x6 : Shape := ⟨3, ![128, 256, 6]⟩
abbrev S6x32 : Shape := ⟨2, ![6, 32]⟩
abbrev S8x128 : Shape := ⟨2, ![8, 128]⟩

abbrev nBuf : Space → Nat
  | .hbm => 58
  | .vmem => 0
  | .smem => 0
  | _ => 0

abbrev bufTy : (tb : Table) → Fin (tcTables nBuf tb) → BufTy
  | .hbm, ⟨0, _⟩ => ⟨S32x6, .f32⟩
  | .hbm, ⟨1, _⟩ => ⟨S6x128x256, .f32⟩
  | .hbm, ⟨2, _⟩ => ⟨S128, .i32⟩
  | .hbm, ⟨3, _⟩ => ⟨S128x1, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S128x256x1, .i32⟩
  | .hbm, ⟨48, _⟩ => ⟨S128x256x6, .f32⟩
  | .hbm, ⟨49, _⟩ => ⟨S6x128x256, .f32⟩
  | .hbm, ⟨50, _⟩ => ⟨S128x256x6, .f32⟩
  | .hbm, ⟨51, _⟩ => ⟨S_, .f32⟩
  | .hbm, ⟨52, _⟩ => ⟨S32x6, .f32⟩
  | .hbm, ⟨53, _⟩ => ⟨S32x6, .f32⟩
  | .hbm, ⟨54, _⟩ => ⟨S6x32, .f32⟩
  | .hbm, ⟨55, _⟩ => ⟨S_, .i32⟩
  | .hbm, ⟨56, _⟩ => ⟨S_, .f32⟩
  | .hbm, ⟨57, _⟩ => ⟨S8x128, .f32⟩
  | _, _ => ⟨S32x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_c_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_10 : Ref sig .tc := ⟨.hbm, 55, rfl⟩
abbrev main_call1_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== RelFwd.lean ====
abbrev S32x6 : Shape := ⟨2, ![32, 6]⟩
abbrev S6x32 : Shape := ⟨2, ![6, 32]⟩
abbrev S_ : Shape := ⟨0, ![]⟩
abbrev S8x128 : Shape := ⟨2, ![8, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S6x128x256 : Shape := ⟨3, ![6, 128, 256]⟩
abbrev S1x8x128 : Shape := ⟨3, ![1, 8, 128]⟩
abbrev S1 : Shape := ⟨1, ![1]⟩
abbrev S1x1x1 : Shape := ⟨3, ![1, 1, 1]⟩
abbrev S1x1 : Shape := ⟨2, ![1, 1]⟩
abbrev S1x128x256 : Shape := ⟨3, ![1, 128, 256]⟩

abbrev nBuf : Space → Nat
  | .hbm => 44
  | .vmem => 3
  | .smem => 0
  | _ => 0

abbrev bufTy : (tb : Table) → Fin (tcTables nBuf tb) → BufTy
  | .hbm, ⟨0, _⟩ => ⟨S32x6, .f32⟩
  | .hbm, ⟨1, _⟩ => ⟨S6x32, .f32⟩
  | .hbm, ⟨2, _⟩ => ⟨S_, .i32⟩
  | .hbm, ⟨3, _⟩ => ⟨S_, .f32⟩
  | .hbm, ⟨4, _⟩ => ⟨S8x128, .f32⟩
  | .hbm, ⟨5, _⟩ => ⟨S128, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S_, .i32⟩
  | .hbm, ⟨10, _⟩ => ⟨S128x1, .i32⟩
  | .hbm, ⟨11, _⟩ => ⟨S128x1, .i32⟩
  | .hbm, ⟨12, _⟩ => ⟨S128x256, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S_, .i32⟩
  | .hbm, ⟨19, _⟩ => ⟨S128x256, .i32⟩
  | .hbm, ⟨20, _⟩ => ⟨S128x256, .i32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i32⟩
  | .hbm, ⟨43, _⟩ => ⟨S6x128x256, .f32⟩
  | .local _ .vmem, ⟨0, _⟩ => ⟨S8x128, .f32⟩
  | .local _ .vmem, ⟨1, _⟩ => ⟨S128x256, .i32⟩
  | .local _ .vmem, ⟨2, _⟩ => ⟨S6x128x256, .f32⟩
  | _, _ => ⟨S32x6, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RelFwdRefIdeal.lean ====
abbrev S32x6 : Shape := ⟨2, ![32, 6]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x6 : Shape := ⟨3, ![128, 256, 6]⟩
abbrev S6x128x256 : Shape := ⟨3, ![6, 128, 256]⟩

abbrev nBuf : Space → Nat
  | .hbm => 49
  | .vmem => 0
  | .smem => 0
  | _ => 0

abbrev bufTy : (tb : Table) → Fin (tcTables nBuf tb) → BufTy
  | .hbm, ⟨0, _⟩ => ⟨S32x6, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S128x256x1, .i32⟩
  | .hbm, ⟨47, _⟩ => ⟨S128x256x6, .f32⟩
  | .hbm, ⟨48, _⟩ => ⟨S6x128x256, .f32⟩
  | _, _ => ⟨S32x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Conv.lean ====
abbrev S2x2048x5632 : Shape := ⟨3, ![2, 2048, 5632]⟩
abbrev S3x5632 : Shape := ⟨2, ![3, 5632]⟩
abbrev S1x5632 : Shape := ⟨2, ![1, 5632]⟩
abbrev S2x2048x2816 : Shape := ⟨3, ![2, 2048, 2816]⟩
abbrev S8x5632 : Shape := ⟨2, ![8, 5632]⟩
abbrev S1x128x2816 : Shape := ⟨3, ![1, 128, 2816]⟩
abbrev S1x128x5632 : Shape := ⟨3, ![1, 128, 5632]⟩
abbrev S1x16x5632 : Shape := ⟨3, ![1, 16, 5632]⟩
abbrev S128x1 : Shape := ⟨2, ![128, 1]⟩
abbrev S1x128x128 : Shape := ⟨3, ![1, 128, 128]⟩
abbrev S128x128 : Shape := ⟨2, ![128, 128]⟩
abbrev S1x16x128 : Shape := ⟨3, ![1, 16, 128]⟩
abbrev S16x128 : Shape := ⟨2, ![16, 128]⟩
abbrev S1x128 : Shape := ⟨2, ![1, 128]⟩
abbrev S3x128 : Shape := ⟨2, ![3, 128]⟩
abbrev S128 : Shape := ⟨1, ![128]⟩

abbrev nBuf : Space → Nat
  | .hbm => 8
  | .vmem => 13
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S1x5632, .f32⟩
  | .hbm, ⟨3, _⟩ => ⟨S2x2048x2816, .f32⟩
  | .hbm, ⟨4, _⟩ => ⟨S2x2048x5632, .bf16⟩
  | .hbm, ⟨5, _⟩ => ⟨S2x2048x5632, .bf16⟩
  | .hbm, ⟨6, _⟩ => ⟨S2x2048x2816, .bf16⟩
  | .hbm, ⟨7, _⟩ => ⟨S8x5632, .f32⟩
  | .local _ .vmem, ⟨0, _⟩ => ⟨S1x128x2816, .f32⟩
  | .local _ .vmem, ⟨1, _⟩ => ⟨S1x128x2816, .f32⟩
  | .local _ .vmem, ⟨2, _⟩ => ⟨S1x128x5632, .bf16⟩
  | .local _ .vmem, ⟨3, _⟩ => ⟨S1x128x5632, .bf16⟩
  | .local _ .vmem, ⟨4, _⟩ => ⟨S1x16x5632, .bf16⟩
  | .local _ .vmem, ⟨5, _⟩ => ⟨S1x16x5632, .bf16⟩
  | .local _ .vmem, ⟨6, _⟩ => ⟨S3x5632, .f32⟩
  | .local _ .vmem, ⟨7, _⟩ => ⟨S1x5632, .f32⟩
  | .local _ .vmem, ⟨8, _⟩ => ⟨S1x128x5632, .bf16⟩
  | .local _ .vmem, ⟨9, _⟩ => ⟨S1x128x5632, .bf16⟩
  | .local _ .vmem, ⟨10, _⟩ => ⟨S1x128x2816, .bf16⟩
  | .local _ .vmem, ⟨11, _⟩ => ⟨S1x128x2816, .bf16⟩
  | .local _ .vmem, ⟨12, _⟩ => ⟨S8x5632, .f32⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ConvRefIdeal.lean ====
abbrev S2x2048x5632 : Shape := ⟨3, ![2, 2048, 5632]⟩
abbrev S3x5632 : Shape := ⟨2, ![3, 5632]⟩
abbrev S1x5632 : Shape := ⟨2, ![1, 5632]⟩
abbrev S2x2048x2816 : Shape := ⟨3, ![2, 2048, 2816]⟩
abbrev S5632 : Shape := ⟨1, ![5632]⟩
abbrev S_ : Shape := ⟨0, ![]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S4x5632 : Shape := ⟨2, ![4, 5632]⟩
abbrev S8x5632 : Shape := ⟨2, ![8, 5632]⟩

abbrev nBuf : Space → Nat
  | .hbm => 116
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S1x5632, .f32⟩
  | .hbm, ⟨3, _⟩ => ⟨S2x2048x2816, .f32⟩
  | .hbm, ⟨4, _⟩ => ⟨S5632, .f32⟩
  | .hbm, ⟨5, _⟩ => ⟨S_, .f32⟩
  | .hbm, ⟨6, _⟩ => ⟨S2x2x5632, .f32⟩
  | .hbm, ⟨7, _⟩ => ⟨S2x2050x5632, .f32⟩
  | .hbm, ⟨8, _⟩ => ⟨S_, .f32⟩
  | .hbm, ⟨9, _⟩ => ⟨S2x2x5632, .f32⟩
  | .hbm, ⟨10, _⟩ => ⟨S1x5632, .f32⟩
  | .hbm, ⟨11, _⟩ => ⟨S5632, .f32⟩
  | .hbm, ⟨12, _⟩ => ⟨S2x2048x5632, .f32⟩
  | .hbm, ⟨13, _⟩ => ⟨S1x1x5632, .f32⟩
  | .hbm, ⟨14, _⟩ => ⟨S2x2048x5632, .f32⟩
  | .hbm, ⟨15, _⟩ => ⟨S2x2048x5632, .f32⟩
  | .hbm, ⟨16, _⟩ => ⟨S1x5632, .f32⟩
  | .hbm, ⟨17, _⟩ => ⟨S5632, .f32⟩
  | .hbm, ⟨18, _⟩ => ⟨S2x2048x5632, .f32⟩
  | .hbm, ⟨19, _⟩ => ⟨S1x1x5632, .f32⟩
  | .hbm, ⟨20, _⟩ => ⟨S2x2048x5632, .f32⟩
  | .hbm, ⟨21, _⟩ => ⟨S2x2048x5632, .f32⟩
  | .hbm, ⟨22, _⟩ => ⟨S2x2048x5632, .f32⟩
  | .hbm, ⟨23, _⟩ => ⟨S1x5632, .f32⟩
  | .hbm, ⟨24, _⟩ => ⟨S5632, .f32⟩
  | .hbm, ⟨25, _⟩ => ⟨S2x2048x5632, .f32⟩
  | .hbm, ⟨26, _⟩ => ⟨S1x1x5632, .f32⟩
  | .hbm, ⟨27, _⟩ => ⟨S2x2048x5632, .f32⟩
  | .hbm, ⟨28, _⟩ => ⟨S2x2048x5632, .f32⟩
  | .hbm, ⟨29, _⟩ => ⟨S2x2048x5632, .f32⟩
  | .hbm, ⟨30, _⟩ => ⟨S1x1x5632, .f32⟩
  | .hbm, ⟨31, _⟩ => ⟨S2x2048x5632, .f32⟩
  | .hbm, ⟨32, _⟩ => ⟨S2x2048x5632, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S_, .f32⟩
  | .hbm, ⟨52, _⟩ => ⟨S2x2048x5632, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S_, .f32⟩
  | .hbm, ⟨58, _⟩ => ⟨S2x2048x5632, .f32⟩
  | .hbm, ⟨59, _⟩ => ⟨S2x2048x5632, .f32⟩
  | .hbm, ⟨60, _⟩ => ⟨S_, .f32⟩
  | .hbm, ⟨61, _⟩ => ⟨S5632, .f32⟩
  | .hbm, ⟨62, _⟩ => ⟨S1x1x5632, .f32⟩
  | .hbm, ⟨63, _⟩ => ⟨S_, .f32⟩
  | .hbm, ⟨64, _⟩ => ⟨S5632, .f32⟩
  | .hbm, ⟨65, _⟩ => ⟨S2x2048x5632, .f32⟩
  | .hbm, ⟨66, _⟩ => ⟨S2x2048x5632, .f32⟩
  | .hbm, ⟨67, _⟩ => ⟨S2x2048x5632, .f32⟩
  | .hbm, ⟨68, _⟩ => ⟨S_, .f32⟩
  | .hbm, ⟨69, _⟩ => ⟨S5632, .f32⟩
  | .hbm, ⟨70, _⟩ => ⟨S1x1x5632, .f32⟩
  | .hbm, ⟨71, _⟩ => ⟨S_, .f32⟩
  | .hbm, ⟨72, _⟩ => ⟨S5632, .f32⟩
  | .hbm, ⟨73, _⟩ => ⟨S_, .f32⟩
  | .hbm, ⟨74, _⟩ => ⟨S2x2050x5632, .f32⟩
  | .hbm, ⟨75, _⟩ => ⟨S1x5632, .f32⟩
  | .hbm, ⟨76, _⟩ => ⟨S_, .f32⟩
  | .hbm, ⟨77, _⟩ => ⟨S3x5632, .f32⟩
  | .hbm, ⟨78, _⟩ => ⟨S2x2048x5632, .f32⟩
  | .hbm, ⟨79, _⟩ => ⟨S2x2048x5632, .f32⟩
  | .hbm, ⟨80, _⟩ => ⟨S2x2048x5632, .f32⟩
  | .hbm, ⟨81, _⟩ => ⟨S_, .f32⟩
  | .hbm, ⟨82, _⟩ => ⟨S5632, .f32⟩
  | .hbm, ⟨83, _⟩ => ⟨S1x1x5632, .f32⟩
  | .hbm, ⟨84, _⟩ => ⟨S_, .f32⟩
  | .hbm, ⟨85, _⟩ => ⟨S5632, .f32⟩
  | .hbm, ⟨86, _⟩ => ⟨S_, .f32⟩
  | .hbm, ⟨87, _⟩ => ⟨S2x2050x5632, .f32⟩
  | .hbm, ⟨88, _⟩ => ⟨S2x2050x5632, .f32⟩
  | .hbm, ⟨89, _⟩ => ⟨S1x5632, .f32⟩
  | .hbm, ⟨90, _⟩ => ⟨S_, .f32⟩
  | .hbm, ⟨91, _⟩ => ⟨S3x5632, .f32⟩
  | .hbm, ⟨92, _⟩ => ⟨S3x5632, .f32⟩
  | .hbm, ⟨93, _⟩ => ⟨S2x2048x5632, .f32⟩
  | .hbm, ⟨94, _⟩ => ⟨S2x2048x5632, .f32⟩
  | .hbm, ⟨95, _⟩ => ⟨S2x2048x5632, .f32⟩
  | .hbm, ⟨96, _⟩ => ⟨S_, .f32⟩
  | .hbm, ⟨97, _⟩ => ⟨S5632, .f32⟩
  | .hbm, ⟨98, _⟩ => ⟨S1x1x5632, .f32⟩
  | .hbm, ⟨99, _⟩ => ⟨S_, .f32⟩
  | .hbm, ⟨100, _⟩ => ⟨S5632, .f32⟩
  | .hbm, ⟨101, _⟩ => ⟨S_, .f32⟩
  | .hbm, ⟨102, _⟩ => ⟨S2x2050x5632, .f32⟩
  | .hbm, ⟨103, _⟩ => ⟨S2x2050x5632, .f32⟩
  | .hbm, ⟨104, _⟩ => ⟨S1x5632, .f32⟩
  | .hbm, ⟨105, _⟩ => ⟨S_, .f32⟩
  | .hbm, ⟨106, _⟩ => ⟨S3x5632, .f32⟩
  | .hbm, ⟨107, _⟩ => ⟨S3x5632, .f32⟩
  | .hbm, ⟨108, _⟩ => ⟨S2x2x5632, .f32⟩
  | .hbm, ⟨109, _⟩ => ⟨S2x2048x5632, .f32⟩
  | .hbm, ⟨110, _⟩ => ⟨S1x5632, .f32⟩
  | .hbm, ⟨111, _⟩ => ⟨S_, .f32⟩
  | .hbm, ⟨112, _⟩ => ⟨S4x5632, .f32⟩
  | .hbm, ⟨113, _⟩ => ⟨S8x5632, .f32⟩
  | .hbm, ⟨114, _⟩ => ⟨S2x2048x5632, .bf16⟩
  | .hbm, ⟨115, _⟩ => ⟨S2x2048x2816, .bf16⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v28_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v28_1 : Ref sig .tc := ⟨.hbm, 45, rfl⟩
abbrev main_v28_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_1 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_17 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩

abbrev nD : Nat := 1
abbrev τ : Topo := Topo.v7x

variable {F : FTy → Type} [FloatOps F]
-- ==== AdaFwd.lean ====
abbrev S16x1024 : Shape := ⟨2, ![16, 1024]⟩
abbrev S2x1024x1536 : Shape := ⟨3, ![2, 1024, 1536]⟩
abbrev S2x1x1536 : Shape := ⟨3, ![2, 1, 1536]⟩
abbrev S2x16x1536 : Shape := ⟨3, ![2, 16, 1536]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x1536, .f32⟩
  | .hbm, ⟨2, _⟩ => ⟨S2x1x1536, .f32⟩
  | .hbm, ⟨3, _⟩ => ⟨S2x16x1536, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S16x1024 : Shape := ⟨2, ![16, 1024]⟩
abbrev S2x1024x1536 : Shape := ⟨3, ![2, 1024, 1536]⟩
abbrev S2x1x1536 : Shape := ⟨3, ![2, 1, 1536]⟩
abbrev S_ : Shape := ⟨0, ![]⟩
abbrev S2x1536x16 : Shape := ⟨3, ![2, 1536, 16]⟩
abbrev S2x16x1536 : Shape := ⟨3, ![2, 16, 1536]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x1536, .f32⟩
  | .hbm, ⟨2, _⟩ => ⟨S2x1x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x1536x16, .f32⟩
  | .hbm, ⟨13, _⟩ => ⟨S2x16x1536, .f32⟩
  | .hbm, ⟨14, _⟩ => ⟨S2x16x1536, .f32⟩
  | .hbm, ⟨15, _⟩ => ⟨S2x16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== OutProj.lean ====
abbrev S2x2048x256 : Shape := ⟨3, ![2, 2048, 256]⟩
abbrev S2x2048x384 : Shape := ⟨3, ![2, 2048, 384]⟩
abbrev S1024x1024 : Shape := ⟨2, ![1024, 1024]⟩
abbrev S2x1x1024 : Shape := ⟨3, ![2, 1, 1024]⟩
abbrev S2x2048x1024 : Shape := ⟨3, ![2, 2048, 1024]⟩
abbrev S256x1024 : Shape := ⟨2, ![256, 1024]⟩
abbrev S384x1024 : Shape := ⟨2, ![384, 1024]⟩
abbrev S1x512x256 : Shape := ⟨3, ![1, 512, 256]⟩
abbrev S1x512x384 : Shape := ⟨3, ![1, 512, 384]⟩
abbrev S1x1x1024 : Shape := ⟨3, ![1, 1, 1024]⟩
abbrev S1x512x1024 : Shape := ⟨3, ![1, 512, 1024]⟩
abbrev S512x256 : Shape := ⟨2, ![512, 256]⟩
abbrev S512x1024 : Shape := ⟨2, ![512, 1024]⟩
abbrev S512x384 : Shape := ⟨2, ![512, 384]⟩
abbrev S1x1024 : Shape := ⟨2, ![1, 1024]⟩

abbrev nBuf : Space → Nat
  | .hbm => 12
  | .vmem => 17
  | .smem => 0
  | _ => 0

abbrev bufTy : (tb : Table) → Fin (tcTables nBuf tb) → BufTy
  | .hbm, ⟨0, _⟩ => ⟨S2x2048x256, .f32⟩
  | .hbm, ⟨1, _⟩ => ⟨S2x2048x384, .f32⟩
  | .hbm, ⟨2, _⟩ => ⟨S2x2048x384, .f32⟩
  | .hbm, ⟨3, _⟩ => ⟨S1024x1024, .f32⟩
  | .hbm, ⟨4, _⟩ => ⟨S2x1x1024, .f32⟩
  | .hbm, ⟨5, _⟩ => ⟨S2x2048x1024, .f32⟩
  | .hbm, ⟨6, _⟩ => ⟨S1024x1024, .bf16⟩
  | .hbm, ⟨7, _⟩ => ⟨S256x1024, .bf16⟩
  | .hbm, ⟨8, _⟩ => ⟨S384x1024, .bf16⟩
  | .hbm, ⟨9, _⟩ => ⟨S384x1024, .bf16⟩
  | .hbm, ⟨10, _⟩ => ⟨S2x2048x1024, .f32⟩
  | .hbm, ⟨11, _⟩ => ⟨S2x2048x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x384, .f32⟩
  | .local _ .vmem, ⟨3, _⟩ => ⟨S1x512x384, .f32⟩
  | .local _ .vmem, ⟨4, _⟩ => ⟨S1x512x384, .f32⟩
  | .local _ .vmem, ⟨5, _⟩ => ⟨S1x512x384, .f32⟩
  | .local _ .vmem, ⟨6, _⟩ => ⟨S256x1024, .bf16⟩
  | .local _ .vmem, ⟨7, _⟩ => ⟨S384x1024, .bf16⟩
  | .local _ .vmem, ⟨8, _⟩ => ⟨S384x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutProjRefIdeal.lean ====
abbrev S2x2048x256 : Shape := ⟨3, ![2, 2048, 256]⟩
abbrev S2x2048x384 : Shape := ⟨3, ![2, 2048, 384]⟩
abbrev S1024x1024 : Shape := ⟨2, ![1024, 1024]⟩
abbrev S2x1x1024 : Shape := ⟨3, ![2, 1, 1024]⟩
abbrev S2x2048x1024 : Shape := ⟨3, ![2, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x384, .f32⟩
  | .hbm, ⟨2, _⟩ => ⟨S2x2048x384, .f32⟩
  | .hbm, ⟨3, _⟩ => ⟨S1024x1024, .f32⟩
  | .hbm, ⟨4, _⟩ => ⟨S2x1x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== ConvFwd.lean ====
abbrev S2x2048x5632 : Shape := ⟨3, ![2, 2048, 5632]⟩
abbrev S3x5632 : Shape := ⟨2, ![3, 5632]⟩
abbrev S1x5632 : Shape := ⟨2, ![1, 5632]⟩
abbrev S2816x1024 : Shape := ⟨2, ![2816, 1024]⟩
abbrev S2x1x1024 : Shape := ⟨3, ![2, 1, 1024]⟩
abbrev S2x2048x1024 : Shape := ⟨3, ![2, 2048, 1024]⟩
abbrev S1x512x1408 : Shape := ⟨3, ![1, 512, 1408]⟩
abbrev S1x16x1408 : Shape := ⟨3, ![1, 16, 1408]⟩
abbrev S3x1408 : Shape := ⟨2, ![3, 1408]⟩
abbrev S1x1408 : Shape := ⟨2, ![1, 1408]⟩
abbrev S1408x1024 : Shape := ⟨2, ![1408, 1024]⟩
abbrev S1x1x1024 : Shape := ⟨3, ![1, 1, 1024]⟩
abbrev S1x512x1024 : Shape := ⟨3, ![1, 512, 1024]⟩
abbrev S512x1024 : Shape := ⟨2, ![512, 1024]⟩
abbrev S512x1 : Shape := ⟨2, ![512, 1]⟩
abbrev S512x1408 : Shape := ⟨2, ![512, 1408]⟩
abbrev S16x1408 : Shape := ⟨2, ![16, 1408]⟩
abbrev S1x1024 : Shape := ⟨2, ![1, 1024]⟩

abbrev nBuf : Space → Nat
  | .hbm => 10
  | .vmem => 27
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S1x5632, .f32⟩
  | .hbm, ⟨3, _⟩ => ⟨S2816x1024, .f32⟩
  | .hbm, ⟨4, _⟩ => ⟨S2x1x1024, .f32⟩
  | .hbm, ⟨5, _⟩ => ⟨S2x2048x1024, .f32⟩
  | .hbm, ⟨6, _⟩ => ⟨S2x2048x5632, .bf16⟩
  | .hbm, ⟨7, _⟩ => ⟨S2816x1024, .bf16⟩
  | .hbm, ⟨8, _⟩ => ⟨S2x2048x1024, .f32⟩
  | .hbm, ⟨9, _⟩ => ⟨S2x2048x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x16x1408, .bf16⟩
  | .local _ .vmem, ⟨5, _⟩ => ⟨S1x16x1408, .bf16⟩
  | .local _ .vmem, ⟨6, _⟩ => ⟨S1x16x1408, .bf16⟩
  | .local _ .vmem, ⟨7, _⟩ => ⟨S1x16x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S1408x1024, .bf16⟩
  | .local _ .vmem, ⟨17, _⟩ => ⟨S1408x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S512x1024, .f32⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32_41 : BitVec 32 := 1#32
  let v120 : BitVec 1 := Scalar.cmpi .eq arg2 c1_i32_41
  let v121 : BitVec 32 := Scalar.extui v120
  let c0_i32_42 : BitVec 32 := 0#32
  let v122 : BitVec 1 := Scalar.cmpi .ne v121 c0_i32_42
  v122

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg2 c0_i32_0
  let c0_i32_1 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg2 c2_i32
  let c0_i32_0 : BitVec 32 := 0#32
  ![arg0.toNat, v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1408x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== ConvFwdRefIdeal.lean ====
abbrev S2x2048x5632 : Shape := ⟨3, ![2, 2048, 5632]⟩
abbrev S3x5632 : Shape := ⟨2, ![3, 5632]⟩
abbrev S1x5632 : Shape := ⟨2, ![1, 5632]⟩
abbrev S2816x1024 : Shape := ⟨2, ![2816, 1024]⟩
abbrev S2x1x1024 : Shape := ⟨3, ![2, 1, 1024]⟩
abbrev S2x2048x1024 : Shape := ⟨3, ![2, 2048, 1024]⟩
abbrev S5632 : Shape := ⟨1, ![5632]⟩
abbrev S_ : Shape := ⟨0, ![]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S2x2048x2816 : Shape := ⟨3, ![2, 2048, 2816]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S1x5632, .f32⟩
  | .hbm, ⟨3, _⟩ => ⟨S2816x1024, .f32⟩
  | .hbm, ⟨4, _⟩ => ⟨S2x1x1024, .f32⟩
  | .hbm, ⟨5, _⟩ => ⟨S2x2048x1024, .f32⟩
  | .hbm, ⟨6, _⟩ => ⟨S5632, .f32⟩
  | .hbm, ⟨7, _⟩ => ⟨S_, .f32⟩
  | .hbm, ⟨8, _⟩ => ⟨S2x2x5632, .f32⟩
  | .hbm, ⟨9, _⟩ => ⟨S2x2050x5632, .f32⟩
  | .hbm, ⟨10, _⟩ => ⟨S1x5632, .f32⟩
  | .hbm, ⟨11, _⟩ => ⟨S5632, .f32⟩
  | .hbm, ⟨12, _⟩ => ⟨S2x2048x5632, .f32⟩
  | .hbm, ⟨13, _⟩ => ⟨S1x1x5632, .f32⟩
  | .hbm, ⟨14, _⟩ => ⟨S2x2048x5632, .f32⟩
  | .hbm, ⟨15, _⟩ => ⟨S2x2048x5632, .f32⟩
  | .hbm, ⟨16, _⟩ => ⟨S1x5632, .f32⟩
  | .hbm, ⟨17, _⟩ => ⟨S5632, .f32⟩
  | .hbm, ⟨18, _⟩ => ⟨S2x2048x5632, .f32⟩
  | .hbm, ⟨19, _⟩ => ⟨S1x1x5632, .f32⟩
  | .hbm, ⟨20, _⟩ => ⟨S2x2048x5632, .f32⟩
  | .hbm, ⟨21, _⟩ => ⟨S2x2048x5632, .f32⟩
  | .hbm, ⟨22, _⟩ => ⟨S2x2048x5632, .f32⟩
  | .hbm, ⟨23, _⟩ => ⟨S1x5632, .f32⟩
  | .hbm, ⟨24, _⟩ => ⟨S5632, .f32⟩
  | .hbm, ⟨25, _⟩ => ⟨S2x2048x5632, .f32⟩
  | .hbm, ⟨26, _⟩ => ⟨S1x1x5632, .f32⟩
  | .hbm, ⟨27, _⟩ => ⟨S2x2048x5632, .f32⟩
  | .hbm, ⟨28, _⟩ => ⟨S2x2048x5632, .f32⟩
  | .hbm, ⟨29, _⟩ => ⟨S2x2048x5632, .f32⟩
  | .hbm, ⟨30, _⟩ => ⟨S1x1x5632, .f32⟩
  | .hbm, ⟨31, _⟩ => ⟨S2x2048x5632, .f32⟩
  | .hbm, ⟨32, _⟩ => ⟨S2x2048x5632, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== PrepFwd.lean ====
abbrev S2x2048x256 : Shape := ⟨3, ![2, 2048, 256]⟩
abbrev S2x2048x128 : Shape := ⟨3, ![2, 2048, 128]⟩
abbrev S2x2048x32 : Shape := ⟨3, ![2, 2048, 32]⟩
abbrev S2x2048 : Shape := ⟨2, ![2, 2048]⟩
abbrev S256 : Shape := ⟨1, ![256]⟩
abbrev S128 : Shape := ⟨1, ![128]⟩
abbrev S96 : Shape := ⟨1, ![96]⟩
abbrev S256x576 : Shape := ⟨2, ![256, 576]⟩
abbrev S128x768 : Shape := ⟨2, ![128, 768]⟩
abbrev S_ : Shape := ⟨0, ![]⟩
abbrev S2x2048x768 : Shape := ⟨3, ![2, 2048, 768]⟩
abbrev S2x2048x704 : Shape := ⟨3, ![2, 2048, 704]⟩
abbrev S2x2048x160 : Shape := ⟨3, ![2, 2048, 160]⟩
abbrev S2x2048x2048 : Shape := ⟨3, ![2, 2048, 2048]⟩
abbrev S16 : Shape := ⟨1, ![16]⟩
abbrev S2x2048x1 : Shape := ⟨3, ![2, 2048, 1]⟩
abbrev S1x1x16 : Shape := ⟨3, ![1, 1, 16]⟩
abbrev S2x2048x16 : Shape := ⟨3, ![2, 2048, 16]⟩
abbrev S2x2048x64 : Shape := ⟨3, ![2, 2048, 64]⟩
abbrev S576x256 : Shape := ⟨2, ![576, 256]⟩
abbrev S6x96x256 : Shape := ⟨3, ![6, 96, 256]⟩
abbrev S6x128x256 : Shape := ⟨3, ![6, 128, 256]⟩
abbrev S768x256 : Shape := ⟨2, ![768, 256]⟩
abbrev S1x256 : Shape := ⟨2, ![1, 256]⟩
abbrev S1x128 : Shape := ⟨2, ![1, 128]⟩
abbrev S768x128 : Shape := ⟨2, ![768, 128]⟩
abbrev S2x2048x384 : Shape := ⟨3, ![2, 2048, 384]⟩
abbrev S1x512x256 : Shape := ⟨3, ![1, 512, 256]⟩
abbrev S1x512x128 : Shape := ⟨3, ![1, 512, 128]⟩
abbrev S1x512x768 : Shape := ⟨3, ![1, 512, 768]⟩
abbrev S1x512x384 : Shape := ⟨3, ![1, 512, 384]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x768 : Shape := ⟨2, ![512, 768]⟩

abbrev nBuf : Space → Nat
  | .hbm => 66
  | .vmem => 22
  | .smem => 0
  | _ => 0

abbrev bufTy : (tb : Table) → Fin (tcTables nBuf tb) → BufTy
  | .hbm, ⟨0, _⟩ => ⟨S2x2048x256, .f32⟩
  | .hbm, ⟨1, _⟩ => ⟨S2x2048x128, .f32⟩
  | .hbm, ⟨2, _⟩ => ⟨S2x2048x32, .f32⟩
  | .hbm, ⟨3, _⟩ => ⟨S2x2048, .i32⟩
  | .hbm, ⟨4, _⟩ => ⟨S256, .f32⟩
  | .hbm, ⟨5, _⟩ => ⟨S128, .f32⟩
  | .hbm, ⟨6, _⟩ => ⟨S96, .f32⟩
  | .hbm, ⟨7, _⟩ => ⟨S96, .f32⟩
  | .hbm, ⟨8, _⟩ => ⟨S256x576, .f32⟩
  | .hbm, ⟨9, _⟩ => ⟨S128x768, .f32⟩
  | .hbm, ⟨10, _⟩ => ⟨S_, .f32⟩
  | .hbm, ⟨11, _⟩ => ⟨S2x2048x768, .f32⟩
  | .hbm, ⟨12, _⟩ => ⟨S_, .f32⟩
  | .hbm, ⟨13, _⟩ => ⟨S2x2048x704, .f32⟩
  | .hbm, ⟨14, _⟩ => ⟨S_, .f32⟩
  | .hbm, ⟨15, _⟩ => ⟨S2x2048x160, .f32⟩
  | .hbm, ⟨16, _⟩ => ⟨S2x2048x2048, .f32⟩
  | .hbm, ⟨17, _⟩ => ⟨S2x2048x2048, .bf16⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S2x2048, .f32⟩
  | .hbm, ⟨27, _⟩ => ⟨S2x2048x1, .f32⟩
  | .hbm, ⟨28, _⟩ => ⟨S1x1x16, .f32⟩
  | .hbm, ⟨29, _⟩ => ⟨S2x2048x16, .f32⟩
  | .hbm, ⟨30, _⟩ => ⟨S2x2048x16, .f32⟩
  | .hbm, ⟨31, _⟩ => ⟨S2x2048x16, .f32⟩
  | .hbm, ⟨32, _⟩ => ⟨S2x2048x16, .f32⟩
  | .hbm, ⟨33, _⟩ => ⟨S2x2048x16, .f32⟩
  | .hbm, ⟨34, _⟩ => ⟨S_, .f32⟩
  | .hbm, ⟨35, _⟩ => ⟨S2x2048x64, .f32⟩
  | .hbm, ⟨36, _⟩ => ⟨S_, .f32⟩
  | .hbm, ⟨37, _⟩ => ⟨S2x2048x32, .f32⟩
  | .hbm, ⟨38, _⟩ => ⟨S2x2048x128, .f32⟩
  | .hbm, ⟨39, _⟩ => ⟨S_, .f32⟩
  | .hbm, ⟨40, _⟩ => ⟨S2x2048x64, .f32⟩
  | .hbm, ⟨41, _⟩ => ⟨S_, .f32⟩
  | .hbm, ⟨42, _⟩ => ⟨S2x2048x32, .f32⟩
  | .hbm, ⟨43, _⟩ => ⟨S2x2048x128, .f32⟩
  | .hbm, ⟨44, _⟩ => ⟨S576x256, .f32⟩
  | .hbm, ⟨45, _⟩ => ⟨S6x96x256, .f32⟩
  | .hbm, ⟨46, _⟩ => ⟨S_, .i32⟩
  | .hbm, ⟨47, _⟩ => ⟨S_, .f32⟩
  | .hbm, ⟨48, _⟩ => ⟨S6x128x256, .f32⟩
  | .hbm, ⟨49, _⟩ => ⟨S768x256, .f32⟩
  | .hbm, ⟨50, _⟩ => ⟨S768x256, .bf16⟩
  | .hbm, ⟨51, _⟩ => ⟨S1x256, .f32⟩
  | .hbm, ⟨52, _⟩ => ⟨S1x128, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S_, .i32⟩
  | .hbm, ⟨58, _⟩ => ⟨S_, .f32⟩
  | .hbm, ⟨59, _⟩ => ⟨S128, .f32⟩
  | .hbm, ⟨60, _⟩ => ⟨S1x128, .f32⟩
  | .hbm, ⟨61, _⟩ => ⟨S768x128, .f32⟩
  | .hbm, ⟨62, _⟩ => ⟨S768x128, .bf16⟩
  | .hbm, ⟨63, _⟩ => ⟨S2x2048x768, .bf16⟩
  | .hbm, ⟨64, _⟩ => ⟨S2x2048x768, .bf16⟩
  | .hbm, ⟨65, _⟩ => ⟨S2x2048x384, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x256, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S768x256, .bf16⟩
  | .local _ .vmem, ⟨15, _⟩ => ⟨S768x128, .bf16⟩
  | .local _ .vmem, ⟨16, _⟩ => ⟨S1x512x768, .bf16⟩
  | .local _ .vmem, ⟨17, _⟩ => ⟨S1x512x768, .bf16⟩
  | .local _ .vmem, ⟨18, _⟩ => ⟨S1x512x768, .bf16⟩
  | .local _ .vmem, ⟨19, _⟩ => ⟨S1x512x768, .bf16⟩
  | .local _ .vmem, ⟨20, _⟩ => ⟨S1x512x384, .bf16⟩
  | .local _ .vmem, ⟨21, _⟩ => ⟨S1x512x384, .bf16⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c : Ref sig .tc := ⟨.hbm, 46, rfl⟩
abbrev main_call0_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_call1_v0 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_call2_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38_0 : Ref sig .tc := ⟨.hbm, 63, rfl⟩
abbrev main_v38_1 : Ref sig .tc := ⟨.hbm, 64, rfl⟩
abbrev main_v38_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S768x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S768x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PrepFwdRefIdeal.lean ====
abbrev S2x2048x256 : Shape := ⟨3, ![2, 2048, 256]⟩
abbrev S2x2048x128 : Shape := ⟨3, ![2, 2048, 128]⟩
abbrev S2x2048x32 : Shape := ⟨3, ![2, 2048, 32]⟩
abbrev S2x2048 : Shape := ⟨2, ![2, 2048]⟩
abbrev S256 : Shape := ⟨1, ![256]⟩
abbrev S128 : Shape := ⟨1, ![128]⟩
abbrev S96 : Shape := ⟨1, ![96]⟩
abbrev S256x576 : Shape := ⟨2, ![256, 576]⟩
abbrev S128x768 : Shape := ⟨2, ![128, 768]⟩
abbrev S_ : Shape := ⟨0, ![]⟩
abbrev S2x2048x1 : Shape := ⟨3, ![2, 2048, 1]⟩
abbrev S1x1x256 : Shape := ⟨3, ![1, 1, 256]⟩
abbrev S2x2048x576 : Shape := ⟨3, ![2, 2048, 576]⟩
abbrev S2x2048x6x96 : Shape := ⟨4, ![2, 2048, 6, 96]⟩
abbrev S1x1x128 : Shape := ⟨3, ![1, 1, 128]⟩
abbrev S2x2048x768 : Shape := ⟨3, ![2, 2048, 768]⟩
abbrev S2x2048x6x128 : Shape := ⟨4, ![2, 2048, 6, 128]⟩
abbrev S2x2048x6x64 : Shape := ⟨4, ![2, 2048, 6, 64]⟩
abbrev S2x2048x1x32 : Shape := ⟨4, ![2, 2048, 1, 32]⟩
abbrev S2x2048x6x32 : Shape := ⟨4, ![2, 2048, 6, 32]⟩
abbrev S2x2048x6 : Shape := ⟨3, ![2, 2048, 6]⟩
abbrev S2x2048x6x1 : Shape := ⟨4, ![2, 2048, 6, 1]⟩
abbrev S1x1x1x96 : Shape := ⟨4, ![1, 1, 1, 96]⟩
abbrev S16 : Shape := ⟨1, ![16]⟩
abbrev S1x1x16 : Shape := ⟨3, ![1, 1, 16]⟩
abbrev S2x2048x16 : Shape := ⟨3, ![2, 2048, 16]⟩
abbrev S2x2048x1x16 : Shape := ⟨4, ![2, 2048, 1, 16]⟩
abbrev S2x2048x6x16 : Shape := ⟨4, ![2, 2048, 6, 16]⟩
abbrev S2x2048x384 : Shape := ⟨3, ![2, 2048, 384]⟩

abbrev nBuf : Space → Nat
  | .hbm => 163
  | .vmem => 0
  | .smem => 0
  | _ => 0

abbrev hbmTy0_0 (i : Nat) : BufTy := match i % 128 with
  | 0 => ⟨S2x2048x256, .f32⟩
  | 1 => ⟨S2x2048x128, .f32⟩
  | 2 => ⟨S2x2048x32, .f32⟩
  | 3 => ⟨S2x2048, .i32⟩
  | 4 => ⟨S256, .f32⟩
  | 5 => ⟨S128, .f32⟩
  | 6 => ⟨S96, .f32⟩
  | 7 => ⟨S96, .f32⟩
  | 8 => ⟨S256x576, .f32⟩
  | 9 => ⟨S128x768, .f32⟩
  | 10 => ⟨S2x2048x256, .f32⟩
  | 11 => ⟨S_, .f32⟩
  | 12 => ⟨S2x2048, .f32⟩
  | 13 => ⟨S2x2048x1, .f32⟩
  | 14 => ⟨S_, .f32⟩
  | 15 => ⟨S2x2048x1, .f32⟩
  | 16 => ⟨S2x2048x1, .f32⟩
  | 17 => ⟨S_, .f32⟩
  | 18 => ⟨S2x2048x1, .f32⟩
  | 19 => ⟨S2x2048x1, .f32⟩
  | 20 => ⟨S2x2048x1, .f32⟩
  | 21 => ⟨S2x2048x256, .f32⟩
  | 22 => ⟨S2x2048x256, .f32⟩
  | 23 => ⟨S1x1x256, .f32⟩
  | 24 => ⟨S2x2048x256, .f32⟩
  | 25 => ⟨S2x2048x256, .f32⟩
  | 26 => ⟨S2x2048x576, .f32⟩
  | 27 => ⟨S2x2048x6x96, .f32⟩
  | 28 => ⟨S2x2048x128, .f32⟩
  | 29 => ⟨S_, .f32⟩
  | 30 => ⟨S2x2048, .f32⟩
  | 31 => ⟨S2x2048x1, .f32⟩
  | 32 => ⟨S_, .f32⟩
  | 33 => ⟨S2x2048x1, .f32⟩
  | 34 => ⟨S2x2048x1, .f32⟩
  | 35 => ⟨S_, .f32⟩
  | 36 => ⟨S2x2048x1, .f32⟩
  | 37 => ⟨S2x2048x1, .f32⟩
  | 38 => ⟨S2x2048x1, .f32⟩
  | 39 => ⟨S2x2048x128, .f32⟩
  | 40 => ⟨S2x2048x128, .f32⟩
  | 41 => ⟨S1x1x128, .f32⟩
  | 42 => ⟨S2x2048x128, .f32⟩
  | 43 => ⟨S2x2048x128, .f32⟩
  | 44 => ⟨S2x2048x768, .f32⟩
  | 45 => ⟨S2x2048x6x128, .f32⟩
  | 46 => ⟨S2x2048x6x64, .f32⟩
  | 47 => ⟨S2x2048x6x64, .f32⟩
  | 48 => ⟨S2x2048x1x32, .f32⟩
  | 49 => ⟨S2x2048x6x32, .f32⟩
  | 50 => ⟨S2x2048x6x96, .f32⟩
  | 51 => ⟨S2x2048x6x96, .f32⟩
  | 52 => ⟨S_, .f32⟩
  | 53 => ⟨S2x2048x6, .f32⟩
  | 54 => ⟨S2x2048x6x1, .f32⟩
  | 55 => ⟨S_, .f32⟩
  | 56 => ⟨S2x2048x6x1, .f32⟩
  | 57 => ⟨S2x2048x6x1, .f32⟩
  | 58 => ⟨S_, .f32⟩
  | 59 => ⟨S2x2048x6x1, .f32⟩
  | 60 => ⟨S2x2048x6x1, .f32⟩
  | 61 => ⟨S2x2048x6x1, .f32⟩
  | 62 => ⟨S2x2048x6x96, .f32⟩
  | 63 => ⟨S2x2048x6x96, .f32⟩
  | 64 => ⟨S1x1x1x96, .f32⟩
  | 65 => ⟨S2x2048x6x96, .f32⟩
  | 66 => ⟨S2x2048x6x96, .f32⟩
  | 67 => ⟨S2x2048x6x96, .f32⟩
  | 68 => ⟨S_, .f32⟩
  | 69 => ⟨S2x2048x6, .f32⟩
  | 70 => ⟨S2x2048x6x1, .f32⟩
  | 71 => ⟨S_, .f32⟩
  | 72 => ⟨S2x2048x6x1, .f32⟩
  | 73 => ⟨S2x2048x6x1, .f32⟩
  | 74 => ⟨S_, .f32⟩
  | 75 => ⟨S2x2048x6x1, .f32⟩
  | 76 => ⟨S2x2048x6x1, .f32⟩
  | 77 => ⟨S2x2048x6x1, .f32⟩
  | 78 => ⟨S2x2048x6x96, .f32⟩
  | 79 => ⟨S2x2048x6x96, .f32⟩
  | 80 => ⟨S1x1x1x96, .f32⟩
  | 81 => ⟨S2x2048x6x96, .f32⟩
  | 82 => ⟨S2x2048x6x96, .f32⟩
  | 83 => ⟨S2x2048x6x64, .f32⟩
  | 84 => ⟨S2x2048x6x32, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S2x2048, .f32⟩
  | 94 => ⟨S2x2048x1, .f32⟩
  | 95 => ⟨S1x1x16, .f32⟩
  | 96 => ⟨S2x2048x16, .f32⟩
  | 97 => ⟨S2x2048x16, .f32⟩
  | 98 => ⟨S2x2048x16, .f32⟩
  | 99 => ⟨S2x2048x16, .f32⟩
  | 100 => ⟨S2x2048x1x16, .f32⟩
  | 101 => ⟨S2x2048x16, .f32⟩
  | 102 => ⟨S2x2048x1x16, .f32⟩
  | 103 => ⟨S2x2048x6x16, .f32⟩
  | 104 => ⟨S2x2048x6x16, .f32⟩
  | 105 => ⟨S2x2048x6x16, .f32⟩
  | 106 => ⟨S2x2048x6x16, .f32⟩
  | 107 => ⟨S2x2048x6x16, .f32⟩
  | 108 => ⟨S2x2048x6x16, .f32⟩
  | 109 => ⟨S2x2048x6x16, .f32⟩
  | 110 => ⟨S2x2048x6x16, .f32⟩
  | 111 => ⟨S2x2048x6x16, .f32⟩
  | 112 => ⟨S2x2048x6x16, .f32⟩
  | 113 => ⟨S2x2048x6x16, .f32⟩
  | 114 => ⟨S2x2048x6x16, .f32⟩
  | 115 => ⟨S2x2048x6x32, .f32⟩
  | 116 => ⟨S2x2048x6x96, .f32⟩
  | 117 => ⟨S2x2048x6x64, .f32⟩
  | 118 => ⟨S2x2048x6x32, .f32⟩
  | 119 => ⟨S16, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S2x2048, .f32⟩
  | _ => ⟨S2x2048x256, .f32⟩

abbrev hbmTy0_1 (i : Nat) : BufTy := match i % 128 with
  | 0 => ⟨S2x2048x1, .f32⟩
  | 1 => ⟨S1x1x16, .f32⟩
  | 2 => ⟨S2x2048x16, .f32⟩
  | 3 => ⟨S2x2048x16, .f32⟩
  | 4 => ⟨S2x2048x16, .f32⟩
  | 5 => ⟨S2x2048x16, .f32⟩
  | 6 => ⟨S2x2048x1x16, .f32⟩
  | 7 => ⟨S2x2048x16, .f32⟩
  | 8 => ⟨S2x2048x1x16, .f32⟩
  | 9 => ⟨S2x2048x6x16, .f32⟩
  | 10 => ⟨S2x2048x6x16, .f32⟩
  | 11 => ⟨S2x2048x6x16, .f32⟩
  | 12 => ⟨S2x2048x6x16, .f32⟩
  | 13 => ⟨S2x2048x6x16, .f32⟩
  | 14 => ⟨S2x2048x6x16, .f32⟩
  | 15 => ⟨S2x2048x6x16, .f32⟩
  | 16 => ⟨S2x2048x6x16, .f32⟩
  | 17 => ⟨S2x2048x6x16, .f32⟩
  | 18 => ⟨S2x2048x6x16, .f32⟩
  | 19 => ⟨S2x2048x6x16, .f32⟩
  | 20 => ⟨S2x2048x6x16, .f32⟩
  | 21 => ⟨S2x2048x6x32, .f32⟩
  | 22 => ⟨S2x2048x6x96, .f32⟩
  | 23 => ⟨S_, .i32⟩
  | 24 => ⟨S_, .f32⟩
  | 25 => ⟨S2x2048x6x128, .f32⟩
  | 26 => ⟨S2x2048x768, .f32⟩
  | 27 => ⟨S2x2048x768, .bf16⟩
  | 28 => ⟨S_, .i32⟩
  | 29 => ⟨S_, .f32⟩
  | 30 => ⟨S2x2048x6x128, .f32⟩
  | 31 => ⟨S2x2048x768, .f32⟩
  | 32 => ⟨S2x2048x768, .bf16⟩
  | 33 => ⟨S2x2048x384, .f32⟩
  | 34 => ⟨S2x2048x384, .bf16⟩
  | _ => ⟨S2x2048x256, .f32⟩

abbrev hbmTy (i : Nat) : BufTy := match i / 128 with
  | 0 => hbmTy0_0 i
  | 1 => hbmTy0_1 i
  | _ => ⟨S2x2048x256, .f32⟩

abbrev bufTy : (tb : Table) → Fin (tcTables nBuf tb) → BufTy
  | .hbm, ⟨i, _⟩ => hbmTy i
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_13 : Ref sig .tc := ⟨.hbm, 121, rfl⟩
abbrev main_v97 : Ref sig .tc := ⟨.hbm, 122, rfl⟩
abbrev main_v98 : Ref sig .tc := ⟨.hbm, 123, rfl⟩
abbrev main_cst_14 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_c : Ref sig .tc := ⟨.hbm, 151, rfl⟩
abbrev main_call0_v0 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_c_15 : Ref sig .tc := ⟨.hbm, 156, rfl⟩
abbrev main_call1_v0 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩

abbrev nD : Nat := 1
abbrev τ : Topo := Topo.v7x

variable {F : FTy → Type} [FloatOps F]
-- ==== AdamW.lean ====
abbrev S4x704x1024 : Shape := ⟨3, ![4, 704, 1024]⟩
abbrev S704x1024 : Shape := ⟨2, ![704, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S4x704x1024 : Shape := ⟨3, ![4, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S4x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== WGrad.lean ====
abbrev S4096x5632 : Shape := ⟨2, ![4096, 5632]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WGradRefIdeal.lean ====
abbrev S4096x5632 : Shape := ⟨2, ![4096, 5632]⟩
abbrev S4096x1024 : Shape := ⟨2, ![4096, 1024]⟩
abbrev S5632x1024 : Shape := ⟨2, ![5632, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S4096x5632, .f32⟩
  | .hbm, ⟨3, _⟩ => ⟨S4096x1024, .f32⟩
  | .hbm, ⟨4, _⟩ => ⟨S5632x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Reals.lean ====
/- Extended reals: sums of reals, a nonnegative real factor moved into a sum, and the words of the constants used. -/
module

public import Idealize.ShloMosaic.PureOps.Ideal.Laws
public import Idealize.ShloMosaic.Lib.IdealHost

@[expose] public section

noncomputable section

namespace Cert.Proof.Reals

open Idealize.ShloMosaic

/-- A finite sum of reals, taken in the extended reals, is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real distributes over a sum of two extended reals. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- … and over a finite sum. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- The word of 1/2. -/
theorem word_half : Ideal.ofBits .f32 0x3F000000#32 = ((1 / 2 : ℝ) : EReal) := by
  simp [Ideal.ofBits, Ideal.ieee, -EReal.coe_mul]; norm_num

/-- The word of 2. -/
theorem word_two : Ideal.ofBits .f32 0x40000000#32 = ((2 : ℝ) : EReal) := by
  simp [Ideal.ofBits, Ideal.ieee, -EReal.coe_mul]; norm_num

/-- The word of 1024. -/
theorem word_1024 : Ideal.ofBits .f32 0x44800000#32 = ((1024 : ℝ) : EReal) := by
  simp [Ideal.ofBits, Ideal.ieee, -EReal.coe_mul]; norm_num

/-- A quotient of reals, the divisor not zero. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_pos {x : ℝ} (h : 0 < x) : Ideal.rsqrt (x : EReal) = (((Real.sqrt x)⁻¹ : ℝ) : EReal) := by
  rw [Ideal.rsqrt_coe, if_neg h.not_gt, if_neg h.ne']

end Cert.Proof.Reals
-- ==== Proof.LossValue.lean ====
/- The loss and its gradient: what the kernel's grid of eight row blocks leaves in its two results, read at an index, and
   the equality with the derivative of the mean squared error. Over the extended reals the two agree at every input: the
   constants that are moved across sums are positive reals. -/
module

public import proofs.«01_k».proof.Proof.Gen.LossIdeal.Value
public import proofs.«01_k».proof.Proof.Gen.LossRefIdeal.Run
public import proofs.«01_k».proof.Proof.Reals
public import Idealize.ShloMosaic.Lib.Pipeline.ValueKit
public import Idealize.ShloMosaic.Lib.Pointwise

@[expose] public section

set_option maxRecDepth 16384

noncomputable section

namespace Cert.Proof.LossValue

open Cert.LossIdeal Cert.LossIdeal.Gen Idealize.ShloMosaic Idealize.ShloMosaic.TcCoe Idealize.SL.Sem
open Cert.Proof.Reals

variable (m : (ℓ : Loc nD τ sig) → Buf (Elt Ideal) ℓ)

/-- The contents of the prediction and of the target. -/
abbrev Arr := (⟨3, ![2, 2048, 1024]⟩ : Shape).Idx → EReal

/-- The mean squared error of one row. -/
def rowErr (X Y : Arr) (b : Fin 2) (r : Fin 2048) : EReal :=
  Ideal.div (∑ k : Fin 1024, (X (ix3 b r k) - Y (ix3 b r k)) * (X (ix3 b r k) - Y (ix3 b r k))) (Ideal.ofBits .f32 0x44800000#32)

/-- The loss: half the sum of the rows' mean squared errors. -/
def loss (X Y : Arr) : EReal := Ideal.ofBits .f32 0x3F000000#32 * ∑ b : Fin 2, ∑ r : Fin 2048, rowErr X Y b r

/-- The gradient of the loss in the prediction: the error over the width. -/
def grad (X Y : Arr) : Arr := fun i => Ideal.div (X i - Y i) (Ideal.ofBits .f32 0x44800000#32)

/-- The block of grid point `t` stands at batch `t / 4`, rows `512 (t % 4) …`. -/
theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, t.val % 4, 0] :=
  (by decide +kernel : ∀ t : Fin grid0.N, win0_1.index t = ![t.val / 4, t.val % 4, 0])
theorem idx3 : ∀ t : Fin cfg0.N, win0_3.index t = ![t.val / 4, t.val % 4, 0] :=
  (by decide +kernel : ∀ t : Fin grid0.N, win0_3.index t = ![t.val / 4, t.val % 4, 0])

theorem pay3 (X Y : FVec Ideal S1x512x1024 .f32) (y : S1x512x1024.Idx) :
    k0_pay3 (F := Ideal) X Y y = Ideal.div (X y - Y y) (Ideal.ofBits .f32 0x44800000#32) := by
  pointwise [k0_pay3, k0_pay2]

/-- The gradient array after the run. -/
theorem final_grad (c : Dev nD) :
    (dats m 0 c).arrAt 3 cfg0.N = grad (m ((c : Thread nD τ).loc main_arg0)) (m ((c : Thread nD τ).loc main_arg1)) := by
  refine (dats m 0 c).arrAt_eq_of_covers 3 _ (by decide +kernel) fun t hf y => ?_
  blk_simp
  rw [after0_3]
  have e : (outsAt0 m c t.val t.isLt).2 y = k0_pay3 (F := Ideal) (iblk m c 0 t) (iblk m c 1 t) y := by
    by_cases h : t.val % 8 = 0
    · rw [outsAt0_A m c t h]; frame_out
    · rw [outsAt0_B m c t h]; frame_out
  rw [e, pay3]
  unfold grad
  blk_point [iblk, V, idx0 t, idx1 t, idx3 t]

/-- The part of the loss one grid point adds. -/
def part (X Y : (⟨3, ![1, 512, 1024]⟩ : Shape).Idx → EReal) : EReal :=
  Ideal.ofBits .f32 0x3F000000#32 * ∑ x : Fin 512, ∑ _u : Fin 1, Ideal.div (∑ k : Fin 1024,
    (X (ix3 0 x k) - Y (ix3 0 x k)) * (X (ix3 0 x k) - Y (ix3 0 x k))) (Ideal.ofBits .f32 0x44800000#32)

theorem pay4 (X Y : FVec Ideal S1x512x1024 .f32) (acc : FVec Ideal S8x128 .f32) (j : S8x128.Idx) :
    k0_pay4 X Y acc j = acc j + part X Y := by
  pointwise [k0_pay4, k0_pay2, part]

theorem pay1 (j : S8x128.Idx) : k0_pay1 (F := Ideal) j = 0 := by pointwise [k0_pay1]

/-- The loss block after the run. -/
theorem final_loss (c : Dev nD) :
    (dats m 0 c).arrAt 2 cfg0.N = fun _ => loss (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_last (fun n h => (outsAt0 m c n h).1) 8 (fun _ => 0)
    (fun t _ => part (iblk m c 0 t) (iblk m c 1 t))
    (fun t h j => by rw [outsAt0_A m c t h]; frame_out; rw [pay4, pay1])
    (fun t h j => by rw [outsAt0_B m c t h]; frame_out; rw [pay4])
    (le_of_eq N_0) t (by have := (flush0_2 t).mp hf; have := t.isLt; have : cfg0.N = 8 := N_0; omega) y, zero_add]
  unfold loss part
  rw [word_half, ← coe_mul_sum _ (by norm_num)]
  congr 1
  refine Fin.sum_points_lanes_congr 4 fun t k ha hl => ?_
  rw [Fin.sum_univ_one]
  unfold rowErr
  blk_point [iblk, V, idx0 t, idx1 t]

/-- The kernel's run: the loss in every element of its block, the gradient, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = (fun _ => loss (m ((c : Thread nD τ).loc main_arg0)) (m ((c : Thread nD τ).loc main_arg1)))
      ∧ r.2.mem ((c : Thread nD τ).loc main_v0_1) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  simpa only [final_loss, final_grad] using Cert.LossIdeal.Value.run_blocks m ρ

/-! ## The reference -/

/-- A half times two, over the width: the factor of the derivative. -/
theorem scale (e : EReal) : Ideal.div (Ideal.ofBits .f32 0x3F000000#32) (Ideal.ofBits .f32 0x44800000#32)
      * (Ideal.ofBits .f32 0x40000000#32 * e) = Ideal.div e (Ideal.ofBits .f32 0x44800000#32) := by
  rw [word_half, word_1024, word_two, Ideal.div_coe (by norm_num), Ideal.div_coe (by norm_num), ← mul_assoc,
    ← EReal.coe_mul, ← EReal.coe_mul, mul_comm]
  norm_num

end Cert.Proof.LossValue
-- ==== Proof.LossClaim.lean ====
/- The loss and its gradient: the claims about the pair. -/
module

public import proofs.«01_k».proof.Defs
public import proofs.«01_k».proof.Proof.Gen.Loss.Frame
public import proofs.«01_k».proof.Proof.LossValue

@[expose] public section

set_option maxRecDepth 16384

noncomputable section

namespace Cert.Proof.LossClaim

open Idealize.ShloMosaic Idealize.ShloMosaic.TcCoe Idealize.SL.Sem

theorem frame_ref : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

theorem algebraic : Cert.algebraic_LossIdeal_LossRefIdeal := by
  pair_intro
  · run_from LossValue.run m g
  · run_from Cert.LossRefIdeal.Value.run (F := Ideal) m' g'
    · funext i; pointwise [LossValue.loss, LossValue.rowErr]
    · funext i; pointwise [LossValue.grad]; exact LossValue.scale _

end Cert.Proof.LossClaim
-- ==== Proof.GateValue.lean ====
/- The gradient of the gated projection of the feed-forward block: what the kernel's grid of two sequences by four row
   blocks leaves in its three results, read at an index. The gradient of the gate is a sum over the rows, which the kernel
   accumulates over the four row blocks of a sequence. -/
module

public import proofs.«01_k».proof.Proof.Gen.GateIdeal.Value
public import proofs.«01_k».proof.Proof.Gen.GateRefIdeal.Run
public import Idealize.ShloMosaic.Lib.Pipeline.ValueKit
public import Idealize.ShloMosaic.Lib.Pointwise

@[expose] public section

set_option maxRecDepth 16384

noncomputable section

namespace Cert.Proof.GateValue

open Cert.GateIdeal Cert.GateIdeal.Gen Idealize.ShloMosaic Idealize.ShloMosaic.TcCoe Idealize.SL.Sem

variable (m : (ℓ : Loc nD τ sig) → Buf (Elt Ideal) ℓ)

/-- The contents of the feed-forward activations, the gate, the weight and the cotangent. -/
abbrev ArrA := (⟨3, ![2, 2048, 2816]⟩ : Shape).Idx → EReal
abbrev ArrG := (⟨3, ![2, 1, 1024]⟩ : Shape).Idx → EReal
abbrev ArrW := (⟨2, ![2816, 1024]⟩ : Shape).Idx → EReal
abbrev ArrX := (⟨3, ![2, 2048, 1024]⟩ : Shape).Idx → EReal

/-- The gradient of the projection's output. -/
def dy (G : ArrG) (D : ArrX) : ArrX := fun i => G (ix3 (i 0) 0 (i 2)) * D i

/-- The gradient of the activations. -/
def da (G : ArrG) (W : ArrW) (D : ArrX) : ArrA := fun i => ∑ k : Fin 1024, G (ix3 (i 0) 0 k) * D (ix3 (i 0) (i 1) k) * W (ix2 (i 2) k)

/-- The gradient of the gate: the cotangent times the projection, summed over the rows. -/
def dgate (A : ArrA) (W : ArrW) (D : ArrX) : ArrG := fun i =>
  ∑ r : Fin 2048, D (ix3 (i 0) r (i 2)) * ∑ k : Fin 2816, A (ix3 (i 0) r k) * W (ix2 k (i 2))

/-- The blocks of grid point `t`: sequence `t / 4`, rows `512 (t % 4) …`; the gate's block only moves with the sequence. -/
theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, t.val % 4, 0] :=
  (by decide +kernel : ∀ t : Fin grid0.N, win0_1.index t = ![t.val / 4, t.val % 4, 0])
theorem idx2 : ∀ t : Fin cfg0.N, win0_2.index t = ![t.val / 4, 0, 0] :=
  (by decide +kernel : ∀ t : Fin grid0.N, win0_2.index t = ![t.val / 4, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val / 4, t.val % 4, 0] :=
  (by decide +kernel : ∀ t : Fin grid0.N, win0_4.index t = ![t.val / 4, t.val % 4, 0])
theorem idx5 : ∀ t : Fin cfg0.N, win0_5.index t = ![t.val / 4, t.val % 4, 0] :=
  (by decide +kernel : ∀ t : Fin grid0.N, win0_5.index t = ![t.val / 4, t.val % 4, 0])
theorem idx6 : ∀ t : Fin cfg0.N, win0_6.index t = ![t.val / 4, 0, 0] :=
  (by decide +kernel : ∀ t : Fin grid0.N, win0_6.index t = ![t.val / 4, 0, 0])

/-- One block's gradient of the activations. -/
def daB (D : (⟨3, ![1, 512, 1024]⟩ : Shape).Idx → EReal) (G : (⟨3, ![1, 1, 1024]⟩ : Shape).Idx → EReal) (W : ArrW)
    (y : (⟨3, ![1, 512, 2816]⟩ : Shape).Idx) : EReal :=
  ∑ k : Fin 1024, G (ix3 0 0 k) * D (ix3 0 (y 1) k) * W (ix2 (y 2) k)

theorem pay_da (D : FVec Ideal S1x512x1024 .f32) (G : FVec Ideal S1x1x1024 .f32) (W : FVec Ideal S2816x1024 .bf16) (y : S1x512x2816.Idx) :
    k0_pay1 (F := Ideal) (k0_pay7 (F := Ideal) D G W) y = daB D G W y := by
  pointwise [k0_pay1, k0_pay7, k0_pay4, k0_pay3, daB]
  simp only [mul_comm]

theorem pay_dy (D : FVec Ideal S1x512x1024 .f32) (G : FVec Ideal S1x1x1024 .f32) (y : S1x512x1024.Idx) :
    k0_pay5 (F := Ideal) D G y = G (ix3 0 0 (y 2)) * D y := by
  pointwise [k0_pay5, k0_pay4, k0_pay3]
  exact mul_comm _ _

/-- What one grid point adds to the gate's gradient. -/
def part (D Y : (⟨3, ![1, 512, 1024]⟩ : Shape).Idx → EReal) (j : (⟨3, ![1, 1, 1024]⟩ : Shape).Idx) : EReal :=
  ∑ x : Fin 512, D (ix3 0 x (j 2)) * Y (ix3 0 x (j 2))

theorem pay_dgate (D Y : FVec Ideal S1x512x1024 .f32) (acc : FVec Ideal S1x1x1024 .f32) (j : S1x1x1024.Idx) :
    k0_pay6 (F := Ideal) D acc Y j = acc j + part D Y j := by
  pointwise [k0_pay6, k0_pay3, part]

theorem pay2 (j : S1x1x1024.Idx) : k0_pay2 (F := Ideal) j = 0 := by pointwise [k0_pay2]

/-- The gradient of the activations after the run. -/
theorem final_da (c : Dev nD) : (dats m 0 c).arrAt 4 cfg0.N =
    da (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have e : (outsAt0 m c t.val t.isLt).1 y = k0_pay1 (F := Ideal) (k0_pay7 (F := Ideal) (iblk m c 0 t) (iblk m c 2 t) (iblk m c 3 t)) y := by
    by_cases h : t.val % 4 = 0
    · rw [outsAt0_A m c t h]; frame_out
    · rw [outsAt0_B m c t h]; frame_out
  rw [e, pay_da]
  unfold da daB
  blk_point [iblk, V, idx0 t, idx2 t, idx3 t, idx4 t]

/-- The gradient of the projection's output after the run. -/
theorem final_dy (c : Dev nD) : (dats m 0 c).arrAt 5 cfg0.N =
    dy (m ((c : Thread nD τ).loc main_arg1)) (m ((c : Thread nD τ).loc main_arg3)) := by
  refine (dats m 0 c).arrAt_eq_of_covers 5 _ (by decide +kernel) fun t hf y => ?_
  blk_simp
  rw [after0_5]
  have e : (outsAt0 m c t.val t.isLt).2.1 y = k0_pay5 (F := Ideal) (iblk m c 0 t) (iblk m c 2 t) y := by
    by_cases h : t.val % 4 = 0
    · rw [outsAt0_A m c t h]; frame_out
    · rw [outsAt0_B m c t h]; frame_out
  rw [e, pay_dy]
  unfold dy
  blk_point [iblk, V, idx0 t, idx2 t, idx5 t]

/-- The projection, as the host leaves it before the grid. -/
def proj (A : ArrA) (W : ArrW) : ArrX := fun i => ∑ k : Fin 2816, A (ix3 (i 0) (i 1) k) * W (ix2 k (i 2))

theorem V_proj (c : Dev nD) : V m c main_v0 = proj (m ((c : Thread nD τ).loc main_arg0)) (m ((c : Thread nD τ).loc main_arg2)) := by
  unfold V
  after_results
  funext i
  pointwise [proj]

/-- The gradient of the gate after the run. -/
theorem final_dgate (c : Dev nD) : (dats m 0 c).arrAt 6 cfg0.N =
    dgate (m ((c : Thread nD τ).loc main_arg0)) (m ((c : Thread nD τ).loc main_arg2)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 4 (fun _ => 0)
    (fun t => part (iblk m c 0 t) (iblk m c 1 t))
    (fun t h j => by rw [outsAt0_A m c t h]; frame_out; rw [pay_dgate, pay2])
    (fun t h j => by rw [outsAt0_B m c t h]; frame_out; rw [pay_dgate])
    t ((flush0_6 t).mp hf) y, zero_add]
  unfold dgate part
  refine Fin.sum_mul_add_congr fun s k hl => ?_
  have e : ∀ i, proj (m ((c : Thread nD τ).loc main_arg0)) (m ((c : Thread nD τ).loc main_arg2)) i = V m c main_v0 i :=
    fun i => by rw [V_proj]
  refine (?_ : _ = _ * _).trans (congrArg _ (e (ix3 _ _ _)).symm)
  rw [← V_main_arg3 m c]
  blk_point [iblk, idx0 ⟨4 * (t.val / 4) + s.val, Pipeline.run_point_lt_of_flush t ((flush0_6 t).mp hf) s⟩, idx1 ⟨4 * (t.val / 4) + s.val, Pipeline.run_point_lt_of_flush t ((flush0_6 t).mp hf) s⟩, idx6 t]

/-- The run: the three results are the three gradients, and the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v2_0) = da (m ((c : Thread nD τ).loc main_arg1)) (m ((c : Thread nD τ).loc main_arg2)) (m ((c : Thread nD τ).loc main_arg3))
      ∧ r.2.mem ((c : Thread nD τ).loc main_v2_1) = dy (m ((c : Thread nD τ).loc main_arg1)) (m ((c : Thread nD τ).loc main_arg3))
      ∧ r.2.mem ((c : Thread nD τ).loc main_v2_2) = dgate (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  simpa only [final_da, final_dy, final_dgate] using Cert.GateIdeal.Value.run_blocks m ρ

end Cert.Proof.GateValue
-- ==== Proof.GateClaim.lean ====
/- The gradient of the gated projection of the feed-forward block: the claims about the pair. -/
module

public import proofs.«01_k».proof.Defs
public import proofs.«01_k».proof.Proof.Gen.Gate.Frame
public import proofs.«01_k».proof.Proof.GateValue

@[expose] public section

set_option maxRecDepth 16384

noncomputable section

namespace Cert.Proof.GateClaim

open Idealize.ShloMosaic Idealize.ShloMosaic.TcCoe Idealize.SL.Sem

theorem frame_ref : Cert.quiescent_GateRefIdeal := fun m ρ _ =>
  (θ_run Cert.GateRefIdeal.defs _ _).mono (fun r h => ⟨fun c => (h c).2.2.2, sem_eq_zero_of_no_sems (by decide) r.2⟩)
    (Cert.GateRefIdeal.Value.run (F := Ideal) m ρ)

section
open Cert.GateRefIdeal Cert.GateRefIdeal.Gen

theorem ref_da (G : FVec Ideal S2x1x1024 .f32) (W : FVec Ideal S2816x1024 .f32) (D : FVec Ideal S2x2048x1024 .f32) :
    Host.dotGeneral dot_S2x2048x1024_S2816x1024_S2x2048x2816_2_1_01_0_n_n none
      (mulf (broadcastInDim S2x2048x1024 ![0, 1, 2] bcast_S2x1x1024_S2x2048x1024_0_1_2 G) D) W = GateValue.da G W D := by
  funext i
  pointwise [GateValue.da]

theorem ref_dy (G : FVec Ideal S2x1x1024 .f32) (D : FVec Ideal S2x2048x1024 .f32) :
    truncf .bf16 (mulf (broadcastInDim S2x2048x1024 ![0, 1, 2] bcast_S2x1x1024_S2x2048x1024_0_1_2 G) D) bitsLt_bf16_f32
      = GateValue.dy G D := by
  funext i
  pointwise [GateValue.dy]

theorem ref_dgate (A : FVec Ideal S2x2048x2816 .f32) (W : FVec Ideal S2816x1024 .f32) (D : FVec Ideal S2x2048x1024 .f32) :
    shapeCast S2x1x1024 (Host.reduceAdd (mulf D (Host.dotGeneral dot_S2x2048x2816_S2816x1024_S2x2048x1024_2_0_01_1_n_n none A W))
      (constant S_ .f32 0x00000000#32) reducesTo_S2x2048x1024_S2x1024_d1 h_S_) shapeCasts_S2x1024_S2x1x1024
      = GateValue.dgate A W D := by
  funext i
  pointwise [GateValue.dgate]
end

theorem algebraic : Cert.algebraic_GateIdeal_GateRefIdeal := by
  intro m g m' g' _ hagree
  refine ⟨_, _, _, GateValue.run m g, θ_run_mono (Cert.GateRefIdeal.Value.run (F := Ideal) m' g') fun r h c => ?_⟩
  obtain ⟨h0, h1, h2, h3⟩ := hagree c
  obtain ⟨r0, r1, r2, rest⟩ := h c
  refine ⟨r0.trans ?_, r1.trans ?_, r2.trans ?_, rest⟩
  · rw [h1, h2, h3]; exact ref_da _ _ _
  · rw [h1, h3]; exact ref_dy _ _
  · rw [h0, h2, h3]; exact ref_dgate _ _ _

end Cert.Proof.GateClaim
-- ==== Proof.MixValue.lean ====
/- The gradient of the gated projection that joins the three mixers' outputs: what the kernel's grid of two sequences by
   four row blocks leaves in its five results, read at an index. The gradient of the gate is a sum over the rows, which the
   kernel accumulates over the four row blocks of a sequence. -/
module

public import proofs.«01_k».proof.Proof.Gen.MixIdeal.Value
public import proofs.«01_k».proof.Proof.Gen.MixRefIdeal.Run
public import Idealize.ShloMosaic.Lib.Pipeline.ValueKit
public import Idealize.ShloMosaic.Lib.Pointwise

@[expose] public section

set_option maxRecDepth 16384

noncomputable section

namespace Cert.Proof.MixValue

open Cert.MixIdeal Cert.MixIdeal.Gen Idealize.ShloMosaic Idealize.ShloMosaic.TcCoe Idealize.SL.Sem

variable (m : (ℓ : Loc nD τ sig) → Buf (Elt Ideal) ℓ)

/-- The contents of a mixer's output of width `n`, the gate, the weight and the cotangent. -/
abbrev ArrA (n : Nat) := (⟨3, ![2, 2048, n]⟩ : Shape).Idx → EReal
abbrev ArrG := (⟨3, ![2, 1, 1024]⟩ : Shape).Idx → EReal
abbrev ArrW := (⟨2, ![1024, 1024]⟩ : Shape).Idx → EReal
abbrev ArrX := (⟨3, ![2, 2048, 1024]⟩ : Shape).Idx → EReal

/-- The three mixers' outputs side by side. -/
def cat (A : FVec Ideal S2x2048x256 .f32) (B C : FVec Ideal S2x2048x384 .f32) : FVec Ideal S2x2048x1024 .f32 :=
  concatenate S2x2048x1024 2 [⟨S2x2048x256, (A : (⟨S2x2048x256, .f32⟩ : BufTy).Contents (Elt Ideal))⟩, ⟨S2x2048x384, (B : (⟨S2x2048x384, .f32⟩ : BufTy).Contents (Elt Ideal))⟩, ⟨S2x2048x384, (C : (⟨S2x2048x384, .f32⟩ : BufTy).Contents (Elt Ideal))⟩] concatenates_S2x2048x256_S2x2048x384_S2x2048x384_S2x2048x1024_d2

/-- The gradient of the projection's output. -/
def dy (G : ArrG) (D : ArrX) : ArrX := fun i => G (ix3 (i 0) 0 (i 2)) * D i

/-- The gradient of the mixers' outputs side by side, at column `j` of the joined array. -/
def da (G : ArrG) (W : ArrW) (D : ArrX) (b : Fin 2) (r : Fin 2048) (j : Fin 1024) : EReal :=
  ∑ k : Fin 1024, G (ix3 b 0 k) * D (ix3 b r k) * W (ix2 j k)

/-- The gradient of each mixer's output. -/
def da0 (G : ArrG) (W : ArrW) (D : ArrX) : ArrA 256 := fun i => da G W D (i 0) (i 1) ⟨(i 2).val, lt_of_lt_of_le (i 2).isLt (by decide)⟩
def da1 (G : ArrG) (W : ArrW) (D : ArrX) : ArrA 384 := fun i => da G W D (i 0) (i 1) ⟨256 + (i 2).val, lt_of_lt_of_le (Nat.add_lt_add_left (i 2).isLt 256) (by decide)⟩
def da2 (G : ArrG) (W : ArrW) (D : ArrX) : ArrA 384 := fun i => da G W D (i 0) (i 1) ⟨640 + (i 2).val, lt_of_lt_of_le (Nat.add_lt_add_left (i 2).isLt 640) (by decide)⟩

/-- The projection of the joined array. -/
def proj (A : ArrX) (W : ArrW) : ArrX := fun i => ∑ k : Fin 1024, A (ix3 (i 0) (i 1) k) * W (ix2 k (i 2))

/-- The gradient of the gate: the cotangent times the projection, summed over the rows. -/
def dgate (A : ArrX) (W : ArrW) (D : ArrX) : ArrG := fun i => ∑ r : Fin 2048, D (ix3 (i 0) r (i 2)) * proj A W (ix3 (i 0) r (i 2))

/-- The blocks of grid point `t`: sequence `t / 4`, rows `512 (t % 4) …`; the gate's block only moves with the sequence. -/
theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, t.val % 4, 0] :=
  (by decide +kernel : ∀ t : Fin grid0.N, win0_1.index t = ![t.val / 4, t.val % 4, 0])
theorem idx2 : ∀ t : Fin cfg0.N, win0_2.index t = ![t.val / 4, 0, 0] :=
  (by decide +kernel : ∀ t : Fin grid0.N, win0_2.index t = ![t.val / 4, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val / 4, t.val % 4, 0] :=
  (by decide +kernel : ∀ t : Fin grid0.N, win0_6.index t = ![t.val / 4, t.val % 4, 0])
theorem idx7 : ∀ t : Fin cfg0.N, win0_7.index t = ![t.val / 4, t.val % 4, 0] :=
  (by decide +kernel : ∀ t : Fin grid0.N, win0_7.index t = ![t.val / 4, t.val % 4, 0])
theorem idx8 : ∀ t : Fin cfg0.N, win0_8.index t = ![t.val / 4, t.val % 4, 0] :=
  (by decide +kernel : ∀ t : Fin grid0.N, win0_8.index t = ![t.val / 4, t.val % 4, 0])
theorem idx9 : ∀ t : Fin cfg0.N, win0_9.index t = ![t.val / 4, t.val % 4, 0] :=
  (by decide +kernel : ∀ t : Fin grid0.N, win0_9.index t = ![t.val / 4, t.val % 4, 0])
theorem idx10 : ∀ t : Fin cfg0.N, win0_10.index t = ![t.val / 4, 0, 0] :=
  (by decide +kernel : ∀ t : Fin grid0.N, win0_10.index t = ![t.val / 4, 0, 0])

/-- One block's gradient of a mixer's output. -/
def daB {n : Nat} (D : (⟨3, ![1, 512, 1024]⟩ : Shape).Idx → EReal) (G : (⟨3, ![1, 1, 1024]⟩ : Shape).Idx → EReal)
    (W : (⟨2, ![n, 1024]⟩ : Shape).Idx → EReal) (y : (⟨3, ![1, 512, n]⟩ : Shape).Idx) : EReal :=
  ∑ k : Fin 1024, G (ix3 0 0 k) * D (ix3 0 (y 1) k) * W (ix2 (y 2) k)

theorem pay_da0 (D : FVec Ideal S1x512x1024 .f32) (G : FVec Ideal S1x1x1024 .f32) (W : FVec Ideal S256x1024 .bf16) (y : S1x512x256.Idx) :
    k0_pay1 (F := Ideal) (k0_pay9 (F := Ideal) D G W) y = daB (n := 256) D G W y := by
  pointwise [k0_pay1, k0_pay9, k0_pay6, k0_pay5, daB]
  simp only [mul_comm]
theorem pay_da1 (D : FVec Ideal S1x512x1024 .f32) (G : FVec Ideal S1x1x1024 .f32) (W : FVec Ideal S384x1024 .bf16) (y : S1x512x384.Idx) :
    k0_pay2 (F := Ideal) (k0_pay6 (F := Ideal) D G) W y = daB (n := 384) D G W y := by
  pointwise [k0_pay2, k0_pay6, k0_pay5, daB]
  simp only [mul_comm]
theorem pay_da2 (D : FVec Ideal S1x512x1024 .f32) (G : FVec Ideal S1x1x1024 .f32) (W : FVec Ideal S384x1024 .bf16) (y : S1x512x384.Idx) :
    k0_pay3 (F := Ideal) (k0_pay6 (F := Ideal) D G) W y = daB (n := 384) D G W y := by
  pointwise [k0_pay3, k0_pay6, k0_pay5, daB]
  simp only [mul_comm]

theorem pay_dy (D : FVec Ideal S1x512x1024 .f32) (G : FVec Ideal S1x1x1024 .f32) (y : S1x512x1024.Idx) :
    k0_pay7 (F := Ideal) D G y = G (ix3 0 0 (y 2)) * D y := by
  pointwise [k0_pay7, k0_pay6, k0_pay5]
  exact mul_comm _ _

/-- What one grid point adds to the gate's gradient. -/
def part (D Y : (⟨3, ![1, 512, 1024]⟩ : Shape).Idx → EReal) (j : (⟨3, ![1, 1, 1024]⟩ : Shape).Idx) : EReal :=
  ∑ x : Fin 512, D (ix3 0 x (j 2)) * Y (ix3 0 x (j 2))

theorem pay_dgate (D Y : FVec Ideal S1x512x1024 .f32) (acc : FVec Ideal S1x1x1024 .f32) (j : S1x1x1024.Idx) :
    k0_pay8 (F := Ideal) D acc Y j = acc j + part D Y j := by
  pointwise [k0_pay8, k0_pay5, part]

theorem pay4 (j : S1x1x1024.Idx) : k0_pay4 (F := Ideal) j = 0 := by pointwise [k0_pay4]

theorem final_da0 (c : Dev nD) : (dats m 0 c).arrAt 6 cfg0.N =
    da0 (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have e : (outsAt0 m c t.val t.isLt).1 y = k0_pay1 (F := Ideal) (k0_pay9 (F := Ideal) (iblk m c 0 t) (iblk m c 2 t) (iblk m c 3 t)) y := by
    by_cases h : t.val % 4 = 0
    · rw [outsAt0_A m c t h]; frame_out
    · rw [outsAt0_B m c t h]; frame_out
  rw [e, pay_da0]
  unfold da0 da daB
  blk_point [iblk, V, idx0 t, idx2 t, idx3 t, idx6 t]

theorem final_da1 (c : Dev nD) : (dats m 0 c).arrAt 7 cfg0.N =
    da1 (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  have e : (outsAt0 m c t.val t.isLt).2.1 y = k0_pay2 (F := Ideal) (k0_pay6 (F := Ideal) (iblk m c 0 t) (iblk m c 2 t)) (iblk m c 4 t) y := by
    by_cases h : t.val % 4 = 0
    · rw [outsAt0_A m c t h]; frame_out
    · rw [outsAt0_B m c t h]; frame_out
  rw [e, pay_da1]
  unfold da1 da daB
  blk_point [iblk, V, idx0 t, idx2 t, idx4 t, idx7 t]

theorem final_da2 (c : Dev nD) : (dats m 0 c).arrAt 8 cfg0.N =
    da2 (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  have e : (outsAt0 m c t.val t.isLt).2.2.1 y = k0_pay3 (F := Ideal) (k0_pay6 (F := Ideal) (iblk m c 0 t) (iblk m c 2 t)) (iblk m c 5 t) y := by
    by_cases h : t.val % 4 = 0
    · rw [outsAt0_A m c t h]; frame_out
    · rw [outsAt0_B m c t h]; frame_out
  rw [e, pay_da2]
  unfold da2 da daB
  blk_point [iblk, V, idx0 t, idx2 t, idx5 t, idx8 t]

theorem final_dy (c : Dev nD) : (dats m 0 c).arrAt 9 cfg0.N =
    dy (m ((c : Thread nD τ).loc main_arg3)) (m ((c : Thread nD τ).loc main_arg5)) := by
  refine (dats m 0 c).arrAt_eq_of_covers 9 _ (by decide +kernel) fun t hf y => ?_
  blk_simp
  rw [after0_9]
  have e : (outsAt0 m c t.val t.isLt).2.2.2.1 y = k0_pay7 (F := Ideal) (iblk m c 0 t) (iblk m c 2 t) y := by
    by_cases h : t.val % 4 = 0
    · rw [outsAt0_A m c t h]; frame_out
    · rw [outsAt0_B m c t h]; frame_out
  rw [e, pay_dy]
  unfold dy
  blk_point [iblk, V, idx0 t, idx2 t, idx9 t]

theorem V_proj (c : Dev nD) : V m c main_v1 = proj (cat (m ((c : Thread nD τ).loc main_arg0)) (m ((c : Thread nD τ).loc main_arg1)) (m ((c : Thread nD τ).loc main_arg2))) (m ((c : Thread nD τ).loc main_arg4)) := by
  unfold V
  after_results
  funext i
  pointwise [proj, cat]

/-- The gradient of the gate after the run. -/
theorem final_dgate (c : Dev nD) : (dats m 0 c).arrAt 10 cfg0.N = dgate (cat (m ((c : Thread nD τ).loc main_arg0)) (m ((c : Thread nD τ).loc main_arg1)) (m ((c : Thread nD τ).loc main_arg2))) (m ((c : Thread nD τ).loc main_arg4)) (m ((c : Thread nD τ).loc main_arg5)) := by
  refine (dats m 0 c).arrAt_eq_of_covers 10 _ (by decide +kernel) fun t hf y => ?_
  blk_simp
  rw [after0_10, Pipeline.eq_sum_fin_of_reset_step_apply_of_flush (fun n h => (outsAt0 m c n h).2.2.2.2) 4 (fun _ => 0)
    (fun t => part (iblk m c 0 t) (iblk m c 1 t))
    (fun t h j => by rw [outsAt0_A m c t h]; frame_out; rw [pay_dgate, pay4])
    (fun t h j => by rw [outsAt0_B m c t h]; frame_out; rw [pay_dgate])
    t ((flush0_10 t).mp hf) y, zero_add]
  unfold dgate part
  refine Fin.sum_mul_add_congr fun s k hl => ?_
  rw [← V_proj m c, ← V_main_arg5 m c]
  blk_point [iblk, idx0 ⟨4 * (t.val / 4) + s.val, Pipeline.run_point_lt_of_flush t ((flush0_10 t).mp hf) s⟩, idx1 ⟨4 * (t.val / 4) + s.val, Pipeline.run_point_lt_of_flush t ((flush0_10 t).mp hf) s⟩, idx10 t]

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v6_0) = da0 (m ((c : Thread nD τ).loc main_arg3)) (m ((c : Thread nD τ).loc main_arg4)) (m ((c : Thread nD τ).loc main_arg5))
      ∧ r.2.mem ((c : Thread nD τ).loc main_v6_1) = da1 (m ((c : Thread nD τ).loc main_arg3)) (m ((c : Thread nD τ).loc main_arg4)) (m ((c : Thread nD τ).loc main_arg5))
      ∧ r.2.mem ((c : Thread nD τ).loc main_v6_2) = da2 (m ((c : Thread nD τ).loc main_arg3)) (m ((c : Thread nD τ).loc main_arg4)) (m ((c : Thread nD τ).loc main_arg5))
      ∧ r.2.mem ((c : Thread nD τ).loc main_v6_3) = dy (m ((c : Thread nD τ).loc main_arg3)) (m ((c : Thread nD τ).loc main_arg5))
      ∧ r.2.mem ((c : Thread nD τ).loc main_v6_4) = dgate (cat (m ((c : Thread nD τ).loc main_arg0)) (m ((c : Thread nD τ).loc main_arg1)) (m ((c : Thread nD τ).loc main_arg2))) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  simpa only [final_da0, final_da1, final_da2, final_dy, final_dgate] using Cert.MixIdeal.Value.run_blocks m ρ

end Cert.Proof.MixValue
-- ==== Proof.MixClaim.lean ====
/- The gradient of the gated projection that joins the mixers' outputs: the claims about the pair. -/
module

public import proofs.«01_k».proof.Defs
public import proofs.«01_k».proof.Proof.Gen.Mix.Frame
public import proofs.«01_k».proof.Proof.MixValue

@[expose] public section

set_option maxRecDepth 16384

noncomputable section

namespace Cert.Proof.MixClaim

open  Idealize.ShloMosaic Idealize.ShloMosaic.TcCoe Idealize.SL.Sem

/-- The reference's frame. -/
theorem frame_ref : Cert.quiescent_MixRefIdeal := fun m ρ _ =>
  (θ_run Cert.MixRefIdeal.defs _ _).mono (fun r h => ⟨fun c => (h c).2.2.2.2.2, sem_eq_zero_of_no_sems (by decide) r.2⟩)
    (Cert.MixRefIdeal.Value.run (F := Ideal) m ρ)

section
open Cert.MixRefIdeal Cert.MixRefIdeal.Gen

theorem ref_da0 (G : FVec Ideal S2x1x1024 .f32) (W : FVec Ideal S1024x1024 .f32) (D : FVec Ideal S2x2048x1024 .f32) :
    extractStridedSlice S2x2048x256 ![0, 0, 0] (Host.dotGeneral dot_S2x2048x1024_S1024x1024_S2x2048x1024_2_1_01_0_n_n none
      (mulf (broadcastInDim S2x2048x1024 ![0, 1, 2] bcast_S2x1x1024_S2x2048x1024_0_1_2 G) D) W) slices_S2x2048x1024_S2x2048x256_0_0_0
      = MixValue.da0 G W D := by
  funext i
  pointwise [MixValue.da0, MixValue.da]

theorem ref_da1 (G : FVec Ideal S2x1x1024 .f32) (W : FVec Ideal S1024x1024 .f32) (D : FVec Ideal S2x2048x1024 .f32) :
    extractStridedSlice S2x2048x384 ![0, 0, 256] (Host.dotGeneral dot_S2x2048x1024_S1024x1024_S2x2048x1024_2_1_01_0_n_n none
      (mulf (broadcastInDim S2x2048x1024 ![0, 1, 2] bcast_S2x1x1024_S2x2048x1024_0_1_2 G) D) W) slices_S2x2048x1024_S2x2048x384_0_0_256
      = MixValue.da1 G W D := by
  funext i
  pointwise [MixValue.da1, MixValue.da]

theorem ref_da2 (G : FVec Ideal S2x1x1024 .f32) (W : FVec Ideal S1024x1024 .f32) (D : FVec Ideal S2x2048x1024 .f32) :
    extractStridedSlice S2x2048x384 ![0, 0, 640] (Host.dotGeneral dot_S2x2048x1024_S1024x1024_S2x2048x1024_2_1_01_0_n_n none
      (mulf (broadcastInDim S2x2048x1024 ![0, 1, 2] bcast_S2x1x1024_S2x2048x1024_0_1_2 G) D) W) slices_S2x2048x1024_S2x2048x384_0_0_640
      = MixValue.da2 G W D := by
  funext i
  pointwise [MixValue.da2, MixValue.da]

theorem ref_dy (G : FVec Ideal S2x1x1024 .f32) (D : FVec Ideal S2x2048x1024 .f32) :
    truncf .bf16 (mulf (broadcastInDim S2x2048x1024 ![0, 1, 2] bcast_S2x1x1024_S2x2048x1024_0_1_2 G) D) bitsLt_bf16_f32
      = MixValue.dy G D := by
  funext i
  pointwise [MixValue.dy]

theorem ref_dgate (A : FVec Ideal S2x2048x1024 .f32) (W : FVec Ideal S1024x1024 .f32) (D : FVec Ideal S2x2048x1024 .f32) :
    shapeCast S2x1x1024 (Host.reduceAdd (mulf D (Host.dotGeneral dot_S2x2048x1024_S1024x1024_S2x2048x1024_2_0_01_1_n_n none A W))
      (constant S_ .f32 0x00000000#32) reducesTo_S2x2048x1024_S2x1024_d1 h_S_) shapeCasts_S2x1024_S2x1x1024
      = MixValue.dgate A W D := by
  funext i
  pointwise [MixValue.dgate, MixValue.proj]
end

theorem algebraic : Cert.algebraic_MixIdeal_MixRefIdeal := by
  intro m g m' g' _ hagree
  refine ⟨_, _, _, _, _, MixValue.run m g, θ_run_mono (Cert.MixRefIdeal.Value.run (F := Ideal) m' g') fun r h c => ?_⟩
  obtain ⟨h0, h1, h2, h3, h4, h5⟩ := hagree c
  obtain ⟨r0, r1, r2, r3, r4, rest⟩ := h c
  refine ⟨r0.trans ?_, r1.trans ?_, r2.trans ?_, r3.trans ?_, r4.trans ?_, rest⟩
  · rw [h3, h4, h5]; exact ref_da0 _ _ _
  · rw [h3, h4, h5]; exact ref_da1 _ _ _
  · rw [h3, h4, h5]; exact ref_da2 _ _ _
  · rw [h3, h5]; exact ref_dy _ _
  · rw [h0, h1, h2, h4, h5]; exact ref_dgate _ _ _

end Cert.Proof.MixClaim
-- ==== Proof.AdaValue.lean ====
/- The gradient of the modulation's matrix and bias: what the kernel's grid of two layers leaves in its two results, read
   at an index: the activated conditioning vectors against the cotangent, and the cotangent summed over the sequences. -/
module

public import proofs.«01_k».proof.Proof.Gen.AdaIdeal.Value
public import proofs.«01_k».proof.Proof.Gen.AdaRefIdeal.Run
public import Idealize.ShloMosaic.Lib.Pipeline.ValueKit
public import Idealize.ShloMosaic.Lib.Pointwise

@[expose] public section

set_option maxRecDepth 16384

noncomputable section

namespace Cert.Proof.AdaValue

open Cert.AdaIdeal Cert.AdaIdeal.Gen Idealize.ShloMosaic Idealize.ShloMosaic.TcCoe Idealize.SL.Sem

variable (m : (ℓ : Loc nD τ sig) → Buf (Elt Ideal) ℓ)

/-- The activation `x / (1 + exp (-x))`. -/
def act (x : EReal) : EReal := x * Ideal.div (Ideal.ofBits .f32 0x3F800000#32) (Ideal.ofBits .f32 0x3F800000#32 + Ideal.exp (-x))

/-- The gradient of the matrix, in the device's columns. -/
def dw (C : (⟨2, ![16, 1024]⟩ : Shape).Idx → EReal) (D : (⟨3, ![2, 16, 6144]⟩ : Shape).Idx → EReal) :
    (⟨3, ![2, 1024, 1536]⟩ : Shape).Idx → EReal :=
  fun i => ∑ b : Fin 16, act (C (ix2 b (i 1))) * D (ix3 (i 0) b ⟨(i 2).val, lt_of_lt_of_le (i 2).isLt (by decide)⟩)

/-- The gradient of the bias. -/
def db (D : (⟨3, ![2, 16, 6144]⟩ : Shape).Idx → EReal) : (⟨3, ![2, 1, 6144]⟩ : Shape).Idx → EReal :=
  fun i => ∑ b : Fin 16, D (ix3 (i 0) b (i 2))

/-- Grid point `t` is layer `t`. -/
theorem idx0 : ∀ t : Fin cfg0.N, win0_0.index t = ![0, 0] :=
  (by decide +kernel : ∀ t : Fin grid0.N, win0_0.index t = ![0, 0])
theorem idx1 : ∀ t : Fin cfg0.N, win0_1.index t = ![t.val, 0, 0] :=
  (by decide +kernel : ∀ t : Fin grid0.N, win0_1.index t = ![t.val, 0, 0])
theorem idx2 : ∀ t : Fin cfg0.N, win0_2.index t = ![t.val, 0, 0] :=
  (by decide +kernel : ∀ t : Fin grid0.N, win0_2.index t = ![t.val, 0, 0])
theorem idx3 : ∀ t : Fin cfg0.N, win0_3.index t = ![t.val, 0, 0] :=
  (by decide +kernel : ∀ t : Fin grid0.N, win0_3.index t = ![t.val, 0, 0])
theorem idx4 : ∀ t : Fin cfg0.N, win0_4.index t = ![t.val, 0, 0] :=
  (by decide +kernel : ∀ t : Fin grid0.N, win0_4.index t = ![t.val, 0, 0])

theorem pay_dw (C : FVec Ideal S16x1024 .f32) (D : FVec Ideal S1x16x1536 .f32) (y : S1x1024x1536.Idx) :
    k0_pay1 (F := Ideal) C D y = ∑ b : Fin 16, act (C (ix2 b (y 1))) * D (ix3 0 b (y 2)) := by
  pointwise [k0_pay1, act]
  simp only [zero_sub]

theorem pay_db (D : FVec Ideal S1x16x6144 .f32) (y : S1x1x6144.Idx) :
    k0_pay2 (F := Ideal) D y = ∑ b : Fin 16, D (ix3 0 b (y 2)) := by
  pointwise [k0_pay2]

theorem final_dw (c : Dev nD) : (dats m 0 c).arrAt 3 cfg0.N = dw (m ((c : Thread nD τ).loc main_arg0)) (m ((c : Thread nD τ).loc main_arg1)) := by
  refine (dats m 0 c).arrAt_eq_of_covers 3 _ (by decide +kernel) fun t hf y => ?_
  blk_simp
  rw [after0_3]
  have e : out0_3 (iblk m c 0 t) (iblk m c 1 t) (iblk m c 2 t) y = k0_pay1 (F := Ideal) (iblk m c 0 t) (iblk m c 1 t) y := by
    frame_out
  rw [e, pay_dw]
  unfold dw
  blk_point [iblk, V, idx0 t, idx1 t, idx3 t]

theorem final_db (c : Dev nD) : (dats m 0 c).arrAt 4 cfg0.N = db (m ((c : Thread nD τ).loc main_arg1)) := by
  refine (dats m 0 c).arrAt_eq_of_covers 4 _ (by decide +kernel) fun t hf y => ?_
  blk_simp
  rw [after0_4]
  have e : out0_4 (iblk m c 0 t) (iblk m c 1 t) (iblk m c 2 t) y = k0_pay2 (F := Ideal) (iblk m c 2 t) y := by
    frame_out
  rw [e, pay_db]
  unfold db
  blk_point [iblk, V, idx2 t, idx4 t]

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = dw (m ((c : Thread nD τ).loc main_arg0)) (m ((c : Thread nD τ).loc main_arg1))
      ∧ r.2.mem ((c : Thread nD τ).loc main_v1_1) = db (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  simpa only [final_dw, final_db] using Cert.AdaIdeal.Value.run_blocks m ρ

end Cert.Proof.AdaValue
-- ==== Proof.AdaClaim.lean ====
/- The gradient of the modulation's matrix and bias: the claims about the pair. -/
module

public import proofs.«01_k».proof.Defs
public import proofs.«01_k».proof.Proof.Gen.Ada.Frame
public import proofs.«01_k».proof.Proof.AdaValue

@[expose] public section

set_option maxRecDepth 16384

noncomputable section

namespace Cert.Proof.AdaClaim

open  Idealize.ShloMosaic Idealize.ShloMosaic.TcCoe Idealize.SL.Sem

/-- The reference's frame. -/
theorem frame_ref : Cert.quiescent_AdaRefIdeal := fun m ρ _ =>
  (θ_run Cert.AdaRefIdeal.defs _ _).mono (fun r h => ⟨fun c => (h c).2.2, sem_eq_zero_of_no_sems (by decide) r.2⟩)
    (Cert.AdaRefIdeal.Value.run (F := Ideal) m ρ)

section
open Cert.AdaRefIdeal Cert.AdaRefIdeal.Gen

theorem ref_dw (C : FVec Ideal S16x1024 .f32) (D : FVec Ideal S2x16x6144 .f32) :
    extractStridedSlice S2x1024x1536 ![0, 0, 0] (transpose S2x1024x6144 [0, 2, 1] (Host.dotGeneral dot_S2x6144x16_S16x1024_S2x6144x1024_2_0_01_1_n_n none
      (transpose S2x6144x16 [0, 2, 1] (shapeCast _ D shapeCasts_S2x16x6144_S2x16x6144) transposes_S2x16x6144_S2x6144x16_0_2_1)
      (mulf C (Host.divf (broadcastInDim S16x1024 ![] bcast_S_S16x1024 (constant S_ .f32 0x3F800000#32)) (addf (broadcastInDim S16x1024 ![] bcast_S_S16x1024 (constant S_ .f32 0x3F800000#32)) (Host.exp (Host.negf C))))))
      transposes_S2x6144x1024_S2x1024x6144_0_2_1) slices_S2x1024x6144_S2x1024x1536_0_0_0 = AdaValue.dw C D := by
  funext i
  pointwise [AdaValue.dw, AdaValue.act]
  exact Finset.sum_congr rfl fun _ _ => mul_comm _ _

theorem ref_db (D : FVec Ideal S2x16x6144 .f32) :
    shapeCast S2x1x6144 (Host.reduceAdd D (constant S_ .f32 0x00000000#32) reducesTo_S2x16x6144_S2x6144_d1 h_S_) shapeCasts_S2x6144_S2x1x6144 = AdaValue.db D := by
  funext i
  pointwise [AdaValue.db]
end

theorem algebraic : Cert.algebraic_AdaIdeal_AdaRefIdeal := by
  intro m g m' g' _ hagree
  refine ⟨_, _, AdaValue.run m g, θ_run_mono (Cert.AdaRefIdeal.Value.run (F := Ideal) m' g') fun r h c => ?_⟩
  obtain ⟨h0, h1⟩ := hagree c
  obtain ⟨r0, r1, rest⟩ := h c
  refine ⟨r0.trans ?_, r1.trans ?_, rest⟩
  · rw [h0, h1]; exact ref_dw _ _
  · rw [h1]; exact ref_db _

end Cert.Proof.AdaClaim
-- ==== Proof.Finite.lean ====
/- What the precondition "every element is finite" says of an array of extended reals: every element is a real. -/
module

public import Idealize.ShloMosaic.Lib.ReduceAll
public import Idealize.ShloMosaic.Lib.Pointwise
public import Idealize.ShloMosaic.PureOps.Ideal.Laws

@[expose] public section

noncomputable section

namespace Cert.Proof.Finite

open Idealize.ShloMosaic

/-- The shape of a scalar. -/
abbrev S0 : Shape := ⟨0, ![]⟩

instance : Subsingleton S0.Idx := ⟨fun a b => funext fun k => k.elim0⟩

/-- An extended real whose magnitude is below infinity is a real. -/
theorem real_of_abs_lt {x : EReal} (h : max x (-x) < ⊤) : ∃ r : ℝ, x = (r : EReal) := by
  induction x using EReal.rec with
  | bot => simp at h
  | top => simp at h
  | coe r => exact ⟨r, rfl⟩

/-- The printed test of one array, read. -/
theorem all_real {s : Shape} {axes : List (Fin s.rank)} (x : FVec Ideal s .f32) (hb : S0.BroadcastsInDim s (![] : Fin 0 → Fin s.rank))
    (hr : s.ReducesTo axes S0) (hu : 0 < S0.numel) (j : S0.Idx)
    (e : Host.reduce IntOp.andi (cmpf .olt (Host.absf x) (broadcastInDim s ![] hb (constant S0 .f32 0x7F800000#32)))
      (constantI S0 1 1#1) hr hu j = 1#1) (i : s.Idx) : ∃ r : ℝ, x i = (r : EReal) := by
  have h := Host.reduce_andi_all _ _ _ _ j e i
  have ht : Ideal.ofBits .f32 0x7F800000#32 = ⊤ := by simp [Ideal.ofBits, Ideal.ieee]
  have h' : Ideal.cmp .olt (max (x i) (-(x i))) (Ideal.ofBits .f32 0x7F800000#32) = 1#1 := h
  rw [ht] at h'
  refine real_of_abs_lt ?_
  by_contra hn
  simp [Ideal.cmp, hn] at h'

/-- The conjunction of two tests. -/
theorem both {p q : IVec S0 1} (h : andi p q = fun _ => 1#1) : p = (fun _ => 1#1) ∧ q = (fun _ => 1#1) := by
  have hb : ∀ a b : BitVec 1, a &&& b = 1#1 → a = 1#1 ∧ b = 1#1 := by decide
  exact ⟨funext fun j => (hb _ _ (congrFun h j)).1, funext fun j => (hb _ _ (congrFun h j)).2⟩

end Cert.Proof.Finite
-- ==== Proof.NormMath.lean ====
/- The gradient of a normalization by the root of the mean square, over a row of reals; and sums over the steps of a grid
   of which only the last of each group adds something. -/
module

public import proofs.«01_k».proof.Proof.Reals
public import Idealize.ShloMosaic.Lib.Pipeline.ValueKit
public import Idealize.ShloMosaic.Lib.Pointwise

@[expose] public section

noncomputable section

namespace Cert.Proof.NormMath

open Idealize.ShloMosaic Cert.Proof.Reals

/-- Of the steps `0 … a·J − 1`, only those that end a group of `J` add something. -/
theorem sum_ends {M : Type*} [AddCommMonoid M] (a J : ℕ) (hJ : 0 < J) (g : Fin a → M) :
    ∑ s : Fin (a * J), (if s.val % J = J - 1 then g ⟨s.val / J, Nat.div_lt_of_lt_mul (lt_of_lt_of_eq s.isLt (Nat.mul_comm a J))⟩ else 0) = ∑ i : Fin a, g i := by
  symm
  rw [← Fin.sum_mul_add_congr (L := a * J) (S := a) (n := J)
    (F := fun i j => if j.val = J - 1 then g i else 0)]
  · refine Finset.sum_congr rfl fun i _ => ?_
    rw [Finset.sum_eq_single (⟨J - 1, Nat.sub_lt hJ Nat.one_pos⟩ : Fin J)]
    · simp
    · intro j _ hj
      exact if_neg fun h => hj (Fin.ext h)
    · simp
  · intro i j hl
    have e1 : (i.val * J + j.val) % J = j.val := by rw [Nat.mul_comm, Nat.mul_add_mod, Nat.mod_eq_of_lt j.isLt]
    have e2 : (i.val * J + j.val) / J = i.val := by
      rw [Nat.mul_comm, Nat.mul_add_div hJ, Nat.div_eq_of_lt j.isLt, Nat.add_zero]
    simp only [e1, e2]

/-- A sequence's run of grid points: four row blocks of `J` points, the last of each adding its block's term. -/
theorem sum_run (J : ℕ) (hJ : 0 < J) (S : Fin 4 → EReal) (T : Fin (4 * J) → EReal)
    (h : ∀ s : Fin (4 * J), T s = if s.val % J = J - 1 then S ⟨s.val / J, Nat.div_lt_of_lt_mul (lt_of_lt_of_eq s.isLt (Nat.mul_comm 4 J))⟩ else 0) :
    ∑ s, T s = ∑ i, S i :=
  (Finset.sum_congr rfl fun s _ => h s).trans (sum_ends 4 J hJ S)

/-- The whole grid: two sequences of four row blocks of `J` points. -/
theorem sum_grid (J : ℕ) (hJ : 0 < J) (S : Fin 2 → Fin 4 → EReal) (T : Fin (8 * J) → EReal)
    (h : ∀ s : Fin (8 * J), T s = if s.val % J = J - 1 then S ⟨s.val / J / 4, by
        have := Nat.div_lt_of_lt_mul (lt_of_lt_of_eq s.isLt (Nat.mul_comm 8 J)); omega⟩ ⟨s.val / J % 4, Nat.mod_lt _ (by decide)⟩ else 0) :
    ∑ s, T s = ∑ b, ∑ i, S b i := by
  rw [Finset.sum_congr rfl fun s _ => h s]
  refine (sum_ends 8 J hJ fun g => S ⟨g.val / 4, by omega⟩ ⟨g.val % 4, Nat.mod_lt _ (by decide)⟩).trans ?_
  refine (Fin.sum_mul_add_congr (L := 8) fun b i hl => ?_).symm
  have e1 : (b.val * 4 + i.val) / 4 = b.val := by omega
  have e2 : (b.val * 4 + i.val) % 4 = i.val := by omega
  simp only [e1, e2]

/-- The reciprocal root of a row's mean square (plus the small constant), and the word constants. -/
def rstd (X : Fin 1024 → EReal) : EReal :=
  Ideal.rsqrt (Ideal.div (∑ k, X k * X k) (Ideal.ofBits .f32 0x44800000#32) + Ideal.ofBits .f32 0x358637BD#32)

theorem word_eps : ∃ e : ℝ, 0 < e ∧ Ideal.ofBits .f32 0x358637BD#32 = (e : EReal) := by
  refine ⟨_, ?_, by simp [Ideal.ofBits, Ideal.ieee, -EReal.coe_mul]; rfl⟩
  norm_num

theorem word_neg_half : Ideal.ofBits .f32 0xBF000000#32 = ((-1 / 2 : ℝ) : EReal) := by
  simp [Ideal.ofBits, Ideal.ieee, -EReal.coe_mul]; norm_num

/-- The mean square plus the constant is a positive real. -/
theorem ms_real (x : Fin 1024 → ℝ) : ∃ v : ℝ, 0 < v ∧
    Ideal.div (∑ k, (x k : EReal) * (x k : EReal)) (Ideal.ofBits .f32 0x44800000#32) + Ideal.ofBits .f32 0x358637BD#32 = (v : EReal) := by
  obtain ⟨e, he, hw⟩ := word_eps
  refine ⟨(∑ k, x k * x k) / 1024 + e, ?_, ?_⟩
  · have : 0 ≤ ∑ k, x k * x k := Finset.sum_nonneg fun k _ => mul_self_nonneg _
    positivity
  · simp only [← EReal.coe_mul]
    rw [sum_coe, word_1024, hw, div_real _ (by norm_num), ← EReal.coe_add]

/-- The gradient of a row's entries, as the kernel writes it and as the derivative of the normalization gives it. -/
theorem norm_dx (x n : Fin 1024 → ℝ) (d : EReal) (k : Fin 1024) :
    d + rstd (fun j => x j) * ((n k : EReal) - x k * rstd (fun j => x j) *
        Ideal.div (∑ j, (n j : EReal) * (x j * rstd (fun j => x j))) (Ideal.ofBits .f32 0x44800000#32))
      = ((d + n k * rstd (fun j => x j)) + x k * Ideal.div ((∑ j, (x j : EReal) * n j) *
          (Ideal.ofBits .f32 0xBF000000#32 * Ideal.div (rstd (fun j => x j))
            (Ideal.div (∑ j, (x j : EReal) * x j) (Ideal.ofBits .f32 0x44800000#32) + Ideal.ofBits .f32 0x358637BD#32)))
          (Ideal.ofBits .f32 0x44800000#32))
        + Ideal.div ((∑ j, (x j : EReal) * n j) *
          (Ideal.ofBits .f32 0xBF000000#32 * Ideal.div (rstd (fun j => x j))
            (Ideal.div (∑ j, (x j : EReal) * x j) (Ideal.ofBits .f32 0x44800000#32) + Ideal.ofBits .f32 0x358637BD#32)))
          (Ideal.ofBits .f32 0x44800000#32) * x k := by
  obtain ⟨v, hv, e⟩ := ms_real x
  have hr : rstd (fun j => (x j : EReal)) = (((Real.sqrt v)⁻¹ : ℝ) : EReal) := by
    unfold rstd
    rw [e, rsqrt_pos hv]
  have hs : (Real.sqrt v)⁻¹ * (Real.sqrt v)⁻¹ = v⁻¹ := by
    rw [← mul_inv, Real.mul_self_sqrt hv.le]
  rw [hr, e, word_1024, word_neg_half]
  generalize (Real.sqrt v)⁻¹ = r at hs
  simp only [← EReal.coe_mul, sum_coe]
  have h0 : (1024 : ℝ) ≠ 0 := by norm_num
  simp only [div_real _ h0, div_real _ hv.ne', ← EReal.coe_mul, ← EReal.coe_sub, add_assoc, ← EReal.coe_add]
  congr 2
  have h1 : ∑ j, n j * (x j * r) = r * ∑ j, x j * n j := by
    rw [Finset.mul_sum]; exact Finset.sum_congr rfl fun j _ => by ring
  rw [h1, div_eq_mul_inv r v, ← hs]
  ring

/-- A sum over the first two of three axes, read at an index. -/
theorem reduce_rows {n0 n1 n2 : Nat} (h : (⟨3, ![n0, n1, n2]⟩ : Shape).ReducesTo [0, 1] ⟨1, ![n2]⟩)
    (v : (⟨3, ![n0, n1, n2]⟩ : Shape).Idx → EReal) (z : EReal) (j : (⟨1, ![n2]⟩ : Shape).Idx) :
    Ideal.hostReduceAdd h v z j = z + ∑ a : Fin n0, ∑ b : Fin n1, v (ix3 a b (j 0)) := by
  refine congrArg (z + ·) ((Finset.sum_filter_eq_sum_of_fiber _ (fun p : Fin n0 × Fin n1 => (ix3 p.1 p.2 (j 0) : (⟨3, ![n0, n1, n2]⟩ : Shape).Idx))
    (fun _ _ e => Prod.ext (congrFun e 0) (congrFun e 1)) (fun i => ?_) v).trans ?_)
  · constructor
    · intro e
      refine ⟨(i 0, i 1), funext fun a => Fin.ext ?_⟩
      match a with
      | ⟨0, _⟩ => rfl
      | ⟨1, _⟩ => rfl
      | ⟨2, _⟩ => exact (congrArg Fin.val (congrFun e 0)).symm
    · rintro ⟨p, rfl⟩
      exact funext fun b => Fin.ext (match b with | ⟨0, _⟩ => rfl)
  · simp only [Fintype.sum_prod_type]

end Cert.Proof.NormMath
-- ==== Proof.NormValue.lean ====
/- The gradient of a normalization, its modulation and the projection that reads it: what the kernel's grid (two sequences, four
   row blocks, two blocks of the projection's columns) leaves in its five results, read at an index. The gradient of the
   modulated row is accumulated over the column blocks; the gradients of shift, scale and gain over the row blocks. -/
module

public import proofs.«01_k».proof.Proof.Gen.NormIdeal.Value
public import proofs.«01_k».proof.Proof.Gen.NormRefIdeal.Run
public import proofs.«01_k».proof.Proof.NormMath
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.NormValue

open Cert.NormIdeal Cert.NormIdeal.Gen Idealize.ShloMosaic Idealize.ShloMosaic.TcCoe Idealize.SL.Sem

variable (m : (ℓ : Loc nD τ sig) → Buf (Elt Ideal) ℓ)

/-- The operands. -/
abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg4 (c : Dev nD) := m ((c : Thread nD τ).loc main_arg4)
abbrev arg5 (c : Dev nD) := m ((c : Thread nD τ).loc main_arg5)
abbrev arg6 (c : Dev nD) := m ((c : Thread nD τ).loc main_arg6)

/-- The contents of the arrays. -/
abbrev ArrX := (⟨3, ![2, 2048, 1024]⟩ : Shape).Idx → EReal
abbrev ArrY := (⟨3, ![2, 2048, 2048]⟩ : Shape).Idx → EReal
abbrev ArrG := (⟨2, ![1, 1024]⟩ : Shape).Idx → EReal
abbrev ArrS := (⟨3, ![2, 1, 1024]⟩ : Shape).Idx → EReal
abbrev ArrW := (⟨2, ![1024, 2048]⟩ : Shape).Idx → EReal

/-- The gradient of the modulated rows. -/
def dh (Y : ArrY) (W : ArrW) (b : Fin 2) (r : Fin 2048) (k : Fin 1024) : EReal :=
  ∑ e : Fin 2048, Y (ix3 b r e) * W (ix2 k e)

/-- The word of one. -/
abbrev one : EReal := Ideal.ofBits .f32 0x3F800000#32

/-- A row normalized. -/
def xn (A : ArrX) (b : Fin 2) (r : Fin 2048) (k : Fin 1024) : EReal :=
  A (ix3 b r k) * NormMath.rstd fun j => A (ix3 b r j)

/-- The gradient of the normalized row. -/
def dn (Y : ArrY) (W : ArrW) (G : ArrG) (S : ArrS) (b : Fin 2) (r : Fin 2048) (k : Fin 1024) : EReal :=
  dh Y W b r k * G (ix2 0 k) * (one + S (ix3 b 0 k))

def dx (A : ArrX) (G : ArrG) (S : ArrS) (W : ArrW) (R : ArrX) (Y : ArrY) : ArrX := fun i =>
  R i + (NormMath.rstd fun j => A (ix3 (i 0) (i 1) j)) * (dn Y W G S (i 0) (i 1) (i 2) - xn A (i 0) (i 1) (i 2) *
    Ideal.div (∑ k, dn Y W G S (i 0) (i 1) k * xn A (i 0) (i 1) k) (Ideal.ofBits .f32 0x44800000#32))

def dshift (Y : ArrY) (W : ArrW) : ArrS := fun i => ∑ r : Fin 2048, dh Y W (i 0) r (i 2)

def dscale (A : ArrX) (G : ArrG) (Y : ArrY) (W : ArrW) : ArrS := fun i =>
  ∑ r : Fin 2048, dh Y W (i 0) r (i 2) * xn A (i 0) r (i 2) * G (ix2 0 (i 2))

def dgain (A : ArrX) (S : ArrS) (Y : ArrY) (W : ArrW) : ArrG := fun i =>
  ∑ b : Fin 2, ∑ r : Fin 2048, dh Y W b r (i 1) * xn A b r (i 1) * (one + S (ix3 b 0 (i 1)))

/-- The blocks of grid point `t`: sequence `t / 8`, rows `512 (t / 2 % 4) …`, columns `1024 (t % 2) …` of the projection. -/
theorem idx0 : ∀ t : Fin cfg0.N, win0_0.index t = ![t.val / 8, t.val / 2 % 4, t.val % 2] :=
  (by decide +kernel : ∀ t : Fin grid0.N, win0_0.index t = ![t.val / 8, t.val / 2 % 4, t.val % 2])
theorem idx1 : ∀ t : Fin cfg0.N, win0_1.index t = ![t.val % 2, 0] :=
  (by decide +kernel : ∀ t : Fin grid0.N, win0_1.index t = ![t.val % 2, 0])
theorem idx2 : ∀ t : Fin cfg0.N, win0_2.index t = ![t.val / 8, t.val / 2 % 4, 0] :=
  (by decide +kernel : ∀ t : Fin grid0.N, win0_2.index t = ![t.val / 8, t.val / 2 % 4, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val / 8, 0, 0] :=
  (by decide +kernel : ∀ t : Fin grid0.N, win0_4.index t = ![t.val / 8, 0, 0])
theorem idx5 : ∀ t : Fin cfg0.N, win0_5.index t = ![t.val / 8, t.val / 2 % 4, 0] :=
  (by decide +kernel : ∀ t : Fin grid0.N, win0_5.index t = ![t.val / 8, t.val / 2 % 4, 0])
theorem idx6 : ∀ t : Fin cfg0.N, win0_6.index t = ![t.val / 8, t.val / 2 % 4, 0] :=
  (by decide +kernel : ∀ t : Fin grid0.N, win0_6.index t = ![t.val / 8, t.val / 2 % 4, 0])
theorem idx7 : ∀ t : Fin cfg0.N, win0_7.index t = ![t.val / 8, t.val / 2 % 4, t.val % 2] :=
  (by decide +kernel : ∀ t : Fin grid0.N, win0_7.index t = ![t.val / 8, t.val / 2 % 4, t.val % 2])
theorem idx8 : ∀ t : Fin cfg0.N, win0_8.index t = ![t.val / 8, 0, 0] :=
  (by decide +kernel : ∀ t : Fin grid0.N, win0_8.index t = ![t.val / 8, 0, 0])
theorem idx9 : ∀ t : Fin cfg0.N, win0_9.index t = ![t.val / 8, 0, 0] :=
  (by decide +kernel : ∀ t : Fin grid0.N, win0_9.index t = ![t.val / 8, 0, 0])
theorem idx10 : ∀ t : Fin cfg0.N, win0_10.index t = ![0, 0] :=
  (by decide +kernel : ∀ t : Fin grid0.N, win0_10.index t = ![0, 0])

/-- One grid point's share of the gradient of the modulated rows. -/
def part (D : (⟨3, ![1, 512, 1024]⟩ : Shape).Idx → EReal) (W : (⟨2, ![1024, 1024]⟩ : Shape).Idx → EReal) (y : (⟨2, ![512, 1024]⟩ : Shape).Idx) : EReal :=
  ∑ e : Fin 1024, D (ix3 0 (y 0) e) * W (ix2 e (y 1))

theorem pay_acc (D : FVec Ideal S1x512x1024 .bf16) (A : FVec Ideal S512x1024 .f32) (W : FVec Ideal S1024x1024 .bf16) (y : S512x1024.Idx) :
    k0_pay16 (F := Ideal) D A W y = A y + part D W y := by
  pointwise [k0_pay16, k0_pay14, part]

theorem pay_zero (y : S512x1024.Idx) : k0_pay10 (F := Ideal) y = 0 := by pointwise [k0_pay10]

theorem pay_dy (D : FVec Ideal S1x512x1024 .bf16) (y : S1x512x1024.Idx) : k0_pay15 (F := Ideal) D y = D y := by
  pointwise [k0_pay15, k0_pay14]

abbrev Blk := (⟨3, ![1, 512, 1024]⟩ : Shape).Idx → EReal

theorem pay_dshift (H : FVec Ideal S512x1024 .f32) (O : FVec Ideal S1x1x1024 .f32) (y : S1x1x1024.Idx) :
    k0_pay8 (F := Ideal) H O y = O y + ∑ r : Fin 512, H (ix2 r (y 2)) := by
  pointwise [k0_pay8]

/-- A block's rows normalized. -/
def xnB (A : Blk) (r : Fin 512) (k : Fin 1024) : EReal := A (ix3 0 r k) * NormMath.rstd fun j => A (ix3 0 r j)

theorem pay_dscale (H : FVec Ideal S512x1024 .f32) (A : FVec Ideal S1x512x1024 .f32) (G : FVec Ideal S1x1024 .f32) (O : FVec Ideal S1x1x1024 .f32) (y : S1x1x1024.Idx) :
    k0_pay1 (F := Ideal) (k0_pay9 (F := Ideal) H A G O) y = O y + ∑ r : Fin 512, H (ix2 r (y 2)) * xnB A r (y 2) * G (ix2 0 (y 2)) := by
  pointwise [k0_pay1, k0_pay9, k0_pay6, k0_pay5, k0_pay4, xnB, NormMath.rstd]

theorem pay_dgain (H : FVec Ideal S512x1024 .f32) (A : FVec Ideal S1x512x1024 .f32) (S : FVec Ideal S1x1x1024 .f32) (O : FVec Ideal S1x1024 .f32) (y : S1x1024.Idx) :
    k0_pay2 (F := Ideal) H (k0_pay6 (F := Ideal) A) (k0_pay7 (F := Ideal) S) O y
      = O y + ∑ r : Fin 512, H (ix2 r (y 1)) * xnB A r (y 1) * (one + S (ix3 0 0 (y 1))) := by
  pointwise [k0_pay2, k0_pay7, k0_pay6, k0_pay5, k0_pay4, xnB, NormMath.rstd]

/-- A block's rows of the gradient of the normalized row. -/
def dnB (H : (⟨2, ![512, 1024]⟩ : Shape).Idx → EReal) (G : ArrG) (S : (⟨3, ![1, 1, 1024]⟩ : Shape).Idx → EReal) (r : Fin 512) (k : Fin 1024) : EReal :=
  H (ix2 r k) * G (ix2 0 k) * (one + S (ix3 0 0 k))

theorem pay_dx (H : FVec Ideal S512x1024 .f32) (A : FVec Ideal S1x512x1024 .f32) (G : FVec Ideal S1x1024 .f32) (S : FVec Ideal S1x1x1024 .f32)
    (R : FVec Ideal S1x512x1024 .f32) (r : Fin 512) (k : Fin 1024) :
    k0_pay3 (F := Ideal) H (k0_pay5 (F := Ideal) A) (k0_pay6 (F := Ideal) A) G (k0_pay7 (F := Ideal) S) R (ix3 0 r k)
      = R (ix3 0 r k) + (NormMath.rstd fun j => A (ix3 0 r j)) * (dnB H G S r k - xnB A r k *
          Ideal.div (∑ k, dnB H G S r k * xnB A r k) (Ideal.ofBits .f32 0x44800000#32)) := by
  pointwise [k0_pay3, k0_pay7, k0_pay6, k0_pay5, k0_pay4, dnB, xnB, NormMath.rstd]

theorem seq_lt (t : Fin cfg0.N) : t.val / 8 < 2 := by
  have h : t.val < 16 := lt_of_lt_of_eq t.isLt N_0
  omega
theorem row_lt (i : Nat) (r : Fin 512) : i % 4 * 512 + r.val < 2048 := by omega

/-- Grid point `t`'s rows of an array of the gradient of the modulated rows. -/
def rowsOf (c : Dev nD) (t : Fin cfg0.N) : (⟨2, ![512, 1024]⟩ : Shape).Idx → EReal := fun y =>
  dh (arg6 m c) (arg4 m c) ⟨t.val / 8, seq_lt t⟩ ⟨t.val / 2 % 4 * 512 + (y 0).val, row_lt (t.val / 2) (y 0)⟩ (y 1)

theorem acc_reset (c : Dev nD) (t : Fin cfg0.N) (h : t.val % 2 = 0) (y : S512x1024.Idx) :
    (outsAt0 m c t.val t.isLt).2.2.2.2.2 y = part (iblk m c 0 t) (iblk m c 1 t) y := by
  have hn : ¬t.val % 2 = 1 := by omega
  have e : (outsAt0 m c t.val t.isLt).2.2.2.2.2 y = k0_pay16 (F := Ideal) (iblk m c 0 t) (k0_pay10 (F := Ideal)) (iblk m c 1 t) y := by
    by_cases h1 : t.val % 8 = 0
    · by_cases h2 : t.val % 16 = 0
      · rw [outsAt0_A m c t h h1 h2 hn]; frame_out
      · rw [outsAt0_D m c t h h1 h2 hn]; frame_out
    · rw [outsAt0_C m c t h h1 (by omega) hn]; frame_out
  rw [e, pay_acc, pay_zero, zero_add]

theorem acc_step (c : Dev nD) (t : Fin cfg0.N) (h : t.val % 2 = 1) :
    (outsAt0 m c t.val t.isLt).2.2.2.2.2 = k0_pay16 (F := Ideal) (iblk m c 0 t) (outsAt0 m c (t.val - 1) (Nat.lt_of_le_of_lt (Nat.sub_le _ _) t.isLt)).2.2.2.2.2 (iblk m c 1 t) := by
  rw [outsAt0_B m c t (by omega) (by omega) (by omega) h]; funext y; frame_out
  rw [read_unread_whole]

theorem acc_eq (c : Dev nD) (t : Fin cfg0.N) (h : t.val % 2 = 1) : (outsAt0 m c t.val t.isLt).2.2.2.2.2 = rowsOf m c t := by
  funext y
  rw [Pipeline.eq_sum_fin_of_reset_step_apply_of_flush (fun n h => (outsAt0 m c n h).2.2.2.2.2) 2 (fun _ => 0) (fun t => part (iblk m c 0 t) (iblk m c 1 t))
    (fun t h => fun y => (acc_reset m c t h y).trans (zero_add _).symm) (fun t h y => ?_) t h y, zero_add]
  · unfold rowsOf dh part
    refine Fin.sum_mul_add_congr fun s k hl => ?_
    blk_point [iblk, V, idx0 ⟨2 * (t.val / 2) + s.val, Pipeline.run_point_lt_of_flush t h s⟩, idx1 ⟨2 * (t.val / 2) + s.val, Pipeline.run_point_lt_of_flush t h s⟩]
  · rw [acc_step m c t (by omega), pay_acc]

theorem acc_rows (c : Dev nD) (t : Fin cfg0.N) (h : t.val % 2 = 1) :
    k0_pay16 (F := Ideal) (iblk m c 0 t) (outsAt0 m c (t.val - 1) (Nat.lt_of_le_of_lt (Nat.sub_le _ _) t.isLt)).2.2.2.2.2 (iblk m c 1 t) = rowsOf m c t :=
  (acc_step m c t h).symm.trans (acc_eq m c t h)

theorem final_dy (c : Dev nD) : (dats m 0 c).arrAt 7 cfg0.N = fun i => (arg6 m c) i := by
  refine (dats m 0 c).arrAt_eq_of_covers 7 _ (by decide +kernel) fun t hf y => ?_
  blk_simp
  rw [after0_7]
  have e : (outsAt0 m c t.val t.isLt).2.1 y = k0_pay15 (F := Ideal) (iblk m c 0 t) y := by
    by_cases h : t.val % 2 = 0
    · by_cases h1 : t.val % 8 = 0
      · by_cases h2 : t.val % 16 = 0
        · rw [outsAt0_A m c t h h1 h2 (by omega)]; frame_out
        · rw [outsAt0_D m c t h h1 h2 (by omega)]; frame_out
      · rw [outsAt0_C m c t h h1 (by omega) (by omega)]; frame_out
    · rw [outsAt0_B m c t h (by omega) (by omega) (by omega)]; frame_out
  rw [e, pay_dy]
  blk_point [iblk, V, idx0 t, idx7 t]

theorem final_dx (c : Dev nD) : (dats m 0 c).arrAt 6 cfg0.N = dx (arg0 m c) (arg1 m c) (arg2 m c) (arg4 m c) (arg5 m c) (arg6 m c) := by
  refine (dats m 0 c).arrAt_eq_of_covers 6 _ (by decide +kernel) fun t hf y => ?_
  have h : t.val % 2 = 1 := (flush0_6 t).mp hf
  obtain ⟨r, k, rfl⟩ : ∃ (r : Fin 512) (k : Fin 1024), y = ix3 0 r k := ⟨y 1, y 2, funext fun a => match a with
    | ⟨0, _⟩ => Fin.ext (Nat.lt_one_iff.mp (y 0).isLt)
    | ⟨1, _⟩ => rfl
    | ⟨2, _⟩ => rfl⟩
  blk_simp
  rw [after0_6]
  have e : (outsAt0 m c t.val t.isLt).1 (ix3 0 r k) = k0_pay3 (F := Ideal) (k0_pay16 (F := Ideal) (iblk m c 0 t) (outsAt0 m c (t.val - 1) (Nat.lt_of_le_of_lt (Nat.sub_le _ _) t.isLt)).2.2.2.2.2 (iblk m c 1 t)) (k0_pay5 (F := Ideal) (iblk m c 2 t)) (k0_pay6 (F := Ideal) (iblk m c 2 t))
      (iblk m c 3 t) (k0_pay7 (F := Ideal) (iblk m c 4 t)) (iblk m c 5 t) (ix3 0 r k) := by
    rw [outsAt0_B m c t (by omega) (by omega) (by omega) h]; frame_out
    rw [read_unread_whole]
  rw [e, acc_rows m c t h, pay_dx]
  unfold dx dn dnB xn xnB rowsOf
  blk_point [iblk, V, idx2 t, idx3 t, idx4 t, idx5 t, idx6 t]

/-- One row block's terms of a sum over the rows. -/
def blockSum (F : Fin 2 → Fin 2048 → Fin 1024 → EReal) (k : Fin 1024) (b : Fin 2) (i : Fin 4) : EReal :=
  ∑ r : Fin 512, F b ⟨i.val * 512 + r.val, by omega⟩ k

theorem sum_blocks (F : Fin 2 → Fin 2048 → Fin 1024 → EReal) (k : Fin 1024) (b : Fin 2) :
    ∑ i, blockSum F k b i = ∑ r, F b r k := Fin.sum_mul_add_congr fun _ _ _ => rfl

/-- What a grid point adds to a sum over the rows: at the last column block, its row block's terms. -/
def step (F : Fin 2 → Fin 2048 → Fin 1024 → EReal) (t : Fin cfg0.N) (k : Fin 1024) : EReal :=
  if t.val % 2 = 1 then blockSum F k ⟨t.val / 8, seq_lt t⟩ ⟨t.val / 2 % 4, Nat.mod_lt _ (by decide)⟩ else 0

/-- The terms of the three sums. -/
def fShift (Y : ArrY) (W : ArrW) : Fin 2 → Fin 2048 → Fin 1024 → EReal := fun b r k => dh Y W b r k
def fScale (A : ArrX) (G : ArrG) (Y : ArrY) (W : ArrW) : Fin 2 → Fin 2048 → Fin 1024 → EReal :=
  fun b r k => dh Y W b r k * xn A b r k * G (ix2 0 k)
def fGain (A : ArrX) (S : ArrS) (Y : ArrY) (W : ArrW) : Fin 2 → Fin 2048 → Fin 1024 → EReal :=
  fun b r k => dh Y W b r k * xn A b r k * (one + S (ix3 b 0 k))

theorem zero_shift (y : S1x1x1024.Idx) : k0_pay11 (F := Ideal) y = 0 := by pointwise [k0_pay11]

theorem step_shift (c : Dev nD) (t : Fin cfg0.N) (h : ¬t.val % 8 = 0) (y : S1x1x1024.Idx) :
    (outsAt0 m c t.val t.isLt).2.2.1 y = (outsAt0 m c (t.val - 1) (Nat.lt_of_le_of_lt (Nat.sub_le _ _) t.isLt)).2.2.1 y + step (fShift (arg6 m c) (arg4 m c)) t (y 2) := by
  unfold step
  by_cases h1 : t.val % 2 = 1
  · rw [if_pos h1]
    have e : (outsAt0 m c t.val t.isLt).2.2.1 y = k0_pay8 (F := Ideal) (k0_pay16 (F := Ideal) (iblk m c 0 t) (outsAt0 m c (t.val - 1) (Nat.lt_of_le_of_lt (Nat.sub_le _ _) t.isLt)).2.2.2.2.2 (iblk m c 1 t)) (outsAt0 m c (t.val - 1) (Nat.lt_of_le_of_lt (Nat.sub_le _ _) t.isLt)).2.2.1 y := by
      rw [outsAt0_B m c t (by omega) (by omega) (by omega) h1]; frame_out
      rw [read_unread_whole]
    rw [e, acc_rows m c t h1, pay_dshift]
    unfold blockSum fShift
    blk_point [iblk, V]
    rfl
  · rw [if_neg h1, add_zero]
    rw [outsAt0_C m c t (by omega) h (by omega) h1]; rfl

theorem reset_shift (c : Dev nD) (t : Fin cfg0.N) (h : t.val % 8 = 0) (y : S1x1x1024.Idx) :
    (outsAt0 m c t.val t.isLt).2.2.1 y = 0 + step (fShift (arg6 m c) (arg4 m c)) t (y 2) := by
  unfold step
  rw [if_neg (by omega), add_zero, ← zero_shift y]
  by_cases h2 : t.val % 16 = 0
  · rw [outsAt0_A m c t (by omega) h h2 (by omega)]; frame_out
  · rw [outsAt0_D m c t (by omega) h h2 (by omega)]; frame_out

theorem total_shift (c : Dev nD) (t : Fin cfg0.N) (h : t.val % 8 = 7) (y : S1x1x1024.Idx) :
    (outsAt0 m c t.val t.isLt).2.2.1 y = ∑ r, fShift (arg6 m c) (arg4 m c) ⟨t.val / 8, seq_lt t⟩ r (y 2) := by
  rw [Pipeline.eq_sum_fin_of_reset_step_apply_of_flush (fun n h => (outsAt0 m c n h).2.2.1) 8 (fun _ => 0)
    (fun t y => step (fShift (arg6 m c) (arg4 m c)) t (y 2)) (reset_shift m c) (step_shift m c) t h y, zero_add]
  refine Eq.trans ?_ (sum_blocks (fShift (arg6 m c) (arg4 m c)) (y 2) ⟨t.val / 8, seq_lt t⟩)
  refine NormMath.sum_run 2 (by decide) (blockSum (fShift (arg6 m c) (arg4 m c)) (y 2) ⟨t.val / 8, seq_lt t⟩) _ fun s => ?_
  have hs : s.val < 8 := s.isLt
  have e1 : (8 * (t.val / 8) + s.val) / 8 = t.val / 8 := by omega
  have e2 : (8 * (t.val / 8) + s.val) / 2 % 4 = s.val / 2 := by omega
  have e3 : (8 * (t.val / 8) + s.val) % 2 = s.val % 2 := by omega
  simp only [step, e1, e2, e3]

theorem final_dshift (c : Dev nD) : (dats m 0 c).arrAt 8 cfg0.N = dshift (arg6 m c) (arg4 m c) := by
  refine (dats m 0 c).arrAt_eq_of_covers 8 _ (by decide +kernel) fun t hf y => ?_
  rw [after0_8]
  refine (total_shift m c t ((flush0_8 t).mp hf) y).trans ?_
  unfold dshift fShift
  blk_point [idx8 t]

theorem zero_scale (y : S1x1x1024.Idx) : k0_pay12 (F := Ideal) y = 0 := by pointwise [k0_pay12]

theorem step_scale (c : Dev nD) (t : Fin cfg0.N) (h : ¬t.val % 8 = 0) (y : S1x1x1024.Idx) :
    (outsAt0 m c t.val t.isLt).2.2.2.1 y = (outsAt0 m c (t.val - 1) (Nat.lt_of_le_of_lt (Nat.sub_le _ _) t.isLt)).2.2.2.1 y + step (fScale (arg0 m c) (arg1 m c) (arg6 m c) (arg4 m c)) t (y 2) := by
  unfold step
  by_cases h1 : t.val % 2 = 1
  · rw [if_pos h1]
    have e : (outsAt0 m c t.val t.isLt).2.2.2.1 y = k0_pay1 (F := Ideal) (k0_pay9 (F := Ideal) (k0_pay16 (F := Ideal) (iblk m c 0 t) (outsAt0 m c (t.val - 1) (Nat.lt_of_le_of_lt (Nat.sub_le _ _) t.isLt)).2.2.2.2.2 (iblk m c 1 t)) (iblk m c 2 t) (iblk m c 3 t) (outsAt0 m c (t.val - 1) (Nat.lt_of_le_of_lt (Nat.sub_le _ _) t.isLt)).2.2.2.1) y := by
      rw [outsAt0_B m c t (by omega) (by omega) (by omega) h1]; frame_out
      rw [read_unread_whole]
    rw [e, acc_rows m c t h1, pay_dscale]
    unfold blockSum fScale xn xnB
    blk_point [iblk, V, idx2 t, idx3 t]
    rfl
  · rw [if_neg h1, add_zero]
    rw [outsAt0_C m c t (by omega) h (by omega) h1]; rfl

theorem reset_scale (c : Dev nD) (t : Fin cfg0.N) (h : t.val % 8 = 0) (y : S1x1x1024.Idx) :
    (outsAt0 m c t.val t.isLt).2.2.2.1 y = 0 + step (fScale (arg0 m c) (arg1 m c) (arg6 m c) (arg4 m c)) t (y 2) := by
  unfold step
  rw [if_neg (by omega), add_zero, ← zero_scale y]
  by_cases h2 : t.val % 16 = 0
  · rw [outsAt0_A m c t (by omega) h h2 (by omega)]; frame_out
  · rw [outsAt0_D m c t (by omega) h h2 (by omega)]; frame_out

theorem total_scale (c : Dev nD) (t : Fin cfg0.N) (h : t.val % 8 = 7) (y : S1x1x1024.Idx) :
    (outsAt0 m c t.val t.isLt).2.2.2.1 y = ∑ r, fScale (arg0 m c) (arg1 m c) (arg6 m c) (arg4 m c) ⟨t.val / 8, seq_lt t⟩ r (y 2) := by
  rw [Pipeline.eq_sum_fin_of_reset_step_apply_of_flush (fun n h => (outsAt0 m c n h).2.2.2.1) 8 (fun _ => 0)
    (fun t y => step (fScale (arg0 m c) (arg1 m c) (arg6 m c) (arg4 m c)) t (y 2)) (reset_scale m c) (step_scale m c) t h y, zero_add]
  refine Eq.trans ?_ (sum_blocks (fScale (arg0 m c) (arg1 m c) (arg6 m c) (arg4 m c)) (y 2) ⟨t.val / 8, seq_lt t⟩)
  refine NormMath.sum_run 2 (by decide) (blockSum (fScale (arg0 m c) (arg1 m c) (arg6 m c) (arg4 m c)) (y 2) ⟨t.val / 8, seq_lt t⟩) _ fun s => ?_
  have hs : s.val < 8 := s.isLt
  have e1 : (8 * (t.val / 8) + s.val) / 8 = t.val / 8 := by omega
  have e2 : (8 * (t.val / 8) + s.val) / 2 % 4 = s.val / 2 := by omega
  have e3 : (8 * (t.val / 8) + s.val) % 2 = s.val % 2 := by omega
  simp only [step, e1, e2, e3]

theorem final_dscale (c : Dev nD) : (dats m 0 c).arrAt 9 cfg0.N = dscale (arg0 m c) (arg1 m c) (arg6 m c) (arg4 m c) := by
  refine (dats m 0 c).arrAt_eq_of_covers 9 _ (by decide +kernel) fun t hf y => ?_
  rw [after0_9]
  refine (total_scale m c t ((flush0_9 t).mp hf) y).trans ?_
  unfold dscale fScale
  blk_point [idx9 t]

theorem zero_gain (y : S1x1024.Idx) : k0_pay13 (F := Ideal) y = 0 := by pointwise [k0_pay13]

theorem step_gain (c : Dev nD) (t : Fin cfg0.N) (h : ¬t.val % 16 = 0) (y : S1x1024.Idx) :
    (outsAt0 m c t.val t.isLt).2.2.2.2.1 y = (outsAt0 m c (t.val - 1) (Nat.lt_of_le_of_lt (Nat.sub_le _ _) t.isLt)).2.2.2.2.1 y + step (fGain (arg0 m c) (arg2 m c) (arg6 m c) (arg4 m c)) t (y 1) := by
  unfold step
  by_cases h1 : t.val % 2 = 1
  · rw [if_pos h1]
    have e : (outsAt0 m c t.val t.isLt).2.2.2.2.1 y = k0_pay2 (F := Ideal) (k0_pay16 (F := Ideal) (iblk m c 0 t) (outsAt0 m c (t.val - 1) (Nat.lt_of_le_of_lt (Nat.sub_le _ _) t.isLt)).2.2.2.2.2 (iblk m c 1 t)) (k0_pay6 (F := Ideal) (iblk m c 2 t)) (k0_pay7 (F := Ideal) (iblk m c 4 t)) (outsAt0 m c (t.val - 1) (Nat.lt_of_le_of_lt (Nat.sub_le _ _) t.isLt)).2.2.2.2.1 y := by
      rw [outsAt0_B m c t (by omega) (by omega) (by omega) h1]; frame_out
      rw [read_unread_whole]
    rw [e, acc_rows m c t h1, pay_dgain]
    unfold blockSum fGain xn xnB
    blk_point [iblk, V, idx2 t, idx4 t]
    rfl
  · rw [if_neg h1, add_zero]
    by_cases h2 : t.val % 8 = 0
    · rw [outsAt0_D m c t (by omega) h2 h h1]; rfl
    · rw [outsAt0_C m c t (by omega) h2 h h1]; rfl

theorem reset_gain (c : Dev nD) (t : Fin cfg0.N) (h : t.val % 16 = 0) (y : S1x1024.Idx) :
    (outsAt0 m c t.val t.isLt).2.2.2.2.1 y = 0 + step (fGain (arg0 m c) (arg2 m c) (arg6 m c) (arg4 m c)) t (y 1) := by
  unfold step
  rw [if_neg (by omega), add_zero, ← zero_gain y]
  rw [outsAt0_A m c t (by omega) (by omega) h (by omega)]; frame_out

theorem total_gain (c : Dev nD) (t : Fin cfg0.N) (h : t.val % 16 = 15) (y : S1x1024.Idx) :
    (outsAt0 m c t.val t.isLt).2.2.2.2.1 y = ∑ b, ∑ r, fGain (arg0 m c) (arg2 m c) (arg6 m c) (arg4 m c) b r (y 1) := by
  rw [Pipeline.eq_sum_fin_of_reset_step_apply_of_flush (fun n h => (outsAt0 m c n h).2.2.2.2.1) 16 (fun _ => 0)
    (fun t y => step (fGain (arg0 m c) (arg2 m c) (arg6 m c) (arg4 m c)) t (y 1)) (reset_gain m c) (step_gain m c) t h y, zero_add]
  refine Eq.trans ?_ (Finset.sum_congr rfl fun b _ => sum_blocks (fGain (arg0 m c) (arg2 m c) (arg6 m c) (arg4 m c)) (y 1) b)
  refine NormMath.sum_grid 2 (by decide) (blockSum (fGain (arg0 m c) (arg2 m c) (arg6 m c) (arg4 m c)) (y 1)) _ fun s => ?_
  have hN : t.val < 16 := lt_of_lt_of_eq t.isLt N_0
  have hs : s.val < 16 := s.isLt
  have e1 : (16 * (t.val / 16) + s.val) / 8 = s.val / 2 / 4 := by omega
  have e2 : (16 * (t.val / 16) + s.val) / 2 % 4 = s.val / 2 % 4 := by omega
  have e3 : (16 * (t.val / 16) + s.val) % 2 = s.val % 2 := by omega
  simp only [step, e1, e2, e3]

theorem final_dgain (c : Dev nD) : (dats m 0 c).arrAt 10 cfg0.N = dgain (arg0 m c) (arg2 m c) (arg6 m c) (arg4 m c) := by
  refine (dats m 0 c).arrAt_eq_of_covers 10 _ (by decide +kernel) fun t hf y => ?_
  rw [after0_10]
  refine (total_gain m c t ((flush0_10 t).mp hf) y).trans ?_
  unfold dgain fGain
  blk_point [idx10 t]

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v3_0) = dx (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
      ∧ r.2.mem ((c : Thread nD τ).loc main_v3_1) = (fun i => (m ((c : Thread nD τ).loc main_arg6)) i)
      ∧ r.2.mem ((c : Thread nD τ).loc main_v3_2) = dshift (m ((c : Thread nD τ).loc main_arg6)) (m ((c : Thread nD τ).loc main_arg4))
      ∧ r.2.mem ((c : Thread nD τ).loc main_v3_3) = dscale (m ((c : Thread nD τ).loc main_arg0)) (m ((c : Thread nD τ).loc main_arg1)) (m ((c : Thread nD τ).loc main_arg6)) (m ((c : Thread nD τ).loc main_arg4))
      ∧ r.2.mem ((c : Thread nD τ).loc main_v3_4) = dgain (m ((c : Thread nD τ).loc main_arg0)) (m ((c : Thread nD τ).loc main_arg2)) (m ((c : Thread nD τ).loc main_arg6)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  simpa only [final_dx, final_dy, final_dshift, final_dscale, final_dgain] using Cert.NormIdeal.Value.run_blocks m ρ

end Cert.Proof.NormValue
-- ==== Proof.NormClaim.lean ====
/- The gradient of a normalization, its modulation and the projection that reads it: the claims about the pair. -/
module

public import proofs.«01_k».proof.Defs
public import proofs.«01_k».proof.Proof.Gen.Norm.Frame
public import proofs.«01_k».proof.Proof.NormValue
public import proofs.«01_k».proof.Proof.Gen.Pre_norm_finite
public import proofs.«01_k».proof.Proof.Finite

@[expose] public section

set_option maxRecDepth 16384

noncomputable section

namespace Cert.Proof.NormClaim

open  Idealize.ShloMosaic Idealize.ShloMosaic.TcCoe Idealize.SL.Sem

/-- The reference's frame. -/
theorem frame_ref : Cert.quiescent_NormRefIdeal := fun m ρ _ =>
  (θ_run Cert.NormRefIdeal.defs _ _).mono (fun r h => ⟨fun c => (h c).2.2.2.2.2, sem_eq_zero_of_no_sems (by decide) r.2⟩)
    (Cert.NormRefIdeal.Value.run (F := Ideal) m ρ)

section
open Cert.NormRefIdeal Cert.NormRefIdeal.Gen
variable (A0 A5 : FVec Ideal S2x2048x1024 .f32) (A1 : FVec Ideal S1x1024 .f32) (A2 : FVec Ideal S2x1x1024 .f32) (A4 : FVec Ideal S1024x2048 .f32) (A6 : FVec Ideal S2x2048x2048 .f32)

/-- The mean square of a row and the constant beside it. -/
abbrev spread (A0 : FVec Ideal S2x2048x1024 .f32) : FVec Ideal S2x2048x1 .f32 := addf (Host.divf (broadcastInDim S2x2048x1 ![0, 1] bcast_S2x2048_S2x2048x1_0_1 (Host.reduceAdd (mulf A0 A0) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- The derivative of the mean square, spread over the row. -/
abbrev pulled (A0 : FVec Ideal S2x2048x1024 .f32) (A1 : FVec Ideal S1x1024 .f32) (A2 : FVec Ideal S2x1x1024 .f32) (A4 : FVec Ideal S1024x2048 .f32) (A6 : FVec Ideal S2x2048x2048 .f32) : FVec Ideal S2x2048x1024 .f32 :=
  broadcastInDim S2x2048x1024 ![0, 1] bcast_S2x2048_S2x2048x1024_0_1 (Host.reduceAdd (Host.divf (mulf (shapeCast _ (Host.reduceAdd (mulf A0 (mulf (mulf (Host.dotGeneral dot_S2x2048x2048_S1024x2048_S2x2048x1024_2_1_01_0_n_n none A6 A4) (broadcastInDim S2x2048x1024 ![0, 1, 2] bcast_S2x1x1024_S2x2048x1024_0_1_2 (addf (broadcastInDim S2x1x1024 ![] bcast_S_S2x1x1024 (constant S_ .f32 0x3F800000#32)) A2))) (broadcastInDim S2x2048x1024 ![0, 1, 2] bcast_S1x1x1024_S2x2048x1024_0_1_2 (broadcastInDim S1x1x1024 ![2] bcast_S1024_S1x1x1024_2 (shapeCast _ A1 shapeCasts_S1x1024_S1024))))) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (spread A0)) (spread A0)))) (broadcastInDim S2x2048x1 ![] bcast_S_S2x2048x1 (constant S_ .f32 0x44800000#32))) (constant S_ .f32 0x00000000#32) reducesTo_S2x2048x1_S2x2048_d2 h_S_)

theorem ref_dshift : (shapeCast _ (Host.reduceAdd (Host.dotGeneral dot_S2x2048x2048_S1024x2048_S2x2048x1024_2_1_01_0_n_n none A6 A4) (constant S_ .f32 0x00000000#32) reducesTo_S2x2048x1024_S2x1024_d1 h_S_) shapeCasts_S2x1024_S2x1x1024 : FVec Ideal S2x1x1024 .f32) = NormValue.dshift A6 A4 := by
  funext i
  pointwise [NormValue.dshift, NormValue.dh]

theorem ref_dscale : (shapeCast _ (Host.reduceAdd (mulf (mulf (mulf A0 (broadcastInDim S2x2048x1024 ![0, 1, 2] bcast_S2x2048x1_S2x2048x1024_0_1_2 (Host.rsqrt (spread A0)))) (broadcastInDim S2x2048x1024 ![0, 1, 2] bcast_S1x1x1024_S2x2048x1024_0_1_2 (broadcastInDim S1x1x1024 ![2] bcast_S1024_S1x1x1024_2 (shapeCast _ A1 shapeCasts_S1x1024_S1024)))) (Host.dotGeneral dot_S2x2048x2048_S1024x2048_S2x2048x1024_2_1_01_0_n_n none A6 A4)) (constant S_ .f32 0x00000000#32) reducesTo_S2x2048x1024_S2x1024_d1 h_S_) shapeCasts_S2x1024_S2x1x1024 : FVec Ideal S2x1x1024 .f32) = NormValue.dscale A0 A1 A6 A4 := by
  funext i
  pointwise [spread, NormValue.dscale, NormValue.xn, NormValue.dh, NormMath.rstd]
  exact Finset.sum_congr rfl fun _ _ => by rw [mul_comm, ← mul_assoc]

theorem ref_dgain : (broadcastInDim S1x1024 ![1] bcast_S1024_S1x1024_1 (Host.reduceAdd (shapeCast _ (Host.reduceAdd (mulf (mulf A0 (broadcastInDim S2x2048x1024 ![0, 1, 2] bcast_S2x2048x1_S2x2048x1024_0_1_2 (Host.rsqrt (spread A0)))) (mulf (Host.dotGeneral dot_S2x2048x2048_S1024x2048_S2x2048x1024_2_1_01_0_n_n none A6 A4) (broadcastInDim S2x2048x1024 ![0, 1, 2] bcast_S2x1x1024_S2x2048x1024_0_1_2 (addf (broadcastInDim S2x1x1024 ![] bcast_S_S2x1x1024 (constant S_ .f32 0x3F800000#32)) A2)))) (constant S_ .f32 0x00000000#32) reducesTo_S2x2048x1024_S1024_d0_1 h_S_) shapeCasts_S1024_S1x1x1024) (constant S_ .f32 0x00000000#32) reducesTo_S1x1x1024_S1024_d0_1 h_S_) : FVec Ideal S1x1024 .f32) = NormValue.dgain A0 A2 A6 A4 := by
  funext i
  pointwise [spread, NormValue.dgain, NormValue.xn, NormValue.dh, NormMath.rstd, NormMath.reduce_rows]
  simp only [Finset.univ_unique, Finset.sum_singleton]
  refine Finset.sum_congr rfl fun _ _ => Finset.sum_congr rfl fun _ _ => ?_
  rw [← mul_assoc, mul_comm (_ * Ideal.rsqrt _)]

/-- The gradient of the rows, where the arrays it is computed from hold reals. -/
theorem ref_dx (h0 : ∀ i, ∃ r : ℝ, A0 i = r) (h1 : ∀ i, ∃ r : ℝ, A1 i = r) (h2 : ∀ i, ∃ r : ℝ, A2 i = r)
    (h4 : ∀ i, ∃ r : ℝ, A4 i = r) (h6 : ∀ i, ∃ r : ℝ, A6 i = r) : (addf (addf (addf A5 (mulf (mulf (mulf (Host.dotGeneral dot_S2x2048x2048_S1024x2048_S2x2048x1024_2_1_01_0_n_n none A6 A4) (broadcastInDim S2x2048x1024 ![0, 1, 2] bcast_S2x1x1024_S2x2048x1024_0_1_2 (addf (broadcastInDim S2x1x1024 ![] bcast_S_S2x1x1024 (constant S_ .f32 0x3F800000#32)) A2))) (broadcastInDim S2x2048x1024 ![0, 1, 2] bcast_S1x1x1024_S2x2048x1024_0_1_2 (broadcastInDim S1x1x1024 ![2] bcast_S1024_S1x1x1024_2 (shapeCast _ A1 shapeCasts_S1x1024_S1024)))) (broadcastInDim S2x2048x1024 ![0, 1, 2] bcast_S2x2048x1_S2x2048x1024_0_1_2 (Host.rsqrt (spread A0))))) (mulf A0 (pulled A0 A1 A2 A4 A6))) (mulf (pulled A0 A1 A2 A4 A6) A0) : FVec Ideal S2x2048x1024 .f32) = NormValue.dx A0 A1 A2 A4 A5 A6 := by
  funext i
  obtain ⟨b, r, k, rfl⟩ : ∃ (b : Fin 2) (r : Fin 2048) (k : Fin 1024), i = ix3 b r k :=
    ⟨i 0, i 1, i 2, funext fun a => match a with | ⟨0, _⟩ => rfl | ⟨1, _⟩ => rfl | ⟨2, _⟩ => rfl⟩
  pointwise [spread, pulled, NormValue.dx, NormValue.xn, NormValue.dn, NormValue.dh, NormMath.rstd]
  have hn : ∀ k : Fin 1024, ∃ n : ℝ, (∑ e : Fin 2048, A6 (ix3 b r e) * A4 (ix2 k e)) * (1 + A2 (ix3 b 0 k)) * A1 (ix2 0 k) = (n : EReal) := by
    intro k
    choose y hy using h6
    choose w hw using h4
    obtain ⟨s, hs⟩ := h2 (ix3 b 0 k)
    obtain ⟨g, hg⟩ := h1 (ix2 0 k)
    simp only [hy, hw, hs, hg, ← EReal.coe_mul, Reals.sum_coe]
    exact ⟨(∑ e : Fin 2048, y (ix3 b r e) * w (ix2 k e)) * (1 + s) * g, by push_cast; rfl⟩
  choose n hn using hn
  choose x hx using fun k : Fin 1024 => h0 (ix3 b r k)
  simp only [mul_right_comm _ (A1 _) (1 + _), hn, hx, Finset.univ_unique, Finset.sum_singleton]
  exact (NormMath.norm_dx x n (A5 (ix3 b r k)) k).symm
end

/-- What the precondition says of the arrays on one device. -/
theorem reals {A0 A5 : FVec Ideal Cert.Pre_norm_finite.S2x2048x1024 .f32} {A1 : FVec Ideal Cert.Pre_norm_finite.S1x1024 .f32}
    {A2 A3 : FVec Ideal Cert.Pre_norm_finite.S2x1x1024 .f32} {A4 : FVec Ideal Cert.Pre_norm_finite.S1024x2048 .f32}
    {A6 : FVec Ideal Cert.Pre_norm_finite.S2x2048x2048 .f32}
    (h : Cert.Pre_norm_finite.fn (F := Ideal) A0 A1 A2 A3 A4 A5 A6 = fun _ => 1#1) :
    (∀ i, ∃ r : ℝ, A0 i = r) ∧ (∀ i, ∃ r : ℝ, A1 i = r) ∧ (∀ i, ∃ r : ℝ, A2 i = r) ∧ (∀ i, ∃ r : ℝ, A4 i = r) ∧ (∀ i, ∃ r : ℝ, A6 i = r) := by
  obtain ⟨h, h6⟩ := Finite.both h
  obtain ⟨h, h4⟩ := Finite.both h
  obtain ⟨h, h2⟩ := Finite.both h
  obtain ⟨h0, h1⟩ := Finite.both h
  exact ⟨Finite.all_real _ _ _ _ _ (congrFun h0 ix0), Finite.all_real _ _ _ _ _ (congrFun h1 ix0), Finite.all_real _ _ _ _ _ (congrFun h2 ix0),
    Finite.all_real _ _ _ _ _ (congrFun h4 ix0), Finite.all_real _ _ _ _ _ (congrFun h6 ix0)⟩

theorem algebraic : Cert.algebraic_NormIdeal_NormRefIdeal_pre_norm_finite := by
  intro m g m' g' hp hagree
  refine ⟨_, _, _, _, _, NormValue.run m g, θ_run_mono (Cert.NormRefIdeal.Value.run (F := Ideal) m' g') fun r h c => ?_⟩
  have hc := hp c
  obtain ⟨h0, h1, h2, h3, h4, h5, h6⟩ := hagree c
  obtain ⟨r0, r1, r2, r3, r4, rest⟩ := h c
  refine ⟨r0.trans ?_, r1.trans ?_, r2.trans ?_, r3.trans ?_, r4.trans ?_, rest⟩
  · rw [Cert.NormRefIdeal.Value.res_main_v52, h0, h1, h2, h4, h5, h6]
    obtain ⟨f0, f1, f2, f4, f6⟩ := reals hc
    exact ref_dx _ _ _ _ _ _ f0 f1 f2 f4 f6
  · rw [h6]; rfl
  · rw [h4, h6]; exact ref_dshift _ _
  · rw [h0, h1, h4, h6]; exact ref_dscale _ _ _ _
  · rw [h0, h2, h4, h6]; exact ref_dgain _ _ _ _

end Cert.Proof.NormClaim
-- ==== Proof.NormConvPay.lean ====
/- The gradient of a causal convolution's argument, one block of rows with the next block's first rows, as the kernel computes it. -/
module

public import proofs.«01_k».proof.Proof.Gen.NormConvIdeal.Skeleton
public import Idealize.ShloMosaic.Lib.Pipeline.ValueKit
public import Idealize.ShloMosaic.Lib.Pointwise
public import Idealize.ShloMosaic.Lib.WordCmp

@[expose] public section

set_option maxRecDepth 16384

noncomputable section

namespace Cert.Proof.NormConvPay

open Cert.NormConvIdeal Cert.NormConvIdeal.Gen Idealize.ShloMosaic Idealize.ShloMosaic.TcCoe Idealize.SL.Sem

abbrev BD := (⟨3, ![1, 512, 1408]⟩ : Shape).Idx → EReal
abbrev BN := (⟨3, ![1, 16, 1408]⟩ : Shape).Idx → EReal
abbrev BC := (⟨2, ![3, 1408]⟩ : Shape).Idx → EReal

/-- The first rows of the next block; past the last block there are none. -/
def nx (q : ℕ) (N : BN) (k : Fin 16) (e : Fin 1408) : EReal := if q = 3 then 0 else N (ix3 0 k e)

/-- A block's rows of the gradient of the convolution's argument. -/
def duB (q : ℕ) (D : BD) (N : BN) (C : BC) (r : Fin 512) (e : Fin 1408) : EReal :=
  C (ix2 2 e) * D (ix3 0 r e) + C (ix2 1 e) * (if h : r.val + 1 < 512 then D (ix3 0 ⟨r.val + 1, h⟩ e) else nx q N 0 e)
    + C (ix2 0 e) * (if h : r.val + 2 < 512 then D (ix3 0 ⟨r.val + 2, h⟩ e) else if r.val = 510 then nx q N 0 e else nx q N 1 e)

/-- A comparison of a small number with a word, chosen by. -/
theorem select_eq {α : Type} (n k : ℕ) (hn : n < 2 ^ 32) (hk : k < 2 ^ 32) (a b : α) :
    Scalar.select (IntOp.cmpi .eq (BitVec.ofNat 32 n) (BitVec.ofNat 32 k)) a b = if n = k then a else b := by
  rw [WordCmp.cmpi_eq_eq_toNat, WordCmp.select_ofBool]
  simp only [decide_eq_true_eq, BitVec.toNat_ofNat, Nat.mod_eq_of_lt hn, Nat.mod_eq_of_lt hk]

theorem pay_next (i : grid0.Coords) (N : FVec Ideal S1x16x1408 .bf16) (k : Fin 16) (e : Fin 1408) :
    k0_pay15 (F := Ideal) i N (ix2 k e) = nx (i 1).val N k e := by
  unfold k0_pay15
  pointwise [nx]
  exact select_eq _ 3 (lt_trans (i 1).isLt (by decide)) (by decide) _ _

theorem pay_wide (D : FVec Ideal S1x512x1408 .bf16) (r : Fin 512) (e : Fin 1408) : k0_pay14 (F := Ideal) D (ix2 r e) = D (ix3 0 r e) := by
  pointwise [k0_pay14]

theorem pay_next1 (i : grid0.Coords) (D : FVec Ideal S1x512x1408 .bf16) (N : FVec Ideal S1x16x1408 .bf16) (r : Fin 512) (e : Fin 1408) :
    k0_pay16 (F := Ideal) i D N (ix2 r e) = if h : r.val + 1 < 512 then D (ix3 0 ⟨r.val + 1, h⟩ e) else nx (i 1).val N 0 e := by
  unfold k0_pay16
  pointwise []
  rw [pay_wide, pay_next]
  refine (select_eq _ 511 (lt_trans r.isLt (by decide)) (by decide) _ _).trans ?_
  by_cases h : r.val + 1 < 512
  · have e1 : ∀ hh, (⟨(r.val + 512 - 511) % 512, hh⟩ : Fin 512) = ⟨r.val + 1, h⟩ := fun _ => Fin.ext (by show (r.val + 512 - 511) % 512 = r.val + 1; omega)
    rw [if_neg (by omega), dif_pos h, e1]
  · have := r.isLt
    rw [if_pos (by omega), dif_neg h]

theorem pay_du (i : grid0.Coords) (D : FVec Ideal S1x512x1408 .bf16) (N : FVec Ideal S1x16x1408 .bf16) (C : FVec Ideal S3x1408 .f32) (r : Fin 512) (e : Fin 1408) :
    k0_pay17 (F := Ideal) (k0_pay14 (F := Ideal) D) (iota .tc S512x1 32 [0] iota_S512x1_d0_w32) (k0_pay15 (F := Ideal) i N) (k0_pay16 (F := Ideal) i D N) 510#32 C (ix2 r e)
      = duB (i 1).val D N C r e := by
  unfold k0_pay17
  pointwise [duB]
  simp only [pay_wide, pay_next, pay_next1]
  refine congrArg₂ (fun a b : EReal => a + b) rfl (congrArg₂ (fun a b : EReal => a * b) rfl ?_)
  refine (select_eq _ 510 (lt_trans r.isLt (by decide)) (by decide) _ _).trans ?_
  have e2 := select_eq r.val 511 (lt_trans r.isLt (by decide)) (by decide) (nx (i 1).val N 1 e) (D (ix3 0 ⟨(r.val + 512 - 510) % 512, Nat.mod_lt _ (by decide)⟩ e))
  refine (congrArg (fun z => if r.val = 510 then nx (i 1).val N 0 e else z) e2).trans ?_
  by_cases h : r.val + 2 < 512
  · have e1 : ∀ hh, (⟨(r.val + 512 - 510) % 512, hh⟩ : Fin 512) = ⟨r.val + 2, h⟩ := fun _ => Fin.ext (by show (r.val + 512 - 510) % 512 = r.val + 2; omega)
    rw [if_neg (by omega), if_neg (by omega), dif_pos h, e1]
  · rw [dif_neg h]
    by_cases h' : r.val = 510
    · rw [if_pos h', if_pos h']
    · have := r.isLt
      rw [if_neg h', if_neg h', if_pos (by omega)]

end Cert.Proof.NormConvPay
-- ==== Proof.NormConvValue.lean ====
/- The gradient of a normalization, its modulation, the projection that reads it and the causal convolution after that: what the
   kernel's grid (two sequences, four row blocks, four blocks of the projection's columns) leaves in its five results, read at an
   index. The gradient of the convolution's argument takes the next two rows' gradients, of which a block's last rows find theirs in
   the first rows of the next block. The gradient of the modulated row is accumulated over the column blocks; the gradients of
   shift, scale and gain over the row blocks. -/
module

public import proofs.«01_k».proof.Proof.Gen.NormConvIdeal.Value
public import proofs.«01_k».proof.Proof.Gen.NormConvRefIdeal.Run
public import proofs.«01_k».proof.Proof.NormMath
public import proofs.«01_k».proof.Proof.NormConvPay
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.NormConvValue

open Cert.Proof.NormConvPay Cert.NormConvIdeal Cert.NormConvIdeal.Gen Idealize.ShloMosaic Idealize.ShloMosaic.TcCoe Idealize.SL.Sem

variable (m : (ℓ : Loc nD τ sig) → Buf (Elt Ideal) ℓ)

/-- The operands. -/
abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg4 (c : Dev nD) := m ((c : Thread nD τ).loc main_arg4)
abbrev arg5 (c : Dev nD) := m ((c : Thread nD τ).loc main_arg5)
abbrev arg7 (c : Dev nD) := m ((c : Thread nD τ).loc main_arg7)
abbrev arg8 (c : Dev nD) := m ((c : Thread nD τ).loc main_arg8)

/-- The contents of the arrays. -/
abbrev ArrX := (⟨3, ![2, 2048, 1024]⟩ : Shape).Idx → EReal
abbrev ArrY := (⟨3, ![2, 2048, 5632]⟩ : Shape).Idx → EReal
abbrev ArrG := (⟨2, ![1, 1024]⟩ : Shape).Idx → EReal
abbrev ArrS := (⟨3, ![2, 1, 1024]⟩ : Shape).Idx → EReal
abbrev ArrW := (⟨2, ![1024, 5632]⟩ : Shape).Idx → EReal

abbrev ArrC := (⟨2, ![3, 5632]⟩ : Shape).Idx → EReal

/-- The gradient of the convolution's argument: a row takes its own, the next and the next but one row's gradient. -/
def dUa (Y : ArrY) (C : ArrC) (b : Fin 2) (r : Fin 2048) (e : Fin 5632) : EReal :=
  C (ix2 2 e) * Y (ix3 b r e) + C (ix2 1 e) * (if h : r.val + 1 < 2048 then Y (ix3 b ⟨r.val + 1, h⟩ e) else 0)
    + C (ix2 0 e) * (if h : r.val + 2 < 2048 then Y (ix3 b ⟨r.val + 2, h⟩ e) else 0)
def dU (Y : ArrY) (C : ArrC) : ArrY := fun i => dUa Y C (i 0) (i 1) (i 2)

/-- The gradient of the modulated rows. -/
def dh (Y : ArrY) (W : ArrW) (b : Fin 2) (r : Fin 2048) (k : Fin 1024) : EReal :=
  ∑ e : Fin 5632, Y (ix3 b r e) * W (ix2 k e)

/-- The word of one. -/
abbrev one : EReal := Ideal.ofBits .f32 0x3F800000#32

/-- A row normalized. -/
def xn (A : ArrX) (b : Fin 2) (r : Fin 2048) (k : Fin 1024) : EReal :=
  A (ix3 b r k) * NormMath.rstd fun j => A (ix3 b r j)

/-- The gradient of the normalized row. -/
def dn (Y : ArrY) (W : ArrW) (G : ArrG) (S : ArrS) (b : Fin 2) (r : Fin 2048) (k : Fin 1024) : EReal :=
  dh Y W b r k * G (ix2 0 k) * (one + S (ix3 b 0 k))

def dx (A : ArrX) (G : ArrG) (S : ArrS) (W : ArrW) (R : ArrX) (Y : ArrY) : ArrX := fun i =>
  R i + (NormMath.rstd fun j => A (ix3 (i 0) (i 1) j)) * (dn Y W G S (i 0) (i 1) (i 2) - xn A (i 0) (i 1) (i 2) *
    Ideal.div (∑ k, dn Y W G S (i 0) (i 1) k * xn A (i 0) (i 1) k) (Ideal.ofBits .f32 0x44800000#32))

def dshift (Y : ArrY) (W : ArrW) : ArrS := fun i => ∑ r : Fin 2048, dh Y W (i 0) r (i 2)

def dscale (A : ArrX) (G : ArrG) (Y : ArrY) (W : ArrW) : ArrS := fun i =>
  ∑ r : Fin 2048, dh Y W (i 0) r (i 2) * xn A (i 0) r (i 2) * G (ix2 0 (i 2))

def dgain (A : ArrX) (S : ArrS) (Y : ArrY) (W : ArrW) : ArrG := fun i =>
  ∑ b : Fin 2, ∑ r : Fin 2048, dh Y W b r (i 1) * xn A b r (i 1) * (one + S (ix3 b 0 (i 1)))

/-- The blocks of grid point `t`: sequence `t / 16`, rows `512 (t / 4 % 4) …`, columns `1408 (t % 4) …` of the projection. -/
theorem idx0 : ∀ t : Fin cfg0.N, win0_0.index t = ![t.val / 16, t.val / 4 % 4, t.val % 4] :=
  (by decide +kernel : ∀ t : Fin grid0.N, win0_0.index t = ![t.val / 16, t.val / 4 % 4, t.val % 4])
theorem idx1 : ∀ t : Fin cfg0.N, win0_1.index t = ![t.val / 16, min (t.val / 4 % 4 * 32 + 32) 127, t.val % 4] :=
  (by decide +kernel : ∀ t : Fin grid0.N, win0_1.index t = ![t.val / 16, min (t.val / 4 % 4 * 32 + 32) 127, t.val % 4])
theorem idx2 : ∀ t : Fin cfg0.N, win0_2.index t = ![0, t.val % 4] :=
  (by decide +kernel : ∀ t : Fin grid0.N, win0_2.index t = ![0, t.val % 4])
theorem idx3 : ∀ t : Fin cfg0.N, win0_3.index t = ![t.val % 4, 0] :=
  (by decide +kernel : ∀ t : Fin grid0.N, win0_3.index t = ![t.val % 4, 0])
theorem idx4 : ∀ t : Fin cfg0.N, win0_4.index t = ![t.val / 16, t.val / 4 % 4, 0] :=
  (by decide +kernel : ∀ t : Fin grid0.N, win0_4.index t = ![t.val / 16, t.val / 4 % 4, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val / 16, 0, 0] :=
  (by decide +kernel : ∀ t : Fin grid0.N, win0_6.index t = ![t.val / 16, 0, 0])
theorem idx7 : ∀ t : Fin cfg0.N, win0_7.index t = ![t.val / 16, t.val / 4 % 4, 0] :=
  (by decide +kernel : ∀ t : Fin grid0.N, win0_7.index t = ![t.val / 16, t.val / 4 % 4, 0])
theorem idx8 : ∀ t : Fin cfg0.N, win0_8.index t = ![t.val / 16, t.val / 4 % 4, 0] :=
  (by decide +kernel : ∀ t : Fin grid0.N, win0_8.index t = ![t.val / 16, t.val / 4 % 4, 0])
theorem idx9 : ∀ t : Fin cfg0.N, win0_9.index t = ![t.val / 16, t.val / 4 % 4, t.val % 4] :=
  (by decide +kernel : ∀ t : Fin grid0.N, win0_9.index t = ![t.val / 16, t.val / 4 % 4, t.val % 4])
theorem idx10 : ∀ t : Fin cfg0.N, win0_10.index t = ![t.val / 16, 0, 0] :=
  (by decide +kernel : ∀ t : Fin grid0.N, win0_10.index t = ![t.val / 16, 0, 0])
theorem idx11 : ∀ t : Fin cfg0.N, win0_11.index t = ![t.val / 16, 0, 0] :=
  (by decide +kernel : ∀ t : Fin grid0.N, win0_11.index t = ![t.val / 16, 0, 0])
theorem idx12 : ∀ t : Fin cfg0.N, win0_12.index t = ![0, 0] :=
  (by decide +kernel : ∀ t : Fin grid0.N, win0_12.index t = ![0, 0])
theorem row_at : ∀ t : Fin cfg0.N, (grid0.coords t 1).val = t.val / 4 % 4 :=
  (by decide +kernel : ∀ t : Fin grid0.N, (grid0.coords t 1).val = t.val / 4 % 4)

theorem seq_lt (t : Fin cfg0.N) : t.val / 16 < 2 := by
  have h : t.val < 32 := lt_of_lt_of_eq t.isLt N_0
  omega
theorem row_lt (i : Nat) (r : Fin 512) : i % 4 * 512 + r.val < 2048 := by omega
theorem next_lt (i : Nat) (k : Fin 16) : min (i % 4 * 32 + 32) 127 * 16 + k.val < 2048 := by omega
theorem col_lt (i : Nat) (e : Fin 1408) : i % 4 * 1408 + e.val < 5632 := by omega

theorem read0 (c : Dev nD) (t : Fin cfg0.N) (r : Fin 512) (e : Fin 1408) : iblk m c 0 t (ix3 0 r e)
    = (arg8 m c) (ix3 ⟨t.val / 16, seq_lt t⟩ ⟨t.val / 4 % 4 * 512 + r.val, row_lt _ r⟩ ⟨t.val % 4 * 1408 + e.val, col_lt _ e⟩) := by
  blk_point [iblk, V, idx0 t]
theorem read1 (c : Dev nD) (t : Fin cfg0.N) (k : Fin 16) (e : Fin 1408) : iblk m c 1 t (ix3 0 k e)
    = (arg8 m c) (ix3 ⟨t.val / 16, seq_lt t⟩ ⟨min (t.val / 4 % 4 * 32 + 32) 127 * 16 + k.val, next_lt _ k⟩ ⟨t.val % 4 * 1408 + e.val, col_lt _ e⟩) := by
  blk_point [iblk, V, idx1 t]
theorem read2 (c : Dev nD) (t : Fin cfg0.N) (k : Fin 3) (e : Fin 1408) : iblk m c 2 t (ix2 k e) = (arg5 m c) (ix2 k ⟨t.val % 4 * 1408 + e.val, col_lt _ e⟩) := by
  blk_point [iblk, V, idx2 t]

theorem read3 (c : Dev nD) (t : Fin cfg0.N) (e : Fin 1408) (k : Fin 1024) : iblk m c 3 t (ix2 e k) = (arg4 m c) (ix2 k ⟨t.val % 4 * 1408 + e.val, col_lt _ e⟩) := by
  blk_point [iblk, V, idx3 t]

/-- A grid point's block of the gradient of the convolution's argument. -/
theorem du_at (c : Dev nD) (t : Fin cfg0.N) (r : Fin 512) (e : Fin 1408) :
    duB (grid0.coords t 1).val (iblk m c 0 t) (iblk m c 1 t) (iblk m c 2 t) r e
      = dU (arg8 m c) (arg5 m c) (ix3 ⟨t.val / 16, seq_lt t⟩ ⟨t.val / 4 % 4 * 512 + r.val, row_lt _ r⟩ ⟨t.val % 4 * 1408 + e.val, col_lt _ e⟩) := by
  show _ = dUa (arg8 m c) (arg5 m c) ⟨t.val / 16, seq_lt t⟩ ⟨t.val / 4 % 4 * 512 + r.val, row_lt _ r⟩ ⟨t.val % 4 * 1408 + e.val, col_lt _ e⟩
  unfold duB dUa
  simp only [nx, read0 m c t, read1 m c t, read2 m c t, row_at t]
  have hr := r.isLt
  have hq : t.val / 4 % 4 < 4 := Nat.mod_lt _ (by decide)
  refine congrArg₂ (fun a b : EReal => a + b) (congrArg₂ (fun a b : EReal => a + b) rfl (congrArg₂ (fun a b : EReal => a * b) rfl ?_))
    (congrArg₂ (fun a b : EReal => a * b) rfl ?_)
  · by_cases h : r.val + 1 < 512
    · rw [dif_pos h, dif_pos (show t.val / 4 % 4 * 512 + r.val + 1 < 2048 by omega)]
      rfl
    · rw [dif_neg h]
      by_cases h3 : t.val / 4 % 4 = 3
      · rw [if_pos h3, dif_neg (show ¬t.val / 4 % 4 * 512 + r.val + 1 < 2048 by omega)]
      · rw [if_neg h3, dif_pos (show t.val / 4 % 4 * 512 + r.val + 1 < 2048 by omega)]
        refine congrArg (arg8 m c) (congrArg (fun x => ix3 _ x _) (Fin.ext ?_))
        show min (t.val / 4 % 4 * 32 + 32) 127 * 16 + 0 = t.val / 4 % 4 * 512 + r.val + 1
        omega
  · by_cases h : r.val + 2 < 512
    · rw [dif_pos h, dif_pos (show t.val / 4 % 4 * 512 + r.val + 2 < 2048 by omega)]
      rfl
    · rw [dif_neg h]
      by_cases h3 : t.val / 4 % 4 = 3
      · rw [if_pos h3, if_pos h3, ite_self, dif_neg (show ¬t.val / 4 % 4 * 512 + r.val + 2 < 2048 by omega)]
      · rw [if_neg h3, if_neg h3, dif_pos (show t.val / 4 % 4 * 512 + r.val + 2 < 2048 by omega)]
        by_cases h0 : r.val = 510
        · rw [if_pos h0]
          refine congrArg (arg8 m c) (congrArg (fun x => ix3 _ x _) (Fin.ext ?_))
          show min (t.val / 4 % 4 * 32 + 32) 127 * 16 + 0 = t.val / 4 % 4 * 512 + r.val + 2
          omega
        · rw [if_neg h0]
          refine congrArg (arg8 m c) (congrArg (fun x => ix3 _ x _) (Fin.ext ?_))
          show min (t.val / 4 % 4 * 32 + 32) 127 * 16 + 1 = t.val / 4 % 4 * 512 + r.val + 2
          omega

abbrev IO : IVec S512x1 32 := iota .tc S512x1 32 [0] iota_S512x1_d0_w32

/-- One grid point's share of the gradient of the modulated rows. -/
def part (q : ℕ) (D : BD) (N : BN) (C : BC) (W : (⟨2, ![1408, 1024]⟩ : Shape).Idx → EReal) (y : (⟨2, ![512, 1024]⟩ : Shape).Idx) : EReal :=
  ∑ e : Fin 1408, duB q D N C (y 0) e * W (ix2 e (y 1))

theorem pay_acc (i : grid0.Coords) (D : FVec Ideal S1x512x1408 .bf16) (N : FVec Ideal S1x16x1408 .bf16) (C : FVec Ideal S3x1408 .f32)
    (A : FVec Ideal S512x1024 .f32) (W : FVec Ideal S1408x1024 .bf16) (y : S512x1024.Idx) :
    k0_pay19 (F := Ideal) (k0_pay14 (F := Ideal) D) IO (k0_pay15 (F := Ideal) i N) (k0_pay16 (F := Ideal) i D N) 510#32 C A W y = A y + part (i 1).val D N C W y := by
  unfold k0_pay19 part
  generalize hZ : k0_pay17 (F := Ideal) (k0_pay14 (F := Ideal) D) IO (k0_pay15 (F := Ideal) i N) (k0_pay16 (F := Ideal) i D N) 510#32 C = Z
  pointwise []
  refine congrArg (A y + ·) (Finset.sum_congr rfl fun e _ => congrArg (· * W (ix2 e (y 1))) ?_)
  rw [← hZ]
  exact pay_du i D N C (y 0) e

theorem pay_dy (i : grid0.Coords) (D : FVec Ideal S1x512x1408 .bf16) (N : FVec Ideal S1x16x1408 .bf16) (C : FVec Ideal S3x1408 .f32) (r : Fin 512) (e : Fin 1408) :
    k0_pay18 (F := Ideal) (k0_pay14 (F := Ideal) D) IO (k0_pay15 (F := Ideal) i N) (k0_pay16 (F := Ideal) i D N) 510#32 C (ix3 0 r e) = duB (i 1).val D N C r e := by
  unfold k0_pay18
  generalize hZ : k0_pay17 (F := Ideal) (k0_pay14 (F := Ideal) D) IO (k0_pay15 (F := Ideal) i N) (k0_pay16 (F := Ideal) i D N) 510#32 C = Z
  pointwise []
  rw [← hZ]
  exact pay_du i D N C r e

theorem pay_zero (y : S512x1024.Idx) : k0_pay10 (F := Ideal) y = 0 := by pointwise [k0_pay10]

abbrev Blk := (⟨3, ![1, 512, 1024]⟩ : Shape).Idx → EReal

theorem pay_dshift (H : FVec Ideal S512x1024 .f32) (O : FVec Ideal S1x1x1024 .f32) (y : S1x1x1024.Idx) :
    k0_pay8 (F := Ideal) H O y = O y + ∑ r : Fin 512, H (ix2 r (y 2)) := by
  pointwise [k0_pay8]

/-- A block's rows normalized. -/
def xnB (A : Blk) (r : Fin 512) (k : Fin 1024) : EReal := A (ix3 0 r k) * NormMath.rstd fun j => A (ix3 0 r j)

theorem pay_dscale (H : FVec Ideal S512x1024 .f32) (A : FVec Ideal S1x512x1024 .f32) (G : FVec Ideal S1x1024 .f32) (O : FVec Ideal S1x1x1024 .f32) (y : S1x1x1024.Idx) :
    k0_pay1 (F := Ideal) (k0_pay9 (F := Ideal) H A G O) y = O y + ∑ r : Fin 512, H (ix2 r (y 2)) * xnB A r (y 2) * G (ix2 0 (y 2)) := by
  pointwise [k0_pay1, k0_pay9, k0_pay6, k0_pay5, k0_pay4, xnB, NormMath.rstd]

theorem pay_dgain (H : FVec Ideal S512x1024 .f32) (A : FVec Ideal S1x512x1024 .f32) (S : FVec Ideal S1x1x1024 .f32) (O : FVec Ideal S1x1024 .f32) (y : S1x1024.Idx) :
    k0_pay2 (F := Ideal) H (k0_pay6 (F := Ideal) A) (k0_pay7 (F := Ideal) S) O y
      = O y + ∑ r : Fin 512, H (ix2 r (y 1)) * xnB A r (y 1) * (one + S (ix3 0 0 (y 1))) := by
  pointwise [k0_pay2, k0_pay7, k0_pay6, k0_pay5, k0_pay4, xnB, NormMath.rstd]

/-- A block's rows of the gradient of the normalized row. -/
def dnB (H : (⟨2, ![512, 1024]⟩ : Shape).Idx → EReal) (G : ArrG) (S : (⟨3, ![1, 1, 1024]⟩ : Shape).Idx → EReal) (r : Fin 512) (k : Fin 1024) : EReal :=
  H (ix2 r k) * G (ix2 0 k) * (one + S (ix3 0 0 k))

theorem pay_dx (H : FVec Ideal S512x1024 .f32) (A : FVec Ideal S1x512x1024 .f32) (G : FVec Ideal S1x1024 .f32) (S : FVec Ideal S1x1x1024 .f32)
    (R : FVec Ideal S1x512x1024 .f32) (r : Fin 512) (k : Fin 1024) :
    k0_pay3 (F := Ideal) H (k0_pay5 (F := Ideal) A) (k0_pay6 (F := Ideal) A) G (k0_pay7 (F := Ideal) S) R (ix3 0 r k)
      = R (ix3 0 r k) + (NormMath.rstd fun j => A (ix3 0 r j)) * (dnB H G S r k - xnB A r k *
          Ideal.div (∑ k, dnB H G S r k * xnB A r k) (Ideal.ofBits .f32 0x44800000#32)) := by
  pointwise [k0_pay3, k0_pay7, k0_pay6, k0_pay5, k0_pay4, dnB, xnB, NormMath.rstd]

/-- Grid point `t`'s rows of an array of the gradient of the modulated rows. -/
def rowsOf (c : Dev nD) (t : Fin cfg0.N) : (⟨2, ![512, 1024]⟩ : Shape).Idx → EReal := fun y =>
  dh (dU (arg8 m c) (arg5 m c)) (arg4 m c) ⟨t.val / 16, seq_lt t⟩ ⟨t.val / 4 % 4 * 512 + (y 0).val, row_lt (t.val / 4) (y 0)⟩ (y 1)

theorem acc_reset (c : Dev nD) (t : Fin cfg0.N) (h : t.val % 4 = 0) (y : S512x1024.Idx) :
    (outsAt0 m c t.val t.isLt).2.2.2.2.2 y = part (grid0.coords t 1).val (iblk m c 0 t) (iblk m c 1 t) (iblk m c 2 t) (iblk m c 3 t) y := by
  have hn : ¬t.val % 4 = 3 := by omega
  have e : (outsAt0 m c t.val t.isLt).2.2.2.2.2 y = k0_pay19 (F := Ideal) (k0_pay14 (F := Ideal) (iblk m c 0 t)) IO (k0_pay15 (F := Ideal) (grid0.coords t) (iblk m c 1 t)) (k0_pay16 (F := Ideal) (grid0.coords t) (iblk m c 0 t) (iblk m c 1 t)) 510#32 (iblk m c 2 t) (k0_pay10 (F := Ideal)) (iblk m c 3 t) y := by
    by_cases h1 : t.val % 16 = 0
    · by_cases h2 : t.val % 32 = 0
      · rw [outsAt0_A m c t h h1 h2 hn]; frame_out
      · rw [outsAt0_E m c t h h1 h2 hn]; frame_out
    · rw [outsAt0_D m c t h h1 (by omega) hn]; frame_out
  rw [e, pay_acc, pay_zero, zero_add]

theorem acc_step (c : Dev nD) (t : Fin cfg0.N) (h : ¬t.val % 4 = 0) :
    (outsAt0 m c t.val t.isLt).2.2.2.2.2 = k0_pay19 (F := Ideal) (k0_pay14 (F := Ideal) (iblk m c 0 t)) IO (k0_pay15 (F := Ideal) (grid0.coords t) (iblk m c 1 t)) (k0_pay16 (F := Ideal) (grid0.coords t) (iblk m c 0 t) (iblk m c 1 t)) 510#32 (iblk m c 2 t) (outsAt0 m c (t.val - 1) (Nat.lt_of_le_of_lt (Nat.sub_le _ _) t.isLt)).2.2.2.2.2 (iblk m c 3 t) := by
  by_cases h1 : t.val % 4 = 3
  · rw [outsAt0_C m c t h (by omega) (by omega) h1]; funext y; frame_out
    rw [read_unread_whole]
  · rw [outsAt0_B m c t h (by omega) (by omega) h1]; funext y; frame_out
    rw [read_unread_whole]

theorem acc_eq (c : Dev nD) (t : Fin cfg0.N) (h : t.val % 4 = 3) : (outsAt0 m c t.val t.isLt).2.2.2.2.2 = rowsOf m c t := by
  funext y
  rw [Pipeline.eq_sum_fin_of_reset_step_apply_of_flush (fun n h => (outsAt0 m c n h).2.2.2.2.2) 4 (fun _ => 0)
    (fun t => part (grid0.coords t 1).val (iblk m c 0 t) (iblk m c 1 t) (iblk m c 2 t) (iblk m c 3 t))
    (fun t h => fun y => (acc_reset m c t h y).trans (zero_add _).symm) (fun t h y => ?_) t h y, zero_add]
  · unfold rowsOf dh part
    refine Fin.sum_mul_add_congr fun s k hl => ?_
    have hp := Pipeline.run_point_lt_of_flush t h s
    have hs := s.isLt
    have e1 : (4 * (t.val / 4) + s.val) / 16 = t.val / 16 := by omega
    have e2 : (4 * (t.val / 4) + s.val) / 4 = t.val / 4 := by omega
    have e3 : (4 * (t.val / 4) + s.val) % 4 = s.val := by omega
    rw [du_at m c ⟨4 * (t.val / 4) + s.val, hp⟩ (y 0) k, read3 m c ⟨4 * (t.val / 4) + s.val, hp⟩ k (y 1)]
    refine congrArg₂ (fun a b : EReal => a * b) (congrArg (dU (arg8 m c) (arg5 m c)) (congr (congr (congrArg ix3 (Fin.ext e1)) (Fin.ext ?_)) (Fin.ext ?_))) (congrArg (arg4 m c) (congrArg (ix2 (y 1)) (Fin.ext ?_)))
    · show (4 * (t.val / 4) + s.val) / 4 % 4 * 512 + _ = _
      rw [e2]
    · show (4 * (t.val / 4) + s.val) % 4 * 1408 + _ = _
      rw [e3]
    · show (4 * (t.val / 4) + s.val) % 4 * 1408 + _ = _
      rw [e3]
  · rw [acc_step m c t (by omega), pay_acc]

theorem acc_rows (c : Dev nD) (t : Fin cfg0.N) (h : t.val % 4 = 3) :
    k0_pay19 (F := Ideal) (k0_pay14 (F := Ideal) (iblk m c 0 t)) IO (k0_pay15 (F := Ideal) (grid0.coords t) (iblk m c 1 t)) (k0_pay16 (F := Ideal) (grid0.coords t) (iblk m c 0 t) (iblk m c 1 t)) 510#32 (iblk m c 2 t) (outsAt0 m c (t.val - 1) (Nat.lt_of_le_of_lt (Nat.sub_le _ _) t.isLt)).2.2.2.2.2 (iblk m c 3 t) = rowsOf m c t :=
  (acc_step m c t (by omega)).symm.trans (acc_eq m c t h)

theorem final_dy (c : Dev nD) : (dats m 0 c).arrAt 9 cfg0.N = (dU (arg8 m c) (arg5 m c)) := by
  refine (dats m 0 c).arrAt_eq_of_covers 9 _ (by decide +kernel) fun t hf y => ?_
  obtain ⟨r, k, rfl⟩ : ∃ (r : Fin 512) (k : Fin 1408), y = ix3 0 r k := ⟨y 1, y 2, funext fun a => match a with
    | ⟨0, _⟩ => Fin.ext (Nat.lt_one_iff.mp (y 0).isLt)
    | ⟨1, _⟩ => rfl
    | ⟨2, _⟩ => rfl⟩
  rw [after0_9]
  have e : (outsAt0 m c t.val t.isLt).2.1 (ix3 0 r k) = k0_pay18 (F := Ideal) (k0_pay14 (F := Ideal) (iblk m c 0 t)) IO (k0_pay15 (F := Ideal) (grid0.coords t) (iblk m c 1 t)) (k0_pay16 (F := Ideal) (grid0.coords t) (iblk m c 0 t) (iblk m c 1 t)) 510#32 (iblk m c 2 t) (ix3 0 r k) := by
    by_cases h : t.val % 4 = 0
    · by_cases h1 : t.val % 16 = 0
      · by_cases h2 : t.val % 32 = 0
        · rw [outsAt0_A m c t h h1 h2 (by omega)]; frame_out
        · rw [outsAt0_E m c t h h1 h2 (by omega)]; frame_out
      · rw [outsAt0_D m c t h h1 (by omega) (by omega)]; frame_out
    · by_cases h1 : t.val % 4 = 3
      · rw [outsAt0_C m c t h (by omega) (by omega) h1]; frame_out
      · rw [outsAt0_B m c t h (by omega) (by omega) h1]; frame_out
  refine e.trans ((pay_dy (grid0.coords t) _ _ _ r k).trans ((du_at m c t r k).trans ?_))
  generalize (dU (arg8 m c) (arg5 m c)) = U
  blk_point [idx9 t]

theorem final_dx (c : Dev nD) : (dats m 0 c).arrAt 8 cfg0.N = dx (arg0 m c) (arg1 m c) (arg2 m c) (arg4 m c) (arg7 m c) (dU (arg8 m c) (arg5 m c)) := by
  refine (dats m 0 c).arrAt_eq_of_covers 8 _ (by decide +kernel) fun t hf y => ?_
  have h : t.val % 4 = 3 := (flush0_8 t).mp hf
  obtain ⟨r, k, rfl⟩ : ∃ (r : Fin 512) (k : Fin 1024), y = ix3 0 r k := ⟨y 1, y 2, funext fun a => match a with
    | ⟨0, _⟩ => Fin.ext (Nat.lt_one_iff.mp (y 0).isLt)
    | ⟨1, _⟩ => rfl
    | ⟨2, _⟩ => rfl⟩
  blk_simp
  rw [after0_8]
  have e : (outsAt0 m c t.val t.isLt).1 (ix3 0 r k) = k0_pay3 (F := Ideal) (k0_pay19 (F := Ideal) (k0_pay14 (F := Ideal) (iblk m c 0 t)) IO (k0_pay15 (F := Ideal) (grid0.coords t) (iblk m c 1 t)) (k0_pay16 (F := Ideal) (grid0.coords t) (iblk m c 0 t) (iblk m c 1 t)) 510#32 (iblk m c 2 t) (outsAt0 m c (t.val - 1) (Nat.lt_of_le_of_lt (Nat.sub_le _ _) t.isLt)).2.2.2.2.2 (iblk m c 3 t)) (k0_pay5 (F := Ideal) (iblk m c 4 t)) (k0_pay6 (F := Ideal) (iblk m c 4 t))
      (iblk m c 5 t) (k0_pay7 (F := Ideal) (iblk m c 6 t)) (iblk m c 7 t) (ix3 0 r k) := by
    rw [outsAt0_C m c t (by omega) (by omega) (by omega) h]; frame_out
    rw [read_unread_whole]
  rw [e, acc_rows m c t h, pay_dx]
  unfold dx dn dnB xn xnB rowsOf
  generalize (dU (arg8 m c) (arg5 m c)) = U
  blk_point [iblk, V, idx4 t, idx5 t, idx6 t, idx7 t, idx8 t]

/-- One row block's terms of a sum over the rows. -/
def blockSum (F : Fin 2 → Fin 2048 → Fin 1024 → EReal) (k : Fin 1024) (b : Fin 2) (i : Fin 4) : EReal :=
  ∑ r : Fin 512, F b ⟨i.val * 512 + r.val, by omega⟩ k

theorem sum_blocks (F : Fin 2 → Fin 2048 → Fin 1024 → EReal) (k : Fin 1024) (b : Fin 2) :
    ∑ i, blockSum F k b i = ∑ r, F b r k := Fin.sum_mul_add_congr fun _ _ _ => rfl

/-- What a grid point adds to a sum over the rows: at the last column block, its row block's terms. -/
def step (F : Fin 2 → Fin 2048 → Fin 1024 → EReal) (t : Fin cfg0.N) (k : Fin 1024) : EReal :=
  if t.val % 4 = 3 then blockSum F k ⟨t.val / 16, seq_lt t⟩ ⟨t.val / 4 % 4, Nat.mod_lt _ (by decide)⟩ else 0

/-- The terms of the three sums. -/
def fShift (Y : ArrY) (W : ArrW) : Fin 2 → Fin 2048 → Fin 1024 → EReal := fun b r k => dh Y W b r k
def fScale (A : ArrX) (G : ArrG) (Y : ArrY) (W : ArrW) : Fin 2 → Fin 2048 → Fin 1024 → EReal :=
  fun b r k => dh Y W b r k * xn A b r k * G (ix2 0 k)
def fGain (A : ArrX) (S : ArrS) (Y : ArrY) (W : ArrW) : Fin 2 → Fin 2048 → Fin 1024 → EReal :=
  fun b r k => dh Y W b r k * xn A b r k * (one + S (ix3 b 0 k))

theorem zero_shift (y : S1x1x1024.Idx) : k0_pay11 (F := Ideal) y = 0 := by pointwise [k0_pay11]

theorem step_shift (c : Dev nD) (t : Fin cfg0.N) (h : ¬t.val % 16 = 0) (y : S1x1x1024.Idx) :
    (outsAt0 m c t.val t.isLt).2.2.1 y = (outsAt0 m c (t.val - 1) (Nat.lt_of_le_of_lt (Nat.sub_le _ _) t.isLt)).2.2.1 y + step (fShift (dU (arg8 m c) (arg5 m c)) (arg4 m c)) t (y 2) := by
  unfold step
  by_cases h1 : t.val % 4 = 3
  · rw [if_pos h1]
    have e : (outsAt0 m c t.val t.isLt).2.2.1 y = k0_pay8 (F := Ideal) (k0_pay19 (F := Ideal) (k0_pay14 (F := Ideal) (iblk m c 0 t)) IO (k0_pay15 (F := Ideal) (grid0.coords t) (iblk m c 1 t)) (k0_pay16 (F := Ideal) (grid0.coords t) (iblk m c 0 t) (iblk m c 1 t)) 510#32 (iblk m c 2 t) (outsAt0 m c (t.val - 1) (Nat.lt_of_le_of_lt (Nat.sub_le _ _) t.isLt)).2.2.2.2.2 (iblk m c 3 t)) (outsAt0 m c (t.val - 1) (Nat.lt_of_le_of_lt (Nat.sub_le _ _) t.isLt)).2.2.1 y := by
      rw [outsAt0_C m c t (by omega) (by omega) (by omega) h1]; frame_out
      rw [read_unread_whole]
    rw [e, acc_rows m c t h1, pay_dshift]
    unfold blockSum fShift
    blk_point [iblk, V]
    rfl
  · rw [if_neg h1, add_zero]
    by_cases h0 : t.val % 4 = 0
    · rw [outsAt0_D m c t h0 h (by omega) h1]; rfl
    · rw [outsAt0_B m c t h0 h (by omega) h1]; rfl

theorem reset_shift (c : Dev nD) (t : Fin cfg0.N) (h : t.val % 16 = 0) (y : S1x1x1024.Idx) :
    (outsAt0 m c t.val t.isLt).2.2.1 y = 0 + step (fShift (dU (arg8 m c) (arg5 m c)) (arg4 m c)) t (y 2) := by
  unfold step
  rw [if_neg (by omega), add_zero, ← zero_shift y]
  by_cases h2 : t.val % 32 = 0
  · rw [outsAt0_A m c t (by omega) h h2 (by omega)]; frame_out
  · rw [outsAt0_E m c t (by omega) h h2 (by omega)]; frame_out

theorem total_shift (c : Dev nD) (t : Fin cfg0.N) (h : t.val % 16 = 15) (y : S1x1x1024.Idx) :
    (outsAt0 m c t.val t.isLt).2.2.1 y = ∑ r, fShift (dU (arg8 m c) (arg5 m c)) (arg4 m c) ⟨t.val / 16, seq_lt t⟩ r (y 2) := by
  rw [Pipeline.eq_sum_fin_of_reset_step_apply_of_flush (fun n h => (outsAt0 m c n h).2.2.1) 16 (fun _ => 0)
    (fun t y => step (fShift (dU (arg8 m c) (arg5 m c)) (arg4 m c)) t (y 2)) (reset_shift m c) (step_shift m c) t h y, zero_add]
  refine Eq.trans ?_ (sum_blocks (fShift (dU (arg8 m c) (arg5 m c)) (arg4 m c)) (y 2) ⟨t.val / 16, seq_lt t⟩)
  refine NormMath.sum_run 4 (by decide) (blockSum (fShift (dU (arg8 m c) (arg5 m c)) (arg4 m c)) (y 2) ⟨t.val / 16, seq_lt t⟩) _ fun s => ?_
  have hs : s.val < 16 := s.isLt
  have e1 : (16 * (t.val / 16) + s.val) / 16 = t.val / 16 := by omega
  have e2 : (16 * (t.val / 16) + s.val) / 4 % 4 = s.val / 4 := by omega
  have e3 : (16 * (t.val / 16) + s.val) % 4 = s.val % 4 := by omega
  simp only [step, e1, e2, e3]

theorem final_dshift (c : Dev nD) : (dats m 0 c).arrAt 10 cfg0.N = dshift (dU (arg8 m c) (arg5 m c)) (arg4 m c) := by
  refine (dats m 0 c).arrAt_eq_of_covers 10 _ (by decide +kernel) fun t hf y => ?_
  rw [after0_10]
  refine (total_shift m c t ((flush0_10 t).mp hf) y).trans ?_
  unfold dshift fShift
  blk_point [idx10 t]

theorem zero_scale (y : S1x1x1024.Idx) : k0_pay12 (F := Ideal) y = 0 := by pointwise [k0_pay12]

theorem step_scale (c : Dev nD) (t : Fin cfg0.N) (h : ¬t.val % 16 = 0) (y : S1x1x1024.Idx) :
    (outsAt0 m c t.val t.isLt).2.2.2.1 y = (outsAt0 m c (t.val - 1) (Nat.lt_of_le_of_lt (Nat.sub_le _ _) t.isLt)).2.2.2.1 y + step (fScale (arg0 m c) (arg1 m c) (dU (arg8 m c) (arg5 m c)) (arg4 m c)) t (y 2) := by
  unfold step
  by_cases h1 : t.val % 4 = 3
  · rw [if_pos h1]
    have e : (outsAt0 m c t.val t.isLt).2.2.2.1 y = k0_pay1 (F := Ideal) (k0_pay9 (F := Ideal) (k0_pay19 (F := Ideal) (k0_pay14 (F := Ideal) (iblk m c 0 t)) IO (k0_pay15 (F := Ideal) (grid0.coords t) (iblk m c 1 t)) (k0_pay16 (F := Ideal) (grid0.coords t) (iblk m c 0 t) (iblk m c 1 t)) 510#32 (iblk m c 2 t) (outsAt0 m c (t.val - 1) (Nat.lt_of_le_of_lt (Nat.sub_le _ _) t.isLt)).2.2.2.2.2 (iblk m c 3 t)) (iblk m c 4 t) (iblk m c 5 t) (outsAt0 m c (t.val - 1) (Nat.lt_of_le_of_lt (Nat.sub_le _ _) t.isLt)).2.2.2.1) y := by
      rw [outsAt0_C m c t (by omega) (by omega) (by omega) h1]; frame_out
      rw [read_unread_whole]
    rw [e, acc_rows m c t h1, pay_dscale]
    unfold blockSum fScale xn xnB
    blk_point [iblk, V, idx4 t, idx5 t]
    rfl
  · rw [if_neg h1, add_zero]
    by_cases h0 : t.val % 4 = 0
    · rw [outsAt0_D m c t h0 h (by omega) h1]; rfl
    · rw [outsAt0_B m c t h0 h (by omega) h1]; rfl

theorem reset_scale (c : Dev nD) (t : Fin cfg0.N) (h : t.val % 16 = 0) (y : S1x1x1024.Idx) :
    (outsAt0 m c t.val t.isLt).2.2.2.1 y = 0 + step (fScale (arg0 m c) (arg1 m c) (dU (arg8 m c) (arg5 m c)) (arg4 m c)) t (y 2) := by
  unfold step
  rw [if_neg (by omega), add_zero, ← zero_scale y]
  by_cases h2 : t.val % 32 = 0
  · rw [outsAt0_A m c t (by omega) h h2 (by omega)]; frame_out
  · rw [outsAt0_E m c t (by omega) h h2 (by omega)]; frame_out

theorem total_scale (c : Dev nD) (t : Fin cfg0.N) (h : t.val % 16 = 15) (y : S1x1x1024.Idx) :
    (outsAt0 m c t.val t.isLt).2.2.2.1 y = ∑ r, fScale (arg0 m c) (arg1 m c) (dU (arg8 m c) (arg5 m c)) (arg4 m c) ⟨t.val / 16, seq_lt t⟩ r (y 2) := by
  rw [Pipeline.eq_sum_fin_of_reset_step_apply_of_flush (fun n h => (outsAt0 m c n h).2.2.2.1) 16 (fun _ => 0)
    (fun t y => step (fScale (arg0 m c) (arg1 m c) (dU (arg8 m c) (arg5 m c)) (arg4 m c)) t (y 2)) (reset_scale m c) (step_scale m c) t h y, zero_add]
  refine Eq.trans ?_ (sum_blocks (fScale (arg0 m c) (arg1 m c) (dU (arg8 m c) (arg5 m c)) (arg4 m c)) (y 2) ⟨t.val / 16, seq_lt t⟩)
  refine NormMath.sum_run 4 (by decide) (blockSum (fScale (arg0 m c) (arg1 m c) (dU (arg8 m c) (arg5 m c)) (arg4 m c)) (y 2) ⟨t.val / 16, seq_lt t⟩) _ fun s => ?_
  have hs : s.val < 16 := s.isLt
  have e1 : (16 * (t.val / 16) + s.val) / 16 = t.val / 16 := by omega
  have e2 : (16 * (t.val / 16) + s.val) / 4 % 4 = s.val / 4 := by omega
  have e3 : (16 * (t.val / 16) + s.val) % 4 = s.val % 4 := by omega
  simp only [step, e1, e2, e3]

theorem final_dscale (c : Dev nD) : (dats m 0 c).arrAt 11 cfg0.N = dscale (arg0 m c) (arg1 m c) (dU (arg8 m c) (arg5 m c)) (arg4 m c) := by
  refine (dats m 0 c).arrAt_eq_of_covers 11 _ (by decide +kernel) fun t hf y => ?_
  rw [after0_11]
  refine (total_scale m c t ((flush0_11 t).mp hf) y).trans ?_
  unfold dscale fScale
  blk_point [idx11 t]

theorem zero_gain (y : S1x1024.Idx) : k0_pay13 (F := Ideal) y = 0 := by pointwise [k0_pay13]

theorem step_gain (c : Dev nD) (t : Fin cfg0.N) (h : ¬t.val % 32 = 0) (y : S1x1024.Idx) :
    (outsAt0 m c t.val t.isLt).2.2.2.2.1 y = (outsAt0 m c (t.val - 1) (Nat.lt_of_le_of_lt (Nat.sub_le _ _) t.isLt)).2.2.2.2.1 y + step (fGain (arg0 m c) (arg2 m c) (dU (arg8 m c) (arg5 m c)) (arg4 m c)) t (y 1) := by
  unfold step
  by_cases h1 : t.val % 4 = 3
  · rw [if_pos h1]
    have e : (outsAt0 m c t.val t.isLt).2.2.2.2.1 y = k0_pay2 (F := Ideal) (k0_pay19 (F := Ideal) (k0_pay14 (F := Ideal) (iblk m c 0 t)) IO (k0_pay15 (F := Ideal) (grid0.coords t) (iblk m c 1 t)) (k0_pay16 (F := Ideal) (grid0.coords t) (iblk m c 0 t) (iblk m c 1 t)) 510#32 (iblk m c 2 t) (outsAt0 m c (t.val - 1) (Nat.lt_of_le_of_lt (Nat.sub_le _ _) t.isLt)).2.2.2.2.2 (iblk m c 3 t)) (k0_pay6 (F := Ideal) (iblk m c 4 t)) (k0_pay7 (F := Ideal) (iblk m c 6 t)) (outsAt0 m c (t.val - 1) (Nat.lt_of_le_of_lt (Nat.sub_le _ _) t.isLt)).2.2.2.2.1 y := by
      rw [outsAt0_C m c t (by omega) (by omega) (by omega) h1]; frame_out
      rw [read_unread_whole]
    rw [e, acc_rows m c t h1, pay_dgain]
    unfold blockSum fGain xn xnB
    blk_point [iblk, V, idx4 t, idx6 t]
    rfl
  · rw [if_neg h1, add_zero]
    by_cases h0 : t.val % 4 = 0
    · by_cases h2 : t.val % 16 = 0
      · rw [outsAt0_E m c t h0 h2 h h1]; rfl
      · rw [outsAt0_D m c t h0 h2 h h1]; rfl
    · rw [outsAt0_B m c t h0 (by omega) h h1]; rfl

theorem reset_gain (c : Dev nD) (t : Fin cfg0.N) (h : t.val % 32 = 0) (y : S1x1024.Idx) :
    (outsAt0 m c t.val t.isLt).2.2.2.2.1 y = 0 + step (fGain (arg0 m c) (arg2 m c) (dU (arg8 m c) (arg5 m c)) (arg4 m c)) t (y 1) := by
  unfold step
  rw [if_neg (by omega), add_zero, ← zero_gain y]
  rw [outsAt0_A m c t (by omega) (by omega) h (by omega)]; frame_out

theorem total_gain (c : Dev nD) (t : Fin cfg0.N) (h : t.val % 32 = 31) (y : S1x1024.Idx) :
    (outsAt0 m c t.val t.isLt).2.2.2.2.1 y = ∑ b, ∑ r, fGain (arg0 m c) (arg2 m c) (dU (arg8 m c) (arg5 m c)) (arg4 m c) b r (y 1) := by
  rw [Pipeline.eq_sum_fin_of_reset_step_apply_of_flush (fun n h => (outsAt0 m c n h).2.2.2.2.1) 32 (fun _ => 0)
    (fun t y => step (fGain (arg0 m c) (arg2 m c) (dU (arg8 m c) (arg5 m c)) (arg4 m c)) t (y 1)) (reset_gain m c) (step_gain m c) t h y, zero_add]
  refine Eq.trans ?_ (Finset.sum_congr rfl fun b _ => sum_blocks (fGain (arg0 m c) (arg2 m c) (dU (arg8 m c) (arg5 m c)) (arg4 m c)) (y 1) b)
  refine NormMath.sum_grid 4 (by decide) (blockSum (fGain (arg0 m c) (arg2 m c) (dU (arg8 m c) (arg5 m c)) (arg4 m c)) (y 1)) _ fun s => ?_
  have hN : t.val < 32 := lt_of_lt_of_eq t.isLt N_0
  have hs : s.val < 32 := s.isLt
  have e1 : (32 * (t.val / 32) + s.val) / 16 = s.val / 4 / 4 := by omega
  have e2 : (32 * (t.val / 32) + s.val) / 4 % 4 = s.val / 4 % 4 := by omega
  have e3 : (32 * (t.val / 32) + s.val) % 4 = s.val % 4 := by omega
  simp only [step, e1, e2, e3]

theorem final_dgain (c : Dev nD) : (dats m 0 c).arrAt 12 cfg0.N = dgain (arg0 m c) (arg2 m c) (dU (arg8 m c) (arg5 m c)) (arg4 m c) := by
  refine (dats m 0 c).arrAt_eq_of_covers 12 _ (by decide +kernel) fun t hf y => ?_
  rw [after0_12]
  refine (total_gain m c t ((flush0_12 t).mp hf) y).trans ?_
  unfold dgain fGain
  blk_point [idx12 t]

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v3_0) = dx (m ((c : Thread nD τ).loc main_arg0)) (m ((c : Thread nD τ).loc main_arg1)) (m ((c : Thread nD τ).loc main_arg2)) (m ((c : Thread nD τ).loc main_arg4)) (m ((c : Thread nD τ).loc main_arg7)) (dU (m ((c : Thread nD τ).loc main_arg8)) (m ((c : Thread nD τ).loc main_arg5)))
      ∧ r.2.mem ((c : Thread nD τ).loc main_v3_1) = (dU (m ((c : Thread nD τ).loc main_arg8)) (m ((c : Thread nD τ).loc main_arg5)))
      ∧ r.2.mem ((c : Thread nD τ).loc main_v3_2) = dshift (dU (m ((c : Thread nD τ).loc main_arg8)) (m ((c : Thread nD τ).loc main_arg5))) (m ((c : Thread nD τ).loc main_arg4))
      ∧ r.2.mem ((c : Thread nD τ).loc main_v3_3) = dscale (m ((c : Thread nD τ).loc main_arg0)) (m ((c : Thread nD τ).loc main_arg1)) (dU (m ((c : Thread nD τ).loc main_arg8)) (m ((c : Thread nD τ).loc main_arg5))) (m ((c : Thread nD τ).loc main_arg4))
      ∧ r.2.mem ((c : Thread nD τ).loc main_v3_4) = dgain (m ((c : Thread nD τ).loc main_arg0)) (m ((c : Thread nD τ).loc main_arg2)) (dU (m ((c : Thread nD τ).loc main_arg8)) (m ((c : Thread nD τ).loc main_arg5))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  simpa only [final_dx, final_dy, final_dshift, final_dscale, final_dgain] using Cert.NormConvIdeal.Value.run_blocks m ρ

end Cert.Proof.NormConvValue
-- ==== Proof.NormConvClaim.lean ====
/- The gradient of a normalization, its modulation, the projection that reads it and the convolution after that: the claims about the pair. -/
module

public import proofs.«01_k».proof.Defs
public import proofs.«01_k».proof.Proof.Gen.NormConv.Frame
public import proofs.«01_k».proof.Proof.NormConvValue
public import proofs.«01_k».proof.Proof.Gen.Pre_norm_conv_finite
public import proofs.«01_k».proof.Proof.Finite

@[expose] public section

set_option maxRecDepth 16384

noncomputable section

namespace Cert.Proof.NormConvClaim

open  Idealize.ShloMosaic Idealize.ShloMosaic.TcCoe Idealize.SL.Sem

/-- The reference's frame. -/
theorem frame_ref : Cert.quiescent_NormConvRefIdeal := fun m ρ _ =>
  (θ_run Cert.NormConvRefIdeal.defs _ _).mono (fun r h => ⟨fun c => (h c).2.2.2.2.2, sem_eq_zero_of_no_sems (by decide) r.2⟩)
    (Cert.NormConvRefIdeal.Value.run (F := Ideal) m ρ)

section
open Cert.NormConvRefIdeal Cert.NormConvRefIdeal.Gen
variable (A0 A5 : FVec Ideal S2x2048x1024 .f32) (A1 : FVec Ideal S1x1024 .f32) (A2 : FVec Ideal S2x1x1024 .f32) (A4 : FVec Ideal S1024x5632 .f32) (U A8 : FVec Ideal S2x2048x5632 .f32) (C : FVec Ideal S3x5632 .f32)

theorem ref_du : ((extractStridedSlice S2x2048x5632 ![0, 2, 0] (addf (addf (pad S2x2050x5632 ![0, 2, 0] ![0, 0, 0] ![0, 0, 0] (mulf (broadcastInDim S2x2048x5632 ![0, 1, 2] bcast_S1x1x5632_S2x2048x5632_0_1_2 (broadcastInDim S1x1x5632 ![2] bcast_S5632_S1x1x5632_2 (shapeCast _ (extractStridedSlice S1x5632 ![2, 0] C slices_S3x5632_S1x5632_2_0) shapeCasts_S1x5632_S5632))) (shapeCast _ A8 shapeCasts_S2x2048x5632_S2x2048x5632)) (constant S_ .f32 0x00000000#32) pads_S2x2048x5632_S2x2050x5632_000_200_000 h_S_) (pad S2x2050x5632 ![0, 1, 0] ![0, 1, 0] ![0, 0, 0] (mulf (broadcastInDim S2x2048x5632 ![0, 1, 2] bcast_S1x1x5632_S2x2048x5632_0_1_2 (broadcastInDim S1x1x5632 ![2] bcast_S5632_S1x1x5632_2 (shapeCast _ (extractStridedSlice S1x5632 ![1, 0] C slices_S3x5632_S1x5632_1_0) shapeCasts_S1x5632_S5632))) (shapeCast _ A8 shapeCasts_S2x2048x5632_S2x2048x5632)) (constant S_ .f32 0x00000000#32) pads_S2x2048x5632_S2x2050x5632_000_110_000 h_S_)) (pad S2x2050x5632 ![0, 0, 0] ![0, 2, 0] ![0, 0, 0] (mulf (broadcastInDim S2x2048x5632 ![0, 1, 2] bcast_S1x1x5632_S2x2048x5632_0_1_2 (broadcastInDim S1x1x5632 ![2] bcast_S5632_S1x1x5632_2 (shapeCast _ (extractStridedSlice S1x5632 ![0, 0] C slices_S3x5632_S1x5632_0_0) shapeCasts_S1x5632_S5632))) (shapeCast _ A8 shapeCasts_S2x2048x5632_S2x2048x5632)) (constant S_ .f32 0x00000000#32) pads_S2x2048x5632_S2x2050x5632_000_020_000 h_S_)) slices_S2x2050x5632_S2x2048x5632_0_2_0) : FVec Ideal S2x2048x5632 .f32) = NormConvValue.dU A8 C := by
  funext i
  obtain ⟨b, r, e, rfl⟩ : ∃ (b : Fin 2) (r : Fin 2048) (e : Fin 5632), i = ix3 b r e :=
    ⟨i 0, i 1, i 2, funext fun a => match a with | ⟨0, _⟩ => rfl | ⟨1, _⟩ => rfl | ⟨2, _⟩ => rfl⟩
  show _ = NormConvValue.dUa A8 C b r e
  unfold NormConvValue.dUa
  pointwise []
  refine congrArg₂ (fun a b : EReal => a + b) (congrArg₂ (fun a b : EReal => a + b) rfl ?_) ?_
  · by_cases h : r.val + 1 < 2048
    · have e1 : ∀ hh, (⟨2 + r.val - 1, hh⟩ : Fin 2048) = ⟨r.val + 1, h⟩ := fun _ => Fin.ext (by show 2 + r.val - 1 = r.val + 1; omega)
      rw [dif_pos h, dif_pos (by omega), e1]
    · rw [dif_neg h, dif_neg (by omega), mul_zero]
  · by_cases h : r.val + 2 < 2048
    · have e1 : ∀ hh, (⟨2 + r.val, hh⟩ : Fin 2048) = ⟨r.val + 2, h⟩ := fun _ => Fin.ext (by show 2 + r.val = r.val + 2; omega)
      rw [dif_pos h, dif_pos (by omega), e1]
    · rw [dif_neg h, dif_neg (by omega), mul_zero]

/-- The mean square of a row and the constant beside it. -/
abbrev spread (A0 : FVec Ideal S2x2048x1024 .f32) : FVec Ideal S2x2048x1 .f32 := addf (Host.divf (broadcastInDim S2x2048x1 ![0, 1] bcast_S2x2048_S2x2048x1_0_1 (Host.reduceAdd (mulf A0 A0) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- The derivative of the mean square, spread over the row. -/
abbrev pulled (A0 : FVec Ideal S2x2048x1024 .f32) (A1 : FVec Ideal S1x1024 .f32) (A2 : FVec Ideal S2x1x1024 .f32) (U : FVec Ideal S2x2048x5632 .f32) (A4 : FVec Ideal S1024x5632 .f32) : FVec Ideal S2x2048x1024 .f32 :=
  broadcastInDim S2x2048x1024 ![0, 1] bcast_S2x2048_S2x2048x1024_0_1 (Host.reduceAdd (Host.divf (mulf (shapeCast _ (Host.reduceAdd (mulf A0 (mulf (mulf (Host.dotGeneral dot_S2x2048x5632_S1024x5632_S2x2048x1024_2_1_01_0_n_n none U A4) (broadcastInDim S2x2048x1024 ![0, 1, 2] bcast_S2x1x1024_S2x2048x1024_0_1_2 (addf (broadcastInDim S2x1x1024 ![] bcast_S_S2x1x1024 (constant S_ .f32 0x3F800000#32)) A2))) (broadcastInDim S2x2048x1024 ![0, 1, 2] bcast_S1x1x1024_S2x2048x1024_0_1_2 (broadcastInDim S1x1x1024 ![2] bcast_S1024_S1x1x1024_2 (shapeCast _ A1 shapeCasts_S1x1024_S1024))))) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (spread A0)) (spread A0)))) (broadcastInDim S2x2048x1 ![] bcast_S_S2x2048x1 (constant S_ .f32 0x44800000#32))) (constant S_ .f32 0x00000000#32) reducesTo_S2x2048x1_S2x2048_d2 h_S_)

theorem ref_dshift : (shapeCast _ (Host.reduceAdd (Host.dotGeneral dot_S2x2048x5632_S1024x5632_S2x2048x1024_2_1_01_0_n_n none U A4) (constant S_ .f32 0x00000000#32) reducesTo_S2x2048x1024_S2x1024_d1 h_S_) shapeCasts_S2x1024_S2x1x1024 : FVec Ideal S2x1x1024 .f32) = NormConvValue.dshift U A4 := by
  funext i
  pointwise [NormConvValue.dshift, NormConvValue.dh]

theorem ref_dscale : (shapeCast _ (Host.reduceAdd (mulf (mulf (mulf A0 (broadcastInDim S2x2048x1024 ![0, 1, 2] bcast_S2x2048x1_S2x2048x1024_0_1_2 (Host.rsqrt (spread A0)))) (broadcastInDim S2x2048x1024 ![0, 1, 2] bcast_S1x1x1024_S2x2048x1024_0_1_2 (broadcastInDim S1x1x1024 ![2] bcast_S1024_S1x1x1024_2 (shapeCast _ A1 shapeCasts_S1x1024_S1024)))) (Host.dotGeneral dot_S2x2048x5632_S1024x5632_S2x2048x1024_2_1_01_0_n_n none U A4)) (constant S_ .f32 0x00000000#32) reducesTo_S2x2048x1024_S2x1024_d1 h_S_) shapeCasts_S2x1024_S2x1x1024 : FVec Ideal S2x1x1024 .f32) = NormConvValue.dscale A0 A1 U A4 := by
  funext i
  pointwise [spread, NormConvValue.dscale, NormConvValue.xn, NormConvValue.dh, NormMath.rstd]
  exact Finset.sum_congr rfl fun _ _ => by rw [mul_comm, ← mul_assoc]

theorem ref_dgain : (broadcastInDim S1x1024 ![1] bcast_S1024_S1x1024_1 (Host.reduceAdd (shapeCast _ (Host.reduceAdd (mulf (mulf A0 (broadcastInDim S2x2048x1024 ![0, 1, 2] bcast_S2x2048x1_S2x2048x1024_0_1_2 (Host.rsqrt (spread A0)))) (mulf (Host.dotGeneral dot_S2x2048x5632_S1024x5632_S2x2048x1024_2_1_01_0_n_n none U A4) (broadcastInDim S2x2048x1024 ![0, 1, 2] bcast_S2x1x1024_S2x2048x1024_0_1_2 (addf (broadcastInDim S2x1x1024 ![] bcast_S_S2x1x1024 (constant S_ .f32 0x3F800000#32)) A2)))) (constant S_ .f32 0x00000000#32) reducesTo_S2x2048x1024_S1024_d0_1 h_S_) shapeCasts_S1024_S1x1x1024) (constant S_ .f32 0x00000000#32) reducesTo_S1x1x1024_S1024_d0_1 h_S_) : FVec Ideal S1x1024 .f32) = NormConvValue.dgain A0 A2 U A4 := by
  funext i
  pointwise [spread, NormConvValue.dgain, NormConvValue.xn, NormConvValue.dh, NormMath.rstd, NormMath.reduce_rows]
  simp only [Finset.univ_unique, Finset.sum_singleton]
  refine Finset.sum_congr rfl fun _ _ => Finset.sum_congr rfl fun _ _ => ?_
  rw [← mul_assoc, mul_comm (_ * Ideal.rsqrt _)]

/-- The gradient of the rows, where the arrays it is computed from hold reals. -/
theorem ref_dx (h0 : ∀ i, ∃ r : ℝ, A0 i = r) (h1 : ∀ i, ∃ r : ℝ, A1 i = r) (h2 : ∀ i, ∃ r : ℝ, A2 i = r)
    (h4 : ∀ i, ∃ r : ℝ, A4 i = r) (hu : ∀ i, ∃ r : ℝ, U i = r) : (addf (addf (addf A5 (mulf (mulf (mulf (Host.dotGeneral dot_S2x2048x5632_S1024x5632_S2x2048x1024_2_1_01_0_n_n none U A4) (broadcastInDim S2x2048x1024 ![0, 1, 2] bcast_S2x1x1024_S2x2048x1024_0_1_2 (addf (broadcastInDim S2x1x1024 ![] bcast_S_S2x1x1024 (constant S_ .f32 0x3F800000#32)) A2))) (broadcastInDim S2x2048x1024 ![0, 1, 2] bcast_S1x1x1024_S2x2048x1024_0_1_2 (broadcastInDim S1x1x1024 ![2] bcast_S1024_S1x1x1024_2 (shapeCast _ A1 shapeCasts_S1x1024_S1024)))) (broadcastInDim S2x2048x1024 ![0, 1, 2] bcast_S2x2048x1_S2x2048x1024_0_1_2 (Host.rsqrt (spread A0))))) (mulf A0 (pulled A0 A1 A2 U A4))) (mulf (pulled A0 A1 A2 U A4) A0) : FVec Ideal S2x2048x1024 .f32) = NormConvValue.dx A0 A1 A2 A4 A5 U := by
  funext i
  obtain ⟨b, r, k, rfl⟩ : ∃ (b : Fin 2) (r : Fin 2048) (k : Fin 1024), i = ix3 b r k :=
    ⟨i 0, i 1, i 2, funext fun a => match a with | ⟨0, _⟩ => rfl | ⟨1, _⟩ => rfl | ⟨2, _⟩ => rfl⟩
  pointwise [spread, pulled, NormConvValue.dx, NormConvValue.xn, NormConvValue.dn, NormConvValue.dh, NormMath.rstd]
  have hn : ∀ k : Fin 1024, ∃ n : ℝ, (∑ e : Fin 5632, U (ix3 b r e) * A4 (ix2 k e)) * (1 + A2 (ix3 b 0 k)) * A1 (ix2 0 k) = (n : EReal) := by
    intro k
    choose y hy using hu
    choose w hw using h4
    obtain ⟨s, hs⟩ := h2 (ix3 b 0 k)
    obtain ⟨g, hg⟩ := h1 (ix2 0 k)
    simp only [hy, hw, hs, hg, ← EReal.coe_mul, Reals.sum_coe]
    exact ⟨(∑ e : Fin 5632, y (ix3 b r e) * w (ix2 k e)) * (1 + s) * g, by push_cast; rfl⟩
  choose n hn using hn
  choose x hx using fun k : Fin 1024 => h0 (ix3 b r k)
  simp only [mul_right_comm _ (A1 _) (1 + _), hn, hx, Finset.univ_unique, Finset.sum_singleton]
  exact (NormMath.norm_dx x n (A5 (ix3 b r k)) k).symm

/-- The gradient of the convolution's argument, where the arrays it is computed from hold reals. -/
theorem real_du {Y : FVec Ideal S2x2048x5632 .f32} {C : FVec Ideal S3x5632 .f32} (h8 : ∀ i, ∃ r : ℝ, Y i = r) (h5 : ∀ i, ∃ r : ℝ, C i = r) :
    ∀ i, ∃ r : ℝ, NormConvValue.dU Y C i = r := by
  choose y hy using h8
  choose w hw using h5
  intro i
  refine ⟨w (ix2 2 (i 2)) * y (ix3 (i 0) (i 1) (i 2)) + w (ix2 1 (i 2)) * (if h : (i 1).val + 1 < 2048 then y (ix3 (i 0) ⟨(i 1).val + 1, h⟩ (i 2)) else 0)
    + w (ix2 0 (i 2)) * (if h : (i 1).val + 2 < 2048 then y (ix3 (i 0) ⟨(i 1).val + 2, h⟩ (i 2)) else 0), ?_⟩
  show NormConvValue.dUa Y C (i 0) (i 1) (i 2) = _
  unfold NormConvValue.dUa
  simp only [hy, hw, EReal.coe_add, EReal.coe_mul]
  refine congrArg₂ (fun a b : EReal => a + b) (congrArg₂ (fun a b : EReal => a + b) rfl (congrArg₂ (fun a b : EReal => a * b) rfl ?_))
    (congrArg₂ (fun a b : EReal => a * b) rfl ?_)
  · split <;> rfl
  · split <;> rfl

end

/-- What the precondition says of the arrays on one device. -/
theorem reals {A0 A7 : FVec Ideal Cert.Pre_norm_conv_finite.S2x2048x1024 .f32} {A1 : FVec Ideal Cert.Pre_norm_conv_finite.S1x1024 .f32} {A2 A3 : FVec Ideal Cert.Pre_norm_conv_finite.S2x1x1024 .f32}
    {A4 : FVec Ideal Cert.Pre_norm_conv_finite.S1024x5632 .f32} {A5 : FVec Ideal Cert.Pre_norm_conv_finite.S3x5632 .f32} {A6 : FVec Ideal Cert.Pre_norm_conv_finite.S5632 .f32} {A8 : FVec Ideal Cert.Pre_norm_conv_finite.S2x2048x5632 .f32}
    (h : Cert.Pre_norm_conv_finite.fn (F := Ideal) A0 A1 A2 A3 A4 A5 A6 A7 A8 = fun _ => 1#1) :
    (∀ i, ∃ r : ℝ, A0 i = r) ∧ (∀ i, ∃ r : ℝ, A1 i = r) ∧ (∀ i, ∃ r : ℝ, A2 i = r) ∧ (∀ i, ∃ r : ℝ, A4 i = r) ∧ (∀ i, ∃ r : ℝ, A5 i = r) ∧ (∀ i, ∃ r : ℝ, A8 i = r) := by
  obtain ⟨h, h8⟩ := Finite.both h
  obtain ⟨h, h5⟩ := Finite.both h
  obtain ⟨h, h4⟩ := Finite.both h
  obtain ⟨h, h2⟩ := Finite.both h
  obtain ⟨h0, h1⟩ := Finite.both h
  exact ⟨Finite.all_real _ _ _ _ _ (congrFun h0 ix0), Finite.all_real _ _ _ _ _ (congrFun h1 ix0), Finite.all_real _ _ _ _ _ (congrFun h2 ix0),
    Finite.all_real _ _ _ _ _ (congrFun h4 ix0), Finite.all_real _ _ _ _ _ (congrFun h5 ix0), Finite.all_real _ _ _ _ _ (congrFun h8 ix0)⟩

set_option maxHeartbeats 1000000 in
theorem algebraic : Cert.algebraic_NormConvIdeal_NormConvRefIdeal_pre_norm_conv_finite := by
  intro m g m' g' hp hagree
  refine ⟨_, _, _, _, _, NormConvValue.run m g, θ_run_mono (Cert.NormConvRefIdeal.Value.run (F := Ideal) m' g') fun r h c => ?_⟩
  have hc := hp c
  obtain ⟨h0, h1, h2, h3, h4, h5, h6, h7, h8⟩ := hagree c
  obtain ⟨r0, r1, r2, r3, r4, rest⟩ := h c
  refine ⟨r0.trans ?_, r1.trans ?_, r2.trans ?_, r3.trans ?_, r4.trans ?_, rest⟩
  · rw [Cert.NormConvRefIdeal.Value.res_main_v93, h0, h1, h2, h4, h5, h7, h8]
    obtain ⟨f0, f1, f2, f4, f5, f8⟩ := reals hc
    rw [ref_du]
    exact ref_dx _ _ _ _ _ _ f0 f1 f2 f4 (real_du f8 f5)
  · rw [h5, h8, ref_du]; rfl
  · rw [h4, h5, h8, ref_du]; exact ref_dshift _ _
  · rw [h0, h1, h4, h5, h8, ref_du]; exact ref_dscale _ _ _ _
  · rw [h0, h2, h4, h5, h8, ref_du]; exact ref_dgain _ _ _ _

end Cert.Proof.NormConvClaim
-- ==== Proof.Tiles.lean ====
/- Reading an array of rows of lanes, written tile by tile: a tile has 1024 rows of 128 lanes. -/
module

public import Idealize.ShloMosaic.Lib.Pipeline.ValueKit
public import Idealize.ShloMosaic.Lib.Pipeline.ReadBack

@[expose] public section

noncomputable section

namespace Cert.Proof.Tiles

open Idealize.ShloMosaic Idealize.SL.Sem

variable {Val : EltTy → Type} {e : EltTy} {N C : ℕ}

/-- The array, its tiles' indices. -/
abbrev Arr (N C : ℕ) : Shape := ⟨3, ![1, N, C]⟩
abbrev Tile : Shape := ⟨3, ![1, 1024, 128]⟩

/-- A tile fits in the array. -/
abbrev Fits (N C : ℕ) (off : Fin 3 → ℕ) : Prop := ∀ a, off a + (![1, 1024, 128] : Fin 3 → ℕ) a ≤ (Arr N C).size a

/-- The tile at an offset. -/
abbrev rect {off : Fin 3 → ℕ} (inb : Fits N C off) : Rect (Arr N C) := Rect.unit (s := Arr N C) off ![1, 1024, 128] inb

/-- Row `y1`, lane `y2` of the array is row `r`, lane `d` of the tile at row `o1`, lane `o2`. -/
theorem tile_emb {off : Fin 3 → ℕ} (o1 o2 : ℕ) (inb : Fits N C off) (y1 : Fin N) (y2 : Fin C) (r : Fin 1024) (d : Fin 128)
    (x : (rect inb).shape.Idx) (hx : x = (ix3 0 r d : Tile.Idx)) (heq : off = ![0, o1, o2]) (h1 : y1.val = o1 + r.val) (h2 : y2.val = o2 + d.val) :
    (rect inb).emb x = (ix3 0 y1 y2 : (Arr N C).Idx) := by
  subst heq hx
  funext a
  refine Fin.ext ?_
  show (![0, o1, o2] : Fin 3 → ℕ) a + 1 * ((ix3 0 r d : Tile.Idx) a).val = ((ix3 0 y1 y2 : (Arr N C).Idx) a).val
  rw [Nat.one_mul]
  exact match a with
  | ⟨0, _⟩ => rfl
  | ⟨1, _⟩ => h1.symm
  | ⟨2, _⟩ => h2.symm

theorem tile_ld (X : (Arr N C).Idx → Val e) {off : Fin 3 → ℕ} (o1 o2 : ℕ) (inb : Fits N C off) (y1 : Fin N) (y2 : Fin C) (r : Fin 1024) (d : Fin 128)
    (heq : off = ![0, o1, o2]) (h1 : y1.val = o1 + r.val) (h2 : y2.val = o2 + d.val) :
    (View.ld X (rect inb) : Tile.Idx → Val e) (ix3 0 r d) = X (ix3 0 y1 y2) :=
  congrArg X (tile_emb o1 o2 inb y1 y2 r d _ rfl heq h1 h2)

theorem tile_not_mem {off : Fin 3 → ℕ} (o1 o2 : ℕ) (inb : Fits N C off)
    (y1 : Fin N) (y2 : Fin C) (heq : off = ![0, o1, o2]) (h : (y1.val < o1 ∨ o1 + 1024 ≤ y1.val) ∨ (y2.val < o2 ∨ o2 + 128 ≤ y2.val)) :
    (ix3 0 y1 y2 : (Arr N C).Idx) ∉ (rect inb).set := by
  subst heq
  rw [Rect.mem_set_unit]
  intro hall
  have a1 : o1 ≤ y1.val ∧ y1.val < o1 + 1024 := hall 1
  have a2 : o2 ≤ y2.val ∧ y2.val < o2 + 128 := hall 2
  omega

section Canon
variable [∀ e, Nonempty (Val e)] {off : Fin 3 → ℕ} (o1 o2 : ℕ) {inb : Fits N C off}
  {w : Tile.Idx → Val e} {L : List (View.Piece Val (Arr N C) e)} (y1 : Fin N) (y2 : Fin C)

theorem canon_mem (r : Fin 1024) (d : Fin 128) (heq : off = ![0, o1, o2]) (h1 : y1.val = o1 + r.val) (h2 : y2.val = o2 + d.val) :
    View.canon ((⟨rect inb, w⟩ : View.Piece Val (Arr N C) e) :: L) (ix3 0 y1 y2) = w (ix3 0 r d) :=
  (congrArg (View.canon ((⟨rect inb, w⟩ : View.Piece Val (Arr N C) e) :: L)) (tile_emb o1 o2 inb y1 y2 r d _ rfl heq h1 h2).symm).trans
    (View.canon_cons_emb (rect inb) w L _)

theorem canon_not_mem (heq : off = ![0, o1, o2]) (h : (y1.val < o1 ∨ o1 + 1024 ≤ y1.val) ∨ (y2.val < o2 ∨ o2 + 128 ≤ y2.val)) :
    View.canon ((⟨rect inb, w⟩ : View.Piece Val (Arr N C) e) :: L) (ix3 0 y1 y2) = View.canon L (ix3 0 y1 y2) :=
  View.canon_cons_of_not_mem _ L (tile_not_mem o1 o2 inb y1 y2 heq h)

/-- An array written whole. -/
theorem canon_whole {o : Fin 3 → ℕ} {inb' : ∀ a, o a + (![1, N, C] : Fin 3 → ℕ) a ≤ (Arr N C).size a} {w' : (Arr N C).Idx → Val e} (heq : o = ![0, 0, 0]) :
    View.canon ((⟨Rect.unit (s := Arr N C) o ![1, N, C] inb', w'⟩ : View.Piece Val (Arr N C) e) :: L) (ix3 0 y1 y2) = w' (ix3 0 y1 y2) := by
  have h : ∀ x : (Rect.unit (s := Arr N C) o ![1, N, C] inb').shape.Idx, x = (ix3 0 y1 y2 : (Arr N C).Idx) →
      (Rect.unit (s := Arr N C) o ![1, N, C] inb').emb x = (ix3 0 y1 y2 : (Arr N C).Idx) := by
    intro x hx
    subst heq hx
    funext a
    refine Fin.ext ?_
    show (![0, 0, 0] : Fin 3 → ℕ) a + 1 * ((ix3 0 y1 y2 : (Arr N C).Idx) a).val = ((ix3 0 y1 y2 : (Arr N C).Idx) a).val
    rw [Nat.one_mul]
    exact match a with
    | ⟨0, _⟩ => rfl
    | ⟨1, _⟩ => Nat.zero_add _
    | ⟨2, _⟩ => Nat.zero_add _
  exact (congrArg (View.canon ((⟨Rect.unit (s := Arr N C) o ![1, N, C] inb', w'⟩ : View.Piece Val (Arr N C) e) :: L)) (h _ rfl).symm).trans
    (View.canon_cons_emb (Rect.unit (s := Arr N C) o ![1, N, C] inb') w' L _)
end Canon

section Writes
variable {sig : RefSig} {κ : Kind} {sp : Space} (v : View sig κ sp (Arr N C) e) (f : v.ty.Contents Val)
  {off : Fin 3 → ℕ} (o1 o2 : ℕ) {inb : Fits N C off} {w : Tile.Idx → Val e} {L : List (View.Piece Val (Arr N C) e)} (y1 : Fin N) (y2 : Fin C)

theorem read_mem (r : Fin 1024) (d : Fin 128) (heq : off = ![0, o1, o2]) (h1 : y1.val = o1 + r.val) (h2 : y2.val = o2 + d.val) :
    v.read Val (v.writes Val f ((⟨rect inb, w⟩ : View.Piece Val (Arr N C) e) :: L)) (ix3 0 y1 y2) = w (ix3 0 r d) :=
  (congrArg (v.read Val (v.writes Val f ((⟨rect inb, w⟩ : View.Piece Val (Arr N C) e) :: L))) (tile_emb o1 o2 inb y1 y2 r d _ rfl heq h1 h2).symm).trans
    (View.read_writes_cons_emb v f (rect inb) w L _)

theorem read_not_mem (heq : off = ![0, o1, o2]) (h : (y1.val < o1 ∨ o1 + 1024 ≤ y1.val) ∨ (y2.val < o2 ∨ o2 + 128 ≤ y2.val)) :
    v.read Val (v.writes Val f ((⟨rect inb, w⟩ : View.Piece Val (Arr N C) e) :: L)) (ix3 0 y1 y2) = v.read Val (v.writes Val f L) (ix3 0 y1 y2) := by
  rw [View.writes_cons]
  exact View.read_slice_write_of_not_mem _ _ _ _ (by rw [Rect.map_emb_univ]; exact tile_not_mem o1 o2 inb y1 y2 heq h)
end Writes

end Cert.Proof.Tiles
-- ==== Proof.MlaTile.lean ====
/- The steps of the gradient of causal attention on one tile, read at an index. A tile has 1024 queries and 1024 keys of two
   heads; a head's keys, queries and values are rows of 128 lanes. -/
module

public import proofs.«01_k».proof.Proof.Gen.MlaIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.MlaTile

open Cert.MlaIdeal Cert.MlaIdeal.Gen Idealize.ShloMosaic Idealize.ShloMosaic.TcCoe Idealize.SL.Sem

/-- A row of 128 lanes. -/
abbrev Row := Fin 128 → EReal

/-- The word of the score's scale. -/
abbrev scale : EReal := Ideal.ofBits .f32 0x3DD105EC#32

/-- The score of a key and a query. -/
def sc (k q : Row) : EReal := (∑ d, k d * q d) * scale

/-- The weight of a key for a query whose scores' logarithmic sum is `l`; nothing where the key is masked. -/
def pr (b : Prop) [Decidable b] (k q : Row) (l : EReal) : EReal := Ideal.exp ((if b then sc k q else ⊥) - l)

/-- Whether a lane is the first head's (`lo`) or the second's. -/
def mine (lo : Bool) (e : Fin 128) : Bool := decide (e.val < 64) == lo

/-- The lanes of one head of the two, the others zero. -/
def lanes (lo : Bool) (d : Row) : Row := fun e => if mine lo e then d e else 0

/-- One on a head's lanes, else zero. -/
def sel (lo : Bool) (e : Fin 128) : EReal := if mine lo e then 1 else 0

/-- The product of a row with its output over one head's lanes, taken in three parts. -/
def dl (lo : Bool) (d o : Row) : EReal :=
  (∑ e : Fin 128, sel lo e * (d e * o e)) + (∑ e : Fin 128, sel lo e * (d e * o e - d e * o e))
    + ∑ e : Fin 128, sel lo e * (d e * o e - d e * o e - (d e * o e - d e * o e))

/-- The gradient of a score. -/
def ds (b : Prop) [Decidable b] (lo : Bool) (k q v d o : Row) (l : EReal) : EReal :=
  pr b k q l * ((∑ e, v e * lanes lo d e) - dl lo d o) * scale

/-- A row of a tile. -/
def row (T : (⟨3, ![1, 1024, 128]⟩ : Shape).Idx → EReal) (r : Fin 1024) : Row := fun d => T (ix3 0 r d)

/-! ## Words -/

theorem lane_word : ∀ e : Fin 128, IntOp.cmpi .slt (BitVec.ofNat 32 e.val) 64#32 = BitVec.ofBool (decide (e.val < 64)) := by decide +kernel

theorem key_word (j i : Fin 1024) : IntOp.cmpi .sle (BitVec.ofNat 32 j.val) (BitVec.ofNat 32 i.val) = BitVec.ofBool (decide (j ≤ i)) :=
  WordCmp.cmpi_sle_ofNat (by omega) (by omega)

theorem mask_word : (Named.named κ "mask" 0xF149F2CA#32 : Ideal .f32) = ⊥ := rfl

theorem bit_word (b : Bool) : (FloatOps.sitofp .f32 (BitVec.setWidth 32 (BitVec.ofBool b)) : Ideal .f32) = if b then 1 else 0 := by
  cases b
  · show ((((BitVec.setWidth 32 (BitVec.ofBool false) : BitVec 32).toInt : ℤ) : ℝ) : EReal) = 0
    simp
  · show ((((BitVec.setWidth 32 (BitVec.ofBool true) : BitVec 32).toInt : ℤ) : ℝ) : EReal) = 1
    simp

theorem xor_word (b : Bool) : IntOp.xori (BitVec.ofBool b) 1#1 = BitVec.ofBool (!b) := by cases b <;> rfl

theorem mine_true (e : Fin 128) : mine true e = decide (e.val < 64) := by simp [mine]
theorem mine_false (e : Fin 128) : mine false e = !decide (e.val < 64) := by simp [mine]

/-! ## The payloads -/

theorem pay_do0 (D : FVec Ideal S1x1024x128 .f32) (r : Fin 1024) (e : Fin 128) :
    k0_pay30 (F := Ideal) D (ix2 r e) = lanes true (row D r) e := by
  pointwise [k0_pay30, k0_pay24, k0_pay28]
  simp only [lane_word, WordCmp.select_ofBool, lanes, mine_true, row]

theorem pay_do1 (D : FVec Ideal S1x1024x128 .f32) (r : Fin 1024) (e : Fin 128) :
    k0_pay31 (F := Ideal) D (ix2 r e) = lanes false (row D r) e := by
  pointwise [k0_pay31, k0_pay24, k0_pay28]
  simp only [lane_word, WordCmp.select_ofBool, lanes, mine_false, row]
  by_cases h : e.val < 64 <;> simp [h]

theorem pay_dl0 (D O : FVec Ideal S1x1024x128 .f32) (r : Fin 1024) :
    k0_pay39 (F := Ideal) (k0_pay33 D O) (k0_pay35 D O) (k0_pay36 D O) k0_pay38 (ix2 0 r) = dl true (row D r) (row O r) := by
  pointwise [k0_pay39, k0_pay33, k0_pay35, k0_pay36, k0_pay38, k0_pay37, k0_pay34, k0_pay32, k0_pay28]
  simp only [lane_word, bit_word, dl, sel, mine_true, row]

theorem pay_dl1 (D O : FVec Ideal S1x1024x128 .f32) (r : Fin 1024) :
    k0_pay40 (F := Ideal) (k0_pay33 D O) (k0_pay35 D O) (k0_pay36 D O) k0_pay37 (ix2 0 r) = dl false (row D r) (row O r) := by
  pointwise [k0_pay40, k0_pay33, k0_pay35, k0_pay36, k0_pay37, k0_pay34, k0_pay32, k0_pay28]
  simp only [lane_word, xor_word, bit_word, dl, sel, mine_false, row]

variable {I J : IVec S1024x1024 32} (hI : I = iota Kind.tc S1024x1024 32 [0] iota_S1024x1024_d0_w32) (hJ : J = iota Kind.tc S1024x1024 32 [1] iota_S1024x1024_d1_w32)

include hI hJ in
theorem pr_diag0 (Q K : FVec Ideal S1x1024x128 .bf16) (L : FVec Ideal S1x1x1x1024 .f32) (j i : Fin 1024) :
    k0_pay56 (F := Ideal) (k0_pay26 (F := Ideal) Q) (k0_pay41 (F := Ideal) L) I J K (ix2 j i) = pr (j ≤ i) (row K j) (row Q i) (L (ix4 0 0 0 i)) := by
  subst hI hJ; pointwise [k0_pay56, k0_pay55, k0_pay26, k0_pay41]
  simp only [key_word, WordCmp.select_ofBool, mask_word, decide_eq_true_eq, pr, sc, row]

include hI hJ in
theorem pr_diag1 (Q K : FVec Ideal S1x1024x128 .bf16) (L : FVec Ideal S1x1x1x1024 .f32) (j i : Fin 1024) :
    k0_pay62 (F := Ideal) (k0_pay27 (F := Ideal) Q) (k0_pay42 (F := Ideal) L) I J K (ix2 j i) = pr (j ≤ i) (row K j) (row Q i) (L (ix4 0 0 0 i)) := by
  subst hI hJ; pointwise [k0_pay62, k0_pay61, k0_pay27, k0_pay42]
  simp only [key_word, WordCmp.select_ofBool, mask_word, decide_eq_true_eq, pr, sc, row]

theorem pr_step0 (Q K : FVec Ideal S1x1024x128 .bf16) (L : FVec Ideal S1x1x1x1024 .f32) (j i : Fin 1024) :
    k0_pay4 (F := Ideal) (k0_pay26 (F := Ideal) Q) (k0_pay41 (F := Ideal) L) K (ix2 j i) = pr True (row K j) (row Q i) (L (ix4 0 0 0 i)) := by
  pointwise [k0_pay4, k0_pay3, k0_pay26, k0_pay41]
  simp only [pr, sc, row, if_true]

theorem pr_step1 (Q K : FVec Ideal S1x1024x128 .bf16) (L : FVec Ideal S1x1x1x1024 .f32) (j i : Fin 1024) :
    k0_pay10 (F := Ideal) (k0_pay27 (F := Ideal) Q) (k0_pay42 (F := Ideal) L) K (ix2 j i) = pr True (row K j) (row Q i) (L (ix4 0 0 0 i)) := by
  pointwise [k0_pay10, k0_pay9, k0_pay27, k0_pay42]
  simp only [pr, sc, row, if_true]

include hI hJ in
theorem ds_diag0 (Q K V : FVec Ideal S1x1024x128 .bf16) (D O : FVec Ideal S1x1024x128 .f32) (L : FVec Ideal S1x1x1x1024 .f32) (j i : Fin 1024) :
    k0_pay57 (F := Ideal) (k0_pay26 (F := Ideal) Q) (k0_pay30 (F := Ideal) D) (k0_pay39 (F := Ideal) (k0_pay33 D O) (k0_pay35 D O) (k0_pay36 D O) k0_pay38) (k0_pay41 (F := Ideal) L) I J (k0_pay54 (F := Ideal) V) K (ix2 j i) = ds (j ≤ i) true (row K j) (row Q i) (row V j) (row D i) (row O i) (L (ix4 0 0 0 i)) := by
  pointwise [k0_pay57, k0_pay54]
  simp only [pr_diag0 hI hJ, pay_do0, pay_dl0, ds, row]

include hI hJ in
theorem ds_diag1 (Q K V : FVec Ideal S1x1024x128 .bf16) (D O : FVec Ideal S1x1024x128 .f32) (L : FVec Ideal S1x1x1x1024 .f32) (j i : Fin 1024) :
    k0_pay63 (F := Ideal) (k0_pay27 (F := Ideal) Q) (k0_pay31 (F := Ideal) D) (k0_pay40 (F := Ideal) (k0_pay33 D O) (k0_pay35 D O) (k0_pay36 D O) k0_pay37) (k0_pay42 (F := Ideal) L) I J (k0_pay54 (F := Ideal) V) K (ix2 j i) = ds (j ≤ i) false (row K j) (row Q i) (row V j) (row D i) (row O i) (L (ix4 0 0 0 i)) := by
  pointwise [k0_pay63, k0_pay54]
  simp only [pr_diag1 hI hJ, pay_do1, pay_dl1, ds, row]

theorem ds_step0 (Q K V : FVec Ideal S1x1024x128 .bf16) (D O : FVec Ideal S1x1024x128 .f32) (L : FVec Ideal S1x1x1x1024 .f32) (j i : Fin 1024) :
    k0_pay5 (F := Ideal) (k0_pay26 (F := Ideal) Q) (k0_pay30 (F := Ideal) D) (k0_pay39 (F := Ideal) (k0_pay33 D O) (k0_pay35 D O) (k0_pay36 D O) k0_pay38) (k0_pay41 (F := Ideal) L) V K (ix2 j i) = ds True true (row K j) (row Q i) (row V j) (row D i) (row O i) (L (ix4 0 0 0 i)) := by
  pointwise [k0_pay5, k0_pay2]
  simp only [pr_step0, pay_do0, pay_dl0, ds, row]

theorem ds_step1 (Q K V : FVec Ideal S1x1024x128 .bf16) (D O : FVec Ideal S1x1024x128 .f32) (L : FVec Ideal S1x1x1x1024 .f32) (j i : Fin 1024) :
    k0_pay11 (F := Ideal) (k0_pay27 (F := Ideal) Q) (k0_pay31 (F := Ideal) D) (k0_pay40 (F := Ideal) (k0_pay33 D O) (k0_pay35 D O) (k0_pay36 D O) k0_pay37) (k0_pay42 (F := Ideal) L) V K (ix2 j i) = ds True false (row K j) (row Q i) (row V j) (row D i) (row O i) (L (ix4 0 0 0 i)) := by
  pointwise [k0_pay11, k0_pay2]
  simp only [pr_step1, pay_do1, pay_dl1, ds, row]

include hI hJ in
theorem dq_diag0 (Q K V : FVec Ideal S1x1024x128 .bf16) (D O : FVec Ideal S1x1024x128 .f32) (L : FVec Ideal S1x1x1x1024 .f32) (A : FVec Ideal S128x1024 .f32) (i : Fin 1024) (d : Fin 128) :
    k0_pay67 (F := Ideal) (k0_pay58 (k0_pay26 (F := Ideal) Q) (k0_pay30 (F := Ideal) D) (k0_pay39 (F := Ideal) (k0_pay33 D O) (k0_pay35 D O) (k0_pay36 D O) k0_pay38) (k0_pay41 (F := Ideal) L) I J A (k0_pay54 (F := Ideal) V) K) (ix3 0 i d) = A (ix2 d i) + ∑ j : Fin 1024, row K j d * ds (j ≤ i) true (row K j) (row Q i) (row V j) (row D i) (row O i) (L (ix4 0 0 0 i)) := by
  pointwise [k0_pay67, k0_pay58, k0_pay55]
  simp only [ds_diag0 hI hJ, row]

include hI hJ in
theorem dq_diag1 (Q K V : FVec Ideal S1x1024x128 .bf16) (D O : FVec Ideal S1x1024x128 .f32) (L : FVec Ideal S1x1x1x1024 .f32) (A : FVec Ideal S128x1024 .f32) (i : Fin 1024) (d : Fin 128) :
    k0_pay1 (F := Ideal) (k0_pay68 A (k0_pay61 K) (k0_pay63 (F := Ideal) (k0_pay27 (F := Ideal) Q) (k0_pay31 (F := Ideal) D) (k0_pay40 (F := Ideal) (k0_pay33 D O) (k0_pay35 D O) (k0_pay36 D O) k0_pay37) (k0_pay42 (F := Ideal) L) I J (k0_pay54 (F := Ideal) V) K) (constant S128x1024 .f32 0x00000000#32)) (ix3 0 i d) = A (ix2 d i) + ∑ j : Fin 1024, row K j d * ds (j ≤ i) false (row K j) (row Q i) (row V j) (row D i) (row O i) (L (ix4 0 0 0 i)) := by
  pointwise [k0_pay1, k0_pay68, k0_pay61]
  simp only [ds_diag1 hI hJ, row]

theorem dq_step0 (Q K V : FVec Ideal S1x1024x128 .bf16) (D O : FVec Ideal S1x1024x128 .f32) (L : FVec Ideal S1x1x1x1024 .f32) (A : FVec Ideal S128x1024 .f32) (i : Fin 1024) (d : Fin 128) :
    k0_pay6 (F := Ideal) (k0_pay26 (F := Ideal) Q) (k0_pay30 (F := Ideal) D) (k0_pay39 (F := Ideal) (k0_pay33 D O) (k0_pay35 D O) (k0_pay36 D O) k0_pay38) (k0_pay41 (F := Ideal) L) A V K (ix2 d i) = A (ix2 d i) + ∑ j : Fin 1024, row K j d * ds True true (row K j) (row Q i) (row V j) (row D i) (row O i) (L (ix4 0 0 0 i)) := by
  pointwise [k0_pay6, k0_pay3]
  simp only [ds_step0, row]

theorem dq_step1 (Q K V : FVec Ideal S1x1024x128 .bf16) (D O : FVec Ideal S1x1024x128 .f32) (L : FVec Ideal S1x1x1x1024 .f32) (A : FVec Ideal S128x1024 .f32) (i : Fin 1024) (d : Fin 128) :
    k0_pay45 (F := Ideal) A (k0_pay9 K) (k0_pay11 (F := Ideal) (k0_pay27 (F := Ideal) Q) (k0_pay31 (F := Ideal) D) (k0_pay40 (F := Ideal) (k0_pay33 D O) (k0_pay35 D O) (k0_pay36 D O) k0_pay37) (k0_pay42 (F := Ideal) L) V K) (ix2 d i) = A (ix2 d i) + ∑ j : Fin 1024, row K j d * ds True false (row K j) (row Q i) (row V j) (row D i) (row O i) (L (ix4 0 0 0 i)) := by
  pointwise [k0_pay45, k0_pay9, k0_pay44]
  simp only [ds_step1, row]

include hI hJ in
theorem dk_diag0 (Q K V : FVec Ideal S1x1024x128 .bf16) (D O : FVec Ideal S1x1024x128 .f32) (L : FVec Ideal S1x1x1x1024 .f32) (X : FVec Ideal S1x1024x128 .f32) (j : Fin 1024) (d : Fin 128) :
    k0_pay64 (F := Ideal) (k0_pay59 (k0_pay26 (F := Ideal) Q) (k0_pay30 (F := Ideal) D) (k0_pay39 (F := Ideal) (k0_pay33 D O) (k0_pay35 D O) (k0_pay36 D O) k0_pay38) (k0_pay41 (F := Ideal) L) I J (k0_pay54 (F := Ideal) V) K) X (ix3 0 j d) = X (ix3 0 j d) + ∑ i : Fin 1024, ds (j ≤ i) true (row K j) (row Q i) (row V j) (row D i) (row O i) (L (ix4 0 0 0 i)) * row Q i d := by
  pointwise [k0_pay64, k0_pay59]
  simp only [ds_diag0 hI hJ]
  simp only [k0_pay26, row]
  pointwise []

include hI hJ in
theorem dk_diag1 (Q K V : FVec Ideal S1x1024x128 .bf16) (D O : FVec Ideal S1x1024x128 .f32) (L : FVec Ideal S1x1x1x1024 .f32) (X : FVec Ideal S1x1024x128 .f32) (j : Fin 1024) (d : Fin 128) :
    k0_pay65 (F := Ideal) (k0_pay27 (F := Ideal) Q) (k0_pay63 (F := Ideal) (k0_pay27 (F := Ideal) Q) (k0_pay31 (F := Ideal) D) (k0_pay40 (F := Ideal) (k0_pay33 D O) (k0_pay35 D O) (k0_pay36 D O) k0_pay37) (k0_pay42 (F := Ideal) L) I J (k0_pay54 (F := Ideal) V) K) X (ix3 0 j d) = X (ix3 0 j d) + ∑ i : Fin 1024, ds (j ≤ i) false (row K j) (row Q i) (row V j) (row D i) (row O i) (L (ix4 0 0 0 i)) * row Q i d := by
  pointwise [k0_pay65]
  simp only [ds_diag1 hI hJ]
  simp only [k0_pay27, row]
  pointwise []

theorem dk_step0 (Q K V : FVec Ideal S1x1024x128 .bf16) (D O : FVec Ideal S1x1024x128 .f32) (L : FVec Ideal S1x1x1x1024 .f32) (X : FVec Ideal S1x1024x128 .f32) (j : Fin 1024) (d : Fin 128) :
    k0_pay46 (F := Ideal) (k0_pay7 (k0_pay26 (F := Ideal) Q) (k0_pay30 (F := Ideal) D) (k0_pay39 (F := Ideal) (k0_pay33 D O) (k0_pay35 D O) (k0_pay36 D O) k0_pay38) (k0_pay41 (F := Ideal) L) V K) X (ix3 0 j d) = X (ix3 0 j d) + ∑ i : Fin 1024, ds True true (row K j) (row Q i) (row V j) (row D i) (row O i) (L (ix4 0 0 0 i)) * row Q i d := by
  pointwise [k0_pay46, k0_pay7]
  simp only [ds_step0]
  simp only [k0_pay26, row]
  pointwise []

theorem dk_step1 (Q K V : FVec Ideal S1x1024x128 .bf16) (D O : FVec Ideal S1x1024x128 .f32) (L : FVec Ideal S1x1x1x1024 .f32) (X : FVec Ideal S1x1024x128 .f32) (j : Fin 1024) (d : Fin 128) :
    k0_pay47 (F := Ideal) (k0_pay27 (F := Ideal) Q) (k0_pay11 (F := Ideal) (k0_pay27 (F := Ideal) Q) (k0_pay31 (F := Ideal) D) (k0_pay40 (F := Ideal) (k0_pay33 D O) (k0_pay35 D O) (k0_pay36 D O) k0_pay37) (k0_pay42 (F := Ideal) L) V K) X (ix3 0 j d) = X (ix3 0 j d) + ∑ i : Fin 1024, ds True false (row K j) (row Q i) (row V j) (row D i) (row O i) (L (ix4 0 0 0 i)) * row Q i d := by
  pointwise [k0_pay47, k0_pay44]
  simp only [ds_step1]
  simp only [k0_pay27, row]
  pointwise []

include hI hJ in
theorem dv_diag (Q K Q1 K1 : FVec Ideal S1x1024x128 .bf16) (D : FVec Ideal S1x1024x128 .f32) (L L1 : FVec Ideal S1x1x1x1024 .f32) (X : FVec Ideal S1x1024x128 .f32) (j : Fin 1024) (e : Fin 128) :
    k0_pay66 (F := Ideal) k0_pay25 (k0_pay29 D) (k0_pay60 (k0_pay26 (F := Ideal) Q) (k0_pay29 D) (k0_pay41 (F := Ideal) L) I J K) (k0_pay62 (F := Ideal) (k0_pay27 (F := Ideal) Q1) (k0_pay42 (F := Ideal) L1) I J K1) X (ix3 0 j e) = X (ix3 0 j e) + if e.val < 64 then ∑ i : Fin 1024, pr (j ≤ i) (row K j) (row Q i) (L (ix4 0 0 0 i)) * row D i e
      else ∑ i : Fin 1024, pr (j ≤ i) (row K1 j) (row Q1 i) (L1 (ix4 0 0 0 i)) * row D i e := by
  pointwise [k0_pay66, k0_pay60, k0_pay25]
  simp only [pr_diag0 hI hJ, pr_diag1 hI hJ, lane_word, WordCmp.select_ofBool, decide_eq_true_eq]
  simp only [k0_pay29, k0_pay28, row]
  pointwise []

theorem dv_step (Q K Q1 K1 : FVec Ideal S1x1024x128 .bf16) (D : FVec Ideal S1x1024x128 .f32) (L L1 : FVec Ideal S1x1x1x1024 .f32) (X : FVec Ideal S1x1024x128 .f32) (j : Fin 1024) (e : Fin 128) :
    k0_pay48 (F := Ideal) k0_pay25 (k0_pay29 D) (k0_pay8 (k0_pay26 (F := Ideal) Q) (k0_pay29 D) (k0_pay41 (F := Ideal) L) K) (k0_pay10 (F := Ideal) (k0_pay27 (F := Ideal) Q1) (k0_pay42 (F := Ideal) L1) K1) X (ix3 0 j e) = X (ix3 0 j e) + if e.val < 64 then ∑ i : Fin 1024, pr True (row K j) (row Q i) (L (ix4 0 0 0 i)) * row D i e
      else ∑ i : Fin 1024, pr True (row K1 j) (row Q1 i) (L1 (ix4 0 0 0 i)) * row D i e := by
  pointwise [k0_pay48, k0_pay8, k0_pay25]
  simp only [pr_step0, pr_step1, lane_word, WordCmp.select_ofBool, decide_eq_true_eq]
  simp only [k0_pay29, k0_pay28, row]
  pointwise []

end Cert.Proof.MlaTile
-- ==== Proof.MlaGrid.lean ====
/- The grid of the gradient of causal attention: two sequences, three pairs of heads, two blocks of queries. The trips of the
   loops over the blocks of keys, the places of the loads and stores, and the places of the blocks. -/
module

public import proofs.«01_k».proof.Proof.Gen.MlaIdeal.Value
public import proofs.«01_k».proof.Proof.Gen.MlaRefIdeal.Run
public import proofs.«01_k».proof.Proof.MlaTile
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.MlaGrid

open Cert.Proof.MlaTile Cert.MlaIdeal Cert.MlaIdeal.Gen Idealize.ShloMosaic Idealize.ShloMosaic.TcCoe Idealize.SL.Sem

variable (m : (ℓ : Loc nD τ sig) → Buf (Elt Ideal) ℓ)

/-! ## The trips of the loops -/

theorem trips1 : ∀ t : Fin cfg0.N, Scf.trips (k0_t1_loop (grid0.coords t)).lb (k0_t1_loop (grid0.coords t)).ub (k0_t1_loop (grid0.coords t)).st = t.val % 2 :=
  (by decide +kernel : ∀ t : Fin grid0.N, Scf.trips (k0_t1_loop (grid0.coords t)).lb (k0_t1_loop (grid0.coords t)).ub (k0_t1_loop (grid0.coords t)).st = t.val % 2)
theorem trips2 : ∀ t : Fin cfg0.N, Scf.trips (k0_t2_loop (grid0.coords t)).lb (k0_t2_loop (grid0.coords t)).ub (k0_t2_loop (grid0.coords t)).st = 0 :=
  (by decide +kernel : ∀ t : Fin grid0.N, Scf.trips (k0_t2_loop (grid0.coords t)).lb (k0_t2_loop (grid0.coords t)).ub (k0_t2_loop (grid0.coords t)).st = 0)

theorem trips1' (t : Fin cfg0.N) : Scf.trips 0#32 (Scalar.addi 0#32 (Scalar.muli (Scalar.divsi (Scalar.subi (BitVec.ofNat 32 (grid0.coords t 2)) 0#32) 1#32) 1#32)) 1#32 = t.val % 2 := trips1 t
theorem trips2' (t : Fin cfg0.N) : Scf.trips (Scalar.addi 0#32 (Scalar.muli (Scalar.divsi (Scalar.subi (BitVec.ofNat 32 (grid0.coords t 2)) 0#32) 1#32) 1#32)) (Scalar.addi 0#32 (Scalar.subi (BitVec.ofNat 32 (grid0.coords t 2)) 0#32)) 1#32 = 0 := trips2 t

theorem trip_pos (t : Fin cfg0.N) (h : t.val % 2 = 1) : 0 < (k0_t1_loop (grid0.coords t)).trips :=
  lt_of_lt_of_eq (show 0 < 1 by decide) ((trips1 t).trans h).symm

/-! ## Where the bodies load and store -/

theorem off7 : ∀ t : Fin cfg0.N, k0_off7 (grid0.coords t) = ![0, t.val % 2 * 1024, 0] :=
  (by decide +kernel : ∀ t : Fin grid0.N, k0_off7 (grid0.coords t) = ![0, t.val % 2 * 1024, 0])
theorem off8 : ∀ t : Fin cfg0.N, k0_off8 (grid0.coords t) = ![0, t.val % 2 * 1024, 0] :=
  (by decide +kernel : ∀ t : Fin grid0.N, k0_off8 (grid0.coords t) = ![0, t.val % 2 * 1024, 0])
theorem off9 : ∀ t : Fin cfg0.N, k0_off9 (grid0.coords t) = ![0, t.val % 2 * 1024, 128] :=
  (by decide +kernel : ∀ t : Fin grid0.N, k0_off9 (grid0.coords t) = ![0, t.val % 2 * 1024, 128])
theorem off1 : ∀ (t : Fin cfg0.N) (k : Fin (k0_t1_loop (grid0.coords t)).trips), k0_off1 (grid0.coords t) k = ![0, k.val * 1024, 0] :=
  (by decide +kernel : ∀ (t : Fin grid0.N) (k : Fin (k0_t1_loop (grid0.coords t)).trips), k0_off1 (grid0.coords t) k = ![0, k.val * 1024, 0])
theorem off2 : ∀ (t : Fin cfg0.N) (k : Fin (k0_t1_loop (grid0.coords t)).trips), k0_off2 (grid0.coords t) k = ![0, k.val * 1024, 0] :=
  (by decide +kernel : ∀ (t : Fin grid0.N) (k : Fin (k0_t1_loop (grid0.coords t)).trips), k0_off2 (grid0.coords t) k = ![0, k.val * 1024, 0])
theorem off3 : ∀ (t : Fin cfg0.N) (k : Fin (k0_t1_loop (grid0.coords t)).trips), k0_off3 (grid0.coords t) k = ![0, k.val * 1024, 128] :=
  (by decide +kernel : ∀ (t : Fin grid0.N) (k : Fin (k0_t1_loop (grid0.coords t)).trips), k0_off3 (grid0.coords t) k = ![0, k.val * 1024, 128])

/-! ## The blocks -/

theorem idx0 : ∀ t : Fin cfg0.N, win0_0.index t = ![t.val / 6, t.val % 2, t.val / 2 % 3] :=
  (by decide +kernel : ∀ t : Fin grid0.N, win0_0.index t = ![t.val / 6, t.val % 2, t.val / 2 % 3])
theorem idx1 : ∀ t : Fin cfg0.N, win0_1.index t = ![t.val / 6, 0, t.val / 2 % 3] :=
  (by decide +kernel : ∀ t : Fin grid0.N, win0_1.index t = ![t.val / 6, 0, t.val / 2 % 3])
theorem idx2 : ∀ t : Fin cfg0.N, win0_2.index t = ![t.val / 6, 0, t.val / 2 % 3] :=
  (by decide +kernel : ∀ t : Fin grid0.N, win0_2.index t = ![t.val / 6, 0, t.val / 2 % 3])
theorem idx3 : ∀ t : Fin cfg0.N, win0_3.index t = ![t.val / 6, t.val % 2, t.val / 2 % 3] :=
  (by decide +kernel : ∀ t : Fin grid0.N, win0_3.index t = ![t.val / 6, t.val % 2, t.val / 2 % 3])
theorem idx4 : ∀ t : Fin cfg0.N, win0_4.index t = ![t.val / 6, t.val / 2 % 3, 0, t.val % 2] :=
  (by decide +kernel : ∀ t : Fin grid0.N, win0_4.index t = ![t.val / 6, t.val / 2 % 3, 0, t.val % 2])
theorem idx5 : ∀ t : Fin cfg0.N, win0_5.index t = ![t.val / 6, t.val % 2, t.val / 2 % 3] :=
  (by decide +kernel : ∀ t : Fin grid0.N, win0_5.index t = ![t.val / 6, t.val % 2, t.val / 2 % 3])
theorem idx6 : ∀ t : Fin cfg0.N, win0_6.index t = ![t.val / 6, t.val % 2, t.val / 2 % 3] :=
  (by decide +kernel : ∀ t : Fin grid0.N, win0_6.index t = ![t.val / 6, t.val % 2, t.val / 2 % 3])
theorem idx7 : ∀ t : Fin cfg0.N, win0_7.index t = ![t.val / 6, 0, t.val / 2 % 3] :=
  (by decide +kernel : ∀ t : Fin grid0.N, win0_7.index t = ![t.val / 6, 0, t.val / 2 % 3])
theorem idx8 : ∀ t : Fin cfg0.N, win0_8.index t = ![t.val / 6, 0, t.val / 2 % 3] :=
  (by decide +kernel : ∀ t : Fin grid0.N, win0_8.index t = ![t.val / 6, 0, t.val / 2 % 3])

theorem seq_lt (t : Fin cfg0.N) : t.val / 6 < 2 := by
  have h : t.val < 12 := lt_of_lt_of_eq t.isLt N_0
  omega
theorem pair_lt (n : Nat) : n / 2 % 3 < 3 := Nat.mod_lt _ (by decide)

end Cert.Proof.MlaGrid
-- ==== Proof.MlaRows.lean ====
/- The gradient of causal attention, a grid point's blocks: the rows its loads read, and the tiles it stores. -/
module

public import proofs.«01_k».proof.Proof.Gen.MlaIdeal.Value
public import proofs.«01_k».proof.Proof.Gen.MlaRefIdeal.Run
public import proofs.«01_k».proof.Proof.MlaTile
public import proofs.«01_k».proof.Proof.MlaGrid
public import proofs.«01_k».proof.Proof.Tiles
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.MlaRows

open Cert.Proof.MlaTile Cert.Proof.MlaGrid Cert.Proof.Tiles Cert.MlaIdeal Cert.MlaIdeal.Gen Idealize.ShloMosaic Idealize.ShloMosaic.TcCoe Idealize.SL.Sem

variable (m : (ℓ : Loc nD τ sig) → Buf (Elt Ideal) ℓ)

/-- The arrays of queries or keys, of values, of the scores' logarithmic sums. -/
abbrev AQ := (⟨3, ![2, 2048, 768]⟩ : Shape).Idx → EReal
abbrev AV := (⟨3, ![2, 2048, 384]⟩ : Shape).Idx → EReal
abbrev AL := (⟨4, ![2, 3, 8, 2048]⟩ : Shape).Idx → EReal

/-- The first lane of a head of a pair. -/
def off (lo : Bool) : ℕ := if lo then 0 else 128
theorem off_le (lo : Bool) : off lo ≤ 128 := by cases lo <;> decide
theorem hcol_lt (lo : Bool) (p : Fin 3) (d : Fin 128) : p.val * 256 + (off lo + d.val) < 768 := by have := off_le lo; omega
theorem vcol_lt (p : Fin 3) (e : Fin 128) : p.val * 128 + e.val < 384 := by omega
theorem up_lt (a : Fin 2) (r : Fin 1024) : a.val * 1024 + r.val < 2048 := by omega

/-- Row `r` of block `a`. -/
def up (a : Fin 2) (r : Fin 1024) : Fin 2048 := ⟨a.val * 1024 + r.val, up_lt a r⟩

/-- A head's row of the queries or keys; a pair's row of the values; the sum of a query's head. -/
def hrow (lo : Bool) (A : AQ) (b : Fin 2) (p : Fin 3) (i : Fin 2048) : Row := fun d => A (ix3 b i ⟨p.val * 256 + (off lo + d.val), hcol_lt lo p d⟩)
def vrow (A : AV) (b : Fin 2) (p : Fin 3) (i : Fin 2048) : Row := fun e => A (ix3 b i ⟨p.val * 128 + e.val, vcol_lt p e⟩)
def lrow (lo : Bool) (L : AL) (b : Fin 2) (p : Fin 3) (i : Fin 2048) : EReal := L (ix4 b p (if lo then 0 else 1) i)

variable (c : Dev nD) (t : Fin cfg0.N)

/-- The arrays the launch finds. -/
abbrev aQ : AQ := V m c (Pipeline.arrRef spec0 0)
abbrev aK : AQ := V m c (Pipeline.arrRef spec0 1)
abbrev aV : AV := V m c (Pipeline.arrRef spec0 2)
abbrev aO : AV := V m c (Pipeline.arrRef spec0 3)
abbrev aL : AL := V m c (Pipeline.arrRef spec0 4)
abbrev aD : AV := V m c (Pipeline.arrRef spec0 5)

/-- The point's sequence, pair of heads and block of queries. -/
def seq : Fin 2 := ⟨t.val / 6, seq_lt t⟩
def pair : Fin 3 := ⟨t.val / 2 % 3, pair_lt t.val⟩
theorem blk_lt (n : ℕ) : n % 2 < 2 := Nat.mod_lt _ (by decide)
def blk : Fin 2 := ⟨t.val % 2, blk_lt t.val⟩

theorem lse_emb (lo : Bool) {o : Fin 4 → ℕ} (inb : ∀ a, o a + (![1, 1, 1, 1024] : Fin 4 → ℕ) a ≤ S1x1x8x1024.size a) (ho : o = ![0, 0, if lo then 0 else 1, 0]) (i : Fin 1024) :
    (Rect.unit (s := S1x1x8x1024) o ![1, 1, 1, 1024] inb).emb (ix4 0 0 0 i : (⟨4, ![1, 1, 1, 1024]⟩ : Shape).Idx) = (ix4 0 0 (if lo then 0 else 1) i : S1x1x8x1024.Idx) := by
  subst ho
  funext a
  refine Fin.ext ?_
  show (![0, 0, if lo then 0 else 1, 0] : Fin 4 → ℕ) a + 1 * ((ix4 0 0 0 i : (⟨4, ![1, 1, 1, 1024]⟩ : Shape).Idx) a).val = ((ix4 0 0 (if lo then 0 else 1) i : S1x1x8x1024.Idx) a).val
  rw [Nat.one_mul]
  exact match a with
  | ⟨0, _⟩ => rfl
  | ⟨1, _⟩ => rfl
  | ⟨2, _⟩ => by cases lo <;> rfl
  | ⟨3, _⟩ => Nat.zero_add _

theorem wide_lt (lo : Bool) (d : Fin 128) : off lo + d.val < 256 := by have := off_le lo; omega

theorem qrow_any (A : Buf (Elt Ideal) ((c : Thread nD τ).loc (Pipeline.arrRef spec0 0))) (lo : Bool) {o : Fin 3 → ℕ} (inb : Fits 1024 256 o) (ho : o = ![0, 0, off lo]) (i : Fin 1024) :
    row (View.ld (((cfg0.win 0).blk t).view.read (Elt Ideal) A) (rect inb)) i = hrow lo (A) (seq t) (pair t) (up (blk t) i) := by
  funext d
  refine (tile_ld _ 0 (off lo) inb i ⟨off lo + d.val, wide_lt lo d⟩ i d ho (Nat.zero_add _).symm rfl).trans ?_
  unfold hrow up seq pair blk
  blk_point [idx0 t]

theorem qrow (lo : Bool) {o : Fin 3 → ℕ} (inb : Fits 1024 256 o) (ho : o = ![0, 0, off lo]) (i : Fin 1024) :
    row (View.ld (iblk m c 0 t) (rect inb)) i = hrow lo (aQ m c) (seq t) (pair t) (up (blk t) i) := by
  unfold iblk
  exact qrow_any c t (V m c (Pipeline.arrRef spec0 0)) lo inb ho i

theorem krow_any (A : Buf (Elt Ideal) ((c : Thread nD τ).loc (Pipeline.arrRef spec0 1))) (lo : Bool) (a : Fin 2) {o : Fin 3 → ℕ} (inb : Fits 2048 256 o) (ho : o = ![0, a.val * 1024, off lo]) (j : Fin 1024) :
    row (View.ld (((cfg0.win 1).blk t).view.read (Elt Ideal) A) (rect inb)) j = hrow lo (A) (seq t) (pair t) (up a j) := by
  funext d
  refine (tile_ld _ (a.val * 1024) (off lo) inb (up a j) ⟨off lo + d.val, wide_lt lo d⟩ j d ho rfl rfl).trans ?_
  unfold hrow up seq pair
  blk_point [idx1 t]

theorem krow (lo : Bool) (a : Fin 2) {o : Fin 3 → ℕ} (inb : Fits 2048 256 o) (ho : o = ![0, a.val * 1024, off lo]) (j : Fin 1024) :
    row (View.ld (iblk m c 1 t) (rect inb)) j = hrow lo (aK m c) (seq t) (pair t) (up a j) := by
  unfold iblk
  exact krow_any c t (V m c (Pipeline.arrRef spec0 1)) lo a inb ho j

theorem varow_any (A : Buf (Elt Ideal) ((c : Thread nD τ).loc (Pipeline.arrRef spec0 2))) (a : Fin 2) {o : Fin 3 → ℕ} (inb : Fits 2048 128 o) (ho : o = ![0, a.val * 1024, 0]) (j : Fin 1024) :
    row (View.ld (((cfg0.win 2).blk t).view.read (Elt Ideal) A) (rect inb)) j = vrow (A) (seq t) (pair t) (up a j) := by
  funext d
  refine (tile_ld _ (a.val * 1024) 0 inb (up a j) d j d ho rfl (Nat.zero_add _).symm).trans ?_
  unfold vrow up seq pair
  blk_point [idx2 t]

theorem varow (a : Fin 2) {o : Fin 3 → ℕ} (inb : Fits 2048 128 o) (ho : o = ![0, a.val * 1024, 0]) (j : Fin 1024) :
    row (View.ld (iblk m c 2 t) (rect inb)) j = vrow (aV m c) (seq t) (pair t) (up a j) := by
  unfold iblk
  exact varow_any c t (V m c (Pipeline.arrRef spec0 2)) a inb ho j

theorem orow_any (A : Buf (Elt Ideal) ((c : Thread nD τ).loc (Pipeline.arrRef spec0 3))) (i : Fin 1024) :
    row (((cfg0.win 3).blk t).view.read (Elt Ideal) A) i = vrow (A) (seq t) (pair t) (up (blk t) i) := by
  funext d
  unfold row vrow up seq pair blk
  blk_point [idx3 t]

theorem orow (i : Fin 1024) :
    row (iblk m c 3 t) i = vrow (aO m c) (seq t) (pair t) (up (blk t) i) := by
  unfold iblk
  exact orow_any c t (V m c (Pipeline.arrRef spec0 3)) i

theorem dorow_any (A : Buf (Elt Ideal) ((c : Thread nD τ).loc (Pipeline.arrRef spec0 5))) (i : Fin 1024) :
    row (((cfg0.win 5).blk t).view.read (Elt Ideal) A) i = vrow (A) (seq t) (pair t) (up (blk t) i) := by
  funext d
  unfold row vrow up seq pair blk
  blk_point [idx5 t]

theorem dorow (i : Fin 1024) :
    row (iblk m c 5 t) i = vrow (aD m c) (seq t) (pair t) (up (blk t) i) := by
  unfold iblk
  exact dorow_any c t (V m c (Pipeline.arrRef spec0 5)) i

theorem lserow_any (A : Buf (Elt Ideal) ((c : Thread nD τ).loc (Pipeline.arrRef spec0 4))) (lo : Bool) {o : Fin 4 → ℕ} (inb : ∀ a, o a + (![1, 1, 1, 1024] : Fin 4 → ℕ) a ≤ S1x1x8x1024.size a) (ho : o = ![0, 0, if lo then 0 else 1, 0]) (i : Fin 1024) :
    (View.ld (((cfg0.win 4).blk t).view.read (Elt Ideal) A) (Rect.unit (s := S1x1x8x1024) o ![1, 1, 1, 1024] inb) : (⟨4, ![1, 1, 1, 1024]⟩ : Shape).Idx → EReal) (ix4 0 0 0 i) = lrow lo (A) (seq t) (pair t) (up (blk t) i) := by
  refine (congrArg (((cfg0.win 4).blk t).view.read (Elt Ideal) A) (lse_emb lo inb ho i)).trans ?_
  unfold lrow up seq pair blk
  cases lo
  · blk_point [idx4 t]
  · blk_point [idx4 t]

theorem lserow (lo : Bool) {o : Fin 4 → ℕ} (inb : ∀ a, o a + (![1, 1, 1, 1024] : Fin 4 → ℕ) a ≤ S1x1x8x1024.size a) (ho : o = ![0, 0, if lo then 0 else 1, 0]) (i : Fin 1024) :
    (View.ld (iblk m c 4 t) (Rect.unit (s := S1x1x8x1024) o ![1, 1, 1, 1024] inb) : (⟨4, ![1, 1, 1, 1024]⟩ : Shape).Idx → EReal) (ix4 0 0 0 i) = lrow lo (aL m c) (seq t) (pair t) (up (blk t) i) := by
  unfold iblk
  exact lserow_any c t (V m c (Pipeline.arrRef spec0 4)) lo inb ho i

end Cert.Proof.MlaRows
-- ==== Proof.MlaBlock.lean ====
/- The gradient of causal attention, a grid point's three blocks in closed form. -/
module

public import proofs.«01_k».proof.Proof.MlaRows
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.MlaBlock

open Cert.Proof.MlaTile Cert.Proof.MlaGrid Cert.Proof.Tiles Cert.Proof.MlaRows Cert.MlaIdeal Cert.MlaIdeal.Gen Idealize.ShloMosaic Idealize.ShloMosaic.TcCoe Idealize.SL.Sem

/-! ## The sums over a block -/

section Sums
variable (Q K : AQ) (V D O : AV) (L : AL) (lo : Bool) (b : Fin 2) (p : Fin 3)

/-- The weight of a key for a query, and the gradient of their score. -/
def wt (j i : Fin 2048) : EReal := pr (j ≤ i) (hrow lo K b p j) (hrow lo Q b p i) (lrow lo L b p i)
def gr (j i : Fin 2048) : EReal := ds (j ≤ i) lo (hrow lo K b p j) (hrow lo Q b p i) (vrow V b p j) (vrow D b p i) (vrow O b p i) (lrow lo L b p i)

/-- A query's gradient from a block of keys; a key's and a value's gradients from a block of queries. -/
def dqs (a : Fin 2) (i : Fin 2048) (d : Fin 128) : EReal := ∑ j : Fin 1024, hrow lo K b p (up a j) d * gr Q K V D O L lo b p (up a j) i
def dks (a : Fin 2) (j : Fin 2048) (d : Fin 128) : EReal := ∑ i : Fin 1024, gr Q K V D O L lo b p j (up a i) * hrow lo Q b p (up a i) d
def dvs (a : Fin 2) (j : Fin 2048) (e : Fin 128) : EReal := ∑ i : Fin 1024, wt Q K L lo b p j (up a i) * vrow D b p (up a i) e
end Sums

theorem up_le (a : Fin 2) (j i : Fin 1024) : (up a j ≤ up a i) ↔ j ≤ i := by
  rw [Fin.le_def, Fin.le_def]; unfold up; dsimp only; omega
theorem up_le_next (j i : Fin 1024) : (up 0 j ≤ up 1 i) ↔ True := by
  rw [Fin.le_def]; unfold up; refine ⟨fun _ => trivial, fun _ => ?_⟩
  show 0 * 1024 + j.val ≤ 1 * 1024 + i.val
  omega

variable (m : (ℓ : Loc nD τ sig) → Buf (Elt Ideal) ℓ) (c : Dev nD) (t : Fin cfg0.N)

abbrev DQ (lo : Bool) (a : Fin 2) (i : Fin 2048) (d : Fin 128) : EReal := dqs (aQ m c) (aK m c) (aV m c) (aD m c) (aO m c) (aL m c) lo (seq t) (pair t) a i d
abbrev DK (lo : Bool) (a : Fin 2) (j : Fin 2048) (d : Fin 128) : EReal := dks (aQ m c) (aK m c) (aV m c) (aD m c) (aO m c) (aL m c) lo (seq t) (pair t) a j d
abbrev DV (lo : Bool) (a : Fin 2) (j : Fin 2048) (e : Fin 128) : EReal := dvs (aQ m c) (aK m c) (aD m c) (aL m c) lo (seq t) (pair t) a j e

theorem zero_dq (x : S128x1024.Idx) : k0_pay43 (F := Ideal) x = 0 := by pointwise [k0_pay43]
theorem zero_dk (x : S1x2048x256.Idx) : k0_pay22 (F := Ideal) x = 0 := by pointwise [k0_pay22]
theorem zero_dv (x : S1x2048x128.Idx) : k0_pay23 (F := Ideal) x = 0 := by pointwise [k0_pay23]

/-! ## A trip's words -/

section Words
variable {i : grid0.Coords} {k : Fin (k0_t1_loop i).trips} {K : Memref sig .tc .vmem S1x2048x256 .bf16} {W : Memref sig .tc .vmem S1x2048x128 .bf16}
  {X : K.view.ty.Contents (Elt Ideal)} {Y : W.view.ty.Contents (Elt Ideal)} {q d h1 h2 h3 : FVec Ideal S1024x128 .bf16} {s : FVec Ideal S8x128 .f32} {s' : IVec S8x128 1} {l : Vec Ideal S1x1x1x1024 .f32}

theorem word176 {a : FVec Ideal S128x1024 .f32 × FVec Ideal S128x1024 .f32} : trip_k0_t1.sl.v176 i K W q d h1 h2 h3 s l X Y k a = k0_pay6 q d (k0_pay39 h1 h2 h3 s) (k0_pay41 l) a.1
    (View.readAt (Elt Ideal) W.view (Rect.unit (s := S1x2048x128) (k0_off1 i k) S1x1024x128.size (k0_off1_inb i k)).toLoadRect Y)
    (View.readAt (Elt Ideal) K.view (Rect.unit (s := S1x2048x256) (k0_off2 i k) S1x1024x128.size (k0_off2_inb i k)).toLoadRect X) := rfl
theorem word177 : trip_k0_t1.sl.v177 i K W q d h1 h2 h3 s l X Y k = k0_pay7 q d (k0_pay39 h1 h2 h3 s) (k0_pay41 l)
    (View.readAt (Elt Ideal) W.view (Rect.unit (s := S1x2048x128) (k0_off1 i k) S1x1024x128.size (k0_off1_inb i k)).toLoadRect Y)
    (View.readAt (Elt Ideal) K.view (Rect.unit (s := S1x2048x256) (k0_off2 i k) S1x1024x128.size (k0_off2_inb i k)).toLoadRect X) := rfl
theorem word179 : trip_k0_t1.sl.v179 i K q d l X k = k0_pay8 q d (k0_pay41 l)
    (View.readAt (Elt Ideal) K.view (Rect.unit (s := S1x2048x256) (k0_off2 i k) S1x1024x128.size (k0_off2_inb i k)).toLoadRect X) := rfl
theorem word182 : trip_k0_t1.sl.v182 (F := Ideal) i K X k = k0_pay9
    (View.readAt (Elt Ideal) K.view (Rect.unit (s := S1x2048x256) (k0_off3 i k) S1x1024x128.size (k0_off3_inb i k)).toLoadRect X) := rfl
theorem word188 : trip_k0_t1.sl.v188 i K q l X k = k0_pay10 q (k0_pay42 l)
    (View.readAt (Elt Ideal) K.view (Rect.unit (s := S1x2048x256) (k0_off3 i k) S1x1024x128.size (k0_off3_inb i k)).toLoadRect X) := rfl
theorem word194 : trip_k0_t1.sl.v194 i K W q d h1 h2 h3 s' l X Y k = k0_pay11 q d (k0_pay40 h1 h2 h3 s') (k0_pay42 l)
    (View.readAt (Elt Ideal) W.view (Rect.unit (s := S1x2048x128) (k0_off1 i k) S1x1024x128.size (k0_off1_inb i k)).toLoadRect Y)
    (View.readAt (Elt Ideal) K.view (Rect.unit (s := S1x2048x256) (k0_off3 i k) S1x1024x128.size (k0_off3_inb i k)).toLoadRect X) := rfl
theorem word210 {G : Memref sig .tc .vmem S1x2048x256 .f32} {Z : G.view.ty.Contents (Elt Ideal)} : trip_k0_t1.sl.v210 (F := Ideal) i G k Z =
    View.readAt (Elt Ideal) G.view (Rect.unit (s := S1x2048x256) (k0_off3 i k) S1x1024x128.size (k0_off3_inb i k)).toLoadRect Z := rfl
end Words

theorem blk_one (h : t.val % 2 = 1) : blk t = 1 := Fin.ext h
theorem up_le_step (h : t.val % 2 = 1) (j i : Fin 1024) : (up 0 j ≤ up (blk t) i) ↔ True := by
  rw [blk_one t h]; exact up_le_next j i
theorem up_blk (a : Fin 2) (j : Fin 1024) : (up a j).val = a.val * 1024 + j.val := rfl

theorem a6_lo (h : t.val % 2 = 0) (r : Fin 1024) (d : Fin 128) (y : Fin 256) (hy : y.val = 0 + d.val) :
    (outsAt0 m c t.val t.isLt).1 (ix3 0 r y) = DQ m c t true (blk t) (up (blk t) r) d := by
  rw [outsAt0_A m c t h]; dsimp only; frame_out
  simp only [trips1' t, trips2' t, h, st_k0_t1_zero, st_k0_t2_zero, List.nil_append, st_k0_t2, st_k0_t1]
  refine (canon_not_mem (Val := Elt Ideal) (0) 128 r y rfl (.inr (.inl (lt_of_eq_of_lt (hy.trans (Nat.zero_add _)) d.isLt)))).trans ?_
  refine (canon_mem (Val := Elt Ideal) 0 0 r y r d rfl (Nat.zero_add _).symm hy).trans ?_
  rw [dq_diag0 rfl rfl, zero_dq, zero_add]
  unfold DQ dqs gr
  simp only [up_le, krow m c t true (blk t) (o := k0_off8 (grid0.coords t)) _ (off8 t), qrow m c t true (o := ![0, 0, 0]) _ rfl, varow m c t (blk t) (o := k0_off7 (grid0.coords t)) _ (off7 t), dorow m c t, orow m c t, lserow m c t true (o := ![0, 0, 0, 0]) _ rfl]

theorem b6_lo (h : t.val % 2 = 1) (r : Fin 1024) (d : Fin 128) (y : Fin 256) (hy : y.val = 0 + d.val) :
    (outsAt0 m c t.val t.isLt).1 (ix3 0 r y) = DQ m c t true 0 (up (blk t) r) d + DQ m c t true (blk t) (up (blk t) r) d := by
  have h0 : ¬ t.val % 2 = 0 := by omega
  have hp := trip_pos t h
  rw [outsAt0_B m c t h0]
  generalize outsAt0 m c (t.val - 1) _ = prev
  dsimp only; frame_out
  simp only [trips1' t, trips2' t, h, st_k0_t1_zero, st_k0_t2_zero, List.nil_append, st_k0_t2, st_k0_t1]
  unfold st_k0_t1Step
  simp only [dif_pos hp, List.append_nil, List.nil_append]
  refine (canon_not_mem (Val := Elt Ideal) (0) 128 r y rfl (.inr (.inl (lt_of_eq_of_lt (hy.trans (Nat.zero_add _)) d.isLt)))).trans ?_
  refine (canon_mem (Val := Elt Ideal) 0 0 r y r d rfl (Nat.zero_add _).symm hy).trans ?_
  rw [dq_diag0 rfl rfl]
  unfold tripR_k0_t1 trip_k0_t1
  dsimp only
  simp only [word176, word177, word179, word182, word188, word194, word210, View.readAt_eq_ld, Memref.IsWhole.read_unread, View.writes_nil]
  rw [dq_step0, zero_dq, zero_add]
  unfold DQ dqs gr
  simp only [up_le, up_le_step t h, krow m c t true (blk t) (o := k0_off8 (grid0.coords t)) _ (off8 t), qrow m c t true (o := ![0, 0, 0]) _ rfl, varow m c t (blk t) (o := k0_off7 (grid0.coords t)) _ (off7 t), dorow m c t, orow m c t, lserow m c t true (o := ![0, 0, 0, 0]) _ rfl, krow m c t true 0 (o := k0_off2 (grid0.coords t) ⟨0, hp⟩) _ (off2 t ⟨0, hp⟩), qrow m c t true (o := ![0, 0, 0]) _ rfl, varow m c t 0 (o := k0_off1 (grid0.coords t) ⟨0, hp⟩) _ (off1 t ⟨0, hp⟩), dorow m c t, orow m c t, lserow m c t true (o := ![0, 0, 0, 0]) _ rfl]

theorem a7_lo (h : t.val % 2 = 0) (j : Fin 1024) (d : Fin 128) (y : Fin 256) (hy : y.val = 0 + d.val) :
    (outsAt0 m c t.val t.isLt).2.1 (ix3 0 (up (blk t) j) y) = DK m c t true (blk t) (up (blk t) j) d := by
  rw [outsAt0_A m c t h]; dsimp only; frame_out
  simp only [trips1' t, trips2' t, h, st_k0_t1_zero, st_k0_t2_zero, List.nil_append, st_k0_t2, st_k0_t1]
  refine (canon_not_mem (Val := Elt Ideal) (t.val % 2 * 1024) 128 (up (blk t) j) y (off9 t) (.inr (.inl (lt_of_eq_of_lt (hy.trans (Nat.zero_add _)) d.isLt)))).trans ?_
  refine (canon_mem (Val := Elt Ideal) (t.val % 2 * 1024) 0 (up (blk t) j) y j d (off8 t) rfl hy).trans ?_
  rw [dk_diag0 rfl rfl, tile_ld (Val := Elt Ideal) _ (t.val % 2 * 1024) 0 _ (up (blk t) j) y j d (off8 t) rfl hy]
  rw [canon_whole (Val := Elt Ideal) (up (blk t) j) y rfl, zero_dk, zero_add]
  unfold DK dks gr
  simp only [up_le, krow m c t true (blk t) (o := k0_off8 (grid0.coords t)) _ (off8 t), qrow m c t true (o := ![0, 0, 0]) _ rfl, varow m c t (blk t) (o := k0_off7 (grid0.coords t)) _ (off7 t), dorow m c t, orow m c t, lserow m c t true (o := ![0, 0, 0, 0]) _ rfl]

theorem b7_lo (h : t.val % 2 = 1) (j : Fin 1024) (d : Fin 128) (y : Fin 256) (hy : y.val = 0 + d.val) :
    (outsAt0 m c t.val t.isLt).2.1 (ix3 0 (up (blk t) j) y) = (outsAt0 m c (t.val - 1) (Nat.lt_of_le_of_lt (Nat.sub_le _ _) t.isLt)).2.1 (ix3 0 (up (blk t) j) y) + DK m c t true (blk t) (up (blk t) j) d := by
  have h0 : ¬ t.val % 2 = 0 := by omega
  have hp := trip_pos t h
  rw [outsAt0_B m c t h0]
  generalize outsAt0 m c (t.val - 1) _ = prev
  dsimp only; frame_out
  simp only [trips1' t, trips2' t, h, st_k0_t1_zero, st_k0_t2_zero, List.nil_append, st_k0_t2, st_k0_t1]
  unfold st_k0_t1Step
  simp only [dif_pos hp, List.append_nil, List.nil_append]
  unfold trip_k0_t1
  dsimp only
  refine (read_not_mem (Val := Elt Ideal) _ _ (t.val % 2 * 1024) 128 (up (blk t) j) y (off9 t) (.inr (.inl (lt_of_eq_of_lt (hy.trans (Nat.zero_add _)) d.isLt)))).trans ?_
  refine (read_mem (Val := Elt Ideal) _ _ (t.val % 2 * 1024) 0 (up (blk t) j) y j d (off8 t) rfl hy).trans ?_
  rw [dk_diag0 rfl rfl, tile_ld (Val := Elt Ideal) _ (t.val % 2 * 1024) 0 _ (up (blk t) j) y j d (off8 t) rfl hy]
  rw [read_not_mem (Val := Elt Ideal) _ _ (0 * 1024) 128 (up (blk t) j) y (off3 t ⟨0, hp⟩) (.inl (.inr (by rw [up_blk, show (blk t).val = t.val % 2 from rfl, h]; omega)))]
  rw [read_not_mem (Val := Elt Ideal) _ _ (0 * 1024) 0 (up (blk t) j) y (off2 t ⟨0, hp⟩) (.inl (.inr (by rw [up_blk, show (blk t).val = t.val % 2 from rfl, h]; omega)))]
  simp only [View.readAt_eq_ld, Memref.IsWhole.read_unread, View.writes_nil]
  unfold DK dks gr
  simp only [up_le, krow m c t true (blk t) (o := k0_off8 (grid0.coords t)) _ (off8 t), qrow m c t true (o := ![0, 0, 0]) _ rfl, varow m c t (blk t) (o := k0_off7 (grid0.coords t)) _ (off7 t), dorow m c t, orow m c t, lserow m c t true (o := ![0, 0, 0, 0]) _ rfl]

theorem b7_lo0 (h : t.val % 2 = 1) (j : Fin 1024) (d : Fin 128) (y : Fin 256) (hy : y.val = 0 + d.val) :
    (outsAt0 m c t.val t.isLt).2.1 (ix3 0 (up 0 j) y) = (outsAt0 m c (t.val - 1) (Nat.lt_of_le_of_lt (Nat.sub_le _ _) t.isLt)).2.1 (ix3 0 (up 0 j) y) + DK m c t true (blk t) (up 0 j) d := by
  have h0 : ¬ t.val % 2 = 0 := by omega
  have hp := trip_pos t h
  rw [outsAt0_B m c t h0]
  generalize outsAt0 m c (t.val - 1) _ = prev
  dsimp only; frame_out
  simp only [trips1' t, trips2' t, h, st_k0_t1_zero, st_k0_t2_zero, List.nil_append, st_k0_t2, st_k0_t1]
  unfold st_k0_t1Step
  simp only [dif_pos hp, List.append_nil, List.nil_append]
  unfold trip_k0_t1
  dsimp only
  refine (read_not_mem (Val := Elt Ideal) _ _ (t.val % 2 * 1024) 128 (up 0 j) y (off9 t) (.inl (.inl (by rw [up_blk, h]; have := j.isLt; show 0 * 1024 + j.val < 1 * 1024; omega)))).trans ?_
  refine (read_not_mem (Val := Elt Ideal) _ _ (t.val % 2 * 1024) 0 (up 0 j) y (off8 t) (.inl (.inl (by rw [up_blk, h]; have := j.isLt; show 0 * 1024 + j.val < 1 * 1024; omega)))).trans ?_
  refine (read_not_mem (Val := Elt Ideal) _ _ (0 * 1024) 128 (up 0 j) y (off3 t ⟨0, hp⟩) (.inr (.inl (lt_of_eq_of_lt (hy.trans (Nat.zero_add _)) d.isLt)))).trans ?_
  refine (read_mem (Val := Elt Ideal) _ _ (0 * 1024) 0 (up 0 j) y j d (off2 t ⟨0, hp⟩) rfl hy).trans ?_
  simp only [word176, word177, word179, word182, word188, word194, word210, View.readAt_eq_ld, Memref.IsWhole.read_unread, View.writes_nil]
  rw [dk_step0, tile_ld (Val := Elt Ideal) _ (0 * 1024) 0 _ (up 0 j) y j d (off2 t ⟨0, hp⟩) rfl hy]
  unfold DK dks gr
  simp only [up_le_step t h, krow m c t true 0 (o := k0_off2 (grid0.coords t) ⟨0, hp⟩) _ (off2 t ⟨0, hp⟩), qrow m c t true (o := ![0, 0, 0]) _ rfl, varow m c t 0 (o := k0_off1 (grid0.coords t) ⟨0, hp⟩) _ (off1 t ⟨0, hp⟩), dorow m c t, orow m c t, lserow m c t true (o := ![0, 0, 0, 0]) _ rfl]

theorem a6_hi (h : t.val % 2 = 0) (r : Fin 1024) (d : Fin 128) (y : Fin 256) (hy : y.val = 128 + d.val) :
    (outsAt0 m c t.val t.isLt).1 (ix3 0 r y) = DQ m c t false (blk t) (up (blk t) r) d := by
  rw [outsAt0_A m c t h]; dsimp only; frame_out
  simp only [trips1' t, trips2' t, h, st_k0_t1_zero, st_k0_t2_zero, List.nil_append, st_k0_t2, st_k0_t1]
  refine (canon_mem (Val := Elt Ideal) 0 128 r y r d rfl (Nat.zero_add _).symm hy).trans ?_
  rw [dq_diag1 rfl rfl, zero_dq, zero_add]
  unfold DQ dqs gr
  simp only [up_le, krow m c t false (blk t) (o := k0_off9 (grid0.coords t)) _ (off9 t), qrow m c t false (o := ![0, 0, 128]) _ rfl, varow m c t (blk t) (o := k0_off7 (grid0.coords t)) _ (off7 t), dorow m c t, orow m c t, lserow m c t false (o := ![0, 0, 1, 0]) _ rfl]

theorem b6_hi (h : t.val % 2 = 1) (r : Fin 1024) (d : Fin 128) (y : Fin 256) (hy : y.val = 128 + d.val) :
    (outsAt0 m c t.val t.isLt).1 (ix3 0 r y) = DQ m c t false 0 (up (blk t) r) d + DQ m c t false (blk t) (up (blk t) r) d := by
  have h0 : ¬ t.val % 2 = 0 := by omega
  have hp := trip_pos t h
  rw [outsAt0_B m c t h0]
  generalize outsAt0 m c (t.val - 1) _ = prev
  dsimp only; frame_out
  simp only [trips1' t, trips2' t, h, st_k0_t1_zero, st_k0_t2_zero, List.nil_append, st_k0_t2, st_k0_t1]
  unfold st_k0_t1Step
  simp only [dif_pos hp, List.append_nil, List.nil_append]
  refine (canon_mem (Val := Elt Ideal) 0 128 r y r d rfl (Nat.zero_add _).symm hy).trans ?_
  rw [dq_diag1 rfl rfl]
  unfold tripR_k0_t1 trip_k0_t1
  dsimp only
  simp only [word176, word177, word179, word182, word188, word194, word210, View.readAt_eq_ld, Memref.IsWhole.read_unread, View.writes_nil]
  rw [dq_step1, zero_dq, zero_add]
  unfold DQ dqs gr
  simp only [up_le, up_le_step t h, krow m c t false (blk t) (o := k0_off9 (grid0.coords t)) _ (off9 t), qrow m c t false (o := ![0, 0, 128]) _ rfl, varow m c t (blk t) (o := k0_off7 (grid0.coords t)) _ (off7 t), dorow m c t, orow m c t, lserow m c t false (o := ![0, 0, 1, 0]) _ rfl, krow m c t false 0 (o := k0_off3 (grid0.coords t) ⟨0, hp⟩) _ (off3 t ⟨0, hp⟩), qrow m c t false (o := ![0, 0, 128]) _ rfl, varow m c t 0 (o := k0_off1 (grid0.coords t) ⟨0, hp⟩) _ (off1 t ⟨0, hp⟩), dorow m c t, orow m c t, lserow m c t false (o := ![0, 0, 1, 0]) _ rfl]

theorem a7_hi (h : t.val % 2 = 0) (j : Fin 1024) (d : Fin 128) (y : Fin 256) (hy : y.val = 128 + d.val) :
    (outsAt0 m c t.val t.isLt).2.1 (ix3 0 (up (blk t) j) y) = DK m c t false (blk t) (up (blk t) j) d := by
  rw [outsAt0_A m c t h]; dsimp only; frame_out
  simp only [trips1' t, trips2' t, h, st_k0_t1_zero, st_k0_t2_zero, List.nil_append, st_k0_t2, st_k0_t1]
  refine (canon_mem (Val := Elt Ideal) (t.val % 2 * 1024) 128 (up (blk t) j) y j d (off9 t) rfl hy).trans ?_
  rw [dk_diag1 rfl rfl, tile_ld (Val := Elt Ideal) _ (t.val % 2 * 1024) 128 _ (up (blk t) j) y j d (off9 t) rfl hy]
  rw [canon_not_mem (Val := Elt Ideal) (t.val % 2 * 1024) 0 (up (blk t) j) y (off8 t) (.inr (.inr (by omega)))]
  rw [canon_whole (Val := Elt Ideal) (up (blk t) j) y rfl, zero_dk, zero_add]
  unfold DK dks gr
  simp only [up_le, krow m c t false (blk t) (o := k0_off9 (grid0.coords t)) _ (off9 t), qrow m c t false (o := ![0, 0, 128]) _ rfl, varow m c t (blk t) (o := k0_off7 (grid0.coords t)) _ (off7 t), dorow m c t, orow m c t, lserow m c t false (o := ![0, 0, 1, 0]) _ rfl]

theorem b7_hi (h : t.val % 2 = 1) (j : Fin 1024) (d : Fin 128) (y : Fin 256) (hy : y.val = 128 + d.val) :
    (outsAt0 m c t.val t.isLt).2.1 (ix3 0 (up (blk t) j) y) = (outsAt0 m c (t.val - 1) (Nat.lt_of_le_of_lt (Nat.sub_le _ _) t.isLt)).2.1 (ix3 0 (up (blk t) j) y) + DK m c t false (blk t) (up (blk t) j) d := by
  have h0 : ¬ t.val % 2 = 0 := by omega
  have hp := trip_pos t h
  rw [outsAt0_B m c t h0]
  generalize outsAt0 m c (t.val - 1) _ = prev
  dsimp only; frame_out
  simp only [trips1' t, trips2' t, h, st_k0_t1_zero, st_k0_t2_zero, List.nil_append, st_k0_t2, st_k0_t1]
  unfold st_k0_t1Step
  simp only [dif_pos hp, List.append_nil, List.nil_append]
  unfold trip_k0_t1
  dsimp only
  refine (read_mem (Val := Elt Ideal) _ _ (t.val % 2 * 1024) 128 (up (blk t) j) y j d (off9 t) rfl hy).trans ?_
  rw [dk_diag1 rfl rfl, tile_ld (Val := Elt Ideal) _ (t.val % 2 * 1024) 128 _ (up (blk t) j) y j d (off9 t) rfl hy]
  rw [read_not_mem (Val := Elt Ideal) _ _ (t.val % 2 * 1024) 0 (up (blk t) j) y (off8 t) (.inr (.inr (by omega)))]
  rw [read_not_mem (Val := Elt Ideal) _ _ (0 * 1024) 128 (up (blk t) j) y (off3 t ⟨0, hp⟩) (.inl (.inr (by rw [up_blk, show (blk t).val = t.val % 2 from rfl, h]; omega)))]
  rw [read_not_mem (Val := Elt Ideal) _ _ (0 * 1024) 0 (up (blk t) j) y (off2 t ⟨0, hp⟩) (.inl (.inr (by rw [up_blk, show (blk t).val = t.val % 2 from rfl, h]; omega)))]
  simp only [View.readAt_eq_ld, Memref.IsWhole.read_unread, View.writes_nil]
  unfold DK dks gr
  simp only [up_le, krow m c t false (blk t) (o := k0_off9 (grid0.coords t)) _ (off9 t), qrow m c t false (o := ![0, 0, 128]) _ rfl, varow m c t (blk t) (o := k0_off7 (grid0.coords t)) _ (off7 t), dorow m c t, orow m c t, lserow m c t false (o := ![0, 0, 1, 0]) _ rfl]

theorem b7_hi0 (h : t.val % 2 = 1) (j : Fin 1024) (d : Fin 128) (y : Fin 256) (hy : y.val = 128 + d.val) :
    (outsAt0 m c t.val t.isLt).2.1 (ix3 0 (up 0 j) y) = (outsAt0 m c (t.val - 1) (Nat.lt_of_le_of_lt (Nat.sub_le _ _) t.isLt)).2.1 (ix3 0 (up 0 j) y) + DK m c t false (blk t) (up 0 j) d := by
  have h0 : ¬ t.val % 2 = 0 := by omega
  have hp := trip_pos t h
  rw [outsAt0_B m c t h0]
  generalize outsAt0 m c (t.val - 1) _ = prev
  dsimp only; frame_out
  simp only [trips1' t, trips2' t, h, st_k0_t1_zero, st_k0_t2_zero, List.nil_append, st_k0_t2, st_k0_t1]
  unfold st_k0_t1Step
  simp only [dif_pos hp, List.append_nil, List.nil_append]
  unfold trip_k0_t1
  dsimp only
  refine (read_not_mem (Val := Elt Ideal) _ _ (t.val % 2 * 1024) 128 (up 0 j) y (off9 t) (.inl (.inl (by rw [up_blk, h]; have := j.isLt; show 0 * 1024 + j.val < 1 * 1024; omega)))).trans ?_
  refine (read_not_mem (Val := Elt Ideal) _ _ (t.val % 2 * 1024) 0 (up 0 j) y (off8 t) (.inl (.inl (by rw [up_blk, h]; have := j.isLt; show 0 * 1024 + j.val < 1 * 1024; omega)))).trans ?_
  refine (read_mem (Val := Elt Ideal) _ _ (0 * 1024) 128 (up 0 j) y j d (off3 t ⟨0, hp⟩) rfl hy).trans ?_
  simp only [word176, word177, word179, word182, word188, word194, word210, View.readAt_eq_ld, Memref.IsWhole.read_unread, View.writes_nil]
  rw [dk_step1, tile_ld (Val := Elt Ideal) _ (0 * 1024) 128 _ (up 0 j) y j d (off3 t ⟨0, hp⟩) rfl hy]
  unfold DK dks gr
  simp only [up_le_step t h, krow m c t false 0 (o := k0_off3 (grid0.coords t) ⟨0, hp⟩) _ (off3 t ⟨0, hp⟩), qrow m c t false (o := ![0, 0, 128]) _ rfl, varow m c t 0 (o := k0_off1 (grid0.coords t) ⟨0, hp⟩) _ (off1 t ⟨0, hp⟩), dorow m c t, orow m c t, lserow m c t false (o := ![0, 0, 1, 0]) _ rfl]

theorem a7_zero (h : t.val % 2 = 0) (j : Fin 1024) (y : Fin 256) :
    (outsAt0 m c t.val t.isLt).2.1 (ix3 0 (up 1 j) y) = 0 := by
  rw [outsAt0_A m c t h]; dsimp only; frame_out
  simp only [trips1' t, trips2' t, h, st_k0_t1_zero, st_k0_t2_zero, List.nil_append, st_k0_t2, st_k0_t1]
  rw [canon_not_mem (Val := Elt Ideal) (t.val % 2 * 1024) 128 (up 1 j) y (off9 t) (.inl (.inr (by rw [up_blk, h]; show 0 * 1024 + 1024 ≤ 1 * 1024 + j.val; omega)))]
  rw [canon_not_mem (Val := Elt Ideal) (t.val % 2 * 1024) 0 (up 1 j) y (off8 t) (.inl (.inr (by rw [up_blk, h]; show 0 * 1024 + 1024 ≤ 1 * 1024 + j.val; omega)))]
  rw [canon_whole (Val := Elt Ideal) (up 1 j) y rfl, zero_dk]

theorem a8_zero (h : t.val % 2 = 0) (j : Fin 1024) (y : Fin 128) :
    (outsAt0 m c t.val t.isLt).2.2 (ix3 0 (up 1 j) y) = 0 := by
  rw [outsAt0_A m c t h]; dsimp only; frame_out
  simp only [trips1' t, trips2' t, h, st_k0_t1_zero, st_k0_t2_zero, List.nil_append, st_k0_t2, st_k0_t1]
  rw [canon_not_mem (Val := Elt Ideal) (t.val % 2 * 1024) 0 (up 1 j) y (off7 t) (.inl (.inr (by rw [up_blk, h]; show 0 * 1024 + 1024 ≤ 1 * 1024 + j.val; omega)))]
  rw [canon_whole (Val := Elt Ideal) (up 1 j) y rfl, zero_dv]

theorem dv_lanes (a : Fin 2) (j : Fin 2048) (e : Fin 128) : DV m c t (decide (e.val < 64)) a j e = if e.val < 64 then DV m c t true a j e else DV m c t false a j e := by
  by_cases h : e.val < 64 <;> simp only [h, decide_true, decide_false, if_true, if_false, Bool.false_eq_true]

theorem a8 (h : t.val % 2 = 0) (j : Fin 1024) (e : Fin 128) :
    (outsAt0 m c t.val t.isLt).2.2 (ix3 0 (up (blk t) j) e) = DV m c t (decide (e.val < 64)) (blk t) (up (blk t) j) e := by
  rw [outsAt0_A m c t h]; dsimp only; frame_out
  simp only [trips1' t, trips2' t, h, st_k0_t1_zero, st_k0_t2_zero, List.nil_append, st_k0_t2, st_k0_t1]
  refine (canon_mem (Val := Elt Ideal) (t.val % 2 * 1024) 0 (up (blk t) j) e j e (off7 t) rfl (Nat.zero_add _).symm).trans ?_
  rw [dv_diag rfl rfl, tile_ld (Val := Elt Ideal) _ (t.val % 2 * 1024) 0 _ (up (blk t) j) e j e (off7 t) rfl (Nat.zero_add _).symm]
  rw [canon_whole (Val := Elt Ideal) (up (blk t) j) e rfl, zero_dv, zero_add, dv_lanes]
  unfold DV dvs wt
  simp only [up_le, krow m c t true (blk t) (o := k0_off8 (grid0.coords t)) _ (off8 t), qrow m c t true (o := ![0, 0, 0]) _ rfl, varow m c t (blk t) (o := k0_off7 (grid0.coords t)) _ (off7 t), dorow m c t, orow m c t, lserow m c t true (o := ![0, 0, 0, 0]) _ rfl, krow m c t false (blk t) (o := k0_off9 (grid0.coords t)) _ (off9 t), qrow m c t false (o := ![0, 0, 128]) _ rfl, varow m c t (blk t) (o := k0_off7 (grid0.coords t)) _ (off7 t), dorow m c t, orow m c t, lserow m c t false (o := ![0, 0, 1, 0]) _ rfl]

theorem b8 (h : t.val % 2 = 1) (j : Fin 1024) (e : Fin 128) :
    (outsAt0 m c t.val t.isLt).2.2 (ix3 0 (up (blk t) j) e) = (outsAt0 m c (t.val - 1) (Nat.lt_of_le_of_lt (Nat.sub_le _ _) t.isLt)).2.2 (ix3 0 (up (blk t) j) e) + DV m c t (decide (e.val < 64)) (blk t) (up (blk t) j) e := by
  have h0 : ¬ t.val % 2 = 0 := by omega
  have hp := trip_pos t h
  rw [outsAt0_B m c t h0]
  generalize outsAt0 m c (t.val - 1) _ = prev
  dsimp only; frame_out
  simp only [trips1' t, trips2' t, h, st_k0_t1_zero, st_k0_t2_zero, List.nil_append, st_k0_t2, st_k0_t1]
  unfold st_k0_t1Step
  simp only [dif_pos hp, List.append_nil, List.nil_append]
  unfold trip_k0_t1
  dsimp only
  refine (read_mem (Val := Elt Ideal) _ _ (t.val % 2 * 1024) 0 (up (blk t) j) e j e (off7 t) rfl (Nat.zero_add _).symm).trans ?_
  rw [dv_diag rfl rfl, tile_ld (Val := Elt Ideal) _ (t.val % 2 * 1024) 0 _ (up (blk t) j) e j e (off7 t) rfl (Nat.zero_add _).symm]
  rw [read_not_mem (Val := Elt Ideal) _ _ (0 * 1024) 0 (up (blk t) j) e (off1 t ⟨0, hp⟩) (.inl (.inr (by rw [up_blk, show (blk t).val = t.val % 2 from rfl, h]; omega)))]
  simp only [View.readAt_eq_ld, Memref.IsWhole.read_unread, View.writes_nil]
  rw [dv_lanes]
  unfold DV dvs wt
  simp only [up_le, krow m c t true (blk t) (o := k0_off8 (grid0.coords t)) _ (off8 t), qrow m c t true (o := ![0, 0, 0]) _ rfl, varow m c t (blk t) (o := k0_off7 (grid0.coords t)) _ (off7 t), dorow m c t, orow m c t, lserow m c t true (o := ![0, 0, 0, 0]) _ rfl, krow m c t false (blk t) (o := k0_off9 (grid0.coords t)) _ (off9 t), qrow m c t false (o := ![0, 0, 128]) _ rfl, varow m c t (blk t) (o := k0_off7 (grid0.coords t)) _ (off7 t), dorow m c t, orow m c t, lserow m c t false (o := ![0, 0, 1, 0]) _ rfl]

theorem b8_0 (h : t.val % 2 = 1) (j : Fin 1024) (e : Fin 128) :
    (outsAt0 m c t.val t.isLt).2.2 (ix3 0 (up 0 j) e) = (outsAt0 m c (t.val - 1) (Nat.lt_of_le_of_lt (Nat.sub_le _ _) t.isLt)).2.2 (ix3 0 (up 0 j) e) + DV m c t (decide (e.val < 64)) (blk t) (up 0 j) e := by
  have h0 : ¬ t.val % 2 = 0 := by omega
  have hp := trip_pos t h
  rw [outsAt0_B m c t h0]
  generalize outsAt0 m c (t.val - 1) _ = prev
  dsimp only; frame_out
  simp only [trips1' t, trips2' t, h, st_k0_t1_zero, st_k0_t2_zero, List.nil_append, st_k0_t2, st_k0_t1]
  unfold st_k0_t1Step
  simp only [dif_pos hp, List.append_nil, List.nil_append]
  unfold trip_k0_t1
  dsimp only
  refine (read_not_mem (Val := Elt Ideal) _ _ (t.val % 2 * 1024) 0 (up 0 j) e (off7 t) (.inl (.inl (by rw [up_blk, h]; have := j.isLt; show 0 * 1024 + j.val < 1 * 1024; omega)))).trans ?_
  refine (read_mem (Val := Elt Ideal) _ _ (0 * 1024) 0 (up 0 j) e j e (off1 t ⟨0, hp⟩) rfl (Nat.zero_add _).symm).trans ?_
  simp only [word176, word177, word179, word182, word188, word194, word210, View.readAt_eq_ld, Memref.IsWhole.read_unread, View.writes_nil]
  rw [dv_step, tile_ld (Val := Elt Ideal) _ (0 * 1024) 0 _ (up 0 j) e j e (off1 t ⟨0, hp⟩) rfl (Nat.zero_add _).symm]
  rw [dv_lanes]
  unfold DV dvs wt
  simp only [up_le_step t h, krow m c t true 0 (o := k0_off2 (grid0.coords t) ⟨0, hp⟩) _ (off2 t ⟨0, hp⟩), qrow m c t true (o := ![0, 0, 0]) _ rfl, varow m c t 0 (o := k0_off1 (grid0.coords t) ⟨0, hp⟩) _ (off1 t ⟨0, hp⟩), dorow m c t, orow m c t, lserow m c t true (o := ![0, 0, 0, 0]) _ rfl, krow m c t false 0 (o := k0_off3 (grid0.coords t) ⟨0, hp⟩) _ (off3 t ⟨0, hp⟩), qrow m c t false (o := ![0, 0, 128]) _ rfl, varow m c t 0 (o := k0_off1 (grid0.coords t) ⟨0, hp⟩) _ (off1 t ⟨0, hp⟩), dorow m c t, orow m c t, lserow m c t false (o := ![0, 0, 1, 0]) _ rfl]

end Cert.Proof.MlaBlock
-- ==== Proof.MlaValue.lean ====
/- The gradient of causal attention: what the kernel's grid leaves in its three results. A query's gradient is summed over the
   blocks of keys up to its own; a key's and a value's over the blocks of queries from their own on. -/
module

public import proofs.«01_k».proof.Proof.Gen.MlaIdeal.Value
public import proofs.«01_k».proof.Proof.Gen.MlaRefIdeal.Run
public import proofs.«01_k».proof.Proof.MlaBlock
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.MlaValue

open Cert.Proof.MlaTile Cert.Proof.MlaGrid Cert.Proof.Tiles Cert.Proof.MlaRows Cert.Proof.MlaBlock Cert.MlaIdeal Cert.MlaIdeal.Gen Idealize.ShloMosaic Idealize.ShloMosaic.TcCoe Idealize.SL.Sem

variable (m : (ℓ : Loc nD τ sig) → Buf (Elt Ideal) ℓ)

/-! ## The results -/

section Results
variable (Q K : AQ) (V D O : AV) (L : AL)

def dqF (lo : Bool) (b : Fin 2) (p : Fin 3) (i : Fin 2048) (d : Fin 128) : EReal :=
  if i.val < 1024 then dqs Q K V D O L lo b p 0 i d else dqs Q K V D O L lo b p 0 i d + dqs Q K V D O L lo b p 1 i d
def dkF (lo : Bool) (b : Fin 2) (p : Fin 3) (j : Fin 2048) (d : Fin 128) : EReal :=
  if j.val < 1024 then dks Q K V D O L lo b p 0 j d + dks Q K V D O L lo b p 1 j d else dks Q K V D O L lo b p 1 j d
def dvF (lo : Bool) (b : Fin 2) (p : Fin 3) (j : Fin 2048) (e : Fin 128) : EReal :=
  if j.val < 1024 then dvs Q K D L lo b p 0 j e + dvs Q K D L lo b p 1 j e else dvs Q K D L lo b p 1 j e

theorem hp_lt (k : Fin 768) : k.val / 256 < 3 := by omega
theorem hd_lt (n : ℕ) : n % 128 < 128 := Nat.mod_lt _ (by decide)
theorem vp_lt (k : Fin 384) : k.val / 128 < 3 := by omega

/-- The pair, the head and the lane of a column of the queries and keys; the pair and lane of a column of the values. -/
def hp (k : Fin 768) : Fin 3 := ⟨k.val / 256, hp_lt k⟩
def hl (k : Fin 768) : Bool := decide (k.val % 256 < 128)
def hd (k : Fin 768) : Fin 128 := ⟨k.val % 128, hd_lt k.val⟩
def vp (k : Fin 384) : Fin 3 := ⟨k.val / 128, vp_lt k⟩
def ve (k : Fin 384) : Fin 128 := ⟨k.val % 128, hd_lt k.val⟩

def dqA : AQ := fun y => dqF Q K V D O L (hl (y 2)) (y 0) (hp (y 2)) (y 1) (hd (y 2))
def dkA : AQ := fun y => dkF Q K V D O L (hl (y 2)) (y 0) (hp (y 2)) (y 1) (hd (y 2))
def dvA (Q K : AQ) (D : AV) (L : AL) : AV := fun y => dvF Q K D L (decide ((ve (y 2)).val < 64)) (y 0) (vp (y 2)) (y 1) (ve (y 2))
end Results

theorem hcols (lo : Bool) (p : Fin 3) (d : Fin 128) (k : Fin 768) (h : k.val = p.val * 256 + (off lo + d.val)) : hl k = lo ∧ hp k = p ∧ hd k = d := by
  cases lo
  · have h' : k.val = p.val * 256 + (128 + d.val) := h
    have e : ¬ k.val % 256 < 128 := by omega
    exact ⟨decide_eq_false e, Fin.ext (show k.val / 256 = p.val by omega), Fin.ext (show k.val % 128 = d.val by omega)⟩
  · have h' : k.val = p.val * 256 + (0 + d.val) := h
    have e : k.val % 256 < 128 := by omega
    exact ⟨decide_eq_true e, Fin.ext (show k.val / 256 = p.val by omega), Fin.ext (show k.val % 128 = d.val by omega)⟩
theorem vcols (p : Fin 3) (e : Fin 128) (k : Fin 384) (h : k.val = p.val * 128 + e.val) : vp k = p ∧ ve k = e :=
  ⟨Fin.ext (show k.val / 128 = p.val by omega), Fin.ext (show k.val % 128 = e.val by omega)⟩

/-- Every column of a block is a lane of one of its two heads. -/
theorem split_col (y : Fin 256) : ∃ (lo : Bool) (d : Fin 128), y.val = off lo + d.val := by
  by_cases h : y.val < 128
  · exact ⟨true, ⟨y.val, h⟩, (Nat.zero_add _).symm⟩
  · exact ⟨false, ⟨y.val - 128, by omega⟩, by show y.val = 128 + (y.val - 128); omega⟩
/-- Every row is a row of one of the two blocks. -/
theorem split_row (y : Fin 2048) : ∃ (a : Fin 2) (r : Fin 1024), y = up a r := by
  by_cases h : y.val < 1024
  · exact ⟨0, ⟨y.val, h⟩, Fin.ext (by rw [up_blk]; show y.val = 0 * 1024 + y.val; omega)⟩
  · exact ⟨1, ⟨y.val - 1024, by omega⟩, Fin.ext (by rw [up_blk]; show y.val = 1 * 1024 + (y.val - 1024); omega)⟩
theorem two_cases (a : Fin 2) : a = 0 ∨ a = 1 := by fin_cases a <;> simp

variable (c : Dev nD) (t : Fin cfg0.N)

/-! ## The point before -/

theorem before (h : t.val % 2 = 1) : t.val - 1 < cfg0.N := Nat.lt_of_le_of_lt (Nat.sub_le _ _) t.isLt
theorem before_even (h : t.val % 2 = 1) : (⟨t.val - 1, before t h⟩ : Fin cfg0.N).val % 2 = 0 := by show (t.val - 1) % 2 = 0; omega
theorem before_seq (h : t.val % 2 = 1) : seq ⟨t.val - 1, before t h⟩ = seq t := Fin.ext (show (t.val - 1) / 6 = t.val / 6 by omega)
theorem before_pair (h : t.val % 2 = 1) : pair ⟨t.val - 1, before t h⟩ = pair t := Fin.ext (show (t.val - 1) / 2 % 3 = t.val / 2 % 3 by omega)
theorem blk_zero (h : t.val % 2 = 0) : blk t = 0 := Fin.ext h

/-! ## The blocks -/

theorem out6 (r : Fin 1024) (lo : Bool) (d : Fin 128) (y : Fin 256) (hy : y.val = off lo + d.val) :
    (outsAt0 m c t.val t.isLt).1 (ix3 0 r y) = dqF (aQ m c) (aK m c) (aV m c) (aD m c) (aO m c) (aL m c) lo (seq t) (pair t) (up (blk t) r) d := by
  unfold dqF
  rcases Nat.mod_two_eq_zero_or_one t.val with h | h
  · have e : (up (blk t) r).val < 1024 := by rw [up_blk, blk_zero t h]; show 0 * 1024 + r.val < 1024; omega
    rw [if_pos e, blk_zero t h]
    cases lo
    · exact (a6_hi m c t h r d y hy).trans (by rw [blk_zero t h])
    · exact (a6_lo m c t h r d y hy).trans (by rw [blk_zero t h])
  · have e : ¬ (up (blk t) r).val < 1024 := by rw [up_blk, blk_one t h]; show ¬ 1 * 1024 + r.val < 1024; omega
    rw [if_neg e, blk_one t h]
    cases lo
    · exact (b6_hi m c t h r d y hy).trans (by rw [blk_one t h])
    · exact (b6_lo m c t h r d y hy).trans (by rw [blk_one t h])

theorem early7 (h : t.val % 2 = 1) (lo : Bool) (j : Fin 1024) (d : Fin 128) (y : Fin 256) (hy : y.val = off lo + d.val) :
    (outsAt0 m c (t.val - 1) (before t h)).2.1 (ix3 0 (up 0 j) y) = dks (aQ m c) (aK m c) (aV m c) (aD m c) (aO m c) (aL m c) lo (seq t) (pair t) 0 (up 0 j) d := by
  have hb := blk_zero ⟨t.val - 1, before t h⟩ (before_even t h)
  rw [← before_seq t h, ← before_pair t h]
  cases lo
  · have e := a7_hi m c ⟨t.val - 1, before t h⟩ (before_even t h) j d y hy
    rw [hb] at e; exact e
  · have e := a7_lo m c ⟨t.val - 1, before t h⟩ (before_even t h) j d y hy
    rw [hb] at e; exact e

theorem out7 (h : t.val % 2 = 1) (j : Fin 2048) (lo : Bool) (d : Fin 128) (y : Fin 256) (hy : y.val = off lo + d.val) :
    (outsAt0 m c t.val t.isLt).2.1 (ix3 0 j y) = dkF (aQ m c) (aK m c) (aV m c) (aD m c) (aO m c) (aL m c) lo (seq t) (pair t) j d := by
  obtain ⟨a, r, rfl⟩ := split_row j
  unfold dkF
  rcases two_cases a with rfl | rfl
  · have e : (up 0 r).val < 1024 := by rw [up_blk]; show 0 * 1024 + r.val < 1024; omega
    rw [if_pos e, ← early7 m c t h lo r d y hy]
    cases lo
    · exact (b7_hi0 m c t h r d y hy).trans (by rw [blk_one t h])
    · exact (b7_lo0 m c t h r d y hy).trans (by rw [blk_one t h])
  · have e : ¬ (up 1 r).val < 1024 := by rw [up_blk]; show ¬ 1 * 1024 + r.val < 1024; omega
    have z := a7_zero m c ⟨t.val - 1, before t h⟩ (before_even t h) r y
    rw [if_neg e]
    cases lo
    · have g := b7_hi m c t h r d y hy
      rw [blk_one t h] at g; exact g.trans ((congrArg (· + _) z).trans (zero_add _))
    · have g := b7_lo m c t h r d y hy
      rw [blk_one t h] at g; exact g.trans ((congrArg (· + _) z).trans (zero_add _))

theorem early8 (h : t.val % 2 = 1) (j : Fin 1024) (e : Fin 128) :
    (outsAt0 m c (t.val - 1) (before t h)).2.2 (ix3 0 (up 0 j) e) = dvs (aQ m c) (aK m c) (aD m c) (aL m c) (decide (e.val < 64)) (seq t) (pair t) 0 (up 0 j) e := by
  have hb := blk_zero ⟨t.val - 1, before t h⟩ (before_even t h)
  rw [← before_seq t h, ← before_pair t h]
  have g := a8 m c ⟨t.val - 1, before t h⟩ (before_even t h) j e
  rw [hb] at g; exact g

theorem out8 (h : t.val % 2 = 1) (j : Fin 2048) (e : Fin 128) :
    (outsAt0 m c t.val t.isLt).2.2 (ix3 0 j e) = dvF (aQ m c) (aK m c) (aD m c) (aL m c) (decide (e.val < 64)) (seq t) (pair t) j e := by
  obtain ⟨a, r, rfl⟩ := split_row j
  unfold dvF
  rcases two_cases a with rfl | rfl
  · have w : (up 0 r).val < 1024 := by rw [up_blk]; show 0 * 1024 + r.val < 1024; omega
    rw [if_pos w, ← early8 m c t h r e]
    exact (b8_0 m c t h r e).trans (by rw [blk_one t h])
  · have w : ¬ (up 1 r).val < 1024 := by rw [up_blk]; show ¬ 1 * 1024 + r.val < 1024; omega
    have z := a8_zero m c ⟨t.val - 1, before t h⟩ (before_even t h) r e
    rw [if_neg w]
    have g := b8 m c t h r e
    rw [blk_one t h] at g; exact g.trans ((congrArg (· + _) z).trans (zero_add _))

/-! ## The arrays -/

theorem pcol_lt (p : Fin 3) (y : Fin 256) : p.val * 256 + y.val < 768 := by omega

theorem read6 (A : Buf (Elt Ideal) ((c : Thread nD τ).loc (Pipeline.arrRef spec0 6))) (r : Fin 1024) (y : Fin 256) :
    ((cfg0.win 6).blk t).view.read (Elt Ideal) A (ix3 0 r y) = (A : AQ) (ix3 (seq t) (up (blk t) r) ⟨(pair t).val * 256 + y.val, pcol_lt (pair t) y⟩) := by
  unfold up seq pair blk
  blk_point [idx6 t]
theorem read7 (A : Buf (Elt Ideal) ((c : Thread nD τ).loc (Pipeline.arrRef spec0 7))) (j : Fin 2048) (y : Fin 256) :
    ((cfg0.win 7).blk t).view.read (Elt Ideal) A (ix3 0 j y) = (A : AQ) (ix3 (seq t) j ⟨(pair t).val * 256 + y.val, pcol_lt (pair t) y⟩) := by
  unfold seq pair
  blk_point [idx7 t]
theorem read8 (A : Buf (Elt Ideal) ((c : Thread nD τ).loc (Pipeline.arrRef spec0 8))) (j : Fin 2048) (e : Fin 128) :
    ((cfg0.win 8).blk t).view.read (Elt Ideal) A (ix3 0 j e) = (A : AV) (ix3 (seq t) j ⟨(pair t).val * 128 + e.val, vcol_lt (pair t) e⟩) := by
  unfold seq pair
  blk_point [idx8 t]

theorem final6 : (dats m 0 c).arrAt 6 cfg0.N = dqA (aQ m c) (aK m c) (aV m c) (aD m c) (aO m c) (aL m c) := by
  refine (dats m 0 c).arrAt_eq_of_covers 6 _ (by decide +kernel) fun t hf y => ?_
  obtain ⟨r, k, rfl⟩ : ∃ (r : Fin 1024) (k : Fin 256), y = ix3 0 r k := ⟨y 1, y 2, funext fun a => match a with
    | ⟨0, _⟩ => Fin.ext (Nat.lt_one_iff.mp (y 0).isLt)
    | ⟨1, _⟩ => rfl
    | ⟨2, _⟩ => rfl⟩
  rw [after0_6]
  obtain ⟨lo, d, hy⟩ := split_col k
  refine (out6 m c t r lo d k hy).trans ?_
  refine Eq.trans ?_ (read6 c t (dqA (aQ m c) (aK m c) (aV m c) (aD m c) (aO m c) (aL m c)) r k).symm
  obtain ⟨e1, e2, e3⟩ := hcols lo (pair t) d ⟨(pair t).val * 256 + k.val, pcol_lt (pair t) k⟩ (congrArg ((pair t).val * 256 + ·) hy)
  show _ = dqF (aQ m c) (aK m c) (aV m c) (aD m c) (aO m c) (aL m c) (hl ⟨(pair t).val * 256 + k.val, pcol_lt (pair t) k⟩) (seq t) (hp ⟨(pair t).val * 256 + k.val, pcol_lt (pair t) k⟩) (up (blk t) r) (hd ⟨(pair t).val * 256 + k.val, pcol_lt (pair t) k⟩)
  rw [e1, e2, e3]

theorem final7 : (dats m 0 c).arrAt 7 cfg0.N = dkA (aQ m c) (aK m c) (aV m c) (aD m c) (aO m c) (aL m c) := by
  refine (dats m 0 c).arrAt_eq_of_covers 7 _ (by decide +kernel) fun t hf y => ?_
  have h : t.val % 2 = 1 := (flush0_7 t).mp hf
  obtain ⟨r, k, rfl⟩ : ∃ (r : Fin 2048) (k : Fin 256), y = ix3 0 r k := ⟨y 1, y 2, funext fun a => match a with
    | ⟨0, _⟩ => Fin.ext (Nat.lt_one_iff.mp (y 0).isLt)
    | ⟨1, _⟩ => rfl
    | ⟨2, _⟩ => rfl⟩
  rw [after0_7]
  obtain ⟨lo, d, hy⟩ := split_col k
  refine (out7 m c t h r lo d k hy).trans ?_
  refine Eq.trans ?_ (read7 c t (dkA (aQ m c) (aK m c) (aV m c) (aD m c) (aO m c) (aL m c)) r k).symm
  obtain ⟨e1, e2, e3⟩ := hcols lo (pair t) d ⟨(pair t).val * 256 + k.val, pcol_lt (pair t) k⟩ (congrArg ((pair t).val * 256 + ·) hy)
  show _ = dkF (aQ m c) (aK m c) (aV m c) (aD m c) (aO m c) (aL m c) (hl ⟨(pair t).val * 256 + k.val, pcol_lt (pair t) k⟩) (seq t) (hp ⟨(pair t).val * 256 + k.val, pcol_lt (pair t) k⟩) r (hd ⟨(pair t).val * 256 + k.val, pcol_lt (pair t) k⟩)
  rw [e1, e2, e3]

theorem final8 : (dats m 0 c).arrAt 8 cfg0.N = dvA (aQ m c) (aK m c) (aD m c) (aL m c) := by
  refine (dats m 0 c).arrAt_eq_of_covers 8 _ (by decide +kernel) fun t hf y => ?_
  have h : t.val % 2 = 1 := (flush0_8 t).mp hf
  obtain ⟨r, k, rfl⟩ : ∃ (r : Fin 2048) (k : Fin 128), y = ix3 0 r k := ⟨y 1, y 2, funext fun a => match a with
    | ⟨0, _⟩ => Fin.ext (Nat.lt_one_iff.mp (y 0).isLt)
    | ⟨1, _⟩ => rfl
    | ⟨2, _⟩ => rfl⟩
  rw [after0_8]
  refine (out8 m c t h r k).trans ?_
  refine Eq.trans ?_ (read8 c t (dvA (aQ m c) (aK m c) (aD m c) (aL m c)) r k).symm
  obtain ⟨e1, e2⟩ := vcols (pair t) k ⟨(pair t).val * 128 + k.val, vcol_lt (pair t) k⟩ rfl
  show _ = dvF (aQ m c) (aK m c) (aD m c) (aL m c) (decide ((ve ⟨(pair t).val * 128 + k.val, vcol_lt (pair t) k⟩).val < 64)) (seq t) (vp ⟨(pair t).val * 128 + k.val, vcol_lt (pair t) k⟩) r (ve ⟨(pair t).val * 128 + k.val, vcol_lt (pair t) k⟩)
  rw [e1, e2]

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v36_0) = dqA (aQ m c) (aK m c) (aV m c) (aD m c) (aO m c) (aL m c)
      ∧ r.2.mem ((c : Thread nD τ).loc main_v36_1) = dkA (aQ m c) (aK m c) (aV m c) (aD m c) (aO m c) (aL m c)
      ∧ r.2.mem ((c : Thread nD τ).loc main_v36_2) = dvA (aQ m c) (aK m c) (aD m c) (aL m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  simpa only [final6 m, final7 m, final8 m] using Cert.MlaIdeal.Value.run_blocks m ρ

end Cert.Proof.MlaValue
-- ==== Proof.MlaHost.lean ====
/- The gradient of causal attention: what the host computes before the grid (the scores, their row's maximum, the weights before
   and after they are divided, the rows' logarithms, the attention's output, the padded queries and keys), at an index. -/
module

public import proofs.«01_k».proof.Proof.MlaValue
public import proofs.«01_k».proof.Proof.Reals

@[expose] public section

set_option maxRecDepth 16384

noncomputable section

namespace Cert.Proof.MlaHost

open Cert.Proof.MlaRows Cert.MlaIdeal Cert.MlaIdeal.Gen Idealize.ShloMosaic Idealize.ShloMosaic.TcCoe Idealize.SL.Sem

abbrev AH : Type := (⟨4, ![2, 2048, 6, 96]⟩ : Shape).Idx → EReal
abbrev AW : Type := (⟨4, ![2, 2048, 6, 64]⟩ : Shape).Idx → EReal

section Terms
variable (A0 A1 : FVec Ideal S2x2048x6x96 .f32) (A2 : FVec Ideal S2x2048x6x64 .f32)

/-- The masked scores, the maximum of a query's row, the weights, their sum over the row. -/
def hS : FVec Ideal S2x6x2048x2048 .f32 := select (broadcastInDim S2x6x2048x2048 ![2, 3] bcast_S2048x2048_S2x6x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S2x2048x6x96_S2x2048x6x96_S2x6x2048x2048_3_3_1_1_02_02 none A0 A1) (broadcastInDim S2x6x2048x2048 ![] bcast_S_S2x6x2048x2048 (constant S_ .f32 0x3DD105EC#32))) (broadcastInDim S2x6x2048x2048 ![] bcast_S_S2x6x2048x2048 (id (constant S_ .f32 0xFF800000#32)))
def hM : FVec Ideal S2x6x2048 .f32 := Host.reduce FloatOps.maximumf (hS A0 A1) (constant S_ .f32 0xFF800000#32) reducesTo_S2x6x2048x2048_S2x6x2048_d3 h_S_
def hE : FVec Ideal S2x6x2048x2048 .f32 := Host.exp (subf (hS A0 A1) (broadcastInDim S2x6x2048x2048 ![0, 1, 2, 3] bcast_S2x6x2048x1_S2x6x2048x2048_0_1_2_3 (broadcastInDim S2x6x2048x1 ![0, 1, 2] bcast_S2x6x2048_S2x6x2048x1_0_1_2 (hM A0 A1))))
def hL : FVec Ideal S2x6x2048x1 .f32 := broadcastInDim S2x6x2048x1 ![0, 1, 2] bcast_S2x6x2048_S2x6x2048x1_0_1_2 (Host.reduceAdd (hE A0 A1) (constant S_ .f32 0x00000000#32) reducesTo_S2x6x2048x2048_S2x6x2048_d3 h_S_)
/-- The row's logarithm of the sum of exponentials, a pair of heads in eight rows. -/
def hlse0 : FVec Ideal S2x6x2048 .f32 := shapeCast _ (addf (broadcastInDim S2x6x2048x1 ![0, 1, 2] bcast_S2x6x2048_S2x6x2048x1_0_1_2 (hM A0 A1)) (Host.log (hL A0 A1))) shapeCasts_S2x6x2048x1_S2x6x2048
def hlse1 : FVec Ideal S2x3x2x2048 .f32 := shapeCast _ (hlse0 A0 A1) shapeCasts_S2x6x2048_S2x3x2x2048
def hlse : FVec Ideal S2x3x8x2048 .f32 :=
  pad S2x3x8x2048 ![0, 0, 0, 0] ![0, 0, 6, 0] ![0, 0, 0, 0] (hlse1 A0 A1) (sitofp .f32 (constantI S_ 32 0#32)) pads_S2x3x2x2048_S2x3x8x2048_000_000_060_000 h_S_
/-- The attention's output. -/
def hO : FVec Ideal S2x2048x384 .f32 :=
  shapeCast _ (transpose S2x2048x6x64 [0, 3, 1, 2] (Host.dotGeneral dot_S2x2048x6x64_S2x6x2048x2048_S2x6x64x2048_1_3_3_2_02_01 none A2 (Host.divf (hE A0 A1) (broadcastInDim S2x6x2048x2048 ![0, 1, 2, 3] bcast_S2x6x2048x1_S2x6x2048x2048_0_1_2_3 (hL A0 A1)))) transposes_S2x6x64x2048_S2x2048x6x64_0_3_1_2) shapeCasts_S2x2048x6x64_S2x2048x384
/-- The queries (or the keys), each head padded to 128 lanes. -/
def hQ : FVec Ideal S2x2048x768 .f32 :=
  shapeCast _ (pad S2x2048x6x128 ![0, 0, 0, 0] ![0, 0, 0, 32] ![0, 0, 0, 0] A0 (sitofp .f32 (constantI S_ 32 0#32)) pads_S2x2048x6x96_S2x2048x6x128_000_000_000_0320 h_S_) shapeCasts_S2x2048x6x128_S2x2048x768
def hV : FVec Ideal S2x2048x384 .f32 := shapeCast _ A2 shapeCasts_S2x2048x6x64_S2x2048x384
end Terms

section Host
variable (m : (ℓ : Loc nD τ sig) → Buf (Elt Ideal) ℓ) (c : Dev nD)

theorem V_q : V m c main_v30 = hQ (m ((c : Thread nD τ).loc main_arg0)) := by
  unfold V
  simp only [List.flatten_cons, List.flatten_nil, List.cons_append, List.nil_append]
  after_results
  simp only [StableHlo.TRef.toBuf, StableHlo.TRef.ofBuf, eq_self, cast_eq, eqRec_eq_cast]
  rfl
theorem V_k : V m c main_v33 = hQ (m ((c : Thread nD τ).loc main_arg1)) := by
  unfold V
  simp only [List.flatten_cons, List.flatten_nil, List.cons_append, List.nil_append]
  after_results
  simp only [StableHlo.TRef.toBuf, StableHlo.TRef.ofBuf, eq_self, cast_eq, eqRec_eq_cast]
  rfl
theorem V_v : V m c main_v35 = hV (m ((c : Thread nD τ).loc main_arg2)) := by
  unfold V
  simp only [List.flatten_cons, List.flatten_nil, List.cons_append, List.nil_append]
  after_results
  rfl
theorem V_o : V m c main_v26 = hO (m ((c : Thread nD τ).loc main_arg0)) (m ((c : Thread nD τ).loc main_arg1)) (m ((c : Thread nD τ).loc main_arg2)) := by
  unfold V
  simp only [List.flatten_cons, List.flatten_nil, List.cons_append, List.nil_append]
  after_results
  rfl
theorem V_l1 : StableHlo.after ([hostOps0, hostOps0_1, hostOps0_2] : List (List (HloOp τ sig (Elt Ideal)))).flatten (fun b => m (c, b)) (Proc.tc.devRef main_v21) = hlse1 (m ((c : Thread nD τ).loc main_arg0)) (m ((c : Thread nD τ).loc main_arg1)) := by
  simp only [List.flatten_cons, List.flatten_nil, List.cons_append, List.nil_append]
  after_results
  simp only [StableHlo.TRef.toBuf, StableHlo.TRef.ofBuf, eq_self, cast_eq, eqRec_eq_cast]
  rfl

theorem V_lc : StableHlo.after ([hostOps0, hostOps0_1, hostOps0_2] : List (List (HloOp τ sig (Elt Ideal)))).flatten (fun b => m (c, b)) (Proc.tc.devRef main_c) = constantI S_ 32 0#32 := by
  simp only [List.flatten_cons, List.flatten_nil, List.cons_append, List.nil_append]
  after_results

theorem V_l0 (W : Valuation τ sig (Elt Ideal)) (X : FVec Ideal S2x3x2x2048 .f32) (h : W (Proc.tc.devRef main_v21) = X)
    (z : IVec S_ 32) (h' : W (Proc.tc.devRef main_c) = z) :
    StableHlo.after ([hostOps0_3, hostOps0_4, hostOps0_5, hostOps0_6, hostOps0_7, hostOps0_8] : List (List (HloOp τ sig (Elt Ideal)))).flatten W (Proc.tc.devRef main_v27) = pad S2x3x8x2048 ![0, 0, 0, 0] ![0, 0, 6, 0] ![0, 0, 0, 0] (X) (sitofp .f32 (z)) pads_S2x3x2x2048_S2x3x8x2048_000_000_060_000 h_S_ := by
  subst h h'
  simp only [List.flatten_cons, List.flatten_nil, List.cons_append, List.nil_append]
  after_results
  rfl

theorem V_l : V m c main_v27 = hlse (m ((c : Thread nD τ).loc main_arg0)) (m ((c : Thread nD τ).loc main_arg1)) :=
  (congrFun (congrArg (fun l => StableHlo.after l (fun b => m (c, b))) (List.flatten_append (L₁ := ([hostOps0, hostOps0_1, hostOps0_2] : List (List (HloOp τ sig (Elt Ideal)))))
      (L₂ := [hostOps0_3, hostOps0_4, hostOps0_5, hostOps0_6, hostOps0_7, hostOps0_8]))) (Proc.tc.devRef main_v27)).trans
    ((congrFun (StableHlo.after_append _ _ _) _).trans (V_l0 _ _ (V_l1 m c) _ (V_lc m c)))
end Host

/-! ## At an index -/

section At
variable (q k : AH) (v : AW)

/-- A score, masked after the query. -/
def score (b : Fin 2) (h : Fin 6) (i j : Fin 2048) : EReal :=
  if j ≤ i then (∑ d : Fin 96, q (ix4 b i h d) * k (ix4 b j h d)) * Ideal.ofBits .f32 0x3DD105EC#32 else ⊥

theorem key_le (j i : Fin 2048) : IntOp.cmpi .sle (BitVec.ofNat 32 j.val) (BitVec.ofNat 32 i.val) = BitVec.ofBool (decide (j ≤ i)) :=
  WordCmp.cmpi_sle_ofNat (by omega) (by omega)

/-- The word of minus infinity. -/
theorem word_bot : Ideal.ofBits .f32 0xFF800000#32 = ⊥ := by simp [Ideal.ofBits, Ideal.ieee]

theorem S_at (b : Fin 2) (h : Fin 6) (i j : Fin 2048) : hS q k (ix4 b h i j) = score q k b h i j := by
  unfold hS
  pointwise [score]
  simp only [key_le, WordCmp.select_ofBool, decide_eq_true_eq]
  rw [show id (constant (F := Ideal) S_ FTy.f32 4286578688#32) ix0 = ⊥ from word_bot]

theorem M_at (b : Fin 2) (h : Fin 6) (i : Fin 2048) : hM q k (ix3 b h i) = (Finset.univ : Finset (Fin 2048)).fold max ⊥ (score q k b h i) := by
  unfold hM
  generalize hx : hS q k = X
  pointwise []
  subst hx
  simp only [S_at, word_bot]

theorem E_at (b : Fin 2) (h : Fin 6) (i j : Fin 2048) : hE q k (ix4 b h i j) = Ideal.exp (score q k b h i j - hM q k (ix3 b h i)) := by
  unfold hE
  generalize hx : hS q k = X
  generalize hy : hM q k = Y
  pointwise []
  subst hx hy
  simp only [S_at]

theorem L_at (b : Fin 2) (h : Fin 6) (i : Fin 2048) (z : Fin 1) : hL q k (ix4 b h i z) = ∑ j : Fin 2048, hE q k (ix4 b h i j) := by
  unfold hL
  generalize hx : hE q k = X
  pointwise []

theorem lse0_cast (X : FVec Ideal S2x6x2048x1 .f32) (b : Fin 2) (h : Fin 6) (i : Fin 2048) :
    shapeCast S2x6x2048 X shapeCasts_S2x6x2048x1_S2x6x2048 (ix3 b h i) = X (ix4 b h i 0) := by
  pointwise []

theorem log_ap {s : Shape} (X : FVec Ideal s .f32) (i : s.Idx) : Host.log X i = Ideal.log (X i) := rfl

theorem row_at (Y : FVec Ideal S2x6x2048 .f32) (b : Fin 2) (h : Fin 6) (i : Fin 2048) : (broadcastInDim S2x6x2048x1 ![0, 1, 2] bcast_S2x6x2048_S2x6x2048x1_0_1_2 Y) (ix4 b h i 0) = Y (ix3 b h i) := by
  pointwise []

theorem row_log (Y : FVec Ideal S2x6x2048 .f32) (X : FVec Ideal S2x6x2048x1 .f32) (b : Fin 2) (h : Fin 6) (i : Fin 2048) :
    addf (broadcastInDim S2x6x2048x1 ![0, 1, 2] bcast_S2x6x2048_S2x6x2048x1_0_1_2 Y) (Host.log X) (ix4 b h i 0) = Y (ix3 b h i) + Ideal.log (X (ix4 b h i 0)) :=
  (show addf (broadcastInDim S2x6x2048x1 ![0, 1, 2] bcast_S2x6x2048_S2x6x2048x1_0_1_2 Y) (Host.log X) (ix4 b h i 0) = (broadcastInDim S2x6x2048x1 ![0, 1, 2] bcast_S2x6x2048_S2x6x2048x1_0_1_2 Y) (ix4 b h i 0) + Host.log X (ix4 b h i 0) from rfl).trans (by rw [row_at, log_ap])

theorem lse0_at (b : Fin 2) (h : Fin 6) (i : Fin 2048) :
    hlse0 q k (ix3 b h i) = hM q k (ix3 b h i) + Ideal.log (hL q k (ix4 b h i 0)) := by
  unfold hlse0
  rw [lse0_cast, row_log]
theorem lse1_at (b : Fin 2) (p : Fin 3) (z : Fin 2) (i : Fin 2048) (h : Fin 6) (e : h.val = 2 * p.val + z.val) :
    hlse1 q k (ix4 b p z i) = hlse0 q k (ix3 b h i) := by
  have eh : ∀ hh, (⟨p.val * 2 + z.val, hh⟩ : Fin 6) = h := fun _ => Fin.ext (by show p.val * 2 + z.val = h.val; omega)
  unfold hlse1
  generalize hlse0 q k = Y
  pointwise []
  simp only [eh]

theorem lse_at (b : Fin 2) (p : Fin 3) (z : Fin 8) (z' : Fin 2) (hz : z.val = z'.val) (i : Fin 2048) :
    hlse q k (ix4 b p z i) = hlse1 q k (ix4 b p z' i) := by
  have e : ∀ hh, (⟨z.val, hh⟩ : Fin 2) = z' := fun _ => Fin.ext hz
  unfold hlse
  generalize hlse1 q k = Y
  pointwise []
  rw [dif_pos (by omega), e]

theorem O_at (b : Fin 2) (i : Fin 2048) (x : Fin 384) (h : Fin 6) (e : Fin 64) (hx : x.val = h.val * 64 + e.val) :
    hO q k v (ix3 b i x) = ∑ j : Fin 2048, v (ix4 b j h e) * Ideal.div (hE q k (ix4 b h i j)) (hL q k (ix4 b h i 0)) := by
  have eh : ∀ hh, (⟨x.val / 64, hh⟩ : Fin 6) = h := fun _ => Fin.ext (by show x.val / 64 = h.val; omega)
  have el : ∀ hh, (⟨x.val % 64, hh⟩ : Fin 64) = e := fun _ => Fin.ext (by show x.val % 64 = e.val; omega)
  unfold hO
  generalize hE q k = Y
  generalize hL q k = X
  pointwise []
  simp only [eh, el]

theorem Q_at (b : Fin 2) (i : Fin 2048) (x : Fin 768) (h : Fin 6) (d : Fin 128) (hx : x.val = h.val * 128 + d.val) :
    hQ q (ix3 b i x) = if hd : d.val < 96 then q (ix4 b i h ⟨d.val, hd⟩) else 0 := by
  unfold hQ
  pointwise []
  have h0 : (FloatOps.sitofp FTy.f32 0#32 : Ideal .f32) = 0 := by
    show (((0#32 : BitVec 32).toInt : ℝ) : EReal) = 0
    simp
  rw [h0]
  by_cases hd : d.val < 96
  · rw [dif_pos hd, dif_pos ⟨by omega, by omega⟩]
    exact congrArg₂ (fun a c => q (ix4 b i a c)) (Fin.ext (by show x.val / 128 = h.val; omega)) (Fin.ext (by show x.val % 128 = d.val; omega))
  · rw [dif_neg hd, dif_neg (by omega)]

theorem V_at (b : Fin 2) (i : Fin 2048) (x : Fin 384) (h : Fin 6) (e : Fin 64) (hx : x.val = h.val * 64 + e.val) :
    hV v (ix3 b i x) = v (ix4 b i h e) := by
  have eh : ∀ hh, (⟨x.val / 64, hh⟩ : Fin 6) = h := fun _ => Fin.ext (by show x.val / 64 = h.val; omega)
  have el : ∀ hh, (⟨x.val % 64, hh⟩ : Fin 64) = e := fun _ => Fin.ext (by show x.val % 64 = e.val; omega)
  unfold hV
  pointwise []
  simp only [eh, el]
end At
end Cert.Proof.MlaHost
-- ==== Proof.MlaMath.lean ====
/- The gradient of causal attention on reals: the weights, their logarithmic form, the gradient of a score, and the sums of the
   grid's blocks as whole sums. -/
module

public import proofs.«01_k».proof.Proof.MlaHost

@[expose] public section

set_option maxRecDepth 16384

noncomputable section

namespace Cert.Proof.MlaMath

open Cert.Proof.MlaTile Cert.Proof.MlaRows Cert.Proof.MlaBlock Cert.Proof.MlaValue Cert.Proof.MlaHost Cert.Proof.Reals Cert.MlaIdeal Cert.MlaIdeal.Gen Idealize.ShloMosaic Idealize.ShloMosaic.TcCoe Idealize.SL.Sem

/-- The score's scale as a real. -/
def σ' : ℝ := 13698540 / 134217728
theorem word_scale : Ideal.ofBits .f32 0x3DD105EC#32 = (σ' : EReal) := by
  unfold σ'
  simp [Ideal.ofBits, Ideal.ieee, -EReal.coe_mul]; norm_num

/-- The maximum of a family of which no member is infinite and one is real. -/
theorem fold_real {ι : Type*} (s : Finset ι) (f : ι → EReal) (ht : ∀ i ∈ s, f i ≠ ⊤) (hb : ∃ i ∈ s, f i ≠ ⊥) :
    ∃ r : ℝ, s.fold max ⊥ f = (r : EReal) := by
  have h1 : s.fold max ⊥ f ≠ ⊤ := by
    refine ne_of_lt ?_
    rw [Finset.fold_max_lt]
    exact ⟨bot_lt_top, fun i hi => lt_top_iff_ne_top.2 (ht i hi)⟩
  have h2 : s.fold max ⊥ f ≠ ⊥ := by
    obtain ⟨i, hi, h⟩ := hb
    refine ne_of_gt ?_
    rw [Finset.lt_fold_max]
    exact .inr ⟨i, hi, bot_lt_iff_ne_bot.2 h⟩
  exact ⟨_, (EReal.coe_toReal h1 h2).symm⟩

/-- The sum over a head's lanes of the two. -/
def lane (lo : Bool) (e : Fin 64) : Fin 128 := ⟨(if lo then 0 else 64) + e.val, by cases lo <;> simp <;> omega⟩

theorem sum_half (lo : Bool) (f : Fin 128 → ℝ) : ∑ e : Fin 128, (if mine lo e then f e else 0) = ∑ e : Fin 64, f (lane lo e) := by
  have h := Fin.sum_univ_add (a := 64) (b := 64) (fun e : Fin (64 + 64) => if mine lo e then f e else 0)
  refine h.trans ?_
  cases lo
  · rw [Finset.sum_eq_zero, zero_add]
    · refine Finset.sum_congr rfl fun e _ => ?_
      rw [if_pos (by simp [mine])]
      rfl
    · intro e _
      rw [if_neg (by simp [mine])]
  · rw [Finset.sum_eq_zero (s := Finset.univ) (f := fun i : Fin 64 => if mine true (Fin.natAdd 64 i) then f (Fin.natAdd 64 i) else 0), add_zero]
    · refine Finset.sum_congr rfl fun e _ => ?_
      rw [if_pos (by simp [mine])]
      exact congrArg f (Fin.ext (by show e.val = 0 + e.val; omega))
    · intro e _
      rw [if_neg (by simp [mine])]

/-- A sum over a padded head. -/
theorem sum_pad (f : Fin 96 → ℝ) : ∑ d : Fin 128, (if h : d.val < 96 then f ⟨d.val, h⟩ else 0) = ∑ d : Fin 96, f d := by
  refine (Fin.sum_univ_add (a := 96) (b := 32) (fun d : Fin (96 + 32) => if h : d.val < 96 then f ⟨d.val, h⟩ else 0)).trans ?_
  rw [Finset.sum_eq_zero (s := Finset.univ) (f := fun i : Fin 32 => if h : (Fin.natAdd 96 i).val < 96 then f ⟨(Fin.natAdd 96 i).val, h⟩ else 0), add_zero]
  · refine Finset.sum_congr rfl fun d _ => ?_
    rw [dif_pos (show (Fin.castAdd 32 d).val < 96 from d.isLt)]
    rfl
  · intro d _
    rw [dif_neg (by simp)]

/-- A sum over the rows, a block of rows and the next. -/
theorem sum_blocks (f : Fin 2048 → ℝ) : ∑ i, f i = ∑ r : Fin 1024, f (up 0 r) + ∑ r : Fin 1024, f (up 1 r) := by
  refine (Fin.sum_univ_add (a := 1024) (b := 1024) (f : Fin (1024 + 1024) → ℝ)).trans (congrArg₂ (· + ·) ?_ ?_)
  · exact Finset.sum_congr rfl fun r _ => congrArg f (Fin.ext (by show r.val = 0 * 1024 + r.val; omega))
  · exact Finset.sum_congr rfl fun r _ => congrArg f (Fin.ext (by show 1024 + r.val = 1 * 1024 + r.val; omega))

/-! ## The weights -/

abbrev RH := (⟨4, ![2, 2048, 6, 96]⟩ : Shape).Idx → ℝ
abbrev RW := (⟨4, ![2, 2048, 6, 64]⟩ : Shape).Idx → ℝ
abbrev RD := (⟨3, ![2, 2048, 384]⟩ : Shape).Idx → ℝ

/-- A real array as an array of extended reals. -/
abbrev up' {s : Shape} (x : s.Idx → ℝ) : s.Idx → EReal := fun i => (x i : EReal)

section Real
variable (q k : RH) (v : RW) (g : RD)

def s (b : Fin 2) (h : Fin 6) (i j : Fin 2048) : ℝ := (∑ d : Fin 96, q (ix4 b i h d) * k (ix4 b j h d)) * σ'

theorem score_real (b : Fin 2) (h : Fin 6) (i j : Fin 2048) : score (up' q) (up' k) b h i j = if j ≤ i then (s q k b h i j : EReal) else ⊥ := by
  unfold score s up'
  rw [word_scale, EReal.coe_mul, ← sum_coe]
  simp only [EReal.coe_mul]

/-- The maximum of a query's row is real. -/
theorem row_max : ∃ M : Fin 2 → Fin 6 → Fin 2048 → ℝ, ∀ b h i, hM (up' q) (up' k) (ix3 b h i) = (M b h i : EReal) := by
  have h : ∀ b h i, ∃ r : ℝ, hM (up' q) (up' k) (ix3 b h i) = (r : EReal) := fun b h i => by
    rw [M_at]
    refine fold_real _ _ (fun j _ => ?_) ⟨i, Finset.mem_univ _, ?_⟩
    · rw [score_real]
      split
      · exact EReal.coe_ne_top _
      · exact bot_ne_top
    · rw [score_real, if_pos le_rfl]
      exact EReal.coe_ne_bot _
  choose M hM using h
  exact ⟨M, hM⟩

variable (M : Fin 2 → Fin 6 → Fin 2048 → ℝ)

def e (b : Fin 2) (h : Fin 6) (i j : Fin 2048) : ℝ := if j ≤ i then Real.exp (s q k b h i j - M b h i) else 0
def l (b : Fin 2) (h : Fin 6) (i : Fin 2048) : ℝ := ∑ j, e q k M b h i j
def w (b : Fin 2) (h : Fin 6) (i j : Fin 2048) : ℝ := e q k M b h i j / l q k M b h i

theorem head_lt (h : Fin 6) (x : Fin 64) : h.val * 64 + x.val < 384 := by omega
def gh (b : Fin 2) (i : Fin 2048) (h : Fin 6) (x : Fin 64) : ℝ := g (ix3 b i ⟨h.val * 64 + x.val, head_lt h x⟩)

/-- The gradient of a weight; of a query's output times its gradient; of a score. -/
def dw (b : Fin 2) (h : Fin 6) (i j : Fin 2048) : ℝ := ∑ x : Fin 64, v (ix4 b j h x) * gh g b i h x
def dr (b : Fin 2) (h : Fin 6) (i : Fin 2048) : ℝ := ∑ j, w q k M b h i j * dw v g b h i j
def dsR (b : Fin 2) (h : Fin 6) (i j : Fin 2048) : ℝ := w q k M b h i j * (dw v g b h i j - dr q k v g M b h i) * σ'

theorem l_pos (b : Fin 2) (h : Fin 6) (i : Fin 2048) : 0 < l q k M b h i := by
  unfold l
  refine Finset.sum_pos' (fun j _ => ?_) ⟨i, Finset.mem_univ _, ?_⟩
  · unfold e; split
    · exact (Real.exp_pos _).le
    · exact le_rfl
  · unfold e; rw [if_pos le_rfl]; exact Real.exp_pos _

theorem w_masked (b : Fin 2) (h : Fin 6) (i j : Fin 2048) (hj : ¬ j ≤ i) : w q k M b h i j = 0 := by
  unfold w e; rw [if_neg hj, zero_div]

theorem ds_masked (b : Fin 2) (h : Fin 6) (i j : Fin 2048) (hj : ¬ j ≤ i) : dsR q k v g M b h i j = 0 := by
  unfold dsR; rw [w_masked q k M b h i j hj, zero_mul, zero_mul]

/-- The output of a query. -/
def oR (b : Fin 2) (h : Fin 6) (i : Fin 2048) (x : Fin 64) : ℝ := ∑ j, v (ix4 b j h x) * w q k M b h i j

theorem dr_out (b : Fin 2) (h : Fin 6) (i : Fin 2048) : ∑ x : Fin 64, gh g b i h x * oR q k v M b h i x = dr q k v g M b h i := by
  unfold oR dr dw
  simp only [Finset.mul_sum]
  rw [Finset.sum_comm]
  exact Finset.sum_congr rfl fun j _ => Finset.sum_congr rfl fun x _ => by ring

variable {M} (hM : ∀ b h i, hM (up' q) (up' k) (ix3 b h i) = (M b h i : EReal))
include hM

theorem e_real (b : Fin 2) (h : Fin 6) (i j : Fin 2048) : hE (up' q) (up' k) (ix4 b h i j) = (e q k M b h i j : EReal) := by
  rw [E_at, hM, score_real]
  unfold e
  by_cases hj : j ≤ i
  · rw [if_pos hj, if_pos hj, ← EReal.coe_sub, Ideal.exp_coe]
  · rw [if_neg hj, if_neg hj, EReal.bot_sub, Ideal.exp_bot, EReal.coe_zero]

theorem l_real (b : Fin 2) (h : Fin 6) (i : Fin 2048) (z : Fin 1) : hL (up' q) (up' k) (ix4 b h i z) = (l q k M b h i : EReal) := by
  rw [L_at]
  simp only [e_real q k hM]
  rw [sum_coe]; rfl

theorem w_real (b : Fin 2) (h : Fin 6) (i j : Fin 2048) :
    Ideal.div (hE (up' q) (up' k) (ix4 b h i j)) (hL (up' q) (up' k) (ix4 b h i 0)) = (w q k M b h i j : EReal) := by
  rw [e_real q k hM, l_real q k hM, div_real _ (l_pos q k M b h i).ne']; rfl

theorem o_real (b : Fin 2) (i : Fin 2048) (x : Fin 384) (h : Fin 6) (y : Fin 64) (hx : x.val = h.val * 64 + y.val) :
    hO (up' q) (up' k) (up' v) (ix3 b i x) = (oR q k v M b h i y : EReal) := by
  rw [O_at _ _ _ b i x h y hx]
  simp only [w_real q k hM, ← EReal.coe_mul]
  rw [sum_coe]; rfl

theorem lse_real (b : Fin 2) (p : Fin 3) (z : Fin 8) (h : Fin 6) (hz : z.val < 2) (hh : h.val = 2 * p.val + z.val) (i : Fin 2048) :
    hlse (up' q) (up' k) (ix4 b p z i) = ((M b h i + Real.log (l q k M b h i) : ℝ) : EReal) := by
  rw [lse_at _ _ b p z ⟨z.val, hz⟩ rfl, lse1_at _ _ b p ⟨z.val, hz⟩ i h hh, lse0_at, hM, l_real q k hM, Ideal.log_coe,
    if_neg (l_pos q k M b h i).not_ge, EReal.coe_add]

end Real
end Cert.Proof.MlaMath
-- ==== Proof.MlaSums.lean ====
/- The gradient of causal attention: the kernel's rows and weights on reals, and its three results as sums over all keys or queries. -/
module

public import proofs.«01_k».proof.Proof.MlaMath

@[expose] public section

set_option maxRecDepth 16384

noncomputable section

namespace Cert.Proof.MlaSums

open Cert.Proof.MlaTile Cert.Proof.MlaRows Cert.Proof.MlaBlock Cert.Proof.MlaValue Cert.Proof.MlaHost Cert.Proof.MlaMath Cert.Proof.Reals Cert.MlaIdeal Cert.MlaIdeal.Gen Idealize.ShloMosaic Idealize.ShloMosaic.TcCoe Idealize.SL.Sem

/-- A pair's head. -/
def hd' (lo : Bool) (p : Fin 3) : Fin 6 := ⟨2 * p.val + (if lo then 0 else 1), by cases lo <;> simp <;> omega⟩

theorem hd_val (lo : Bool) (p : Fin 3) : (hd' lo p).val = 2 * p.val + (if lo then 0 else 1) := rfl

section Real
variable (q k : RH) (v : RW) (g : RD)

/-- A head's padded row. -/
def pd (q : RH) (b : Fin 2) (h : Fin 6) (i : Fin 2048) (d : Fin 128) : ℝ := if hd : d.val < 96 then q (ix4 b i h ⟨d.val, hd⟩) else 0

theorem hrow_real (lo : Bool) (b : Fin 2) (p : Fin 3) (i : Fin 2048) : hrow lo (hQ (up' q)) b p i = fun d => (pd q b (hd' lo p) i d : EReal) := by
  funext d
  unfold hrow
  rw [Q_at _ b i _ (hd' lo p) d (by cases lo <;> simp [hd', off] <;> omega)]
  unfold pd
  split
  · rfl
  · exact EReal.coe_zero.symm

theorem dot_pad (b : Fin 2) (h : Fin 6) (i j : Fin 2048) :
    ∑ d : Fin 128, pd k b h j d * pd q b h i d = ∑ d : Fin 96, q (ix4 b i h d) * k (ix4 b j h d) := by
  rw [← sum_pad]
  refine Finset.sum_congr rfl fun d _ => ?_
  unfold pd
  split
  · exact mul_comm _ _
  · exact zero_mul _

theorem sc_real (lo : Bool) (b : Fin 2) (p : Fin 3) (i j : Fin 2048) :
    sc (hrow lo (hQ (up' k)) b p j) (hrow lo (hQ (up' q)) b p i) = (s q k b (hd' lo p) i j : EReal) := by
  unfold sc s
  rw [hrow_real, hrow_real]
  simp only [← EReal.coe_mul]
  rw [sum_coe, dot_pad, show scale = (σ' : EReal) from word_scale, EReal.coe_mul]

theorem lane_lt (lo : Bool) (p : Fin 3) (y : Fin 64) : p.val * 128 + (lane lo y).val = (hd' lo p).val * 64 + y.val := by
  cases lo
  · show p.val * 128 + (64 + y.val) = (2 * p.val + 1) * 64 + y.val; omega
  · show p.val * 128 + (0 + y.val) = (2 * p.val + 0) * 64 + y.val; omega

/-- A pair's head and its lane, from the lane of the pair. -/
def ph (p : Fin 3) (e : Fin 128) : Fin 6 := ⟨2 * p.val + e.val / 64, by omega⟩
def pl (e : Fin 128) : Fin 64 := ⟨e.val % 64, Nat.mod_lt _ (by decide)⟩
theorem ph_eq (p : Fin 3) (e : Fin 128) : p.val * 128 + e.val = (ph p e).val * 64 + (pl e).val := by
  show p.val * 128 + e.val = (2 * p.val + e.val / 64) * 64 + e.val % 64; omega
theorem ph_lane (lo : Bool) (p : Fin 3) (y : Fin 64) : ph p (lane lo y) = hd' lo p ∧ pl (lane lo y) = y := by
  cases lo
  · exact ⟨Fin.ext (show 2 * p.val + (64 + y.val) / 64 = 2 * p.val + 1 by omega), Fin.ext (show (64 + y.val) % 64 = y.val by omega)⟩
  · exact ⟨Fin.ext (show 2 * p.val + (0 + y.val) / 64 = 2 * p.val + 0 by omega), Fin.ext (show (0 + y.val) % 64 = y.val by omega)⟩

theorem vrow_v (b : Fin 2) (p : Fin 3) (j : Fin 2048) : vrow (hV (up' v)) b p j = fun e => (v (ix4 b j (ph p e) (pl e)) : EReal) := by
  funext e
  unfold vrow
  exact V_at _ b j _ (ph p e) (pl e) (ph_eq p e)

theorem vrow_g (b : Fin 2) (p : Fin 3) (i : Fin 2048) : vrow (up' g) b p i = fun e => (gh g b i (ph p e) (pl e) : EReal) := by
  funext e
  unfold vrow gh up'
  exact congrArg (fun z => (g (ix3 b i z) : EReal)) (Fin.ext (ph_eq p e))

variable {M : Fin 2 → Fin 6 → Fin 2048 → ℝ} (hM : ∀ b h i, hM (up' q) (up' k) (ix3 b h i) = (M b h i : EReal))
include hM

theorem vrow_o (b : Fin 2) (p : Fin 3) (i : Fin 2048) : vrow (hO (up' q) (up' k) (up' v)) b p i = fun e => (oR q k v M b (ph p e) i (pl e) : EReal) := by
  funext e
  unfold vrow
  exact o_real q k v hM b i _ (ph p e) (pl e) (ph_eq p e)

theorem lrow_real (lo : Bool) (b : Fin 2) (p : Fin 3) (i : Fin 2048) :
    lrow lo (hlse (up' q) (up' k)) b p i = ((M b (hd' lo p) i + Real.log (l q k M b (hd' lo p) i) : ℝ) : EReal) := by
  unfold lrow
  cases lo
  · exact lse_real q k hM b p 1 (hd' false p) (by decide) rfl i
  · exact lse_real q k hM b p 0 (hd' true p) (by decide) rfl i

theorem pr_real (lo : Bool) (b : Fin 2) (p : Fin 3) (i j : Fin 2048) :
    pr (j ≤ i) (hrow lo (hQ (up' k)) b p j) (hrow lo (hQ (up' q)) b p i) (lrow lo (hlse (up' q) (up' k)) b p i) = (w q k M b (hd' lo p) i j : EReal) := by
  unfold pr
  rw [sc_real, lrow_real q k hM]
  unfold w e
  by_cases hj : j ≤ i
  · rw [if_pos hj, if_pos hj, ← EReal.coe_sub, Ideal.exp_coe, ← sub_sub, Real.exp_sub, Real.exp_log (l_pos q k M b _ i)]
  · rw [if_neg hj, if_neg hj, EReal.bot_sub, Ideal.exp_bot, zero_div, EReal.coe_zero]

omit hM in
theorem dw_real (lo : Bool) (b : Fin 2) (p : Fin 3) (i j : Fin 2048) :
    ∑ e, vrow (hV (up' v)) b p j e * lanes lo (vrow (up' g) b p i) e = (dw v g b (hd' lo p) i j : EReal) := by
  rw [vrow_v, vrow_g]
  unfold lanes dw
  have : ∀ e : Fin 128, (v (ix4 b j (ph p e) (pl e)) : EReal) * (if mine lo e then (gh g b i (ph p e) (pl e) : EReal) else 0)
      = ((if mine lo e then v (ix4 b j (ph p e) (pl e)) * gh g b i (ph p e) (pl e) else 0 : ℝ) : EReal) := fun e => by
    split
    · exact (EReal.coe_mul _ _).symm
    · rw [mul_zero, EReal.coe_zero]
  rw [Finset.sum_congr rfl fun e _ => this e, sum_coe, sum_half]
  simp only [(ph_lane lo p _).1, (ph_lane lo p _).2]

theorem dl_real (lo : Bool) (b : Fin 2) (p : Fin 3) (i : Fin 2048) :
    dl lo (vrow (up' g) b p i) (vrow (hO (up' q) (up' k) (up' v)) b p i) = (dr q k v g M b (hd' lo p) i : EReal) := by
  rw [vrow_g, vrow_o q k v hM, ← dr_out]
  unfold dl sel
  have z : ∀ r : ℝ, ((r : EReal) - (r : EReal)) = 0 := fun r => by rw [← EReal.coe_sub, sub_self, EReal.coe_zero]
  have z0 : (0 : EReal) - 0 = 0 := by simp
  have this : ∀ e : Fin 128, (if mine lo e then (1 : EReal) else 0) * ((gh g b i (ph p e) (pl e) : EReal) * (oR q k v M b (ph p e) i (pl e) : EReal))
      = ((if mine lo e then gh g b i (ph p e) (pl e) * oR q k v M b (ph p e) i (pl e) else 0 : ℝ) : EReal) := fun e => by
    split
    · rw [one_mul, EReal.coe_mul]
    · rw [zero_mul, EReal.coe_zero]
  rw [Finset.sum_congr rfl fun e _ => this e]
  simp only [← EReal.coe_mul, z, z0, mul_zero, Finset.sum_const_zero, add_zero]
  rw [sum_coe, sum_half]
  simp only [(ph_lane lo p _).1, (ph_lane lo p _).2]

theorem wt_real (lo : Bool) (b : Fin 2) (p : Fin 3) (j i : Fin 2048) :
    wt (hQ (up' q)) (hQ (up' k)) (hlse (up' q) (up' k)) lo b p j i = (w q k M b (hd' lo p) i j : EReal) := pr_real q k hM lo b p i j

theorem gr_real (lo : Bool) (b : Fin 2) (p : Fin 3) (j i : Fin 2048) :
    gr (hQ (up' q)) (hQ (up' k)) (hV (up' v)) (up' g) (hO (up' q) (up' k) (up' v)) (hlse (up' q) (up' k)) lo b p j i
      = (dsR q k v g M b (hd' lo p) i j : EReal) := by
  unfold gr ds
  rw [pr_real q k hM, dw_real, dl_real q k v g hM, ← EReal.coe_sub, ← EReal.coe_mul, show scale = (σ' : EReal) from word_scale, ← EReal.coe_mul]
  rfl

/-! ## The results -/

theorem dq_real (lo : Bool) (b : Fin 2) (p : Fin 3) (i : Fin 2048) (d : Fin 128) :
    dqF (hQ (up' q)) (hQ (up' k)) (hV (up' v)) (up' g) (hO (up' q) (up' k) (up' v)) (hlse (up' q) (up' k)) lo b p i d
      = ((∑ j, pd k b (hd' lo p) j d * dsR q k v g M b (hd' lo p) i j : ℝ) : EReal) := by
  unfold dqF dqs
  simp only [gr_real q k v g hM, hrow_real, ← EReal.coe_mul]
  rw [sum_coe, sum_coe, ← EReal.coe_add, sum_blocks]
  split
  · next h =>
    rw [Finset.sum_eq_zero (s := Finset.univ) (f := fun r : Fin 1024 => pd k b (hd' lo p) (up 1 r) d * dsR q k v g M b (hd' lo p) i (up 1 r)), add_zero]
    intro r _
    rw [ds_masked _ _ _ _ _ _ _ _ _ (by rw [Fin.le_def, up_blk]; show ¬ 1 * 1024 + r.val ≤ i.val; omega), mul_zero]
  · rfl

theorem dk_real (lo : Bool) (b : Fin 2) (p : Fin 3) (j : Fin 2048) (d : Fin 128) :
    dkF (hQ (up' q)) (hQ (up' k)) (hV (up' v)) (up' g) (hO (up' q) (up' k) (up' v)) (hlse (up' q) (up' k)) lo b p j d
      = ((∑ i, dsR q k v g M b (hd' lo p) i j * pd q b (hd' lo p) i d : ℝ) : EReal) := by
  unfold dkF dks
  simp only [gr_real q k v g hM, hrow_real, ← EReal.coe_mul]
  rw [sum_coe, sum_coe, ← EReal.coe_add, sum_blocks]
  split
  · rfl
  · next h =>
    rw [Finset.sum_eq_zero (s := Finset.univ) (f := fun r : Fin 1024 => dsR q k v g M b (hd' lo p) (up 0 r) j * pd q b (hd' lo p) (up 0 r) d), zero_add]
    intro r _
    rw [ds_masked _ _ _ _ _ _ _ _ _ (by rw [Fin.le_def, up_blk]; show ¬ j.val ≤ 0 * 1024 + r.val; omega), zero_mul]

theorem dv_real (lo : Bool) (b : Fin 2) (p : Fin 3) (j : Fin 2048) (e : Fin 128) :
    dvF (hQ (up' q)) (hQ (up' k)) (up' g) (hlse (up' q) (up' k)) lo b p j e
      = ((∑ i, w q k M b (hd' lo p) i j * gh g b i (ph p e) (pl e) : ℝ) : EReal) := by
  unfold dvF dvs
  simp only [wt_real q k hM, vrow_g, ← EReal.coe_mul]
  rw [sum_coe, sum_coe, ← EReal.coe_add, sum_blocks]
  split
  · rfl
  · next h =>
    rw [Finset.sum_eq_zero (s := Finset.univ) (f := fun r : Fin 1024 => w q k M b (hd' lo p) (up 0 r) j * gh g b (up 0 r) (ph p e) (pl e)), zero_add]
    intro r _
    rw [w_masked _ _ _ _ _ _ _ (by rw [Fin.le_def, up_blk]; show ¬ j.val ≤ 0 * 1024 + r.val; omega), zero_mul]

end Real
end Cert.Proof.MlaSums
-- ==== Proof.MlaRef.lean ====
/- The reference of attention's gradient, at an index. -/
module

public import proofs.«01_k».proof.Proof.MlaSums

@[expose] public section

set_option maxRecDepth 16384

noncomputable section

namespace Cert.Proof.MlaRef

open Cert.Proof.MlaRows Cert.Proof.MlaValue Cert.Proof.MlaMath Cert.Proof.MlaSums Cert.Proof.MlaHost Cert.Proof.Reals Cert.MlaRefIdeal Cert.MlaRefIdeal.Gen Idealize.ShloMosaic Idealize.ShloMosaic.TcCoe Idealize.SL.Sem

abbrev F4 := FVec Ideal S2x6x2048x2048 .f32

/-- The gradient of the scores from the weights before they are divided, their sums and the gradient of the weights. -/
def rD (E : F4) (L : FVec Ideal S2x6x2048x1 .f32) (W : F4) : F4 := mulf (select (broadcastInDim S2x6x2048x2048 ![2, 3] bcast_S2048x2048_S2x6x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (Host.divf W (broadcastInDim S2x6x2048x2048 ![0, 1, 2, 3] bcast_S2x6x2048x1_S2x6x2048x2048_0_1_2_3 L)) (broadcastInDim S2x6x2048x2048 ![0, 1, 2] bcast_S2x6x2048_S2x6x2048x2048_0_1_2 (Host.reduceAdd (Host.negf (shapeCast _ (Host.reduceAdd (mulf (mulf W (broadcastInDim S2x6x2048x2048 ![0, 1, 2, 3] bcast_S2x6x2048x1_S2x6x2048x2048_0_1_2_3 (Host.divf (broadcastInDim S2x6x2048x1 ![] bcast_S_S2x6x2048x1 (constant S_ .f32 0x3F800000#32)) (mulf L L)))) E) (constant S_ .f32 0x00000000#32) reducesTo_S2x6x2048x2048_S2x6x2048_d3 h_S_) shapeCasts_S2x6x2048_S2x6x2048x1)) (constant S_ .f32 0x00000000#32) reducesTo_S2x6x2048x1_S2x6x2048_d3 h_S_))) E) (broadcastInDim S2x6x2048x2048 ![] bcast_S_S2x6x2048x2048 (constant S_ .f32 0x00000000#32))) (broadcastInDim S2x6x2048x2048 ![] bcast_S_S2x6x2048x2048 (constant S_ .f32 0x3DD105EC#32))
def rY (A2 : FVec Ideal S2x2048x6x64 .f32) (A3 : FVec Ideal S2x2048x384 .f32) : F4 := Host.dotGeneral dot_S2x6x64x2048_S2x2048x6x64_S2x6x2048x2048_2_3_3_1_01_02 none (transpose S2x6x64x2048 [0, 2, 3, 1] (shapeCast _ A3 shapeCasts_S2x2048x384_S2x2048x6x64) transposes_S2x2048x6x64_S2x6x64x2048_0_2_3_1) A2
def rQ (D : F4) (A1 : FVec Ideal S2x2048x6x96 .f32) : FVec Ideal S2x2048x768 .f32 := shapeCast _ (pad S2x2048x6x128 ![0, 0, 0, 0] ![0, 0, 0, 32] ![0, 0, 0, 0] (transpose S2x2048x6x96 [0, 2, 1, 3] (Host.dotGeneral dot_S2x6x2048x2048_S2x2048x6x96_S2x6x2048x96_3_1_2_3_01_02 none D A1) transposes_S2x6x2048x96_S2x2048x6x96_0_2_1_3) (sitofp .f32 (constantI S_ 32 0#32)) pads_S2x2048x6x96_S2x2048x6x128_000_000_000_0320 h_S_) shapeCasts_S2x2048x6x128_S2x2048x768
def rK (D : F4) (A0 : FVec Ideal S2x2048x6x96 .f32) : FVec Ideal S2x2048x768 .f32 := shapeCast _ (pad S2x2048x6x128 ![0, 0, 0, 0] ![0, 0, 0, 32] ![0, 0, 0, 0] (transpose S2x2048x6x96 [0, 2, 1, 3] (Host.dotGeneral dot_S2x6x2048x2048_S2x2048x6x96_S2x6x2048x96_2_1_3_3_01_02 none D A0) transposes_S2x6x2048x96_S2x2048x6x96_0_2_1_3) (sitofp .f32 (constantI S_ 32 0#32)) pads_S2x2048x6x96_S2x2048x6x128_000_000_000_0320 h_S_) shapeCasts_S2x2048x6x128_S2x2048x768
def rV (E : F4) (L : FVec Ideal S2x6x2048x1 .f32) (A3 : FVec Ideal S2x2048x384 .f32) : FVec Ideal S2x2048x384 .f32 := shapeCast _ (transpose S2x2048x6x64 [0, 3, 1, 2] (Host.dotGeneral dot_S2x6x64x2048_S2x6x2048x2048_S2x6x64x2048_3_2_2_3_01_01 none (transpose S2x6x64x2048 [0, 2, 3, 1] (shapeCast _ A3 shapeCasts_S2x2048x384_S2x2048x6x64) transposes_S2x2048x6x64_S2x6x64x2048_0_2_3_1) (Host.divf E (broadcastInDim S2x6x2048x2048 ![0, 1, 2, 3] bcast_S2x6x2048x1_S2x6x2048x2048_0_1_2_3 L))) transposes_S2x6x64x2048_S2x2048x6x64_0_3_1_2) shapeCasts_S2x2048x6x64_S2x2048x384

theorem max_bot (X : FVec Ideal S2x6x2048 .f32) : maximumf (broadcastInDim S2x6x2048 ![] bcast_S_S2x6x2048 (constant S_ .f32 0xFF800000#32)) X = X := by
  funext i
  pointwise [word_bot]
  exact max_bot_left _

section Text
variable (A0 A1 : FVec Ideal S2x2048x6x96 .f32) (A2 : FVec Ideal S2x2048x6x64 .f32) (A3 : FVec Ideal S2x2048x384 .f32)

theorem e_text : Host.exp (subf (select (broadcastInDim S2x6x2048x2048 ![2, 3] bcast_S2048x2048_S2x6x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S2x2048x6x96_S2x2048x6x96_S2x6x2048x2048_3_3_1_1_02_02 none A0 A1) (broadcastInDim S2x6x2048x2048 ![] bcast_S_S2x6x2048x2048 (constant S_ .f32 0x3DD105EC#32))) (broadcastInDim S2x6x2048x2048 ![] bcast_S_S2x6x2048x2048 (id (constant S_ .f32 0xFF800000#32)))) (broadcastInDim S2x6x2048x2048 ![0, 1, 2, 3] bcast_S2x6x2048x1_S2x6x2048x2048_0_1_2_3 (broadcastInDim S2x6x2048x1 ![0, 1, 2] bcast_S2x6x2048_S2x6x2048x1_0_1_2 (maximumf (broadcastInDim S2x6x2048 ![] bcast_S_S2x6x2048 (constant S_ .f32 0xFF800000#32)) (Host.reduce FloatOps.maximumf (select (broadcastInDim S2x6x2048x2048 ![2, 3] bcast_S2048x2048_S2x6x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S2x2048x6x96_S2x2048x6x96_S2x6x2048x2048_3_3_1_1_02_02 none A0 A1) (broadcastInDim S2x6x2048x2048 ![] bcast_S_S2x6x2048x2048 (constant S_ .f32 0x3DD105EC#32))) (broadcastInDim S2x6x2048x2048 ![] bcast_S_S2x6x2048x2048 (id (constant S_ .f32 0xFF800000#32)))) (constant S_ .f32 0xFF800000#32) reducesTo_S2x6x2048x2048_S2x6x2048_d3 h_S_))))) = hE A0 A1 := by
  rw [max_bot]
  rfl

theorem l_text : broadcastInDim S2x6x2048x1 ![0, 1, 2] bcast_S2x6x2048_S2x6x2048x1_0_1_2 (Host.reduceAdd (hE A0 A1) (constant S_ .f32 0x00000000#32) reducesTo_S2x6x2048x2048_S2x6x2048_d3 h_S_) = hL A0 A1 := rfl
end Text

section At
variable (E : F4) (L : FVec Ideal S2x6x2048x1 .f32) (W : F4)

theorem Y_at (v : FVec Ideal S2x2048x6x64 .f32) (g : FVec Ideal S2x2048x384 .f32) (b : Fin 2) (h : Fin 6) (i j : Fin 2048) :
    rY v g (ix4 b h i j) = ∑ x : Fin 64, g (ix3 b i ⟨h.val * 64 + x.val, head_lt h x⟩) * v (ix4 b j h x) := by
  unfold rY
  pointwise []

theorem D_at (b : Fin 2) (h : Fin 6) (i j : Fin 2048) :
    rD E L W (ix4 b h i j) = if j ≤ i then (Ideal.div (W (ix4 b h i j)) (L (ix4 b h i 0))
        + -∑ x, W (ix4 b h i x) * Ideal.div 1 (L (ix4 b h i 0) * L (ix4 b h i 0)) * E (ix4 b h i x)) * E (ix4 b h i j) * Ideal.ofBits FTy.f32 0x3DD105EC#32 else 0 := by
  unfold rD
  pointwise []
  simp only [key_le, WordCmp.select_ofBool, decide_eq_true_eq, Finset.univ_unique, Finset.sum_singleton]

theorem zero_int : (FloatOps.sitofp FTy.f32 0#32 : Ideal .f32) = 0 := by
  show (((0#32 : BitVec 32).toInt : ℝ) : EReal) = 0
  simp

theorem Q_text (D : F4) (k : FVec Ideal S2x2048x6x96 .f32) (b : Fin 2) (i : Fin 2048) (x : Fin 768) :
    rQ D k (ix3 b i x) = if hx : x.val / 128 < 6 ∧ x.val % 128 < 96 then ∑ j, D (ix4 b ⟨x.val / 128, hx.1⟩ i j) * k (ix4 b j ⟨x.val / 128, hx.1⟩ ⟨x.val % 128, hx.2⟩)
      else FloatOps.sitofp FTy.f32 0#32 := by
  unfold rQ
  pointwise []

theorem Q_at (D : F4) (k : FVec Ideal S2x2048x6x96 .f32) (b : Fin 2) (i : Fin 2048) (x : Fin 768) (h : Fin 6) (d : Fin 128) (hx : x.val = h.val * 128 + d.val) :
    rQ D k (ix3 b i x) = if hd : d.val < 96 then ∑ j, D (ix4 b h i j) * k (ix4 b j h ⟨d.val, hd⟩) else 0 := by
  rw [Q_text]
  have eh : x.val / 128 = h.val := by have := d.isLt; omega
  have ed : x.val % 128 = d.val := by have := d.isLt; omega
  by_cases hd : d.val < 96
  · have hc : x.val / 128 < 6 ∧ x.val % 128 < 96 := ⟨eh ▸ h.isLt, ed ▸ hd⟩
    rw [dif_pos hd, dif_pos hc]
    have e1 : (⟨x.val / 128, hc.1⟩ : Fin 6) = h := Fin.ext eh
    have e2 : (⟨x.val % 128, hc.2⟩ : Fin 96) = ⟨d.val, hd⟩ := Fin.ext ed
    simp only [e1, e2]
  · rw [dif_neg hd, dif_neg fun hc => hd (ed ▸ hc.2), zero_int]

theorem K_text (D : F4) (k : FVec Ideal S2x2048x6x96 .f32) (b : Fin 2) (j : Fin 2048) (x : Fin 768) :
    rK D k (ix3 b j x) = if hx : x.val / 128 < 6 ∧ x.val % 128 < 96 then ∑ i, D (ix4 b ⟨x.val / 128, hx.1⟩ i j) * k (ix4 b i ⟨x.val / 128, hx.1⟩ ⟨x.val % 128, hx.2⟩)
      else FloatOps.sitofp FTy.f32 0#32 := by
  unfold rK
  pointwise []

theorem K_at (D : F4) (k : FVec Ideal S2x2048x6x96 .f32) (b : Fin 2) (j : Fin 2048) (x : Fin 768) (h : Fin 6) (d : Fin 128) (hx : x.val = h.val * 128 + d.val) :
    rK D k (ix3 b j x) = if hd : d.val < 96 then ∑ i, D (ix4 b h i j) * k (ix4 b i h ⟨d.val, hd⟩) else 0 := by
  rw [K_text]
  have eh : x.val / 128 = h.val := by have := d.isLt; omega
  have ed : x.val % 128 = d.val := by have := d.isLt; omega
  by_cases hd : d.val < 96
  · have hc : x.val / 128 < 6 ∧ x.val % 128 < 96 := ⟨eh ▸ h.isLt, ed ▸ hd⟩
    rw [dif_pos hd, dif_pos hc]
    have e1 : (⟨x.val / 128, hc.1⟩ : Fin 6) = h := Fin.ext eh
    have e2 : (⟨x.val % 128, hc.2⟩ : Fin 96) = ⟨d.val, hd⟩ := Fin.ext ed
    simp only [e1, e2]
  · rw [dif_neg hd, dif_neg fun hc => hd (ed ▸ hc.2), zero_int]

theorem V_at (g : FVec Ideal S2x2048x384 .f32) (b : Fin 2) (j : Fin 2048) (x : Fin 384) (h : Fin 6) (y : Fin 64) (hx : x.val = h.val * 64 + y.val) :
    rV E L g (ix3 b j x) = ∑ i, g (ix3 b i ⟨h.val * 64 + y.val, head_lt h y⟩) * Ideal.div (E (ix4 b h i j)) (L (ix4 b h i 0)) := by
  have eh : ∀ hh, (⟨x.val / 64, hh⟩ : Fin 6) = h := fun _ => Fin.ext (by show x.val / 64 = h.val; omega)
  have ex : x = ⟨h.val * 64 + y.val, head_lt h y⟩ := Fin.ext hx
  unfold rV
  pointwise []
  simp only [eh]
  rw [← ex]
end At

/-! ## On reals -/

section Real
variable (q k : RH) (v : RW) (g : RD) {M : Fin 2 → Fin 6 → Fin 2048 → ℝ} (hM : ∀ b h i, hM (up' q) (up' k) (ix3 b h i) = (M b h i : EReal))

theorem y_real (b : Fin 2) (h : Fin 6) (i j : Fin 2048) : rY (up' v) (up' g) (ix4 b h i j) = (dw v g b h i j : EReal) := by
  rw [Y_at]
  unfold dw
  rw [← sum_coe]
  exact Finset.sum_congr rfl fun x _ => by rw [mul_comm, EReal.coe_mul]; rfl

include hM in
theorem d_real (b : Fin 2) (h : Fin 6) (i j : Fin 2048) :
    rD (hE (up' q) (up' k)) (hL (up' q) (up' k)) (rY (up' v) (up' g)) (ix4 b h i j) = (dsR q k v g M b h i j : EReal) := by
  rw [D_at]
  simp only [y_real, e_real q k hM, l_real q k hM]
  have hl := (l_pos q k M b h i).ne'
  by_cases hj : j ≤ i
  · rw [if_pos hj, div_real _ hl, ← EReal.coe_mul, ← EReal.coe_one, div_real _ (mul_ne_zero hl hl), word_scale]
    simp only [← EReal.coe_mul]
    rw [sum_coe, ← EReal.coe_neg, ← EReal.coe_add, ← EReal.coe_mul, ← EReal.coe_mul]
    refine congrArg _ ?_
    unfold dsR dr w
    have h1 : ∑ x, dw v g b h i x * (1 / (l q k M b h i * l q k M b h i)) * e q k M b h i x
        = (∑ x, e q k M b h i x * dw v g b h i x) / (l q k M b h i * l q k M b h i) := by
      rw [Finset.sum_div]; exact Finset.sum_congr rfl fun x _ => by ring
    have h2 : ∑ x, e q k M b h i x / l q k M b h i * dw v g b h i x = (∑ x, e q k M b h i x * dw v g b h i x) / l q k M b h i := by
      rw [Finset.sum_div]; exact Finset.sum_congr rfl fun x _ => by ring
    rw [h1, h2]
    field_simp
    ring
  · rw [if_neg hj, ds_masked _ _ _ _ _ _ _ _ _ hj, EReal.coe_zero]

theorem hd_col (x : Fin 768) : x.val = (hd' (hl x) (hp x)).val * 128 + (hd x).val := by
  rw [hd_val]
  by_cases h : x.val % 256 < 128
  · rw [show hl x = true from decide_eq_true h]
    show x.val = (2 * (x.val / 256) + 0) * 128 + x.val % 128
    omega
  · rw [show hl x = false from decide_eq_false h]
    show x.val = (2 * (x.val / 256) + 1) * 128 + x.val % 128
    omega

theorem vd_col (x : Fin 384) : hd' (decide ((ve x).val < 64)) (vp x) = ph (vp x) (ve x) := by
  refine Fin.ext ?_
  by_cases h : x.val % 128 < 64
  · rw [show decide ((ve x).val < 64) = true from decide_eq_true h]
    show 2 * (x.val / 128) + 0 = 2 * (x.val / 128) + x.val % 128 / 64
    omega
  · rw [show decide ((ve x).val < 64) = false from decide_eq_false h]
    show 2 * (x.val / 128) + 1 = 2 * (x.val / 128) + x.val % 128 / 64
    omega

theorem ve_col (x : Fin 384) : x.val = (ph (vp x) (ve x)).val * 64 + (pl (ve x)).val := by
  refine Eq.trans ?_ (ph_eq (vp x) (ve x))
  show x.val = x.val / 128 * 128 + x.val % 128
  omega

include hM

theorem q_real : rQ (rD (hE (up' q) (up' k)) (hL (up' q) (up' k)) (rY (up' v) (up' g))) (up' k)
    = dqA (hQ (up' q)) (hQ (up' k)) (hV (up' v)) (up' g) (hO (up' q) (up' k) (up' v)) (hlse (up' q) (up' k)) := by
  funext z
  obtain ⟨b, i, x, rfl⟩ : ∃ (b : Fin 2) (i : Fin 2048) (x : Fin 768), z = ix3 b i x :=
    ⟨z 0, z 1, z 2, funext fun a => match a with | ⟨0, _⟩ => rfl | ⟨1, _⟩ => rfl | ⟨2, _⟩ => rfl⟩
  rw [Q_at _ _ b i x (hd' (hl x) (hp x)) (hd x) (hd_col x)]
  refine Eq.trans ?_ (dq_real q k v g hM (hl x) b (hp x) i (hd x)).symm
  simp only [d_real q k v g hM]
  unfold pd
  split
  · simp only [up', ← EReal.coe_mul]
    rw [sum_coe]
    exact congrArg _ (Finset.sum_congr rfl fun j _ => mul_comm _ _)
  · simp

theorem k_real : rK (rD (hE (up' q) (up' k)) (hL (up' q) (up' k)) (rY (up' v) (up' g))) (up' q)
    = dkA (hQ (up' q)) (hQ (up' k)) (hV (up' v)) (up' g) (hO (up' q) (up' k) (up' v)) (hlse (up' q) (up' k)) := by
  funext z
  obtain ⟨b, i, x, rfl⟩ : ∃ (b : Fin 2) (i : Fin 2048) (x : Fin 768), z = ix3 b i x :=
    ⟨z 0, z 1, z 2, funext fun a => match a with | ⟨0, _⟩ => rfl | ⟨1, _⟩ => rfl | ⟨2, _⟩ => rfl⟩
  rw [K_at _ _ b i x (hd' (hl x) (hp x)) (hd x) (hd_col x)]
  refine Eq.trans ?_ (dk_real q k v g hM (hl x) b (hp x) i (hd x)).symm
  simp only [d_real q k v g hM]
  unfold pd
  split
  · simp only [up', ← EReal.coe_mul]
    rw [sum_coe]
  · simp

theorem v_real : rV (hE (up' q) (up' k)) (hL (up' q) (up' k)) (up' g) = dvA (hQ (up' q)) (hQ (up' k)) (up' g) (hlse (up' q) (up' k)) := by
  funext z
  obtain ⟨b, j, x, rfl⟩ : ∃ (b : Fin 2) (i : Fin 2048) (x : Fin 384), z = ix3 b i x :=
    ⟨z 0, z 1, z 2, funext fun a => match a with | ⟨0, _⟩ => rfl | ⟨1, _⟩ => rfl | ⟨2, _⟩ => rfl⟩
  rw [V_at _ _ _ b j x (ph (vp x) (ve x)) (pl (ve x)) (ve_col x)]
  refine Eq.trans ?_ (dv_real q k g hM (decide ((ve x).val < 64)) b (vp x) j (ve x)).symm
  simp only [w_real q k hM, vd_col, up', ← EReal.coe_mul]
  rw [sum_coe]
  exact congrArg _ (Finset.sum_congr rfl fun j _ => mul_comm _ _)
end Real
end Cert.Proof.MlaRef
-- ==== Proof.MlaClaim.lean ====
/- The gradient of causal attention: the claims about the pair. -/
module

public import proofs.«01_k».proof.Defs
public import proofs.«01_k».proof.Proof.Gen.Mla.Frame
public import proofs.«01_k».proof.Proof.MlaRef
public import proofs.«01_k».proof.Proof.Gen.Pre_mla_finite
public import proofs.«01_k».proof.Proof.Finite

@[expose] public section

set_option maxRecDepth 16384

noncomputable section

namespace Cert.Proof.MlaClaim

open Cert.Proof.MlaRows Cert.Proof.MlaValue Cert.Proof.MlaMath Cert.Proof.MlaHost Cert.Proof.MlaRef Idealize.ShloMosaic Idealize.ShloMosaic.TcCoe Idealize.SL.Sem

/-- The reference's frame. -/
theorem frame_ref : Cert.quiescent_MlaRefIdeal := fun m ρ _ =>
  (θ_run Cert.MlaRefIdeal.defs _ _).mono (fun r h => ⟨fun c => (h c).2.2.2, sem_eq_zero_of_no_sems (by decide) r.2⟩)
    (Cert.MlaRefIdeal.Value.run (F := Ideal) m ρ)

/-- The kernel's mask is named as −∞. -/
theorem preserves : Cert.preserves_Mla_MlaIdeal := IdealRules.named_const.statement _ _ _ _ _ rfl

section
open Cert.MlaRefIdeal Cert.MlaRefIdeal.Gen
variable (A0 A1 : FVec Ideal S2x2048x6x96 .f32) (A2 : FVec Ideal S2x2048x6x64 .f32) (A3 : FVec Ideal S2x2048x384 .f32)

/-- The exponentials of the masked scores less their row's maximum, as the reference writes them. -/
abbrev weights : FVec Ideal S2x6x2048x2048 .f32 := Host.exp (subf (select (broadcastInDim S2x6x2048x2048 ![2, 3] bcast_S2048x2048_S2x6x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S2x2048x6x96_S2x2048x6x96_S2x6x2048x2048_3_3_1_1_02_02 none A0 A1) (broadcastInDim S2x6x2048x2048 ![] bcast_S_S2x6x2048x2048 (constant S_ .f32 0x3DD105EC#32))) (broadcastInDim S2x6x2048x2048 ![] bcast_S_S2x6x2048x2048 (id (constant S_ .f32 0xFF800000#32)))) (broadcastInDim S2x6x2048x2048 ![0, 1, 2, 3] bcast_S2x6x2048x1_S2x6x2048x2048_0_1_2_3 (broadcastInDim S2x6x2048x1 ![0, 1, 2] bcast_S2x6x2048_S2x6x2048x1_0_1_2 (maximumf (broadcastInDim S2x6x2048 ![] bcast_S_S2x6x2048 (constant S_ .f32 0xFF800000#32)) (Host.reduce FloatOps.maximumf (select (broadcastInDim S2x6x2048x2048 ![2, 3] bcast_S2048x2048_S2x6x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S2x2048x6x96_S2x2048x6x96_S2x6x2048x2048_3_3_1_1_02_02 none A0 A1) (broadcastInDim S2x6x2048x2048 ![] bcast_S_S2x6x2048x2048 (constant S_ .f32 0x3DD105EC#32))) (broadcastInDim S2x6x2048x2048 ![] bcast_S_S2x6x2048x2048 (id (constant S_ .f32 0xFF800000#32)))) (constant S_ .f32 0xFF800000#32) reducesTo_S2x6x2048x2048_S2x6x2048_d3 h_S_)))))

theorem weights_eq : weights A0 A1 = hE A0 A1 := e_text A0 A1

/-- The cotangent of the scores, as the reference writes it. -/
abbrev drawn : FVec Ideal S2x6x2048x2048 .f32 := mulf (select (broadcastInDim S2x6x2048x2048 ![2, 3] bcast_S2048x2048_S2x6x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (Host.divf (Host.dotGeneral dot_S2x6x64x2048_S2x2048x6x64_S2x6x2048x2048_2_3_3_1_01_02 none (transpose S2x6x64x2048 [0, 2, 3, 1] (shapeCast _ A3 shapeCasts_S2x2048x384_S2x2048x6x64) transposes_S2x2048x6x64_S2x6x64x2048_0_2_3_1) A2) (broadcastInDim S2x6x2048x2048 ![0, 1, 2, 3] bcast_S2x6x2048x1_S2x6x2048x2048_0_1_2_3 (broadcastInDim S2x6x2048x1 ![0, 1, 2] bcast_S2x6x2048_S2x6x2048x1_0_1_2 (Host.reduceAdd (weights A0 A1) (constant S_ .f32 0x00000000#32) reducesTo_S2x6x2048x2048_S2x6x2048_d3 h_S_)))) (broadcastInDim S2x6x2048x2048 ![0, 1, 2] bcast_S2x6x2048_S2x6x2048x2048_0_1_2 (Host.reduceAdd (Host.negf (shapeCast _ (Host.reduceAdd (mulf (mulf (Host.dotGeneral dot_S2x6x64x2048_S2x2048x6x64_S2x6x2048x2048_2_3_3_1_01_02 none (transpose S2x6x64x2048 [0, 2, 3, 1] (shapeCast _ A3 shapeCasts_S2x2048x384_S2x2048x6x64) transposes_S2x2048x6x64_S2x6x64x2048_0_2_3_1) A2) (broadcastInDim S2x6x2048x2048 ![0, 1, 2, 3] bcast_S2x6x2048x1_S2x6x2048x2048_0_1_2_3 (Host.divf (broadcastInDim S2x6x2048x1 ![] bcast_S_S2x6x2048x1 (constant S_ .f32 0x3F800000#32)) (mulf (broadcastInDim S2x6x2048x1 ![0, 1, 2] bcast_S2x6x2048_S2x6x2048x1_0_1_2 (Host.reduceAdd (weights A0 A1) (constant S_ .f32 0x00000000#32) reducesTo_S2x6x2048x2048_S2x6x2048_d3 h_S_)) (broadcastInDim S2x6x2048x1 ![0, 1, 2] bcast_S2x6x2048_S2x6x2048x1_0_1_2 (Host.reduceAdd (weights A0 A1) (constant S_ .f32 0x00000000#32) reducesTo_S2x6x2048x2048_S2x6x2048_d3 h_S_)))))) (weights A0 A1)) (constant S_ .f32 0x00000000#32) reducesTo_S2x6x2048x2048_S2x6x2048_d3 h_S_) shapeCasts_S2x6x2048_S2x6x2048x1)) (constant S_ .f32 0x00000000#32) reducesTo_S2x6x2048x1_S2x6x2048_d3 h_S_))) (weights A0 A1)) (broadcastInDim S2x6x2048x2048 ![] bcast_S_S2x6x2048x2048 (constant S_ .f32 0x00000000#32))) (broadcastInDim S2x6x2048x2048 ![] bcast_S_S2x6x2048x2048 (constant S_ .f32 0x3DD105EC#32))

/-! The three results of the reference, in the steps of `MlaRef`. -/

theorem dq_text : (shapeCast _ (pad S2x2048x6x128 ![0, 0, 0, 0] ![0, 0, 0, 32] ![0, 0, 0, 0] (transpose S2x2048x6x96 [0, 2, 1, 3] (Host.dotGeneral dot_S2x6x2048x2048_S2x2048x6x96_S2x6x2048x96_3_1_2_3_01_02 none (drawn A0 A1 A2 A3) A1) transposes_S2x6x2048x96_S2x2048x6x96_0_2_1_3) (sitofp .f32 (constantI S_ 32 0#32)) pads_S2x2048x6x96_S2x2048x6x128_000_000_000_0320 h_S_) shapeCasts_S2x2048x6x128_S2x2048x768 : FVec Ideal S2x2048x768 .f32) = rQ (rD (hE A0 A1) (hL A0 A1) (rY A2 A3)) A1 := by
  unfold drawn
  rw [weights_eq, l_text]
  rfl

theorem dk_text : (shapeCast _ (pad S2x2048x6x128 ![0, 0, 0, 0] ![0, 0, 0, 32] ![0, 0, 0, 0] (transpose S2x2048x6x96 [0, 2, 1, 3] (Host.dotGeneral dot_S2x6x2048x2048_S2x2048x6x96_S2x6x2048x96_2_1_3_3_01_02 none (drawn A0 A1 A2 A3) A0) transposes_S2x6x2048x96_S2x2048x6x96_0_2_1_3) (sitofp .f32 (constantI S_ 32 0#32)) pads_S2x2048x6x96_S2x2048x6x128_000_000_000_0320 h_S_) shapeCasts_S2x2048x6x128_S2x2048x768 : FVec Ideal S2x2048x768 .f32) = rK (rD (hE A0 A1) (hL A0 A1) (rY A2 A3)) A0 := by
  unfold drawn
  rw [weights_eq, l_text]
  rfl

theorem dv_text : (shapeCast _ (transpose S2x2048x6x64 [0, 3, 1, 2] (Host.dotGeneral dot_S2x6x64x2048_S2x6x2048x2048_S2x6x64x2048_3_2_2_3_01_01 none (transpose S2x6x64x2048 [0, 2, 3, 1] (shapeCast _ A3 shapeCasts_S2x2048x384_S2x2048x6x64) transposes_S2x2048x6x64_S2x6x64x2048_0_2_3_1) (Host.divf (weights A0 A1) (broadcastInDim S2x6x2048x2048 ![0, 1, 2, 3] bcast_S2x6x2048x1_S2x6x2048x2048_0_1_2_3 (broadcastInDim S2x6x2048x1 ![0, 1, 2] bcast_S2x6x2048_S2x6x2048x1_0_1_2 (Host.reduceAdd (weights A0 A1) (constant S_ .f32 0x00000000#32) reducesTo_S2x6x2048x2048_S2x6x2048_d3 h_S_))))) transposes_S2x6x64x2048_S2x2048x6x64_0_3_1_2) shapeCasts_S2x2048x6x64_S2x2048x384 : FVec Ideal S2x2048x384 .f32) = rV (hE A0 A1) (hL A0 A1) A3 := by
  rw [weights_eq, l_text]
  rfl

end

section
open Cert.MlaIdeal Cert.MlaIdeal.Gen
variable (m : (ℓ : Loc nD τ sig) → Buf (Elt Ideal) ℓ) (c : Dev nD)

/-! The arrays the kernel's grid reads. -/

theorem a_q : aQ m c = hQ (m ((c : Thread nD τ).loc main_arg0)) := V_q m c
theorem a_k : aK m c = hQ (m ((c : Thread nD τ).loc main_arg1)) := V_k m c
theorem a_v : aV m c = hV (m ((c : Thread nD τ).loc main_arg2)) := V_v m c
theorem a_o : aO m c = hO (m ((c : Thread nD τ).loc main_arg0)) (m ((c : Thread nD τ).loc main_arg1)) (m ((c : Thread nD τ).loc main_arg2)) := V_o m c
theorem a_l : aL m c = hlse (m ((c : Thread nD τ).loc main_arg0)) (m ((c : Thread nD τ).loc main_arg1)) := V_l m c
theorem a_d : aD m c = m ((c : Thread nD τ).loc main_arg3) := V_main_arg3 m c
end

/-- What the precondition says of the arrays on one device. -/
theorem reals {A0 A1 : FVec Ideal Cert.Pre_mla_finite.S2x2048x6x96 .f32} {A2 : FVec Ideal Cert.Pre_mla_finite.S2x2048x6x64 .f32}
    {A3 : FVec Ideal Cert.Pre_mla_finite.S2x2048x384 .f32} (h : Cert.Pre_mla_finite.fn (F := Ideal) A0 A1 A2 A3 = fun _ => 1#1) :
    (∃ q : RH, A0 = up' q) ∧ (∃ k : RH, A1 = up' k) ∧ (∃ v : RW, A2 = up' v) ∧ (∃ g : RD, A3 = up' g) := by
  obtain ⟨h, h3⟩ := Finite.both h
  obtain ⟨h, h2⟩ := Finite.both h
  obtain ⟨h0, h1⟩ := Finite.both h
  have e0 : ∀ i, ∃ r : ℝ, A0 i = r := Finite.all_real _ _ _ _ _ (congrFun h0 ix0)
  have e1 : ∀ i, ∃ r : ℝ, A1 i = r := Finite.all_real _ _ _ _ _ (congrFun h1 ix0)
  have e2 : ∀ i, ∃ r : ℝ, A2 i = r := Finite.all_real _ _ _ _ _ (congrFun h2 ix0)
  have e3 : ∀ i, ∃ r : ℝ, A3 i = r := Finite.all_real _ _ _ _ _ (congrFun h3 ix0)
  choose q hq using e0
  choose k hk using e1
  choose v hv using e2
  choose g hg using e3
  exact ⟨⟨q, funext hq⟩, ⟨k, funext hk⟩, ⟨v, funext hv⟩, ⟨g, funext hg⟩⟩

theorem algebraic : Cert.algebraic_MlaIdeal_MlaRefIdeal_pre_mla_finite := by
  intro m g m' g' hp hagree
  refine ⟨_, _, _, MlaValue.run m g, θ_run_mono (Cert.MlaRefIdeal.Value.run (F := Ideal) m' g') fun r h c => ?_⟩
  have hc := hp c
  obtain ⟨h0, h1, h2, h3⟩ := hagree c
  obtain ⟨r0, r1, r2, rest⟩ := h c
  obtain ⟨⟨q, e0⟩, ⟨k, e1⟩, ⟨v, e2⟩, ⟨u, e3⟩⟩ := reals hc
  obtain ⟨M, hM⟩ := row_max q k
  refine ⟨r0.trans ?_, r1.trans ?_, r2.trans ?_, rest⟩
  · rw [Cert.MlaRefIdeal.Value.res_main_v66, h0, h1, h2, h3, a_q, a_k, a_v, a_d, a_o, a_l]
    refine (dq_text _ _ _ _).trans ?_
    rw [e0, e1, e2, e3]
    exact q_real q k v u hM
  · rw [Cert.MlaRefIdeal.Value.res_main_v68, h0, h1, h2, h3, a_q, a_k, a_v, a_d, a_o, a_l]
    refine (dk_text _ _ _ _).trans ?_
    rw [e0, e1, e2, e3]
    exact k_real q k v u hM
  · rw [Cert.MlaRefIdeal.Value.res_main_v69, h0, h1, h3, a_q, a_k, a_d, a_l]
    refine (dv_text _ _ _).trans ?_
    rw [e0, e1, e3]
    exact v_real q k u hM

end Cert.Proof.MlaClaim
-- ==== Proof.MlaFwdTile.lean ====
/- The steps of causal attention on one tile, read at an index. A query carries the greatest score so far, the sum of the
   weights relative to it, and the weighted sum of the values; a block of keys renews the three. -/
module

public import proofs.«01_k».proof.Proof.Gen.MlaFwdIdeal.Value
public import proofs.«01_k».proof.Proof.MlaTile
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.MlaFwdTile

open Cert.Proof.MlaTile Cert.MlaFwdIdeal Cert.MlaFwdIdeal.Gen Idealize.ShloMosaic Idealize.ShloMosaic.TcCoe Idealize.SL.Sem

/-- The scores of a block of keys for one query. -/
abbrev Scores := Fin 1024 → EReal

/-- The scores of a block's keys that the query sees, minus infinity for the others. -/
def seen (b : Fin 1024 → Prop) [DecidablePred b] (k : Fin 1024 → Row) (q : Row) : Scores := fun j => if b j then sc (k j) q else ⊥

/-- The greatest score after a block, the sum of weights after it, the weighted sum of values after it. -/
def newM (S : Scores) (m : EReal) : EReal := max m (Finset.univ.fold max ⊥ S)
def newL (S : Scores) (m l : EReal) : EReal := Ideal.exp (m - newM S m) * l + ∑ j, Ideal.exp (S j - newM S m)
def newA (S : Scores) (v : Fin 1024 → EReal) (m a : EReal) : EReal :=
  Ideal.exp (m - newM S m) * a + ∑ j, v j * Ideal.exp (S j - newM S m)

theorem mask_word : (Named.named κ "mask" 0xF149F2CA#32 : Ideal .f32) = ⊥ := rfl
theorem word_bot : Ideal.ofBits .f32 0xFF800000#32 = ⊥ := by simp [Ideal.ofBits, Ideal.ieee]

/-! ## A block before the query's own -/

section Step
variable (Q K V : FVec Ideal S1x1024x128 .bf16) (m l : FVec Ideal S1x1024 .f32) (a : FVec Ideal S128x1024 .f32)

theorem s_step0 (j i : Fin 1024) : k0_pay6 (F := Ideal) (k0_pay29 Q) K (ix2 j i) = seen (fun _ => True) (row K) (row Q i) j := by
  pointwise [k0_pay6, k0_pay29]
  simp only [seen, sc, row, if_true]
theorem m_step0 (z : Fin 1) (i : Fin 1024) : k0_pay7 (F := Ideal) (k0_pay29 Q) m K (ix2 z i) = newM (seen (fun _ => True) (row K) (row Q i)) (m (ix2 z i)) := by
  unfold k0_pay7
  have h := fun j => s_step0 Q K j i
  generalize k0_pay6 (F := Ideal) (k0_pay29 Q) K = X at h ⊢
  pointwise []
  simp only [h, word_bot, newM]
theorem w_step0 (j i : Fin 1024) : k0_pay9 (F := Ideal) (k0_pay29 Q) m K (ix2 j i)
    = Ideal.exp (seen (fun _ => True) (row K) (row Q i) j - newM (seen (fun _ => True) (row K) (row Q i)) (m (ix2 0 i))) := by
  unfold k0_pay9
  have h := s_step0 Q K j i
  have h' := m_step0 Q K m 0 i
  generalize k0_pay6 (F := Ideal) (k0_pay29 Q) K = X at h ⊢
  generalize k0_pay7 (F := Ideal) (k0_pay29 Q) m K = Y at h' ⊢
  pointwise []
  rw [h, h']
theorem c_step0 (z : Fin 1) (i : Fin 1024) : k0_pay8 (F := Ideal) (k0_pay29 Q) m K (ix2 z i)
    = Ideal.exp (m (ix2 z i) - newM (seen (fun _ => True) (row K) (row Q i)) (m (ix2 z i))) := by
  unfold k0_pay8
  have h := m_step0 Q K m z i
  generalize k0_pay7 (F := Ideal) (k0_pay29 Q) m K = Y at h ⊢
  pointwise []
  rw [h]
theorem l_step0 (z : Fin 1) (i : Fin 1024) : k0_pay10 (F := Ideal) (k0_pay29 Q) m l K (ix2 z i)
    = newL (seen (fun _ => True) (row K) (row Q i)) (m (ix2 z i)) (l (ix2 z i)) := by
  obtain rfl : z = 0 := Subsingleton.elim _ _
  unfold k0_pay10 newL
  have h := fun j => w_step0 Q K m j i
  have h' := c_step0 Q K m 0 i
  generalize k0_pay9 (F := Ideal) (k0_pay29 Q) m K = X at h ⊢
  generalize k0_pay8 (F := Ideal) (k0_pay29 Q) m K = Y at h' ⊢
  pointwise []
  simp only [h, h']
theorem a_step0 (d : Fin 128) (i : Fin 1024) : k0_pay11 (F := Ideal) (k0_pay29 Q) m a V K (ix2 d i)
    = newA (seen (fun _ => True) (row K) (row Q i)) (fun j => row V j d) (m (ix2 0 i)) (a (ix2 d i)) := by
  unfold k0_pay11 newA
  have h := fun j => w_step0 Q K m j i
  have h' := c_step0 Q K m 0 i
  generalize k0_pay9 (F := Ideal) (k0_pay29 Q) m K = X at h ⊢
  generalize k0_pay8 (F := Ideal) (k0_pay29 Q) m K = Y at h' ⊢
  pointwise [k0_pay5]
  simp only [h, h', row]

/-- The second head's step is the first's. -/
theorem m_step1 (z : Fin 1) (i : Fin 1024) : k0_pay13 (F := Ideal) (k0_pay30 Q) m K (ix2 z i) = newM (seen (fun _ => True) (row K) (row Q i)) (m (ix2 z i)) :=
  m_step0 Q K m z i
theorem l_step1 (z : Fin 1) (i : Fin 1024) : k0_pay34 (F := Ideal) (k0_pay15 (k0_pay30 Q) m K) (k0_pay16 (k0_pay30 Q) m l K) (ix2 z i)
    = newL (seen (fun _ => True) (row K) (row Q i)) (m (ix2 z i)) (l (ix2 z i)) := l_step0 Q K m l z i
theorem a_step1 (d : Fin 128) (i : Fin 1024) : k0_pay35 (F := Ideal) a (k0_pay5 V) (k0_pay14 (k0_pay30 Q) m K) (k0_pay15 (k0_pay30 Q) m K) (ix2 d i)
    = newA (seen (fun _ => True) (row K) (row Q i)) (fun j => row V j d) (m (ix2 0 i)) (a (ix2 d i)) := a_step0 Q K V m a d i

/-! ## The query's own block -/

theorem s_diag0 (j i : Fin 1024) : k0_pay39 (F := Ideal) Q K (ix2 j i) = seen (· ≤ i) (row K) (row Q i) j := by
  pointwise [k0_pay39, k0_pay29]
  simp only [key_word, WordCmp.select_ofBool, mask_word, decide_eq_true_eq, seen, sc, row]
theorem m_diag0 (z : Fin 1) (i : Fin 1024) : k0_pay40 (F := Ideal) Q m K (ix2 z i) = newM (seen (· ≤ i) (row K) (row Q i)) (m (ix2 z i)) := by
  unfold k0_pay40
  have h := fun j => s_diag0 Q K j i
  generalize k0_pay39 (F := Ideal) Q K = X at h ⊢
  pointwise []
  simp only [h, word_bot, newM]
theorem c_diag0 (z : Fin 1) (i : Fin 1024) : k0_pay41 (F := Ideal) Q m K (ix2 z i)
    = Ideal.exp (m (ix2 z i) - newM (seen (· ≤ i) (row K) (row Q i)) (m (ix2 z i))) := by
  unfold k0_pay41
  have h := m_diag0 Q K m z i
  generalize k0_pay40 (F := Ideal) Q m K = Y at h ⊢
  pointwise []
  rw [h]
theorem w_diag0 (j i : Fin 1024) : k0_pay42 (F := Ideal) (k0_pay39 Q K) (k0_pay40 Q m K) (ix2 j i)
    = Ideal.exp (seen (· ≤ i) (row K) (row Q i) j - newM (seen (· ≤ i) (row K) (row Q i)) (m (ix2 0 i))) := by
  have h := s_diag0 Q K j i
  have h' := m_diag0 Q K m 0 i
  generalize k0_pay39 (F := Ideal) Q K = X at h ⊢
  generalize k0_pay40 (F := Ideal) Q m K = Y at h' ⊢
  pointwise [k0_pay42]
  rw [h, h']
theorem l_diag0 (z : Fin 1) (i : Fin 1024) : k0_pay43 (F := Ideal) l (k0_pay39 Q K) (k0_pay40 Q m K) (k0_pay41 Q m K) (ix2 z i)
    = newL (seen (· ≤ i) (row K) (row Q i)) (m (ix2 z i)) (l (ix2 z i)) := by
  obtain rfl : z = 0 := Subsingleton.elim _ _
  unfold k0_pay43 newL
  have h := fun j => w_diag0 Q K m j i
  have h' := c_diag0 Q K m 0 i
  generalize k0_pay42 (F := Ideal) (k0_pay39 Q K) (k0_pay40 Q m K) = X at h ⊢
  generalize k0_pay41 (F := Ideal) Q m K = Y at h' ⊢
  pointwise []
  simp only [h, h']

variable {I J : IVec S1024x1024 32} (hI : I = iota Kind.tc S1024x1024 32 [0] iota_S1024x1024_d0_w32) (hJ : J = iota Kind.tc S1024x1024 32 [1] iota_S1024x1024_d1_w32)
include hI hJ

theorem m_diag1 (z : Fin 1) (i : Fin 1024) : k0_pay45 (F := Ideal) (k0_pay30 Q) I J m K (ix2 z i) = newM (seen (· ≤ i) (row K) (row Q i)) (m (ix2 z i)) := by
  subst hI hJ; exact m_diag0 Q K m z i
theorem c_diag1 (z : Fin 1) (i : Fin 1024) : k0_pay46 (F := Ideal) (k0_pay30 Q) I J m K (ix2 z i)
    = Ideal.exp (m (ix2 z i) - newM (seen (· ≤ i) (row K) (row Q i)) (m (ix2 z i))) := by
  subst hI hJ; exact c_diag0 Q K m z i
theorem w_diag1 (j i : Fin 1024) : k0_pay47 (F := Ideal) (k0_pay30 Q) I J m K (ix2 j i)
    = Ideal.exp (seen (· ≤ i) (row K) (row Q i) j - newM (seen (· ≤ i) (row K) (row Q i)) (m (ix2 0 i))) := by
  subst hI hJ; exact w_diag0 Q K m j i
theorem l_diag1 (z : Fin 1) (i : Fin 1024) : k0_pay48 (F := Ideal) (k0_pay30 Q) I J m l K (ix2 z i)
    = newL (seen (· ≤ i) (row K) (row Q i)) (m (ix2 z i)) (l (ix2 z i)) := by
  subst hI hJ; exact l_diag0 Q K m l z i

/-- The output: each head's weighted sum over its sum of weights, on the head's lanes. -/
theorem o_diag (Q' K' : FVec Ideal S1x1024x128 .bf16) (m' l' : FVec Ideal S1x1024 .f32) (a' : FVec Ideal S128x1024 .f32) (i : Fin 1024) (d : Fin 128) :
    k0_pay49 (F := Ideal) (k0_pay30 Q') I J l a m' l' a' (k0_pay38 V) (k0_pay39 Q K) (k0_pay40 Q m K) (k0_pay41 Q m K) K' (ix2 i d)
      = if d.val < 64 then Ideal.div (newA (seen (· ≤ i) (row K) (row Q i)) (fun j => row V j d) (m (ix2 0 i)) (a (ix2 d i))) (newL (seen (· ≤ i) (row K) (row Q i)) (m (ix2 0 i)) (l (ix2 0 i)))
        else Ideal.div (newA (seen (· ≤ i) (row K') (row Q' i)) (fun j => row V j d) (m' (ix2 0 i)) (a' (ix2 d i))) (newL (seen (· ≤ i) (row K') (row Q' i)) (m' (ix2 0 i)) (l' (ix2 0 i))) := by
  have h1 := fun j => w_diag0 Q K m j i
  have h2 := c_diag0 Q K m 0 i
  have h3 := l_diag0 Q K m l 0 i
  have h4 := fun j => w_diag1 Q' K' m' hI hJ j i
  have h5 := c_diag1 Q' K' m' hI hJ 0 i
  have h6 := l_diag1 Q' K' m' l' hI hJ 0 i
  unfold k0_pay49
  generalize k0_pay43 (F := Ideal) l (k0_pay39 Q K) (k0_pay40 Q m K) (k0_pay41 Q m K) = X3 at h3 ⊢
  generalize k0_pay42 (F := Ideal) (k0_pay39 Q K) (k0_pay40 Q m K) = X1 at h1 ⊢
  generalize k0_pay41 (F := Ideal) Q m K = X2 at h2 ⊢
  generalize k0_pay48 (F := Ideal) (k0_pay30 Q') I J m' l' K' = X6 at h6 ⊢
  generalize k0_pay47 (F := Ideal) (k0_pay30 Q') I J m' K' = X4 at h4 ⊢
  generalize k0_pay46 (F := Ideal) (k0_pay30 Q') I J m' K' = X5 at h5 ⊢
  pointwise [k0_pay38]
  simp only [lane_word, WordCmp.select_ofBool, decide_eq_true_eq, h1, h2, h3, h4, h5, h6, newA, row]
end Step

/-! ## The start and the stores -/

theorem start_m (x : S1x1024.Idx) : k0_pay31 (F := Ideal) x = ⊥ := mask_word
theorem start_l (x : S1x1024.Idx) : k0_pay32 (F := Ideal) x = 0 := by pointwise [k0_pay32]
theorem start_a (x : S128x1024.Idx) : k0_pay33 (F := Ideal) x = 0 := by pointwise [k0_pay33]

theorem store_o (X : FVec Ideal S1024x128 .f32) (z : Fin 1) (i : Fin 1024) (d : Fin 128) : k0_pay1 (F := Ideal) X (ix3 z i d) = X (ix2 i d) := by
  pointwise [k0_pay1]
theorem store_zero (x : S1x1x8x1024.Idx) : k0_pay2 (F := Ideal) x = 0 := by pointwise [k0_pay2]
theorem store_l0 (m l : FVec Ideal S1x1024 .f32) (z z' z'' : Fin 1) (i : Fin 1024) : k0_pay3 (F := Ideal) m l (ix4 z z' z'' i) = m (ix2 0 i) + Ideal.log (l (ix2 0 i)) := by
  pointwise [k0_pay3]
theorem store_l1 (m l : FVec Ideal S1x1024 .f32) (z z' z'' : Fin 1) (i : Fin 1024) : k0_pay4 (F := Ideal) m l (ix4 z z' z'' i) = m (ix2 0 i) + Ideal.log (l (ix2 0 i)) := by
  pointwise [k0_pay4]

end Cert.Proof.MlaFwdTile
-- ==== Proof.MlaFwdGrid.lean ====
/- Causal attention: the trips of the loop over the earlier blocks of keys, the places of the loads, the blocks of the grid. -/
module

public import proofs.«01_k».proof.Proof.Gen.MlaFwdIdeal.Value
public import proofs.«01_k».proof.Proof.Gen.MlaRefIdeal.Run
public import proofs.«01_k».proof.Proof.MlaTile
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.MlaFwdGrid

open Cert.Proof.MlaTile Cert.MlaFwdIdeal Cert.MlaFwdIdeal.Gen Idealize.ShloMosaic Idealize.ShloMosaic.TcCoe Idealize.SL.Sem

variable (m : (ℓ : Loc nD τ sig) → Buf (Elt Ideal) ℓ)

/-! ## The trips of the loops -/

theorem trips1 : ∀ t : Fin cfg0.N, Scf.trips (k0_t1_loop (grid0.coords t)).lb (k0_t1_loop (grid0.coords t)).ub (k0_t1_loop (grid0.coords t)).st = t.val % 2 :=
  (by decide +kernel : ∀ t : Fin grid0.N, Scf.trips (k0_t1_loop (grid0.coords t)).lb (k0_t1_loop (grid0.coords t)).ub (k0_t1_loop (grid0.coords t)).st = t.val % 2)
theorem trips2 : ∀ t : Fin cfg0.N, Scf.trips (k0_t2_loop (grid0.coords t)).lb (k0_t2_loop (grid0.coords t)).ub (k0_t2_loop (grid0.coords t)).st = 0 :=
  (by decide +kernel : ∀ t : Fin grid0.N, Scf.trips (k0_t2_loop (grid0.coords t)).lb (k0_t2_loop (grid0.coords t)).ub (k0_t2_loop (grid0.coords t)).st = 0)

theorem trips1' (t : Fin cfg0.N) : Scf.trips 0#32 (Scalar.addi 0#32 (Scalar.muli (Scalar.divsi (Scalar.subi (BitVec.ofNat 32 (grid0.coords t 2)) 0#32) 1#32) 1#32)) 1#32 = t.val % 2 := trips1 t
theorem trips2' (t : Fin cfg0.N) : Scf.trips (Scalar.addi 0#32 (Scalar.muli (Scalar.divsi (Scalar.subi (BitVec.ofNat 32 (grid0.coords t 2)) 0#32) 1#32) 1#32)) (Scalar.addi 0#32 (Scalar.subi (BitVec.ofNat 32 (grid0.coords t 2)) 0#32)) 1#32 = 0 := trips2 t

theorem trip_pos (t : Fin cfg0.N) (h : t.val % 2 = 1) : 0 < (k0_t1_loop (grid0.coords t)).trips :=
  lt_of_lt_of_eq (show 0 < 1 by decide) ((trips1 t).trans h).symm

/-! ## Where the bodies load and store -/

theorem off7 : ∀ t : Fin cfg0.N, k0_off7 (grid0.coords t) = ![0, t.val % 2 * 1024, 0] :=
  (by decide +kernel : ∀ t : Fin grid0.N, k0_off7 (grid0.coords t) = ![0, t.val % 2 * 1024, 0])
theorem off8 : ∀ t : Fin cfg0.N, k0_off8 (grid0.coords t) = ![0, t.val % 2 * 1024, 0] :=
  (by decide +kernel : ∀ t : Fin grid0.N, k0_off8 (grid0.coords t) = ![0, t.val % 2 * 1024, 0])
theorem off9 : ∀ t : Fin cfg0.N, k0_off9 (grid0.coords t) = ![0, t.val % 2 * 1024, 128] :=
  (by decide +kernel : ∀ t : Fin grid0.N, k0_off9 (grid0.coords t) = ![0, t.val % 2 * 1024, 128])
theorem off1 : ∀ (t : Fin cfg0.N) (k : Fin (k0_t1_loop (grid0.coords t)).trips), k0_off1 (grid0.coords t) k = ![0, k.val * 1024, 0] :=
  (by decide +kernel : ∀ (t : Fin grid0.N) (k : Fin (k0_t1_loop (grid0.coords t)).trips), k0_off1 (grid0.coords t) k = ![0, k.val * 1024, 0])
theorem off2 : ∀ (t : Fin cfg0.N) (k : Fin (k0_t1_loop (grid0.coords t)).trips), k0_off2 (grid0.coords t) k = ![0, k.val * 1024, 0] :=
  (by decide +kernel : ∀ (t : Fin grid0.N) (k : Fin (k0_t1_loop (grid0.coords t)).trips), k0_off2 (grid0.coords t) k = ![0, k.val * 1024, 0])
theorem off3 : ∀ (t : Fin cfg0.N) (k : Fin (k0_t1_loop (grid0.coords t)).trips), k0_off3 (grid0.coords t) k = ![0, k.val * 1024, 128] :=
  (by decide +kernel : ∀ (t : Fin grid0.N) (k : Fin (k0_t1_loop (grid0.coords t)).trips), k0_off3 (grid0.coords t) k = ![0, k.val * 1024, 128])

/-! ## The blocks -/

theorem idx0 : ∀ t : Fin cfg0.N, win0_0.index t = ![t.val / 6, t.val % 2, t.val / 2 % 3] :=
  (by decide +kernel : ∀ t : Fin grid0.N, win0_0.index t = ![t.val / 6, t.val % 2, t.val / 2 % 3])
theorem idx1 : ∀ t : Fin cfg0.N, win0_1.index t = ![t.val / 6, 0, t.val / 2 % 3] :=
  (by decide +kernel : ∀ t : Fin grid0.N, win0_1.index t = ![t.val / 6, 0, t.val / 2 % 3])
theorem idx2 : ∀ t : Fin cfg0.N, win0_2.index t = ![t.val / 6, 0, t.val / 2 % 3] :=
  (by decide +kernel : ∀ t : Fin grid0.N, win0_2.index t = ![t.val / 6, 0, t.val / 2 % 3])
theorem idx3 : ∀ t : Fin cfg0.N, win0_3.index t = ![t.val / 6, t.val % 2, t.val / 2 % 3] :=
  (by decide +kernel : ∀ t : Fin grid0.N, win0_3.index t = ![t.val / 6, t.val % 2, t.val / 2 % 3])
theorem idx4 : ∀ t : Fin cfg0.N, win0_4.index t = ![t.val / 6, t.val / 2 % 3, 0, t.val % 2] :=
  (by decide +kernel : ∀ t : Fin grid0.N, win0_4.index t = ![t.val / 6, t.val / 2 % 3, 0, t.val % 2])

theorem seq_lt (t : Fin cfg0.N) : t.val / 6 < 2 := by
  have h : t.val < 12 := lt_of_lt_of_eq t.isLt N_0
  omega
theorem pair_lt (n : Nat) : n / 2 % 3 < 3 := Nat.mod_lt _ (by decide)

end Cert.Proof.MlaFwdGrid
-- ==== Proof.MlaFwdRows.lean ====
/- Causal attention, a grid point's blocks: the rows its loads read. -/
module

public import proofs.«01_k».proof.Proof.MlaFwdTile
public import proofs.«01_k».proof.Proof.MlaFwdGrid
public import proofs.«01_k».proof.Proof.MlaRows
public import proofs.«01_k».proof.Proof.MlaValue

@[expose] public section

set_option maxRecDepth 16384

noncomputable section

namespace Cert.Proof.MlaFwdRows

open Cert.Proof.MlaTile Cert.Proof.MlaFwdGrid Cert.Proof.Tiles Cert.MlaFwdIdeal Cert.MlaFwdIdeal.Gen Idealize.ShloMosaic Idealize.ShloMosaic.TcCoe Idealize.SL.Sem
open Cert.Proof.MlaRows (AQ AV AL off off_le hcol_lt vcol_lt up hrow vrow wide_lt blk_lt)

variable (m : (ℓ : Loc nD τ sig) → Buf (Elt Ideal) ℓ) (c : Dev nD) (t : Fin cfg0.N)

/-- The arrays the launch finds. -/
abbrev aQ : AQ := V m c (Pipeline.arrRef spec0 0)
abbrev aK : AQ := V m c (Pipeline.arrRef spec0 1)
abbrev aV : AV := V m c (Pipeline.arrRef spec0 2)

/-- The point's sequence, pair of heads and block of queries. -/
def seq : Fin 2 := ⟨t.val / 6, seq_lt t⟩
def pair : Fin 3 := ⟨t.val / 2 % 3, pair_lt t.val⟩
def blk : Fin 2 := ⟨t.val % 2, blk_lt t.val⟩
theorem blk_zero (h : t.val % 2 = 0) : blk t = 0 := Fin.ext h
theorem blk_one (h : t.val % 2 = 1) : blk t = 1 := Fin.ext h

theorem qrow_any (A : Buf (Elt Ideal) ((c : Thread nD τ).loc (Pipeline.arrRef spec0 0))) (lo : Bool) {o : Fin 3 → ℕ} (inb : Fits 1024 256 o) (ho : o = ![0, 0, off lo]) (i : Fin 1024) :
    row (View.ld (((cfg0.win 0).blk t).view.read (Elt Ideal) A) (rect inb)) i = hrow lo (A) (seq t) (pair t) (up (blk t) i) := by
  funext d
  refine (tile_ld _ 0 (off lo) inb i ⟨off lo + d.val, wide_lt lo d⟩ i d ho (Nat.zero_add _).symm rfl).trans ?_
  unfold hrow up seq pair blk
  blk_point [idx0 t]

theorem qrow (lo : Bool) {o : Fin 3 → ℕ} (inb : Fits 1024 256 o) (ho : o = ![0, 0, off lo]) (i : Fin 1024) :
    row (View.ld (iblk m c 0 t) (rect inb)) i = hrow lo (aQ m c) (seq t) (pair t) (up (blk t) i) := by
  unfold iblk
  exact qrow_any c t (V m c (Pipeline.arrRef spec0 0)) lo inb ho i

theorem krow_any (A : Buf (Elt Ideal) ((c : Thread nD τ).loc (Pipeline.arrRef spec0 1))) (lo : Bool) (a : Fin 2) {o : Fin 3 → ℕ} (inb : Fits 2048 256 o) (ho : o = ![0, a.val * 1024, off lo]) (j : Fin 1024) :
    row (View.ld (((cfg0.win 1).blk t).view.read (Elt Ideal) A) (rect inb)) j = hrow lo (A) (seq t) (pair t) (up a j) := by
  funext d
  refine (tile_ld _ (a.val * 1024) (off lo) inb (up a j) ⟨off lo + d.val, wide_lt lo d⟩ j d ho rfl rfl).trans ?_
  unfold hrow up seq pair
  blk_point [idx1 t]

theorem krow (lo : Bool) (a : Fin 2) {o : Fin 3 → ℕ} (inb : Fits 2048 256 o) (ho : o = ![0, a.val * 1024, off lo]) (j : Fin 1024) :
    row (View.ld (iblk m c 1 t) (rect inb)) j = hrow lo (aK m c) (seq t) (pair t) (up a j) := by
  unfold iblk
  exact krow_any c t (V m c (Pipeline.arrRef spec0 1)) lo a inb ho j

theorem varow_any (A : Buf (Elt Ideal) ((c : Thread nD τ).loc (Pipeline.arrRef spec0 2))) (a : Fin 2) {o : Fin 3 → ℕ} (inb : Fits 2048 128 o) (ho : o = ![0, a.val * 1024, 0]) (j : Fin 1024) :
    row (View.ld (((cfg0.win 2).blk t).view.read (Elt Ideal) A) (rect inb)) j = vrow (A) (seq t) (pair t) (up a j) := by
  funext d
  refine (tile_ld _ (a.val * 1024) 0 inb (up a j) d j d ho rfl (Nat.zero_add _).symm).trans ?_
  unfold vrow up seq pair
  blk_point [idx2 t]

theorem varow (a : Fin 2) {o : Fin 3 → ℕ} (inb : Fits 2048 128 o) (ho : o = ![0, a.val * 1024, 0]) (j : Fin 1024) :
    row (View.ld (iblk m c 2 t) (rect inb)) j = vrow (aV m c) (seq t) (pair t) (up a j) := by
  unfold iblk
  exact varow_any c t (V m c (Pipeline.arrRef spec0 2)) a inb ho j

end Cert.Proof.MlaFwdRows
-- ==== Proof.MlaFwdBlock.lean ====
/- Causal attention, what a grid point leaves in its blocks of the output and of the rows' logarithmic sums. -/
module

public import proofs.«01_k».proof.Proof.MlaFwdRows

@[expose] public section

set_option maxRecDepth 16384

noncomputable section

namespace Cert.Proof.MlaFwdBlock

open Cert.Proof.MlaTile Cert.Proof.MlaFwdTile Cert.Proof.MlaFwdGrid Cert.Proof.MlaFwdRows Cert.Proof.Tiles Cert.MlaFwdIdeal Cert.MlaFwdIdeal.Gen Idealize.ShloMosaic Idealize.ShloMosaic.TcCoe Idealize.SL.Sem
open Cert.Proof.MlaRows (AQ AV AL off hrow vrow up)

/-! ## A query's sums -/

section Sums
variable (Q K : AQ) (V : AV) (lo : Bool) (b : Fin 2) (p : Fin 3)

/-- The scores of a block of keys for a query, minus infinity for the keys after it. -/
def sB (a : Fin 2) (i : Fin 2048) : Scores := seen (fun j => up a j ≤ i) (fun j => hrow lo K b p (up a j)) (hrow lo Q b p i)
/-- A lane of a block's values. -/
def vB (a : Fin 2) (e : Fin 128) : Fin 1024 → EReal := fun j => vrow V b p (up a j) e

/-- What a query in block `a` carries when it comes to its own block: the earlier block's sums, if there is one. -/
def pM (a : Fin 2) (i : Fin 2048) : EReal := if a = 0 then ⊥ else newM (sB Q K lo b p 0 i) ⊥
def pL (a : Fin 2) (i : Fin 2048) : EReal := if a = 0 then 0 else newL (sB Q K lo b p 0 i) ⊥ 0
def pA (a : Fin 2) (i : Fin 2048) (e : Fin 128) : EReal := if a = 0 then 0 else newA (sB Q K lo b p 0 i) (vB V b p 0 e) ⊥ 0
/-- Its sums in the end. -/
def fM (a : Fin 2) (i : Fin 2048) : EReal := newM (sB Q K lo b p a i) (pM Q K lo b p a i)
def fL (a : Fin 2) (i : Fin 2048) : EReal := newL (sB Q K lo b p a i) (pM Q K lo b p a i) (pL Q K lo b p a i)
def fA (a : Fin 2) (i : Fin 2048) (e : Fin 128) : EReal := newA (sB Q K lo b p a i) (vB V b p a e) (pM Q K lo b p a i) (pA Q K V lo b p a i e)
end Sums

theorem up_le (a : Fin 2) (j i : Fin 1024) : (up a j ≤ up a i) ↔ j ≤ i := Cert.Proof.MlaBlock.up_le a j i

theorem seen_own (a : Fin 2) (k : Fin 1024 → Row) (q : Row) (r : Fin 1024) : seen (· ≤ r) k q = seen (fun j => up a j ≤ up a r) k q := by
  funext j
  unfold seen
  simp only [up_le]
theorem seen_before (k : Fin 1024 → Row) (q : Row) (r : Fin 1024) : seen (fun _ => True) k q = seen (fun j => up 0 j ≤ up 1 r) k q := by
  funext j
  unfold seen
  simp only [Cert.Proof.MlaBlock.up_le_next]

variable (m : (ℓ : Loc nD τ sig) → Buf (Elt Ideal) ℓ) (c : Dev nD) (t : Fin cfg0.N)

theorem krows (lo : Bool) (a : Fin 2) {o : Fin 3 → ℕ} (inb : Fits 2048 256 o) (ho : o = ![0, a.val * 1024, off lo]) :
    row (View.ld (iblk m c 1 t) (rect inb)) = fun j => hrow lo (aK m c) (seq t) (pair t) (up a j) := funext fun j => krow m c t lo a inb ho j

/-! ## A trip's words -/

section Words
variable {i : grid0.Coords} {k : Fin (k0_t1_loop i).trips} {K : Memref sig .tc .vmem S1x2048x256 .bf16} {W : Memref sig .tc .vmem S1x2048x128 .bf16}
  {X : K.view.ty.Contents (Elt Ideal)} {Y : W.view.ty.Contents (Elt Ideal)} {q : Vec Ideal S1x1024x128 .bf16}
  {a : FVec Ideal S1x1024 .f32 × FVec Ideal S1x1024 .f32 × FVec Ideal S128x1024 .f32 × FVec Ideal S1x1024 .f32 × FVec Ideal S1x1024 .f32 × FVec Ideal S128x1024 .f32}

/-- The trip's block of values, and of either head's keys. -/
abbrev tV (i : grid0.Coords) (k : Fin (k0_t1_loop i).trips) (W : Memref sig .tc .vmem S1x2048x128 .bf16) (Y : W.view.ty.Contents (Elt Ideal)) : Vec Ideal S1x1024x128 .bf16 :=
  View.readAt (Elt Ideal) W.view (Rect.unit (s := S1x2048x128) (k0_off1 i k) S1x1024x128.size (k0_off1_inb i k)).toLoadRect Y
abbrev tK0 (i : grid0.Coords) (k : Fin (k0_t1_loop i).trips) (K : Memref sig .tc .vmem S1x2048x256 .bf16) (X : K.view.ty.Contents (Elt Ideal)) : Vec Ideal S1x1024x128 .bf16 :=
  View.readAt (Elt Ideal) K.view (Rect.unit (s := S1x2048x256) (k0_off2 i k) S1x1024x128.size (k0_off2_inb i k)).toLoadRect X
abbrev tK1 (i : grid0.Coords) (k : Fin (k0_t1_loop i).trips) (K : Memref sig .tc .vmem S1x2048x256 .bf16) (X : K.view.ty.Contents (Elt Ideal)) : Vec Ideal S1x1024x128 .bf16 :=
  View.readAt (Elt Ideal) K.view (Rect.unit (s := S1x2048x256) (k0_off3 i k) S1x1024x128.size (k0_off3_inb i k)).toLoadRect X

theorem word103 : trip_k0_t1.sl.v103 i W Y k = k0_pay5 (F := Ideal) (tV i k W Y) := rfl
theorem word112 : trip_k0_t1.sl.v112 i K q X k a = k0_pay7 (k0_pay29 q) a.1 (tK0 i k K X) := rfl
theorem word121 : trip_k0_t1.sl.v121 i K q X k a = k0_pay10 (k0_pay29 q) a.1 a.2.1 (tK0 i k K X) := rfl
theorem word126 : trip_k0_t1.sl.v126 i K W q X Y k a = k0_pay11 (k0_pay29 q) a.1 a.2.2.1 (tV i k W Y) (tK0 i k K X) := rfl
theorem word135 : trip_k0_t1.sl.v135 i K q X k a = k0_pay13 (k0_pay30 q) a.2.2.2.1 (tK1 i k K X) := rfl
theorem word137 : trip_k0_t1.sl.v137 i K q X k a = k0_pay14 (k0_pay30 q) a.2.2.2.1 (tK1 i k K X) := rfl
theorem word140 : trip_k0_t1.sl.v140 i K q X k a = k0_pay15 (k0_pay30 q) a.2.2.2.1 (tK1 i k K X) := rfl
theorem word141 : trip_k0_t1.sl.v141 i K q X k a = k0_pay16 (k0_pay30 q) a.2.2.2.1 a.2.2.2.2.1 (tK1 i k K X) := rfl
end Words

/-! ## The output -/

abbrev FO (lo : Bool) (r : Fin 1024) (d : Fin 128) : EReal :=
  Ideal.div (fA (aQ m c) (aK m c) (aV m c) lo (seq t) (pair t) (blk t) (up (blk t) r) d) (fL (aQ m c) (aK m c) lo (seq t) (pair t) (blk t) (up (blk t) r))
abbrev FS (lo : Bool) (r : Fin 1024) : EReal :=
  fM (aQ m c) (aK m c) lo (seq t) (pair t) (blk t) (up (blk t) r) + Ideal.log (fL (aQ m c) (aK m c) lo (seq t) (pair t) (blk t) (up (blk t) r))

theorem a3 (h : t.val % 2 = 0) (r : Fin 1024) (d : Fin 128) :
    (outsAt0 m c t).1 (ix3 0 r d) = if d.val < 64 then FO m c t true r d else FO m c t false r d := by
  unfold outsAt0; dsimp only; frame_out
  simp only [trips1' t, trips2' t, h, st_k0_t1_zero, st_k0_t2_zero, List.nil_append, st_k0_t2, st_k0_t1]
  rw [store_o, o_diag _ _ _ _ _ _ rfl rfl, start_m, start_l, start_a]
  simp only [krows m c t true (blk t) (o := k0_off8 (grid0.coords t)) _ (off8 t), krows m c t false (blk t) (o := k0_off9 (grid0.coords t)) _ (off9 t), qrow m c t true (o := ![0, 0, 0]) _ rfl, qrow m c t false (o := ![0, 0, 128]) _ rfl, varow m c t (blk t) (o := k0_off7 (grid0.coords t)) _ (off7 t), seen_own (blk t)]
  unfold FO fA fL pM pL pA sB vB
  have hb := blk_zero t h
  generalize blk t = a at hb ⊢
  subst hb
  simp only [if_true]

theorem b3 (h : t.val % 2 = 1) (r : Fin 1024) (d : Fin 128) :
    (outsAt0 m c t).1 (ix3 0 r d) = if d.val < 64 then FO m c t true r d else FO m c t false r d := by
  have hp := trip_pos t h
  unfold outsAt0; dsimp only; frame_out
  simp only [trips1' t, trips2' t, h, st_k0_t1_zero, st_k0_t2_zero, List.nil_append, st_k0_t2, st_k0_t1]
  unfold st_k0_t1Step
  simp only [dif_pos hp, List.append_nil, List.nil_append]
  unfold tripR_k0_t1 trip_k0_t1
  dsimp only
  simp only [word103, word112, word121, word126, word135, word137, word140, word141, View.readAt_eq_ld, Memref.IsWhole.read_unread]
  rw [store_o, o_diag _ _ _ _ _ _ rfl rfl]
  rw [m_step0, l_step0, a_step0, m_step1, l_step1, a_step1, start_m, start_l, start_a]
  simp only [krows m c t true (blk t) (o := k0_off8 (grid0.coords t)) _ (off8 t), krows m c t false (blk t) (o := k0_off9 (grid0.coords t)) _ (off9 t),
    krows m c t true 0 (o := k0_off2 (grid0.coords t) ⟨0, hp⟩) _ (off2 t ⟨0, hp⟩), krows m c t false 0 (o := k0_off3 (grid0.coords t) ⟨0, hp⟩) _ (off3 t ⟨0, hp⟩),
    qrow m c t true (o := ![0, 0, 0]) _ rfl, qrow m c t false (o := ![0, 0, 128]) _ rfl, varow m c t (blk t) (o := k0_off7 (grid0.coords t)) _ (off7 t),
    varow m c t 0 (o := k0_off1 (grid0.coords t) ⟨0, hp⟩) _ (off1 t ⟨0, hp⟩), seen_own (blk t)]
  unfold FO fA fL pM pL pA sB vB
  have hb := blk_one t h
  generalize blk t = a at hb ⊢
  subst hb
  simp only [one_ne_zero, if_false, seen_before _ _ r]

/-! ## The rows' logarithmic sums -/

section Canon
variable {Val : EltTy → Type} {e : EltTy} [∀ e, Nonempty (Val e)]

abbrev Rows8 : Shape := ⟨4, ![1, 1, 8, 1024]⟩
abbrev Row1 : Shape := ⟨4, ![1, 1, 1, 1024]⟩
abbrev rect1 {o : Fin 4 → ℕ} (inb : ∀ a, o a + (![1, 1, 1, 1024] : Fin 4 → ℕ) a ≤ Rows8.size a) : Rect Rows8 := Rect.unit (s := Rows8) o ![1, 1, 1, 1024] inb
abbrev rect8 {o : Fin 4 → ℕ} (inb : ∀ a, o a + (![1, 1, 8, 1024] : Fin 4 → ℕ) a ≤ Rows8.size a) : Rect Rows8 := Rect.unit (s := Rows8) o ![1, 1, 8, 1024] inb

theorem row_emb {o : Fin 4 → ℕ} (z0 : ℕ) (inb : ∀ a, o a + (![1, 1, 1, 1024] : Fin 4 → ℕ) a ≤ Rows8.size a) (z : Fin 8) (r : Fin 1024) (x : (rect1 inb).shape.Idx)
    (hx : x = (ix4 0 0 0 r : Row1.Idx)) (ho : o = ![0, 0, z0, 0]) (hz : z.val = z0) : (rect1 inb).emb x = (ix4 0 0 z r : Rows8.Idx) := by
  subst ho hx
  funext a
  refine Fin.ext ?_
  show (![0, 0, z0, 0] : Fin 4 → ℕ) a + 1 * ((ix4 0 0 0 r : Row1.Idx) a).val = ((ix4 0 0 z r : Rows8.Idx) a).val
  rw [Nat.one_mul]
  exact match a with
  | ⟨0, _⟩ => rfl
  | ⟨1, _⟩ => rfl
  | ⟨2, _⟩ => hz.symm
  | ⟨3, _⟩ => Nat.zero_add _

theorem all_emb {o : Fin 4 → ℕ} (inb : ∀ a, o a + (![1, 1, 8, 1024] : Fin 4 → ℕ) a ≤ Rows8.size a) (y x : Rows8.Idx) (hx : x = y) (ho : o = ![0, 0, 0, 0]) : (rect8 inb).emb x = y := by
  subst ho hx
  funext a
  refine Fin.ext ?_
  show (![0, 0, 0, 0] : Fin 4 → ℕ) a + 1 * (x a).val = (x a).val
  rw [Nat.one_mul]
  exact match a with
  | ⟨0, _⟩ => Nat.zero_add _
  | ⟨1, _⟩ => Nat.zero_add _
  | ⟨2, _⟩ => Nat.zero_add _
  | ⟨3, _⟩ => Nat.zero_add _

variable {o : Fin 4 → ℕ} (z0 : ℕ) {inb : ∀ a, o a + (![1, 1, 1, 1024] : Fin 4 → ℕ) a ≤ Rows8.size a} {w : Row1.Idx → Val e}
  {L : List (View.Piece Val Rows8 e)} (z : Fin 8) (r : Fin 1024)

theorem canon_row (ho : o = ![0, 0, z0, 0]) (hz : z.val = z0) :
    View.canon ((⟨rect1 inb, w⟩ : View.Piece Val Rows8 e) :: L) (ix4 0 0 z r) = w (ix4 0 0 0 r) :=
  (congrArg (View.canon ((⟨rect1 inb, w⟩ : View.Piece Val Rows8 e) :: L)) (row_emb z0 inb z r _ rfl ho hz).symm).trans
    (View.canon_cons_emb (rect1 inb) w L _)

theorem canon_other (ho : o = ![0, 0, z0, 0]) (hz : z.val ≠ z0) :
    View.canon ((⟨rect1 inb, w⟩ : View.Piece Val Rows8 e) :: L) (ix4 0 0 z r) = View.canon L (ix4 0 0 z r) := by
  refine View.canon_cons_of_not_mem _ L ?_
  subst ho
  rw [Rect.mem_set_unit]
  intro hall
  have a2 : z0 ≤ z.val ∧ z.val < z0 + 1 := hall 2
  omega

theorem canon_all {o : Fin 4 → ℕ} {inb : ∀ a, o a + (![1, 1, 8, 1024] : Fin 4 → ℕ) a ≤ Rows8.size a} {w : Rows8.Idx → Val e} (ho : o = ![0, 0, 0, 0]) :
    View.canon ((⟨rect8 inb, w⟩ : View.Piece Val Rows8 e) :: L) (ix4 0 0 z r) = w (ix4 0 0 z r) :=
  (congrArg (View.canon ((⟨rect8 inb, w⟩ : View.Piece Val Rows8 e) :: L)) (all_emb inb _ _ rfl ho).symm).trans
    (View.canon_cons_emb (rect8 inb) w L _)

theorem rows4 {o1 o0 o8 : Fin 4 → ℕ} {inb1 : ∀ a, o1 a + (![1, 1, 1, 1024] : Fin 4 → ℕ) a ≤ Rows8.size a} {inb0 : ∀ a, o0 a + (![1, 1, 1, 1024] : Fin 4 → ℕ) a ≤ Rows8.size a}
    {inb8 : ∀ a, o8 a + (![1, 1, 8, 1024] : Fin 4 → ℕ) a ≤ Rows8.size a} {w1 w0 : Row1.Idx → Val e} {w8 : Rows8.Idx → Val e}
    (h1 : o1 = ![0, 0, 1, 0]) (h0 : o0 = ![0, 0, 0, 0]) (h8 : o8 = ![0, 0, 0, 0]) :
    View.canon [(⟨rect1 inb1, w1⟩ : View.Piece Val Rows8 e), ⟨rect1 inb0, w0⟩, ⟨rect8 inb8, w8⟩] (ix4 0 0 z r)
      = if z.val = 0 then w0 (ix4 0 0 0 r) else if z.val = 1 then w1 (ix4 0 0 0 r) else w8 (ix4 0 0 z r) := by
  by_cases z0 : z.val = 0
  · rw [if_pos z0, canon_other 1 z r h1 (by omega), canon_row 0 z r h0 z0]
  · rw [if_neg z0]
    by_cases z1 : z.val = 1
    · rw [if_pos z1, canon_row 1 z r h1 z1]
    · rw [if_neg z1, canon_other 1 z r h1 z1, canon_other 0 z r h0 z0, canon_all z r h8]
end Canon

theorem a4 (h : t.val % 2 = 0) (z : Fin 8) (r : Fin 1024) :
    (outsAt0 m c t).2 (ix4 0 0 z r) = if z.val = 0 then FS m c t true r else if z.val = 1 then FS m c t false r else 0 := by
  unfold outsAt0; dsimp only; frame_out
  simp only [trips1' t, trips2' t, h, st_k0_t1_zero, st_k0_t2_zero, List.nil_append, st_k0_t2, st_k0_t1]
  rw [rows4 z r rfl rfl rfl, store_zero, store_l0, store_l1, m_diag0, l_diag0, m_diag1 _ _ _ rfl rfl, l_diag1 _ _ _ _ rfl rfl, start_m, start_l]
  simp only [krows m c t true (blk t) (o := k0_off8 (grid0.coords t)) _ (off8 t), krows m c t false (blk t) (o := k0_off9 (grid0.coords t)) _ (off9 t), qrow m c t true (o := ![0, 0, 0]) _ rfl, qrow m c t false (o := ![0, 0, 128]) _ rfl, seen_own (blk t)]
  unfold FS fM fL pM pL sB
  have hb := blk_zero t h
  generalize blk t = a at hb ⊢
  subst hb
  simp only [if_true]

theorem b4 (h : t.val % 2 = 1) (z : Fin 8) (r : Fin 1024) :
    (outsAt0 m c t).2 (ix4 0 0 z r) = if z.val = 0 then FS m c t true r else if z.val = 1 then FS m c t false r else 0 := by
  have hp := trip_pos t h
  unfold outsAt0; dsimp only; frame_out
  simp only [trips1' t, trips2' t, h, st_k0_t1_zero, st_k0_t2_zero, List.nil_append, st_k0_t2, st_k0_t1]
  unfold st_k0_t1Step
  simp only [dif_pos hp, List.append_nil, List.nil_append]
  unfold tripR_k0_t1 trip_k0_t1
  dsimp only
  simp only [word103, word112, word121, word126, word135, word137, word140, word141, View.readAt_eq_ld, Memref.IsWhole.read_unread]
  rw [rows4 z r rfl rfl rfl, store_zero, store_l0, store_l1, m_diag0, l_diag0, m_diag1 _ _ _ rfl rfl, l_diag1 _ _ _ _ rfl rfl]
  rw [m_step0, l_step0, m_step1, l_step1, start_m, start_l]
  simp only [krows m c t true (blk t) (o := k0_off8 (grid0.coords t)) _ (off8 t), krows m c t false (blk t) (o := k0_off9 (grid0.coords t)) _ (off9 t),
    krows m c t true 0 (o := k0_off2 (grid0.coords t) ⟨0, hp⟩) _ (off2 t ⟨0, hp⟩), krows m c t false 0 (o := k0_off3 (grid0.coords t) ⟨0, hp⟩) _ (off3 t ⟨0, hp⟩),
    qrow m c t true (o := ![0, 0, 0]) _ rfl, qrow m c t false (o := ![0, 0, 128]) _ rfl, seen_own (blk t)]
  unfold FS fM fL pM pL sB
  have hb := blk_one t h
  generalize blk t = a at hb ⊢
  subst hb
  simp only [one_ne_zero, if_false, seen_before _ _ r]

end Cert.Proof.MlaFwdBlock
-- ==== Proof.MlaFwdValue.lean ====
/- Causal attention: what the kernel's grid leaves in its two results, a query's output and its row's logarithm of the sum of
   exponentials. -/
module

public import proofs.«01_k».proof.Proof.Gen.MlaFwdIdeal.Value
public import proofs.«01_k».proof.Proof.MlaFwdBlock
public import proofs.«01_k».proof.Proof.MlaHost
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.MlaFwdValue

open Cert.Proof.MlaFwdGrid Cert.Proof.MlaFwdRows Cert.Proof.MlaFwdBlock Cert.MlaFwdIdeal Cert.MlaFwdIdeal.Gen Idealize.ShloMosaic Idealize.ShloMosaic.TcCoe Idealize.SL.Sem
open Cert.Proof.MlaRows (AQ AV AL up vcol_lt)
open Cert.Proof.MlaBlock (up_blk)
open Cert.Proof.MlaValue (vp ve vcols split_row)
open Cert.Proof.MlaHost (hQ hV)

/-! ## The results -/

theorem bk_lt (i : Fin 2048) : i.val / 1024 < 2 := by omega
/-- The block of a query. -/
def bk (i : Fin 2048) : Fin 2 := ⟨i.val / 1024, bk_lt i⟩
theorem bk_up (a : Fin 2) (r : Fin 1024) : bk (up a r) = a := Fin.ext (by show (up a r).val / 1024 = a.val; rw [up_blk]; omega)

section Results
variable (Q K : AQ) (V : AV)

/-- A query's output at a lane of a pair of heads, and its logarithm of the sum of exponentials. -/
def oF (lo : Bool) (b : Fin 2) (p : Fin 3) (i : Fin 2048) (e : Fin 128) : EReal := Ideal.div (fA Q K V lo b p (bk i) i e) (fL Q K lo b p (bk i) i)
def lF (lo : Bool) (b : Fin 2) (p : Fin 3) (i : Fin 2048) : EReal := fM Q K lo b p (bk i) i + Ideal.log (fL Q K lo b p (bk i) i)

def oA : AV := fun y => if (ve (y 2)).val < 64 then oF Q K V true (y 0) (vp (y 2)) (y 1) (ve (y 2)) else oF Q K V false (y 0) (vp (y 2)) (y 1) (ve (y 2))
def lA : AL := fun y => if (y 2).val = 0 then lF Q K true (y 0) (y 1) (y 3) else if (y 2).val = 1 then lF Q K false (y 0) (y 1) (y 3) else 0
end Results

variable (m : (ℓ : Loc nD τ sig) → Buf (Elt Ideal) ℓ) (c : Dev nD) (t : Fin cfg0.N)

theorem read3 (A : Buf (Elt Ideal) ((c : Thread nD τ).loc (Pipeline.arrRef spec0 3))) (r : Fin 1024) (d : Fin 128) :
    ((cfg0.win 3).blk t).view.read (Elt Ideal) A (ix3 0 r d) = (A : AV) (ix3 (seq t) (up (blk t) r) ⟨(pair t).val * 128 + d.val, vcol_lt (pair t) d⟩) := by
  unfold up seq pair blk
  blk_point [idx3 t]
theorem read4 (A : Buf (Elt Ideal) ((c : Thread nD τ).loc (Pipeline.arrRef spec0 4))) (z : Fin 8) (r : Fin 1024) :
    ((cfg0.win 4).blk t).view.read (Elt Ideal) A (ix4 0 0 z r) = (A : AL) (ix4 (seq t) (pair t) z (up (blk t) r)) := by
  unfold up seq pair blk
  blk_point [idx4 t]

theorem final3 : (dats m 0 c).arrAt 3 cfg0.N = oA (aQ m c) (aK m c) (aV m c) := by
  refine (dats m 0 c).arrAt_eq_of_covers 3 _ (by decide +kernel) fun t hf y => ?_
  obtain ⟨r, k, rfl⟩ : ∃ (r : Fin 1024) (k : Fin 128), y = ix3 0 r k := ⟨y 1, y 2, funext fun a => match a with
    | ⟨0, _⟩ => Fin.ext (Nat.lt_one_iff.mp (y 0).isLt)
    | ⟨1, _⟩ => rfl
    | ⟨2, _⟩ => rfl⟩
  rw [after0_3]
  have g : (outsAt0 m c t).1 (ix3 0 r k) = if k.val < 64 then FO m c t true r k else FO m c t false r k := by
    rcases Nat.mod_two_eq_zero_or_one t.val with h | h
    · exact a3 m c t h r k
    · exact b3 m c t h r k
  refine g.trans ?_
  refine Eq.trans ?_ (read3 c t (oA (aQ m c) (aK m c) (aV m c)) r k).symm
  obtain ⟨e1, e2⟩ := vcols (pair t) k ⟨(pair t).val * 128 + k.val, vcol_lt (pair t) k⟩ rfl
  show _ = if (ve ⟨(pair t).val * 128 + k.val, vcol_lt (pair t) k⟩).val < 64
    then oF (aQ m c) (aK m c) (aV m c) true (seq t) (vp ⟨(pair t).val * 128 + k.val, vcol_lt (pair t) k⟩) (up (blk t) r) (ve ⟨(pair t).val * 128 + k.val, vcol_lt (pair t) k⟩)
    else oF (aQ m c) (aK m c) (aV m c) false (seq t) (vp ⟨(pair t).val * 128 + k.val, vcol_lt (pair t) k⟩) (up (blk t) r) (ve ⟨(pair t).val * 128 + k.val, vcol_lt (pair t) k⟩)
  rw [e1, e2]
  unfold oF FO
  rw [bk_up]

theorem final4 : (dats m 0 c).arrAt 4 cfg0.N = lA (aQ m c) (aK m c) := by
  refine (dats m 0 c).arrAt_eq_of_covers 4 _ (by decide +kernel) fun t hf y => ?_
  obtain ⟨z, r, rfl⟩ : ∃ (z : Fin 8) (r : Fin 1024), y = ix4 0 0 z r := ⟨y 2, y 3, funext fun a => match a with
    | ⟨0, _⟩ => Fin.ext (Nat.lt_one_iff.mp (y 0).isLt)
    | ⟨1, _⟩ => Fin.ext (Nat.lt_one_iff.mp (y 1).isLt)
    | ⟨2, _⟩ => rfl
    | ⟨3, _⟩ => rfl⟩
  rw [after0_4]
  have g : (outsAt0 m c t).2 (ix4 0 0 z r) = if z.val = 0 then FS m c t true r else if z.val = 1 then FS m c t false r else 0 := by
    rcases Nat.mod_two_eq_zero_or_one t.val with h | h
    · exact a4 m c t h z r
    · exact b4 m c t h z r
  refine g.trans ?_
  refine Eq.trans ?_ (read4 c t (lA (aQ m c) (aK m c)) z r).symm
  show _ = if z.val = 0 then lF (aQ m c) (aK m c) true (seq t) (pair t) (up (blk t) r) else if z.val = 1 then lF (aQ m c) (aK m c) false (seq t) (pair t) (up (blk t) r) else 0
  unfold lF FS
  rw [bk_up]

/-! ## What the host computes before the grid -/

theorem V_q : aQ m c = hQ (m ((c : Thread nD τ).loc main_arg0)) := by
  show V m c main_v2 = _
  unfold V
  simp only [List.flatten_cons, List.flatten_nil, List.cons_append, List.nil_append]
  after_results
  simp only [StableHlo.TRef.toBuf, StableHlo.TRef.ofBuf, eq_self, cast_eq, eqRec_eq_cast]
  rfl
theorem V_k : aK m c = hQ (m ((c : Thread nD τ).loc main_arg1)) := by
  show V m c main_v5 = _
  unfold V
  simp only [List.flatten_cons, List.flatten_nil, List.cons_append, List.nil_append]
  after_results
  simp only [StableHlo.TRef.toBuf, StableHlo.TRef.ofBuf, eq_self, cast_eq, eqRec_eq_cast]
  rfl
theorem V_v : aV m c = hV (m ((c : Thread nD τ).loc main_arg2)) := by
  show V m c main_v7 = _
  unfold V
  simp only [List.flatten_cons, List.flatten_nil, List.cons_append, List.nil_append]
  after_results
  rfl

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v8_0) = oA (aQ m c) (aK m c) (aV m c)
      ∧ r.2.mem ((c : Thread nD τ).loc main_v8_1) = lA (aQ m c) (aK m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  simpa only [final3 m, final4 m] using Cert.MlaFwdIdeal.Value.run_blocks m ρ

end Cert.Proof.MlaFwdValue
-- ==== Proof.MlaFwdMath.lean ====
/- Causal attention on reals: whatever real number a row's exponentials are shifted by, the row's output and the logarithm of its
   sum are the same; the kernel's running maximum is such a shift. -/
module

public import proofs.«01_k».proof.Proof.MlaFwdValue
public import proofs.«01_k».proof.Proof.MlaSums

@[expose] public section

set_option maxRecDepth 16384

noncomputable section

namespace Cert.Proof.MlaFwdMath

open Cert.Proof.MlaTile Cert.Proof.MlaFwdTile Cert.Proof.MlaFwdBlock Cert.Proof.MlaFwdValue Cert.Proof.MlaHost Cert.Proof.MlaMath Cert.Proof.MlaSums Cert.Proof.Reals Idealize.ShloMosaic Idealize.SL.Sem
open Cert.Proof.MlaRows (up hrow vrow)
open Cert.Proof.MlaBlock (up_blk)
open Cert.Proof.MlaValue (split_row two_cases)

section Steps
variable (b : Fin 1024 → Prop) [DecidablePred b] (S : Scores) (f v : Fin 1024 → ℝ) (hS : ∀ j, S j = if b j then (f j : EReal) else ⊥)

/-- A block's weights for a shift. -/
def ex (b : Fin 1024 → Prop) [DecidablePred b] (f : Fin 1024 → ℝ) (M : ℝ) (j : Fin 1024) : ℝ := if b j then Real.exp (f j - M) else 0

include hS

theorem exp_real (M : ℝ) (j : Fin 1024) : Ideal.exp (S j - (M : EReal)) = (ex b f M j : EReal) := by
  rw [hS]
  unfold ex
  split
  · rw [← EReal.coe_sub, Ideal.exp_coe]
  · rw [EReal.bot_sub, Ideal.exp_bot, EReal.coe_zero]

theorem max_real (m : EReal) (hm : m ≠ ⊤) (h : m ≠ ⊥ ∨ ∃ j, b j) : ∃ M : ℝ, newM S m = (M : EReal) := by
  have ht : (Finset.univ : Finset (Fin 1024)).fold max ⊥ S ≠ ⊤ := by
    refine ne_of_lt ?_
    rw [Finset.fold_max_lt]
    refine ⟨bot_lt_top, fun j _ => ?_⟩
    rw [hS]; split
    · exact EReal.coe_lt_top _
    · exact bot_lt_top
  have h1 : newM S m ≠ ⊤ := ne_of_lt (max_lt (lt_top_iff_ne_top.2 hm) (lt_top_iff_ne_top.2 ht))
  have h2 : newM S m ≠ ⊥ := by
    refine ne_of_gt ?_
    unfold newM
    rcases h with h | ⟨j, hj⟩
    · exact lt_max_of_lt_left (bot_lt_iff_ne_bot.2 h)
    · refine lt_max_of_lt_right ?_
      rw [Finset.lt_fold_max]
      exact .inr ⟨j, Finset.mem_univ _, by rw [hS, if_pos hj]; exact EReal.bot_lt_coe _⟩
  exact ⟨_, (EReal.coe_toReal h1 h2).symm⟩

theorem l_first {M : ℝ} (hM : newM S ⊥ = (M : EReal)) : newL S ⊥ 0 = ((∑ j, ex b f M j : ℝ) : EReal) := by
  unfold newL
  rw [hM, mul_zero, zero_add]
  simp only [exp_real b S f hS]
  rw [sum_coe]

theorem a_first {M : ℝ} (hM : newM S ⊥ = (M : EReal)) : newA S (fun j => (v j : EReal)) ⊥ 0 = ((∑ j, v j * ex b f M j : ℝ) : EReal) := by
  unfold newA
  rw [hM, mul_zero, zero_add]
  simp only [exp_real b S f hS, ← EReal.coe_mul]
  rw [sum_coe]

theorem l_next {M m : ℝ} (l : ℝ) (hM : newM S (m : EReal) = (M : EReal)) : newL S (m : EReal) (l : EReal) = ((Real.exp (m - M) * l + ∑ j, ex b f M j : ℝ) : EReal) := by
  unfold newL
  rw [hM]
  simp only [exp_real b S f hS]
  rw [sum_coe, ← EReal.coe_sub, Ideal.exp_coe, ← EReal.coe_mul, ← EReal.coe_add]

theorem a_next {M m : ℝ} (a : ℝ) (hM : newM S (m : EReal) = (M : EReal)) : newA S (fun j => (v j : EReal)) (m : EReal) (a : EReal) = ((Real.exp (m - M) * a + ∑ j, v j * ex b f M j : ℝ) : EReal) := by
  unfold newA
  rw [hM]
  simp only [exp_real b S f hS, ← EReal.coe_mul]
  rw [sum_coe, ← EReal.coe_sub, Ideal.exp_coe, ← EReal.coe_mul, ← EReal.coe_add]
end Steps

section Real
variable (q k : RH) (v : RW)

/-- A row's weights for a shift. -/
def ew (M : ℝ) (b : Fin 2) (h : Fin 6) (i j : Fin 2048) : ℝ := if j ≤ i then Real.exp (s q k b h i j - M) else 0

theorem sB_real (lo : Bool) (b : Fin 2) (p : Fin 3) (a : Fin 2) (i : Fin 2048) (j : Fin 1024) :
    sB (hQ (up' q)) (hQ (up' k)) lo b p a i j = if up a j ≤ i then (s q k b (hd' lo p) i (up a j) : EReal) else ⊥ := by
  unfold sB seen
  rw [sc_real]

theorem vB_real (b : Fin 2) (p : Fin 3) (a : Fin 2) (e : Fin 128) : vB (hV (up' v)) b p a e = fun j => (v (ix4 b (up a j) (ph p e) (pl e)) : EReal) := by
  unfold vB
  funext j
  rw [vrow_v]

theorem ex_ew (M : ℝ) (b : Fin 2) (h : Fin 6) (a : Fin 2) (i : Fin 2048) (j : Fin 1024) :
    ex (fun j => up a j ≤ i) (fun j => s q k b h i (up a j)) M j = ew q k M b h i (up a j) := rfl

section Carry
variable (Q K : Cert.Proof.MlaRows.AQ) (V : Cert.Proof.MlaRows.AV) (lo : Bool) (b : Fin 2) (p : Fin 3) (i : Fin 2048) (x : Fin 128)
theorem fM_zero : fM Q K lo b p 0 i = newM (sB Q K lo b p 0 i) ⊥ := by unfold fM pM; rw [if_pos rfl]
theorem fL_zero : fL Q K lo b p 0 i = newL (sB Q K lo b p 0 i) ⊥ 0 := by unfold fL pM pL; rw [if_pos rfl, if_pos rfl]
theorem fA_zero : fA Q K V lo b p 0 i x = newA (sB Q K lo b p 0 i) (vB V b p 0 x) ⊥ 0 := by unfold fA pM pA; rw [if_pos rfl, if_pos rfl]
theorem pM_one : pM Q K lo b p 1 i = newM (sB Q K lo b p 0 i) ⊥ := by unfold pM; rw [if_neg one_ne_zero]
theorem pL_one : pL Q K lo b p 1 i = newL (sB Q K lo b p 0 i) ⊥ 0 := by unfold pL; rw [if_neg one_ne_zero]
theorem pA_one : pA Q K V lo b p 1 i x = newA (sB Q K lo b p 0 i) (vB V b p 0 x) ⊥ 0 := by unfold pA; rw [if_neg one_ne_zero]
end Carry

theorem later (i : Fin 1024) (j : Fin 1024) : ¬ up 1 j ≤ up 0 i := by
  intro h
  have h' : (up 1 j).val ≤ (up 0 i).val := h
  rw [up_blk, up_blk] at h'
  have : (1 : Fin 2).val * 1024 + j.val ≤ (0 : Fin 2).val * 1024 + i.val := h'
  simp at this
  omega

theorem ew_shift (M m : ℝ) (b : Fin 2) (h : Fin 6) (i j : Fin 2048) : Real.exp (m - M) * ew q k m b h i j = ew q k M b h i j := by
  unfold ew
  split
  · rw [← Real.exp_add]; congr 1; ring
  · exact mul_zero _

/-- A query's sums in the kernel: over all keys, for some shift. -/
theorem sums (lo : Bool) (b : Fin 2) (p : Fin 3) (i : Fin 2048) : ∃ M : ℝ, fM (hQ (up' q)) (hQ (up' k)) lo b p (bk i) i = (M : EReal)
    ∧ fL (hQ (up' q)) (hQ (up' k)) lo b p (bk i) i = ((∑ j, ew q k M b (hd' lo p) i j : ℝ) : EReal)
    ∧ ∀ e, fA (hQ (up' q)) (hQ (up' k)) (hV (up' v)) lo b p (bk i) i e = ((∑ j, v (ix4 b j (ph p e) (pl e)) * ew q k M b (hd' lo p) i j : ℝ) : EReal) := by
  obtain ⟨a, r, rfl⟩ := split_row i
  rw [bk_up]
  have hS := fun a' => sB_real q k lo b p a' (up a r)
  rcases two_cases a with rfl | rfl
  · obtain ⟨M, hM⟩ := max_real _ _ _ (hS 0) ⊥ bot_ne_top (.inr ⟨r, le_rfl⟩)
    refine ⟨M, (fM_zero _ _ _ _ _ _).trans hM, ?_, fun e => ?_⟩
    · refine (fL_zero _ _ _ _ _ _).trans ((l_first _ _ _ (hS 0) hM).trans ?_)
      simp only [ex_ew]
      rw [sum_blocks]
      simp [ew, later]
    · rw [fA_zero, vB_real]
      refine (a_first _ _ _ _ (hS 0) hM).trans ?_
      simp only [ex_ew]
      rw [sum_blocks]
      simp [ew, later]
  · obtain ⟨m0, hm⟩ := max_real _ _ _ (hS 0) ⊥ bot_ne_top (.inr ⟨0, by show (up 0 0).val ≤ (up 1 r).val; rw [up_blk, up_blk]; simp⟩)
    obtain ⟨M, hM⟩ := max_real _ _ _ (hS 1) (m0 : EReal) (EReal.coe_ne_top _) (.inr ⟨r, le_rfl⟩)
    have hp : pM (hQ (up' q)) (hQ (up' k)) lo b p 1 (up 1 r) = (m0 : EReal) := (pM_one _ _ _ _ _ _).trans hm
    refine ⟨M, ?_, ?_, fun e => ?_⟩
    · unfold fM
      rw [hp]; exact hM
    · have h0 : pL (hQ (up' q)) (hQ (up' k)) lo b p 1 (up 1 r) = _ := (pL_one _ _ _ _ _ _).trans (l_first _ _ _ (hS 0) hm)
      unfold fL
      rw [hp, h0, l_next _ _ _ (hS 1) _ hM, sum_blocks, Finset.mul_sum]
      simp only [ex_ew, ew_shift]
    · have h0 : pA (hQ (up' q)) (hQ (up' k)) (hV (up' v)) lo b p 1 (up 1 r) e = newA _ (vB (hV (up' v)) b p 0 e) ⊥ 0 := pA_one _ _ _ _ _ _ _ _
      unfold fA
      rw [hp, h0, vB_real, vB_real, a_first _ _ _ _ (hS 0) hm, a_next _ _ _ _ (hS 1) _ hM, sum_blocks, Finset.mul_sum]
      simp only [mul_left_comm (Real.exp (m0 - M)), ex_ew, ew_shift]

theorem ew_e (M : Fin 2 → Fin 6 → Fin 2048 → ℝ) (N : ℝ) (b : Fin 2) (h : Fin 6) (i j : Fin 2048) : ew q k N b h i j = Real.exp (M b h i - N) * e q k M b h i j := by
  unfold ew e
  split
  · rw [← Real.exp_add]; congr 1; ring
  · exact (mul_zero _).symm

theorem ew_sum (M : Fin 2 → Fin 6 → Fin 2048 → ℝ) (N : ℝ) (b : Fin 2) (h : Fin 6) (i : Fin 2048) : ∑ j, ew q k N b h i j = Real.exp (M b h i - N) * l q k M b h i := by
  unfold l
  simp only [ew_e q k M N, Finset.mul_sum]

theorem oF_real (M : Fin 2 → Fin 6 → Fin 2048 → ℝ) (lo : Bool) (b : Fin 2) (p : Fin 3) (i : Fin 2048) (x : Fin 128) (hx : ph p x = hd' lo p) :
    oF (hQ (up' q)) (hQ (up' k)) (hV (up' v)) lo b p i x = (oR q k v M b (ph p x) i (pl x) : EReal) := by
  obtain ⟨N, -, h2, h3⟩ := sums q k v lo b p i
  have hl := l_pos q k M b (hd' lo p) i
  unfold oF
  rw [h2, h3, div_real _ (by rw [ew_sum q k M]; positivity), EReal.coe_eq_coe_iff, ew_sum q k M, hx]
  unfold oR w
  rw [Finset.sum_div]
  refine Finset.sum_congr rfl fun j _ => ?_
  rw [ew_e q k M]
  have := Real.exp_pos (M b (hd' lo p) i - N)
  field_simp

theorem lF_real (M : Fin 2 → Fin 6 → Fin 2048 → ℝ) (lo : Bool) (b : Fin 2) (p : Fin 3) (i : Fin 2048) :
    lF (hQ (up' q)) (hQ (up' k)) lo b p i = ((M b (hd' lo p) i + Real.log (l q k M b (hd' lo p) i) : ℝ) : EReal) := by
  obtain ⟨N, h1, h2, -⟩ := sums q k (fun _ => 0) lo b p i
  have hl := l_pos q k M b (hd' lo p) i
  have he := Real.exp_pos (M b (hd' lo p) i - N)
  unfold lF
  rw [h1, h2, ew_sum q k M, Ideal.log_coe, if_neg (by have := mul_pos he hl; exact this.not_ge), Real.log_mul he.ne' hl.ne', Real.log_exp, ← EReal.coe_add, EReal.coe_eq_coe_iff]
  ring
end Real
end Cert.Proof.MlaFwdMath
-- ==== Proof.MlaFwdClaim.lean ====
/- Causal attention: the reference at an index, and the claims about the pair. -/
module

public import proofs.«01_k».proof.Defs
public import proofs.«01_k».proof.Proof.Gen.MlaFwd.Frame
public import proofs.«01_k».proof.Proof.Gen.MlaFwdRefIdeal.Run
public import proofs.«01_k».proof.Proof.MlaFwdMath
public import proofs.«01_k».proof.Proof.MlaRef
public import proofs.«01_k».proof.Proof.Gen.Pre_mla_fwd_finite
public import proofs.«01_k».proof.Proof.Finite

@[expose] public section

set_option maxRecDepth 16384

noncomputable section

namespace Cert.Proof.MlaFwdClaim

open Cert.Proof.MlaFwdValue Cert.Proof.MlaFwdMath Cert.Proof.MlaHost Cert.Proof.MlaMath Cert.Proof.MlaSums Idealize.ShloMosaic Idealize.ShloMosaic.TcCoe Idealize.SL.Sem
open Cert.Proof.MlaRows (AV AL)
open Cert.Proof.MlaValue (vp ve)

/-- The reference's frame. -/
theorem frame_ref : Cert.quiescent_MlaFwdRefIdeal := fun m ρ _ =>
  (θ_run Cert.MlaFwdRefIdeal.defs _ _).mono (fun r h => ⟨fun c => (h c).2.2, sem_eq_zero_of_no_sems (by decide) r.2⟩)
    (Cert.MlaFwdRefIdeal.Value.run (F := Ideal) m ρ)

/-- The kernel's mask is named as −∞. -/
theorem preserves : Cert.preserves_MlaFwd_MlaFwdIdeal := IdealRules.named_const.statement _ _ _ _ _ rfl

/-! ## The reference -/

section
open Cert.MlaFwdRefIdeal Cert.MlaFwdRefIdeal.Gen
variable (A0 A1 : FVec Ideal S2x2048x6x96 .f32) (A2 : FVec Ideal S2x2048x6x64 .f32)

/-- The rows' logarithms, a pair of heads in eight rows. -/
def rL (Y : FVec Ideal S2x6x2048x1 .f32) : FVec Ideal S2x3x8x2048 .f32 :=
  concatenate S2x3x8x2048 2 [⟨S2x3x2x2048, shapeCast _ Y shapeCasts_S2x6x2048x1_S2x3x2x2048⟩, ⟨S2x3x6x2048, broadcastInDim S2x3x6x2048 ![] bcast_S_S2x3x6x2048 (constant S_ .f32 0x00000000#32)⟩] concatenates_S2x3x2x2048_S2x3x6x2048_S2x3x8x2048_d2

/-- The masked scores, as the reference writes them. -/
abbrev masked : FVec Ideal S2x6x2048x2048 .f32 := select (broadcastInDim S2x6x2048x2048 ![2, 3] bcast_S2048x2048_S2x6x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S2x2048x6x96_S2x2048x6x96_S2x6x2048x2048_3_3_1_1_02_02 none A0 A1) (broadcastInDim S2x6x2048x2048 ![] bcast_S_S2x6x2048x2048 (constant S_ .f32 0x3DD105EC#32))) (broadcastInDim S2x6x2048x2048 ![] bcast_S_S2x6x2048x2048 (id (constant S_ .f32 0xFF800000#32)))

theorem o_text : (shapeCast _ (transpose S2x2048x6x64 [0, 3, 1, 2] (Host.dotGeneral dot_S2x2048x6x64_S2x6x2048x2048_S2x6x64x2048_1_3_3_2_02_01 none A2 (Host.divf (Host.exp (subf (masked A0 A1) (broadcastInDim S2x6x2048x2048 ![0, 1, 2, 3] bcast_S2x6x2048x1_S2x6x2048x2048_0_1_2_3 (broadcastInDim S2x6x2048x1 ![0, 1, 2] bcast_S2x6x2048_S2x6x2048x1_0_1_2 (maximumf (broadcastInDim S2x6x2048 ![] bcast_S_S2x6x2048 (constant S_ .f32 0xFF800000#32)) (Host.reduce FloatOps.maximumf (masked A0 A1) (constant S_ .f32 0xFF800000#32) reducesTo_S2x6x2048x2048_S2x6x2048_d3 h_S_)))))) (broadcastInDim S2x6x2048x2048 ![0, 1, 2, 3] bcast_S2x6x2048x1_S2x6x2048x2048_0_1_2_3 (broadcastInDim S2x6x2048x1 ![0, 1, 2] bcast_S2x6x2048_S2x6x2048x1_0_1_2 (Host.reduceAdd (Host.exp (subf (masked A0 A1) (broadcastInDim S2x6x2048x2048 ![0, 1, 2, 3] bcast_S2x6x2048x1_S2x6x2048x2048_0_1_2_3 (broadcastInDim S2x6x2048x1 ![0, 1, 2] bcast_S2x6x2048_S2x6x2048x1_0_1_2 (maximumf (broadcastInDim S2x6x2048 ![] bcast_S_S2x6x2048 (constant S_ .f32 0xFF800000#32)) (Host.reduce FloatOps.maximumf (masked A0 A1) (constant S_ .f32 0xFF800000#32) reducesTo_S2x6x2048x2048_S2x6x2048_d3 h_S_)))))) (constant S_ .f32 0x00000000#32) reducesTo_S2x6x2048x2048_S2x6x2048_d3 h_S_))))) transposes_S2x6x64x2048_S2x2048x6x64_0_3_1_2) shapeCasts_S2x2048x6x64_S2x2048x384 : FVec Ideal S2x2048x384 .f32) = hO A0 A1 A2 := by
  rw [Cert.Proof.MlaRef.max_bot]
  rfl

theorem l_text : (concatenate S2x3x8x2048 2 [⟨S2x3x2x2048, (shapeCast _ (addf (broadcastInDim S2x6x2048x1 ![0, 1, 2] bcast_S2x6x2048_S2x6x2048x1_0_1_2 (Host.reduce FloatOps.maximumf (masked A0 A1) (constant S_ .f32 0xFF800000#32) reducesTo_S2x6x2048x2048_S2x6x2048_d3 h_S_)) (Host.log (broadcastInDim S2x6x2048x1 ![0, 1, 2] bcast_S2x6x2048_S2x6x2048x1_0_1_2 (Host.reduceAdd (Host.exp (subf (masked A0 A1) (broadcastInDim S2x6x2048x2048 ![0, 1, 2, 3] bcast_S2x6x2048x1_S2x6x2048x2048_0_1_2_3 (broadcastInDim S2x6x2048x1 ![0, 1, 2] bcast_S2x6x2048_S2x6x2048x1_0_1_2 (Host.reduce FloatOps.maximumf (masked A0 A1) (constant S_ .f32 0xFF800000#32) reducesTo_S2x6x2048x2048_S2x6x2048_d3 h_S_))))) (constant S_ .f32 0x00000000#32) reducesTo_S2x6x2048x2048_S2x6x2048_d3 h_S_)))) shapeCasts_S2x6x2048x1_S2x3x2x2048)⟩, ⟨S2x3x6x2048, (broadcastInDim S2x3x6x2048 ![] bcast_S_S2x3x6x2048 (constant S_ .f32 0x00000000#32))⟩] concatenates_S2x3x2x2048_S2x3x6x2048_S2x3x8x2048_d2 : FVec Ideal S2x3x8x2048 .f32)
    = rL (addf (broadcastInDim S2x6x2048x1 ![0, 1, 2] bcast_S2x6x2048_S2x6x2048x1_0_1_2 (hM A0 A1)) (Host.log (hL A0 A1))) := rfl

theorem rL_at (Y : FVec Ideal S2x6x2048x1 .f32) (b : Fin 2) (p : Fin 3) (z : Fin 8) (i : Fin 2048) :
    rL Y (ix4 b p z i) = if h : z.val < 2 then Y (ix4 b ⟨2 * p.val + z.val, by omega⟩ i 0) else 0 := by
  unfold rL
  pointwise []
  simp only [Nat.mul_comm]
end

section
variable (q k : RH) (v : RW) {M : Fin 2 → Fin 6 → Fin 2048 → ℝ} (hM : ∀ b h i, hM (up' q) (up' k) (ix3 b h i) = (M b h i : EReal))
include hM

theorem o_real' : oA (hQ (up' q)) (hQ (up' k)) (hV (up' v)) = hO (up' q) (up' k) (up' v) := by
  funext y
  obtain ⟨b, i, x, rfl⟩ : ∃ (b : Fin 2) (i : Fin 2048) (x : Fin 384), y = ix3 b i x := ⟨y 0, y 1, y 2, funext fun a => match a with
    | ⟨0, _⟩ => rfl
    | ⟨1, _⟩ => rfl
    | ⟨2, _⟩ => rfl⟩
  have hx : x.val = (vp x).val * 128 + (ve x).val := by show x.val = x.val / 128 * 128 + x.val % 128; omega
  rw [o_real q k v hM b i x (ph (vp x) (ve x)) (pl (ve x)) (hx.trans (ph_eq _ _))]
  show (if (ve x).val < 64 then oF (hQ (up' q)) (hQ (up' k)) (hV (up' v)) true b (vp x) i (ve x) else oF (hQ (up' q)) (hQ (up' k)) (hV (up' v)) false b (vp x) i (ve x)) = _
  split
  · next h => exact oF_real q k v M true b (vp x) i (ve x) (Fin.ext (by show 2 * (vp x).val + (ve x).val / 64 = 2 * (vp x).val + 0; omega))
  · next h => exact oF_real q k v M false b (vp x) i (ve x) (Fin.ext (by have := (ve x).isLt; show 2 * (vp x).val + (ve x).val / 64 = 2 * (vp x).val + 1; omega))

theorem l_real' : lA (hQ (up' q)) (hQ (up' k)) = rL (addf (broadcastInDim Cert.MlaFwdRefIdeal.S2x6x2048x1 ![0, 1, 2] Cert.MlaFwdRefIdeal.Gen.bcast_S2x6x2048_S2x6x2048x1_0_1_2 (MlaHost.hM (up' q) (up' k))) (Host.log (hL (up' q) (up' k)))) := by
  have hr : ∀ b h i, addf (broadcastInDim Cert.MlaFwdRefIdeal.S2x6x2048x1 ![0, 1, 2] Cert.MlaFwdRefIdeal.Gen.bcast_S2x6x2048_S2x6x2048x1_0_1_2 (MlaHost.hM (up' q) (up' k))) (Host.log (hL (up' q) (up' k))) (ix4 b h i 0)
      = ((M b h i + Real.log (l q k M b h i) : ℝ) : EReal) := fun b h i => by
    refine (row_log _ _ b h i).trans ?_
    rw [hM, MlaMath.l_real q k hM, Ideal.log_coe, if_neg (l_pos q k M b h i).not_ge, EReal.coe_add]
  funext y
  obtain ⟨b, p, z, i, rfl⟩ : ∃ (b : Fin 2) (p : Fin 3) (z : Fin 8) (i : Fin 2048), y = ix4 b p z i := ⟨y 0, y 1, y 2, y 3, funext fun a => match a with
    | ⟨0, _⟩ => rfl
    | ⟨1, _⟩ => rfl
    | ⟨2, _⟩ => rfl
    | ⟨3, _⟩ => rfl⟩
  rw [rL_at]
  show (if z.val = 0 then lF (hQ (up' q)) (hQ (up' k)) true b p i else if z.val = 1 then lF (hQ (up' q)) (hQ (up' k)) false b p i else 0) = _
  by_cases h0 : z.val = 0
  · rw [if_pos h0, dif_pos (by omega), hr, lF_real q k M]
    have e : (⟨2 * p.val + z.val, by omega⟩ : Fin 6) = hd' true p := Fin.ext (show 2 * p.val + z.val = 2 * p.val + 0 by omega)
    rw [e]
  · rw [if_neg h0]
    by_cases h1 : z.val = 1
    · rw [if_pos h1, dif_pos (by omega), hr, lF_real q k M]
      have e : (⟨2 * p.val + z.val, by omega⟩ : Fin 6) = hd' false p := Fin.ext (show 2 * p.val + z.val = 2 * p.val + 1 by omega)
      rw [e]
    · rw [if_neg h1, dif_neg (by omega)]
end

/-- What the precondition says of the arrays on one device. -/
theorem reals {A0 A1 : FVec Ideal Cert.Pre_mla_fwd_finite.S2x2048x6x96 .f32} {A2 : FVec Ideal Cert.Pre_mla_fwd_finite.S2x2048x6x64 .f32}
    (h : Cert.Pre_mla_fwd_finite.fn (F := Ideal) A0 A1 A2 = fun _ => 1#1) :
    (∃ q : RH, A0 = up' q) ∧ (∃ k : RH, A1 = up' k) ∧ (∃ v : RW, A2 = up' v) := by
  obtain ⟨h, h2⟩ := Finite.both h
  obtain ⟨h0, h1⟩ := Finite.both h
  have e0 : ∀ i, ∃ r : ℝ, A0 i = r := Finite.all_real _ _ _ _ _ (congrFun h0 ix0)
  have e1 : ∀ i, ∃ r : ℝ, A1 i = r := Finite.all_real _ _ _ _ _ (congrFun h1 ix0)
  have e2 : ∀ i, ∃ r : ℝ, A2 i = r := Finite.all_real _ _ _ _ _ (congrFun h2 ix0)
  choose q hq using e0
  choose k hk using e1
  choose v hv using e2
  exact ⟨⟨q, funext hq⟩, ⟨k, funext hk⟩, ⟨v, funext hv⟩⟩

theorem algebraic : Cert.algebraic_MlaFwdIdeal_MlaFwdRefIdeal_pre_mla_fwd_finite := by
  intro m g m' g' hp hagree
  refine ⟨_, _, MlaFwdValue.run m g, θ_run_mono (Cert.MlaFwdRefIdeal.Value.run (F := Ideal) m' g') fun r h c => ?_⟩
  have hc := hp c
  obtain ⟨h0, h1, h2⟩ := hagree c
  obtain ⟨r0, r1, rest⟩ := h c
  obtain ⟨⟨q, e0⟩, ⟨k, e1⟩, ⟨v, e2⟩⟩ := reals hc
  obtain ⟨M, hM⟩ := row_max q k
  refine ⟨r0.trans ?_, r1.trans ?_, rest⟩
  · rw [Cert.MlaFwdRefIdeal.Value.res_main_v34, h0, h1, h2, MlaFwdValue.V_q, MlaFwdValue.V_k, MlaFwdValue.V_v]
    refine (o_text _ _ _).trans ?_
    rw [e0, e1, e2]
    exact (o_real' q k v hM).symm
  · rw [h0, h1, MlaFwdValue.V_q, MlaFwdValue.V_k]
    refine (l_text _ _).trans ?_
    rw [e0, e1]
    exact (l_real' q k hM).symm

end Cert.Proof.MlaFwdClaim
-- ==== Proof.RelTable.lean ====
/- The gradient of the bias table: the kernel's body as a table filled one entry after another. Entry `(h, t)` takes the
   sum of the head's cotangents over the places whose bucket is `t`. -/
module

public import proofs.«01_k».proof.Proof.Gen.RelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.RelTable

open Cert.RelIdeal Cert.RelIdeal.Gen Idealize.ShloMosaic Idealize.ShloMosaic.TcCoe Idealize.SL.Sem

/-- The sum of `x` over the places whose bucket is `t`. -/
def part (b : IVec S128x256 32) (x : FVec Ideal S128x256 .f32) (t : BitVec 32) : EReal :=
  extractAt ![0, 0, 0] (shapeCast S1x1x1 (multiReduction .add [1, 2] S1 (shapeCast S1x128x256
    (select (cmpi .eq b (broadcast S128x256 t)) x (broadcast S128x256 (Scalar.ofBits (F := Ideal) .f32 0x00000000#32)))
    shapeCasts_S128x256_S1x128x256) 0x00000000#32 reduces_S1x128x256_S1 (.inl rfl) rfl) shapeCasts_S1_S1x1x1) inpos_S1x1x1_p0_0_0

/-- The table with entry `(h, t)` replaced by `v`. -/
def put (h t : BitVec 32) (v : EReal) (r : FVec Ideal S8x128 .f32) : FVec Ideal S8x128 .f32 :=
  select (andi (cmpi .eq (iota .tc S8x128 32 [0] iota_S8x128_d0_w32) (broadcast S8x128 h))
      (cmpi .eq (iota .tc S8x128 32 [1] iota_S8x128_d1_w32) (broadcast S8x128 t)))
    (broadcastTo S8x128 (shapeCast S1x1 (broadcast S1x1 v) shapeCasts_S1x1_S1x1) broadcasts_S1x1_S8x128) r

/-- The buckets. -/
abbrev buckets : List (BitVec 32) := [0#32, 1#32, 2#32, 3#32, 4#32, 5#32, 6#32, 7#32, 8#32, 9#32, 10#32, 11#32, 12#32, 13#32, 14#32, 15#32, 16#32, 17#32, 18#32, 19#32, 20#32, 21#32, 22#32, 23#32, 24#32, 25#32, 26#32, 27#32, 28#32, 29#32, 30#32, 31#32]

/-- One head's row filled, bucket after bucket. -/
def fill (b : IVec S128x256 32) (h : BitVec 32) (x : FVec Ideal S128x256 .f32) (r : FVec Ideal S8x128 .f32) : FVec Ideal S8x128 .f32 :=
  buckets.foldl (fun r t => put h t (part b x t) r) r

/-- What the body stores, of the blocks it reads and the values it keeps. -/
def storedOf {F : FTy → Type} [FloatOps F] (x0 : Vec F S6x128x256 .f32) (x1 : Vec F S128x256 .i32) (s : IVec S128x256 32) (t : IVec S8x128 32) (u : IVec S8x128 32) (p : FVec F S128x256 .f32) (q : FVec F S128x256 .f32) (v : FVec F S128x256 .f32) (w : FVec F S128x256 .f32) (y : FVec F S128x256 .f32) (z : FVec F S128x256 .f32) : FVec F S8x128 .f32 :=
  k0_pay1 (k0_pay176 s t u z (k0_pay174 s t u z (k0_pay172 s t u z (k0_pay169 s t u z (k0_pay168 s t u z (k0_pay166 s t u z (k0_pay164 s t u z (k0_pay160 s t u z (k0_pay158 s t u z (k0_pay156 s t u z (k0_pay153 s t u z (k0_pay150 s t u (k0_pay147 s t u y (k0_pay144 s t u y (k0_pay141 s t u y (k0_pay138 s t u y (k0_pay136 s t u y (k0_pay132 s t u y (k0_pay131 s t u y (k0_pay129 s t u y (k0_pay127 s t u y (k0_pay124 s t u y (k0_pay122 s t u y (k0_pay120 s t u w (k0_pay116 s t u w (k0_pay114 s t u w (k0_pay112 s t u w (k0_pay109 s t u w (k0_pay108 s t u w (k0_pay106 s t u w (k0_pay104 s t u w (k0_pay100 s t u w (k0_pay98 s t u w (k0_pay96 s t u w (k0_pay93 s t u (k0_pay89 s t u v (k0_pay87 s t u v (k0_pay84 s t u v (k0_pay81 s t u v (k0_pay78 s t u v (k0_pay76 s t u v (k0_pay72 s t u v (k0_pay71 s t u v (k0_pay69 s t u v (k0_pay67 s t u v (k0_pay64 s t u v (k0_pay62 s t u (k0_pay59 s t u q (k0_pay56 s t u q (k0_pay54 s t u q (k0_pay52 s t u q (k0_pay49 s t u q (k0_pay48 s t u q (k0_pay46 s t u q (k0_pay44 s t u q (k0_pay40 s t u q (k0_pay38 s t u q (k0_pay36 s t u q (k0_pay33 s t u (k0_pay31 s t u p (k0_pay29 s t u p (k0_pay26 s t u p (k0_pay23 s t u p (k0_pay20 s t u p (k0_pay18 s t u p (k0_pay14 s t u p (k0_pay13 s t u p (k0_pay11 s t u p (k0_pay9 s t u p (k0_pay6 s t u p (k0_pay4 (View.ld x1 r0_0) (View.ld x0 r0_1)) (k0_pay5 (View.ld x1 r0_0))) (k0_pay7 s p) (k0_pay8 t u)) (k0_pay10 s p) 0#32) (k0_pay12 s p)) 13#32) (k0_pay15 s p) (k0_pay16 t) k0_pay17) (k0_pay19 s p)) (k0_pay21 s) (k0_pay22 )) (k0_pay24 t u) (k0_pay25 s p)) (k0_pay27 s p) (k0_pay28 t)) (k0_pay30 s p)) (View.ld x0 r0_2)) (k0_pay34 s (View.ld x0 r0_2)) k0_pay35) (k0_pay37 s q)) k0_pay39) (k0_pay41 s q) (k0_pay42 t) (k0_pay43 u)) (k0_pay45 s q)) (k0_pay47 s q))) (k0_pay50 s q) (k0_pay51 t) 21#32) (k0_pay53 s q)) (k0_pay55 s) (Scalar.ofBits .f32 0x00000000#32)) (k0_pay57 t u) (k0_pay58 s q)) v (k0_pay61 s (View.ld x0 r0_3))) (k0_pay63 s)) (k0_pay65 s v) (k0_pay66 t u)) (k0_pay68 s v) 2#32) (k0_pay70 s v)) 14#32) (k0_pay73 s v) (k0_pay74 t) k0_pay75) (k0_pay77 s v)) (k0_pay79 s) (k0_pay80 )) (k0_pay82 t u) (k0_pay83 s v)) (k0_pay85 s v) (k0_pay86 t)) (k0_pay88 s v)) w (k0_pay91 t u) (k0_pay92 s (View.ld x0 r0_4))) (k0_pay94 s w) k0_pay95) (k0_pay97 s w)) k0_pay99) (k0_pay101 s w) (k0_pay102 t) (k0_pay103 u)) (k0_pay105 s w)) (k0_pay107 s w))) (k0_pay110 s w) (k0_pay111 t) 22#32) (k0_pay113 s w)) (k0_pay115 s) (Scalar.ofBits .f32 0x00000000#32)) (k0_pay117 t u) (k0_pay118 s w) (View.ld x0 r0_5)) (k0_pay121 s (View.ld x0 r0_5))) (k0_pay123 s)) (k0_pay125 s y) (k0_pay126 t u)) (k0_pay128 s y) 4#32) (k0_pay130 s y)) 15#32) (k0_pay133 s y) (k0_pay134 t) k0_pay135) (k0_pay137 s y)) (k0_pay139 s) (k0_pay140 )) (k0_pay142 t u) (k0_pay143 s y)) (k0_pay145 s y) (k0_pay146 t)) (k0_pay148 s y) (View.ld x0 r0_6)) (k0_pay151 t u) (k0_pay152 s (View.ld x0 r0_6))) (k0_pay154 s z) k0_pay155) (k0_pay157 s z)) k0_pay159) (k0_pay161 s z) (k0_pay162 t) (k0_pay163 u)) (k0_pay165 s z)) (k0_pay167 s z))) (k0_pay170 s z) (k0_pay171 t) 23#32) (k0_pay173 s z)) (k0_pay175 s) (Scalar.ofBits .f32 0x00000000#32)) (k0_pay177 t u) (k0_pay178 s z)

/-- What the body stores, of the blocks it reads. -/
def stored {F : FTy → Type} [FloatOps F] (x0 : Vec F S6x128x256 .f32) (x1 : Vec F S128x256 .i32) : FVec F S8x128 .f32 :=
  storedOf x0 x1 (k0_pay181 x0 x1) (k0_pay179 x0 x1) (k0_pay180 x0 x1) (k0_pay182 x0 x1) (k0_pay183 x0 x1) (k0_pay184 x0 x1) (k0_pay185 x0 x1) (k0_pay186 x0 x1) (k0_pay187 x0 x1)

/-- The table filled, head after head. -/
def table (x0 : Vec Ideal S6x128x256 .f32) (x1 : Vec Ideal S128x256 .i32) : FVec Ideal S8x128 .f32 :=
    fill (shapeCast S128x256 (View.ld x1 r0_0) shapeCasts_S128x256_S128x256) 5#32 (shapeCast S128x256 (View.ld x0 r0_6) shapeCasts_S1x128x256_S128x256) <|
    fill (shapeCast S128x256 (View.ld x1 r0_0) shapeCasts_S128x256_S128x256) 4#32 (shapeCast S128x256 (View.ld x0 r0_5) shapeCasts_S1x128x256_S128x256) <|
    fill (shapeCast S128x256 (View.ld x1 r0_0) shapeCasts_S128x256_S128x256) 3#32 (shapeCast S128x256 (View.ld x0 r0_4) shapeCasts_S1x128x256_S128x256) <|
    fill (shapeCast S128x256 (View.ld x1 r0_0) shapeCasts_S128x256_S128x256) 2#32 (shapeCast S128x256 (View.ld x0 r0_3) shapeCasts_S1x128x256_S128x256) <|
    fill (shapeCast S128x256 (View.ld x1 r0_0) shapeCasts_S128x256_S128x256) 1#32 (shapeCast S128x256 (View.ld x0 r0_2) shapeCasts_S1x128x256_S128x256) <|
    fill (shapeCast S128x256 (View.ld x1 r0_0) shapeCasts_S128x256_S128x256) 0#32 (shapeCast S128x256 (View.ld x0 r0_1) shapeCasts_S1x128x256_S128x256)
      (broadcast S8x128 (Scalar.ofBits (F := Ideal) .f32 0x00000000#32))

set_option maxHeartbeats 4000000 in
theorem stored_eq (x0 : Vec Ideal S6x128x256 .f32) (x1 : Vec Ideal S128x256 .i32) : stored x0 x1 =
    table x0 x1 := by
  rfl

end Cert.Proof.RelTable
-- ==== Proof.RelValue.lean ====
/- The gradient of the bias table: the kernel's result read at an entry. -/
module

public import proofs.«01_k».proof.Proof.RelTable
public import proofs.«01_k».proof.Proof.Gen.RelRefIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.RelValue

open Cert.RelIdeal Cert.RelIdeal.Gen Cert.Proof.RelTable Idealize.ShloMosaic Idealize.ShloMosaic.TcCoe Idealize.SL.Sem

variable (m : (ℓ : Loc nD τ sig) → Buf (Elt Ideal) ℓ)

/-- One entry of the table: the sum of the head's cotangents over the places whose bucket is `t`. -/
def entry (b : (⟨2, ![128, 256]⟩ : Shape).Idx → BitVec 32) (x : (⟨2, ![128, 256]⟩ : Shape).Idx → EReal) (t : BitVec 32) : EReal :=
  ∑ p : Fin 128, ∑ q : Fin 256, if b (ix2 p q) = t then x (ix2 p q) else 0

theorem select_eq {α : Type} (a t : BitVec 32) (v r : α) : Scalar.select (IntOp.cmpi CmpIPredicate.eq a t) v r = if a = t then v else r := by
  by_cases h : a = t
  · simp [Scalar.select, IntOp.cmpi, h]
  · simp [Scalar.select, IntOp.cmpi, beq_eq_false_iff_ne.mpr h, h]

theorem select_and {α : Type} (a h b t : BitVec 32) (v r : α) :
    Scalar.select (IntOp.andi (IntOp.cmpi CmpIPredicate.eq a h) (IntOp.cmpi CmpIPredicate.eq b t)) v r = if a = h ∧ b = t then v else r := by
  by_cases h0 : a = h
  · by_cases h1 : b = t
    · simp [Scalar.select, IntOp.andi, IntOp.cmpi, h0, h1]
    · simp [Scalar.select, IntOp.andi, IntOp.cmpi, h0, beq_eq_false_iff_ne.mpr h1, h1]
  · by_cases h1 : b = t
    · simp [Scalar.select, IntOp.andi, IntOp.cmpi, h1, beq_eq_false_iff_ne.mpr h0, h0]
    · simp [Scalar.select, IntOp.andi, IntOp.cmpi, beq_eq_false_iff_ne.mpr h0, beq_eq_false_iff_ne.mpr h1, h0]

theorem part_eq (b : IVec S128x256 32) (x : FVec Ideal S128x256 .f32) (t : BitVec 32) : part b x t = entry b x t := by
  pointwise [part, entry]
  simp only [select_eq]

theorem put_at (h t : BitVec 32) (v : EReal) (r : FVec Ideal S8x128 .f32) (y : S8x128.Idx) :
    put h t v r y = if BitVec.ofNat 32 (y 0).val = h ∧ BitVec.ofNat 32 (y 1).val = t then v else r y := by
  pointwise [put]
  exact select_and _ _ _ _ _ _

theorem fold_at (b : IVec S128x256 32) (h : BitVec 32) (x : FVec Ideal S128x256 .f32) (y : S8x128.Idx) (L : List (BitVec 32)) :
    ∀ r : FVec Ideal S8x128 .f32, L.foldl (fun r t => put h t (part b x t) r) r y
      = if BitVec.ofNat 32 (y 0).val = h ∧ BitVec.ofNat 32 (y 1).val ∈ L then entry b x (BitVec.ofNat 32 (y 1).val) else r y := by
  induction L with
  | nil => intro r; simp
  | cons t L ih =>
    intro r
    rw [List.foldl_cons, ih, put_at, part_eq]
    by_cases h0 : BitVec.ofNat 32 (y 0).val = h
    · by_cases h1 : BitVec.ofNat 32 (y 1).val = t
      · subst h1
        simp [h0]
      · simp [h0, h1]
    · simp [h0]

theorem mem_buckets : ∀ c : Fin 128, BitVec.ofNat 32 c.val ∈ buckets ↔ c.val < 32 := by decide +kernel

theorem fill_at (b : IVec S128x256 32) (h : BitVec 32) (x : FVec Ideal S128x256 .f32) (r : FVec Ideal S8x128 .f32) (y : S8x128.Idx) :
    fill b h x r y = if BitVec.ofNat 32 (y 0).val = h ∧ (y 1).val < 32 then entry b x (BitVec.ofNat 32 (y 1).val) else r y := by
  unfold fill
  rw [fold_at]
  exact if_congr (and_congr Iff.rfl (mem_buckets (y 1))) rfl rfl

/-- The gradient of the bias table, of the buckets and the bias's cotangent: heads by buckets, padded by zeros. -/
def grad (b : (⟨2, ![128, 256]⟩ : Shape).Idx → BitVec 32) (x : (⟨3, ![6, 128, 256]⟩ : Shape).Idx → EReal) :
    (⟨2, ![8, 128]⟩ : Shape).Idx → EReal :=
  fun y => if (y 0).val < 6 ∧ (y 1).val < 32 then
    entry b (fun i => x (ix3 ⟨(y 0).val % 6, Nat.mod_lt _ (by decide)⟩ (i 0) (i 1))) (BitVec.ofNat 32 (y 1).val) else 0

theorem buckets_read (x1 : Vec Ideal S128x256 .i32) : shapeCast S128x256 (View.ld x1 r0_0) shapeCasts_S128x256_S128x256 = x1 := by
  exact (shapeCast_self _ _).trans (View.ld_unit_lit _ _ (by decide))

theorem head_read (x0 : Vec Ideal S6x128x256 .f32) (k : Nat) (hk : k < 6) (hin : ∀ a, ![k, 0, 0] a + S1x128x256.size a ≤ S6x128x256.size a) :
    shapeCast S128x256 (View.ld x0 (Rect.unit (s := S6x128x256) ![k, 0, 0] S1x128x256.size hin)) shapeCasts_S1x128x256_S128x256
      = fun i => x0 (ix3 ⟨k, hk⟩ (i 0) (i 1)) := by
  funext i
  rw [shapeCast_dropUnit_apply ![128, 256]]
  rw [View.ld_apply]
  refine congrArg x0 (funext fun a => Fin.ext ?_)
  fin_cases a
  · simp [ix3]
  · simp [ix3]
    rfl
  · simp [ix3]
    rfl

theorem table_at (x0 : Vec Ideal S6x128x256 .f32) (x1 : Vec Ideal S128x256 .i32) (y : S8x128.Idx) :
    table x0 x1 y = grad x1 x0 y := by
  have h0 := (y 0).isLt
  unfold table
  rw [buckets_read, head_read x0 0 (by decide), head_read x0 1 (by decide), head_read x0 2 (by decide), head_read x0 3 (by decide), head_read x0 4 (by decide), head_read x0 5 (by decide)]
  simp only [fill_at]
  unfold grad
  have h8 : (y 0).val < 8 := h0
  have hn : (y 0).val = 0 ∨ (y 0).val = 1 ∨ (y 0).val = 2 ∨ (y 0).val = 3 ∨ (y 0).val = 4 ∨ (y 0).val = 5 ∨ (y 0).val = 6 ∨ (y 0).val = 7 := by
    omega
  have hz : broadcast S8x128 (FloatOps.ofBits (F := Ideal) .f32 0#32) y = (0 : EReal) := by
    pointwise []
  rw [hz]
  by_cases hc : (y 1).val < 32
  · rcases hn with h | h | h | h | h | h | h | h <;> simp [hc, h]
  · simp [hc]

theorem idx0 : ∀ t : Fin cfg0.N, win0_0.index t = ![0, 0, 0] :=
  (by decide +kernel : ∀ t : Fin grid0.N, win0_0.index t = ![0, 0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])

theorem final (c : Dev nD) : (dats m 0 c).arrAt 2 cfg0.N = grad (V m c main_v28) (m ((c : Thread nD τ).loc main_arg1)) := by
  refine (dats m 0 c).arrAt_eq_of_covers 2 _ (by decide +kernel) fun t hf y => ?_
  blk_simp
  rw [after0_2]
  have e : out0_2 (iblk m c 0 t) (iblk m c 1 t) y = stored (iblk m c 0 t) (iblk m c 1 t) y := by
    unfold out0_2 stored storedOf
    frame_out
  rw [e, stored_eq, table_at]
  have hx : iblk m c 0 t = m ((c : Thread nD τ).loc main_arg1) := by
    funext i
    blk_point [iblk, V, idx0 t]
    done
  have hb : iblk m c 1 t = V m c main_v28 := by
    funext i
    blk_point [iblk, idx1 t]
    done
  rw [hx, hb]
  generalize grad (V m c main_v28) (m ((c : Thread nD τ).loc main_arg1)) = g
  blk_point [idx2 t]
  done

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v29) = grad (V m c main_v28) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  simpa only [final] using Cert.RelIdeal.Value.run_blocks m ρ

end Cert.Proof.RelValue
-- ==== Proof.RelClaim.lean ====
/- The gradient of the bias table: the claims about the pair. -/
module

public import proofs.«01_k».proof.Defs
public import proofs.«01_k».proof.Proof.Gen.Rel.Frame
public import proofs.«01_k».proof.Proof.RelValue
public import Idealize.ShloMosaic.Lib.Routing.OpsPair
public import Idealize.ShloMosaic.Lib.Pointwise
public import Idealize.ShloMosaic.Lib.Pipeline.ValueKit
public import proofs.«01_k».proof.Proof.Reals

@[expose] public section

set_option maxRecDepth 16384

noncomputable section

namespace Cert.Proof.RelClaim

open  Idealize.ShloMosaic Idealize.ShloMosaic.TcCoe Idealize.SL.Sem

/-- The reference's frame. -/
theorem frame_ref : Cert.quiescent_RelRefIdeal := fun m ρ _ =>
  (θ_run Cert.RelRefIdeal.defs _ _).mono (fun r h => ⟨fun c => (h c).2, sem_eq_zero_of_no_sems (by decide) r.2⟩)
    (Cert.RelRefIdeal.Value.run (F := Ideal) m ρ)

/-- The word a place's distance maps to. -/
def word (a : Fin 128) (b : Fin 256) : BitVec 32 :=
  IntOp.maxsi (IntOp.subi (IntOp.addi 128#32 (BitVec.ofNat 32 a.val)) (BitVec.ofNat 32 b.val)) 0#32

/-- The bucket of a place: exact for the small distances, logarithmic for the others. -/
def bucket : (⟨2, ![128, 256]⟩ : Shape).Idx → BitVec 32 := fun i =>
  Scalar.select (IntOp.cmpi .slt (word (i 0) (i 1)) 16#32) (word (i 0) (i 1))
    (IntOp.minsi (IntOp.addi 16#32 (Ideal.fptosi 32 (Ideal.div (Ideal.log (Ideal.div ((((IntOp.maxsi (word (i 0) (i 1)) 1#32).toInt : ℝ) : EReal)) (Ideal.ofBits .f32 0x41800000#32))) (Ideal.ofBits .f32 0x40051592#32) * Ideal.ofBits .f32 0x41800000#32))) 31#32)

/-- What is used of a distance's word: it is not negative, and from 16 on it stays below 256. -/
def Fine (w : BitVec 32) : Prop := 0 ≤ w.toInt
  ∧ (IntOp.cmpi .slt w 16#32 = 1#1 ∨ 16 ≤ (IntOp.maxsi w 1#32).toInt ∧ (IntOp.maxsi w 1#32).toInt ≤ 255)

theorem fine_pos : ∀ k : Fin 256, Fine (IntOp.maxsi (BitVec.ofNat 32 k.val) 0#32) := by
  unfold Fine
  decide +kernel

theorem fine_neg : ∀ k : Fin 128, Fine (IntOp.maxsi (-(BitVec.ofNat 32 k.val)) 0#32) := by
  unfold Fine
  decide +kernel

theorem word_range (a : Fin 128) (b : Fin 256) : Fine (word a b) := by
  have ha := a.isLt
  have hb := b.isLt
  by_cases h : b.val ≤ 128 + a.val
  · have e : word a b = IntOp.maxsi (BitVec.ofNat 32 (128 + a.val - b.val)) 0#32 := by
      unfold word
      congr 1
      apply BitVec.eq_of_toNat_eq
      simp [IntOp.subi, IntOp.addi]
      omega
    rw [e]
    exact fine_pos ⟨_, by omega⟩
  · have e : word a b = IntOp.maxsi (-(BitVec.ofNat 32 (b.val - (128 + a.val)))) 0#32 := by
      unfold word
      congr 1
      apply BitVec.eq_of_toNat_eq
      simp [IntOp.subi, IntOp.addi]
      omega
    rw [e]
    exact fine_neg ⟨_, by omega⟩

theorem small : ∀ k : Fin 1001, 0 ≤ (IntOp.minsi (IntOp.addi 16#32 (BitVec.ofNat 32 k.val)) 31#32).toInt := by
  decide +kernel

theorem word_scale : Ideal.ofBits .f32 0x40051592#32 = ((8721810 / 4194304 : ℝ) : EReal) := by
  simp [Ideal.ofBits, Ideal.ieee, -EReal.coe_mul]; norm_num

theorem word_sixteen : Ideal.ofBits .f32 0x41800000#32 = ((16 : ℝ) : EReal) := by
  simp [Ideal.ofBits, Ideal.ieee, -EReal.coe_mul]; norm_num

/-- No bucket is negative. -/
theorem bucket_nonneg (i : (⟨2, ![128, 256]⟩ : Shape).Idx) : 0 ≤ (bucket i).toInt := by
  obtain ⟨h0, h1⟩ := word_range (i 0) (i 1)
  unfold bucket
  rcases h1 with h1 | ⟨h1, h2⟩
  · rw [h1]
    exact h0
  · unfold Scalar.select
    split
    · exact h0
    · generalize (IntOp.maxsi (word (i 0) (i 1)) 1#32).toInt = n at h1 h2 ⊢
      have hn : (16 : ℝ) ≤ (n : ℝ) := by exact_mod_cast h1
      have hn' : (n : ℝ) ≤ 255 := by exact_mod_cast h2
      rw [word_scale, word_sixteen, Reals.div_real _ (by norm_num), Ideal.log_coe, if_neg (by linarith), Reals.div_real _ (by norm_num), ← EReal.coe_mul]
      have hp : (0 : ℝ) ≤ Real.log (n / 16) := Real.log_nonneg (by linarith)
      have hq : Real.log ((n : ℝ) / 16) ≤ n / 16 - 1 := Real.log_le_sub_one_of_pos (by linarith)
      generalize Real.log ((n : ℝ) / 16) = l at hp hq ⊢
      have hy : (0 : ℝ) ≤ l / (8721810 / 4194304) * 16 := by positivity
      have hy' : l / (8721810 / 4194304) * 16 ≤ 1000 := by
        rw [div_mul_eq_mul_div, div_le_iff₀ (by norm_num)]
        linarith
      generalize l / (8721810 / 4194304) * 16 = v at hy hy' ⊢
      have hf : 0 ≤ ⌊v⌋ := Int.floor_nonneg.mpr hy
      have hf' : ⌊v⌋ ≤ 1000 := by
        have := (Int.floor_le v).trans hy'
        exact_mod_cast this
      have e : Ideal.fptosi 32 (v : EReal) = BitVec.ofNat 32 ⌊v⌋.toNat := by
        show BitVec.ofInt 32 (max _ (min _ (if 0 ≤ v then ⌊v⌋ else ⌈v⌉))) = _
        rw [if_pos hy]
        have : max (-((2 ^ (32 - 1) : ℕ) : ℤ)) (min (((2 ^ (32 - 1) : ℕ) : ℤ) - 1) ⌊v⌋) = ⌊v⌋ := by
          norm_num
          omega
        rw [this]
        obtain ⟨k, hk⟩ := Int.eq_ofNat_of_zero_le hf
        rw [hk]
        simp
      rw [e]
      exact small ⟨⌊v⌋.toNat, by omega⟩

section
open Cert.RelIdeal Cert.RelIdeal.Gen

theorem V_bucket (m : (ℓ : Loc nD τ sig) → Buf (Elt Ideal) ℓ) (c : Dev nD) : V m c main_v28 = bucket := by
  have e : V m c main_v28 = (select (cmpi .slt (maxsi (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (broadcastInDim S128x256 ![] bcast_S_S128x256 (constantI S_ 32 16#32))) (maxsi (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (minsi (addi (broadcastInDim S128x256 ![] bcast_S_S128x256 (constantI S_ 32 16#32)) (fptosi 32 (mulf (Host.divf (Host.log (Host.divf (sitofp .f32 (maxsi (maxsi (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (broadcastInDim S128x256 ![] bcast_S_S128x256 (constantI S_ 32 1#32)))) (broadcastInDim S128x256 ![] bcast_S_S128x256 (constant S_ .f32 0x41800000#32)))) (broadcastInDim S128x256 ![] bcast_S_S128x256 (constant S_ .f32 0x40051592#32))) (broadcastInDim S128x256 ![] bcast_S_S128x256 (constant S_ .f32 0x41800000#32)) : FVec Ideal S128x256 .f32))) (broadcastInDim S128x256 ![] bcast_S_S128x256 (constantI S_ 32 31#32)))) := by
    unfold V
    simp only [List.flatten_cons, List.flatten_nil, List.cons_append, List.nil_append]
    after_results
    simp only [StableHlo.TRef.toBuf, StableHlo.TRef.ofBuf, eq_self, cast_eq, eqRec_eq_cast]
  rw [e]
  funext i
  pointwise [bucket, word]
  rfl
end

section
open Cert.RelRefIdeal Cert.RelRefIdeal.Gen

theorem ref_bucket : (select (cmpi .slt (maxsi (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (broadcastInDim S128x256 ![] bcast_S_S128x256 (constantI S_ 32 16#32))) (maxsi (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (minsi (addi (broadcastInDim S128x256 ![] bcast_S_S128x256 (constantI S_ 32 16#32)) (fptosi 32 (mulf (Host.divf (Host.log (Host.divf (sitofp .f32 (maxsi (maxsi (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (broadcastInDim S128x256 ![] bcast_S_S128x256 (constantI S_ 32 1#32)))) (broadcastInDim S128x256 ![] bcast_S_S128x256 (constant S_ .f32 0x41800000#32)))) (broadcastInDim S128x256 ![] bcast_S_S128x256 (constant S_ .f32 0x40051592#32))) (broadcastInDim S128x256 ![] bcast_S_S128x256 (constant S_ .f32 0x41800000#32)) : FVec Ideal S128x256 .f32))) (broadcastInDim S128x256 ![] bcast_S_S128x256 (constantI S_ 32 31#32)))) = bucket := by
  funext i
  pointwise [bucket, word]
  rfl

theorem lands (I : IVec S128x256x1 32) (p : Fin 128) (q : Fin 256) (h : Fin 6) (t : Fin 32) (k : Fin 6) :
    scatter_S32x6_S128x256x1_S128x256x6_2_0_0_2.resultIdx? (ix3 p q h) I = some (ix2 t k)
      ↔ (I (ix3 p q 0)).toInt = t.val ∧ h = k := by
  have hs0 : scatter_S32x6_S128x256x1_S128x256x6_2_0_0_2.start (ix3 p q h) I 0 = (I (ix3 p q 0)).toInt := by
    unfold ScatterDims.start
    rw [dif_pos (by decide)]
    refine congrArg (fun j => (I j).toInt) (funext fun b => ?_)
    fin_cases b <;> rfl
  have hs1 : scatter_S32x6_S128x256x1_S128x256x6_2_0_0_2.start (ix3 p q h) I 1 = 0 := by
    unfold ScatterDims.start
    rw [dif_neg (by decide)]
  have hw0 : scatter_S32x6_S128x256x1_S128x256x6_2_0_0_2.window (ix3 p q h) 0 = 0 := by
    unfold ScatterDims.window
    rw [dif_neg (by decide)]
  have hw1 : scatter_S32x6_S128x256x1_S128x256x6_2_0_0_2.window (ix3 p q h) 1 = h.val := by
    unfold ScatterDims.window
    rw [dif_pos (by decide)]
    rfl
  rw [Routing.resultIdx?_eq_some, Fin.forall_fin_two, hs0, hs1, hw0, hw1, Fin.ext_iff]
  show (I (ix3 p q 0)).toInt + ((0 : ℕ) : ℤ) = (t.val : ℤ) ∧ (0 : ℤ) + (h.val : ℤ) = (k.val : ℤ) ↔ _
  omega

theorem ref_at (B : IVec S128x256 32) (hB : ∀ i, 0 ≤ (B i).toInt) (A1 : FVec Ideal S6x128x256 .f32) :
    pad S8x128 ![0, 0] ![2, 96] ![0, 0] (transpose S6x32 [1, 0] (Host.scatterAdd scatter_S32x6_S128x256x1_S128x256x6_2_0_0_2 (broadcastInDim S32x6 ![] bcast_S_S32x6 (constant S_ .f32 0x00000000#32)) (broadcastInDim S128x256x1 ![0, 1] bcast_S128x256_S128x256x1_0_1 (select (cmpi .slt B (broadcastInDim S128x256 ![] bcast_S_S128x256 (constantI S_ 32 0#32))) (addi B (broadcastInDim S128x256 ![] bcast_S_S128x256 (constantI S_ 32 32#32))) B)) (transpose S128x256x6 [1, 2, 0] A1 transposes_S6x128x256_S128x256x6_1_2_0)) transposes_S32x6_S6x32_1_0) (sitofp .f32 (constantI S_ 32 0#32)) pads_S6x32_S8x128_020_0960 h_S_ = RelValue.grad B A1 := by
  have hsel : select (cmpi .slt B (broadcastInDim S128x256 ![] bcast_S_S128x256 (constantI S_ 32 0#32))) (addi B (broadcastInDim S128x256 ![] bcast_S_S128x256 (constantI S_ 32 32#32))) B = B := by
    funext i
    have h := hB i
    pointwise []
    have hs : (B i).slt 0#32 = false := by simp [BitVec.slt, h]
    simp [Scalar.select, IntOp.cmpi, hs]
  rw [hsel]
  have hS : ∀ (t : Fin 32) (k : Fin 6), Host.scatterAdd (F := Ideal) (φ := .f32) scatter_S32x6_S128x256x1_S128x256x6_2_0_0_2 (broadcastInDim S32x6 ![] bcast_S_S32x6 (constant S_ .f32 0x00000000#32)) (broadcastInDim S128x256x1 ![0, 1] bcast_S128x256_S128x256x1_0_1 B) (transpose S128x256x6 [1, 2, 0] A1 transposes_S6x128x256_S128x256x6_1_2_0) (ix2 t k)
      = RelValue.entry B (fun i => A1 (ix3 k (i 0) (i 1))) (BitVec.ofNat 32 t.val) := by
    intro t k
    show Ideal.hostScatterAdd _ _ _ _ _ = _
    unfold Ideal.hostScatterAdd RelValue.entry
    rw [Finset.sum_filter, sum_idx3]
    simp only [lands]
    have h0 : broadcastInDim S32x6 ![] bcast_S_S32x6 (constant (F := Ideal) S_ .f32 0x00000000#32) (ix2 t k) = (0 : EReal) := by
      pointwise []
    rw [h0, zero_add]
    refine Finset.sum_congr rfl fun p _ => Finset.sum_congr rfl fun q _ => ?_
    rw [Finset.sum_eq_single k]
    · have hb : broadcastInDim S128x256x1 ![0, 1] bcast_S128x256_S128x256x1_0_1 B (ix3 p q 0) = B (ix2 p q) := by
        pointwise []
      have ht : transpose S128x256x6 [1, 2, 0] A1 transposes_S6x128x256_S128x256x6_1_2_0 (ix3 p q k) = A1 (ix3 k p q) := by
        pointwise []
      rw [hb, ht]
      refine if_congr ?_ rfl rfl
      have := t.isLt
      constructor
      · intro h
        rw [← BitVec.ofInt_toInt (x := B (ix2 p q)), h.1, BitVec.ofInt_natCast]
      · intro h
        refine ⟨?_, rfl⟩
        rw [h]
        exact (by decide : ∀ t : Fin 32, (BitVec.ofNat 32 t.val).toInt = (t.val : ℤ)) t
    · intro h _ hk
      rw [if_neg fun e => hk e.2]
    · intro h
      exact absurd (Finset.mem_univ _) h
  generalize Host.scatterAdd (F := Ideal) (φ := .f32) scatter_S32x6_S128x256x1_S128x256x6_2_0_0_2 _ _ _ = S at hS ⊢
  funext y
  pointwise [RelValue.grad]
  by_cases h : (y 0).val < 6 ∧ (y 1).val < 32
  · rw [dif_pos h, if_pos h, hS]
    simp only [Nat.mod_eq_of_lt h.1]
  · rw [dif_neg h, if_neg h]
    show (((0#32 : BitVec 32).toInt : ℝ) : EReal) = 0
    simp

end
theorem algebraic : Cert.algebraic_RelIdeal_RelRefIdeal := by
  intro m g m' g' _ hagree
  refine ⟨_, RelValue.run m g, θ_run_mono (Cert.RelRefIdeal.Value.run (F := Ideal) m' g') fun r h c => ?_⟩
  obtain ⟨h0, h1⟩ := hagree c
  obtain ⟨r0, rest⟩ := h c
  refine ⟨r0.trans ?_, rest⟩
  rw [← h1, V_bucket, ← ref_bucket]
  exact ref_at _ (by rw [ref_bucket]; exact bucket_nonneg) _

end Cert.Proof.RelClaim
-- ==== Proof.RelFwdTable.lean ====
/- The biases of the window attention, built from the table of relative positions: the kernel's body picks, place after place, the
   table's entry of the place's bucket. -/
module

public import proofs.«01_k».proof.Proof.Gen.RelFwdIdeal.Value
public import proofs.«01_k».proof.Proof.Gen.RelFwdRefIdeal.Run
public import proofs.«01_k».proof.Proof.RelClaim
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.RelFwdValue

open Cert.Proof.RelTable (buckets)
open Cert.Proof.RelClaim (bucket bucket_nonneg)
open Cert.RelFwdIdeal Cert.RelFwdIdeal.Gen Idealize.ShloMosaic Idealize.ShloMosaic.TcCoe Idealize.SL.Sem

variable (m : (ℓ : Loc nD τ sig) → Buf (Elt Ideal) ℓ)

/-- Entry `(h, t)` of the table, as the body takes it: a sum with the other entries replaced by zero. -/
def taken (T : FVec Ideal S8x128 .f32) (h t : BitVec 32) : EReal :=
  extractAt ![0, 0, 0] (shapeCast S1x1x1 (multiReduction .add [1, 2] S1 (shapeCast S1x8x128
    (select (andi (cmpi .eq (iota .tc S8x128 32 [0] iota_S8x128_d0_w32) (broadcast S8x128 h))
        (cmpi .eq (iota .tc S8x128 32 [1] iota_S8x128_d1_w32) (broadcast S8x128 t))) T (broadcast S8x128 (Scalar.ofBits (F := Ideal) .f32 0x00000000#32)))
    shapeCasts_S8x128_S1x8x128) 0x00000000#32 reduces_S1x8x128_S1 (.inl rfl) rfl) shapeCasts_S1_S1x1x1) inpos_S1x1x1_p0_0_0

/-- The places of bucket `t` set to the table's entry. -/
def pick (b : IVec S128x256 32) (T : FVec Ideal S8x128 .f32) (h : BitVec 32) (r : FVec Ideal S128x256 .f32) (t : BitVec 32) : FVec Ideal S128x256 .f32 :=
  select (cmpi .eq b (broadcast S128x256 t))
    (broadcastTo S128x256 (shapeCast S1x1 (broadcast S1x1 (taken T h t)) shapeCasts_S1x1_S1x1) broadcasts_S1x1_S128x256) r

/-- One head's biases. -/
def head (x0 : Vec Ideal S8x128 .f32) (x1 : Vec Ideal S128x256 .i32) (h : BitVec 32) : FVec Ideal S1x128x256 .f32 :=
  shapeCast S1x128x256 (buckets.foldl (pick (shapeCast S128x256 (View.ld x1 r0_0) shapeCasts_S128x256_S128x256)
    (shapeCast S8x128 (View.ld x0 r0_1) shapeCasts_S8x128_S8x128) h) (broadcast S128x256 (Scalar.ofBits (F := Ideal) .f32 0x00000000#32)))
    shapeCasts_S128x256_S1x128x256

set_option maxHeartbeats 4000000 in
theorem out_eq (x0 : Vec Ideal S8x128 .f32) (x1 : Vec Ideal S128x256 .i32) : out0_2 (F := Ideal) x0 x1
    = View.canon [⟨r0_7, head x0 x1 5#32⟩, ⟨r0_6, head x0 x1 4#32⟩, ⟨r0_5, head x0 x1 3#32⟩, ⟨r0_4, head x0 x1 2#32⟩, ⟨r0_3, head x0 x1 1#32⟩,
      ⟨r0_2, head x0 x1 0#32⟩] := by
  rfl

theorem word_eq {n : Nat} (hn : n ≤ 128) (a b : Fin n) : BitVec.ofNat 32 a.val = BitVec.ofNat 32 b.val ↔ a = b := by
  have ha := a.isLt
  have hb := b.isLt
  constructor
  · intro h
    have := congrArg BitVec.toNat h
    simp only [BitVec.toNat_ofNat] at this
    exact Fin.ext (by omega)
  · exact fun h => by rw [h]

theorem taken_at (T : FVec Ideal S8x128 .f32) (h : Fin 8) (t : Fin 128) : taken T (BitVec.ofNat 32 h.val) (BitVec.ofNat 32 t.val) = T (ix2 h t) := by
  have e : taken T (BitVec.ofNat 32 h.val) (BitVec.ofNat 32 t.val) = ∑ p : Fin 8, ∑ q : Fin 128, if p = h ∧ q = t then T (ix2 p q) else 0 := by
    pointwise [taken]
    refine Finset.sum_congr rfl fun p _ => Finset.sum_congr rfl fun q _ => ?_
    refine (RelValue.select_and _ _ _ _ _ _).trans ?_
    exact if_congr (and_congr (word_eq (by decide) p h) (word_eq (by decide) q t)) rfl rfl
  rw [e, Finset.sum_eq_single h, Finset.sum_eq_single t]
  · simp
  · intro q _ hq
    rw [if_neg fun hh => hq hh.2]
  · intro hh
    exact absurd (Finset.mem_univ _) hh
  · intro p _ hp
    exact Finset.sum_eq_zero fun q _ => if_neg fun hh => hp hh.1
  · intro hh
    exact absurd (Finset.mem_univ _) hh

theorem pick_at (b : IVec S128x256 32) (T : FVec Ideal S8x128 .f32) (h : BitVec 32) (r : FVec Ideal S128x256 .f32) (t : BitVec 32) (y : S128x256.Idx) :
    pick b T h r t y = if b y = t then taken T h t else r y := by
  pointwise [pick]
  exact RelValue.select_eq _ _ _ _

theorem fold_at (b : IVec S128x256 32) (T : FVec Ideal S8x128 .f32) (h : BitVec 32) (y : S128x256.Idx) (L : List (BitVec 32)) :
    ∀ r : FVec Ideal S128x256 .f32, L.foldl (pick b T h) r y = if b y ∈ L then taken T h (b y) else r y := by
  induction L with
  | nil => intro r; simp
  | cons t L ih =>
    intro r
    rw [List.foldl_cons, ih, pick_at]
    by_cases h1 : b y = t
    · rw [← h1]
      simp
    · simp [h1]

theorem mem_buckets (w : BitVec 32) (h : w.toNat < 32) : w ∈ buckets := by
  have e := (by decide +kernel : ∀ n : Fin 32, BitVec.ofNat 32 n.val ∈ buckets) ⟨w.toNat, h⟩
  rwa [show BitVec.ofNat 32 w.toNat = w by simp] at e

theorem head_at (x0 : Vec Ideal S8x128 .f32) (x1 : Vec Ideal S128x256 .i32) (h : Fin 8) (z : S1x128x256.Idx) (hb : (x1 (ix2 (z 1) (z 2))).toNat < 32) :
    head x0 x1 (BitVec.ofNat 32 h.val) z = x0 (ix2 h ⟨(x1 (ix2 (z 1) (z 2))).toNat % 128, Nat.mod_lt _ (by decide)⟩) := by
  have e0 : shapeCast S8x128 (View.ld x0 r0_1) shapeCasts_S8x128_S8x128 = x0 := (shapeCast_self _ _).trans (View.ld_unit_lit _ _ (by decide))
  have e1 : shapeCast S128x256 (View.ld x1 r0_0) shapeCasts_S128x256_S128x256 = x1 := (shapeCast_self _ _).trans (View.ld_unit_lit _ _ (by decide))
  unfold head
  rw [e0, e1]
  have e2 : ∀ Y : FVec Ideal S128x256 .f32, shapeCast S1x128x256 Y shapeCasts_S128x256_S1x128x256 z = Y (ix2 (z 1) (z 2)) := by
    intro Y
    pointwise []
  rw [e2, fold_at, if_pos (mem_buckets _ hb)]
  refine Eq.trans (congrArg (taken x0 _) ?_) (taken_at x0 h ⟨(x1 (ix2 (z 1) (z 2))).toNat % 128, Nat.mod_lt _ (by decide)⟩)
  apply BitVec.eq_of_toNat_eq
  simp only [BitVec.toNat_ofNat]
  omega

/-- Every place's entry, the table read as heads by buckets. -/
def look (T : (⟨2, ![8, 128]⟩ : Shape).Idx → EReal) (b : (⟨2, ![128, 256]⟩ : Shape).Idx → BitVec 32) : (⟨3, ![6, 128, 256]⟩ : Shape).Idx → EReal :=
  fun y => T (ix2 ⟨(y 0).val, lt_trans (y 0).isLt (by decide)⟩ ⟨(b (ix2 (y 1) (y 2))).toNat % 128, Nat.mod_lt _ (by decide)⟩)

theorem tile_at (x0 : Vec Ideal S8x128 .f32) (x1 : Vec Ideal S128x256 .i32) (hb : ∀ i, (x1 i).toNat < 32) (y : S6x128x256.Idx) (h : Fin 8) :
    View.TileAt (Val := Elt Ideal) (e := .f32) y ![h.val, 0, 0] S1x128x256.size (head x0 x1 (BitVec.ofNat 32 h.val)) (look x0 x1 y) := by
  intro z hz
  have h0 : (y 0).val = h.val + (z 0).val := hz 0
  have h1 : (y 1).val = 0 + (z 1).val := hz 1
  have h2 : (y 2).val = 0 + (z 2).val := hz 2
  have z0 : (z 0).val < 1 := (z 0).isLt
  refine (head_at x0 x1 h z (hb _)).trans ?_
  unfold look
  have i1 : (ix2 (z 1) (z 2) : (⟨2, ![128, 256]⟩ : Shape).Idx) = ix2 (y 1) (y 2) :=
    congrArg₂ ix2 (Fin.ext (by omega)) (Fin.ext (by omega))
  rw [i1]
  exact congrArg (fun a : Fin 8 => x0 (ix2 a _)) (Fin.ext (by show h.val = (y 0).val; omega))

theorem out_at (x0 : Vec Ideal S8x128 .f32) (x1 : Vec Ideal S128x256 .i32) (hb : ∀ i, (x1 i).toNat < 32) (y : S6x128x256.Idx) :
    out0_2 (F := Ideal) x0 x1 y = look x0 x1 y := by
  rw [out_eq]
  refine View.canon_eq_of_allAt _ y _ (cover0_2 _ _ _ _ _ _ y) ?_
  have t := tile_at x0 x1 hb y
  exact View.allAt_cons_unit _ _ _ _ _ (t 5) (View.allAt_cons_unit _ _ _ _ _ (t 4) (View.allAt_cons_unit _ _ _ _ _ (t 3)
    (View.allAt_cons_unit _ _ _ _ _ (t 2) (View.allAt_cons_unit _ _ _ _ _ (t 1) (View.allAt_cons_unit _ _ _ _ _ (t 0) (View.allAt_nil _ _))))))

end Cert.Proof.RelFwdValue
-- ==== Proof.RelFwdValue.lean ====
/- The biases of the window attention, built from the table of relative positions: the kernel's body picks, place after place, the
   table's entry of the place's bucket. -/
module

public import proofs.«01_k».proof.Proof.Gen.RelFwdIdeal.Value
public import proofs.«01_k».proof.Proof.Gen.RelFwdRefIdeal.Run
public import proofs.«01_k».proof.Proof.RelClaim
public import proofs.«01_k».proof.Proof.RelFwdTable
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.RelFwdValue

open Cert.Proof.RelTable (buckets)
open Cert.Proof.RelClaim (bucket bucket_nonneg)
open Cert.RelFwdIdeal Cert.RelFwdIdeal.Gen Idealize.ShloMosaic Idealize.ShloMosaic.TcCoe Idealize.SL.Sem

variable (m : (ℓ : Loc nD τ sig) → Buf (Elt Ideal) ℓ)

theorem idx0 : ∀ t : Fin cfg0.N, win0_0.index t = ![0, 0] :=
  by decide +kernel
theorem idx1 : ∀ t : Fin cfg0.N, win0_1.index t = ![0, 0] :=
  by decide +kernel
theorem idx2 : ∀ t : Fin cfg0.N, win0_2.index t = ![0, 0, 0] :=
  by decide +kernel

/-- The array of buckets that the host hands to the kernel. -/
theorem V_bucket (c : Dev nD) : V m c main_v30 = bucket := by
  funext i
  unfold V
  simp only [List.flatten_cons, List.flatten_nil, List.cons_append, List.nil_append]
  after_results
  simp only [StableHlo.TRef.toBuf, StableHlo.TRef.ofBuf, eq_self, cast_eq, eqRec_eq_cast]
  pointwise [bucket, RelClaim.word]
  rfl

/-- The table, transposed and padded with zeros. -/
def padded (A : FVec Ideal S32x6 .f32) : FVec Ideal S8x128 .f32 :=
  pad S8x128 ![0, 0] ![2, 96] ![0, 0] (transpose S6x32 [1, 0] A transposes_S32x6_S6x32_1_0)
    (sitofp (F := Ideal) .f32 (constantI S_ 32 0#32)) pads_S6x32_S8x128_020_0960 h_S_

/-- The table that the host hands to the kernel. -/
theorem V_table (c : Dev nD) : V m c main_v1 = padded (m ((c : Thread nD τ).loc main_arg0)) := by
  unfold V padded
  simp only [List.flatten_cons, List.flatten_nil, List.cons_append, List.nil_append]
  after_results
  simp only [StableHlo.TRef.toBuf, StableHlo.TRef.ofBuf, eq_self, cast_eq, eqRec_eq_cast]

/-- Every bucket is one of the 32. -/
theorem bucket_lt (i : (⟨2, ![128, 256]⟩ : Shape).Idx) : (bucket i).toNat < 32 := by
  have h0 := bucket_nonneg i
  have h1 : (bucket i).toInt ≤ 31 := by
    unfold bucket Scalar.select
    split
    · rename_i hw
      generalize RelClaim.word (i 0) (i 1) = w at hw
      by_contra hh
      have hs : w.slt 16#32 = false := by
        simp [BitVec.slt]
        omega
      simp [IntOp.cmpi, hs] at hw
    · unfold IntOp.minsi
      split
      · rename_i hs
        simp [BitVec.slt] at hs
        omega
      · decide
  generalize bucket i = w at h0 h1
  rw [BitVec.toInt_eq_toNat_cond] at h0 h1
  have := w.isLt
  split at h0 <;> omega

/-- Every place's bias: the entry of its bucket in the table of relative positions. -/
def bias (A : (⟨2, ![32, 6]⟩ : Shape).Idx → EReal) : (⟨3, ![6, 128, 256]⟩ : Shape).Idx → EReal :=
  fun y => A (ix2 ⟨(bucket (ix2 (y 1) (y 2))).toNat, bucket_lt _⟩ (y 0))

theorem padded_at (A : FVec Ideal S32x6 .f32) (h : Nat) (hh : h < 6) (hh' : h < 8) (n : Nat) (hn : n < 32) (hn' : n % 128 < 128) :
    padded A (ix2 ⟨h, hh'⟩ ⟨n % 128, hn'⟩) = A (ix2 ⟨n, hn⟩ ⟨h, hh⟩) := by
  have e : n % 128 = n := Nat.mod_eq_of_lt (by omega)
  pointwise [padded]
  rw [dif_pos ⟨hh, by omega⟩]
  simp only [e]

theorem look_eq (A : FVec Ideal S32x6 .f32) : look (padded A) bucket = bias A := by
  funext y
  exact padded_at A (y 0).val (y 0).isLt _ _ (bucket_lt _) _

theorem final (c : Dev nD) : (dats m 0 c).arrAt 2 cfg0.N = bias (m ((c : Thread nD τ).loc main_arg0)) := by
  refine (dats m 0 c).arrAt_eq_of_covers 2 _ (by decide +kernel) fun t hf y => ?_
  blk_simp
  rw [after0_2]
  have hx : iblk m c 0 t = V m c main_v1 := by
    funext i
    blk_point [iblk, idx0 t]
    done
  have hb : iblk m c 1 t = bucket := by
    refine Eq.trans ?_ (V_bucket m c)
    funext i
    blk_point [iblk, idx1 t]
    done
  rw [hx, hb]
  refine (out_at _ _ bucket_lt y).trans ?_
  rw [V_table, look_eq]
  generalize bias (m ((c : Thread nD τ).loc main_arg0)) = g
  blk_point [idx2 t]
  done

/-- The run: what the result holds, and that the argument is unchanged. -/
theorem run (ρ : Dev nD → PrngReg) :
    θ_run defs (onTc (τ := τ) (main (F := Ideal))) ⟨m, fun _ => 0, ρ⟩ fun r => ∀ c : Dev nD,
      r.2.mem ((c : Thread nD τ).loc main_v31) = bias (m ((c : Thread nD τ).loc main_arg0))
      ∧ r.2.mem ((c : Thread nD τ).loc main_arg0) = m ((c : Thread nD τ).loc main_arg0) := by
  simpa only [final] using Cert.RelFwdIdeal.Value.run_blocks m ρ

end Cert.Proof.RelFwdValue
-- ==== Proof.RelFwdClaim.lean ====
/- The biases of the window attention, built from the table of relative positions: the claims about the pair. -/
module

public import proofs.«01_k».proof.Defs
public import proofs.«01_k».proof.Proof.Gen.RelFwd.Frame
public import proofs.«01_k».proof.Proof.RelFwdValue

@[expose] public section

set_option maxRecDepth 16384

noncomputable section

namespace Cert.Proof.RelFwdClaim

open  Idealize.ShloMosaic Idealize.ShloMosaic.TcCoe Idealize.SL.Sem

/-- The reference's frame. -/
theorem frame_ref : Cert.quiescent_RelFwdRefIdeal := fun m ρ _ =>
  (θ_run Cert.RelFwdRefIdeal.defs _ _).mono (fun r h => ⟨fun c => (h c).2, sem_eq_zero_of_no_sems (by decide) r.2⟩)
    (Cert.RelFwdRefIdeal.Value.run (F := Ideal) m ρ)

section
open Cert.RelFwdRefIdeal Cert.RelFwdRefIdeal.Gen

/-- The gather read at an entry: the table's row at the place's bucket. -/
theorem gather_at (A : FVec Ideal S32x6 .f32) (I : IVec S128x256x1 32) (p : Fin 128) (q : Fin 256) (h : Fin 6) :
    Host.gather gather_S32x6_S128x256x1_S128x256x6_2_0_n_n_0_2_16 A I (ix3 p q h)
      = A (ix2 ⟨min (I (ix3 p q 0)).toInt.toNat 31, by omega⟩ h) := by
  unfold Host.gather
  refine congrArg A (funext fun a => Fin.ext ?_)
  show gather_S32x6_S128x256x1_S128x256x6_2_0_n_n_0_2_16.start (ix3 p q h) I a + gather_S32x6_S128x256x1_S128x256x6_2_0_n_n_0_2_16.batchCoord (ix3 p q h) a + gather_S32x6_S128x256x1_S128x256x6_2_0_n_n_0_2_16.offCoord (ix3 p q h) a = _
  rw [GatherDims.batchCoord_eq_zero _ _ _ List.not_mem_nil]
  fin_cases a
  · have h0 : gather_S32x6_S128x256x1_S128x256x6_2_0_n_n_0_2_16.start (ix3 p q h) I 0 = min (I (ix3 p q 0)).toInt.toNat 31 := by
      unfold GatherDims.start
      rw [dif_pos (by decide)]
      refine congrArg (fun j => min (I j).toInt.toNat 31) (funext fun b => ?_)
      fin_cases b <;> rfl
    have h1 : gather_S32x6_S128x256x1_S128x256x6_2_0_n_n_0_2_16.offCoord (ix3 p q h) 0 = 0 :=
      GatherDims.offCoord_eq_zero _ _ _ (by decide)
    exact congrArg₂ (fun a b => a + 0 + b) h0 h1
  · have h0 : gather_S32x6_S128x256x1_S128x256x6_2_0_n_n_0_2_16.start (ix3 p q h) I 1 = 0 := by
      unfold GatherDims.start
      rw [dif_neg (by decide)]
    have h1 : gather_S32x6_S128x256x1_S128x256x6_2_0_n_n_0_2_16.offCoord (ix3 p q h) 1 = h.val := by
      unfold GatherDims.offCoord
      rw [dif_pos (by decide)]
      rfl
    refine (congrArg₂ (fun a b => a + 0 + b) h0 h1).trans ?_
    show 0 + 0 + h.val = h.val
    omega

theorem ref_at (A : FVec Ideal S32x6 .f32) (B : IVec S128x256 32) (hB : B = RelClaim.bucket) :
    transpose S6x128x256 [2, 0, 1] (Host.gather gather_S32x6_S128x256x1_S128x256x6_2_0_n_n_0_2_16 A (broadcastInDim S128x256x1 ![0, 1] bcast_S128x256_S128x256x1_0_1 (select (cmpi .slt B (broadcastInDim S128x256 ![] bcast_S_S128x256 (constantI S_ 32 0#32))) (addi B (broadcastInDim S128x256 ![] bcast_S_S128x256 (constantI S_ 32 32#32))) B))) transposes_S128x256x6_S6x128x256_2_0_1
      = RelFwdValue.bias A := by
  subst hB
  have hsel : select (cmpi .slt RelClaim.bucket (broadcastInDim S128x256 ![] bcast_S_S128x256 (constantI S_ 32 0#32))) (addi RelClaim.bucket (broadcastInDim S128x256 ![] bcast_S_S128x256 (constantI S_ 32 32#32))) RelClaim.bucket = RelClaim.bucket := by
    funext i
    have h := RelClaim.bucket_nonneg i
    pointwise []
    have hs : (RelClaim.bucket i).slt 0#32 = false := by simp [BitVec.slt, h]
    simp [Scalar.select, IntOp.cmpi, hs]
  rw [hsel]
  funext y
  have ht : ∀ Z : FVec Ideal S128x256x6 .f32, transpose S6x128x256 [2, 0, 1] Z transposes_S128x256x6_S6x128x256_2_0_1 y = Z (ix3 (y 1) (y 2) (y 0)) := by
    intro Z
    pointwise []
  have hb : broadcastInDim S128x256x1 ![0, 1] bcast_S128x256_S128x256x1_0_1 RelClaim.bucket (ix3 (y 1) (y 2) 0) = RelClaim.bucket (ix2 (y 1) (y 2)) := by
    pointwise []
  refine (ht _).trans ((gather_at _ _ _ _ _).trans ?_)
  unfold RelFwdValue.bias
  refine congrArg (fun a : Fin 32 => A (ix2 a (y 0))) (Fin.ext ?_)
  show min (broadcastInDim S128x256x1 ![0, 1] bcast_S128x256_S128x256x1_0_1 RelClaim.bucket (ix3 (y 1) (y 2) 0)).toInt.toNat 31 = (RelClaim.bucket (ix2 (y 1) (y 2))).toNat
  rw [hb]
  have h1 := RelFwdValue.bucket_lt (ix2 (y 1) (y 2))
  generalize RelClaim.bucket (ix2 (y 1) (y 2)) = w at h1 ⊢
  rw [BitVec.toInt_eq_toNat_cond, if_pos (by omega)]
  show min ((w.toNat : ℤ)).toNat 31 = w.toNat
  omega

end

theorem algebraic : Cert.algebraic_RelFwdIdeal_RelFwdRefIdeal := by
  intro m g m' g' _ hagree
  refine ⟨_, RelFwdValue.run m g, θ_run_mono (Cert.RelFwdRefIdeal.Value.run (F := Ideal) m' g') fun r h c => ?_⟩
  have h0 := hagree c
  obtain ⟨r0, rest⟩ := h c
  refine ⟨r0.trans ?_, rest⟩
  rw [← h0]
  refine ref_at _ _ ?_
  funext i
  pointwise [RelClaim.bucket, RelClaim.word]
  rfl

end Cert.Proof.RelFwdClaim
-- ==== Proof.ConvLists.lean ====
/- The gated convolution's backward body: what it stores, column block after column block. -/
module

public import proofs.«01_k».proof.Proof.Gen.ConvIdeal.Frame
public import Idealize.ShloMosaic.Lib.Pipeline.ValueKit
public import Idealize.ShloMosaic.Lib.Pointwise

@[expose] public section

set_option maxRecDepth 16384

noncomputable section

namespace Cert.Proof.ConvLists

open Cert.ConvIdeal Cert.ConvIdeal.Gen Idealize.ShloMosaic Idealize.ShloMosaic.TcCoe Idealize.SL.Sem

theorem in_u (o : ℕ) (h : o + 128 ≤ 5632) : ∀ a, ![0, 0, o] a + S1x128x128.size a ≤ S1x128x5632.size a := by
  intro a; fin_cases a
  · exact (by decide : 0 + 1 ≤ 1)
  · exact (by decide : 0 + 128 ≤ 128)
  · exact h
theorem in_h (o : ℕ) (h : o + 128 ≤ 5632) : ∀ a, ![0, 0, o] a + S1x16x128.size a ≤ S1x16x5632.size a := by
  intro a; fin_cases a
  · exact (by decide : 0 + 1 ≤ 1)
  · exact (by decide : 0 + 16 ≤ 16)
  · exact h
theorem in_w (o : ℕ) (h : o + 128 ≤ 5632) : ∀ a, ![0, o] a + S3x128.size a ≤ S3x5632.size a := by
  intro a; fin_cases a
  · exact (by decide : 0 + 3 ≤ 3)
  · exact h
theorem in_b (o : ℕ) (h : o + 128 ≤ 5632) : ∀ a, ![0, o] a + S1x128.size a ≤ S1x5632.size a := by
  intro a; fin_cases a
  · exact (by decide : 0 + 1 ≤ 1)
  · exact h
theorem in_d (o : ℕ) (h : o + 128 ≤ 2816) : ∀ a, ![0, 0, o] a + S1x128x128.size a ≤ S1x128x2816.size a := by
  intro a; fin_cases a
  · exact (by decide : 0 + 1 ≤ 1)
  · exact (by decide : 0 + 128 ≤ 128)
  · exact h
theorem in_s (r o : ℕ) (hr : r + 1 ≤ 8) (h : o + 128 ≤ 5632) : ∀ a, ![r, o] a + S1x128.size a ≤ S8x5632.size a := by
  intro a; fin_cases a
  · exact hr
  · exact h

/-- What the body reads of a column block: the block itself, the rows before it, the taps, the bias; and the cotangent of the gated product. -/
structure Reads where
  u : (o : ℕ) → o + 128 ≤ 5632 → Vec Ideal S1x128x128 .bf16
  h : (o : ℕ) → o + 128 ≤ 5632 → Vec Ideal S1x16x128 .bf16
  w : (o : ℕ) → o + 128 ≤ 5632 → Vec Ideal S3x128 .f32
  b : (o : ℕ) → o + 128 ≤ 5632 → Vec Ideal S1x128 .f32
  d : (o : ℕ) → o + 128 ≤ 2816 → Vec Ideal S1x128x128 .f32

variable (i : grid0.Coords) (R : Reads)

/-- A column block of the convolution. -/
def cz (o : ℕ) (h : o + 128 ≤ 5632) : FVec Ideal S128x128 .f32 :=
  k0_pay9 (k0_pay4 (R.u o h)) (k0_pay7 i (R.u o h) (R.h o h)) (k0_pay8 i (R.u o h) (R.h o h)) (R.w o h) (R.b o h)

theorem hg {k : ℕ} (h : k + 1 ≤ 22) : 128 * k + 128 ≤ 5632 := by omega
theorem hv {k : ℕ} (h : k + 1 ≤ 22) : 2816 + 128 * k + 128 ≤ 5632 := by omega
theorem hd {k : ℕ} (h : k + 1 ≤ 22) : 128 * k + 128 ≤ 2816 := by omega

/-- The gate's column block `k` of the convolution, and the value's. -/
def zg (k : ℕ) (h : k + 1 ≤ 22) : FVec Ideal S128x128 .f32 := cz i R (128 * k) (hg h)
def zv (k : ℕ) (h : k + 1 ≤ 22) : FVec Ideal S128x128 .f32 := cz i R (2816 + 128 * k) (hv h)

/-- The gate's gradient. -/
def dg (k : ℕ) (h : k + 1 ≤ 22) : FVec Ideal S128x128 .f32 :=
  mulf (mulf (k0_pay22 (R.d (128 * k) (hd h))) (zv i R k h))
    (mulf (k0_pay19 (zg i R k h)) (addf (broadcast S128x128 (Scalar.ofBits (F := Ideal) .f32 0x3F800000#32))
      (mulf (zg i R k h) (subf (broadcast S128x128 (Scalar.ofBits (F := Ideal) .f32 0x3F800000#32)) (k0_pay19 (zg i R k h))))))

/-- The value's gradient. -/
def dv (k : ℕ) (h : k + 1 ≤ 22) : FVec Ideal S128x128 .f32 := mulf (k0_pay22 (R.d (128 * k) (hd h))) (k0_pay20 (zg i R k h))

/-- The gated product. -/
def ga (k : ℕ) (h : k + 1 ≤ 22) : FVec Ideal S128x128 .f32 := mulf (k0_pay20 (zg i R k h)) (zv i R k h)

/-- A block as it is stored. -/
def narrow (x : FVec Ideal S128x128 .f32) : FVec Ideal S1x128x128 .bf16 :=
  shapeCast S1x128x128 (truncf .bf16 x bitsLt_bf16_f32) shapeCasts_S128x128_S1x128x128

/-- A row of sums with one block's column sums added. -/
def tally (x : FVec Ideal S128x128 .f32) (p : Vec Ideal S1x128 .f32) : FVec Ideal S1x128 .f32 :=
  addf (shapeCast S1x128 p shapeCasts_S1x128_S1x128)
    (shapeCast S1x128 (multiReduction .add [0] S128 x 0x00000000#32 reduces_S128x128_S128 (.inl rfl) rfl) shapeCasts_S128_S1x128)

abbrev Piece5 := View.Piece (Elt Ideal) S1x128x5632 .bf16
abbrev Piece6 := View.Piece (Elt Ideal) S1x128x2816 .bf16
abbrev Piece7 := View.Piece (Elt Ideal) S8x5632 .f32

/-- The stores of the convolution's gradient, the last first. -/
def list5 : (n : ℕ) → n ≤ 22 → List Piece5
  | 0, _ => []
  | k + 1, h => ⟨Rect.unit (s := S1x128x5632) ![0, 0, 2816 + 128 * k] S1x128x128.size (in_u _ (hv h)), narrow (dv i R k h)⟩
      :: ⟨Rect.unit (s := S1x128x5632) ![0, 0, 128 * k] S1x128x128.size (in_u _ (hg h)), narrow (dg i R k h)⟩ :: list5 k (Nat.le_of_succ_le h)

/-- The stores of the gated product. -/
def list6 : (n : ℕ) → n ≤ 22 → List Piece6
  | 0, _ => []
  | k + 1, h => ⟨Rect.unit (s := S1x128x2816) ![0, 0, 128 * k] S1x128x128.size (in_d _ (hd h)), narrow (ga i R k h)⟩ :: list6 k (Nat.le_of_succ_le h)

/-- One row of sums, added to at the columns from `o`; `P` is what the row holds before. -/
def put (o : ℕ) (h : o + 128 ≤ 5632) (P : List Piece7 → (r : ℕ) → r + 1 ≤ 8 → Vec Ideal S1x128 .f32) (r : ℕ) (hr : r + 1 ≤ 8)
    (x : FVec Ideal S128x128 .f32) (L : List Piece7) : List Piece7 :=
  ⟨Rect.unit (s := S8x5632) ![r, o] S1x128.size (in_s r o hr h), tally x (P L r hr)⟩ :: L

/-- The four rows of sums that one column block adds to. -/
def rows (x u p1 p2 : FVec Ideal S128x128 .f32) (o : ℕ) (h : o + 128 ≤ 5632) (P : List Piece7 → (r : ℕ) → r + 1 ≤ 8 → Vec Ideal S1x128 .f32) (L : List Piece7) : List Piece7 :=
  put o h P 3 (by decide) (mulf x u) (put o h P 2 (by decide) (mulf x p1) (put o h P 1 (by decide) (mulf x p2) (put o h P 0 (by decide) x L)))

/-- The stores of the sums; `P` is what a row of sums reads before its store, `L0` the stores before. -/
def list7 (P : (o : ℕ) → o + 128 ≤ 5632 → List Piece7 → (r : ℕ) → r + 1 ≤ 8 → Vec Ideal S1x128 .f32) (L0 : List Piece7) : (n : ℕ) → n ≤ 22 → List Piece7
  | 0, _ => L0
  | k + 1, h =>
    rows (dv i R k h) (k0_pay4 (R.u (2816 + 128 * k) (hv h))) (k0_pay7 i (R.u (2816 + 128 * k) (hv h)) (R.h (2816 + 128 * k) (hv h)))
        (k0_pay8 i (R.u (2816 + 128 * k) (hv h)) (R.h (2816 + 128 * k) (hv h))) (2816 + 128 * k) (hv h) (P _ (hv h)) <|
      rows (dg i R k h) (k0_pay4 (R.u (128 * k) (hg h))) (k0_pay7 i (R.u (128 * k) (hg h)) (R.h (128 * k) (hg h)))
        (k0_pay8 i (R.u (128 * k) (hg h)) (R.h (128 * k) (hg h))) (128 * k) (hg h) (P _ (hg h)) (list7 P L0 k (Nat.le_of_succ_le h))

section

variable (c : Dev nD)
    (arg2 : Memref sig .tc .vmem S1x128x2816 .f32) (harg2 : arg2.IsWhole)
    (arg3 : Memref sig .tc .vmem S1x128x5632 .bf16) (harg3 : arg3.IsWhole)
    (arg4 : Memref sig .tc .vmem S1x16x5632 .bf16) (harg4 : arg4.IsWhole)
    (arg5 : Memref sig .tc .vmem S3x5632 .f32) (harg5 : arg5.IsWhole)
    (arg6 : Memref sig .tc .vmem S1x5632 .f32) (harg6 : arg6.IsWhole)
    (arg7 : Memref sig .tc .vmem S1x128x5632 .bf16) (harg7 : arg7.IsWhole)
    (arg8 : Memref sig .tc .vmem S1x128x2816 .bf16) (harg8 : arg8.IsWhole)
    (arg9 : Memref sig .tc .vmem S8x5632 .f32) (harg9 : arg9.IsWhole)
    (x0 : Vec Ideal S1x128x2816 .f32) (x1 : Vec Ideal S1x128x5632 .bf16) (x2 : Vec Ideal S1x16x5632 .bf16) (x3 : Vec Ideal S3x5632 .f32) (x4 : Vec Ideal S1x5632 .f32)

/-- What the body reads, of the memory that holds the blocks. -/
def reads : Reads where
  u o h := View.readAt (Elt Ideal) arg3.view (Rect.unit (s := S1x128x5632) ![0, 0, o] S1x128x128.size (in_u o h)).toLoadRect (harg3.unread x1)
  h o h := View.readAt (Elt Ideal) arg4.view (Rect.unit (s := S1x16x5632) ![0, 0, o] S1x16x128.size (in_h o h)).toLoadRect (harg4.unread x2)
  w o h := View.readAt (Elt Ideal) arg5.view (Rect.unit (s := S3x5632) ![0, o] S3x128.size (in_w o h)).toLoadRect (harg5.unread x3)
  b o h := View.readAt (Elt Ideal) arg6.view (Rect.unit (s := S1x5632) ![0, o] S1x128.size (in_b o h)).toLoadRect (harg6.unread x4)
  d o h := View.readAt (Elt Ideal) arg2.view (Rect.unit (s := S1x128x2816) ![0, 0, o] S1x128x128.size (in_d o h)).toLoadRect (harg2.unread x0)

theorem run5_B (hc0 : ¬cond0_0 i) (xo7 : Vec Ideal S8x5632 .f32) :
    (kernelRun0_B (F := Ideal) c i arg2 harg2 arg3 harg3 arg4 harg4 arg5 harg5 arg6 harg6 arg7 harg7 arg8 harg8 arg9 harg9 hc0 x0 x1 x2 x3 x4 xo7).1 = list5 i (reads arg2 harg2 arg3 harg3 arg4 harg4 arg5 harg5 arg6 harg6 x0 x1 x2 x3 x4) 22 le_rfl := by
  sl_kernel_rfl

theorem run6_B (hc0 : ¬cond0_0 i) (xo7 : Vec Ideal S8x5632 .f32) :
    (kernelRun0_B (F := Ideal) c i arg2 harg2 arg3 harg3 arg4 harg4 arg5 harg5 arg6 harg6 arg7 harg7 arg8 harg8 arg9 harg9 hc0 x0 x1 x2 x3 x4 xo7).2.1 = list6 i (reads arg2 harg2 arg3 harg3 arg4 harg4 arg5 harg5 arg6 harg6 x0 x1 x2 x3 x4) 22 le_rfl := by
  sl_kernel_rfl

theorem run7_B (hc0 : ¬cond0_0 i) (xo7 : Vec Ideal S8x5632 .f32) :
    (kernelRun0_B (F := Ideal) c i arg2 harg2 arg3 harg3 arg4 harg4 arg5 harg5 arg6 harg6 arg7 harg7 arg8 harg8 arg9 harg9 hc0 x0 x1 x2 x3 x4 xo7).2.2.1 = list7 i (reads arg2 harg2 arg3 harg3 arg4 harg4 arg5 harg5 arg6 harg6 x0 x1 x2 x3 x4) (fun o h _ r hr => View.readAt (Elt Ideal) arg9.view (Rect.unit (s := S8x5632) ![r, o] S1x128.size (in_s r o hr h)).toLoadRect (harg9.unread xo7)) [] 22 le_rfl := by
  sl_kernel_rfl

theorem run5_A (hc0 : cond0_0 i) :
    (kernelRun0_A (F := Ideal) c i arg2 harg2 arg3 harg3 arg4 harg4 arg5 harg5 arg6 harg6 arg7 harg7 arg8 harg8 arg9 harg9 hc0 x0 x1 x2 x3 x4).1 = list5 i (reads arg2 harg2 arg3 harg3 arg4 harg4 arg5 harg5 arg6 harg6 x0 x1 x2 x3 x4) 22 le_rfl := by
  sl_kernel_rfl

theorem run6_A (hc0 : cond0_0 i) :
    (kernelRun0_A (F := Ideal) c i arg2 harg2 arg3 harg3 arg4 harg4 arg5 harg5 arg6 harg6 arg7 harg7 arg8 harg8 arg9 harg9 hc0 x0 x1 x2 x3 x4).2.1 = list6 i (reads arg2 harg2 arg3 harg3 arg4 harg4 arg5 harg5 arg6 harg6 x0 x1 x2 x3 x4) 22 le_rfl := by
  sl_kernel_rfl

theorem run7_A (hc0 : cond0_0 i) :
    (kernelRun0_A (F := Ideal) c i arg2 harg2 arg3 harg3 arg4 harg4 arg5 harg5 arg6 harg6 arg7 harg7 arg8 harg8 arg9 harg9 hc0 x0 x1 x2 x3 x4).2.2.1 = list7 i (reads arg2 harg2 arg3 harg3 arg4 harg4 arg5 harg5 arg6 harg6 x0 x1 x2 x3 x4) (fun o h L r hr => arg9.view.readCov L (Rect.unit (s := S8x5632) ![r, o] S1x128.size (in_s r o hr h)).toLoadRect)
        [⟨Rect.unit (s := S8x5632) ![0, 0] S8x5632.size inb_S8x5632_S8x5632_0_0, k0_pay3 (F := Ideal)⟩] 22 le_rfl := by
  sl_kernel_rfl

end

end Cert.Proof.ConvLists
-- ==== Proof.ConvPay.lean ====
/- The gated convolution's backward body: its column blocks, read at an entry. -/
module

public import proofs.«01_k».proof.Proof.ConvLists
public import Idealize.ShloMosaic.Lib.WordCmp
public import Idealize.ShloMosaic.Lib.Pipeline.ReadBack

@[expose] public section

set_option maxRecDepth 16384

noncomputable section

namespace Cert.Proof.ConvPay

open Cert.ConvIdeal Cert.ConvIdeal.Gen Cert.Proof.ConvLists Idealize.ShloMosaic Idealize.ShloMosaic.TcCoe Idealize.SL.Sem

abbrev one : EReal := Ideal.ofBits .f32 0x3F800000#32

/-- A comparison of a small number with a word, chosen by. -/
theorem select_eq {α : Type} (n k : ℕ) (hn : n < 2 ^ 32) (hk : k < 2 ^ 32) (a b : α) :
    Scalar.select (IntOp.cmpi .eq (BitVec.ofNat 32 n) (BitVec.ofNat 32 k)) a b = if n = k then a else b := by
  rw [WordCmp.cmpi_eq_eq_toNat, WordCmp.select_ofBool]
  simp only [decide_eq_true_eq, BitVec.toNat_ofNat, Nat.mod_eq_of_lt hn, Nat.mod_eq_of_lt hk]

abbrev BX := (⟨3, ![1, 128, 128]⟩ : Shape).Idx → EReal
abbrev BH := (⟨3, ![1, 16, 128]⟩ : Shape).Idx → EReal

/-- The rows before a block; before the first block there are none. -/
def before (q : ℕ) (H : BH) (k : Fin 16) (e : Fin 128) : EReal := if q = 0 then 0 else H (ix3 0 k e)

/-- A row and the rows one and two places before it. -/
def back1 (q : ℕ) (X : BX) (H : BH) (r e : Fin 128) : EReal :=
  if h : 1 ≤ r.val then X (ix3 0 ⟨r.val - 1, by omega⟩ e) else before q H 15 e
def back2 (q : ℕ) (X : BX) (H : BH) (r e : Fin 128) : EReal :=
  if h : 2 ≤ r.val then X (ix3 0 ⟨r.val - 2, by omega⟩ e) else if r.val = 1 then before q H 15 e else before q H 14 e

theorem pay_wide (X : FVec Ideal S1x128x128 .bf16) (r e : Fin 128) : k0_pay4 (F := Ideal) X (ix2 r e) = X (ix3 0 r e) := by
  pointwise [k0_pay4]

theorem pay_wide' (X : FVec Ideal S1x128x128 .f32) (r e : Fin 128) : k0_pay22 (F := Ideal) X (ix2 r e) = X (ix3 0 r e) := by
  pointwise [k0_pay22]

theorem pay_before (i : grid0.Coords) (H : FVec Ideal S1x16x128 .bf16) (k : Fin 16) (e : Fin 128) :
    k0_pay5 (F := Ideal) i H (ix2 k e) = before (i 1).val H k e := by
  unfold k0_pay5
  pointwise [before]
  refine (select_eq _ 0 (lt_trans (i 1).isLt (by decide)) (by decide) _ _).trans ?_
  simp [Ideal.ofBits, Ideal.ieee]

theorem pay_back1 (i : grid0.Coords) (X : FVec Ideal S1x128x128 .bf16) (H : FVec Ideal S1x16x128 .bf16) (r e : Fin 128) :
    k0_pay7 (F := Ideal) i X H (ix2 r e) = back1 (i 1).val X H r e := by
  unfold k0_pay7 k0_pay6 back1
  pointwise []
  rw [pay_wide, pay_before]
  refine (select_eq _ 0 (lt_trans r.isLt (by decide)) (by decide) _ _).trans ?_
  have := r.isLt
  by_cases h : 1 ≤ r.val
  · have e1 : ∀ hh, (⟨(r.val + 128 - 1) % 128, hh⟩ : Fin 128) = ⟨r.val - 1, by omega⟩ := fun _ => Fin.ext (by show (r.val + 128 - 1) % 128 = r.val - 1; omega)
    rw [if_neg (by omega), dif_pos h, e1]
  · rw [if_pos (by omega), dif_neg h]

theorem pay_back2 (i : grid0.Coords) (X : FVec Ideal S1x128x128 .bf16) (H : FVec Ideal S1x16x128 .bf16) (r e : Fin 128) :
    k0_pay8 (F := Ideal) i X H (ix2 r e) = back2 (i 1).val X H r e := by
  unfold k0_pay8 k0_pay6 back2
  pointwise []
  rw [pay_wide, pay_before, pay_before]
  refine (select_eq _ 0 (lt_trans r.isLt (by decide)) (by decide) _ _).trans ?_
  have e2 := select_eq r.val 1 (lt_trans r.isLt (by decide)) (by decide) (before (i 1).val H 15 e) (X (ix3 0 ⟨(r.val + 128 - 2) % 128, Nat.mod_lt _ (by decide)⟩ e))
  refine (congrArg (fun z => if r.val = 0 then before (i 1).val H 14 e else z) e2).trans ?_
  have := r.isLt
  by_cases h : 2 ≤ r.val
  · have e1 : ∀ hh, (⟨(r.val + 128 - 2) % 128, hh⟩ : Fin 128) = ⟨r.val - 2, by omega⟩ := fun _ => Fin.ext (by show (r.val + 128 - 2) % 128 = r.val - 2; omega)
    rw [if_neg (by omega), if_neg (by omega), dif_pos h, e1]
  · rw [dif_neg h]
    by_cases h' : r.val = 1
    · rw [if_neg (by omega), if_pos h', if_pos h']
    · rw [if_pos (by omega), if_neg h']

theorem pay_conv (U P Q : FVec Ideal S128x128 .f32) (W : FVec Ideal S3x128 .f32) (B : FVec Ideal S1x128 .f32) (r e : Fin 128) :
    k0_pay9 (F := Ideal) U P Q W B (ix2 r e)
      = W (ix2 2 e) * U (ix2 r e) + W (ix2 1 e) * P (ix2 r e) + W (ix2 0 e) * Q (ix2 r e) + B (ix2 0 e) := by
  pointwise [k0_pay9]

/-- The logistic function as it is computed. -/
def sg (x : EReal) : EReal := Ideal.div one (one + Ideal.exp (0 - x))

theorem pay_sg (Z : FVec Ideal S128x128 .f32) (r e : Fin 128) : k0_pay19 (F := Ideal) Z (ix2 r e) = sg (Z (ix2 r e)) := by
  pointwise [k0_pay19, sg]

theorem pay_silu (Z : FVec Ideal S128x128 .f32) (r e : Fin 128) : k0_pay20 (F := Ideal) Z (ix2 r e) = Z (ix2 r e) * sg (Z (ix2 r e)) := by
  unfold k0_pay20
  pointwise []
  rw [pay_sg]

theorem narrow_at (X : FVec Ideal S128x128 .f32) (y : S1x128x128.Idx) : narrow X y = X (ix2 (y 1) (y 2)) := by
  pointwise [narrow]

theorem tally_at (X : FVec Ideal S128x128 .f32) (P : FVec Ideal S1x128 .f32) (y : S1x128.Idx) :
    tally X P y = P y + ∑ r : Fin 128, X (ix2 r (y 1)) := by
  pointwise [tally]

/-! ## The blocks of whole rows -/

abbrev WX := (⟨3, ![1, 128, 5632]⟩ : Shape).Idx → EReal
abbrev WH := (⟨3, ![1, 16, 5632]⟩ : Shape).Idx → EReal
abbrev WW := (⟨2, ![3, 5632]⟩ : Shape).Idx → EReal
abbrev WB := (⟨2, ![1, 5632]⟩ : Shape).Idx → EReal
abbrev WD := (⟨3, ![1, 128, 2816]⟩ : Shape).Idx → EReal

/-- What is read of whole rows. -/
structure At (R : Reads) (X : WX) (H : WH) (W : WW) (B : WB) (D : WD) : Prop where
  u : ∀ o h (r e : Fin 128), R.u o h (ix3 0 r e) = X (ix3 0 r ⟨o + e.val, by omega⟩)
  h : ∀ o h (r : Fin 16) (e : Fin 128), R.h o h (ix3 0 r e) = H (ix3 0 r ⟨o + e.val, by omega⟩)
  w : ∀ o h (r : Fin 3) (e : Fin 128), R.w o h (ix2 r e) = W (ix2 r ⟨o + e.val, by omega⟩)
  b : ∀ o h (e : Fin 128), R.b o h (ix2 0 e) = B (ix2 0 ⟨o + e.val, by omega⟩)
  d : ∀ o h (r e : Fin 128), R.d o h (ix3 0 r e) = D (ix3 0 r ⟨o + e.val, by omega⟩)

def prevB (q : ℕ) (H : WH) (k : Fin 16) (e : Fin 5632) : EReal := if q = 0 then 0 else H (ix3 0 k e)
def back1B (q : ℕ) (X : WX) (H : WH) (r : Fin 128) (e : Fin 5632) : EReal :=
  if h : 1 ≤ r.val then X (ix3 0 ⟨r.val - 1, by omega⟩ e) else prevB q H 15 e
def back2B (q : ℕ) (X : WX) (H : WH) (r : Fin 128) (e : Fin 5632) : EReal :=
  if h : 2 ≤ r.val then X (ix3 0 ⟨r.val - 2, by omega⟩ e) else if r.val = 1 then prevB q H 15 e else prevB q H 14 e
/-- The convolution's rows. -/
def zB (q : ℕ) (X : WX) (H : WH) (W : WW) (B : WB) (r : Fin 128) (e : Fin 5632) : EReal :=
  W (ix2 2 e) * X (ix3 0 r e) + W (ix2 1 e) * back1B q X H r e + W (ix2 0 e) * back2B q X H r e + B (ix2 0 e)

/-- Of the gate's and the value's entry and the cotangent: the gate's gradient, the value's, and the product. -/
def gGate (g v d : EReal) : EReal := d * v * (sg g * (one + g * (one - sg g)))
def gVal (g d : EReal) : EReal := d * (g * sg g)
def prod (g v : EReal) : EReal := g * sg g * v

theorem col_g (e : Fin 2816) : e.val < 5632 := by omega
theorem col_v (e : Fin 2816) : 2816 + e.val < 5632 := by omega
theorem col_w (e : Fin 5632) (h : ¬e.val < 2816) : e.val - 2816 < 2816 := by omega

/-- The gradient's rows: the gate's columns, then the value's. -/
def dzB (q : ℕ) (X : WX) (H : WH) (W : WW) (B : WB) (D : WD) (r : Fin 128) (e : Fin 5632) : EReal :=
  if h : e.val < 2816 then gGate (zB q X H W B r e) (zB q X H W B r ⟨2816 + e.val, col_v ⟨e.val, h⟩⟩) (D (ix3 0 r ⟨e.val, h⟩))
  else gVal (zB q X H W B r ⟨e.val - 2816, col_g ⟨_, col_w e h⟩⟩) (D (ix3 0 r ⟨e.val - 2816, col_w e h⟩))

def actB (q : ℕ) (X : WX) (H : WH) (W : WW) (B : WB) (r : Fin 128) (e : Fin 2816) : EReal :=
  prod (zB q X H W B r ⟨e.val, col_g e⟩) (zB q X H W B r ⟨2816 + e.val, col_v e⟩)

/-- The four rows of column sums of one block of rows. -/
def sumB (q : ℕ) (X : WX) (H : WH) (W : WW) (B : WB) (D : WD) (k : Fin 8) (e : Fin 5632) : EReal :=
  if k.val = 0 then ∑ r : Fin 128, dzB q X H W B D r e
  else if k.val = 1 then ∑ r : Fin 128, dzB q X H W B D r e * back2B q X H r e
  else if k.val = 2 then ∑ r : Fin 128, dzB q X H W B D r e * back1B q X H r e
  else ∑ r : Fin 128, dzB q X H W B D r e * X (ix3 0 r e)

section
variable {i : grid0.Coords} {R : Reads} {X : WX} {H : WH} {W : WW} {B : WB} {D : WD} (A : At R X H W B D)
include A

theorem back1_at (o : ℕ) (h : o + 128 ≤ 5632) (r e : Fin 128) :
    back1 (i 1).val (R.u o h) (R.h o h) r e = back1B (i 1).val X H r ⟨o + e.val, by omega⟩ := by
  unfold back1 back1B before prevB
  simp only [A.u, A.h]

theorem back2_at (o : ℕ) (h : o + 128 ≤ 5632) (r e : Fin 128) :
    back2 (i 1).val (R.u o h) (R.h o h) r e = back2B (i 1).val X H r ⟨o + e.val, by omega⟩ := by
  unfold back2 back2B before prevB
  simp only [A.u, A.h]

theorem cz_at (o : ℕ) (h : o + 128 ≤ 5632) (r e : Fin 128) :
    cz i R o h (ix2 r e) = zB (i 1).val X H W B r ⟨o + e.val, by omega⟩ := by
  unfold cz zB
  rw [pay_conv, pay_wide, pay_back1, pay_back2, back1_at A, back2_at A, A.u, A.w, A.w, A.w, A.b]

theorem dg_at (k : ℕ) (h : k + 1 ≤ 22) (r e : Fin 128) :
    dg i R k h (ix2 r e) = dzB (i 1).val X H W B D r ⟨128 * k + e.val, by omega⟩ := by
  have hh : 128 * k + e.val < 2816 := by omega
  unfold dzB
  rw [dif_pos hh]
  have e1 : ∀ hq, (⟨2816 + 128 * k + e.val, hq⟩ : Fin 5632) = ⟨2816 + (128 * k + e.val), by omega⟩ := fun _ => Fin.ext (by show 2816 + 128 * k + e.val = 2816 + (128 * k + e.val); omega)
  have hg' : zg i R k h (ix2 r e) = zB (i 1).val X H W B r ⟨128 * k + e.val, by omega⟩ := cz_at A _ _ r e
  have hv' : zv i R k h (ix2 r e) = zB (i 1).val X H W B r ⟨2816 + (128 * k + e.val), by omega⟩ := (cz_at A _ _ r e).trans (by rw [e1])
  have hd' : k0_pay22 (F := Ideal) (R.d (128 * k) (hd h)) (ix2 r e) = D (ix3 0 r ⟨128 * k + e.val, hh⟩) := (pay_wide' _ r e).trans (A.d _ _ r e)
  rw [← hg', ← hv', ← hd']
  unfold dg
  generalize k0_pay22 (F := Ideal) (R.d (128 * k) (hd h)) = d
  generalize zg i R k h = g
  generalize zv i R k h = v
  have hs := pay_sg g r e
  generalize k0_pay19 (F := Ideal) g = s at hs ⊢
  pointwise [gGate]
  rw [hs]

theorem dv_at (k : ℕ) (h : k + 1 ≤ 22) (r e : Fin 128) :
    dv i R k h (ix2 r e) = dzB (i 1).val X H W B D r ⟨2816 + 128 * k + e.val, by omega⟩ := by
  have hh : ¬2816 + 128 * k + e.val < 2816 := by omega
  unfold dzB
  rw [dif_neg hh]
  have e1 : ∀ hq, (⟨2816 + 128 * k + e.val - 2816, hq⟩ : Fin 5632) = ⟨128 * k + e.val, by omega⟩ := fun _ => Fin.ext (by show 2816 + 128 * k + e.val - 2816 = 128 * k + e.val; omega)
  have e2 : ∀ hq, (⟨2816 + 128 * k + e.val - 2816, hq⟩ : Fin 2816) = ⟨128 * k + e.val, by omega⟩ := fun _ => Fin.ext (by show 2816 + 128 * k + e.val - 2816 = 128 * k + e.val; omega)
  have hg' : zg i R k h (ix2 r e) = zB (i 1).val X H W B r ⟨128 * k + e.val, by omega⟩ := cz_at A _ _ r e
  have hd' : k0_pay22 (F := Ideal) (R.d (128 * k) (hd h)) (ix2 r e) = D (ix3 0 r ⟨128 * k + e.val, by omega⟩) := (pay_wide' _ r e).trans (A.d _ _ r e)
  simp only [e1, e2]
  rw [← hg', ← hd']
  unfold dv
  generalize k0_pay22 (F := Ideal) (R.d (128 * k) (hd h)) = d
  generalize zg i R k h = g
  have hs := pay_silu g r e
  generalize k0_pay20 (F := Ideal) g = s at hs ⊢
  pointwise [gVal]
  rw [hs]

theorem ga_at (k : ℕ) (h : k + 1 ≤ 22) (r e : Fin 128) :
    ga i R k h (ix2 r e) = actB (i 1).val X H W B r ⟨128 * k + e.val, by omega⟩ := by
  unfold actB
  have e1 : ∀ hq, (⟨2816 + 128 * k + e.val, hq⟩ : Fin 5632) = ⟨2816 + (128 * k + e.val), by omega⟩ := fun _ => Fin.ext (by show 2816 + 128 * k + e.val = 2816 + (128 * k + e.val); omega)
  have hg' : zg i R k h (ix2 r e) = zB (i 1).val X H W B r ⟨128 * k + e.val, by omega⟩ := cz_at A _ _ r e
  have hv' : zv i R k h (ix2 r e) = zB (i 1).val X H W B r ⟨2816 + (128 * k + e.val), by omega⟩ := (cz_at A _ _ r e).trans (by rw [e1])
  rw [← hg', ← hv']
  unfold ga
  generalize zg i R k h = g
  generalize zv i R k h = v
  have hs := pay_silu g r e
  generalize k0_pay20 (F := Ideal) g = s at hs ⊢
  pointwise [prod]
  rw [hs]

end

end Cert.Proof.ConvPay
-- ==== Proof.ConvStores.lean ====
/- The gated convolution's backward body: what its stores leave. -/
module

public import proofs.«01_k».proof.Proof.ConvPay
public import Idealize.ShloMosaic.Lib.WritesUnit

@[expose] public section

set_option maxRecDepth 16384

noncomputable section

namespace Cert.Proof.ConvStores

open Cert.ConvIdeal Cert.ConvIdeal.Gen Cert.Proof.ConvLists Cert.Proof.ConvPay Idealize.ShloMosaic Idealize.ShloMosaic.TcCoe Idealize.SL.Sem

section
variable {i : grid0.Coords} {R : Reads} {X : WX} {H : WH} {W : WW} {B : WB} {D : WD} (A : At R X H W B D)
include A

theorem pieces5 : ∀ (n : ℕ) (h : n ≤ 22), View.PiecesOf (fun y => dzB (i 1).val X H W B D (y 1) (y 2)) (list5 i R n h)
  | 0, _ => trivial
  | k + 1, h => by
    refine ⟨fun x => ?_, fun x => ?_, pieces5 k (Nat.le_of_succ_le h)⟩
    · refine (narrow_at _ x).trans ((dv_at A k h (x 1) (x 2)).trans ?_)
      refine congrArg₂ (dzB (i 1).val X H W B D) (Fin.ext ?_) (Fin.ext ?_)
      · show (x 1).val = 0 + 1 * (x 1).val
        omega
      · show 2816 + 128 * k + (x 2).val = 2816 + 128 * k + 1 * (x 2).val
        omega
    · refine (narrow_at _ x).trans ((dg_at A k h (x 1) (x 2)).trans ?_)
      refine congrArg₂ (dzB (i 1).val X H W B D) (Fin.ext ?_) (Fin.ext ?_)
      · show (x 1).val = 0 + 1 * (x 1).val
        omega
      · show 128 * k + (x 2).val = 128 * k + 1 * (x 2).val
        omega

theorem pieces6 : ∀ (n : ℕ) (h : n ≤ 22), View.PiecesOf (fun y => actB (i 1).val X H W B (y 1) (y 2)) (list6 i R n h)
  | 0, _ => trivial
  | k + 1, h => by
    refine ⟨fun x => ?_, pieces6 k (Nat.le_of_succ_le h)⟩
    refine (narrow_at _ x).trans ((ga_at A k h (x 1) (x 2)).trans ?_)
    refine congrArg₂ (actB (i 1).val X H W B) (Fin.ext ?_) (Fin.ext ?_)
    · show (x 1).val = 0 + 1 * (x 1).val
      omega
    · show 128 * k + (x 2).val = 128 * k + 1 * (x 2).val
      omega

end

section
variable {sg : RefSig} {κ : Kind} {sp : Space} (v : View sg κ sp S8x5632 .f32) (f : v.ty.Contents (Elt Ideal))

theorem put_read (o : ℕ) (h : o + 128 ≤ 5632) (P : List Piece7 → (r : ℕ) → r + 1 ≤ 8 → Vec Ideal S1x128 .f32) (r : ℕ) (hr : r + 1 ≤ 8)
    (x : FVec Ideal S128x128 .f32) (L : List Piece7) (z : S8x5632.Idx) :
    v.read (Elt Ideal) (v.writes (Elt Ideal) f (put o h P r hr x L)) z
      = if hz : (z 0).val = r ∧ o ≤ (z 1).val ∧ (z 1).val < o + 128 then
          P L r hr (ix2 0 ⟨(z 1).val - o, by omega⟩) + ∑ q : Fin 128, x (ix2 q ⟨(z 1).val - o, by omega⟩)
        else v.read (Elt Ideal) (v.writes (Elt Ideal) f L) z := by
  by_cases hz : (z 0).val = r ∧ o ≤ (z 1).val ∧ (z 1).val < o + 128
  · rw [dif_pos hz]
    refine (View.read_writes_cons_unit_of_mem v f (in_s r o hr h) _ L z (ix2 0 ⟨(z 1).val - o, by omega⟩) rfl fun a => ?_).trans (tally_at _ _ _)
    fin_cases a
    · show (z 0).val = r + 0
      omega
    · show (z 1).val = o + ((z 1).val - o)
      omega
  · rw [dif_neg hz]
    by_cases h0 : (z 0).val = r
    · refine View.read_writes_cons_unit_of_not_mem v f (in_s r o hr h) _ L z rfl 1 ?_
      show (z 1).val < o ∨ o + 128 ≤ (z 1).val
      omega
    · refine View.read_writes_cons_unit_of_not_mem v f (in_s r o hr h) _ L z rfl 0 ?_
      show (z 0).val < r ∨ r + 1 ≤ (z 0).val
      omega

/-- The sums one column block adds to row `k`. -/
def four (x u p1 p2 : FVec Ideal S128x128 .f32) (k : ℕ) (e : Fin 128) : EReal :=
  if k = 0 then ∑ q : Fin 128, x (ix2 q e) else if k = 1 then ∑ q : Fin 128, x (ix2 q e) * p2 (ix2 q e)
  else if k = 2 then ∑ q : Fin 128, x (ix2 q e) * p1 (ix2 q e) else ∑ q : Fin 128, x (ix2 q e) * u (ix2 q e)

theorem rows_read (x u p1 p2 : FVec Ideal S128x128 .f32) (o : ℕ) (h : o + 128 ≤ 5632)
    (P : List Piece7 → (r : ℕ) → r + 1 ≤ 8 → Vec Ideal S1x128 .f32) (L : List Piece7) (g : S8x5632.Idx → EReal)
    (hP : ∀ (L' : List Piece7) (r : ℕ) (hr : r + 1 ≤ 8) (e : Fin 128),
      v.read (Elt Ideal) (v.writes (Elt Ideal) f L') (ix2 ⟨r, by omega⟩ ⟨o + e.val, by omega⟩) = g (ix2 ⟨r, by omega⟩ ⟨o + e.val, by omega⟩) →
      P L' r hr (ix2 0 e) = g (ix2 ⟨r, by omega⟩ ⟨o + e.val, by omega⟩))
    (hL : ∀ z : S8x5632.Idx, o ≤ (z 1).val → (z 1).val < o + 128 → v.read (Elt Ideal) (v.writes (Elt Ideal) f L) z = g z) (z : S8x5632.Idx) :
    v.read (Elt Ideal) (v.writes (Elt Ideal) f (rows x u p1 p2 o h P L)) z
      = if hz : (z 0).val < 4 ∧ o ≤ (z 1).val ∧ (z 1).val < o + 128 then g z + four x u p1 p2 (z 0).val ⟨(z 1).val - o, by omega⟩
        else v.read (Elt Ideal) (v.writes (Elt Ideal) f L) z := by
  by_cases hz : (z 0).val < 4 ∧ o ≤ (z 1).val ∧ (z 1).val < o + 128
  · have hP' : ∀ (L' : List Piece7) (r : ℕ) (hr : r + 1 ≤ 8), (z 0).val = r →
        v.read (Elt Ideal) (v.writes (Elt Ideal) f L') z = v.read (Elt Ideal) (v.writes (Elt Ideal) f L) z →
        P L' r hr (ix2 0 ⟨(z 1).val - o, by omega⟩) = g z := by
      intro L' r hr e0 e1
      have ez : (ix2 ⟨r, by omega⟩ ⟨o + ((z 1).val - o), by omega⟩ : S8x5632.Idx) = z := by
        funext a
        refine Fin.ext ?_
        fin_cases a
        · exact e0.symm
        · show o + ((z 1).val - o) = (z 1).val
          omega
      refine (hP L' r hr ⟨(z 1).val - o, by omega⟩ ?_).trans (congrArg g ez)
      rw [ez, e1]
      exact hL z hz.2.1 hz.2.2
    rw [dif_pos hz]
    unfold rows four
    have hn : (z 0).val = 0 ∨ (z 0).val = 1 ∨ (z 0).val = 2 ∨ (z 0).val = 3 := by omega
    rcases hn with hn | hn | hn | hn
    · rw [put_read, dif_neg (by omega), put_read, dif_neg (by omega), put_read, dif_neg (by omega), put_read, dif_pos (by omega), hP' _ _ _ hn rfl, if_pos hn]
    · rw [put_read, dif_neg (by omega), put_read, dif_neg (by omega), put_read, dif_pos (by omega), hP' _ _ _ hn (by rw [put_read, dif_neg (by omega)]),
        if_neg (by omega), if_pos hn]
      rfl
    · rw [put_read, dif_neg (by omega), put_read, dif_pos (by omega),
        hP' _ _ _ hn (by rw [put_read, dif_neg (by omega), put_read, dif_neg (by omega)]), if_neg (by omega), if_neg (by omega), if_pos hn]
      rfl
    · rw [put_read, dif_pos (by omega),
        hP' _ _ _ hn (by rw [put_read, dif_neg (by omega), put_read, dif_neg (by omega), put_read, dif_neg (by omega)]), if_neg (by omega), if_neg (by omega), if_neg (by omega)]
      rfl
  · rw [dif_neg hz]
    unfold rows
    rw [put_read, dif_neg (by omega), put_read, dif_neg (by omega), put_read, dif_neg (by omega), put_read, dif_neg (by omega)]

/-- The columns the first `n` blocks cover. -/
def cov (n c : ℕ) : Prop := c < 128 * n ∨ 2816 ≤ c ∧ c < 2816 + 128 * n

open Classical in
theorem list7_read {i : grid0.Coords} {R : Reads} {X : WX} {H : WH} {W : WW} {B : WB} {D : WD} (A : At R X H W B D)
    (P : (o : ℕ) → o + 128 ≤ 5632 → List Piece7 → (r : ℕ) → r + 1 ≤ 8 → Vec Ideal S1x128 .f32) (L0 : List Piece7) (g : S8x5632.Idx → EReal)
    (hP : ∀ (o : ℕ) (h : o + 128 ≤ 5632) (L' : List Piece7) (r : ℕ) (hr : r + 1 ≤ 8) (e : Fin 128),
      v.read (Elt Ideal) (v.writes (Elt Ideal) f L') (ix2 ⟨r, by omega⟩ ⟨o + e.val, by omega⟩) = g (ix2 ⟨r, by omega⟩ ⟨o + e.val, by omega⟩) →
      P o h L' r hr (ix2 0 e) = g (ix2 ⟨r, by omega⟩ ⟨o + e.val, by omega⟩))
    (h0 : ∀ z : S8x5632.Idx, v.read (Elt Ideal) (v.writes (Elt Ideal) f L0) z = g z) :
    ∀ (n : ℕ) (h : n ≤ 22) (z : S8x5632.Idx), v.read (Elt Ideal) (v.writes (Elt Ideal) f (list7 i R P L0 n h)) z
      = if (z 0).val < 4 ∧ cov n (z 1).val then g z + sumB (i 1).val X H W B D (z 0) (z 1) else g z
  | 0, _, z => by
    rw [if_neg (by unfold cov; have := (z 1).isLt; omega)]
    exact h0 z
  | k + 1, h, z => by
    have ih := list7_read (i := i) A P L0 g hP h0 k (Nat.le_of_succ_le h)
    have ihn : ∀ z : S8x5632.Idx, ¬cov k (z 1).val → v.read (Elt Ideal) (v.writes (Elt Ideal) f (list7 i R P L0 k (Nat.le_of_succ_le h))) z = g z := by
      intro z hz
      rw [ih, if_neg fun hh => hz hh.2]
    have sG : ∀ z : S8x5632.Idx, (z 0).val < 4 → ∀ (hz : 128 * k ≤ (z 1).val ∧ (z 1).val < 128 * k + 128),
        four (dg i R k h) (k0_pay4 (R.u (128 * k) (hg h))) (k0_pay7 i (R.u (128 * k) (hg h)) (R.h (128 * k) (hg h)))
          (k0_pay8 i (R.u (128 * k) (hg h)) (R.h (128 * k) (hg h))) (z 0).val ⟨(z 1).val - 128 * k, by omega⟩ = sumB (i 1).val X H W B D (z 0) (z 1) := by
      intro z h4 hz
      unfold four sumB
      have ec : ∀ hq, (⟨128 * k + ((z 1).val - 128 * k), hq⟩ : Fin 5632) = z 1 := fun _ => Fin.ext (by show 128 * k + ((z 1).val - 128 * k) = (z 1).val; omega)
      simp only [dg_at A, pay_back1, pay_back2, pay_wide, back1_at A, back2_at A, A.u, ec]
    have sV : ∀ z : S8x5632.Idx, (z 0).val < 4 → ∀ (hz : 2816 + 128 * k ≤ (z 1).val ∧ (z 1).val < 2816 + 128 * k + 128),
        four (dv i R k h) (k0_pay4 (R.u (2816 + 128 * k) (hv h))) (k0_pay7 i (R.u (2816 + 128 * k) (hv h)) (R.h (2816 + 128 * k) (hv h)))
          (k0_pay8 i (R.u (2816 + 128 * k) (hv h)) (R.h (2816 + 128 * k) (hv h))) (z 0).val ⟨(z 1).val - (2816 + 128 * k), by omega⟩ = sumB (i 1).val X H W B D (z 0) (z 1) := by
      intro z h4 hz
      unfold four sumB
      have ec : ∀ hq, (⟨2816 + 128 * k + ((z 1).val - (2816 + 128 * k)), hq⟩ : Fin 5632) = z 1 :=
        fun _ => Fin.ext (by show 2816 + 128 * k + ((z 1).val - (2816 + 128 * k)) = (z 1).val; omega)
      simp only [dv_at A, pay_back1, pay_back2, pay_wide, back1_at A, back2_at A, A.u, ec]
    have rG := rows_read v f (dg i R k h) (k0_pay4 (R.u (128 * k) (hg h))) (k0_pay7 i (R.u (128 * k) (hg h)) (R.h (128 * k) (hg h)))
        (k0_pay8 i (R.u (128 * k) (hg h)) (R.h (128 * k) (hg h))) (128 * k) (hg h) (P _ (hg h)) (list7 i R P L0 k (Nat.le_of_succ_le h)) g (hP _ _)
        fun z h1 h2 => ihn z (by unfold cov; omega)
    unfold list7
    rw [rows_read v f _ _ _ _ _ _ _ _ g (hP _ _) fun z h1 h2 => by
      rw [rG, dif_neg (by omega)]; exact ihn z (by unfold cov; omega)]
    by_cases h4 : (z 0).val < 4
    · by_cases hv' : 2816 + 128 * k ≤ (z 1).val ∧ (z 1).val < 2816 + 128 * k + 128
      · rw [dif_pos ⟨h4, hv'⟩, sV z h4 hv', if_pos ⟨h4, by unfold cov; omega⟩]
      · rw [dif_neg fun hh => hv' hh.2, rG]
        by_cases hg' : 128 * k ≤ (z 1).val ∧ (z 1).val < 128 * k + 128
        · rw [dif_pos ⟨h4, hg'⟩, sG z h4 hg', if_pos ⟨h4, by unfold cov; omega⟩]
        · rw [dif_neg fun hh => hg' hh.2, ih]
          by_cases hc : cov k (z 1).val
          · rw [if_pos ⟨h4, hc⟩, if_pos ⟨h4, by unfold cov at hc ⊢; omega⟩]
          · rw [if_neg fun hh => hc hh.2, if_neg fun hh => hc (by have := hh.2; unfold cov at this ⊢; omega)]
    · rw [dif_neg fun hh => h4 hh.1, rG, dif_neg fun hh => h4 hh.1, ih, if_neg fun hh => h4 hh.1, if_neg fun hh => h4 hh.1]

end

end Cert.Proof.ConvStores
-- ==== Proof.ConvOuts.lean ====
/- The gated convolution's backward body: what it leaves in its three outputs, at an entry. -/
module

public import proofs.«01_k».proof.Proof.ConvStores

@[expose] public section

set_option maxRecDepth 16384

noncomputable section

namespace Cert.Proof.ConvOuts

open Cert.ConvIdeal Cert.ConvIdeal.Gen Cert.Proof.ConvLists Cert.Proof.ConvPay Cert.Proof.ConvStores Idealize.ShloMosaic Idealize.ShloMosaic.TcCoe Idealize.SL.Sem

variable (c : Dev nD) {i : grid0.Coords}
    (arg2 : Memref sig .tc .vmem S1x128x2816 .f32) (harg2 : arg2.IsWhole)
    (arg3 : Memref sig .tc .vmem S1x128x5632 .bf16) (harg3 : arg3.IsWhole)
    (arg4 : Memref sig .tc .vmem S1x16x5632 .bf16) (harg4 : arg4.IsWhole)
    (arg5 : Memref sig .tc .vmem S3x5632 .f32) (harg5 : arg5.IsWhole)
    (arg6 : Memref sig .tc .vmem S1x5632 .f32) (harg6 : arg6.IsWhole)
    (arg7 : Memref sig .tc .vmem S1x128x5632 .bf16) (harg7 : arg7.IsWhole)
    (arg8 : Memref sig .tc .vmem S1x128x2816 .bf16) (harg8 : arg8.IsWhole)
    (arg9 : Memref sig .tc .vmem S8x5632 .f32) (harg9 : arg9.IsWhole)
    (x0 : Vec Ideal S1x128x2816 .f32) (x1 : Vec Ideal S1x128x5632 .bf16) (x2 : Vec Ideal S1x16x5632 .bf16) (x3 : Vec Ideal S3x5632 .f32) (x4 : Vec Ideal S1x5632 .f32)

theorem reads_at : At (reads arg2 harg2 arg3 harg3 arg4 harg4 arg5 harg5 arg6 harg6 x0 x1 x2 x3 x4) x1 x2 x3 x4 x0 where
  u o h r e := by
    unfold reads
    dsimp only
    rw [View.readAt_eq_ld, harg3.read_unread, View.ld_apply]
    refine congrArg x1 (funext fun a => Fin.ext ?_)
    fin_cases a
    · rfl
    · show 0 + 1 * r.val = r.val
      omega
    · show o + 1 * e.val = o + e.val
      omega
  h o h r e := by
    unfold reads
    dsimp only
    rw [View.readAt_eq_ld, harg4.read_unread, View.ld_apply]
    refine congrArg x2 (funext fun a => Fin.ext ?_)
    fin_cases a
    · rfl
    · show 0 + 1 * r.val = r.val
      omega
    · show o + 1 * e.val = o + e.val
      omega
  w o h r e := by
    unfold reads
    dsimp only
    rw [View.readAt_eq_ld, harg5.read_unread, View.ld_apply]
    refine congrArg x3 (funext fun a => Fin.ext ?_)
    fin_cases a
    · show 0 + 1 * r.val = r.val
      omega
    · show o + 1 * e.val = o + e.val
      omega
  b o h e := by
    unfold reads
    dsimp only
    rw [View.readAt_eq_ld, harg6.read_unread, View.ld_apply]
    refine congrArg x4 (funext fun a => Fin.ext ?_)
    fin_cases a
    · rfl
    · show o + 1 * e.val = o + e.val
      omega
  d o h r e := by
    unfold reads
    dsimp only
    rw [View.readAt_eq_ld, harg2.read_unread, View.ld_apply]
    refine congrArg x0 (funext fun a => Fin.ext ?_)
    fin_cases a
    · rfl
    · show 0 + 1 * r.val = r.val
      omega
    · show o + 1 * e.val = o + e.val
      omega

theorem out5_A (hc0 : cond0_0 i) (y : S1x128x5632.Idx) :
    out0_A_5 (F := Ideal) c i arg2 harg2 arg3 harg3 arg4 harg4 arg5 harg5 arg6 harg6 arg7 harg7 arg8 harg8 arg9 harg9 hc0 x0 x1 x2 x3 x4 y = dzB (i 1).val x1 x2 x3 x4 x0 (y 1) (y 2) := by
  unfold out0_A_5
  have hcov := cover0_A_5 (F := Ideal) c i arg2 harg2 arg3 harg3 arg4 harg4 arg5 harg5 arg6 harg6 arg7 harg7 arg8 harg8 arg9 harg9 hc0 x0 x1 x2 x3 x4 y
  rw [run5_A] at hcov ⊢
  rw [View.read_writes_junk_apply_eq_canon]
  exact (congrArg (fun L => View.canon L y) (List.append_nil _).symm).trans
    (View.canon_append_of_piecesOf (fun y : S1x128x5632.Idx => dzB (i 1).val x1 x2 x3 x4 x0 (y 1) (y 2)) [] _ (pieces5 (reads_at arg2 harg2 arg3 harg3 arg4 harg4 arg5 harg5 arg6 harg6 x0 x1 x2 x3 x4) 22 le_rfl) y hcov)

theorem out6_A (hc0 : cond0_0 i) (y : S1x128x2816.Idx) :
    out0_A_6 (F := Ideal) c i arg2 harg2 arg3 harg3 arg4 harg4 arg5 harg5 arg6 harg6 arg7 harg7 arg8 harg8 arg9 harg9 hc0 x0 x1 x2 x3 x4 y = actB (i 1).val x1 x2 x3 x4 (y 1) (y 2) := by
  unfold out0_A_6
  have hcov := cover0_A_6 (F := Ideal) c i arg2 harg2 arg3 harg3 arg4 harg4 arg5 harg5 arg6 harg6 arg7 harg7 arg8 harg8 arg9 harg9 hc0 x0 x1 x2 x3 x4 y
  rw [run6_A] at hcov ⊢
  rw [View.read_writes_junk_apply_eq_canon]
  exact (congrArg (fun L => View.canon L y) (List.append_nil _).symm).trans
    (View.canon_append_of_piecesOf (fun y : S1x128x2816.Idx => actB (i 1).val x1 x2 x3 x4 (y 1) (y 2)) [] _ (pieces6 (reads_at arg2 harg2 arg3 harg3 arg4 harg4 arg5 harg5 arg6 harg6 x0 x1 x2 x3 x4) 22 le_rfl) y hcov)

theorem out5_B (hc0 : ¬cond0_0 i) (xo7 : Vec Ideal S8x5632 .f32) (y : S1x128x5632.Idx) :
    out0_B_5 (F := Ideal) c i arg2 harg2 arg3 harg3 arg4 harg4 arg5 harg5 arg6 harg6 arg7 harg7 arg8 harg8 arg9 harg9 hc0 x0 x1 x2 x3 x4 xo7 y = dzB (i 1).val x1 x2 x3 x4 x0 (y 1) (y 2) := by
  unfold out0_B_5
  have hcov := cover0_B_5 (F := Ideal) c i arg2 harg2 arg3 harg3 arg4 harg4 arg5 harg5 arg6 harg6 arg7 harg7 arg8 harg8 arg9 harg9 hc0 x0 x1 x2 x3 x4 xo7 y
  rw [run5_B] at hcov ⊢
  rw [View.read_writes_junk_apply_eq_canon]
  exact (congrArg (fun L => View.canon L y) (List.append_nil _).symm).trans
    (View.canon_append_of_piecesOf (fun y : S1x128x5632.Idx => dzB (i 1).val x1 x2 x3 x4 x0 (y 1) (y 2)) [] _ (pieces5 (reads_at arg2 harg2 arg3 harg3 arg4 harg4 arg5 harg5 arg6 harg6 x0 x1 x2 x3 x4) 22 le_rfl) y hcov)

theorem out6_B (hc0 : ¬cond0_0 i) (xo7 : Vec Ideal S8x5632 .f32) (y : S1x128x2816.Idx) :
    out0_B_6 (F := Ideal) c i arg2 harg2 arg3 harg3 arg4 harg4 arg5 harg5 arg6 harg6 arg7 harg7 arg8 harg8 arg9 harg9 hc0 x0 x1 x2 x3 x4 xo7 y = actB (i 1).val x1 x2 x3 x4 (y 1) (y 2) := by
  unfold out0_B_6
  have hcov := cover0_B_6 (F := Ideal) c i arg2 harg2 arg3 harg3 arg4 harg4 arg5 harg5 arg6 harg6 arg7 harg7 arg8 harg8 arg9 harg9 hc0 x0 x1 x2 x3 x4 xo7 y
  rw [run6_B] at hcov ⊢
  rw [View.read_writes_junk_apply_eq_canon]
  exact (congrArg (fun L => View.canon L y) (List.append_nil _).symm).trans
    (View.canon_append_of_piecesOf (fun y : S1x128x2816.Idx => actB (i 1).val x1 x2 x3 x4 (y 1) (y 2)) [] _ (pieces6 (reads_at arg2 harg2 arg3 harg3 arg4 harg4 arg5 harg5 arg6 harg6 x0 x1 x2 x3 x4) 22 le_rfl) y hcov)

theorem zero_at (z : S8x5632.Idx) : k0_pay3 (F := Ideal) z = 0 := by
  pointwise [k0_pay3]

theorem all_cov (c : Fin 5632) : cov 22 c.val := by
  unfold cov
  omega

theorem out7_A (hc0 : cond0_0 i) (z : S8x5632.Idx) :
    out0_A_7 (F := Ideal) c i arg2 harg2 arg3 harg3 arg4 harg4 arg5 harg5 arg6 harg6 arg7 harg7 arg8 harg8 arg9 harg9 hc0 x0 x1 x2 x3 x4 z = if (z 0).val < 4 then sumB (i 1).val x1 x2 x3 x4 x0 (z 0) (z 1) else 0 := by
  unfold out0_A_7
  rw [run7_A, list7_read VO0_7 VO0_7.junk (reads_at arg2 harg2 arg3 harg3 arg4 harg4 arg5 harg5 arg6 harg6 x0 x1 x2 x3 x4) _ _ (fun _ => 0)]
  · by_cases h : (z 0).val < 4
    · rw [if_pos ⟨h, all_cov (z 1)⟩, if_pos h, zero_add]
    · rw [if_neg fun hh => h hh.1, if_neg h]
  · intro o h L' r hr e hL
    rw [View.read_writes_junk_apply_eq_canon] at hL
    rw [View.readCov_eq_canon']
    refine Eq.trans (congrArg (View.canon L') (funext fun a => Fin.ext ?_)) hL
    fin_cases a
    · show r + 1 * 0 = r
      omega
    · show o + 1 * e.val = o + e.val
      omega
  · intro z
    refine (View.read_writes_cons_unit_of_mem VO0_7 VO0_7.junk inb_S8x5632_S8x5632_0_0 _ [] z z rfl fun a => ?_).trans (zero_at z)
    fin_cases a
    · show (z 0).val = 0 + (z 0).val
      omega
    · show (z 1).val = 0 + (z 1).val
      omega

theorem out7_B (hc0 : ¬cond0_0 i) (xo7 : Vec Ideal S8x5632 .f32) (z : S8x5632.Idx) :
    out0_B_7 (F := Ideal) c i arg2 harg2 arg3 harg3 arg4 harg4 arg5 harg5 arg6 harg6 arg7 harg7 arg8 harg8 arg9 harg9 hc0 x0 x1 x2 x3 x4 xo7 z = if (z 0).val < 4 then xo7 z + sumB (i 1).val x1 x2 x3 x4 x0 (z 0) (z 1) else xo7 z := by
  unfold out0_B_7
  rw [run7_B, list7_read arg9.view (harg9.unread xo7) (reads_at arg2 harg2 arg3 harg3 arg4 harg4 arg5 harg5 arg6 harg6 x0 x1 x2 x3 x4) _ _ xo7]
  · by_cases h : (z 0).val < 4
    · rw [if_pos ⟨h, all_cov (z 1)⟩, if_pos h]
    · rw [if_neg fun hh => h hh.1, if_neg h]
  · intro o h L' r hr e hL
    rw [View.readAt_eq_ld, harg9.read_unread, View.ld_apply]
    refine congrArg xo7 (funext fun a => Fin.ext ?_)
    fin_cases a
    · show r + 1 * 0 = r
      omega
    · show o + 1 * e.val = o + e.val
      omega
  · intro z
    exact congrFun (harg9.read_unread xo7) z

end Cert.Proof.ConvOuts
-- ==== Proof.ConvValue.lean ====
/- The gradient of a causal convolution of three taps and the gate after it: what the kernel's grid (two sequences, sixteen blocks of
   rows) leaves in its three results, read at an index. The sums over rows are accumulated over all grid points. -/
module

public import proofs.«01_k».proof.Proof.Gen.ConvIdeal.Value
public import proofs.«01_k».proof.Proof.Gen.ConvRefIdeal.Run
public import proofs.«01_k».proof.Proof.ConvOuts
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.ConvValue

open Cert.Proof.ConvPay Cert.Proof.ConvOuts Cert.ConvIdeal Cert.ConvIdeal.Gen Idealize.ShloMosaic Idealize.ShloMosaic.TcCoe Idealize.SL.Sem

variable (m : (ℓ : Loc nD τ sig) → Buf (Elt Ideal) ℓ)

/-- The contents of the arrays. -/
abbrev ArrU := (⟨3, ![2, 2048, 5632]⟩ : Shape).Idx → EReal
abbrev ArrD := (⟨3, ![2, 2048, 2816]⟩ : Shape).Idx → EReal

/-- The row `j` places before; before the first there are zeros. -/
def back (j : ℕ) (U : ArrU) (b : Fin 2) (r : Fin 2048) (e : Fin 5632) : EReal :=
  if h : j ≤ r.val then U (ix3 b ⟨r.val - j, by omega⟩ e) else 0

/-- The convolution, its gradient and the gated product. -/
def z (U : ArrU) (C : WW) (B : WB) (b : Fin 2) (r : Fin 2048) (e : Fin 5632) : EReal :=
  C (ix2 2 e) * U (ix3 b r e) + C (ix2 1 e) * back 1 U b r e + C (ix2 0 e) * back 2 U b r e + B (ix2 0 e)
def dz (U : ArrU) (C : WW) (B : WB) (D : ArrD) (b : Fin 2) (r : Fin 2048) (e : Fin 5632) : EReal :=
  if h : e.val < 2816 then gGate (z U C B b r e) (z U C B b r ⟨2816 + e.val, col_v ⟨e.val, h⟩⟩) (D (ix3 b r ⟨e.val, h⟩))
  else gVal (z U C B b r ⟨e.val - 2816, col_g ⟨_, col_w e h⟩⟩) (D (ix3 b r ⟨e.val - 2816, col_w e h⟩))
def act (U : ArrU) (C : WW) (B : WB) (b : Fin 2) (r : Fin 2048) (e : Fin 2816) : EReal :=
  prod (z U C B b r ⟨e.val, col_g e⟩) (z U C B b r ⟨2816 + e.val, col_v e⟩)

/-- The terms of the four rows of sums: of the bias, and of the taps. -/
def term (U : ArrU) (C : WW) (B : WB) (D : ArrD) (k : ℕ) (e : Fin 5632) (b : Fin 2) (r : Fin 2048) : EReal :=
  if k = 0 then dz U C B D b r e else if k = 1 then dz U C B D b r e * back 2 U b r e
  else if k = 2 then dz U C B D b r e * back 1 U b r e else dz U C B D b r e * U (ix3 b r e)

def dzArr (U : ArrU) (C : WW) (B : WB) (D : ArrD) : ArrU := fun i => dz U C B D (i 0) (i 1) (i 2)
def actArr (U : ArrU) (C : WW) (B : WB) : ArrD := fun i => act U C B (i 0) (i 1) (i 2)
def statArr (U : ArrU) (C : WW) (B : WB) (D : ArrD) : (⟨2, ![8, 5632]⟩ : Shape).Idx → EReal :=
  fun i => if (i 0).val < 4 then ∑ b, ∑ r, term U C B D (i 0).val (i 1) b r else 0

/-- The blocks of grid point `t`: sequence `t / 16`, rows `128 (t % 16) …`. -/
theorem idx0 : ∀ t : Fin cfg0.N, win0_0.index t = ![t.val / 16, t.val % 16, 0] :=
  (by decide +kernel : ∀ t : Fin grid0.N, win0_0.index t = ![t.val / 16, t.val % 16, 0])
theorem idx1 : ∀ t : Fin cfg0.N, win0_1.index t = ![t.val / 16, t.val % 16, 0] :=
  (by decide +kernel : ∀ t : Fin grid0.N, win0_1.index t = ![t.val / 16, t.val % 16, 0])
theorem idx2 : ∀ t : Fin cfg0.N, win0_2.index t = ![t.val / 16, t.val % 16 * 8 - 1, 0] :=
  (by decide +kernel : ∀ t : Fin grid0.N, win0_2.index t = ![t.val / 16, t.val % 16 * 8 - 1, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 16, t.val % 16, 0] :=
  (by decide +kernel : ∀ t : Fin grid0.N, win0_5.index t = ![t.val / 16, t.val % 16, 0])
theorem idx6 : ∀ t : Fin cfg0.N, win0_6.index t = ![t.val / 16, t.val % 16, 0] :=
  (by decide +kernel : ∀ t : Fin grid0.N, win0_6.index t = ![t.val / 16, t.val % 16, 0])
theorem idx7 : ∀ t : Fin cfg0.N, win0_7.index t = ![0, 0] :=
  (by decide +kernel : ∀ t : Fin grid0.N, win0_7.index t = ![0, 0])
theorem row_at : ∀ t : Fin cfg0.N, (grid0.coords t 1).val = t.val % 16 :=
  (by decide +kernel : ∀ t : Fin grid0.N, (grid0.coords t 1).val = t.val % 16)

theorem seq_lt (t : Fin cfg0.N) : t.val / 16 < 2 := by
  have h : t.val < 32 := lt_of_lt_of_eq t.isLt N_0
  omega
theorem row_lt (i : Nat) (r : Fin 128) : i % 16 * 128 + r.val < 2048 := by omega
theorem prev_lt (i : Nat) (k : Fin 16) : (i % 16 * 8 - 1) * 16 + k.val < 2048 := by omega

theorem read0 (c : Dev nD) (t : Fin cfg0.N) (r : Fin 128) (e : Fin 2816) : iblk m c 0 t (ix3 0 r e) = (m ((c : Thread nD τ).loc main_arg3)) (ix3 ⟨t.val / 16, seq_lt t⟩ ⟨t.val % 16 * 128 + r.val, row_lt _ r⟩ e) := by
  blk_point [iblk, V, idx0 t]
theorem read1 (c : Dev nD) (t : Fin cfg0.N) (r : Fin 128) (e : Fin 5632) : iblk m c 1 t (ix3 0 r e) = (m ((c : Thread nD τ).loc main_arg0)) (ix3 ⟨t.val / 16, seq_lt t⟩ ⟨t.val % 16 * 128 + r.val, row_lt _ r⟩ e) := by
  blk_point [iblk, V, idx1 t]
theorem read2 (c : Dev nD) (t : Fin cfg0.N) (k : Fin 16) (e : Fin 5632) :
    iblk m c 2 t (ix3 0 k e) = (m ((c : Thread nD τ).loc main_arg0)) (ix3 ⟨t.val / 16, seq_lt t⟩ ⟨(t.val % 16 * 8 - 1) * 16 + k.val, prev_lt _ k⟩ e) := by
  blk_point [iblk, V, idx2 t]
theorem read3 (c : Dev nD) (t : Fin cfg0.N) (k : Fin 3) (e : Fin 5632) : iblk m c 3 t (ix2 k e) = (m ((c : Thread nD τ).loc main_arg1)) (ix2 k e) := by
  blk_point [iblk, V, idx3 t]
theorem read4 (c : Dev nD) (t : Fin cfg0.N) (e : Fin 5632) : iblk m c 4 t (ix2 0 e) = (m ((c : Thread nD τ).loc main_arg2)) (ix2 0 e) := by
  blk_point [iblk, V, idx4 t]

theorem back1_read (c : Dev nD) (t : Fin cfg0.N) (r : Fin 128) (e : Fin 5632) :
    back1B (grid0.coords t 1).val (iblk m c 1 t) (iblk m c 2 t) r e = back 1 (m ((c : Thread nD τ).loc main_arg0)) ⟨t.val / 16, seq_lt t⟩ ⟨t.val % 16 * 128 + r.val, row_lt _ r⟩ e := by
  unfold back1B back prevB
  simp only [read1 m c t, read2 m c t, row_at t]
  have hr := r.isLt
  by_cases h : 1 ≤ r.val
  · rw [dif_pos h, dif_pos (show 1 ≤ t.val % 16 * 128 + r.val by omega)]
    refine congrArg (m ((c : Thread nD τ).loc main_arg0)) (congrArg (fun x => ix3 _ x _) (Fin.ext ?_))
    show t.val % 16 * 128 + (r.val - 1) = t.val % 16 * 128 + r.val - 1
    omega
  · rw [dif_neg h]
    by_cases h0 : t.val % 16 = 0
    · rw [if_pos h0, dif_neg (show ¬1 ≤ t.val % 16 * 128 + r.val by omega)]
    · rw [if_neg h0, dif_pos (show 1 ≤ t.val % 16 * 128 + r.val by omega)]
      refine congrArg (m ((c : Thread nD τ).loc main_arg0)) (congrArg (fun x => ix3 _ x _) (Fin.ext ?_))
      show (t.val % 16 * 8 - 1) * 16 + 15 = t.val % 16 * 128 + r.val - 1
      omega

theorem back2_read (c : Dev nD) (t : Fin cfg0.N) (r : Fin 128) (e : Fin 5632) :
    back2B (grid0.coords t 1).val (iblk m c 1 t) (iblk m c 2 t) r e = back 2 (m ((c : Thread nD τ).loc main_arg0)) ⟨t.val / 16, seq_lt t⟩ ⟨t.val % 16 * 128 + r.val, row_lt _ r⟩ e := by
  unfold back2B back prevB
  simp only [read1 m c t, read2 m c t, row_at t]
  have hr := r.isLt
  by_cases h : 2 ≤ r.val
  · rw [dif_pos h, dif_pos (show 2 ≤ t.val % 16 * 128 + r.val by omega)]
    refine congrArg (m ((c : Thread nD τ).loc main_arg0)) (congrArg (fun x => ix3 _ x _) (Fin.ext ?_))
    show t.val % 16 * 128 + (r.val - 2) = t.val % 16 * 128 + r.val - 2
    omega
  · rw [dif_neg h]
    by_cases h0 : t.val % 16 = 0
    · rw [if_pos h0, if_pos h0, ite_self, dif_neg (show ¬2 ≤ t.val % 16 * 128 + r.val by omega)]
    · rw [if_neg h0, if_neg h0, dif_pos (show 2 ≤ t.val % 16 * 128 + r.val by omega)]
      by_cases h1 : r.val = 1
      · rw [if_pos h1]
        refine congrArg (m ((c : Thread nD τ).loc main_arg0)) (congrArg (fun x => ix3 _ x _) (Fin.ext ?_))
        show (t.val % 16 * 8 - 1) * 16 + 15 = t.val % 16 * 128 + r.val - 2
        omega
      · rw [if_neg h1]
        refine congrArg (m ((c : Thread nD τ).loc main_arg0)) (congrArg (fun x => ix3 _ x _) (Fin.ext ?_))
        show (t.val % 16 * 8 - 1) * 16 + 14 = t.val % 16 * 128 + r.val - 2
        omega

theorem z_read (c : Dev nD) (t : Fin cfg0.N) (r : Fin 128) (e : Fin 5632) :
    zB (grid0.coords t 1).val (iblk m c 1 t) (iblk m c 2 t) (iblk m c 3 t) (iblk m c 4 t) r e = z (m ((c : Thread nD τ).loc main_arg0)) (m ((c : Thread nD τ).loc main_arg1)) (m ((c : Thread nD τ).loc main_arg2)) ⟨t.val / 16, seq_lt t⟩ ⟨t.val % 16 * 128 + r.val, row_lt _ r⟩ e := by
  unfold zB z
  rw [back1_read m c t, back2_read m c t, read1 m c t, read3 m c t, read3 m c t, read3 m c t, read4 m c t]

theorem dz_read (c : Dev nD) (t : Fin cfg0.N) (r : Fin 128) (e : Fin 5632) :
    dzB (grid0.coords t 1).val (iblk m c 1 t) (iblk m c 2 t) (iblk m c 3 t) (iblk m c 4 t) (iblk m c 0 t) r e = dz (m ((c : Thread nD τ).loc main_arg0)) (m ((c : Thread nD τ).loc main_arg1)) (m ((c : Thread nD τ).loc main_arg2)) (m ((c : Thread nD τ).loc main_arg3)) ⟨t.val / 16, seq_lt t⟩ ⟨t.val % 16 * 128 + r.val, row_lt _ r⟩ e := by
  unfold dzB dz
  simp only [z_read m c t, read0 m c t]

theorem act_read (c : Dev nD) (t : Fin cfg0.N) (r : Fin 128) (e : Fin 2816) :
    actB (grid0.coords t 1).val (iblk m c 1 t) (iblk m c 2 t) (iblk m c 3 t) (iblk m c 4 t) r e = act (m ((c : Thread nD τ).loc main_arg0)) (m ((c : Thread nD τ).loc main_arg1)) (m ((c : Thread nD τ).loc main_arg2)) ⟨t.val / 16, seq_lt t⟩ ⟨t.val % 16 * 128 + r.val, row_lt _ r⟩ e := by
  unfold actB act
  simp only [z_read m c t]

/-- What grid point `t` adds to an entry of the sums. -/
def step (c : Dev nD) (t : Fin cfg0.N) (y : S8x5632.Idx) : EReal :=
  if (y 0).val < 4 then ∑ r : Fin 128, term (m ((c : Thread nD τ).loc main_arg0)) (m ((c : Thread nD τ).loc main_arg1)) (m ((c : Thread nD τ).loc main_arg2)) (m ((c : Thread nD τ).loc main_arg3)) (y 0).val (y 1) ⟨t.val / 16, seq_lt t⟩ ⟨t.val % 16 * 128 + r.val, row_lt _ r⟩ else 0

theorem sum_read (c : Dev nD) (t : Fin cfg0.N) (k : Fin 8) (e : Fin 5632) :
    sumB (grid0.coords t 1).val (iblk m c 1 t) (iblk m c 2 t) (iblk m c 3 t) (iblk m c 4 t) (iblk m c 0 t) k e = ∑ r : Fin 128, term (m ((c : Thread nD τ).loc main_arg0)) (m ((c : Thread nD τ).loc main_arg1)) (m ((c : Thread nD τ).loc main_arg2)) (m ((c : Thread nD τ).loc main_arg3)) k.val e ⟨t.val / 16, seq_lt t⟩ ⟨t.val % 16 * 128 + r.val, row_lt _ r⟩ := by
  unfold sumB term
  simp only [dz_read m c t, back1_read m c t, back2_read m c t, read1 m c t]
  split_ifs <;> rfl

theorem outs5 (c : Dev nD) (t : Fin cfg0.N) (y : S1x128x5632.Idx) :
    (outsAt0 m c t.val t.isLt).1 y = dzB (grid0.coords t 1).val (iblk m c 1 t) (iblk m c 2 t) (iblk m c 3 t) (iblk m c 4 t) (iblk m c 0 t) (y 1) (y 2) := by
  by_cases h : t.val % 32 = 0
  · rw [outsAt0_A m c t h]
    dsimp only
    exact out5_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h) y
  · rw [outsAt0_B m c t h]
    dsimp only
    exact out5_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun hh => h ((hcond0_0 t).mp hh)) (outsAt0 m c (t.val - 1) (Nat.lt_of_le_of_lt (Nat.sub_le _ _) t.isLt)).2.2 y

theorem outs6 (c : Dev nD) (t : Fin cfg0.N) (y : S1x128x2816.Idx) :
    (outsAt0 m c t.val t.isLt).2.1 y = actB (grid0.coords t 1).val (iblk m c 1 t) (iblk m c 2 t) (iblk m c 3 t) (iblk m c 4 t) (y 1) (y 2) := by
  by_cases h : t.val % 32 = 0
  · rw [outsAt0_A m c t h]
    dsimp only
    exact out6_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h) y
  · rw [outsAt0_B m c t h]
    dsimp only
    exact out6_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun hh => h ((hcond0_0 t).mp hh)) (outsAt0 m c (t.val - 1) (Nat.lt_of_le_of_lt (Nat.sub_le _ _) t.isLt)).2.2 y

theorem outs7_reset (c : Dev nD) (t : Fin cfg0.N) (h : t.val % 32 = 0) (y : S8x5632.Idx) :
    (outsAt0 m c t.val t.isLt).2.2 y = 0 + step m c t y := by
  rw [outsAt0_A m c t h, zero_add]
  dsimp only
  refine (out7_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h) y).trans ?_
  exact congrArg (fun x : EReal => if (y 0).val < 4 then x else 0) (sum_read m c t (y 0) (y 1))

theorem outs7_step (c : Dev nD) (t : Fin cfg0.N) (h : ¬t.val % 32 = 0) (y : S8x5632.Idx) :
    (outsAt0 m c t.val t.isLt).2.2 y = (outsAt0 m c (t.val - 1) (Nat.lt_of_le_of_lt (Nat.sub_le _ _) t.isLt)).2.2 y + step m c t y := by
  rw [outsAt0_B m c t h]
  dsimp only
  refine (out7_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun hh => h ((hcond0_0 t).mp hh)) (outsAt0 m c (t.val - 1) (Nat.lt_of_le_of_lt (Nat.sub_le _ _) t.isLt)).2.2 y).trans ?_
  unfold step
  refine (congrArg (fun x : EReal => if (y 0).val < 4 then (outsAt0 m c (t.val - 1) (Nat.lt_of_le_of_lt (Nat.sub_le _ _) t.isLt)).2.2 y + x else (outsAt0 m c (t.val - 1) (Nat.lt_of_le_of_lt (Nat.sub_le _ _) t.isLt)).2.2 y) (sum_read m c t (y 0) (y 1))).trans ?_
  dsimp only
  by_cases h4 : (y 0).val < 4
  · rw [if_pos h4, if_pos h4]
  · rw [if_neg h4, if_neg h4, add_zero]

theorem total (c : Dev nD) (t : Fin cfg0.N) (h : t.val % 32 = 31) (y : S8x5632.Idx) :
    (outsAt0 m c t.val t.isLt).2.2 y = statArr (m ((c : Thread nD τ).loc main_arg0)) (m ((c : Thread nD τ).loc main_arg1)) (m ((c : Thread nD τ).loc main_arg2)) (m ((c : Thread nD τ).loc main_arg3)) y := by
  rw [Pipeline.eq_sum_fin_of_reset_step_apply_of_flush (fun n h => (outsAt0 m c n h).2.2) 32 (fun _ => 0) (step m c) (outs7_reset m c) (outs7_step m c) t h y, zero_add]
  unfold statArr step
  by_cases h4 : (y 0).val < 4
  · simp only [if_pos h4]
    refine Eq.trans (Finset.sum_congr rfl fun s _ => Finset.sum_congr rfl fun r _ => ?_)
      (Fin.sum_points_lanes_fin 16 (N := 32) (n := 128) (A := 2) (L := 2048) fun b r => term (m ((c : Thread nD τ).loc main_arg0)) (m ((c : Thread nD τ).loc main_arg1)) (m ((c : Thread nD τ).loc main_arg2)) (m ((c : Thread nD τ).loc main_arg3)) (y 0).val (y 1) b r)
    have hN : t.val < 32 := lt_of_lt_of_eq t.isLt N_0
    have hs : s.val < 32 := s.isLt
    refine congrArg₂ (term (m ((c : Thread nD τ).loc main_arg0)) (m ((c : Thread nD τ).loc main_arg1)) (m ((c : Thread nD τ).loc main_arg2)) (m ((c : Thread nD τ).loc main_arg3)) (y 0).val (y 1)) (Fin.ext ?_) (Fin.ext ?_)
    · show (32 * (t.val / 32) + s.val) / 16 = s.val / 16
      omega
    · show (32 * (t.val / 32) + s.val) % 16 * 128 + r.val = s.val % 16 * 128 + r.val
      omega
  · simp only [if_neg h4, Finset.sum_const_zero]

theorem final_dz (c : Dev nD) : (dats m 0 c).arrAt 5 cfg0.N = dzArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  rw [after0_5]
  refine (outs5 m c t y).trans ((dz_read m c t (y 1) (y 2)).trans ?_)
  show dzArr (m ((c : Thread nD τ).loc main_arg0)) (m ((c : Thread nD τ).loc main_arg1)) (m ((c : Thread nD τ).loc main_arg2)) (m ((c : Thread nD τ).loc main_arg3)) (ix3 ⟨t.val / 16, seq_lt t⟩ ⟨t.val % 16 * 128 + (y 1).val, row_lt _ (y 1)⟩ (y 2)) = _
  generalize dzArr (m ((c : Thread nD τ).loc main_arg0)) (m ((c : Thread nD τ).loc main_arg1)) (m ((c : Thread nD τ).loc main_arg2)) (m ((c : Thread nD τ).loc main_arg3)) = G
  blk_point [idx5 t]

theorem final_act (c : Dev nD) : (dats m 0 c).arrAt 6 cfg0.N = actArr (m ((c : Thread nD τ).loc main_arg0)) (m ((c : Thread nD τ).loc main_arg1)) (m ((c : Thread nD τ).loc main_arg2)) := by
  refine (dats m 0 c).arrAt_eq_of_covers 6 _ (by decide +kernel) fun t hf y => ?_
  rw [after0_6]
  refine (outs6 m c t y).trans ((act_read m c t (y 1) (y 2)).trans ?_)
  show actArr (m ((c : Thread nD τ).loc main_arg0)) (m ((c : Thread nD τ).loc main_arg1)) (m ((c : Thread nD τ).loc main_arg2)) (ix3 ⟨t.val / 16, seq_lt t⟩ ⟨t.val % 16 * 128 + (y 1).val, row_lt _ (y 1)⟩ (y 2)) = _
  generalize actArr (m ((c : Thread nD τ).loc main_arg0)) (m ((c : Thread nD τ).loc main_arg1)) (m ((c : Thread nD τ).loc main_arg2)) = G
  blk_point [idx6 t]

theorem final_stat (c : Dev nD) : (dats m 0 c).arrAt 7 cfg0.N = statArr (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  rw [after0_7]
  refine (total m c t ((flush0_7 t).mp hf) y).trans ?_
  generalize statArr (m ((c : Thread nD τ).loc main_arg0)) (m ((c : Thread nD τ).loc main_arg1)) (m ((c : Thread nD τ).loc main_arg2)) (m ((c : Thread nD τ).loc main_arg3)) = G
  blk_point [idx7 t]

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = dzArr (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = actArr (m ((c : Thread nD τ).loc main_arg0)) (m ((c : Thread nD τ).loc main_arg1)) (m ((c : Thread nD τ).loc main_arg2))
      ∧ r.2.mem ((c : Thread nD τ).loc main_v1_2) = statArr (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  simpa only [final_dz, final_act, final_stat] using Cert.ConvIdeal.Value.run_blocks m ρ

end Cert.Proof.ConvValue
-- ==== Proof.ConvClaim.lean ====
/- The gradient of a causal convolution of three taps and the gate after it: the claims. -/
module

public import proofs.«01_k».proof.Defs
public import proofs.«01_k».proof.Proof.Gen.Conv.Frame
public import proofs.«01_k».proof.Proof.ConvValue
public import proofs.«01_k».proof.Proof.Gen.Pre_conv_finite
public import proofs.«01_k».proof.Proof.Reals
public import proofs.«01_k».proof.Proof.Finite
public import proofs.«01_k».proof.Proof.NormMath

@[expose] public section

set_option maxRecDepth 16384

noncomputable section

namespace Cert.Proof.ConvClaim

open  Idealize.ShloMosaic Idealize.ShloMosaic.TcCoe Idealize.SL.Sem

open Cert.ConvRefIdeal Cert.ConvRefIdeal.Gen Cert.Proof.ConvPay

section
variable (A0 : FVec Ideal S2x2048x5632 .f32) (A1 : FVec Ideal S3x5632 .f32) (A2 : FVec Ideal S1x5632 .f32) (A3 : FVec Ideal S2x2048x2816 .f32)

/-- The reference's own terms: the rows with two rows of zeros before them, the convolution, the logistic function of its first half, the
    gradient of the convolution. -/
abbrev upT (A0 : FVec Ideal S2x2048x5632 .f32) : FVec Ideal S2x2050x5632 .f32 :=
  (concatenate S2x2050x5632 1 [⟨S2x2x5632, (broadcastInDim S2x2x5632 ![] bcast_S_S2x2x5632 (constant S_ .f32 0x00000000#32))⟩, ⟨S2x2048x5632, A0⟩] concatenates_S2x2x5632_S2x2048x5632_S2x2050x5632_d1)
abbrev zT (A0 : FVec Ideal S2x2048x5632 .f32) (A1 : FVec Ideal S3x5632 .f32) (A2 : FVec Ideal S1x5632 .f32) : FVec Ideal S2x2048x5632 .f32 :=
  (addf (addf (addf (mulf (broadcastInDim S2x2048x5632 ![0, 1, 2] bcast_S1x1x5632_S2x2048x5632_0_1_2 (broadcastInDim S1x1x5632 ![2] bcast_S5632_S1x1x5632_2 (shapeCast _ (extractStridedSlice S1x5632 ![0, 0] A1 slices_S3x5632_S1x5632_0_0) shapeCasts_S1x5632_S5632))) (extractStridedSlice S2x2048x5632 ![0, 0, 0] (upT A0) slices_S2x2050x5632_S2x2048x5632_0_0_0)) (mulf (broadcastInDim S2x2048x5632 ![0, 1, 2] bcast_S1x1x5632_S2x2048x5632_0_1_2 (broadcastInDim S1x1x5632 ![2] bcast_S5632_S1x1x5632_2 (shapeCast _ (extractStridedSlice S1x5632 ![1, 0] A1 slices_S3x5632_S1x5632_1_0) shapeCasts_S1x5632_S5632))) (extractStridedSlice S2x2048x5632 ![0, 1, 0] (upT A0) slices_S2x2050x5632_S2x2048x5632_0_1_0))) (mulf (broadcastInDim S2x2048x5632 ![0, 1, 2] bcast_S1x1x5632_S2x2048x5632_0_1_2 (broadcastInDim S1x1x5632 ![2] bcast_S5632_S1x1x5632_2 (shapeCast _ (extractStridedSlice S1x5632 ![2, 0] A1 slices_S3x5632_S1x5632_2_0) shapeCasts_S1x5632_S5632))) (extractStridedSlice S2x2048x5632 ![0, 2, 0] (upT A0) slices_S2x2050x5632_S2x2048x5632_0_2_0))) (broadcastInDim S2x2048x5632 ![0, 1, 2] bcast_S1x1x5632_S2x2048x5632_0_1_2 (broadcastInDim S1x1x5632 ![2] bcast_S5632_S1x1x5632_2 (shapeCast _ A2 shapeCasts_S1x5632_S5632))))
abbrev sgT (Z : FVec Ideal S2x2048x5632 .f32) : FVec Ideal S2x2048x2816 .f32 :=
  (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf (extractStridedSlice S2x2048x2816 ![0, 0, 0] Z slices_S2x2048x5632_S2x2048x2816_0_0_0)))))
abbrev dzS (A3 : FVec Ideal S2x2048x2816 .f32) (Z : FVec Ideal S2x2048x5632 .f32) (SG : FVec Ideal S2x2048x2816 .f32) : FVec Ideal S2x2048x5632 .f32 :=
  (addf (pad S2x2048x5632 ![0, 0, 2816] ![0, 0, 0] ![0, 0, 0] (mulf (mulf (extractStridedSlice S2x2048x2816 ![0, 0, 0] Z slices_S2x2048x5632_S2x2048x2816_0_0_0) SG) A3) (constant S_ .f32 0x00000000#32) pads_S2x2048x2816_S2x2048x5632_000_000_281600 h_S_) (pad S2x2048x5632 ![0, 0, 0] ![0, 0, 2816] ![0, 0, 0] (addf (mulf (mulf A3 (extractStridedSlice S2x2048x2816 ![0, 0, 2816] Z slices_S2x2048x5632_S2x2048x2816_0_0_2816)) SG) (mulf (mulf (extractStridedSlice S2x2048x2816 ![0, 0, 0] Z slices_S2x2048x5632_S2x2048x2816_0_0_0) (mulf A3 (extractStridedSlice S2x2048x2816 ![0, 0, 2816] Z slices_S2x2048x5632_S2x2048x2816_0_0_2816))) (mulf SG (subf (broadcastInDim S2x2048x2816 ![] bcast_S_S2x2048x2816 (constant S_ .f32 0x3F800000#32)) SG)))) (constant S_ .f32 0x00000000#32) pads_S2x2048x2816_S2x2048x5632_000_000_028160 h_S_))
abbrev dzT (A0 : FVec Ideal S2x2048x5632 .f32) (A1 : FVec Ideal S3x5632 .f32) (A2 : FVec Ideal S1x5632 .f32) (A3 : FVec Ideal S2x2048x2816 .f32) :
    FVec Ideal S2x2048x5632 .f32 := dzS A3 (zT A0 A1 A2) (sgT (zT A0 A1 A2))

/-- The rows with two rows of zeros before them. -/
theorem ref_up (b : Fin 2) (k : Fin 2050) (e : Fin 5632) : ((upT A0) : FVec Ideal S2x2050x5632 .f32) (ix3 b k e)
    = if h : 2 ≤ k.val then A0 (ix3 b ⟨k.val - 2, by omega⟩ e) else 0 := by
  unfold upT
  pointwise []
  by_cases h : k.val < 2
  · rw [dif_pos h, dif_neg (by omega)]
  · rw [dif_neg h, dif_pos (by omega)]

/-- The convolution. -/
theorem ref_z : ((zT A0 A1 A2) : FVec Ideal S2x2048x5632 .f32) = fun i => ConvValue.z A0 A1 A2 (i 0) (i 1) (i 2) := by
  funext i
  obtain ⟨b, r, e, rfl⟩ : ∃ (b : Fin 2) (r : Fin 2048) (e : Fin 5632), i = ix3 b r e :=
    ⟨i 0, i 1, i 2, funext fun a => match a with | ⟨0, _⟩ => rfl | ⟨1, _⟩ => rfl | ⟨2, _⟩ => rfl⟩
  have hu := ref_up A0 b
  unfold zT
  generalize ((upT A0) : FVec Ideal S2x2050x5632 .f32) = U at hu ⊢
  show _ = ConvValue.z A0 A1 A2 b r e
  unfold ConvValue.z ConvValue.back
  pointwise []
  simp only [hu]
  have e1 : ∀ hh, (⟨1 + r.val - 2, hh⟩ : Fin 2048) = ⟨r.val - 1, by omega⟩ := fun _ => Fin.ext (by show 1 + r.val - 2 = r.val - 1; omega)
  have e2 : ∀ hh, (⟨2 + r.val - 2, hh⟩ : Fin 2048) = r := fun _ => Fin.ext (by show 2 + r.val - 2 = r.val; omega)
  have e3 : (2 ≤ 1 + r.val) = (1 ≤ r.val) := by
    refine propext ⟨fun h => ?_, fun h => ?_⟩ <;> omega
  have e4 : 2 ≤ 2 + r.val := by omega
  simp only [e1, e2, e3, dif_pos e4]
  refine congrArg (· + A2 (ix2 0 e)) ?_
  exact (add_comm _ _).trans ((congrArg (_ + ·) (add_comm _ _)).trans (add_assoc _ _ _).symm)

theorem one_eq : (one : EReal) = 1 := by
  have : (one : EReal) = ((1 : ℝ) : EReal) := by
    simp [one, Ideal.ofBits, Ideal.ieee, -EReal.coe_mul]
    norm_num
  simpa using this

/-- The logistic function of a real is a real. -/
theorem sg_real (x : ℝ) : ∃ s : ℝ, sg (x : EReal) = s := by
  refine ⟨1 / (1 + Real.exp (-x)), ?_⟩
  have h : (1 + Real.exp (-x)) ≠ 0 := by positivity
  unfold sg
  rw [one_eq, zero_sub, ← EReal.coe_neg, Ideal.exp_coe]
  exact_mod_cast Reals.div_real 1 h

/-- The gate's gradient, the derivative of the logistic function written out. -/
theorem gate_eq (g v d : ℝ) : (d : EReal) * v * sg g + (g : EReal) * ((d : EReal) * v) * (sg g * (1 - sg g)) = gGate (g : EReal) v d := by
  obtain ⟨s, hs⟩ := sg_real g
  unfold gGate
  rw [one_eq, hs]
  norm_cast
  ring_nf

variable (Z : FVec Ideal S2x2048x5632 .f32)

theorem ref_sg (b : Fin 2) (r : Fin 2048) (e : Fin 2816) : ((sgT Z) : FVec Ideal S2x2048x2816 .f32) (ix3 b r e) = sg (Z (ix3 b r ⟨e.val, col_g e⟩)) := by
  unfold sg sgT
  pointwise []
  rw [zero_sub]

theorem ref_act (SG : FVec Ideal S2x2048x2816 .f32) (hs : ∀ b r e, SG (ix3 b r e) = sg (Z (ix3 b r ⟨e.val, col_g e⟩))) (b : Fin 2) (r : Fin 2048) (e : Fin 2816) :
    (truncf .bf16 (mulf (mulf (extractStridedSlice S2x2048x2816 ![0, 0, 0] Z slices_S2x2048x5632_S2x2048x2816_0_0_0) SG) (extractStridedSlice S2x2048x2816 ![0, 0, 2816] Z slices_S2x2048x5632_S2x2048x2816_0_0_2816)) bitsLt_bf16_f32 : FVec Ideal S2x2048x2816 .bf16) (ix3 b r e) = ConvPay.prod (Z (ix3 b r ⟨e.val, col_g e⟩)) (Z (ix3 b r ⟨2816 + e.val, col_v e⟩)) := by
  unfold ConvPay.prod
  pointwise []
  rw [hs]

theorem ref_dz (SG : FVec Ideal S2x2048x2816 .f32) (hs : ∀ b r e, SG (ix3 b r e) = sg (Z (ix3 b r ⟨e.val, col_g e⟩)))
    (hz : ∀ i, ∃ r : ℝ, Z i = r) (hd : ∀ i, ∃ r : ℝ, A3 i = r) (b : Fin 2) (r : Fin 2048) (e : Fin 5632) :
    ((dzS A3 Z SG) : FVec Ideal S2x2048x5632 .f32) (ix3 b r e)
      = if h : e.val < 2816 then gGate (Z (ix3 b r e)) (Z (ix3 b r ⟨2816 + e.val, col_v ⟨e.val, h⟩⟩)) (A3 (ix3 b r ⟨e.val, h⟩))
        else gVal (Z (ix3 b r ⟨e.val - 2816, col_g ⟨_, col_w e h⟩⟩)) (A3 (ix3 b r ⟨e.val - 2816, col_w e h⟩)) := by
  unfold dzS
  pointwise []
  simp only [hs]
  by_cases h : e.val < 2816
  · rw [dif_pos h, dif_pos h, dif_neg (by omega), zero_add]
    obtain ⟨g, hg⟩ := hz (ix3 b r e)
    obtain ⟨v, hv⟩ := hz (ix3 b r ⟨2816 + e.val, col_v ⟨e.val, h⟩⟩)
    obtain ⟨d, hd'⟩ := hd (ix3 b r ⟨e.val, h⟩)
    have e1 : ∀ hh, (⟨e.val, hh⟩ : Fin 5632) = e := fun _ => rfl
    rw [e1, hg, hv, hd']
    exact gate_eq g v d
  · rw [dif_neg h, dif_neg h, dif_pos (by omega), add_zero]
    exact mul_comm _ _

/-- The rows of sums. -/
theorem ref_stat (Dz : FVec Ideal S2x2048x5632 .f32) (U : FVec Ideal S2x2050x5632 .f32) (k : Fin 8) (e : Fin 5632) :
    ((concatenate S8x5632 0 [⟨S1x5632, ((broadcastInDim S1x5632 ![1] bcast_S5632_S1x5632_1 (Host.reduceAdd (shapeCast _ (Host.reduceAdd Dz (constant S_ .f32 0x00000000#32) reducesTo_S2x2048x5632_S5632_d0_1 h_S_) shapeCasts_S5632_S1x1x5632) (constant S_ .f32 0x00000000#32) reducesTo_S1x1x5632_S5632_d0_1 h_S_)) : FVec Ideal S1x5632 .f32)⟩, ⟨S3x5632, ((addf (addf (pad S3x5632 ![2, 0] ![0, 0] ![0, 0] (broadcastInDim S1x5632 ![1] bcast_S5632_S1x5632_1 (Host.reduceAdd (shapeCast _ (Host.reduceAdd (mulf Dz (extractStridedSlice S2x2048x5632 ![0, 2, 0] U slices_S2x2050x5632_S2x2048x5632_0_2_0)) (constant S_ .f32 0x00000000#32) reducesTo_S2x2048x5632_S5632_d0_1 h_S_) shapeCasts_S5632_S1x1x5632) (constant S_ .f32 0x00000000#32) reducesTo_S1x1x5632_S5632_d0_1 h_S_)) (constant S_ .f32 0x00000000#32) pads_S1x5632_S3x5632_200_000 h_S_) (pad S3x5632 ![1, 0] ![1, 0] ![0, 0] (broadcastInDim S1x5632 ![1] bcast_S5632_S1x5632_1 (Host.reduceAdd (shapeCast _ (Host.reduceAdd (mulf Dz (extractStridedSlice S2x2048x5632 ![0, 1, 0] U slices_S2x2050x5632_S2x2048x5632_0_1_0)) (constant S_ .f32 0x00000000#32) reducesTo_S2x2048x5632_S5632_d0_1 h_S_) shapeCasts_S5632_S1x1x5632) (constant S_ .f32 0x00000000#32) reducesTo_S1x1x5632_S5632_d0_1 h_S_)) (constant S_ .f32 0x00000000#32) pads_S1x5632_S3x5632_110_000 h_S_)) (pad S3x5632 ![0, 0] ![2, 0] ![0, 0] (broadcastInDim S1x5632 ![1] bcast_S5632_S1x5632_1 (Host.reduceAdd (shapeCast _ (Host.reduceAdd (mulf Dz (extractStridedSlice S2x2048x5632 ![0, 0, 0] U slices_S2x2050x5632_S2x2048x5632_0_0_0)) (constant S_ .f32 0x00000000#32) reducesTo_S2x2048x5632_S5632_d0_1 h_S_) shapeCasts_S5632_S1x1x5632) (constant S_ .f32 0x00000000#32) reducesTo_S1x1x5632_S5632_d0_1 h_S_)) (constant S_ .f32 0x00000000#32) pads_S1x5632_S3x5632_020_000 h_S_)) : FVec Ideal S3x5632 .f32)⟩, ⟨S4x5632, ((broadcastInDim S4x5632 ![] bcast_S_S4x5632 (constant S_ .f32 0x00000000#32)) : FVec Ideal S4x5632 .f32)⟩] concatenates_S1x5632_S3x5632_S4x5632_S8x5632_d0 : FVec Ideal S8x5632 .f32)) (ix2 k e)
      = if k.val = 0 then ∑ b, ∑ r, Dz (ix3 b r e) else if k.val = 1 then ∑ b, ∑ r, Dz (ix3 b r e) * U (ix3 b ⟨r.val, by omega⟩ e)
        else if k.val = 2 then ∑ b, ∑ r, Dz (ix3 b r e) * U (ix3 b ⟨1 + r.val, by omega⟩ e)
        else if k.val = 3 then ∑ b, ∑ r, Dz (ix3 b r e) * U (ix3 b ⟨2 + r.val, by omega⟩ e) else 0 := by
  pointwise [NormMath.reduce_rows]
  simp only [Finset.univ_unique, Finset.sum_singleton]
  generalize (∑ x : Fin 2, ∑ r : Fin 2048, Dz (ix3 x r e)) = s0
  generalize (∑ x : Fin 2, ∑ r : Fin 2048, Dz (ix3 x r e) * U (ix3 x ⟨r.val, _⟩ e)) = s1
  generalize (∑ x : Fin 2, ∑ r : Fin 2048, Dz (ix3 x r e) * U (ix3 x ⟨1 + r.val, _⟩ e)) = s2
  generalize (∑ x : Fin 2, ∑ r : Fin 2048, Dz (ix3 x r e) * U (ix3 x ⟨2 + r.val, _⟩ e)) = s3
  fin_cases k <;> simp

variable {A0 A1 A2 A3}

/-- The convolution of reals holds reals. -/
theorem real_z (h0 : ∀ i, ∃ r : ℝ, A0 i = r) (h1 : ∀ i, ∃ r : ℝ, A1 i = r) (h2 : ∀ i, ∃ r : ℝ, A2 i = r) (i : S2x2048x5632.Idx) :
    ∃ r : ℝ, ConvValue.z A0 A1 A2 (i 0) (i 1) (i 2) = r := by
  choose u hu using h0
  choose w hw using h1
  choose a ha using h2
  refine ⟨w (ix2 2 (i 2)) * u (ix3 (i 0) (i 1) (i 2)) + w (ix2 1 (i 2)) * (if h : 1 ≤ (i 1).val then u (ix3 (i 0) ⟨(i 1).val - 1, lt_of_le_of_lt (Nat.sub_le _ _) (i 1).isLt⟩ (i 2)) else 0)
    + w (ix2 0 (i 2)) * (if h : 2 ≤ (i 1).val then u (ix3 (i 0) ⟨(i 1).val - 2, lt_of_le_of_lt (Nat.sub_le _ _) (i 1).isLt⟩ (i 2)) else 0) + a (ix2 0 (i 2)), ?_⟩
  unfold ConvValue.z ConvValue.back
  simp only [hu, hw, ha, EReal.coe_add, EReal.coe_mul]
  refine congrArg (fun x : EReal => x + _) (congrArg₂ (fun a b : EReal => a + b) (congrArg₂ (fun a b : EReal => a + b) rfl (congrArg₂ (fun a b : EReal => a * b) rfl ?_))
    (congrArg₂ (fun a b : EReal => a * b) rfl ?_))
  · split <;> rfl
  · split <;> rfl

theorem dz_eq (h0 : ∀ i, ∃ r : ℝ, A0 i = r) (h1 : ∀ i, ∃ r : ℝ, A1 i = r) (h2 : ∀ i, ∃ r : ℝ, A2 i = r) (h3 : ∀ i, ∃ r : ℝ, A3 i = r)
    (b : Fin 2) (r : Fin 2048) (e : Fin 5632) : ((dzT A0 A1 A2 A3) : FVec Ideal S2x2048x5632 .f32) (ix3 b r e) = ConvValue.dz A0 A1 A2 A3 b r e := by
  unfold dzT
  rw [ref_z]
  exact ref_dz A3 _ _ (ref_sg _) (real_z h0 h1 h2) h3 b r e

theorem dz_arr (h0 : ∀ i, ∃ r : ℝ, A0 i = r) (h1 : ∀ i, ∃ r : ℝ, A1 i = r) (h2 : ∀ i, ∃ r : ℝ, A2 i = r) (h3 : ∀ i, ∃ r : ℝ, A3 i = r) :
    (truncf .bf16 (dzT A0 A1 A2 A3) bitsLt_bf16_f32 : FVec Ideal S2x2048x5632 .bf16) = ConvValue.dzArr A0 A1 A2 A3 := by
  funext i
  obtain ⟨b, r, e, rfl⟩ : ∃ (b : Fin 2) (r : Fin 2048) (e : Fin 5632), i = ix3 b r e :=
    ⟨i 0, i 1, i 2, funext fun a => match a with | ⟨0, _⟩ => rfl | ⟨1, _⟩ => rfl | ⟨2, _⟩ => rfl⟩
  exact dz_eq h0 h1 h2 h3 b r e

theorem act_arr (A0 : FVec Ideal S2x2048x5632 .f32) (A1 : FVec Ideal S3x5632 .f32) (A2 : FVec Ideal S1x5632 .f32) :
    (truncf .bf16 (mulf (mulf (extractStridedSlice S2x2048x2816 ![0, 0, 0] (zT A0 A1 A2) slices_S2x2048x5632_S2x2048x2816_0_0_0) (sgT (zT A0 A1 A2))) (extractStridedSlice S2x2048x2816 ![0, 0, 2816] (zT A0 A1 A2) slices_S2x2048x5632_S2x2048x2816_0_0_2816)) bitsLt_bf16_f32 : FVec Ideal S2x2048x2816 .bf16) = ConvValue.actArr A0 A1 A2 := by
  rw [ref_z]
  funext i
  obtain ⟨b, r, e, rfl⟩ : ∃ (b : Fin 2) (r : Fin 2048) (e : Fin 2816), i = ix3 b r e :=
    ⟨i 0, i 1, i 2, funext fun a => match a with | ⟨0, _⟩ => rfl | ⟨1, _⟩ => rfl | ⟨2, _⟩ => rfl⟩
  exact ref_act _ _ (ref_sg _) b r e

theorem stat_arr (h0 : ∀ i, ∃ r : ℝ, A0 i = r) (h1 : ∀ i, ∃ r : ℝ, A1 i = r) (h2 : ∀ i, ∃ r : ℝ, A2 i = r) (h3 : ∀ i, ∃ r : ℝ, A3 i = r) :
    (concatenate S8x5632 0 [⟨S1x5632, ((broadcastInDim S1x5632 ![1] bcast_S5632_S1x5632_1 (Host.reduceAdd (shapeCast _ (Host.reduceAdd (dzT A0 A1 A2 A3) (constant S_ .f32 0x00000000#32) reducesTo_S2x2048x5632_S5632_d0_1 h_S_) shapeCasts_S5632_S1x1x5632) (constant S_ .f32 0x00000000#32) reducesTo_S1x1x5632_S5632_d0_1 h_S_)) : FVec Ideal S1x5632 .f32)⟩, ⟨S3x5632, ((addf (addf (pad S3x5632 ![2, 0] ![0, 0] ![0, 0] (broadcastInDim S1x5632 ![1] bcast_S5632_S1x5632_1 (Host.reduceAdd (shapeCast _ (Host.reduceAdd (mulf (dzT A0 A1 A2 A3) (extractStridedSlice S2x2048x5632 ![0, 2, 0] (upT A0) slices_S2x2050x5632_S2x2048x5632_0_2_0)) (constant S_ .f32 0x00000000#32) reducesTo_S2x2048x5632_S5632_d0_1 h_S_) shapeCasts_S5632_S1x1x5632) (constant S_ .f32 0x00000000#32) reducesTo_S1x1x5632_S5632_d0_1 h_S_)) (constant S_ .f32 0x00000000#32) pads_S1x5632_S3x5632_200_000 h_S_) (pad S3x5632 ![1, 0] ![1, 0] ![0, 0] (broadcastInDim S1x5632 ![1] bcast_S5632_S1x5632_1 (Host.reduceAdd (shapeCast _ (Host.reduceAdd (mulf (dzT A0 A1 A2 A3) (extractStridedSlice S2x2048x5632 ![0, 1, 0] (upT A0) slices_S2x2050x5632_S2x2048x5632_0_1_0)) (constant S_ .f32 0x00000000#32) reducesTo_S2x2048x5632_S5632_d0_1 h_S_) shapeCasts_S5632_S1x1x5632) (constant S_ .f32 0x00000000#32) reducesTo_S1x1x5632_S5632_d0_1 h_S_)) (constant S_ .f32 0x00000000#32) pads_S1x5632_S3x5632_110_000 h_S_)) (pad S3x5632 ![0, 0] ![2, 0] ![0, 0] (broadcastInDim S1x5632 ![1] bcast_S5632_S1x5632_1 (Host.reduceAdd (shapeCast _ (Host.reduceAdd (mulf (dzT A0 A1 A2 A3) (extractStridedSlice S2x2048x5632 ![0, 0, 0] (upT A0) slices_S2x2050x5632_S2x2048x5632_0_0_0)) (constant S_ .f32 0x00000000#32) reducesTo_S2x2048x5632_S5632_d0_1 h_S_) shapeCasts_S5632_S1x1x5632) (constant S_ .f32 0x00000000#32) reducesTo_S1x1x5632_S5632_d0_1 h_S_)) (constant S_ .f32 0x00000000#32) pads_S1x5632_S3x5632_020_000 h_S_)) : FVec Ideal S3x5632 .f32)⟩, ⟨S4x5632, ((broadcastInDim S4x5632 ![] bcast_S_S4x5632 (constant S_ .f32 0x00000000#32)) : FVec Ideal S4x5632 .f32)⟩] concatenates_S1x5632_S3x5632_S4x5632_S8x5632_d0 : FVec Ideal S8x5632 .f32) = ConvValue.statArr A0 A1 A2 A3 := by
  funext i
  obtain ⟨k, e, rfl⟩ : ∃ (k : Fin 8) (e : Fin 5632), i = ix2 k e := ⟨i 0, i 1, funext fun a => match a with | ⟨0, _⟩ => rfl | ⟨1, _⟩ => rfl⟩
  have hd := dz_eq h0 h1 h2 h3
  generalize ((dzT A0 A1 A2 A3) : FVec Ideal S2x2048x5632 .f32) = Dz at hd ⊢
  have hu := ref_up A0
  generalize ((upT A0) : FVec Ideal S2x2050x5632 .f32) = U at hu ⊢
  refine (ref_stat Dz U k e).trans ?_
  show _ = if k.val < 4 then ∑ b, ∑ r, ConvValue.term A0 A1 A2 A3 k.val e b r else 0
  have e1 : ∀ (r : Fin 2048) hh, (⟨1 + r.val - 2, hh⟩ : Fin 2048) = ⟨r.val - 1, by omega⟩ := fun r _ => Fin.ext (by show 1 + r.val - 2 = r.val - 1; omega)
  have e2 : ∀ (r : Fin 2048) hh, (⟨2 + r.val - 2, hh⟩ : Fin 2048) = r := fun r _ => Fin.ext (by show 2 + r.val - 2 = r.val; omega)
  have e3 : ∀ r : Fin 2048, (2 ≤ 1 + r.val) = (1 ≤ r.val) := fun r => by
    refine propext ⟨fun h => ?_, fun h => ?_⟩ <;> omega
  have e4 : ∀ r : Fin 2048, 2 ≤ 2 + r.val := fun r => by omega
  simp only [hd, hu, e1, e2, e3, e4, dite_true]
  unfold ConvValue.term ConvValue.back
  by_cases k0 : k.val = 0
  · simp only [k0, if_true, show (0 : ℕ) < 4 by decide]
  · by_cases k1 : k.val = 1
    · simp only [k1, if_true, if_false, show (1 : ℕ) < 4 by decide, show ¬(1 : ℕ) = 0 by decide]
    · by_cases k2 : k.val = 2
      · simp only [k2, if_true, if_false, show (2 : ℕ) < 4 by decide, show ¬(2 : ℕ) = 0 by decide, show ¬(2 : ℕ) = 1 by decide]
      · by_cases k3 : k.val = 3
        · simp only [k3, if_true, if_false, show (3 : ℕ) < 4 by decide, show ¬(3 : ℕ) = 0 by decide, show ¬(3 : ℕ) = 1 by decide, show ¬(3 : ℕ) = 2 by decide]
        · rw [if_neg k0, if_neg k1, if_neg k2, if_neg k3, if_neg (by omega)]

end

/-- The reference's frame. -/
theorem frame_ref : Cert.quiescent_ConvRefIdeal := fun m ρ _ =>
  (θ_run Cert.ConvRefIdeal.defs _ _).mono (fun r h => ⟨fun c => (h c).2.2.2, sem_eq_zero_of_no_sems (by decide) r.2⟩)
    (Cert.ConvRefIdeal.Value.run (F := Ideal) m ρ)

/-- What the precondition says of the arrays on one device. -/
theorem reals {A0 : FVec Ideal Cert.Pre_conv_finite.S2x2048x5632 .f32} {A1 : FVec Ideal Cert.Pre_conv_finite.S3x5632 .f32} {A2 : FVec Ideal Cert.Pre_conv_finite.S1x5632 .f32} {A3 : FVec Ideal Cert.Pre_conv_finite.S2x2048x2816 .f32}
    (h : Cert.Pre_conv_finite.fn (F := Ideal) A0 A1 A2 A3 = fun _ => 1#1) :
    (∀ i, ∃ r : ℝ, A0 i = r) ∧ (∀ i, ∃ r : ℝ, A1 i = r) ∧ (∀ i, ∃ r : ℝ, A2 i = r) ∧ (∀ i, ∃ r : ℝ, A3 i = r) := by
  obtain ⟨h, h3⟩ := Finite.both h
  obtain ⟨h, h2⟩ := Finite.both h
  obtain ⟨h0, h1⟩ := Finite.both h
  exact ⟨Finite.all_real _ _ _ _ _ (congrFun h0 ix0), Finite.all_real _ _ _ _ _ (congrFun h1 ix0), Finite.all_real _ _ _ _ _ (congrFun h2 ix0),
    Finite.all_real _ _ _ _ _ (congrFun h3 ix0)⟩

set_option maxHeartbeats 1000000 in
theorem algebraic : Cert.algebraic_ConvIdeal_ConvRefIdeal_pre_conv_finite := by
  intro m g m' g' hp hagree
  refine ⟨_, _, _, ConvValue.run m g, θ_run_mono (Cert.ConvRefIdeal.Value.run (F := Ideal) m' g') fun r h c => ?_⟩
  have hc := hp c
  obtain ⟨h0, h1, h2, h3⟩ := hagree c
  obtain ⟨r0, r1, r2, rest⟩ := h c
  obtain ⟨f0, f1, f2, f3⟩ := reals hc
  refine ⟨r0.trans ?_, r1.trans ?_, r2.trans ?_, rest⟩
  · rw [Cert.ConvRefIdeal.Value.res_main_v76, h0, h1, h2, h3]; exact dz_arr f0 f1 f2 f3
  · rw [Cert.ConvRefIdeal.Value.res_main_v77, h0, h1, h2]; exact act_arr _ _ _
  · rw [Cert.ConvRefIdeal.Value.res_main_v75, h0, h1, h2, h3]; exact stat_arr f0 f1 f2 f3

end Cert.Proof.ConvClaim
-- ==== Proof.AdaFwdValue.lean ====
/- The modulation: what the kernel's grid of two layers leaves in its result, read at an index: the activated conditioning
   vectors times the layer's matrix, plus its bias. -/
module

public import proofs.«01_k».proof.Proof.Gen.AdaFwdIdeal.Value
public import proofs.«01_k».proof.Proof.Gen.AdaFwdRefIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.AdaFwdValue

open Cert.AdaFwdIdeal Cert.AdaFwdIdeal.Gen Idealize.ShloMosaic Idealize.ShloMosaic.TcCoe Idealize.SL.Sem

variable (m : (ℓ : Loc nD τ sig) → Buf (Elt Ideal) ℓ)

/-- The activation `x / (1 + exp (-x))`. -/
def act (x : EReal) : EReal := x * Ideal.div (Ideal.ofBits .f32 0x3F800000#32) (Ideal.ofBits .f32 0x3F800000#32 + Ideal.exp (-x))

/-- The modulation of every sequence, in the device's columns. -/
def mods (C : (⟨2, ![16, 1024]⟩ : Shape).Idx → EReal) (W : (⟨3, ![2, 1024, 1536]⟩ : Shape).Idx → EReal)
    (B : (⟨3, ![2, 1, 1536]⟩ : Shape).Idx → EReal) : (⟨3, ![2, 16, 1536]⟩ : Shape).Idx → EReal :=
  fun i => ∑ d : Fin 1024, act (C (ix2 (i 1) d)) * W (ix3 (i 0) d (i 2)) + B (ix3 (i 0) 0 (i 2))

/-- Grid point `t` is layer `t`. -/
theorem idx0 : ∀ t : Fin cfg0.N, win0_0.index t = ![0, 0] :=
  (by decide +kernel : ∀ t : Fin grid0.N, win0_0.index t = ![0, 0])
theorem idx1 : ∀ t : Fin cfg0.N, win0_1.index t = ![t.val, 0, 0] :=
  (by decide +kernel : ∀ t : Fin grid0.N, win0_1.index t = ![t.val, 0, 0])
theorem idx2 : ∀ t : Fin cfg0.N, win0_2.index t = ![t.val, 0, 0] :=
  (by decide +kernel : ∀ t : Fin grid0.N, win0_2.index t = ![t.val, 0, 0])
theorem idx3 : ∀ t : Fin cfg0.N, win0_3.index t = ![t.val, 0, 0] :=
  (by decide +kernel : ∀ t : Fin grid0.N, win0_3.index t = ![t.val, 0, 0])

theorem pay_mods (C : FVec Ideal S16x1024 .f32) (W : FVec Ideal S1x1024x1536 .f32) (B : FVec Ideal S1x1x1536 .f32) (y : S1x16x1536.Idx) :
    k0_pay1 (F := Ideal) C W B y = ∑ d : Fin 1024, act (C (ix2 (y 1) d)) * W (ix3 0 d (y 2)) + B (ix3 0 0 (y 2)) := by
  pointwise [k0_pay1, act]
  simp only [zero_sub]

theorem final_mods (c : Dev nD) : (dats m 0 c).arrAt 3 cfg0.N = mods (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have e : out0_3 (iblk m c 0 t) (iblk m c 1 t) (iblk m c 2 t) y = k0_pay1 (F := Ideal) (iblk m c 0 t) (iblk m c 1 t) (iblk m c 2 t) y := by
    frame_out
  rw [e, pay_mods]
  unfold mods
  blk_point [iblk, V, idx0 t, idx1 t, idx2 t, idx3 t]

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = mods (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  simpa only [final_mods] using Cert.AdaFwdIdeal.Value.run_blocks m ρ

end Cert.Proof.AdaFwdValue
-- ==== Proof.AdaFwdClaim.lean ====
/- The modulation: the claims about the pair. -/
module

public import proofs.«01_k».proof.Defs
public import proofs.«01_k».proof.Proof.Gen.AdaFwd.Frame
public import proofs.«01_k».proof.Proof.AdaFwdValue

@[expose] public section

set_option maxRecDepth 16384

noncomputable section

namespace Cert.Proof.AdaFwdClaim

open  Idealize.ShloMosaic Idealize.ShloMosaic.TcCoe Idealize.SL.Sem

/-- The reference's frame. -/
theorem frame_ref : Cert.quiescent_AdaFwdRefIdeal := fun m ρ _ =>
  (θ_run Cert.AdaFwdRefIdeal.defs _ _).mono (fun r h => ⟨fun c => (h c).2, sem_eq_zero_of_no_sems (by decide) r.2⟩)
    (Cert.AdaFwdRefIdeal.Value.run (F := Ideal) m ρ)

section
open Cert.AdaFwdRefIdeal Cert.AdaFwdRefIdeal.Gen

theorem ref_mods (A0 : FVec Ideal S16x1024 .f32) (A1 : FVec Ideal S2x1024x1536 .f32) (A2 : FVec Ideal S2x1x1536 .f32) :
    (addf (transpose S2x16x1536 [0, 2, 1] (Host.dotGeneral dot_S2x1024x1536_S16x1024_S2x1536x16_1_1_02_0_n_n none A1 (mulf A0 (Host.divf (broadcastInDim S16x1024 ![] bcast_S_S16x1024 (constant S_ .f32 0x3F800000#32)) (addf (broadcastInDim S16x1024 ![] bcast_S_S16x1024 (constant S_ .f32 0x3F800000#32)) (Host.exp (Host.negf A0)))))) transposes_S2x1536x16_S2x16x1536_0_2_1) (broadcastInDim S2x16x1536 ![0, 1, 2] bcast_S2x1x1536_S2x16x1536_0_1_2 A2) : FVec Ideal S2x16x1536 .f32) = AdaFwdValue.mods A0 A1 A2 := by
  funext i
  pointwise [AdaFwdValue.mods, AdaFwdValue.act]
  exact congrArg (· + _) (Finset.sum_congr rfl fun _ _ => mul_comm _ _)
end

theorem algebraic : Cert.algebraic_AdaFwdIdeal_AdaFwdRefIdeal := by
  intro m g m' g' _ hagree
  refine ⟨_, AdaFwdValue.run m g, θ_run_mono (Cert.AdaFwdRefIdeal.Value.run (F := Ideal) m' g') fun r h c => ?_⟩
  obtain ⟨h0, h1, h2⟩ := hagree c
  obtain ⟨r0, rest⟩ := h c
  refine ⟨r0.trans ?_, rest⟩
  rw [h0, h1, h2]; exact ref_mods _ _ _

end Cert.Proof.AdaFwdClaim
-- ==== Proof.OutProjValue.lean ====
/- The gated projection that joins the three mixers' outputs: what the kernel's grid of two sequences by four row blocks
   leaves in its two results, read at an index. -/
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.OutProjValue

open Cert.OutProjIdeal Cert.OutProjIdeal.Gen Idealize.ShloMosaic Idealize.ShloMosaic.TcCoe Idealize.SL.Sem

variable (m : (ℓ : Loc nD τ sig) → Buf (Elt Ideal) ℓ)

/-- The contents of a mixer's output of width `n`, the gate, the weight and the residual. -/
abbrev ArrA (n : Nat) := (⟨3, ![2, 2048, n]⟩ : Shape).Idx → EReal
abbrev ArrG := (⟨3, ![2, 1, 1024]⟩ : Shape).Idx → EReal
abbrev ArrW := (⟨2, ![1024, 1024]⟩ : Shape).Idx → EReal
abbrev ArrX := (⟨3, ![2, 2048, 1024]⟩ : Shape).Idx → EReal

/-- The projection: each mixer's columns against their rows of the weight. -/
def proj (A : ArrA 256) (B C : ArrA 384) (W : ArrW) : ArrX := fun i =>
  ∑ k : Fin 256, A (ix3 (i 0) (i 1) k) * W (ix2 ⟨k.val, lt_of_lt_of_le k.isLt (by decide)⟩ (i 2))
    + ∑ k : Fin 384, B (ix3 (i 0) (i 1) k) * W (ix2 ⟨256 + k.val, lt_of_lt_of_le (Nat.add_lt_add_left k.isLt 256) (by decide)⟩ (i 2))
    + ∑ k : Fin 384, C (ix3 (i 0) (i 1) k) * W (ix2 ⟨640 + k.val, lt_of_lt_of_le (Nat.add_lt_add_left k.isLt 640) (by decide)⟩ (i 2))

/-- The residual plus the gated projection. -/
def outX (A : ArrA 256) (B C : ArrA 384) (W : ArrW) (G : ArrG) (R : ArrX) : ArrX := fun i => R i + G (ix3 (i 0) 0 (i 2)) * proj A B C W i

/-- The blocks of grid point `t`: sequence `t / 4`, rows `512 (t % 4) …`. -/
theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, t.val % 4, 0] :=
  (by decide +kernel : ∀ t : Fin grid0.N, win0_1.index t = ![t.val / 4, t.val % 4, 0])
theorem idx2 : ∀ t : Fin cfg0.N, win0_2.index t = ![t.val / 4, t.val % 4, 0] :=
  (by decide +kernel : ∀ t : Fin grid0.N, win0_2.index t = ![t.val / 4, t.val % 4, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val / 4, 0, 0] :=
  (by decide +kernel : ∀ t : Fin grid0.N, win0_6.index t = ![t.val / 4, 0, 0])
theorem idx7 : ∀ t : Fin cfg0.N, win0_7.index t = ![t.val / 4, t.val % 4, 0] :=
  (by decide +kernel : ∀ t : Fin grid0.N, win0_7.index t = ![t.val / 4, t.val % 4, 0])
theorem idx8 : ∀ t : Fin cfg0.N, win0_8.index t = ![t.val / 4, t.val % 4, 0] :=
  (by decide +kernel : ∀ t : Fin grid0.N, win0_8.index t = ![t.val / 4, t.val % 4, 0])
theorem idx9 : ∀ t : Fin cfg0.N, win0_9.index t = ![t.val / 4, t.val % 4, 0] :=
  (by decide +kernel : ∀ t : Fin grid0.N, win0_9.index t = ![t.val / 4, t.val % 4, 0])

/-- One block's projection. -/
def blockY (A : FVec Ideal S1x512x256 .f32) (P : FVec Ideal S256x1024 .bf16) (B : FVec Ideal S1x512x384 .f32) (Q : FVec Ideal S384x1024 .bf16) (C : FVec Ideal S1x512x384 .f32) (S : FVec Ideal S384x1024 .bf16) (r : Fin 512) (j : Fin 1024) : EReal :=
  ∑ k : Fin 256, A (ix3 0 r k) * P (ix2 k j) + ∑ k : Fin 384, B (ix3 0 r k) * Q (ix2 k j) + ∑ k : Fin 384, C (ix3 0 r k) * S (ix2 k j)

theorem pay_y (A : FVec Ideal S1x512x256 .f32) (P : FVec Ideal S256x1024 .bf16) (B : FVec Ideal S1x512x384 .f32) (Q : FVec Ideal S384x1024 .bf16) (C : FVec Ideal S1x512x384 .f32) (S : FVec Ideal S384x1024 .bf16) (y : S1x512x1024.Idx) :
    k0_pay3 (F := Ideal) A P B Q C S y = blockY A P B Q C S (y 1) (y 2) := by
  pointwise [k0_pay3, k0_pay2, blockY]

theorem pay_x (A : FVec Ideal S1x512x256 .f32) (P : FVec Ideal S256x1024 .bf16) (B : FVec Ideal S1x512x384 .f32) (Q : FVec Ideal S384x1024 .bf16) (C : FVec Ideal S1x512x384 .f32) (S : FVec Ideal S384x1024 .bf16) (R : FVec Ideal S1x512x1024 .f32) (G : FVec Ideal S1x1x1024 .f32) (y : S1x512x1024.Idx) :
    k0_pay1 (F := Ideal) (k0_pay4 (F := Ideal) A P B Q C S R G) y = R y + G (ix3 0 0 (y 2)) * blockY A P B Q C S (y 1) (y 2) := by
  pointwise [k0_pay1, k0_pay4, k0_pay2, blockY]

theorem final_x (c : Dev nD) : (dats m 0 c).arrAt 8 cfg0.N = outX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  have e : out0_8 (iblk m c 0 t) (iblk m c 1 t) (iblk m c 2 t) (iblk m c 3 t) (iblk m c 4 t) (iblk m c 5 t) (iblk m c 6 t) (iblk m c 7 t) y = k0_pay1 (F := Ideal) (k0_pay4 (F := Ideal) (iblk m c 0 t) (iblk m c 3 t) (iblk m c 1 t) (iblk m c 4 t) (iblk m c 2 t) (iblk m c 5 t) (iblk m c 7 t) (iblk m c 6 t)) y := by
    frame_out
  rw [e, pay_x]
  unfold outX proj blockY
  blk_point [iblk, V, idx0 t, idx1 t, idx2 t, idx3 t, idx4 t, idx5 t, idx6 t, idx7 t, idx8 t]

theorem final_y (c : Dev nD) : (dats m 0 c).arrAt 9 cfg0.N = proj (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  have e : out0_9 (iblk m c 0 t) (iblk m c 1 t) (iblk m c 2 t) (iblk m c 3 t) (iblk m c 4 t) (iblk m c 5 t) (iblk m c 6 t) (iblk m c 7 t) y = k0_pay3 (F := Ideal) (iblk m c 0 t) (iblk m c 3 t) (iblk m c 1 t) (iblk m c 4 t) (iblk m c 2 t) (iblk m c 5 t) y := by
    frame_out
  rw [e, pay_y]
  unfold proj blockY
  blk_point [iblk, V, idx0 t, idx1 t, idx2 t, idx3 t, idx4 t, idx5 t, idx9 t]

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v4_0) = outX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v4_1) = proj (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  simpa only [final_x, final_y] using Cert.OutProjIdeal.Value.run_blocks m ρ

end Cert.Proof.OutProjValue
-- ==== Proof.OutProjClaim.lean ====
/- The gated projection that joins the mixers' outputs: the claims about the pair. -/
module

public import proofs.«01_k».proof.Defs
public import proofs.«01_k».proof.Proof.Gen.OutProj.Frame
public import proofs.«01_k».proof.Proof.OutProjValue

@[expose] public section

set_option maxRecDepth 16384

noncomputable section

namespace Cert.Proof.OutProjClaim

open  Idealize.ShloMosaic Idealize.ShloMosaic.TcCoe Idealize.SL.Sem

/-- The reference's frame. -/
theorem frame_ref : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

section
open Cert.OutProjRefIdeal Cert.OutProjRefIdeal.Gen

/-- The three mixers' outputs side by side. -/
abbrev cat (A0 : FVec Ideal S2x2048x256 .f32) (A1 A2 : FVec Ideal S2x2048x384 .f32) : FVec Ideal S2x2048x1024 .f32 :=
  concatenate S2x2048x1024 2 [⟨S2x2048x256, (A0 : (⟨S2x2048x256, .f32⟩ : BufTy).Contents (Elt Ideal))⟩, ⟨S2x2048x384, (A1 : (⟨S2x2048x384, .f32⟩ : BufTy).Contents (Elt Ideal))⟩, ⟨S2x2048x384, (A2 : (⟨S2x2048x384, .f32⟩ : BufTy).Contents (Elt Ideal))⟩] concatenates_S2x2048x256_S2x2048x384_S2x2048x384_S2x2048x1024_d2

/-- A sum over the joined columns is the sum over each mixer's. -/
theorem sum_parts (f : Fin 1024 → EReal) : ∑ k : Fin 1024, f k
    = ∑ k : Fin 256, f ⟨k.val, lt_of_lt_of_le k.isLt (by decide)⟩
      + ∑ k : Fin 384, f ⟨256 + k.val, lt_of_lt_of_le (Nat.add_lt_add_left k.isLt 256) (by decide)⟩
      + ∑ k : Fin 384, f ⟨640 + k.val, lt_of_lt_of_le (Nat.add_lt_add_left k.isLt 640) (by decide)⟩ := by
  have h := Fin.sum_univ_add (a := 256 + 384) (b := 384) f
  rw [Fin.sum_univ_add (a := 256) (b := 384)] at h
  exact h

theorem ref_y (A0 : FVec Ideal S2x2048x256 .f32) (A1 A2 : FVec Ideal S2x2048x384 .f32) (A3 : FVec Ideal S1024x1024 .f32) :
    Host.dotGeneral dot_S2x2048x1024_S1024x1024_S2x2048x1024_2_0_01_1_n_n none (cat A0 A1 A2) A3 = OutProjValue.proj A0 A1 A2 A3 := by
  funext i
  have hs : Host.dotGeneral dot_S2x2048x1024_S1024x1024_S2x2048x1024_2_0_01_1_n_n none (cat A0 A1 A2) A3 i
      = ∑ k : Fin 1024, cat A0 A1 A2 (ix3 (i 0) (i 1) k) * A3 (ix2 k (i 2)) := by
    generalize cat A0 A1 A2 = Z
    pointwise []
  rw [hs, sum_parts]
  unfold OutProjValue.proj
  refine congrArg₂ (· + ·) (congrArg₂ (· + ·) ?_ ?_) ?_
  · refine Finset.sum_congr rfl fun k _ => congrArg (· * _) ?_
    have hk := k.isLt
    pointwise []
  · refine Finset.sum_congr rfl fun k _ => congrArg (· * _) ?_
    have hk := k.isLt
    have h1 : ¬ 256 + k.val < 256 := by omega
    have h2 : 256 + k.val < 640 := by omega
    pointwise []
  · refine Finset.sum_congr rfl fun k _ => congrArg (· * _) ?_
    have hk := k.isLt
    have h1 : ¬ 640 + k.val < 256 := by omega
    have h2 : ¬ 640 + k.val < 640 := by omega
    have h3 : ¬ 640 + k.val - 256 < 384 := by omega
    pointwise []
    simp only [h1, h3, dite_false]
    have h4 : (⟨640 + k.val - 256 - 384, by omega⟩ : Fin 384) = k := Fin.ext (by show 640 + k.val - 256 - 384 = k.val; omega)
    exact congrArg (fun e : Fin 384 => A2 (ix3 (i 0) (i 1) e)) h4

theorem ref_x (A0 : FVec Ideal S2x2048x256 .f32) (A1 A2 : FVec Ideal S2x2048x384 .f32) (A3 : FVec Ideal S1024x1024 .f32) (A4 : FVec Ideal S2x1x1024 .f32)
    (A5 : FVec Ideal S2x2048x1024 .f32) :
    addf A5 (mulf (broadcastInDim S2x2048x1024 ![0, 1, 2] bcast_S2x1x1024_S2x2048x1024_0_1_2 A4)
      (Host.dotGeneral dot_S2x2048x1024_S1024x1024_S2x2048x1024_2_0_01_1_n_n none (cat A0 A1 A2) A3)) = OutProjValue.outX A0 A1 A2 A3 A4 A5 := by
  rw [ref_y]
  funext i
  unfold OutProjValue.outX
  generalize OutProjValue.proj A0 A1 A2 A3 = Z
  pointwise []
end

theorem algebraic : Cert.algebraic_OutProjIdeal_OutProjRefIdeal := by
  intro m g m' g' _ hagree
  refine ⟨_, _, OutProjValue.run m g, θ_run_mono (Cert.OutProjRefIdeal.Value.run (F := Ideal) m' g') fun r h c => ?_⟩
  obtain ⟨h0, h1, h2, h3, h4, h5⟩ := hagree c
  obtain ⟨r0, r1, rest⟩ := h c
  refine ⟨r0.trans ?_, r1.trans ?_, rest⟩
  · rw [h0, h1, h2, h3, h4, h5]; exact ref_x _ _ _ _ _ _
  · rw [h0, h1, h2, h3]; exact ref_y _ _ _ _

end Cert.Proof.OutProjClaim
-- ==== Proof.ConvFwdValue.lean ====
/- The gated convolution's forward call: what the kernel's grid (two sequences, four blocks of 512 rows, two halves of the gate's
   columns) leaves in its two results, read at an index. The product with the down-projection is accumulated over the two halves. -/
module

public import proofs.«01_k».proof.Proof.Gen.ConvFwdIdeal.Value
public import proofs.«01_k».proof.Proof.Gen.ConvFwdRefIdeal.Run
public import proofs.«01_k».proof.Proof.ConvValue
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.ConvFwdValue

open Cert.Proof.ConvPay (one sg select_eq col_g col_v)
open Cert.ConvFwdIdeal Cert.ConvFwdIdeal.Gen Idealize.ShloMosaic Idealize.ShloMosaic.TcCoe Idealize.SL.Sem

variable (m : (ℓ : Loc nD τ sig) → Buf (Elt Ideal) ℓ)

abbrev BX := (⟨3, ![1, 512, 1408]⟩ : Shape).Idx → EReal
abbrev BH := (⟨3, ![1, 16, 1408]⟩ : Shape).Idx → EReal
abbrev BW := (⟨2, ![3, 1408]⟩ : Shape).Idx → EReal
abbrev BB := (⟨2, ![1, 1408]⟩ : Shape).Idx → EReal

/-- The rows before a block; before the first block there are none. -/
def before (q : ℕ) (H : BH) (k : Fin 16) (e : Fin 1408) : EReal := if q = 0 then 0 else H (ix3 0 k e)

/-- The rows one and two places before a row of the block. -/
def back1 (q : ℕ) (X : BX) (H : BH) (r : Fin 512) (e : Fin 1408) : EReal :=
  if h : 1 ≤ r.val then X (ix3 0 ⟨r.val - 1, by omega⟩ e) else before q H 15 e
def back2 (q : ℕ) (X : BX) (H : BH) (r : Fin 512) (e : Fin 1408) : EReal :=
  if h : 2 ≤ r.val then X (ix3 0 ⟨r.val - 2, by omega⟩ e) else if r.val = 1 then before q H 15 e else before q H 14 e

/-- The convolution of the block. -/
def zB (q : ℕ) (X : BX) (H : BH) (W : BW) (B : BB) (r : Fin 512) (e : Fin 1408) : EReal :=
  W (ix2 2 e) * X (ix3 0 r e) + W (ix2 1 e) * back1 q X H r e + W (ix2 0 e) * back2 q X H r e + B (ix2 0 e)

theorem pay_wide (X : FVec Ideal S1x512x1408 .bf16) (r : Fin 512) (e : Fin 1408) : k0_pay11 (F := Ideal) X (ix2 r e) = X (ix3 0 r e) := by
  pointwise [k0_pay11]

theorem pay_before (q : ℕ) (hq : q < 2 ^ 32) (H : FVec Ideal S1x16x1408 .bf16) (k : Fin 16) (e : Fin 1408) :
    k0_pay12 (F := Ideal) (BitVec.ofNat 32 q) H (ix2 k e) = before q H k e := by
  unfold k0_pay12
  pointwise [before]
  refine (select_eq _ 0 hq (by decide) _ _).trans ?_
  simp [Ideal.ofBits, Ideal.ieee]

/-- The row numbers of the block. -/
abbrev rows : IVec S512x1 32 := iota .tc S512x1 32 [0] iota_S512x1_d0_w32

theorem pay_back1 (q : ℕ) (hq : q < 2 ^ 32) (X : FVec Ideal S1x512x1408 .bf16) (H : FVec Ideal S1x16x1408 .bf16) (r : Fin 512) (e : Fin 1408) :
    k0_pay15 (F := Ideal) (BitVec.ofNat 32 q) rows X H (ix2 r e) = back1 q X H r e := by
  unfold k0_pay15 k0_pay13 back1
  pointwise []
  rw [pay_wide, pay_before q hq]
  refine (select_eq _ 0 (lt_trans r.isLt (by decide)) (by decide) _ _).trans ?_
  have := r.isLt
  by_cases h : 1 ≤ r.val
  · have e1 : ∀ hh, (⟨(r.val + 512 - 1) % 512, hh⟩ : Fin 512) = ⟨r.val - 1, by omega⟩ := fun _ => Fin.ext (by show (r.val + 512 - 1) % 512 = r.val - 1; omega)
    rw [if_neg (by omega), dif_pos h, e1]
  · rw [if_pos (by omega), dif_neg h]

/-- The rows two places before, as the call chooses them. -/
def pick2 (q : ℕ) (X : FVec Ideal S1x512x1408 .bf16) (H : FVec Ideal S1x16x1408 .bf16) : FVec Ideal S512x1408 .f32 :=
  select (k0_pay17 rows) (broadcastTo S512x1408 (shapeCast S1x1408 (k0_pay14 (F := Ideal) (BitVec.ofNat 32 q) H) shapeCasts_S1x1408_S1x1408) broadcasts_S1x1408_S512x1408)
    (k0_pay16 (F := Ideal) (BitVec.ofNat 32 q) rows X H)

theorem pay_back2 (q : ℕ) (hq : q < 2 ^ 32) (X : FVec Ideal S1x512x1408 .bf16) (H : FVec Ideal S1x16x1408 .bf16) (r : Fin 512) (e : Fin 1408) :
    pick2 q X H (ix2 r e) = back2 q X H r e := by
  unfold pick2 k0_pay17 k0_pay14 k0_pay16 k0_pay13 back2
  pointwise []
  rw [pay_wide, pay_before q hq, pay_before q hq]
  refine (select_eq _ 0 (lt_trans r.isLt (by decide)) (by decide) _ _).trans ?_
  have e2 := select_eq r.val 1 (lt_trans r.isLt (by decide)) (by decide) (before q H 15 e) (X (ix3 0 ⟨(r.val + 512 - 2) % 512, Nat.mod_lt _ (by decide)⟩ e))
  refine (congrArg (fun z => if r.val = 0 then before q H 14 e else z) e2).trans ?_
  have := r.isLt
  by_cases h : 2 ≤ r.val
  · have e1 : ∀ hh, (⟨(r.val + 512 - 2) % 512, hh⟩ : Fin 512) = ⟨r.val - 2, by omega⟩ := fun _ => Fin.ext (by show (r.val + 512 - 2) % 512 = r.val - 2; omega)
    rw [if_neg (by omega), if_neg (by omega), dif_pos h, e1]
  · rw [dif_neg h]
    by_cases h' : r.val = 1
    · rw [if_neg (by omega), if_pos h', if_pos h']
    · rw [if_pos (by omega), if_neg h']

/-- The convolution as the call writes it. -/
abbrev convV (q : ℕ) (X : FVec Ideal S1x512x1408 .bf16) (H : FVec Ideal S1x16x1408 .bf16) (W : FVec Ideal S3x1408 .f32) (B : FVec Ideal S1x1408 .f32) :
    FVec Ideal S512x1408 .f32 :=
  k0_pay10 (F := Ideal) (k0_pay11 (F := Ideal) X) (k0_pay15 (F := Ideal) (BitVec.ofNat 32 q) rows X H) (pick2 q X H) W B

theorem pay_conv (q : ℕ) (hq : q < 2 ^ 32) (X : FVec Ideal S1x512x1408 .bf16) (H : FVec Ideal S1x16x1408 .bf16) (W : FVec Ideal S3x1408 .f32)
    (B : FVec Ideal S1x1408 .f32) (r : Fin 512) (e : Fin 1408) : convV q X H W B (ix2 r e) = zB q X H W B r e := by
  have h : ∀ (P Q S : FVec Ideal S512x1408 .f32), k0_pay10 (F := Ideal) P Q S W B (ix2 r e)
      = W (ix2 2 e) * P (ix2 r e) + W (ix2 1 e) * Q (ix2 r e) + W (ix2 0 e) * S (ix2 r e) + B (ix2 0 e) := by
    intro P Q S
    pointwise [k0_pay10]
  unfold convV zB
  rw [h, pay_wide, pay_back1 q hq, pay_back2 q hq]

/-- The product of the gate and the value, times the weight, added to what was accumulated. -/
def accV (Z V : FVec Ideal S512x1408 .f32) (acc : FVec Ideal S512x1024 .f32) (D : FVec Ideal S1408x1024 .bf16) : FVec Ideal S512x1024 .f32 :=
  shapeCast S512x1024 (addf acc (matmul dot_S512x1408_S1408x1024_S512x1024_1_0_0_1_n_n none
    (truncf .bf16 (mulf (mulf Z (divf (broadcast S512x1408 (Scalar.ofBits .f32 0x3F800000#32)) (addf (broadcast S512x1408 (Scalar.ofBits .f32 0x3F800000#32))
      (exp (subf (broadcast S512x1408 (Scalar.ofBits .f32 0x00000000#32)) Z))))) V) bitsLt_bf16_f32)
    (shapeCast S1408x1024 D shapeCasts_S1408x1024_S1408x1024) (constant S512x1024 .f32 0x00000000#32))) shapeCasts_S512x1024_S512x1024

theorem acc_at (Z V : FVec Ideal S512x1408 .f32) (acc : FVec Ideal S512x1024 .f32) (D : FVec Ideal S1408x1024 .bf16) (y : S512x1024.Idx) :
    accV Z V acc D y = acc y + ∑ e : Fin 1408, ConvPay.prod (Z (ix2 (y 0) e)) (V (ix2 (y 0) e)) * D (ix2 e (y 1)) := by
  pointwise [accV, ConvPay.prod, sg]

/-- One grid point's accumulated product, from the blocks. -/
abbrev stepV (i : grid0.Coords) (X0 X1 : FVec Ideal S1x512x1408 .bf16) (H0 H1 : FVec Ideal S1x16x1408 .bf16) (W0 W1 : FVec Ideal S3x1408 .f32)
    (B0 B1 : FVec Ideal S1x1408 .f32) (acc : FVec Ideal S512x1024 .f32) (D : FVec Ideal S1408x1024 .bf16) : FVec Ideal S512x1024 .f32 :=
  k0_pay1 (F := Ideal) (k0_pay10 (F := Ideal) (k0_pay5 (F := Ideal) X0) (k0_pay8 (F := Ideal) i X0 H0) (k0_pay9 (F := Ideal) i X0 H0) W0 B0)
    (k0_pay11 (F := Ideal) X1) (k0_pay14 (F := Ideal) (BitVec.ofNat 32 (i 1).val) H1) (k0_pay15 (F := Ideal) (BitVec.ofNat 32 (i 1).val) rows X1 H1)
    (k0_pay16 (F := Ideal) (BitVec.ofNat 32 (i 1).val) rows X1 H1) (k0_pay17 rows) W1 B1 acc D

theorem step_text (i : grid0.Coords) (X0 X1 : FVec Ideal S1x512x1408 .bf16) (H0 H1 : FVec Ideal S1x16x1408 .bf16) (W0 W1 : FVec Ideal S3x1408 .f32)
    (B0 B1 : FVec Ideal S1x1408 .f32) (acc : FVec Ideal S512x1024 .f32) (D : FVec Ideal S1408x1024 .bf16) :
    stepV i X0 X1 H0 H1 W0 W1 B0 B1 acc D = accV (convV (i 1).val X0 H0 W0 B0) (convV (i 1).val X1 H1 W1 B1) acc D := rfl

/-- What one grid point adds. -/
def part (q : ℕ) (X0 X1 : BX) (H0 H1 : BH) (W0 W1 : BW) (B0 B1 : BB) (D : (⟨2, ![1408, 1024]⟩ : Shape).Idx → EReal)
    (y : (⟨2, ![512, 1024]⟩ : Shape).Idx) : EReal :=
  ∑ e : Fin 1408, ConvPay.prod (zB q X0 H0 W0 B0 (y 0) e) (zB q X1 H1 W1 B1 (y 0) e) * D (ix2 e (y 1))

theorem step_at (i : grid0.Coords) (X0 X1 : FVec Ideal S1x512x1408 .bf16) (H0 H1 : FVec Ideal S1x16x1408 .bf16) (W0 W1 : FVec Ideal S3x1408 .f32)
    (B0 B1 : FVec Ideal S1x1408 .f32) (acc : FVec Ideal S512x1024 .f32) (D : FVec Ideal S1408x1024 .bf16) (y : S512x1024.Idx) :
    stepV i X0 X1 H0 H1 W0 W1 B0 B1 acc D y = acc y + part (i 1).val X0 X1 H0 H1 W0 W1 B0 B1 D y := by
  have hq : (i 1).val < 2 ^ 32 := lt_trans (i 1).isLt (by decide)
  rw [step_text, acc_at]
  unfold part
  refine congrArg (acc y + ·) (Finset.sum_congr rfl fun e _ => ?_)
  exact congrArg (· * _) (congrArg₂ ConvPay.prod (pay_conv _ hq X0 H0 W0 B0 (y 0) e) (pay_conv _ hq X1 H1 W1 B1 (y 0) e))

theorem pay_zero (y : S512x1024.Idx) : k0_pay4 (F := Ideal) y = 0 := by pointwise [k0_pay4]

theorem pay_y (Y : FVec Ideal S512x1024 .f32) (y : S1x512x1024.Idx) : k0_pay2 (F := Ideal) Y y = Y (ix2 (y 1) (y 2)) := by
  pointwise [k0_pay2]

theorem pay_x (Y : FVec Ideal S512x1024 .f32) (R : FVec Ideal S1x512x1024 .f32) (G : FVec Ideal S1x1x1024 .f32) (y : S1x512x1024.Idx) :
    k0_pay3 (F := Ideal) Y R G y = R y + G (ix3 0 0 (y 2)) * Y (ix2 (y 1) (y 2)) := by
  pointwise [k0_pay3]

/-! ## The arrays -/

abbrev ArrU := ConvValue.ArrU
abbrev ArrX := (⟨3, ![2, 2048, 1024]⟩ : Shape).Idx → EReal
abbrev ArrG := (⟨3, ![2, 1, 1024]⟩ : Shape).Idx → EReal
abbrev ArrD := (⟨2, ![2816, 1024]⟩ : Shape).Idx → EReal

/-- The gated product against the down-projection, and the residual plus the gated projection. -/
def down (U : ArrU) (C : ConvPay.WW) (B : ConvPay.WB) (D : ArrD) (b : Fin 2) (r : Fin 2048) (j : Fin 1024) : EReal :=
  ∑ e : Fin 2816, ConvValue.act U C B b r e * D (ix2 e j)
def downArr (U : ArrU) (C : ConvPay.WW) (B : ConvPay.WB) (D : ArrD) : ArrX := fun i => down U C B D (i 0) (i 1) (i 2)
def withGate (R : ArrX) (G : ArrG) (P : ArrX) : ArrX := fun i => R i + G (ix3 (i 0) 0 (i 2)) * P i
def outArr (U : ArrU) (C : ConvPay.WW) (B : ConvPay.WB) (D : ArrD) (G : ArrG) (R : ArrX) : ArrX := withGate R G (downArr U C B D)

/-- The blocks of grid point `t`: sequence `t / 8`, rows `512 (t / 2 % 4) …`, half `t % 2` of the gate's columns. -/
theorem idx0 : ∀ t : Fin cfg0.N, win0_0.index t = ![t.val / 8, t.val / 2 % 4, t.val % 2] :=
  (by decide +kernel : ∀ t : Fin grid0.N, win0_0.index t = ![t.val / 8, t.val / 2 % 4, t.val % 2])
theorem idx1 : ∀ t : Fin cfg0.N, win0_1.index t = ![t.val / 8, t.val / 2 % 4, t.val % 2 + 2] :=
  (by decide +kernel : ∀ t : Fin grid0.N, win0_1.index t = ![t.val / 8, t.val / 2 % 4, t.val % 2 + 2])
theorem idx2 : ∀ t : Fin cfg0.N, win0_2.index t = ![t.val / 8, t.val / 2 % 4 * 32 - 1, t.val % 2] :=
  (by decide +kernel : ∀ t : Fin grid0.N, win0_2.index t = ![t.val / 8, t.val / 2 % 4 * 32 - 1, t.val % 2])
theorem idx3 : ∀ t : Fin cfg0.N, win0_3.index t = ![t.val / 8, t.val / 2 % 4 * 32 - 1, t.val % 2 + 2] :=
  (by decide +kernel : ∀ t : Fin grid0.N, win0_3.index t = ![t.val / 8, t.val / 2 % 4 * 32 - 1, t.val % 2 + 2])
theorem idx4 : ∀ t : Fin cfg0.N, win0_4.index t = ![0, t.val % 2] :=
  (by decide +kernel : ∀ t : Fin grid0.N, win0_4.index t = ![0, t.val % 2])
theorem idx5 : ∀ t : Fin cfg0.N, win0_5.index t = ![0, t.val % 2 + 2] :=
  (by decide +kernel : ∀ t : Fin grid0.N, win0_5.index t = ![0, t.val % 2 + 2])
theorem idx6 : ∀ t : Fin cfg0.N, win0_6.index t = ![0, t.val % 2] :=
  (by decide +kernel : ∀ t : Fin grid0.N, win0_6.index t = ![0, t.val % 2])
theorem idx7 : ∀ t : Fin cfg0.N, win0_7.index t = ![0, t.val % 2 + 2] :=
  (by decide +kernel : ∀ t : Fin grid0.N, win0_7.index t = ![0, t.val % 2 + 2])
theorem idx8 : ∀ t : Fin cfg0.N, win0_8.index t = ![t.val % 2, 0] :=
  (by decide +kernel : ∀ t : Fin grid0.N, win0_8.index t = ![t.val % 2, 0])
theorem idx9 : ∀ t : Fin cfg0.N, win0_9.index t = ![t.val / 8, 0, 0] :=
  (by decide +kernel : ∀ t : Fin grid0.N, win0_9.index t = ![t.val / 8, 0, 0])
theorem idx10 : ∀ t : Fin cfg0.N, win0_10.index t = ![t.val / 8, t.val / 2 % 4, 0] :=
  (by decide +kernel : ∀ t : Fin grid0.N, win0_10.index t = ![t.val / 8, t.val / 2 % 4, 0])
theorem idx11 : ∀ t : Fin cfg0.N, win0_11.index t = ![t.val / 8, t.val / 2 % 4, 0] :=
  (by decide +kernel : ∀ t : Fin grid0.N, win0_11.index t = ![t.val / 8, t.val / 2 % 4, 0])
theorem idx12 : ∀ t : Fin cfg0.N, win0_12.index t = ![t.val / 8, t.val / 2 % 4, 0] :=
  (by decide +kernel : ∀ t : Fin grid0.N, win0_12.index t = ![t.val / 8, t.val / 2 % 4, 0])
theorem row_at : ∀ t : Fin cfg0.N, (grid0.coords t 1).val = t.val / 2 % 4 :=
  (by decide +kernel : ∀ t : Fin grid0.N, (grid0.coords t 1).val = t.val / 2 % 4)

theorem seq_lt (t : Fin cfg0.N) : t.val / 8 < 2 := by
  have h : t.val < 16 := lt_of_lt_of_eq t.isLt N_0
  omega
theorem row_lt (i : Nat) (r : Fin 512) : i % 4 * 512 + r.val < 2048 := by omega
theorem prev_lt (i : Nat) (k : Fin 16) : (i % 4 * 32 - 1) * 16 + k.val < 2048 := by omega
theorem half_lt (i : Nat) (e : Fin 1408) : i % 2 * 1408 + e.val < 2816 := by omega
theorem gate_lt (i : Nat) (e : Fin 1408) : i % 2 * 1408 + e.val < 5632 := by omega
theorem value_lt (i : Nat) (e : Fin 1408) : (i % 2 + 2) * 1408 + e.val < 5632 := by omega

theorem V_u (c : Dev nD) : V m c main_v0 = (m ((c : Thread nD τ).loc main_arg0)) := by
  unfold V
  after_results
  rfl
theorem V_d (c : Dev nD) : V m c main_v1 = (m ((c : Thread nD τ).loc main_arg3)) := by
  unfold V
  after_results
  rfl

theorem read0 (c : Dev nD) (t : Fin cfg0.N) (r : Fin 512) (e : Fin 1408) : iblk m c 0 t (ix3 0 r e) = (m ((c : Thread nD τ).loc main_arg0)) (ix3 ⟨t.val / 8, seq_lt t⟩ ⟨t.val / 2 % 4 * 512 + r.val, row_lt _ r⟩ ⟨t.val % 2 * 1408 + e.val, gate_lt _ e⟩) := by
  rw [← V_u m c]
  blk_point [iblk, idx0 t]
theorem read2 (c : Dev nD) (t : Fin cfg0.N) (k : Fin 16) (e : Fin 1408) :
    iblk m c 2 t (ix3 0 k e) = (m ((c : Thread nD τ).loc main_arg0)) (ix3 ⟨t.val / 8, seq_lt t⟩ ⟨(t.val / 2 % 4 * 32 - 1) * 16 + k.val, prev_lt _ k⟩ ⟨t.val % 2 * 1408 + e.val, gate_lt _ e⟩) := by
  rw [← V_u m c]
  blk_point [iblk, idx2 t]
theorem read4 (c : Dev nD) (t : Fin cfg0.N) (k : Fin 3) (e : Fin 1408) : iblk m c 4 t (ix2 k e) = (m ((c : Thread nD τ).loc main_arg1)) (ix2 k ⟨t.val % 2 * 1408 + e.val, gate_lt _ e⟩) := by
  blk_point [iblk, V, idx4 t]
theorem read6 (c : Dev nD) (t : Fin cfg0.N) (e : Fin 1408) : iblk m c 6 t (ix2 0 e) = (m ((c : Thread nD τ).loc main_arg2)) (ix2 0 ⟨t.val % 2 * 1408 + e.val, gate_lt _ e⟩) := by
  blk_point [iblk, V, idx6 t]

theorem read1 (c : Dev nD) (t : Fin cfg0.N) (r : Fin 512) (e : Fin 1408) : iblk m c 1 t (ix3 0 r e) = (m ((c : Thread nD τ).loc main_arg0)) (ix3 ⟨t.val / 8, seq_lt t⟩ ⟨t.val / 2 % 4 * 512 + r.val, row_lt _ r⟩ ⟨(t.val % 2 + 2) * 1408 + e.val, value_lt _ e⟩) := by
  rw [← V_u m c]
  blk_point [iblk, idx1 t]
theorem read3 (c : Dev nD) (t : Fin cfg0.N) (k : Fin 16) (e : Fin 1408) :
    iblk m c 3 t (ix3 0 k e) = (m ((c : Thread nD τ).loc main_arg0)) (ix3 ⟨t.val / 8, seq_lt t⟩ ⟨(t.val / 2 % 4 * 32 - 1) * 16 + k.val, prev_lt _ k⟩ ⟨(t.val % 2 + 2) * 1408 + e.val, value_lt _ e⟩) := by
  rw [← V_u m c]
  blk_point [iblk, idx3 t]
theorem read5 (c : Dev nD) (t : Fin cfg0.N) (k : Fin 3) (e : Fin 1408) : iblk m c 5 t (ix2 k e) = (m ((c : Thread nD τ).loc main_arg1)) (ix2 k ⟨(t.val % 2 + 2) * 1408 + e.val, value_lt _ e⟩) := by
  blk_point [iblk, V, idx5 t]
theorem read7 (c : Dev nD) (t : Fin cfg0.N) (e : Fin 1408) : iblk m c 7 t (ix2 0 e) = (m ((c : Thread nD τ).loc main_arg2)) (ix2 0 ⟨(t.val % 2 + 2) * 1408 + e.val, value_lt _ e⟩) := by
  blk_point [iblk, V, idx7 t]

theorem read8 (c : Dev nD) (t : Fin cfg0.N) (e : Fin 1408) (j : Fin 1024) : iblk m c 8 t (ix2 e j) = (m ((c : Thread nD τ).loc main_arg3)) (ix2 ⟨t.val % 2 * 1408 + e.val, half_lt _ e⟩ j) := by
  rw [← V_d m c]
  blk_point [iblk, idx8 t]

/-- The block's rows before a row are the array's. -/
theorem back1_eq (U : ArrU) (i : ℕ) (b : Fin 2) (f : Fin 1408 → Fin 5632) (X : BX) (H : BH) (r : Fin 512) (e : Fin 1408)
    (hX : ∀ r : Fin 512, X (ix3 0 r e) = U (ix3 b ⟨i % 4 * 512 + r.val, row_lt _ r⟩ (f e)))
    (hH : ∀ k : Fin 16, H (ix3 0 k e) = U (ix3 b ⟨(i % 4 * 32 - 1) * 16 + k.val, prev_lt _ k⟩ (f e))) :
    back1 (i % 4) X H r e = ConvValue.back 1 U b ⟨i % 4 * 512 + r.val, row_lt _ r⟩ (f e) := by
  unfold back1 ConvValue.back before
  rw [hH]
  have hr := r.isLt
  by_cases h : 1 ≤ r.val
  · rw [dif_pos h, dif_pos (show 1 ≤ i % 4 * 512 + r.val by omega), hX]
    refine congrArg U (congrArg (fun x => ix3 _ x _) (Fin.ext ?_))
    show i % 4 * 512 + (r.val - 1) = i % 4 * 512 + r.val - 1
    omega
  · rw [dif_neg h]
    by_cases h0 : i % 4 = 0
    · rw [if_pos h0, dif_neg (show ¬1 ≤ i % 4 * 512 + r.val by omega)]
    · rw [if_neg h0, dif_pos (show 1 ≤ i % 4 * 512 + r.val by omega)]
      refine congrArg U (congrArg (fun x => ix3 _ x _) (Fin.ext ?_))
      show (i % 4 * 32 - 1) * 16 + 15 = i % 4 * 512 + r.val - 1
      omega

theorem back2_eq (U : ArrU) (i : ℕ) (b : Fin 2) (f : Fin 1408 → Fin 5632) (X : BX) (H : BH) (r : Fin 512) (e : Fin 1408)
    (hX : ∀ r : Fin 512, X (ix3 0 r e) = U (ix3 b ⟨i % 4 * 512 + r.val, row_lt _ r⟩ (f e)))
    (hH : ∀ k : Fin 16, H (ix3 0 k e) = U (ix3 b ⟨(i % 4 * 32 - 1) * 16 + k.val, prev_lt _ k⟩ (f e))) :
    back2 (i % 4) X H r e = ConvValue.back 2 U b ⟨i % 4 * 512 + r.val, row_lt _ r⟩ (f e) := by
  unfold back2 ConvValue.back before
  rw [hH, hH]
  have hr := r.isLt
  by_cases h : 2 ≤ r.val
  · rw [dif_pos h, dif_pos (show 2 ≤ i % 4 * 512 + r.val by omega), hX]
    refine congrArg U (congrArg (fun x => ix3 _ x _) (Fin.ext ?_))
    show i % 4 * 512 + (r.val - 2) = i % 4 * 512 + r.val - 2
    omega
  · rw [dif_neg h]
    by_cases h0 : i % 4 = 0
    · rw [if_pos h0, if_pos h0, ite_self, dif_neg (show ¬2 ≤ i % 4 * 512 + r.val by omega)]
    · rw [if_neg h0, if_neg h0, dif_pos (show 2 ≤ i % 4 * 512 + r.val by omega)]
      by_cases h1 : r.val = 1
      · rw [if_pos h1]
        refine congrArg U (congrArg (fun x => ix3 _ x _) (Fin.ext ?_))
        show (i % 4 * 32 - 1) * 16 + 15 = i % 4 * 512 + r.val - 2
        omega
      · rw [if_neg h1]
        refine congrArg U (congrArg (fun x => ix3 _ x _) (Fin.ext ?_))
        show (i % 4 * 32 - 1) * 16 + 14 = i % 4 * 512 + r.val - 2
        omega

theorem z_gate (c : Dev nD) (t : Fin cfg0.N) (r : Fin 512) (e : Fin 1408) :
    zB (grid0.coords t 1).val (iblk m c 0 t) (iblk m c 2 t) (iblk m c 4 t) (iblk m c 6 t) r e = ConvValue.z (m ((c : Thread nD τ).loc main_arg0)) (m ((c : Thread nD τ).loc main_arg1)) (m ((c : Thread nD τ).loc main_arg2)) ⟨t.val / 8, seq_lt t⟩ ⟨t.val / 2 % 4 * 512 + r.val, row_lt _ r⟩ ⟨t.val % 2 * 1408 + e.val, gate_lt _ e⟩ := by
  unfold zB ConvValue.z
  rw [row_at t, back1_eq (m ((c : Thread nD τ).loc main_arg0)) (t.val / 2) ⟨t.val / 8, seq_lt t⟩ (fun e : Fin 1408 => (⟨t.val % 2 * 1408 + e.val, gate_lt _ e⟩ : Fin 5632)) (iblk m c 0 t) (iblk m c 2 t) r e (fun r => read0 m c t r e) (fun k => read2 m c t k e),
    back2_eq (m ((c : Thread nD τ).loc main_arg0)) (t.val / 2) ⟨t.val / 8, seq_lt t⟩ (fun e : Fin 1408 => (⟨t.val % 2 * 1408 + e.val, gate_lt _ e⟩ : Fin 5632)) (iblk m c 0 t) (iblk m c 2 t) r e (fun r => read0 m c t r e) (fun k => read2 m c t k e),
    read0 m c t, read4 m c t, read4 m c t, read4 m c t, read6 m c t]

theorem z_value (c : Dev nD) (t : Fin cfg0.N) (r : Fin 512) (e : Fin 1408) :
    zB (grid0.coords t 1).val (iblk m c 1 t) (iblk m c 3 t) (iblk m c 5 t) (iblk m c 7 t) r e = ConvValue.z (m ((c : Thread nD τ).loc main_arg0)) (m ((c : Thread nD τ).loc main_arg1)) (m ((c : Thread nD τ).loc main_arg2)) ⟨t.val / 8, seq_lt t⟩ ⟨t.val / 2 % 4 * 512 + r.val, row_lt _ r⟩ ⟨(t.val % 2 + 2) * 1408 + e.val, value_lt _ e⟩ := by
  unfold zB ConvValue.z
  rw [row_at t, back1_eq (m ((c : Thread nD τ).loc main_arg0)) (t.val / 2) ⟨t.val / 8, seq_lt t⟩ (fun e : Fin 1408 => (⟨(t.val % 2 + 2) * 1408 + e.val, value_lt _ e⟩ : Fin 5632)) (iblk m c 1 t) (iblk m c 3 t) r e (fun r => read1 m c t r e) (fun k => read3 m c t k e),
    back2_eq (m ((c : Thread nD τ).loc main_arg0)) (t.val / 2) ⟨t.val / 8, seq_lt t⟩ (fun e : Fin 1408 => (⟨(t.val % 2 + 2) * 1408 + e.val, value_lt _ e⟩ : Fin 5632)) (iblk m c 1 t) (iblk m c 3 t) r e (fun r => read1 m c t r e) (fun k => read3 m c t k e),
    read1 m c t, read5 m c t, read5 m c t, read5 m c t, read7 m c t]

/-- What grid point `t` adds to an entry of the product. -/
def step (c : Dev nD) (t : Fin cfg0.N) (y : S512x1024.Idx) : EReal := part (grid0.coords t 1).val (iblk m c 0 t) (iblk m c 1 t) (iblk m c 2 t) (iblk m c 3 t) (iblk m c 4 t) (iblk m c 5 t) (iblk m c 6 t) (iblk m c 7 t) (iblk m c 8 t) y

theorem step_eq (c : Dev nD) (t : Fin cfg0.N) (r : Fin 512) (j : Fin 1024) :
    step m c t (ix2 r j) = ∑ e : Fin 1408, ConvValue.act (m ((c : Thread nD τ).loc main_arg0)) (m ((c : Thread nD τ).loc main_arg1)) (m ((c : Thread nD τ).loc main_arg2)) ⟨t.val / 8, seq_lt t⟩ ⟨t.val / 2 % 4 * 512 + r.val, row_lt _ r⟩ ⟨t.val % 2 * 1408 + e.val, half_lt _ e⟩ * (m ((c : Thread nD τ).loc main_arg3)) (ix2 ⟨t.val % 2 * 1408 + e.val, half_lt _ e⟩ j) := by
  unfold step part
  refine Finset.sum_congr rfl fun e _ => ?_
  refine congrArg₂ (· * ·) ?_ (read8 m c t e j)
  refine (congrArg₂ ConvPay.prod (z_gate m c t r e) (z_value m c t r e)).trans ?_
  unfold ConvValue.act
  refine congrArg (ConvPay.prod _) (congrArg (ConvValue.z _ _ _ _ _) (Fin.ext ?_))
  show (t.val % 2 + 2) * 1408 + e.val = 2816 + (t.val % 2 * 1408 + e.val)
  omega

theorem outs_reset (c : Dev nD) (t : Fin cfg0.N) (h : t.val % 2 = 0) (y : S512x1024.Idx) :
    (outsAt0 m c t.val t.isLt).2.2 y = 0 + step m c t y := by
  rw [outsAt0_A m c t h (by omega)]
  frame_out
  refine (step_at (grid0.coords t) (iblk m c 0 t) (iblk m c 1 t) (iblk m c 2 t) (iblk m c 3 t) (iblk m c 4 t) (iblk m c 5 t) (iblk m c 6 t) (iblk m c 7 t) _ (iblk m c 8 t) y).trans ?_
  rw [pay_zero]
  rfl

theorem outs_step (c : Dev nD) (t : Fin cfg0.N) (h : ¬t.val % 2 = 0) (y : S512x1024.Idx) :
    (outsAt0 m c t.val t.isLt).2.2 y = (outsAt0 m c (t.val - 1) (Nat.lt_of_le_of_lt (Nat.sub_le _ _) t.isLt)).2.2 y + step m c t y := by
  rw [outsAt0_B m c t h (by omega)]
  frame_out
  rw [read_unread_whole]
  exact step_at (grid0.coords t) (iblk m c 0 t) (iblk m c 1 t) (iblk m c 2 t) (iblk m c 3 t) (iblk m c 4 t) (iblk m c 5 t) (iblk m c 6 t) (iblk m c 7 t) _ (iblk m c 8 t) y

/-- The accumulated product after the second half. -/
theorem total (c : Dev nD) (t : Fin cfg0.N) (h : t.val % 2 = 1) (r : Fin 512) (j : Fin 1024) :
    (outsAt0 m c t.val t.isLt).2.2 (ix2 r j) = down (m ((c : Thread nD τ).loc main_arg0)) (m ((c : Thread nD τ).loc main_arg1)) (m ((c : Thread nD τ).loc main_arg2)) (m ((c : Thread nD τ).loc main_arg3)) ⟨t.val / 8, seq_lt t⟩ ⟨t.val / 2 % 4 * 512 + r.val, row_lt _ r⟩ j := by
  rw [Pipeline.eq_sum_fin_of_reset_step_apply_of_flush (fun n h => (outsAt0 m c n h).2.2) 2 (fun _ => 0) (step m c) (outs_reset m c) (outs_step m c) t h (ix2 r j), zero_add]
  unfold down
  simp only [step_eq]
  refine Fin.sum_mul_add_congr fun k e hl => ?_
  have hk := k.isLt
  have a1 : (2 * (t.val / 2) + k.val) / 8 = t.val / 8 := by omega
  have a2 : (2 * (t.val / 2) + k.val) / 2 % 4 = t.val / 2 % 4 := by omega
  have a3 : (2 * (t.val / 2) + k.val) % 2 = k.val := by omega
  simp only [a1, a2, a3]

theorem outs_y (c : Dev nD) (t : Fin cfg0.N) (h : t.val % 2 = 1) (y : S1x512x1024.Idx) :
    (outsAt0 m c t.val t.isLt).2.1 y = downArr (m ((c : Thread nD τ).loc main_arg0)) (m ((c : Thread nD τ).loc main_arg1)) (m ((c : Thread nD τ).loc main_arg2)) (m ((c : Thread nD τ).loc main_arg3)) (ix3 ⟨t.val / 8, seq_lt t⟩ ⟨t.val / 2 % 4 * 512 + (y 1).val, row_lt _ (y 1)⟩ (y 2)) := by
  refine Eq.trans ?_ (total m c t h (y 1) (y 2))
  rw [outsAt0_B m c t (by omega) h]
  frame_out
  exact pay_y _ y

/-- One entry of the first result, from the blocks. -/
def outB (R : (⟨3, ![1, 512, 1024]⟩ : Shape).Idx → EReal) (G : (⟨3, ![1, 1, 1024]⟩ : Shape).Idx → EReal) (y : S1x512x1024.Idx) (d : EReal) : EReal :=
  R y + G (ix3 0 0 (y 2)) * d

theorem outs_x (c : Dev nD) (t : Fin cfg0.N) (h : t.val % 2 = 1) (y : S1x512x1024.Idx) :
    (outsAt0 m c t.val t.isLt).1 y = outB (iblk m c 10 t) (iblk m c 9 t) y
      (downArr (m ((c : Thread nD τ).loc main_arg0)) (m ((c : Thread nD τ).loc main_arg1)) (m ((c : Thread nD τ).loc main_arg2)) (m ((c : Thread nD τ).loc main_arg3)) (ix3 ⟨t.val / 8, seq_lt t⟩ ⟨t.val / 2 % 4 * 512 + (y 1).val, row_lt _ (y 1)⟩ (y 2))) := by
  refine Eq.trans ?_ (congrArg (outB (iblk m c 10 t) (iblk m c 9 t) y) (total m c t h (y 1) (y 2)))
  rw [outsAt0_B m c t (by omega) h]
  frame_out
  exact pay_x _ (iblk m c 10 t) (iblk m c 9 t) y

theorem place_y (P : ArrX) (t : Fin cfg0.N) (y : S1x512x1024.Idx) :
    P (ix3 ⟨t.val / 8, seq_lt t⟩ ⟨t.val / 2 % 4 * 512 + (y 1).val, row_lt _ (y 1)⟩ (y 2)) = P ((win0_12.blk t).view.emb y) := by
  blk_point [idx12 t]

theorem place_x (P : ArrX) (c : Dev nD) (t : Fin cfg0.N) (y : S1x512x1024.Idx) :
    outB (iblk m c 10 t) (iblk m c 9 t) y (P (ix3 ⟨t.val / 8, seq_lt t⟩ ⟨t.val / 2 % 4 * 512 + (y 1).val, row_lt _ (y 1)⟩ (y 2)))
      = withGate (m ((c : Thread nD τ).loc main_arg5)) (m ((c : Thread nD τ).loc main_arg4)) P ((win0_11.blk t).view.emb y) := by
  unfold outB withGate
  blk_point [iblk, V, idx9 t, idx10 t, idx11 t]

theorem final_x (c : Dev nD) : (dats m 0 c).arrAt 11 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  exact (outs_x m c t ((flush0_11 t).mp hf) y).trans (place_x m (downArr (m ((c : Thread nD τ).loc main_arg0)) (m ((c : Thread nD τ).loc main_arg1)) (m ((c : Thread nD τ).loc main_arg2)) (m ((c : Thread nD τ).loc main_arg3))) c t y)

theorem final_y (c : Dev nD) : (dats m 0 c).arrAt 12 cfg0.N = downArr (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12]
  exact (outs_y m c t ((flush0_12 t).mp hf) y).trans (place_y (downArr (m ((c : Thread nD τ).loc main_arg0)) (m ((c : Thread nD τ).loc main_arg1)) (m ((c : Thread nD τ).loc main_arg2)) (m ((c : Thread nD τ).loc main_arg3))) t y)

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v2_0) = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v2_1) = downArr (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  simpa only [final_x, final_y] using Cert.ConvFwdIdeal.Value.run_blocks m ρ

end Cert.Proof.ConvFwdValue
-- ==== Proof.ConvFwdClaim.lean ====
/- The gated convolution and its down-projection: the claims. -/
module

public import proofs.«01_k».proof.Defs
public import proofs.«01_k».proof.Proof.Gen.ConvFwd.Frame
public import proofs.«01_k».proof.Proof.ConvFwdValue
public import proofs.«01_k».proof.Proof.ConvClaim

@[expose] public section

set_option maxRecDepth 16384

noncomputable section

namespace Cert.Proof.ConvFwdClaim

open  Idealize.ShloMosaic Idealize.ShloMosaic.TcCoe Idealize.SL.Sem

open Cert.ConvFwdRefIdeal Cert.ConvFwdRefIdeal.Gen Cert.Proof.ConvPay

section
variable (A0 : FVec Ideal S2x2048x5632 .f32) (A1 : FVec Ideal S3x5632 .f32) (A2 : FVec Ideal S1x5632 .f32) (A3 : FVec Ideal S2816x1024 .f32)
  (A4 : FVec Ideal S2x1x1024 .f32) (A5 : FVec Ideal S2x2048x1024 .f32)

/-- The gated product of the convolution's halves. -/
abbrev actT (Z : FVec Ideal S2x2048x5632 .f32) : FVec Ideal S2x2048x2816 .f32 :=
  (mulf (mulf (extractStridedSlice S2x2048x2816 ![0, 0, 0] Z slices_S2x2048x5632_S2x2048x2816_0_0_0) (ConvClaim.sgT Z)) (extractStridedSlice S2x2048x2816 ![0, 0, 2816] Z slices_S2x2048x5632_S2x2048x2816_0_0_2816))

theorem ref_act (Z : FVec Ideal S2x2048x5632 .f32) (b : Fin 2) (r : Fin 2048) (e : Fin 2816) :
    actT Z (ix3 b r e) = ConvPay.prod (Z (ix3 b r ⟨e.val, col_g e⟩)) (Z (ix3 b r ⟨2816 + e.val, col_v e⟩)) := by
  have hs := ConvClaim.ref_sg Z b r e
  unfold actT ConvPay.prod
  generalize ConvClaim.sgT Z = SG at hs ⊢
  pointwise []
  rw [hs]

theorem ref_y : Host.dotGeneral dot_S2x2048x2816_S2816x1024_S2x2048x1024_2_0_01_1_n_n none (actT (ConvClaim.zT A0 A1 A2)) A3
    = ConvFwdValue.downArr A0 A1 A2 A3 := by
  funext i
  have ha : ∀ k : Fin 2816, actT (ConvClaim.zT A0 A1 A2) (ix3 (i 0) (i 1) k) = ConvValue.act A0 A1 A2 (i 0) (i 1) k := fun k => by
    refine (ref_act (ConvClaim.zT A0 A1 A2) (i 0) (i 1) k).trans ?_
    rw [ConvClaim.ref_z]
    rfl
  unfold ConvFwdValue.downArr ConvFwdValue.down
  generalize actT (ConvClaim.zT A0 A1 A2) = Y at ha ⊢
  simp only [← ha]
  pointwise []

theorem ref_x : addf A5 (mulf (broadcastInDim S2x2048x1024 ![0, 1, 2] bcast_S2x1x1024_S2x2048x1024_0_1_2 A4)
      (Host.dotGeneral dot_S2x2048x2816_S2816x1024_S2x2048x1024_2_0_01_1_n_n none (actT (ConvClaim.zT A0 A1 A2)) A3))
    = ConvFwdValue.outArr A0 A1 A2 A3 A4 A5 := by
  rw [ref_y]
  funext i
  unfold ConvFwdValue.outArr ConvFwdValue.withGate
  generalize ConvFwdValue.downArr A0 A1 A2 A3 = Z
  pointwise []

end

/-- The reference's frame. -/
theorem frame_ref : Cert.quiescent_ConvFwdRefIdeal := fun m ρ _ =>
  (θ_run Cert.ConvFwdRefIdeal.defs _ _).mono (fun r h => ⟨fun c => (h c).2.2, sem_eq_zero_of_no_sems (by decide) r.2⟩)
    (Cert.ConvFwdRefIdeal.Value.run (F := Ideal) m ρ)

theorem algebraic : Cert.algebraic_ConvFwdIdeal_ConvFwdRefIdeal := by
  intro m g m' g' _ hagree
  refine ⟨_, _, ConvFwdValue.run m g, θ_run_mono (Cert.ConvFwdRefIdeal.Value.run (F := Ideal) m' g') fun r h c => ?_⟩
  obtain ⟨h0, h1, h2, h3, h4, h5⟩ := hagree c
  obtain ⟨r0, r1, rest⟩ := h c
  refine ⟨r0.trans ?_, r1.trans ?_, rest⟩
  · rw [Cert.ConvFwdRefIdeal.Value.res_main_v33, h0, h1, h2, h3, h4, h5]; exact ref_x _ _ _ _ _ _
  · rw [Cert.ConvFwdRefIdeal.Value.res_main_v30, h0, h1, h2, h3]; exact ref_y _ _ _ _

end Cert.Proof.ConvFwdClaim
-- ==== Proof.PrepFwdBlock.lean ====
/- The queries, keys and values of the latent attention from their projections: the kernel's body on one block, read at an entry. -/
module

public import proofs.«01_k».proof.Proof.Gen.PrepFwdIdeal.Value
public import Idealize.ShloMosaic.Lib.Pipeline.ValueKit
public import Idealize.ShloMosaic.Lib.Pointwise
public import Idealize.ShloMosaic.Lib.Pipeline.ReadBack
public import Idealize.ShloMosaic.Lib.KernelVsHost

@[expose] public section

set_option maxRecDepth 16384

noncomputable section

namespace Cert.Proof.PrepFwdBlock

open Cert.PrepFwdIdeal Cert.PrepFwdIdeal.Gen Idealize.ShloMosaic Idealize.ShloMosaic.TcCoe Idealize.SL.Sem

/-- Entry `k` of a row divided by its root mean square (over `c` entries), times the scale. -/
def nrm {n : Nat} (c : EReal) (X G : Fin n → EReal) (k : Fin n) : EReal :=
  X k * Ideal.rsqrt (Ideal.div (∑ j, X j * X j) c + Ideal.ofBits .f32 0x358637BD#32) * G k

/-- Entry `e` of a normed row times a matrix. -/
def proj {n : Nat} (c : EReal) (X G : Fin n → EReal) (W : Fin n → EReal) : EReal := ∑ k, nrm c X G k * W k

/-- The half turn of the rotary lanes. -/
def turn (N : Fin 128 → EReal) (l : Fin 128) : EReal :=
  if h : 64 ≤ l.val ∧ l.val < 80 then -N ⟨l.val + 16, by omega⟩ else if 80 ≤ l.val ∧ l.val < 96 then N ⟨l.val - 16, by omega⟩ else 0

/-- One lane of a head: normed and rotated. -/
def lane (X G C S : Fin 128 → EReal) (l : Fin 128) : EReal :=
  nrm (Ideal.ofBits .f32 0x42C00000#32) X G l * C l + turn (nrm (Ideal.ofBits .f32 0x42C00000#32) X G) l * S l

/-- A head's rows divided by their root mean square. -/
def normed (x : FVec Ideal S512x128 .f32) (g : Vec Ideal S1x128 .f32) : FVec Ideal S512x128 .f32 :=
  mulf (mulf x (broadcastTo S512x128 (rsqrt (addf (divf (shapeCast S512x1 (multiReduction .add [1] S512 (mulf x x) 0x00000000#32 reduces_S512x128_S512 (.inl rfl) rfl)
      shapeCasts_S512_S512x1) (broadcast S512x1 (Scalar.ofBits (F := Ideal) .f32 0x42C00000#32))) (broadcast S512x1 (Scalar.ofBits (F := Ideal) .f32 0x358637BD#32)))) broadcasts_S512x1_S512x128))
    (broadcastTo S512x128 (shapeCast S1x128 (View.ld g r0_4) shapeCasts_S1x128_S1x128) broadcasts_S1x128_S512x128)

/-- A head's rows rotated, as they are stored. -/
def rotated (n c s : FVec Ideal S512x128 .f32) : FVec Ideal S1x512x128 .bf16 :=
  shapeCast S1x512x128 (truncf .bf16 (addf (mulf n c) (mulf (select (andi (cmpi .sge (iota .tc S512x128 32 [1] iota_S512x128_d1_w32) (broadcast S512x128 64#32))
      (cmpi .slt (iota .tc S512x128 32 [1] iota_S512x128_d1_w32) (broadcast S512x128 80#32)))
    (subf (broadcast S512x128 (Scalar.ofBits (F := Ideal) .f32 0x00000000#32)) (dynamicRotate 1 112#32 none n rotates_S512x128_d1))
    (select (andi (cmpi .sge (iota .tc S512x128 32 [1] iota_S512x128_d1_w32) (broadcast S512x128 80#32))
      (cmpi .slt (iota .tc S512x128 32 [1] iota_S512x128_d1_w32) (broadcast S512x128 96#32)))
      (dynamicRotate 1 16#32 none n rotates_S512x128_d1) (broadcast S512x128 (Scalar.ofBits (F := Ideal) .f32 0x00000000#32)))) s)) bitsLt_bf16_f32)
    shapeCasts_S512x128_S1x512x128

/-- A head's slice of the projected rows. -/
def part (o : Nat) (hs : S512x768.Slices ![0, o] S512x128) (z : FVec Ideal S512x768 .f32) : FVec Ideal S512x128 .f32 := extractStridedSlice S512x128 ![0, o] z hs

/-- The key's lanes: those of the head, and those shared by the heads. -/
def joined (z r : FVec Ideal S512x128 .f32) : FVec Ideal S512x128 .f32 :=
  select (cmpi .slt (iota .tc S512x128 32 [1] iota_S512x128_d1_w32) (broadcast S512x128 64#32)) z r

/-- Two heads' values side by side. -/
def sideBySide (a b : FVec Ideal S512x128 .f32) : FVec Ideal S1x512x128 .bf16 :=
  shapeCast S1x512x128 (truncf .bf16 (select (cmpi .slt (iota .tc S512x128 32 [1] iota_S512x128_d1_w32) (broadcast S512x128 64#32))
    (dynamicRotate 1 64#32 none a rotates_S512x128_d1) b) bitsLt_bf16_f32) shapeCasts_S512x128_S1x512x128

/-- The projected rows that give the keys and the values. -/
def keys (x1 : Vec Ideal S1x512x128 .bf16) (x6 : Vec Ideal S1x128 .f32) (x10 : Vec Ideal S768x128 .bf16) : FVec Ideal S512x768 .f32 :=
  k0_pay7 (k0_pay4 (View.ld x1 r0_0)) (k0_pay5 (View.ld x1 r0_0)) (k0_pay6 (F := Ideal)) (View.ld x6 r0_4) (View.ld x10 r0_5)

/-- A head's piece of the block's result q. -/
def qPiece (o : Nat) (hs : S512x768.Slices ![0, o] S512x128) (x0 : Vec Ideal S1x512x256 .bf16) (x3 : Vec Ideal S1x512x128 .f32) (x4 : Vec Ideal S1x512x128 .f32) (x5 : Vec Ideal S1x256 .f32) (x7 : Vec Ideal S1x128 .f32) (x9 : Vec Ideal S768x256 .bf16) : FVec Ideal S1x512x128 .bf16 :=
  rotated (normed (part o hs (k0_pay3 (View.ld x0 r0_1) (View.ld x5 r0_2) (View.ld x9 r0_3))) x7) (k0_pay1 (View.ld x3 r0_0)) (k0_pay2 (View.ld x4 r0_0))

set_option maxHeartbeats 2000000 in
theorem q_eq (x0 : Vec Ideal S1x512x256 .bf16) (x1 : Vec Ideal S1x512x128 .bf16) (x2 : Vec Ideal S1x512x128 .bf16) (x3 : Vec Ideal S1x512x128 .f32) (x4 : Vec Ideal S1x512x128 .f32) (x5 : Vec Ideal S1x256 .f32) (x6 : Vec Ideal S1x128 .f32) (x7 : Vec Ideal S1x128 .f32) (x8 : Vec Ideal S1x128 .f32) (x9 : Vec Ideal S768x256 .bf16) (x10 : Vec Ideal S768x128 .bf16) : out0_11 (F := Ideal) x0 x1 x2 x3 x4 x5 x6 x7 x8 x9 x10
    = View.canon [⟨r0_11, qPiece 640 slices_S512x768_o0_640_S512x128 x0 x3 x4 x5 x7 x9⟩,
      ⟨r0_10, qPiece 512 slices_S512x768_o0_512_S512x128 x0 x3 x4 x5 x7 x9⟩,
      ⟨r0_9, qPiece 384 slices_S512x768_o0_384_S512x128 x0 x3 x4 x5 x7 x9⟩,
      ⟨r0_8, qPiece 256 slices_S512x768_o0_256_S512x128 x0 x3 x4 x5 x7 x9⟩,
      ⟨r0_7, qPiece 128 slices_S512x768_o0_128_S512x128 x0 x3 x4 x5 x7 x9⟩,
      ⟨r0_6, qPiece 0 slices_S512x768_o0_0_S512x128 x0 x3 x4 x5 x7 x9⟩] := by
  rfl

/-- A head's piece of the block's result k. -/
def kPiece (o : Nat) (hs : S512x768.Slices ![0, o] S512x128) (x1 : Vec Ideal S1x512x128 .bf16) (x2 : Vec Ideal S1x512x128 .bf16) (x3 : Vec Ideal S1x512x128 .f32) (x4 : Vec Ideal S1x512x128 .f32) (x6 : Vec Ideal S1x128 .f32) (x8 : Vec Ideal S1x128 .f32) (x10 : Vec Ideal S768x128 .bf16) : FVec Ideal S1x512x128 .bf16 :=
  rotated (normed (joined (part o hs (keys x1 x6 x10)) (k0_pay8 (View.ld x2 r0_0))) x8) (k0_pay1 (View.ld x3 r0_0)) (k0_pay2 (View.ld x4 r0_0))

set_option maxHeartbeats 2000000 in
theorem k_eq (x0 : Vec Ideal S1x512x256 .bf16) (x1 : Vec Ideal S1x512x128 .bf16) (x2 : Vec Ideal S1x512x128 .bf16) (x3 : Vec Ideal S1x512x128 .f32) (x4 : Vec Ideal S1x512x128 .f32) (x5 : Vec Ideal S1x256 .f32) (x6 : Vec Ideal S1x128 .f32) (x7 : Vec Ideal S1x128 .f32) (x8 : Vec Ideal S1x128 .f32) (x9 : Vec Ideal S768x256 .bf16) (x10 : Vec Ideal S768x128 .bf16) : out0_12 (F := Ideal) x0 x1 x2 x3 x4 x5 x6 x7 x8 x9 x10
    = View.canon [⟨r0_11, kPiece 640 slices_S512x768_o0_640_S512x128 x1 x2 x3 x4 x6 x8 x10⟩,
      ⟨r0_10, kPiece 512 slices_S512x768_o0_512_S512x128 x1 x2 x3 x4 x6 x8 x10⟩,
      ⟨r0_9, kPiece 384 slices_S512x768_o0_384_S512x128 x1 x2 x3 x4 x6 x8 x10⟩,
      ⟨r0_8, kPiece 256 slices_S512x768_o0_256_S512x128 x1 x2 x3 x4 x6 x8 x10⟩,
      ⟨r0_7, kPiece 128 slices_S512x768_o0_128_S512x128 x1 x2 x3 x4 x6 x8 x10⟩,
      ⟨r0_6, kPiece 0 slices_S512x768_o0_0_S512x128 x1 x2 x3 x4 x6 x8 x10⟩] := by
  rfl

/-- A head's piece of the block's result v. -/
def vPiece (o : Nat) (hs : S512x768.Slices ![0, o] S512x128) (p : Nat) (hp : S512x768.Slices ![0, p] S512x128) (x1 : Vec Ideal S1x512x128 .bf16) (x6 : Vec Ideal S1x128 .f32) (x10 : Vec Ideal S768x128 .bf16) : FVec Ideal S1x512x128 .bf16 :=
  sideBySide (part o hs (keys x1 x6 x10)) (part p hp (keys x1 x6 x10))

set_option maxHeartbeats 2000000 in
theorem v_eq (x0 : Vec Ideal S1x512x256 .bf16) (x1 : Vec Ideal S1x512x128 .bf16) (x2 : Vec Ideal S1x512x128 .bf16) (x3 : Vec Ideal S1x512x128 .f32) (x4 : Vec Ideal S1x512x128 .f32) (x5 : Vec Ideal S1x256 .f32) (x6 : Vec Ideal S1x128 .f32) (x7 : Vec Ideal S1x128 .f32) (x8 : Vec Ideal S1x128 .f32) (x9 : Vec Ideal S768x256 .bf16) (x10 : Vec Ideal S768x128 .bf16) : out0_13 (F := Ideal) x0 x1 x2 x3 x4 x5 x6 x7 x8 x9 x10
    = View.canon [⟨r0_14, vPiece 512 slices_S512x768_o0_512_S512x128 640 slices_S512x768_o0_640_S512x128 x1 x6 x10⟩,
      ⟨r0_13, vPiece 256 slices_S512x768_o0_256_S512x128 384 slices_S512x768_o0_384_S512x128 x1 x6 x10⟩,
      ⟨r0_12, vPiece 0 slices_S512x768_o0_0_S512x128 128 slices_S512x768_o0_128_S512x128 x1 x6 x10⟩] := by
  rfl

theorem part_at (o : Nat) (hs : S512x768.Slices ![0, o] S512x128) (z : FVec Ideal S512x768 .f32) (r : Fin 512) (l : Fin 128) (ho : o + l.val < 768) :
    part o hs z (ix2 r l) = z (ix2 r ⟨o + l.val, ho⟩) := by
  unfold part
  exact extractStridedSlice_apply _ _ hs _ _ (by intro a; fin_cases a <;> simp [ix2])

theorem qrow_at (x0 : Vec Ideal S1x512x256 .bf16) (x5 : Vec Ideal S1x256 .f32) (x9 : Vec Ideal S768x256 .bf16) (r : Fin 512) (e : Fin 768) :
    k0_pay3 (View.ld x0 r0_1) (View.ld x5 r0_2) (View.ld x9 r0_3) (ix2 r e)
      = proj (Ideal.ofBits .f32 0x43800000#32) (fun k => x0 (ix3 0 r k)) (fun k => x5 (ix2 0 k)) (fun k => x9 (ix2 e k)) := by
  rw [View.ld_unit_lit _ x0 (by decide), View.ld_unit_lit _ x5 (by decide), View.ld_unit_lit _ x9 (by decide)]
  pointwise [k0_pay3, proj, nrm]

theorem krow_at (x1 : Vec Ideal S1x512x128 .bf16) (x6 : Vec Ideal S1x128 .f32) (x10 : Vec Ideal S768x128 .bf16) (r : Fin 512) (e : Fin 768) :
    keys x1 x6 x10 (ix2 r e)
      = proj (Ideal.ofBits .f32 0x43000000#32) (fun k => x1 (ix3 0 r k)) (fun k => x6 (ix2 0 k)) (fun k => x10 (ix2 e k)) := by
  unfold keys
  rw [View.ld_unit_lit _ x1 (by decide), View.ld_unit_lit _ x6 (by decide), View.ld_unit_lit _ x10 (by decide)]
  pointwise [k0_pay4, k0_pay5, k0_pay6, k0_pay7, proj, nrm]

theorem normed_at (x : FVec Ideal S512x128 .f32) (g : Vec Ideal S1x128 .f32) (r : Fin 512) (l : Fin 128) :
    normed x g (ix2 r l) = nrm (Ideal.ofBits .f32 0x42C00000#32) (fun k => x (ix2 r k)) (fun k => g (ix2 0 k)) l := by
  unfold normed
  rw [View.ld_unit_lit _ g (by decide)]
  pointwise [nrm]

theorem select_if {α : Type} (c : Prop) [Decidable c] (a b : α) : Scalar.select (if c then 1#1 else 0#1) a b = if c then a else b := by
  by_cases h : c
  · rw [if_pos h, if_pos h]
    rfl
  · rw [if_neg h, if_neg h]
    rfl

theorem below : ∀ l : Fin 128, IntOp.cmpi .slt (BitVec.ofNat 32 l.val) 64#32 = if l.val < 64 then 1#1 else 0#1 := by
  decide +kernel

theorem first : ∀ l : Fin 128, IntOp.andi (IntOp.cmpi .sge (BitVec.ofNat 32 l.val) 64#32) (IntOp.cmpi .slt (BitVec.ofNat 32 l.val) 80#32)
    = if 64 ≤ l.val ∧ l.val < 80 then 1#1 else 0#1 := by
  decide +kernel

theorem second : ∀ l : Fin 128, IntOp.andi (IntOp.cmpi .sge (BitVec.ofNat 32 l.val) 80#32) (IntOp.cmpi .slt (BitVec.ofNat 32 l.val) 96#32)
    = if 80 ≤ l.val ∧ l.val < 96 then 1#1 else 0#1 := by
  decide +kernel

theorem rotated_at (n c s : FVec Ideal S512x128 .f32) (z : S1x512x128.Idx) :
    rotated n c s z = n (ix2 (z 1) (z 2)) * c (ix2 (z 1) (z 2)) + turn (fun k => n (ix2 (z 1) k)) (z 2) * s (ix2 (z 1) (z 2)) := by
  pointwise [rotated]
  refine congrArg (fun t : EReal => n (ix2 (z 1) (z 2)) * c (ix2 (z 1) (z 2)) + t * s (ix2 (z 1) (z 2))) ?_
  generalize z 2 = l
  have e1 : (l.val + 128 - 112) % 128 = (l.val + 16) % 128 := by congr 1
  refine (congrArg₂ (fun a b => Scalar.select a _ (Scalar.select b _ _)) (first l) (second l)).trans ?_
  rw [select_if, select_if]
  unfold turn
  by_cases h : 64 ≤ l.val ∧ l.val < 80
  · rw [if_pos h, dif_pos h, zero_sub]
    exact congrArg (fun k : Fin 128 => -n (ix2 (z 1) k)) (Fin.ext (by show (l.val + 128 - 112) % 128 = l.val + 16; omega))
  · rw [if_neg h, dif_neg h]
    by_cases h' : 80 ≤ l.val ∧ l.val < 96
    · rw [if_pos h', if_pos h']
      exact congrArg (fun k : Fin 128 => n (ix2 (z 1) k)) (Fin.ext (by show (l.val + 128 - 16) % 128 = l.val - 16; omega))
    · rw [if_neg h', if_neg h']

theorem joined_at (a b : FVec Ideal S512x128 .f32) (r : Fin 512) (l : Fin 128) :
    joined a b (ix2 r l) = if l.val < 64 then a (ix2 r l) else b (ix2 r l) := by
  pointwise [joined]
  rw [below, select_if]

theorem side_at (a b : FVec Ideal S512x128 .f32) (z : S1x512x128.Idx) :
    sideBySide a b z = if (z 2).val < 64 then a (ix2 (z 1) ⟨((z 2).val + 64) % 128, Nat.mod_lt _ (by decide)⟩) else b (ix2 (z 1) (z 2)) := by
  pointwise [sideBySide]
  refine (congrArg (fun a => Scalar.select a _ _) (below (z 2))).trans ?_
  exact select_if _ _ _

/-- The projected column of lane `l` in the head of column `e`. -/
def near (e : Fin 768) (l : Fin 128) : Fin 768 := ⟨128 * (e.val / 128) + l.val, by omega⟩

/-- One entry of the queries, from one row of the projection. -/
def qHead (X A : Fin 256 → EReal) (W : Fin 768 → Fin 256 → EReal) (G C S : Fin 128 → EReal) (e : Fin 768) : EReal :=
  lane (fun l => proj (Ideal.ofBits .f32 0x43800000#32) X A (W (near e l))) G C S ⟨e.val % 128, Nat.mod_lt _ (by decide)⟩

/-- One entry of the keys. -/
def kHead (X A : Fin 128 → EReal) (W : Fin 768 → Fin 128 → EReal) (R G C S : Fin 128 → EReal) (e : Fin 768) : EReal :=
  lane (fun l => if l.val < 64 then proj (Ideal.ofBits .f32 0x43000000#32) X A (W (near e l)) else R l) G C S ⟨e.val % 128, Nat.mod_lt _ (by decide)⟩

/-- The projected column of a value's column. -/
def valueCol (e : Fin 384) : Fin 768 := ⟨128 * (e.val / 64) + 64 + e.val % 64, by omega⟩

/-- One entry of the values. -/
def vHead (X A : Fin 128 → EReal) (W : Fin 768 → Fin 128 → EReal) (e : Fin 384) : EReal :=
  proj (Ideal.ofBits .f32 0x43000000#32) X A (W (valueCol e))

/-- A row of a block. -/
abbrev row {n : Nat} (x : (⟨3, ![1, 512, n]⟩ : Shape).Idx → EReal) (r : Fin 512) : Fin n → EReal := fun k => x (ix3 0 r k)
/-- The only row of a scale. -/
abbrev one {n : Nat} (x : (⟨2, ![1, n]⟩ : Shape).Idx → EReal) : Fin n → EReal := fun k => x (ix2 0 k)
/-- The rows of a matrix. -/
abbrev mat {n k : Nat} (x : (⟨2, ![n, k]⟩ : Shape).Idx → EReal) : Fin n → Fin k → EReal := fun a b => x (ix2 a b)

theorem plain_at (x : Vec Ideal S1x512x128 .f32) (r : Fin 512) (l : Fin 128) : k0_pay1 (View.ld x r0_0) (ix2 r l) = row x r l := by
  rw [View.ld_unit_lit _ x (by decide)]
  pointwise [k0_pay1]

theorem plain_at' (x : Vec Ideal S1x512x128 .f32) (r : Fin 512) (l : Fin 128) : k0_pay2 (View.ld x r0_0) (ix2 r l) = row x r l := by
  rw [View.ld_unit_lit _ x (by decide)]
  pointwise [k0_pay2]

theorem plain_at'' (x : Vec Ideal S1x512x128 .bf16) (r : Fin 512) (l : Fin 128) : k0_pay8 (View.ld x r0_0) (ix2 r l) = row x r l := by
  rw [View.ld_unit_lit _ x (by decide)]
  pointwise [k0_pay8]

theorem qPiece_at (o : Nat) (hs : S512x768.Slices ![0, o] S512x128) (h : Fin 6) (ho : o = 128 * h.val) (x0 : Vec Ideal S1x512x256 .bf16) (x3 x4 : Vec Ideal S1x512x128 .f32) (x5 : Vec Ideal S1x256 .f32)
    (x7 : Vec Ideal S1x128 .f32) (x9 : Vec Ideal S768x256 .bf16) (y : S1x512x768.Idx) :
    View.TileAt (Val := Elt Ideal) (e := .bf16) y ![0, 0, o] S1x512x128.size (qPiece o hs x0 x3 x4 x5 x7 x9) (qHead (row x0 (y 1)) (one x5) (mat x9) (one x7) (row x3 (y 1)) (row x4 (y 1)) (y 2)) := by
  intro z hz
  have h1 : (y 1).val = 0 + (z 1).val := hz 1
  have h2 : (y 2).val = o + (z 2).val := hz 2
  have hl : (z 2).val < 128 := (z 2).isLt
  have hh := h.isLt
  have e1 : y 1 = z 1 := Fin.ext (by omega)
  have en : ∀ l : Fin 128, near (y 2) l = ⟨o + l.val, by omega⟩ := fun l => Fin.ext (by show 128 * ((y 2).val / 128) + l.val = o + l.val; omega)
  have el : (⟨(y 2).val % 128, Nat.mod_lt _ (by decide)⟩ : Fin 128) = z 2 := Fin.ext (by show (y 2).val % 128 = (z 2).val; omega)
  unfold qHead qPiece
  rw [el, e1]
  simp only [en]
  refine (rotated_at _ _ _ z).trans ?_
  have ep : ∀ l : Fin 128, part o hs (k0_pay3 (View.ld x0 r0_1) (View.ld x5 r0_2) (View.ld x9 r0_3)) (ix2 (z 1) l)
      = proj (Ideal.ofBits .f32 0x43800000#32) (row x0 (z 1)) (one x5) (mat x9 ⟨o + l.val, by omega⟩) := fun l =>
    (part_at o hs _ _ l (by omega)).trans (qrow_at _ _ _ _ _)
  have enn : ∀ l : Fin 128, normed (part o hs (k0_pay3 (View.ld x0 r0_1) (View.ld x5 r0_2) (View.ld x9 r0_3))) x7 (ix2 (z 1) l)
      = nrm (Ideal.ofBits .f32 0x42C00000#32) (fun l => proj (Ideal.ofBits .f32 0x43800000#32) (row x0 (z 1)) (one x5) (mat x9 ⟨o + l.val, by omega⟩)) (one x7) l := fun l =>
    (normed_at _ _ _ _).trans (congrArg (fun X => nrm _ X (one x7) l) (funext ep))
  exact congrArg₂ (fun a b : EReal => a + b) (congrArg₂ (fun a b : EReal => a * b) (enn _) (plain_at x3 (z 1) (z 2)))
    (congrArg₂ (fun a b : EReal => a * b) (congrArg (fun N => turn N (z 2)) (funext enn)) (plain_at' x4 (z 1) (z 2)))

theorem kPiece_at (o : Nat) (hs : S512x768.Slices ![0, o] S512x128) (h : Fin 6) (ho : o = 128 * h.val) (x1 x2 : Vec Ideal S1x512x128 .bf16) (x3 x4 : Vec Ideal S1x512x128 .f32) (x6 x8 : Vec Ideal S1x128 .f32)
    (x10 : Vec Ideal S768x128 .bf16) (y : S1x512x768.Idx) :
    View.TileAt (Val := Elt Ideal) (e := .bf16) y ![0, 0, o] S1x512x128.size (kPiece o hs x1 x2 x3 x4 x6 x8 x10)
      (kHead (row x1 (y 1)) (one x6) (mat x10) (row x2 (y 1)) (one x8) (row x3 (y 1)) (row x4 (y 1)) (y 2)) := by
  intro z hz
  have h1 : (y 1).val = 0 + (z 1).val := hz 1
  have h2 : (y 2).val = o + (z 2).val := hz 2
  have hl : (z 2).val < 128 := (z 2).isLt
  have hh := h.isLt
  have e1 : y 1 = z 1 := Fin.ext (by omega)
  have en : ∀ l : Fin 128, near (y 2) l = ⟨o + l.val, by omega⟩ := fun l => Fin.ext (by show 128 * ((y 2).val / 128) + l.val = o + l.val; omega)
  have el : (⟨(y 2).val % 128, Nat.mod_lt _ (by decide)⟩ : Fin 128) = z 2 := Fin.ext (by show (y 2).val % 128 = (z 2).val; omega)
  unfold kHead kPiece
  rw [el, e1]
  simp only [en]
  refine (rotated_at _ _ _ z).trans ?_
  have ep : ∀ l : Fin 128, joined (part o hs (keys x1 x6 x10)) (k0_pay8 (View.ld x2 r0_0)) (ix2 (z 1) l)
      = if l.val < 64 then proj (Ideal.ofBits .f32 0x43000000#32) (row x1 (z 1)) (one x6) (mat x10 ⟨o + l.val, by omega⟩) else row x2 (z 1) l := fun l =>
    (joined_at _ _ _ _).trans (if_congr Iff.rfl ((part_at o hs _ _ l (by omega)).trans (krow_at _ _ _ _ _)) (plain_at'' x2 (z 1) l))
  have enn : ∀ l : Fin 128, normed (joined (part o hs (keys x1 x6 x10)) (k0_pay8 (View.ld x2 r0_0))) x8 (ix2 (z 1) l)
      = nrm (Ideal.ofBits .f32 0x42C00000#32) (fun l => if l.val < 64 then proj (Ideal.ofBits .f32 0x43000000#32) (row x1 (z 1)) (one x6) (mat x10 ⟨o + l.val, by omega⟩) else row x2 (z 1) l) (one x8) l := fun l =>
    (normed_at _ _ _ _).trans (congrArg (fun X => nrm _ X (one x8) l) (funext ep))
  exact congrArg₂ (fun a b : EReal => a + b) (congrArg₂ (fun a b : EReal => a * b) (enn _) (plain_at x3 (z 1) (z 2)))
    (congrArg₂ (fun a b : EReal => a * b) (congrArg (fun N => turn N (z 2)) (funext enn)) (plain_at' x4 (z 1) (z 2)))

theorem vPiece_at (o p w : Nat) (hs : S512x768.Slices ![0, o] S512x128) (hp : S512x768.Slices ![0, p] S512x128) (h : Fin 3) (ho : o = 256 * h.val) (hop : p = 256 * h.val + 128) (hw : w = 128 * h.val)
    (x1 : Vec Ideal S1x512x128 .bf16) (x6 : Vec Ideal S1x128 .f32) (x10 : Vec Ideal S768x128 .bf16) (y : S1x512x384.Idx) :
    View.TileAt (Val := Elt Ideal) (e := .bf16) y ![0, 0, w] S1x512x128.size (vPiece o hs p hp x1 x6 x10) (vHead (row x1 (y 1)) (one x6) (mat x10) (y 2)) := by
  intro z hz
  have h1 : (y 1).val = 0 + (z 1).val := hz 1
  have h2 : (y 2).val = w + (z 2).val := hz 2
  have hl : (z 2).val < 128 := (z 2).isLt
  have hh := h.isLt
  have e1 : y 1 = z 1 := Fin.ext (by omega)
  unfold vHead vPiece
  rw [e1]
  refine (side_at _ _ z).trans ?_
  by_cases hlt : (z 2).val < 64
  · rw [if_pos hlt]
    refine (part_at o hs _ _ _ (by show o + ((z 2).val + 64) % 128 < 768; omega)).trans ((krow_at _ _ _ _ _).trans ?_)
    exact congrArg (fun e => proj _ (row x1 (z 1)) (one x6) (mat x10 e)) (Fin.ext (by show o + ((z 2).val + 64) % 128 = 128 * ((y 2).val / 64) + 64 + (y 2).val % 64; omega))
  · rw [if_neg hlt]
    refine (part_at p hp _ _ _ (by omega)).trans ((krow_at _ _ _ _ _).trans ?_)
    exact congrArg (fun e => proj _ (row x1 (z 1)) (one x6) (mat x10 e)) (Fin.ext (by show p + (z 2).val = 128 * ((y 2).val / 64) + 64 + (y 2).val % 64; omega))

theorem q_at (x0 : Vec Ideal S1x512x256 .bf16) (x1 : Vec Ideal S1x512x128 .bf16) (x2 : Vec Ideal S1x512x128 .bf16) (x3 : Vec Ideal S1x512x128 .f32) (x4 : Vec Ideal S1x512x128 .f32) (x5 : Vec Ideal S1x256 .f32) (x6 : Vec Ideal S1x128 .f32) (x7 : Vec Ideal S1x128 .f32) (x8 : Vec Ideal S1x128 .f32) (x9 : Vec Ideal S768x256 .bf16) (x10 : Vec Ideal S768x128 .bf16) (y : S1x512x768.Idx) :
    out0_11 (F := Ideal) x0 x1 x2 x3 x4 x5 x6 x7 x8 x9 x10 y = qHead (row x0 (y 1)) (one x5) (mat x9) (one x7) (row x3 (y 1)) (row x4 (y 1)) (y 2) := by
  rw [q_eq]
  refine View.canon_eq_of_allAt _ y _ (cover0_11 _ _ _ _ _ _ y) ?_
  exact View.allAt_cons_unit _ _ _ _ _ (qPiece_at 640 _ 5 rfl x0 x3 x4 x5 x7 x9 y) (View.allAt_cons_unit _ _ _ _ _ (qPiece_at 512 _ 4 rfl x0 x3 x4 x5 x7 x9 y) (View.allAt_cons_unit _ _ _ _ _ (qPiece_at 384 _ 3 rfl x0 x3 x4 x5 x7 x9 y) (View.allAt_cons_unit _ _ _ _ _ (qPiece_at 256 _ 2 rfl x0 x3 x4 x5 x7 x9 y) (View.allAt_cons_unit _ _ _ _ _ (qPiece_at 128 _ 1 rfl x0 x3 x4 x5 x7 x9 y) (View.allAt_cons_unit _ _ _ _ _ (qPiece_at 0 _ 0 rfl x0 x3 x4 x5 x7 x9 y) (View.allAt_nil _ _))))))

theorem k_at (x0 : Vec Ideal S1x512x256 .bf16) (x1 : Vec Ideal S1x512x128 .bf16) (x2 : Vec Ideal S1x512x128 .bf16) (x3 : Vec Ideal S1x512x128 .f32) (x4 : Vec Ideal S1x512x128 .f32) (x5 : Vec Ideal S1x256 .f32) (x6 : Vec Ideal S1x128 .f32) (x7 : Vec Ideal S1x128 .f32) (x8 : Vec Ideal S1x128 .f32) (x9 : Vec Ideal S768x256 .bf16) (x10 : Vec Ideal S768x128 .bf16) (y : S1x512x768.Idx) :
    out0_12 (F := Ideal) x0 x1 x2 x3 x4 x5 x6 x7 x8 x9 x10 y = kHead (row x1 (y 1)) (one x6) (mat x10) (row x2 (y 1)) (one x8) (row x3 (y 1)) (row x4 (y 1)) (y 2) := by
  rw [k_eq]
  refine View.canon_eq_of_allAt _ y _ (cover0_12 _ _ _ _ _ _ y) ?_
  exact View.allAt_cons_unit _ _ _ _ _ (kPiece_at 640 _ 5 rfl x1 x2 x3 x4 x6 x8 x10 y) (View.allAt_cons_unit _ _ _ _ _ (kPiece_at 512 _ 4 rfl x1 x2 x3 x4 x6 x8 x10 y) (View.allAt_cons_unit _ _ _ _ _ (kPiece_at 384 _ 3 rfl x1 x2 x3 x4 x6 x8 x10 y) (View.allAt_cons_unit _ _ _ _ _ (kPiece_at 256 _ 2 rfl x1 x2 x3 x4 x6 x8 x10 y) (View.allAt_cons_unit _ _ _ _ _ (kPiece_at 128 _ 1 rfl x1 x2 x3 x4 x6 x8 x10 y) (View.allAt_cons_unit _ _ _ _ _ (kPiece_at 0 _ 0 rfl x1 x2 x3 x4 x6 x8 x10 y) (View.allAt_nil _ _))))))

theorem v_at (x0 : Vec Ideal S1x512x256 .bf16) (x1 : Vec Ideal S1x512x128 .bf16) (x2 : Vec Ideal S1x512x128 .bf16) (x3 : Vec Ideal S1x512x128 .f32) (x4 : Vec Ideal S1x512x128 .f32) (x5 : Vec Ideal S1x256 .f32) (x6 : Vec Ideal S1x128 .f32) (x7 : Vec Ideal S1x128 .f32) (x8 : Vec Ideal S1x128 .f32) (x9 : Vec Ideal S768x256 .bf16) (x10 : Vec Ideal S768x128 .bf16) (y : S1x512x384.Idx) :
    out0_13 (F := Ideal) x0 x1 x2 x3 x4 x5 x6 x7 x8 x9 x10 y = vHead (row x1 (y 1)) (one x6) (mat x10) (y 2) := by
  rw [v_eq]
  refine View.canon_eq_of_allAt _ y _ (cover0_13 _ _ _ y) ?_
  exact View.allAt_cons_unit _ _ _ _ _ (vPiece_at 512 640 256 _ _ 2 rfl rfl rfl x1 x6 x10 y) (View.allAt_cons_unit _ _ _ _ _ (vPiece_at 256 384 128 _ _ 1 rfl rfl rfl x1 x6 x10 y) (View.allAt_cons_unit _ _ _ _ _ (vPiece_at 0 128 0 _ _ 0 rfl rfl rfl x1 x6 x10 y) (View.allAt_nil _ _)))

end Cert.Proof.PrepFwdBlock
-- ==== Proof.PrepFwdValue.lean ====
/- The queries, keys and values of the latent attention from their projections: what the kernel leaves in its three results, as
   functions of the arguments. -/
module

public import proofs.«01_k».proof.Proof.Gen.PrepFwdIdeal.Value
public import proofs.«01_k».proof.Proof.Gen.PrepFwdRefIdeal.Run
public import proofs.«01_k».proof.Proof.PrepFwdBlock
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.PrepFwdValue

open Cert.Proof.PrepFwdBlock (nrm proj turn lane near qHead kHead vHead valueCol row one mat)
open Cert.PrepFwdIdeal Cert.PrepFwdIdeal.Gen Idealize.ShloMosaic Idealize.ShloMosaic.TcCoe Idealize.SL.Sem

variable (m : (ℓ : Loc nD τ sig) → Buf (Elt Ideal) ℓ)

/-- The operands. -/
abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)
abbrev arg4 (c : Dev nD) := m ((c : Thread nD τ).loc main_arg4)
abbrev arg5 (c : Dev nD) := m ((c : Thread nD τ).loc main_arg5)
abbrev arg6 (c : Dev nD) := m ((c : Thread nD τ).loc main_arg6)
abbrev arg7 (c : Dev nD) := m ((c : Thread nD τ).loc main_arg7)
abbrev arg8 (c : Dev nD) := m ((c : Thread nD τ).loc main_arg8)
abbrev arg9 (c : Dev nD) := m ((c : Thread nD τ).loc main_arg9)

theorem idx0 : ∀ t : Fin cfg0.N, win0_0.index t = ![t.val / 4, t.val % 4, 3] :=
  (by decide +kernel : ∀ t : Fin grid0.N, win0_0.index t = ![t.val / 4, t.val % 4, 3])
theorem idx1 : ∀ t : Fin cfg0.N, win0_1.index t = ![t.val / 4, t.val % 4, 8] :=
  (by decide +kernel : ∀ t : Fin grid0.N, win0_1.index t = ![t.val / 4, t.val % 4, 8])
theorem idx2 : ∀ t : Fin cfg0.N, win0_2.index t = ![t.val / 4, t.val % 4, 14] :=
  (by decide +kernel : ∀ t : Fin grid0.N, win0_2.index t = ![t.val / 4, t.val % 4, 14])
theorem idx3 : ∀ t : Fin cfg0.N, win0_3.index t = ![t.val / 4, t.val % 4, 0] :=
  (by decide +kernel : ∀ t : Fin grid0.N, win0_3.index t = ![t.val / 4, t.val % 4, 0])
theorem idx4 : ∀ t : Fin cfg0.N, win0_4.index t = ![t.val / 4, t.val % 4, 0] :=
  (by decide +kernel : ∀ t : Fin grid0.N, win0_4.index t = ![t.val / 4, t.val % 4, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![t.val / 4, t.val % 4, 0] :=
  (by decide +kernel : ∀ t : Fin grid0.N, win0_11.index t = ![t.val / 4, t.val % 4, 0])
theorem idx12 : ∀ t : Fin cfg0.N, win0_12.index t = ![t.val / 4, t.val % 4, 0] :=
  (by decide +kernel : ∀ t : Fin grid0.N, win0_12.index t = ![t.val / 4, t.val % 4, 0])
theorem idx13 : ∀ t : Fin cfg0.N, win0_13.index t = ![t.val / 4, t.val % 4, 0] :=
  (by decide +kernel : ∀ t : Fin grid0.N, win0_13.index t = ![t.val / 4, t.val % 4, 0])

/-! ## What the host hands to the call -/

/-- The query's weights, each head's 96 columns padded with zeros to 128. -/
def wq (W : (⟨2, ![256, 576]⟩ : Shape).Idx → EReal) (e : Fin 768) (k : Fin 256) : EReal :=
  if h : e.val % 128 < 96 then W (ix2 k ⟨e.val / 128 * 96 + e.val % 128, by omega⟩) else 0

/-- A scale of 96 lanes padded with zeros. -/
def padded (G : (⟨1, ![96]⟩ : Shape).Idx → EReal) (l : Fin 128) : EReal := if h : l.val < 96 then G (ix1 ⟨l.val, h⟩) else 0

/-- The key's lanes that the heads share, in their place. -/
def shared (K : (⟨3, ![2, 2048, 32]⟩ : Shape).Idx → EReal) (b : Fin 2) (r : Fin 2048) (l : Fin 128) : EReal :=
  if h : 64 ≤ l.val ∧ l.val < 96 then K (ix3 b r ⟨l.val - 64, by omega⟩) else 0

/-- The angle of a row's pair of lanes. -/
def angle (T : (⟨2, ![2, 2048]⟩ : Shape).Idx → BitVec 32) (b : Fin 2) (r : Fin 2048) (j : Nat) : EReal :=
  FloatOps.sitofp (F := Ideal) .f32 (T (ix2 b r)) * Ideal.pow (Ideal.ofBits .f32 0x461C4000#32) (Ideal.div (-(FloatOps.sitofp (F := Ideal) .f32 (BitVec.ofNat 32 j))) (Ideal.ofBits .f32 0x41800000#32))

/-- The lanes' cosines and sines; where nothing turns they are one and zero. -/
def cosines (T : (⟨2, ![2, 2048]⟩ : Shape).Idx → BitVec 32) (b : Fin 2) (r : Fin 2048) (l : Fin 128) : EReal :=
  if 64 ≤ l.val ∧ l.val < 80 then Ideal.cos (angle T b r (l.val - 64)) else if 80 ≤ l.val ∧ l.val < 96 then Ideal.cos (angle T b r (l.val - 80)) else 1
def sines (T : (⟨2, ![2, 2048]⟩ : Shape).Idx → BitVec 32) (b : Fin 2) (r : Fin 2048) (l : Fin 128) : EReal :=
  if 64 ≤ l.val ∧ l.val < 80 then Ideal.sin (angle T b r (l.val - 64)) else if 80 ≤ l.val ∧ l.val < 96 then Ideal.sin (angle T b r (l.val - 80)) else 0

/-- The projections side by side, and the lanes' factors side by side. -/
def cat6 (a : FVec Ideal S2x2048x768 .f32) (b : FVec Ideal S2x2048x256 .f32) (c : FVec Ideal S2x2048x128 .f32) (d : FVec Ideal S2x2048x704 .f32) (e : FVec Ideal S2x2048x32 .f32)
    (f : FVec Ideal S2x2048x160 .f32) : FVec Ideal S2x2048x2048 .f32 :=
  concatenate S2x2048x2048 2 [⟨S2x2048x768, a⟩, ⟨S2x2048x256, b⟩, ⟨S2x2048x128, c⟩, ⟨S2x2048x704, d⟩, ⟨S2x2048x32, e⟩, ⟨S2x2048x160, f⟩] concatenates_S2x2048x768_S2x2048x256_S2x2048x128_S2x2048x704_S2x2048x32_S2x2048x160_S2x2048x2048_d2
def cat4 (a : FVec Ideal S2x2048x64 .f32) (b c : FVec Ideal S2x2048x16 .f32) (d : FVec Ideal S2x2048x32 .f32) : FVec Ideal S2x2048x128 .f32 :=
  concatenate S2x2048x128 2 [⟨S2x2048x64, a⟩, ⟨S2x2048x16, b⟩, ⟨S2x2048x16, c⟩, ⟨S2x2048x32, d⟩] concatenates_S2x2048x64_S2x2048x16_S2x2048x16_S2x2048x32_S2x2048x128_d2

/-- The padding's value. -/
theorem pad_zero : FloatOps.sitofp (F := Ideal) .f32 0#32 = (0 : EReal) := by
  exact sitofp_zero

theorem V_q (c : Dev nD) (b : Fin 2) (r : Fin 2048) (k : Fin 256) : V m c main_v4 (ix3 b r ⟨3 * 256 + k.val, by omega⟩) = (arg0 m c) (ix3 b r k) := by
  unfold V
  simp only [List.flatten_cons, List.flatten_nil, List.cons_append, List.nil_append]
  after_results
  change truncf .bf16 (cat6 _ _ _ _ _ _) bitsLt_bf16_f32 _ = _
  try simp only [StableHlo.TRef.toBuf, StableHlo.TRef.ofBuf, eq_self, cast_eq, eqRec_eq_cast]
  pointwise [cat6]
  after_results_simp

theorem V_k (c : Dev nD) (b : Fin 2) (r : Fin 2048) (k : Fin 128) : V m c main_v4 (ix3 b r ⟨8 * 128 + k.val, by omega⟩) = (arg1 m c) (ix3 b r k) := by
  unfold V
  simp only [List.flatten_cons, List.flatten_nil, List.cons_append, List.nil_append]
  after_results
  change truncf .bf16 (cat6 _ _ _ _ _ _) bitsLt_bf16_f32 _ = _
  try simp only [StableHlo.TRef.toBuf, StableHlo.TRef.ofBuf, eq_self, cast_eq, eqRec_eq_cast]
  pointwise [cat6]
  after_results_simp
  pointwise []
  rw [dif_neg (by omega), dif_neg (by omega), dif_pos (by omega)]
  have e : 1024 + k.val - 768 - 256 = k.val := by omega
  simp only [e]

theorem V_s (c : Dev nD) (b : Fin 2) (r : Fin 2048) (k : Fin 128) : V m c main_v4 (ix3 b r ⟨14 * 128 + k.val, by omega⟩) = shared (arg2 m c) b r k := by
  unfold V
  simp only [List.flatten_cons, List.flatten_nil, List.cons_append, List.nil_append]
  after_results
  change truncf .bf16 (cat6 _ _ _ _ _ _) bitsLt_bf16_f32 _ = _
  try simp only [StableHlo.TRef.toBuf, StableHlo.TRef.ofBuf, eq_self, cast_eq, eqRec_eq_cast]
  pointwise [cat6]
  after_results_simp
  pointwise []
  unfold shared
  by_cases h : 64 ≤ k.val ∧ k.val < 96
  · rw [dif_pos h, dif_neg (by omega), dif_neg (by omega), dif_neg (by omega), dif_neg (by omega), dif_pos (by omega)]
    have e : 1792 + k.val - 768 - 256 - 128 - 704 = k.val - 64 := by omega
    simp only [e]
  · rw [dif_neg h, dif_neg (by omega), dif_neg (by omega), dif_neg (by omega)]
    split_ifs <;> first | rfl | omega

theorem V_c (c : Dev nD) (b : Fin 2) (r : Fin 2048) (l : Fin 128) : V m c main_v21 (ix3 b r l) = cosines (arg3 m c) b r l := by
  unfold V
  simp only [List.flatten_cons, List.flatten_nil, List.cons_append, List.nil_append]
  after_results
  change cat4 _ _ _ _ _ = _
  try simp only [StableHlo.TRef.toBuf, StableHlo.TRef.ofBuf, eq_self, cast_eq, eqRec_eq_cast]
  pointwise [cat4]
  after_results_simp
  pointwise []
  unfold cosines
  by_cases h1 : l.val < 64
  · rw [dif_pos h1, if_neg (by omega), if_neg (by omega)]
  rw [dif_neg h1]
  by_cases h2 : l.val - 64 < 16
  · rw [dif_pos h2, if_pos (by omega)]
    rfl
  rw [dif_neg h2]
  by_cases h3 : l.val - 64 - 16 < 16
  · have e : l.val - 64 - 16 = l.val - 80 := by omega
    rw [dif_pos h3, if_neg (by omega), if_pos (by omega), e]
    rfl
  · rw [dif_neg h3, if_neg (by omega), if_neg (by omega)]

theorem V_sn (c : Dev nD) (b : Fin 2) (r : Fin 2048) (l : Fin 128) : V m c main_v24 (ix3 b r l) = sines (arg3 m c) b r l := by
  unfold V
  simp only [List.flatten_cons, List.flatten_nil, List.cons_append, List.nil_append]
  after_results
  change cat4 _ _ _ _ _ = _
  try simp only [StableHlo.TRef.toBuf, StableHlo.TRef.ofBuf, eq_self, cast_eq, eqRec_eq_cast]
  pointwise [cat4]
  after_results_simp
  pointwise []
  unfold sines
  by_cases h1 : l.val < 64
  · rw [dif_pos h1, if_neg (by omega), if_neg (by omega)]
  rw [dif_neg h1]
  by_cases h2 : l.val - 64 < 16
  · rw [dif_pos h2, if_pos (by omega)]
    rfl
  rw [dif_neg h2]
  by_cases h3 : l.val - 64 - 16 < 16
  · have e : l.val - 64 - 16 = l.val - 80 := by omega
    rw [dif_pos h3, if_neg (by omega), if_pos (by omega), e]
    rfl
  · rw [dif_neg h3, if_neg (by omega), if_neg (by omega)]

theorem V_a (c : Dev nD) (k : Fin 256) : V m c main_v30 (ix2 0 k) = (arg4 m c) (ix1 k) := by
  unfold V
  simp only [List.flatten_cons, List.flatten_nil, List.cons_append, List.nil_append]
  after_results
  try simp only [StableHlo.TRef.toBuf, StableHlo.TRef.ofBuf, eq_self, cast_eq, eqRec_eq_cast]
  pointwise []

theorem V_b (c : Dev nD) (k : Fin 128) : V m c main_v31 (ix2 0 k) = (arg5 m c) (ix1 k) := by
  unfold V
  simp only [List.flatten_cons, List.flatten_nil, List.cons_append, List.nil_append]
  after_results
  try simp only [StableHlo.TRef.toBuf, StableHlo.TRef.ofBuf, eq_self, cast_eq, eqRec_eq_cast]
  pointwise []

theorem V_g (c : Dev nD) (l : Fin 128) : V m c main_v33 (ix2 0 l) = padded (arg6 m c) l := by
  unfold V
  simp only [List.flatten_cons, List.flatten_nil, List.cons_append, List.nil_append]
  after_results
  try simp only [StableHlo.TRef.toBuf, StableHlo.TRef.ofBuf, eq_self, cast_eq, eqRec_eq_cast]
  pointwise []
  simp only [pad_zero]
  rfl

theorem V_h (c : Dev nD) (l : Fin 128) : V m c main_v35 (ix2 0 l) = padded (arg7 m c) l := by
  unfold V
  simp only [List.flatten_cons, List.flatten_nil, List.cons_append, List.nil_append]
  after_results
  try simp only [StableHlo.TRef.toBuf, StableHlo.TRef.ofBuf, eq_self, cast_eq, eqRec_eq_cast]
  pointwise []
  simp only [pad_zero]
  rfl

theorem V_w (c : Dev nD) (e : Fin 768) (k : Fin 256) : V m c main_v29 (ix2 e k) = wq (arg8 m c) e k := by
  unfold V
  simp only [List.flatten_cons, List.flatten_nil, List.cons_append, List.nil_append]
  after_results
  try simp only [StableHlo.TRef.toBuf, StableHlo.TRef.ofBuf, eq_self, cast_eq, eqRec_eq_cast]
  pointwise []
  simp only [pad_zero, wq]
  split_ifs <;> first | rfl | omega

theorem V_u (c : Dev nD) (e : Fin 768) (k : Fin 128) : V m c main_v37 (ix2 e k) = (arg9 m c) (ix2 k e) := by
  unfold V
  simp only [List.flatten_cons, List.flatten_nil, List.cons_append, List.nil_append]
  after_results
  try simp only [StableHlo.TRef.toBuf, StableHlo.TRef.ofBuf, eq_self, cast_eq, eqRec_eq_cast]
  pointwise []

/-! ## The blocks, as the arguments -/

/-- The batch and the row of a block's row. -/
def bt (t : Fin cfg0.N) : Fin 2 := ⟨t.val / 4, by have : t.val < 8 := t.isLt; omega⟩
def rt (t : Fin cfg0.N) (r : Fin 512) : Fin 2048 := ⟨t.val % 4 * 512 + r.val, by omega⟩

theorem read0 (c : Dev nD) (t : Fin cfg0.N) (r : Fin 512) : row (n := 256) (iblk m c 0 t) r = fun k => (arg0 m c) (ix3 (bt t) (rt t r) k) := by
  funext k
  rw [← V_q m c (bt t) (rt t r) k]
  unfold row
  blk_point [iblk, idx0 t, bt, rt]

theorem read1 (c : Dev nD) (t : Fin cfg0.N) (r : Fin 512) : row (n := 128) (iblk m c 1 t) r = fun k => (arg1 m c) (ix3 (bt t) (rt t r) k) := by
  funext k
  rw [← V_k m c (bt t) (rt t r) k]
  unfold row
  blk_point [iblk, idx1 t, bt, rt]

theorem read2 (c : Dev nD) (t : Fin cfg0.N) (r : Fin 512) : row (n := 128) (iblk m c 2 t) r = fun k => shared (arg2 m c) (bt t) (rt t r) k := by
  funext k
  rw [← V_s m c (bt t) (rt t r) k]
  unfold row
  blk_point [iblk, idx2 t, bt, rt]

theorem read3 (c : Dev nD) (t : Fin cfg0.N) (r : Fin 512) : row (n := 128) (iblk m c 3 t) r = fun k => cosines (arg3 m c) (bt t) (rt t r) k := by
  funext k
  rw [← V_c m c (bt t) (rt t r) k]
  unfold row
  blk_point [iblk, idx3 t, bt, rt]

theorem read4 (c : Dev nD) (t : Fin cfg0.N) (r : Fin 512) : row (n := 128) (iblk m c 4 t) r = fun k => sines (arg3 m c) (bt t) (rt t r) k := by
  funext k
  rw [← V_sn m c (bt t) (rt t r) k]
  unfold row
  blk_point [iblk, idx4 t, bt, rt]

theorem read5 (c : Dev nD) (t : Fin cfg0.N) : one (n := 256) (iblk m c 5 t) = fun k => (arg4 m c) (ix1 k) := by
  funext k
  rw [← V_a m c k]
  unfold one
  blk_point [iblk, idx5 t]

theorem read6 (c : Dev nD) (t : Fin cfg0.N) : one (n := 128) (iblk m c 6 t) = fun k => (arg5 m c) (ix1 k) := by
  funext k
  rw [← V_b m c k]
  unfold one
  blk_point [iblk, idx6 t]

theorem read7 (c : Dev nD) (t : Fin cfg0.N) : one (n := 128) (iblk m c 7 t) = fun k => padded (arg6 m c) k := by
  funext k
  rw [← V_g m c k]
  unfold one
  blk_point [iblk, idx7 t]

theorem read8 (c : Dev nD) (t : Fin cfg0.N) : one (n := 128) (iblk m c 8 t) = fun k => padded (arg7 m c) k := by
  funext k
  rw [← V_h m c k]
  unfold one
  blk_point [iblk, idx8 t]

theorem read9 (c : Dev nD) (t : Fin cfg0.N) : mat (n := 768) (k := 256) (iblk m c 9 t) = fun e k => wq (arg8 m c) e k := by
  funext e k
  rw [← V_w m c e k]
  unfold mat
  blk_point [iblk, idx9 t]

theorem read10 (c : Dev nD) (t : Fin cfg0.N) : mat (n := 768) (k := 128) (iblk m c 10 t) = fun e k => (arg9 m c) (ix2 k e) := by
  funext e k
  rw [← V_u m c e k]
  unfold mat
  blk_point [iblk, idx10 t]

/-- The queries. -/
def qArr (X : (⟨3, ![2, 2048, 256]⟩ : Shape).Idx → EReal) (T : (⟨2, ![2, 2048]⟩ : Shape).Idx → BitVec 32) (G : (⟨1, ![256]⟩ : Shape).Idx → EReal) (H : (⟨1, ![96]⟩ : Shape).Idx → EReal) (W : (⟨2, ![256, 576]⟩ : Shape).Idx → EReal) : (⟨3, ![2, 2048, 768]⟩ : Shape).Idx → EReal :=
  fun i => qHead (fun k => X (ix3 (i 0) (i 1) k)) (fun k => G (ix1 k)) (fun e k => wq W e k) (fun k => padded H k) (fun k => cosines T (i 0) (i 1) k) (fun k => sines T (i 0) (i 1) k) (i 2)

/-- The keys. -/
def kArr (X : (⟨3, ![2, 2048, 128]⟩ : Shape).Idx → EReal) (K : (⟨3, ![2, 2048, 32]⟩ : Shape).Idx → EReal) (T : (⟨2, ![2, 2048]⟩ : Shape).Idx → BitVec 32) (G : (⟨1, ![128]⟩ : Shape).Idx → EReal) (H : (⟨1, ![96]⟩ : Shape).Idx → EReal) (W : (⟨2, ![128, 768]⟩ : Shape).Idx → EReal) : (⟨3, ![2, 2048, 768]⟩ : Shape).Idx → EReal :=
  fun i => kHead (fun k => X (ix3 (i 0) (i 1) k)) (fun k => G (ix1 k)) (fun e k => W (ix2 k e)) (fun k => shared K (i 0) (i 1) k) (fun k => padded H k) (fun k => cosines T (i 0) (i 1) k) (fun k => sines T (i 0) (i 1) k) (i 2)

/-- The values. -/
def vArr (X : (⟨3, ![2, 2048, 128]⟩ : Shape).Idx → EReal) (G : (⟨1, ![128]⟩ : Shape).Idx → EReal) (W : (⟨2, ![128, 768]⟩ : Shape).Idx → EReal) : (⟨3, ![2, 2048, 384]⟩ : Shape).Idx → EReal :=
  fun i => vHead (fun k => X (ix3 (i 0) (i 1) k)) (fun k => G (ix1 k)) (fun e k => W (ix2 k e)) (i 2)

theorem rows_11 (c : Dev nD) (t : Fin cfg0.N) (r : Fin 512) (e : Fin 768) :
    qHead (row (n := 256) (iblk m c 0 t) r) (one (n := 256) (iblk m c 5 t)) (mat (n := 768) (k := 256) (iblk m c 9 t)) (one (n := 128) (iblk m c 7 t)) (row (n := 128) (iblk m c 3 t) r) (row (n := 128) (iblk m c 4 t) r) e = qArr (arg0 m c) (arg3 m c) (arg4 m c) (arg6 m c) (arg8 m c) (ix3 (bt t) (rt t r) e) := by
  rw [read0, read5, read9, read7, read3, read4]
  rfl

theorem block_11 (c : Dev nD) (t : Fin cfg0.N) (y : S1x512x768.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = qArr (arg0 m c) (arg3 m c) (arg4 m c) (arg6 m c) (arg8 m c) (ix3 (bt t) (rt t (y 1)) (y 2)) := by
  exact (PrepFwdBlock.q_at _ _ _ _ _ _ _ _ _ _ _ y).trans (rows_11 m c t (y 1) (y 2))

theorem final_11 (c : Dev nD) : (dats m 0 c).arrAt 11 cfg0.N = qArr (arg0 m c) (arg3 m c) (arg4 m c) (arg6 m c) (arg8 m c) := by
  refine (dats m 0 c).arrAt_eq_of_covers 11 _ (by decide +kernel) fun t hf y => ?_
  blk_simp
  rw [after0_11]
  refine (block_11 m c t y).trans ?_
  generalize qArr (arg0 m c) (arg3 m c) (arg4 m c) (arg6 m c) (arg8 m c) = g
  blk_point [idx11 t, bt, rt]
  done

theorem rows_12 (c : Dev nD) (t : Fin cfg0.N) (r : Fin 512) (e : Fin 768) :
    kHead (row (n := 128) (iblk m c 1 t) r) (one (n := 128) (iblk m c 6 t)) (mat (n := 768) (k := 128) (iblk m c 10 t)) (row (n := 128) (iblk m c 2 t) r) (one (n := 128) (iblk m c 8 t)) (row (n := 128) (iblk m c 3 t) r) (row (n := 128) (iblk m c 4 t) r) e = kArr (arg1 m c) (arg2 m c) (arg3 m c) (arg5 m c) (arg7 m c) (arg9 m c) (ix3 (bt t) (rt t r) e) := by
  rw [read1, read6, read10, read2, read8, read3, read4]
  rfl

theorem block_12 (c : Dev nD) (t : Fin cfg0.N) (y : S1x512x768.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = kArr (arg1 m c) (arg2 m c) (arg3 m c) (arg5 m c) (arg7 m c) (arg9 m c) (ix3 (bt t) (rt t (y 1)) (y 2)) := by
  exact (PrepFwdBlock.k_at _ _ _ _ _ _ _ _ _ _ _ y).trans (rows_12 m c t (y 1) (y 2))

theorem final_12 (c : Dev nD) : (dats m 0 c).arrAt 12 cfg0.N = kArr (arg1 m c) (arg2 m c) (arg3 m c) (arg5 m c) (arg7 m c) (arg9 m c) := by
  refine (dats m 0 c).arrAt_eq_of_covers 12 _ (by decide +kernel) fun t hf y => ?_
  blk_simp
  rw [after0_12]
  refine (block_12 m c t y).trans ?_
  generalize kArr (arg1 m c) (arg2 m c) (arg3 m c) (arg5 m c) (arg7 m c) (arg9 m c) = g
  blk_point [idx12 t, bt, rt]
  done

theorem rows_13 (c : Dev nD) (t : Fin cfg0.N) (r : Fin 512) (e : Fin 384) :
    vHead (row (n := 128) (iblk m c 1 t) r) (one (n := 128) (iblk m c 6 t)) (mat (n := 768) (k := 128) (iblk m c 10 t)) e = vArr (arg1 m c) (arg5 m c) (arg9 m c) (ix3 (bt t) (rt t r) e) := by
  rw [read1, read6, read10]
  rfl

theorem block_13 (c : Dev nD) (t : Fin cfg0.N) (y : S1x512x384.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = vArr (arg1 m c) (arg5 m c) (arg9 m c) (ix3 (bt t) (rt t (y 1)) (y 2)) := by
  exact (PrepFwdBlock.v_at _ _ _ _ _ _ _ _ _ _ _ y).trans (rows_13 m c t (y 1) (y 2))

theorem final_13 (c : Dev nD) : (dats m 0 c).arrAt 13 cfg0.N = vArr (arg1 m c) (arg5 m c) (arg9 m c) := by
  refine (dats m 0 c).arrAt_eq_of_covers 13 _ (by decide +kernel) fun t hf y => ?_
  blk_simp
  rw [after0_13]
  refine (block_13 m c t y).trans ?_
  generalize vArr (arg1 m c) (arg5 m c) (arg9 m c) = g
  blk_point [idx13 t, bt, rt]
  done

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v38_0) = qArr (m ((c : Thread nD τ).loc main_arg0)) (m ((c : Thread nD τ).loc main_arg3)) (m ((c : Thread nD τ).loc main_arg4)) (m ((c : Thread nD τ).loc main_arg6)) (m ((c : Thread nD τ).loc main_arg8))
      ∧ r.2.mem ((c : Thread nD τ).loc main_v38_1) = kArr (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9))
      ∧ r.2.mem ((c : Thread nD τ).loc main_v38_2) = vArr (m ((c : Thread nD τ).loc main_arg1)) (m ((c : Thread nD τ).loc main_arg5)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  simpa only [final_11, final_12, final_13] using Cert.PrepFwdIdeal.Value.run_blocks m ρ

end Cert.Proof.PrepFwdValue
-- ==== Proof.PrepFwdRef.lean ====
/- The queries, keys and values of the latent attention: what the reference computes, read at an entry. -/
module

public import proofs.«01_k».proof.Proof.Gen.PrepFwdRefIdeal.Read
public import proofs.«01_k».proof.Proof.PrepFwdValue
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.PrepFwdRef

open Cert.Proof.PrepFwdBlock (nrm proj turn lane near)
open Cert.Proof.PrepFwdValue (angle)
open Cert.PrepFwdRefIdeal Cert.PrepFwdRefIdeal.Gen Cert.PrepFwdRefIdeal.Read Idealize.ShloMosaic Idealize.ShloMosaic.TcCoe Idealize.SL.Sem

/-- A head's lanes divided by their root mean square, times a scale. -/
def normAll (y : FVec Ideal S2x2048x6x96 .f32) (g : FVec Ideal S96 .f32) : FVec Ideal S2x2048x6x96 .f32 :=
  mulf (mulf (y) (broadcastInDim S2x2048x6x96 ![0, 1, 2, 3] bcast_S2x2048x6x1_S2x2048x6x96_0_1_2_3 (Host.rsqrt (addf (Host.divf (broadcastInDim S2x2048x6x1 ![0, 1, 2] bcast_S2x2048x6_S2x2048x6x1_0_1_2 (Host.reduceAdd (mulf (y) (y)) (constant S_ .f32 0x00000000#32) reducesTo_S2x2048x6x96_S2x2048x6_d3 h_S_)) (broadcastInDim S2x2048x6x1 ![] bcast_S_S2x2048x6x1 (constant S_ .f32 0x42C00000#32))) (broadcastInDim S2x2048x6x1 ![] bcast_S_S2x2048x6x1 (constant S_ .f32 0x358637BD#32)))))) (broadcastInDim S2x2048x6x96 ![0, 1, 2, 3] bcast_S1x1x1x96_S2x2048x6x96_0_1_2_3 (broadcastInDim S1x1x1x96 ![3] bcast_S96_S1x1x1x96_3 g))

/-- The angles. -/
def turns (T : IVec S2x2048 32) : FVec Ideal S2x2048x16 .f32 :=
  mulf (broadcastInDim S2x2048x16 ![0, 1, 2] bcast_S2x2048x1_S2x2048x16_0_1_2 (broadcastInDim S2x2048x1 ![0, 1] bcast_S2x2048_S2x2048x1_0_1 (sitofp .f32 T))) (broadcastInDim S2x2048x16 ![0, 1, 2] bcast_S1x1x16_S2x2048x16_0_1_2 (broadcastInDim S1x1x16 ![2] bcast_S16_S1x1x16_2 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The heads' lanes rotated, padded to 128 and laid side by side. -/
def rotAll (n : FVec Ideal S2x2048x6x96 .f32) (T : IVec S2x2048 32) : FVec Ideal S2x2048x768 .bf16 :=
  truncf .bf16 (shapeCast S2x2048x768 (pad S2x2048x6x128 ![0, 0, 0, 0] ![0, 0, 0, 32] ![0, 0, 0, 0] (concatenate S2x2048x6x96 3 [⟨S2x2048x6x64, (extractStridedSlice S2x2048x6x64 ![0, 0, 0, 0] (n) slices_S2x2048x6x96_S2x2048x6x64_0_0_0_0)⟩, ⟨S2x2048x6x32, (concatenate S2x2048x6x32 3 [⟨S2x2048x6x16, (subf (mulf (extractStridedSlice S2x2048x6x16 ![0, 0, 0, 0] (extractStridedSlice S2x2048x6x32 ![0, 0, 0, 64] (n) slices_S2x2048x6x96_S2x2048x6x32_0_0_0_64) slices_S2x2048x6x32_S2x2048x6x16_0_0_0_0) (broadcastInDim S2x2048x6x16 ![0, 1, 2, 3] bcast_S2x2048x1x16_S2x2048x6x16_0_1_2_3 (broadcastInDim S2x2048x1x16 ![0, 1, 3] bcast_S2x2048x16_S2x2048x1x16_0_1_3 (Host.cos (turns T))))) (mulf (extractStridedSlice S2x2048x6x16 ![0, 0, 0, 16] (extractStridedSlice S2x2048x6x32 ![0, 0, 0, 64] (n) slices_S2x2048x6x96_S2x2048x6x32_0_0_0_64) slices_S2x2048x6x32_S2x2048x6x16_0_0_0_16) (broadcastInDim S2x2048x6x16 ![0, 1, 2, 3] bcast_S2x2048x1x16_S2x2048x6x16_0_1_2_3 (broadcastInDim S2x2048x1x16 ![0, 1, 3] bcast_S2x2048x16_S2x2048x1x16_0_1_3 (Host.sin (turns T))))))⟩, ⟨S2x2048x6x16, (addf (mulf (extractStridedSlice S2x2048x6x16 ![0, 0, 0, 0] (extractStridedSlice S2x2048x6x32 ![0, 0, 0, 64] (n) slices_S2x2048x6x96_S2x2048x6x32_0_0_0_64) slices_S2x2048x6x32_S2x2048x6x16_0_0_0_0) (broadcastInDim S2x2048x6x16 ![0, 1, 2, 3] bcast_S2x2048x1x16_S2x2048x6x16_0_1_2_3 (broadcastInDim S2x2048x1x16 ![0, 1, 3] bcast_S2x2048x16_S2x2048x1x16_0_1_3 (Host.sin (turns T))))) (mulf (extractStridedSlice S2x2048x6x16 ![0, 0, 0, 16] (extractStridedSlice S2x2048x6x32 ![0, 0, 0, 64] (n) slices_S2x2048x6x96_S2x2048x6x32_0_0_0_64) slices_S2x2048x6x32_S2x2048x6x16_0_0_0_16) (broadcastInDim S2x2048x6x16 ![0, 1, 2, 3] bcast_S2x2048x1x16_S2x2048x6x16_0_1_2_3 (broadcastInDim S2x2048x1x16 ![0, 1, 3] bcast_S2x2048x16_S2x2048x1x16_0_1_3 (Host.cos (turns T))))))⟩] concatenates_S2x2048x6x16_S2x2048x6x16_S2x2048x6x32_d3)⟩] concatenates_S2x2048x6x64_S2x2048x6x32_S2x2048x6x96_d3) (sitofp .f32 (constantI S_ 32 0#32)) pads_S2x2048x6x96_S2x2048x6x128_000_000_000_0320 h_S_) shapeCasts_S2x2048x6x128_S2x2048x768) bitsLt_bf16_f32

theorem v47_eq (x0 : FVec Ideal S2x2048x256 .f32) (x4 : FVec Ideal S256 .f32) (x6 : FVec Ideal S96 .f32) (x8 : FVec Ideal S256x576 .f32) :
    val_main_v47 (F := Ideal) x0 x4 x6 x8 = normAll (val_main_v14 (F := Ideal) x0 x4 x8) x6 := by
  rfl
theorem v60_eq (x1 : FVec Ideal S2x2048x128 .f32) (x2 : FVec Ideal S2x2048x32 .f32) (x5 : FVec Ideal S128 .f32) (x7 : FVec Ideal S96 .f32) (x9 : FVec Ideal S128x768 .f32) :
    val_main_v60 (F := Ideal) x1 x2 x5 x7 x9 = normAll (val_main_v34 (F := Ideal) x1 x2 x5 x9) x7 := by
  rfl
theorem v127_eq (x0 : FVec Ideal S2x2048x256 .f32) (x3 : IVec S2x2048 32) (x4 : FVec Ideal S256 .f32) (x6 : FVec Ideal S96 .f32) (x8 : FVec Ideal S256x576 .f32) :
    val_main_v127 (F := Ideal) x0 x3 x4 x6 x8 = rotAll (val_main_v47 (F := Ideal) x0 x4 x6 x8) x3 := by
  rfl
theorem v130_eq (x1 : FVec Ideal S2x2048x128 .f32) (x2 : FVec Ideal S2x2048x32 .f32) (x3 : IVec S2x2048 32) (x5 : FVec Ideal S128 .f32) (x7 : FVec Ideal S96 .f32) (x9 : FVec Ideal S128x768 .f32) :
    val_main_v130 (F := Ideal) x1 x2 x3 x5 x7 x9 = rotAll (val_main_v60 (F := Ideal) x1 x2 x5 x7 x9) x3 := by
  rfl

/-- A head's 96 lanes rotated by the row's angles and padded with zeros. -/
def spun (N : Fin 96 → EReal) (θ : Nat → EReal) (l : Fin 128) : EReal :=
  if h : l.val < 64 then N ⟨l.val, by omega⟩
  else if h : l.val < 80 then N ⟨l.val, by omega⟩ * Ideal.cos (θ (l.val - 64)) - N ⟨l.val + 16, by omega⟩ * Ideal.sin (θ (l.val - 64))
  else if h : l.val < 96 then N ⟨l.val - 16, by omega⟩ * Ideal.sin (θ (l.val - 80)) + N ⟨l.val, by omega⟩ * Ideal.cos (θ (l.val - 80))
  else 0

theorem normAll_at (y : FVec Ideal S2x2048x6x96 .f32) (g : FVec Ideal S96 .f32) (b : Fin 2) (r : Fin 2048) (h : Fin 6) (k : Fin 96) :
    normAll y g (ix4 b r h k) = nrm (Ideal.ofBits .f32 0x42C00000#32) (fun j => y (ix4 b r h j)) (fun j => g (ix1 j)) k := by
  pointwise [normAll, nrm]

theorem spun_nested (N : Fin 96 → EReal) (θ : Nat → EReal) (l : Nat) (hl : l < 128) {A : Prop} [Decidable (A ∧ l < 96)] (hA : A) (z : EReal) (hz : z = 0) :
    (if h : A ∧ l < 96 then
      if h1 : l < 64 then N ⟨l, by omega⟩
      else if h2 : l - 64 < 16 then N ⟨64 + (l - 64), by omega⟩ * Ideal.cos (θ (l - 64)) - N ⟨64 + (16 + (l - 64)), by omega⟩ * Ideal.sin (θ (l - 64))
      else N ⟨64 + (l - 64 - 16), by omega⟩ * Ideal.sin (θ (l - 64 - 16)) + N ⟨64 + (16 + (l - 64 - 16)), by omega⟩ * Ideal.cos (θ (l - 64 - 16))
    else z) = spun N θ ⟨l, hl⟩ := by
  unfold spun
  by_cases h1 : l < 64
  · rw [dif_pos ⟨hA, by omega⟩, dif_pos h1, dif_pos h1]
  by_cases h2 : l < 80
  · rw [dif_pos ⟨hA, by omega⟩, dif_neg h1, dif_pos (by omega), dif_neg h1, dif_pos h2]
    have e1 : 64 + (l - 64) = l := by omega
    have e2 : 64 + (16 + (l - 64)) = l + 16 := by omega
    simp only [e1, e2]
  by_cases h3 : l < 96
  · rw [dif_pos ⟨hA, h3⟩, dif_neg h1, dif_neg (by omega), dif_neg h1, dif_neg h2, dif_pos h3]
    have e1 : 64 + (l - 80) = l - 16 := by omega
    have e2 : 64 + (16 + (l - 80)) = l := by omega
    have e3 : l - 64 - 16 = l - 80 := by omega
    simp only [e3, e1, e2]
  · rw [dif_neg (fun h => h3 h.2), dif_neg h1, dif_neg h2, dif_neg h3]
    exact hz

set_option maxHeartbeats 2000000 in
theorem rotAll_at (n : FVec Ideal S2x2048x6x96 .f32) (T : IVec S2x2048 32) (b : Fin 2) (r : Fin 2048) (e : Fin 768) :
    rotAll n T (ix3 b r e) = spun (fun k => n (ix4 b r ⟨e.val / 128, by omega⟩ k)) (angle T b r) ⟨e.val % 128, by omega⟩ := by
  pointwise [rotAll, turns]
  exact spun_nested (fun k => n (ix4 b r ⟨e.val / 128, by omega⟩ k)) (angle T b r) (e.val % 128) (by omega) (by omega) _ PrepFwdValue.pad_zero

theorem q_row (x0 : FVec Ideal S2x2048x256 .f32) (x4 : FVec Ideal S256 .f32) (x8 : FVec Ideal S256x576 .f32) (b : Fin 2) (r : Fin 2048) (h : Fin 6) (k : Fin 96) :
    val_main_v14 (F := Ideal) x0 x4 x8 (ix4 b r h k)
      = proj (Ideal.ofBits .f32 0x43800000#32) (fun j => x0 (ix3 b r j)) (fun j => x4 (ix1 j)) (fun j => x8 (ix2 j ⟨h.val * 96 + k.val, by omega⟩)) := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, proj, nrm]

theorem k_row (x1 : FVec Ideal S2x2048x128 .f32) (x5 : FVec Ideal S128 .f32) (x9 : FVec Ideal S128x768 .f32) (b : Fin 2) (r : Fin 2048) (h : Fin 6) (k : Fin 128) :
    val_main_v29 (F := Ideal) x1 x5 x9 (ix4 b r h k)
      = proj (Ideal.ofBits .f32 0x43000000#32) (fun j => x1 (ix3 b r j)) (fun j => x5 (ix1 j)) (fun j => x9 (ix2 j ⟨h.val * 128 + k.val, by omega⟩)) := by
  pointwise [val_main_v15, val_main_v16, val_main_v17, val_main_v18, val_main_v19, val_main_v20, val_main_v21, val_main_v22, val_main_v23, val_main_v24, val_main_v25, val_main_v26, val_main_v27, val_main_v28, val_main_v29, val_main_cst_2, val_main_cst_3, val_main_cst_4, proj, nrm]

theorem joined_at (x1 : FVec Ideal S2x2048x128 .f32) (x2 : FVec Ideal S2x2048x32 .f32) (x5 : FVec Ideal S128 .f32) (x9 : FVec Ideal S128x768 .f32) (b : Fin 2) (r : Fin 2048) (h : Fin 6) (k : Fin 96) :
    val_main_v34 (F := Ideal) x1 x2 x5 x9 (ix4 b r h k)
      = if hk : k.val < 64 then val_main_v29 (F := Ideal) x1 x5 x9 (ix4 b r h ⟨k.val, by omega⟩) else x2 (ix3 b r ⟨k.val - 64, by omega⟩) := by
  unfold val_main_v34 val_main_v33 val_main_v32 val_main_v30
  generalize val_main_v29 (F := Ideal) x1 x5 x9 = z
  pointwise []

theorem v_row (x1 : FVec Ideal S2x2048x128 .f32) (x5 : FVec Ideal S128 .f32) (x9 : FVec Ideal S128x768 .f32) (b : Fin 2) (r : Fin 2048) (e : Fin 384) :
    val_main_v132 (F := Ideal) x1 x5 x9 (ix3 b r e) = val_main_v29 (F := Ideal) x1 x5 x9 (ix4 b r ⟨e.val / 64, by omega⟩ ⟨64 + e.val % 64, by omega⟩) := by
  unfold val_main_v132 val_main_v131 val_main_v31
  generalize val_main_v29 (F := Ideal) x1 x5 x9 = z
  pointwise []

end Cert.Proof.PrepFwdRef
-- ==== Proof.PrepFwdMath.lean ====
/- The queries, keys and values of the latent attention: the padded lanes of a head, as its 96 lanes. -/
module

public import proofs.«01_k».proof.Proof.PrepFwdRef
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.PrepFwdMath

open Cert.Proof.PrepFwdBlock (nrm proj turn lane near qHead kHead vHead valueCol)
open Cert.Proof.PrepFwdValue (angle cosines sines wq padded shared)
open Cert.Proof.PrepFwdRef (spun)
open Idealize.ShloMosaic Idealize.ShloMosaic.TcCoe Idealize.SL.Sem

/-- A head's lanes padded with zeros. -/
def wide (X : Fin 96 → EReal) (l : Fin 128) : EReal := if h : l.val < 96 then X ⟨l.val, h⟩ else 0

theorem sum_wide (X : Fin 96 → EReal) : ∑ j, wide X j * wide X j = ∑ j, X j * X j := by
  rw [show (∑ j : Fin 128, wide X j * wide X j) = ∑ j : Fin (96 + 32), wide X j * wide X j from rfl, Fin.sum_univ_add]
  have h0 : ∑ j : Fin 32, wide X (Fin.natAdd 96 j) * wide X (Fin.natAdd 96 j) = 0 := by
    refine Finset.sum_eq_zero fun j _ => ?_
    unfold wide
    rw [dif_neg (by simp), mul_zero]
  rw [h0, add_zero]
  refine Finset.sum_congr rfl fun j _ => ?_
  unfold wide
  rw [dif_pos (by simp)]
  rfl

theorem nrm_wide (c : EReal) (X G : Fin 96 → EReal) (l : Fin 128) : nrm c (wide X) (wide G) l = wide (nrm c X G) l := by
  unfold nrm
  rw [sum_wide]
  unfold wide
  by_cases h : l.val < 96
  · rw [dif_pos h, dif_pos h, dif_pos h]
  · rw [dif_neg h, dif_neg h, dif_neg h, zero_mul, zero_mul]

/-- A lane of a padded head, normed and rotated. -/
theorem lane_wide (X G : Fin 96 → EReal) (T : (⟨2, ![2, 2048]⟩ : Shape).Idx → BitVec 32) (b : Fin 2) (r : Fin 2048) (l : Fin 128) :
    lane (wide X) (wide G) (cosines T b r) (sines T b r) l = spun (nrm (Ideal.ofBits .f32 0x42C00000#32) X G) (angle T b r) l := by
  unfold lane
  rw [funext (nrm_wide (Ideal.ofBits .f32 0x42C00000#32) X G)]
  generalize nrm (Ideal.ofBits .f32 0x42C00000#32) X G = N
  unfold turn cosines sines spun
  by_cases h1 : l.val < 64
  · have p : ¬ (64 ≤ l.val ∧ l.val < 80) := by omega
    have q : ¬ (80 ≤ l.val ∧ l.val < 96) := by omega
    simp only [if_neg p, if_neg q, dif_neg p, dif_neg q, dif_pos h1, mul_one, mul_zero, add_zero]
    unfold wide
    rw [dif_pos (by omega)]
  by_cases h2 : l.val < 80
  · have p : 64 ≤ l.val ∧ l.val < 80 := by omega
    simp only [if_pos p, dif_pos p, dif_neg h1, dif_pos h2]
    unfold wide
    rw [dif_pos (by omega), dif_pos (show l.val + 16 < 96 by omega), sub_eq_add_neg, EReal.neg_mul]
  have p : ¬ (64 ≤ l.val ∧ l.val < 80) := by omega
  by_cases h3 : l.val < 96
  · have q : 80 ≤ l.val ∧ l.val < 96 := by omega
    simp only [if_neg p, dif_neg p, if_pos q, dif_pos q, dif_neg h1, dif_neg h2, dif_pos h3]
    unfold wide
    rw [dif_pos h3, dif_pos (show l.val - 16 < 96 by omega), add_comm]
  · have q : ¬ (80 ≤ l.val ∧ l.val < 96) := by omega
    simp only [if_neg p, if_neg q, dif_neg p, dif_neg q, dif_neg h1, dif_neg h2, dif_neg h3, mul_one, mul_zero, add_zero]
    unfold wide
    rw [dif_neg h3]

theorem padded_eq (G : (⟨1, ![96]⟩ : Shape).Idx → EReal) : (fun l => padded G l) = wide fun k => G (ix1 k) := by
  funext l
  rfl

/-- The padded columns of the queries' weights give zeros. -/
theorem query_lanes (c : EReal) (X A : Fin 256 → EReal) (W : (⟨2, ![256, 576]⟩ : Shape).Idx → EReal) (e : Fin 768) :
    (fun l => proj c X A (wq W (near e l))) = wide fun k => proj c X A fun j => W (ix2 j ⟨e.val / 128 * 96 + k.val, by omega⟩) := by
  funext l
  have hn : (near e l).val = 128 * (e.val / 128) + l.val := rfl
  unfold wide
  by_cases h : l.val < 96
  · rw [dif_pos h]
    unfold proj
    refine Finset.sum_congr rfl fun j _ => ?_
    unfold wq
    have e1 : (near e l).val % 128 = l.val := by omega
    have e2 : (near e l).val / 128 = e.val / 128 := by omega
    rw [dif_pos (by omega)]
    simp only [e1, e2]
  · rw [dif_neg h]
    unfold proj
    refine Finset.sum_eq_zero fun j _ => ?_
    unfold wq
    rw [dif_neg (by omega), mul_zero]

/-- A key's lanes: the head's own 64, then the 32 that the heads share. -/
theorem key_lanes (c : EReal) (X A : Fin 128 → EReal) (W : Fin 768 → Fin 128 → EReal) (K : (⟨3, ![2, 2048, 32]⟩ : Shape).Idx → EReal) (b : Fin 2) (r : Fin 2048) (e : Fin 768) :
    (fun l : Fin 128 => if l.val < 64 then proj c X A (W (near e l)) else shared K b r l)
      = wide fun k => if h : k.val < 64 then proj c X A (W ⟨e.val / 128 * 128 + k.val, by omega⟩) else K (ix3 b r ⟨k.val - 64, by omega⟩) := by
  funext l
  unfold wide
  by_cases h : l.val < 64
  · rw [if_pos h, dif_pos (by omega)]
    beta_reduce
    rw [dif_pos h]
    have e1 : near e l = ⟨e.val / 128 * 128 + l.val, by omega⟩ := by
      apply Fin.ext
      show 128 * (e.val / 128) + l.val = e.val / 128 * 128 + l.val
      omega
    rw [e1]
  · rw [if_neg h]
    unfold shared
    by_cases h' : l.val < 96
    · rw [dif_pos (by omega), dif_pos h']
      beta_reduce
      rw [dif_neg h]
    · rw [dif_neg (by omega), dif_neg h']

end Cert.Proof.PrepFwdMath
-- ==== Proof.PrepFwdClaim.lean ====
/- The queries, keys and values of the latent attention from their projections: the kernel computes what the reference computes. -/
module

public import proofs.«01_k».proof.Defs
public import proofs.«01_k».proof.Proof.Gen.PrepFwd.Frame
public import proofs.«01_k».proof.Proof.PrepFwdValue
public import proofs.«01_k».proof.Proof.PrepFwdRef
public import proofs.«01_k».proof.Proof.PrepFwdMath

@[expose] public section

set_option maxRecDepth 16384

noncomputable section

namespace Cert.Proof.PrepFwdClaim

open Cert.Proof.PrepFwdBlock (nrm proj lane near qHead kHead vHead valueCol)
open Cert.Proof.PrepFwdValue (qArr kArr vArr angle)
open Cert.Proof.PrepFwdMath (wide)
open Cert.Proof.PrepFwdRef (spun)
open Idealize.ShloMosaic Idealize.ShloMosaic.TcCoe Idealize.SL.Sem

/-- The reference's frame. -/
theorem frame_ref : Cert.quiescent_PrepFwdRefIdeal := fun m ρ _ =>
  (θ_run Cert.PrepFwdRefIdeal.defs _ _).mono (fun r h => ⟨fun c => (h c).2.2.2, sem_eq_zero_of_no_sems (by decide) r.2⟩)
    (Cert.PrepFwdRefIdeal.Value.run (F := Ideal) m ρ)

section

open Cert.PrepFwdRefIdeal Cert.PrepFwdRefIdeal.Read

theorem queries (X : FVec Ideal S2x2048x256 .f32) (T : IVec S2x2048 32) (G : FVec Ideal S256 .f32) (H : FVec Ideal S96 .f32) (W : FVec Ideal S256x576 .f32) :
    val_main_v127 (F := Ideal) X T G H W = qArr X T G H W := by
  funext i
  obtain ⟨b, r, e, rfl⟩ : ∃ (b : Fin 2) (r : Fin 2048) (e : Fin 768), i = ix3 b r e := ⟨i 0, i 1, i 2, (ix3_eta i).symm⟩
  rw [PrepFwdRef.v127_eq, PrepFwdRef.rotAll_at, PrepFwdRef.v47_eq]
  simp only [PrepFwdRef.normAll_at, PrepFwdRef.q_row]
  refine Eq.symm ?_
  show qHead (fun k => X (ix3 b r k)) (fun k => G (ix1 k)) (fun e k => PrepFwdValue.wq W e k) (fun k => PrepFwdValue.padded H k) (fun k => PrepFwdValue.cosines T b r k) (fun k => PrepFwdValue.sines T b r k) e = _
  unfold qHead
  rw [PrepFwdMath.padded_eq]
  refine (congrArg (fun Y => lane Y _ _ _ _) (PrepFwdMath.query_lanes _ _ _ W e)).trans ?_
  exact PrepFwdMath.lane_wide _ _ T b r _

theorem head_keys (X : FVec Ideal S2x2048x128 .f32) (K : FVec Ideal S2x2048x32 .f32) (G : FVec Ideal S128 .f32) (W : FVec Ideal S128x768 .f32) (b : Fin 2) (r : Fin 2048) (h : Fin 6) :
    (fun k => val_main_v34 (F := Ideal) X K G W (ix4 b r h k))
      = fun k : Fin 96 => if hk : k.val < 64 then proj (Ideal.ofBits .f32 0x43000000#32) (fun k => X (ix3 b r k)) (fun k => G (ix1 k)) (fun j => W (ix2 j ⟨h.val * 128 + k.val, by omega⟩))
          else K (ix3 b r ⟨k.val - 64, by omega⟩) := by
  funext k
  rw [PrepFwdRef.joined_at]
  by_cases hk : k.val < 64
  · rw [dif_pos hk, dif_pos hk, PrepFwdRef.k_row]
  · rw [dif_neg hk, dif_neg hk]

theorem rows (X : FVec Ideal S2x2048x128 .f32) (K : FVec Ideal S2x2048x32 .f32) (G : FVec Ideal S128 .f32) (H : FVec Ideal S96 .f32) (W : FVec Ideal S128x768 .f32) (b : Fin 2) (r : Fin 2048) (h : Fin 6) :
    (fun k => val_main_v60 (F := Ideal) X K G H W (ix4 b r h k))
      = nrm (Ideal.ofBits .f32 0x42C00000#32) (fun k => val_main_v34 (F := Ideal) X K G W (ix4 b r h k)) (fun k => H (ix1 k)) := by
  funext k
  rw [PrepFwdRef.v60_eq]
  exact PrepFwdRef.normAll_at _ _ b r h k

theorem keys_at (X : FVec Ideal S2x2048x128 .f32) (K : FVec Ideal S2x2048x32 .f32) (T : IVec S2x2048 32) (G : FVec Ideal S128 .f32) (H : FVec Ideal S96 .f32) (W : FVec Ideal S128x768 .f32) (b : Fin 2) (r : Fin 2048) (e : Fin 768) :
    val_main_v130 (F := Ideal) X K T G H W (ix3 b r e)
      = spun (nrm (Ideal.ofBits .f32 0x42C00000#32) (fun k : Fin 96 => if hk : k.val < 64 then proj (Ideal.ofBits .f32 0x43000000#32) (fun k => X (ix3 b r k)) (fun k => G (ix1 k)) (fun j => W (ix2 j ⟨e.val / 128 * 128 + k.val, by omega⟩))
          else K (ix3 b r ⟨k.val - 64, by omega⟩)) (fun k => H (ix1 k))) (angle T b r) ⟨e.val % 128, Nat.mod_lt _ (by decide)⟩ := by
  rw [PrepFwdRef.v130_eq, PrepFwdRef.rotAll_at, rows, head_keys]

theorem head_eq (X A : Fin 128 → EReal) (W : Fin 768 → Fin 128 → EReal) (K : (⟨3, ![2, 2048, 32]⟩ : Shape).Idx → EReal) (T : (⟨2, ![2, 2048]⟩ : Shape).Idx → BitVec 32) (H : (⟨1, ![96]⟩ : Shape).Idx → EReal)
    (b : Fin 2) (r : Fin 2048) (e : Fin 768) :
    kHead X A W (fun k => PrepFwdValue.shared K b r k) (fun k => PrepFwdValue.padded H k) (fun k => PrepFwdValue.cosines T b r k) (fun k => PrepFwdValue.sines T b r k) e
      = spun (nrm (Ideal.ofBits .f32 0x42C00000#32) (fun k : Fin 96 => if hk : k.val < 64 then proj (Ideal.ofBits .f32 0x43000000#32) X A (W ⟨e.val / 128 * 128 + k.val, by omega⟩) else K (ix3 b r ⟨k.val - 64, by omega⟩)) (fun k => H (ix1 k)))
          (angle T b r) ⟨e.val % 128, Nat.mod_lt _ (by decide)⟩ := by
  unfold kHead
  rw [PrepFwdMath.padded_eq, PrepFwdMath.key_lanes]
  exact PrepFwdMath.lane_wide _ _ T b r _

theorem keys (X : FVec Ideal S2x2048x128 .f32) (K : FVec Ideal S2x2048x32 .f32) (T : IVec S2x2048 32) (G : FVec Ideal S128 .f32) (H : FVec Ideal S96 .f32) (W : FVec Ideal S128x768 .f32) :
    val_main_v130 (F := Ideal) X K T G H W = kArr X K T G H W := by
  funext i
  obtain ⟨b, r, e, rfl⟩ : ∃ (b : Fin 2) (r : Fin 2048) (e : Fin 768), i = ix3 b r e := ⟨i 0, i 1, i 2, (ix3_eta i).symm⟩
  exact (keys_at X K T G H W b r e).trans (head_eq (fun k => X (ix3 b r k)) (fun k => G (ix1 k)) (fun e k => W (ix2 k e)) K T H b r e).symm

theorem values (X : FVec Ideal S2x2048x128 .f32) (G : FVec Ideal S128 .f32) (W : FVec Ideal S128x768 .f32) :
    val_main_v132 (F := Ideal) X G W = vArr X G W := by
  funext i
  obtain ⟨b, r, e, rfl⟩ : ∃ (b : Fin 2) (r : Fin 2048) (e : Fin 384), i = ix3 b r e := ⟨i 0, i 1, i 2, (ix3_eta i).symm⟩
  rw [PrepFwdRef.v_row, PrepFwdRef.k_row]
  show _ = vHead (fun k => X (ix3 b r k)) (fun k => G (ix1 k)) (fun e k => W (ix2 k e)) e
  unfold vHead
  refine congrArg _ (funext fun j => congrArg (fun a => W (ix2 j a)) (Fin.ext ?_))
  show e.val / 64 * 128 + (64 + e.val % 64) = 128 * (e.val / 64) + 64 + e.val % 64
  omega

end

theorem algebraic : Cert.algebraic_PrepFwdIdeal_PrepFwdRefIdeal := by
  intro m g m' g' _ hagree
  refine ⟨_, _, _, PrepFwdValue.run m g, θ_run_mono (Cert.PrepFwdRefIdeal.Value.run (F := Ideal) m' g') fun r h c => ?_⟩
  obtain ⟨h0, h1, h2, h3, h4, h5, h6, h7, h8, h9⟩ := hagree c
  obtain ⟨r0, r1, r2, rest⟩ := h c
  refine ⟨r0.trans ?_, r1.trans ?_, r2.trans ?_, rest⟩
  · rw [Cert.PrepFwdRefIdeal.Read.val_main_v127_eq, queries, ← h0, ← h3, ← h4, ← h6, ← h8]
  · rw [Cert.PrepFwdRefIdeal.Read.val_main_v130_eq, keys, ← h1, ← h2, ← h3, ← h5, ← h7, ← h9]
  · rw [← h1, ← h5, ← h9]
    exact (Cert.PrepFwdRefIdeal.Read.val_main_v132_eq _ _ _).trans (values _ _ _)

end Cert.Proof.PrepFwdClaim
-- ==== Proof.AdamWValue.lean ====
/- The optimiser's step: what the kernel's grid of two row blocks leaves in its four results, read at an index. -/
module

public import proofs.«01_k».proof.Proof.Gen.AdamWIdeal.Value
public import proofs.«01_k».proof.Proof.Gen.AdamWRefIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.AdamWValue

open Cert.AdamWIdeal Cert.AdamWIdeal.Gen Idealize.ShloMosaic Idealize.ShloMosaic.TcCoe Idealize.SL.Sem

variable (m : (ℓ : Loc nD τ sig) → Buf (Elt Ideal) ℓ)

/-- The contents of the four partial gradients, and of the weight and its two moments. -/
abbrev ArrP := (⟨3, ![4, 704, 1024]⟩ : Shape).Idx → EReal
abbrev Arr := (⟨2, ![704, 1024]⟩ : Shape).Idx → EReal

/-- The new first moment, from the old one and the gradient. -/
def first (m g : EReal) : EReal := Ideal.ofBits .f32 0x3F666666#32 * m + Ideal.ofBits .f32 0x3DCCCCCD#32 * g

/-- The new second moment. -/
def second (v g : EReal) : EReal := Ideal.ofBits .f32 0x3F7FBE77#32 * v + Ideal.ofBits .f32 0x3A83126F#32 * (g * g)

/-- The step, from the weight and the two new moments. -/
def step (w m v : EReal) : EReal := Ideal.ofBits .f32 0xBA83126F#32 *
  (Ideal.div (Ideal.div m (Ideal.ofBits .f32 0x3F26BD02#32))
    (Ideal.sqrt (Ideal.div v (Ideal.ofBits .f32 0x3C231ACC#32)) + Ideal.ofBits .f32 0x322BCC77#32)
    + Ideal.ofBits .f32 0x3C23D70A#32 * w)

/-- The gradient: the sum of the four parts. -/
def grad (P : ArrP) : Arr := fun i => P (ix3 0 (i 0) (i 1)) + P (ix3 1 (i 0) (i 1)) + P (ix3 2 (i 0) (i 1)) + P (ix3 3 (i 0) (i 1))

def newM (P : ArrP) (M : Arr) : Arr := fun i => first (M i) (grad P i)
def newV (P : ArrP) (V : Arr) : Arr := fun i => second (V i) (grad P i)
def delta (P : ArrP) (W M V : Arr) : Arr := fun i => step (W i) (newM P M i) (newV P V i)

/-- The blocks of grid point `t`: rows `352 t …`. -/
theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

/-- One block's gradient. -/
def gradB (A : FVec Ideal S4x352x1024 .bf16) (y : (⟨2, ![352, 1024]⟩ : Shape).Idx) : EReal :=
  A (ix3 0 (y 0) (y 1)) + A (ix3 1 (y 0) (y 1)) + A (ix3 2 (y 0) (y 1)) + A (ix3 3 (y 0) (y 1))

theorem pay2 (A B C D : FVec Ideal S1x352x1024 .bf16) (y : S352x1024.Idx) :
    k0_pay2 (F := Ideal) A B C D y = A (ix3 0 (y 0) (y 1)) + B (ix3 0 (y 0) (y 1)) + C (ix3 0 (y 0) (y 1)) + D (ix3 0 (y 0) (y 1)) := by
  pointwise [k0_pay2]

theorem pay3 (A B C D : FVec Ideal S1x352x1024 .bf16) (M : FVec Ideal S352x1024 .f32) (y : S352x1024.Idx) :
    k0_pay3 (F := Ideal) A B C D M y = first (M y) (k0_pay2 (F := Ideal) A B C D y) := by
  unfold k0_pay3 first
  generalize k0_pay2 (F := Ideal) A B C D = G
  pointwise []

theorem pay4 (A B C D : FVec Ideal S1x352x1024 .bf16) (V : FVec Ideal S352x1024 .f32) (y : S352x1024.Idx) :
    k0_pay4 (F := Ideal) A B C D V y = second (V y) (k0_pay2 (F := Ideal) A B C D y) := by
  unfold k0_pay4 second
  generalize k0_pay2 (F := Ideal) A B C D = G
  pointwise []

theorem pay1 (M V W : FVec Ideal S352x1024 .f32) (y : S352x1024.Idx) :
    k0_pay1 (F := Ideal) M V W y = step (W y) (M y) (V y) := by
  unfold k0_pay1 step
  pointwise []

theorem part0 (A : FVec Ideal S4x352x1024 .bf16) (r : Fin 352) (e : Fin 1024) : View.ld (Val := Elt Ideal) (e' := .bf16) A r0_0 (ix3 0 r e) = A (ix3 0 r e) := by
  pointwise []
theorem part1 (A : FVec Ideal S4x352x1024 .bf16) (r : Fin 352) (e : Fin 1024) : View.ld (Val := Elt Ideal) (e' := .bf16) A r0_1 (ix3 0 r e) = A (ix3 1 r e) := by
  pointwise []
theorem part2 (A : FVec Ideal S4x352x1024 .bf16) (r : Fin 352) (e : Fin 1024) : View.ld (Val := Elt Ideal) (e' := .bf16) A r0_2 (ix3 0 r e) = A (ix3 2 r e) := by
  pointwise []
theorem part3 (A : FVec Ideal S4x352x1024 .bf16) (r : Fin 352) (e : Fin 1024) : View.ld (Val := Elt Ideal) (e' := .bf16) A r0_3 (ix3 0 r e) = A (ix3 3 r e) := by
  pointwise []

theorem sum_parts (A : FVec Ideal S4x352x1024 .bf16) (y : S352x1024.Idx) :
    k0_pay2 (F := Ideal) (View.ld A r0_0) (View.ld A r0_1) (View.ld A r0_2) (View.ld A r0_3) y = gradB A y := by
  rw [pay2]
  exact congrArg₂ (· + ·) (congrArg₂ (· + ·) (congrArg₂ (· + ·) (part0 A _ _) (part1 A _ _)) (part2 A _ _)) (part3 A _ _)

theorem whole (A : FVec Ideal S352x1024 .f32) : View.ld (Val := Elt Ideal) (e' := .f32) A r0_4 = A := by
  funext y
  pointwise []

theorem block4 (A : FVec Ideal S4x352x1024 .bf16) (W M V : FVec Ideal S352x1024 .f32) (y : S352x1024.Idx) :
    out0_4 (F := Ideal) A W M V y = gradB A y := by
  rw [← sum_parts]; frame_out

theorem block6 (A : FVec Ideal S4x352x1024 .bf16) (W M V : FVec Ideal S352x1024 .f32) (y : S352x1024.Idx) :
    out0_6 (F := Ideal) A W M V y = first (M y) (gradB A y) := by
  rw [← sum_parts, ← pay3]; frame_out

theorem block7 (A : FVec Ideal S4x352x1024 .bf16) (W M V : FVec Ideal S352x1024 .f32) (y : S352x1024.Idx) :
    out0_7 (F := Ideal) A W M V y = second (V y) (gradB A y) := by
  rw [← sum_parts, ← pay4]; frame_out; unfold k0_pay5; exact congrArg (fun X => k0_pay4 (F := Ideal) _ _ _ _ X y) (whole V)

theorem block5 (A : FVec Ideal S4x352x1024 .bf16) (W M V : FVec Ideal S352x1024 .f32) (y : S352x1024.Idx) :
    out0_5 (F := Ideal) A W M V y = step (W y) (first (M y) (gradB A y)) (second (V y) (gradB A y)) := by
  rw [← sum_parts, ← pay3, ← pay4, ← pay1]; frame_out; unfold k0_pay5; exact congrArg (fun X => k0_pay1 (F := Ideal) _ (k0_pay4 (F := Ideal) _ _ _ _ X) W y) (whole V)

theorem final_grad (c : Dev nD) : (dats m 0 c).arrAt 4 cfg0.N = grad (m ((c : Thread nD τ).loc main_arg0)) := by
  refine (dats m 0 c).arrAt_eq_of_covers 4 _ (by decide +kernel) fun t hf y => ?_
  blk_simp
  rw [after0_4]
  refine (block4 (iblk m c 0 t) (iblk m c 1 t) (iblk m c 2 t) (iblk m c 3 t) y).trans ?_
  unfold grad gradB
  blk_point [iblk, V, idx0 t, idx4 t]

theorem final_delta (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine (block5 (iblk m c 0 t) (iblk m c 1 t) (iblk m c 2 t) (iblk m c 3 t) y).trans ?_
  unfold delta newM newV grad gradB
  blk_point [iblk, V, idx0 t, idx1 t, idx2 t, idx3 t, idx5 t]

theorem final_newM (c : Dev nD) : (dats m 0 c).arrAt 6 cfg0.N = newM (m ((c : Thread nD τ).loc main_arg0)) (m ((c : Thread nD τ).loc main_arg2)) := by
  refine (dats m 0 c).arrAt_eq_of_covers 6 _ (by decide +kernel) fun t hf y => ?_
  blk_simp
  rw [after0_6]
  refine (block6 (iblk m c 0 t) (iblk m c 1 t) (iblk m c 2 t) (iblk m c 3 t) y).trans ?_
  unfold newM grad gradB
  blk_point [iblk, V, idx0 t, idx2 t, idx6 t]

theorem final_newV (c : Dev nD) : (dats m 0 c).arrAt 7 cfg0.N = newV (m ((c : Thread nD τ).loc main_arg0)) (m ((c : Thread nD τ).loc main_arg3)) := by
  refine (dats m 0 c).arrAt_eq_of_covers 7 _ (by decide +kernel) fun t hf y => ?_
  blk_simp
  rw [after0_7]
  refine (block7 (iblk m c 0 t) (iblk m c 1 t) (iblk m c 2 t) (iblk m c 3 t) y).trans ?_
  unfold newV grad gradB
  blk_point [iblk, V, idx0 t, idx3 t, idx7 t]

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = grad (m ((c : Thread nD τ).loc main_arg0))
      ∧ r.2.mem ((c : Thread nD τ).loc main_v0_1) = delta (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = newM (m ((c : Thread nD τ).loc main_arg0)) (m ((c : Thread nD τ).loc main_arg2))
      ∧ r.2.mem ((c : Thread nD τ).loc main_v0_3) = newV (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  simpa only [final_grad, final_delta, final_newM, final_newV] using Cert.AdamWIdeal.Value.run_blocks m ρ

end Cert.Proof.AdamWValue
-- ==== Proof.AdamWClaim.lean ====
/- The optimiser's step: the claims about the pair. -/
module

public import proofs.«01_k».proof.Defs
public import proofs.«01_k».proof.Proof.Gen.AdamW.Frame
public import proofs.«01_k».proof.Proof.AdamWValue

@[expose] public section

set_option maxRecDepth 16384

noncomputable section

namespace Cert.Proof.AdamWClaim

open  Idealize.ShloMosaic Idealize.ShloMosaic.TcCoe Idealize.SL.Sem

/-- The reference's frame. -/
theorem frame_ref : Cert.quiescent_AdamWRefIdeal := fun m ρ _ =>
  (θ_run Cert.AdamWRefIdeal.defs _ _).mono (fun r h => ⟨fun c => (h c).2.2.2.2, sem_eq_zero_of_no_sems (by decide) r.2⟩)
    (Cert.AdamWRefIdeal.Value.run (F := Ideal) m ρ)

section
open Cert.AdamWRefIdeal Cert.AdamWRefIdeal.Gen

theorem ref_grad (A0 : FVec Ideal S4x704x1024 .bf16) : Host.reduceAdd (extf .f32 A0 bitsLt_bf16_f32) (constant S_ .f32 0x00000000#32) reducesTo_S4x704x1024_S704x1024_d0 h_S_ = AdamWValue.grad A0 := by
  funext i
  have h : (Host.reduceAdd (extf .f32 A0 bitsLt_bf16_f32) (constant S_ .f32 0x00000000#32) reducesTo_S4x704x1024_S704x1024_d0 h_S_) i = ∑ k : Fin 4, A0 (ix3 k (i 0) (i 1)) := by
    pointwise []
  rw [h, Fin.sum_univ_four]
  rfl

theorem ref_m (A0 : FVec Ideal S4x704x1024 .bf16) (A2 : FVec Ideal S704x1024 .f32) : addf (mulf (broadcastInDim S704x1024 ![] bcast_S_S704x1024 (constant S_ .f32 0x3F666666#32)) A2) (mulf (broadcastInDim S704x1024 ![] bcast_S_S704x1024 (constant S_ .f32 0x3DCCCCCD#32)) (Host.reduceAdd (extf .f32 A0 bitsLt_bf16_f32) (constant S_ .f32 0x00000000#32) reducesTo_S4x704x1024_S704x1024_d0 h_S_)) = AdamWValue.newM A0 A2 := by
  rw [ref_grad]
  funext i
  unfold AdamWValue.newM AdamWValue.first
  generalize AdamWValue.grad A0 = G
  pointwise []

theorem ref_v (A0 : FVec Ideal S4x704x1024 .bf16) (A3 : FVec Ideal S704x1024 .f32) : addf (mulf (broadcastInDim S704x1024 ![] bcast_S_S704x1024 (constant S_ .f32 0x3F7FBE77#32)) A3) (mulf (broadcastInDim S704x1024 ![] bcast_S_S704x1024 (constant S_ .f32 0x3A83126F#32)) (mulf (Host.reduceAdd (extf .f32 A0 bitsLt_bf16_f32) (constant S_ .f32 0x00000000#32) reducesTo_S4x704x1024_S704x1024_d0 h_S_) (Host.reduceAdd (extf .f32 A0 bitsLt_bf16_f32) (constant S_ .f32 0x00000000#32) reducesTo_S4x704x1024_S704x1024_d0 h_S_))) = AdamWValue.newV A0 A3 := by
  rw [ref_grad]
  funext i
  unfold AdamWValue.newV AdamWValue.second
  generalize AdamWValue.grad A0 = G
  pointwise []

theorem ref_delta (A0 : FVec Ideal S4x704x1024 .bf16) (A1 A2 A3 : FVec Ideal S704x1024 .f32) :
    mulf (broadcastInDim S704x1024 ![] bcast_S_S704x1024 (constant S_ .f32 0xBA83126F#32)) (addf (Host.divf (Host.divf (addf (mulf (broadcastInDim S704x1024 ![] bcast_S_S704x1024 (constant S_ .f32 0x3F666666#32)) A2) (mulf (broadcastInDim S704x1024 ![] bcast_S_S704x1024 (constant S_ .f32 0x3DCCCCCD#32)) (Host.reduceAdd (extf .f32 A0 bitsLt_bf16_f32) (constant S_ .f32 0x00000000#32) reducesTo_S4x704x1024_S704x1024_d0 h_S_))) (broadcastInDim S704x1024 ![] bcast_S_S704x1024 (constant S_ .f32 0x3F26BD02#32))) (addf (Host.sqrt (Host.divf (addf (mulf (broadcastInDim S704x1024 ![] bcast_S_S704x1024 (constant S_ .f32 0x3F7FBE77#32)) A3) (mulf (broadcastInDim S704x1024 ![] bcast_S_S704x1024 (constant S_ .f32 0x3A83126F#32)) (mulf (Host.reduceAdd (extf .f32 A0 bitsLt_bf16_f32) (constant S_ .f32 0x00000000#32) reducesTo_S4x704x1024_S704x1024_d0 h_S_) (Host.reduceAdd (extf .f32 A0 bitsLt_bf16_f32) (constant S_ .f32 0x00000000#32) reducesTo_S4x704x1024_S704x1024_d0 h_S_)))) (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) A1)) = AdamWValue.delta A0 A1 A2 A3 := by
  rw [ref_m, ref_v]
  funext i
  unfold AdamWValue.delta AdamWValue.step
  generalize AdamWValue.newM A0 A2 = M
  generalize AdamWValue.newV A0 A3 = V
  pointwise []
end

theorem algebraic : Cert.algebraic_AdamWIdeal_AdamWRefIdeal := by
  intro m g m' g' _ hagree
  refine ⟨_, _, _, _, AdamWValue.run m g, θ_run_mono (Cert.AdamWRefIdeal.Value.run (F := Ideal) m' g') fun r h c => ?_⟩
  obtain ⟨h0, h1, h2, h3⟩ := hagree c
  obtain ⟨r0, r1, r2, r3, rest⟩ := h c
  refine ⟨r0.trans ?_, r1.trans ?_, r2.trans ?_, r3.trans ?_, rest⟩
  · rw [h0]; exact ref_grad _
  · rw [h0, h1, h2, h3]; exact ref_delta _ _ _ _
  · rw [h0, h2]; exact ref_m _ _
  · rw [h0, h3]; exact ref_v _ _

end Cert.Proof.AdamWClaim
-- ==== Proof.WGradValue.lean ====
/- The gradient of a weight: what the kernel's grid of four column blocks by four row blocks leaves in its result, read at an
   index. The sum over the rows is accumulated over the four row blocks. -/
module

public import proofs.«01_k».proof.Proof.Gen.WGradIdeal.Value
public import proofs.«01_k».proof.Proof.Gen.WGradRefIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.WGradValue

open Cert.WGradIdeal Cert.WGradIdeal.Gen Idealize.ShloMosaic Idealize.ShloMosaic.TcCoe Idealize.SL.Sem

variable (m : (ℓ : Loc nD τ sig) → Buf (Elt Ideal) ℓ)

/-- The contents of the activations, of the cotangent and of the gradient. -/
abbrev ArrX := (⟨2, ![4096, 5632]⟩ : Shape).Idx → EReal
abbrev ArrD := (⟨2, ![4096, 1024]⟩ : Shape).Idx → EReal
abbrev ArrW := (⟨2, ![5632, 1024]⟩ : Shape).Idx → EReal

/-- The gradient: the products summed over the rows. -/
def grad (A : ArrX) (D : ArrD) : ArrW := fun i => ∑ r : Fin 4096, A (ix2 r (i 0)) * D (ix2 r (i 1))

/-- The blocks of grid point `t`: columns `1408 (t / 4) …`, rows `1024 (t % 4) …`. -/
theorem idx0 : ∀ t : Fin cfg0.N, win0_0.index t = ![t.val % 4, t.val / 4] :=
  (by decide +kernel : ∀ t : Fin grid0.N, win0_0.index t = ![t.val % 4, t.val / 4])
theorem idx1 : ∀ t : Fin cfg0.N, win0_1.index t = ![t.val % 4, 0] :=
  (by decide +kernel : ∀ t : Fin grid0.N, win0_1.index t = ![t.val % 4, 0])
theorem idx2 : ∀ t : Fin cfg0.N, win0_2.index t = ![t.val / 4, 0] :=
  (by decide +kernel : ∀ t : Fin grid0.N, win0_2.index t = ![t.val / 4, 0])

/-- What one grid point adds. -/
def part (A : (⟨2, ![1024, 1408]⟩ : Shape).Idx → EReal) (D : (⟨2, ![1024, 1024]⟩ : Shape).Idx → EReal)
    (j : (⟨2, ![1408, 1024]⟩ : Shape).Idx) : EReal := ∑ x : Fin 1024, A (ix2 x (j 0)) * D (ix2 x (j 1))

theorem pay2 (acc : FVec Ideal S1408x1024 .f32) (A : FVec Ideal S1024x1408 .bf16) (D : FVec Ideal S1024x1024 .bf16) (j : S1408x1024.Idx) :
    k0_pay2 (F := Ideal) acc A D j = acc j + part A D j := by
  pointwise [k0_pay2, part]

theorem pay1 (j : S1408x1024.Idx) : k0_pay1 (F := Ideal) j = 0 := by pointwise [k0_pay1]

/-- The gradient after the run. -/
theorem final_grad (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t => part (iblk m c 0 t) (iblk m c 1 t))
    (fun t h j => by rw [outsAt0_A m c t h]; frame_out; rw [pay2, pay1])
    (fun t h j => by rw [outsAt0_B m c t h]; frame_out; rw [pay2])
    t ((flush0_2 t).mp hf) y, zero_add]
  unfold grad part
  refine Fin.sum_mul_add_congr fun s k hl => ?_
  blk_point [iblk, V, idx0 ⟨4 * (t.val / 4) + s.val, Pipeline.run_point_lt_of_flush t ((flush0_2 t).mp hf) s⟩, idx1 ⟨4 * (t.val / 4) + s.val, Pipeline.run_point_lt_of_flush t ((flush0_2 t).mp hf) s⟩, idx2 t]

/-- The run: what the results hold, and that the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  simpa only [final_grad] using Cert.WGradIdeal.Value.run_blocks m ρ

end Cert.Proof.WGradValue
-- ==== Proof.WGradClaim.lean ====
/- The gradient of a weight: the claims about the pair. -/
module

public import proofs.«01_k».proof.Defs
public import proofs.«01_k».proof.Proof.Gen.WGrad.Frame
public import proofs.«01_k».proof.Proof.WGradValue

@[expose] public section

set_option maxRecDepth 16384

noncomputable section

namespace Cert.Proof.WGradClaim

open  Idealize.ShloMosaic Idealize.ShloMosaic.TcCoe Idealize.SL.Sem

/-- The reference's frame. -/
theorem frame_ref : Cert.quiescent_WGradRefIdeal := fun m ρ _ =>
  (θ_run Cert.WGradRefIdeal.defs _ _).mono (fun r h => ⟨fun c => (h c).2, sem_eq_zero_of_no_sems (by decide) r.2⟩)
    (Cert.WGradRefIdeal.Value.run (F := Ideal) m ρ)

section
open Cert.WGradRefIdeal Cert.WGradRefIdeal.Gen

theorem ref_grad (A : FVec Ideal S4096x5632 .bf16) (D : FVec Ideal S4096x1024 .bf16) :
    Host.dotGeneral dot_S4096x5632_S4096x1024_S5632x1024_0_0_1_1_n_n none (extf .f32 A bitsLt_bf16_f32) (extf .f32 D bitsLt_bf16_f32)
      = WGradValue.grad A D := by
  funext i
  pointwise [WGradValue.grad]
end

theorem algebraic : Cert.algebraic_WGradIdeal_WGradRefIdeal := by
  intro m g m' g' _ hagree
  refine ⟨_, WGradValue.run m g, θ_run_mono (Cert.WGradRefIdeal.Value.run (F := Ideal) m' g') fun r h c => ?_⟩
  obtain ⟨h0, h1⟩ := hagree c
  obtain ⟨r0, rest⟩ := h c
  refine ⟨r0.trans ?_, rest⟩
  rw [h0, h1]; exact ref_grad _ _

end Cert.Proof.WGradClaim
-- ==== Proof.lean ====
/- The claims of this certificate, put together: per call its frames, the preservation of its idealization, and the equality
   with the derivative of the forward lines (the modules imported here, one or more per call). -/
module

public import proofs.«01_k».proof.Defs
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Reals
public import proofs.«01_k».proof.Proof.LossValue
public import proofs.«01_k».proof.Proof.LossClaim
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.GateValue
public import proofs.«01_k».proof.Proof.GateClaim
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.MixValue
public import proofs.«01_k».proof.Proof.MixClaim
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.AdaValue
public import proofs.«01_k».proof.Proof.AdaClaim
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Finite
public import proofs.«01_k».proof.Proof.NormMath
public import proofs.«01_k».proof.Proof.NormValue
public import proofs.«01_k».proof.Proof.NormClaim
public import proofs.«01_k».proof.Proof.Gen.NormConv.Frame
public import proofs.«01_k».proof.Proof.Gen.NormConvIdeal.Frame
public import proofs.«01_k».proof.Proof.Gen.NormConvIdeal.Value
public import proofs.«01_k».proof.Proof.Gen.NormConvRefIdeal.Run
public import proofs.«01_k».proof.Proof.NormConvPay
public import proofs.«01_k».proof.Proof.NormConvValue
public import proofs.«01_k».proof.Proof.NormConvClaim
public import proofs.«01_k».proof.Proof.Gen.Mla.Frame
public import proofs.«01_k».proof.Proof.Gen.MlaIdeal.Frame
public import proofs.«01_k».proof.Proof.Gen.MlaIdeal.Value
public import proofs.«01_k».proof.Proof.Gen.MlaRefIdeal.Run
public import proofs.«01_k».proof.Proof.Tiles
public import proofs.«01_k».proof.Proof.MlaTile
public import proofs.«01_k».proof.Proof.MlaGrid
public import proofs.«01_k».proof.Proof.MlaRows
public import proofs.«01_k».proof.Proof.MlaBlock
public import proofs.«01_k».proof.Proof.MlaValue
public import proofs.«01_k».proof.Proof.MlaHost
public import proofs.«01_k».proof.Proof.MlaMath
public import proofs.«01_k».proof.Proof.MlaSums
public import proofs.«01_k».proof.Proof.MlaRef
public import proofs.«01_k».proof.Proof.MlaClaim
public import proofs.«01_k».proof.Proof.Gen.MlaFwd.Frame
public import proofs.«01_k».proof.Proof.Gen.MlaFwdIdeal.Frame
public import proofs.«01_k».proof.Proof.Gen.MlaFwdIdeal.Value
public import proofs.«01_k».proof.Proof.Gen.MlaFwdRefIdeal.Run
public import proofs.«01_k».proof.Proof.MlaFwdTile
public import proofs.«01_k».proof.Proof.MlaFwdGrid
public import proofs.«01_k».proof.Proof.MlaFwdRows
public import proofs.«01_k».proof.Proof.MlaFwdBlock
public import proofs.«01_k».proof.Proof.MlaFwdValue
public import proofs.«01_k».proof.Proof.MlaFwdMath
public import proofs.«01_k».proof.Proof.MlaFwdClaim
public import proofs.«01_k».proof.Proof.Gen.Rel.Frame
public import proofs.«01_k».proof.Proof.Gen.RelIdeal.Frame
public import proofs.«01_k».proof.Proof.Gen.RelIdeal.Value
public import proofs.«01_k».proof.Proof.Gen.RelRefIdeal.Run
public import proofs.«01_k».proof.Proof.RelTable
public import proofs.«01_k».proof.Proof.RelValue
public import proofs.«01_k».proof.Proof.RelClaim
public import proofs.«01_k».proof.Proof.Gen.RelFwd.Frame
public import proofs.«01_k».proof.Proof.Gen.RelFwdIdeal.Frame
public import proofs.«01_k».proof.Proof.Gen.RelFwdIdeal.Value
public import proofs.«01_k».proof.Proof.Gen.RelFwdRefIdeal.Run
public import proofs.«01_k».proof.Proof.RelFwdTable
public import proofs.«01_k».proof.Proof.RelFwdValue
public import proofs.«01_k».proof.Proof.RelFwdClaim
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.ConvLists
public import proofs.«01_k».proof.Proof.ConvPay
public import proofs.«01_k».proof.Proof.ConvStores
public import proofs.«01_k».proof.Proof.ConvOuts
public import proofs.«01_k».proof.Proof.ConvValue
public import proofs.«01_k».proof.Proof.ConvClaim
public import proofs.«01_k».proof.Proof.Gen.AdaFwd.Frame
public import proofs.«01_k».proof.Proof.Gen.AdaFwdIdeal.Frame
public import proofs.«01_k».proof.Proof.Gen.AdaFwdIdeal.Value
public import proofs.«01_k».proof.Proof.Gen.AdaFwdRefIdeal.Run
public import proofs.«01_k».proof.Proof.AdaFwdValue
public import proofs.«01_k».proof.Proof.AdaFwdClaim
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.OutProjValue
public import proofs.«01_k».proof.Proof.OutProjClaim
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.ConvFwdValue
public import proofs.«01_k».proof.Proof.ConvFwdClaim
public import proofs.«01_k».proof.Proof.Gen.PrepFwd.Frame
public import proofs.«01_k».proof.Proof.Gen.PrepFwdIdeal.Frame
public import proofs.«01_k».proof.Proof.Gen.PrepFwdIdeal.Value
public import proofs.«01_k».proof.Proof.Gen.PrepFwdRefIdeal.Run
public import proofs.«01_k».proof.Proof.PrepFwdBlock
public import proofs.«01_k».proof.Proof.PrepFwdValue
public import proofs.«01_k».proof.Proof.PrepFwdRef
public import proofs.«01_k».proof.Proof.PrepFwdMath
public import proofs.«01_k».proof.Proof.PrepFwdClaim
public import proofs.«01_k».proof.Proof.Gen.AdamW.Frame
public import proofs.«01_k».proof.Proof.Gen.AdamWIdeal.Frame
public import proofs.«01_k».proof.Proof.Gen.AdamWIdeal.Value
public import proofs.«01_k».proof.Proof.Gen.AdamWRefIdeal.Run
public import proofs.«01_k».proof.Proof.AdamWValue
public import proofs.«01_k».proof.Proof.AdamWClaim
public import proofs.«01_k».proof.Proof.Gen.WGrad.Frame
public import proofs.«01_k».proof.Proof.Gen.WGradIdeal.Frame
public import proofs.«01_k».proof.Proof.Gen.WGradIdeal.Value
public import proofs.«01_k».proof.Proof.Gen.WGradRefIdeal.Run
public import proofs.«01_k».proof.Proof.WGradValue
public import proofs.«01_k».proof.Proof.WGradClaim
public import Idealize.ShloMosaic.Adequacy
public import Idealize.ShloMosaic.Init

@[expose] public section

noncomputable section

namespace Cert.Proof

open Idealize.ShloMosaic Idealize.SL.Sem

theorem claim : Cert.Claim :=
  ⟨Cert.Loss.Gen.facts,
   Cert.LossIdeal.Gen.facts,
   Cert.LossRefIdeal.Gen.facts,
   Cert.Gate.Gen.facts,
   Cert.GateIdeal.Gen.facts,
   Cert.GateRefIdeal.Gen.facts,
   Cert.Mix.Gen.facts,
   Cert.MixIdeal.Gen.facts,
   Cert.MixRefIdeal.Gen.facts,
   Cert.Ada.Gen.facts,
   Cert.AdaIdeal.Gen.facts,
   Cert.AdaRefIdeal.Gen.facts,
   Cert.Norm.Gen.facts,
   Cert.NormIdeal.Gen.facts,
   Cert.NormRefIdeal.Gen.facts,
   Cert.NormConv.Gen.facts,
   Cert.NormConvIdeal.Gen.facts,
   Cert.NormConvRefIdeal.Gen.facts,
   Cert.Mla.Gen.facts,
   Cert.MlaIdeal.Gen.facts,
   Cert.MlaRefIdeal.Gen.facts,
   Cert.MlaFwd.Gen.facts,
   Cert.MlaFwdIdeal.Gen.facts,
   Cert.MlaFwdRefIdeal.Gen.facts,
   Cert.Rel.Gen.facts,
   Cert.RelIdeal.Gen.facts,
   Cert.RelRefIdeal.Gen.facts,
   Cert.RelFwd.Gen.facts,
   Cert.RelFwdIdeal.Gen.facts,
   Cert.RelFwdRefIdeal.Gen.facts,
   Cert.Conv.Gen.facts,
   Cert.ConvIdeal.Gen.facts,
   Cert.ConvRefIdeal.Gen.facts,
   Cert.AdaFwd.Gen.facts,
   Cert.AdaFwdIdeal.Gen.facts,
   Cert.AdaFwdRefIdeal.Gen.facts,
   Cert.OutProj.Gen.facts,
   Cert.OutProjIdeal.Gen.facts,
   Cert.OutProjRefIdeal.Gen.facts,
   Cert.ConvFwd.Gen.facts,
   Cert.ConvFwdIdeal.Gen.facts,
   Cert.ConvFwdRefIdeal.Gen.facts,
   Cert.PrepFwd.Gen.facts,
   Cert.PrepFwdIdeal.Gen.facts,
   Cert.PrepFwdRefIdeal.Gen.facts,
   Cert.AdamW.Gen.facts,
   Cert.AdamWIdeal.Gen.facts,
   Cert.AdamWRefIdeal.Gen.facts,
   Cert.WGrad.Gen.facts,
   Cert.WGradIdeal.Gen.facts,
   Cert.WGradRefIdeal.Gen.facts,
   Cert.Pre_norm_finite.Gen.facts,
   Cert.Pre_norm_conv_finite.Gen.facts,
   Cert.Pre_mla_finite.Gen.facts,
   Cert.Pre_mla_fwd_finite.Gen.facts,
   Cert.Pre_conv_finite.Gen.facts,
   fun m ρ _ => Cert.Loss.Gen.frame m ρ,
   fun m ρ _ => Cert.LossIdeal.Gen.frame m ρ,
   LossClaim.frame_ref,
   fun m ρ _ => Cert.Gate.Gen.frame m ρ,
   fun m ρ _ => Cert.GateIdeal.Gen.frame m ρ,
   GateClaim.frame_ref,
   fun m ρ _ => Cert.Mix.Gen.frame m ρ,
   fun m ρ _ => Cert.MixIdeal.Gen.frame m ρ,
   MixClaim.frame_ref,
   fun m ρ _ => Cert.Ada.Gen.frame m ρ,
   fun m ρ _ => Cert.AdaIdeal.Gen.frame m ρ,
   AdaClaim.frame_ref,
   fun m ρ _ => Cert.Norm.Gen.frame m ρ,
   fun m ρ _ => Cert.NormIdeal.Gen.frame m ρ,
   fun m ρ _ => Cert.NormIdeal.Gen.frame m ρ,
   NormClaim.frame_ref,
   fun m ρ _ => NormClaim.frame_ref m ρ trivial,
   fun m ρ _ => Cert.NormConv.Gen.frame m ρ,
   fun m ρ _ => Cert.NormConvIdeal.Gen.frame m ρ,
   fun m ρ _ => Cert.NormConvIdeal.Gen.frame m ρ,
   NormConvClaim.frame_ref,
   fun m ρ _ => NormConvClaim.frame_ref m ρ trivial,
   fun m ρ _ => Cert.Mla.Gen.frame m ρ,
   fun m ρ _ => Cert.MlaIdeal.Gen.frame m ρ,
   fun m ρ _ => Cert.MlaIdeal.Gen.frame m ρ,
   MlaClaim.frame_ref,
   fun m ρ _ => MlaClaim.frame_ref m ρ trivial,
   fun m ρ _ => Cert.MlaFwd.Gen.frame m ρ,
   fun m ρ _ => Cert.MlaFwdIdeal.Gen.frame m ρ,
   fun m ρ _ => Cert.MlaFwdIdeal.Gen.frame m ρ,
   MlaFwdClaim.frame_ref,
   fun m ρ _ => MlaFwdClaim.frame_ref m ρ trivial,
   fun m ρ _ => Cert.Rel.Gen.frame m ρ,
   fun m ρ _ => Cert.RelIdeal.Gen.frame m ρ,
   RelClaim.frame_ref,
   fun m ρ _ => Cert.RelFwd.Gen.frame m ρ,
   fun m ρ _ => Cert.RelFwdIdeal.Gen.frame m ρ,
   RelFwdClaim.frame_ref,
   fun m ρ _ => Cert.Conv.Gen.frame m ρ,
   fun m ρ _ => Cert.ConvIdeal.Gen.frame m ρ,
   fun m ρ _ => Cert.ConvIdeal.Gen.frame m ρ,
   ConvClaim.frame_ref,
   fun m ρ _ => ConvClaim.frame_ref m ρ trivial,
   fun m ρ _ => Cert.AdaFwd.Gen.frame m ρ,
   fun m ρ _ => Cert.AdaFwdIdeal.Gen.frame m ρ,
   AdaFwdClaim.frame_ref,
   fun m ρ _ => Cert.OutProj.Gen.frame m ρ,
   fun m ρ _ => Cert.OutProjIdeal.Gen.frame m ρ,
   OutProjClaim.frame_ref,
   fun m ρ _ => Cert.ConvFwd.Gen.frame m ρ,
   fun m ρ _ => Cert.ConvFwdIdeal.Gen.frame m ρ,
   ConvFwdClaim.frame_ref,
   fun m ρ _ => Cert.PrepFwd.Gen.frame m ρ,
   fun m ρ _ => Cert.PrepFwdIdeal.Gen.frame m ρ,
   PrepFwdClaim.frame_ref,
   fun m ρ _ => Cert.AdamW.Gen.frame m ρ,
   fun m ρ _ => Cert.AdamWIdeal.Gen.frame m ρ,
   AdamWClaim.frame_ref,
   fun m ρ _ => Cert.WGrad.Gen.frame m ρ,
   fun m ρ _ => Cert.WGradIdeal.Gen.frame m ρ,
   WGradClaim.frame_ref,
   trivial,
   LossClaim.algebraic,
   trivial,
   GateClaim.algebraic,
   trivial,
   MixClaim.algebraic,
   trivial,
   AdaClaim.algebraic,
   trivial,
   NormClaim.algebraic,
   trivial,
   NormConvClaim.algebraic,
   MlaClaim.preserves,
   MlaClaim.algebraic,
   MlaFwdClaim.preserves,
   MlaFwdClaim.algebraic,
   trivial,
   RelClaim.algebraic,
   trivial,
   RelFwdClaim.algebraic,
   trivial,
   ConvClaim.algebraic,
   trivial,
   AdaFwdClaim.algebraic,
   trivial,
   OutProjClaim.algebraic,
   trivial,
   ConvFwdClaim.algebraic,
   trivial,
   PrepFwdClaim.algebraic,
   trivial,
   AdamWClaim.algebraic,
   trivial,
   WGradClaim.algebraic⟩

end Cert.Proof

end
